-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attn [hPre_finite_attn : Cert.Pre_finite_attn.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostKernelIdeal_finite_post [hPre_finite_post : Cert.Pre_finite_post.Facts] (m : (ℓ : Loc Cert.PostKernelIdeal.nD Cert.PostKernelIdeal.τ Cert.PostKernelIdeal.sig) → Buf (Elt Ideal) ℓ) : Prop :=
  ∀ c : Dev Cert.PostKernelIdeal.nD,
    (Cert.Pre_finite_post.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4))) = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_finite_post [hPre_finite_post : Cert.Pre_finite_post.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_finite_post.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4))) = (fun _ => 1#1)

def Pre_BoundsKernel (m : (ℓ : Loc Cert.BoundsKernel.nD Cert.BoundsKernel.τ Cert.BoundsKernel.sig) → Buf (Elt Bits) ℓ) : Prop :=
  True

def Pre_BoundsKernelIdeal (m : (ℓ : Loc Cert.BoundsKernelIdeal.nD Cert.BoundsKernelIdeal.τ Cert.BoundsKernelIdeal.sig) → Buf (Elt Ideal) ℓ) : Prop :=
  True

def Pre_BoundsKernelIdeal_finite_bounds [hPre_finite_bounds : Cert.Pre_finite_bounds.Facts] (m : (ℓ : Loc Cert.BoundsKernelIdeal.nD Cert.BoundsKernelIdeal.τ Cert.BoundsKernelIdeal.sig) → Buf (Elt Ideal) ℓ) : Prop :=
  ∀ c : Dev Cert.BoundsKernelIdeal.nD,
    (Cert.Pre_finite_bounds.fn (F := Ideal) (m ((c.tc : Thread Cert.BoundsKernelIdeal.nD Cert.BoundsKernelIdeal.τ).loc Cert.BoundsKernelIdeal.main_arg0)) (m ((c.tc : Thread Cert.BoundsKernelIdeal.nD Cert.BoundsKernelIdeal.τ).loc Cert.BoundsKernelIdeal.main_arg1))) = (fun _ => 1#1)

def Pre_BoundsReferenceIdeal (m : (ℓ : Loc Cert.BoundsReferenceIdeal.nD Cert.BoundsReferenceIdeal.τ Cert.BoundsReferenceIdeal.sig) → Buf (Elt Ideal) ℓ) : Prop :=
  True

def Pre_BoundsReferenceIdeal_finite_bounds [hPre_finite_bounds : Cert.Pre_finite_bounds.Facts] (m : (ℓ : Loc Cert.BoundsReferenceIdeal.nD Cert.BoundsReferenceIdeal.τ Cert.BoundsReferenceIdeal.sig) → Buf (Elt Ideal) ℓ) : Prop :=
  ∀ c : Dev Cert.BoundsReferenceIdeal.nD,
    (Cert.Pre_finite_bounds.fn (F := Ideal) (m ((c.tc : Thread Cert.BoundsReferenceIdeal.nD Cert.BoundsReferenceIdeal.τ).loc Cert.BoundsReferenceIdeal.main_arg0)) (m ((c.tc : Thread Cert.BoundsReferenceIdeal.nD Cert.BoundsReferenceIdeal.τ).loc Cert.BoundsReferenceIdeal.main_arg1))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))) = (fun _ => 1#1)

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleKernelIdeal_finite_ple [hPre_finite_ple : Cert.Pre_finite_ple.Facts] (m : (ℓ : Loc Cert.PleKernelIdeal.nD Cert.PleKernelIdeal.τ Cert.PleKernelIdeal.sig) → Buf (Elt Ideal) ℓ) : Prop :=
  ∀ c : Dev Cert.PleKernelIdeal.nD,
    (Cert.Pre_finite_ple.fn (F := Ideal) (m ((c.tc : Thread Cert.PleKernelIdeal.nD Cert.PleKernelIdeal.τ).loc Cert.PleKernelIdeal.main_arg0)) (m ((c.tc : Thread Cert.PleKernelIdeal.nD Cert.PleKernelIdeal.τ).loc Cert.PleKernelIdeal.main_arg1)) (m ((c.tc : Thread Cert.PleKernelIdeal.nD Cert.PleKernelIdeal.τ).loc Cert.PleKernelIdeal.main_arg2)) (m ((c.tc : Thread Cert.PleKernelIdeal.nD Cert.PleKernelIdeal.τ).loc Cert.PleKernelIdeal.main_arg3)) (m ((c.tc : Thread Cert.PleKernelIdeal.nD Cert.PleKernelIdeal.τ).loc Cert.PleKernelIdeal.main_arg4)) (m ((c.tc : Thread Cert.PleKernelIdeal.nD Cert.PleKernelIdeal.τ).loc Cert.PleKernelIdeal.main_arg5)) (m ((c.tc : Thread Cert.PleKernelIdeal.nD Cert.PleKernelIdeal.τ).loc Cert.PleKernelIdeal.main_arg6))) = (fun _ => 1#1)

def Pre_PleReferenceIdeal (m : (ℓ : Loc Cert.PleReferenceIdeal.nD Cert.PleReferenceIdeal.τ Cert.PleReferenceIdeal.sig) → Buf (Elt Ideal) ℓ) : Prop :=
  True

def Pre_PleReferenceIdeal_finite_ple [hPre_finite_ple : Cert.Pre_finite_ple.Facts] (m : (ℓ : Loc Cert.PleReferenceIdeal.nD Cert.PleReferenceIdeal.τ Cert.PleReferenceIdeal.sig) → Buf (Elt Ideal) ℓ) : Prop :=
  ∀ c : Dev Cert.PleReferenceIdeal.nD,
    (Cert.Pre_finite_ple.fn (F := Ideal) (m ((c.tc : Thread Cert.PleReferenceIdeal.nD Cert.PleReferenceIdeal.τ).loc Cert.PleReferenceIdeal.main_arg0)) (m ((c.tc : Thread Cert.PleReferenceIdeal.nD Cert.PleReferenceIdeal.τ).loc Cert.PleReferenceIdeal.main_arg1)) (m ((c.tc : Thread Cert.PleReferenceIdeal.nD Cert.PleReferenceIdeal.τ).loc Cert.PleReferenceIdeal.main_arg2)) (m ((c.tc : Thread Cert.PleReferenceIdeal.nD Cert.PleReferenceIdeal.τ).loc Cert.PleReferenceIdeal.main_arg3)) (m ((c.tc : Thread Cert.PleReferenceIdeal.nD Cert.PleReferenceIdeal.τ).loc Cert.PleReferenceIdeal.main_arg4)) (m ((c.tc : Thread Cert.PleReferenceIdeal.nD Cert.PleReferenceIdeal.τ).loc Cert.PleReferenceIdeal.main_arg5)) (m ((c.tc : Thread Cert.PleReferenceIdeal.nD Cert.PleReferenceIdeal.τ).loc Cert.PleReferenceIdeal.main_arg6))) = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_finite_norm [hPre_finite_norm : Cert.Pre_finite_norm.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_finite_norm.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_finite_norm [hPre_finite_norm : Cert.Pre_finite_norm.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_finite_norm.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))) = (fun _ => 1#1)

def Pre_SwigluKernel (m : (ℓ : Loc Cert.SwigluKernel.nD Cert.SwigluKernel.τ Cert.SwigluKernel.sig) → Buf (Elt Bits) ℓ) : Prop :=
  True

def Pre_SwigluKernelIdeal (m : (ℓ : Loc Cert.SwigluKernelIdeal.nD Cert.SwigluKernelIdeal.τ Cert.SwigluKernelIdeal.sig) → Buf (Elt Ideal) ℓ) : Prop :=
  True

def Pre_SwigluKernelIdeal_finite_swiglu [hPre_finite_swiglu : Cert.Pre_finite_swiglu.Facts] (m : (ℓ : Loc Cert.SwigluKernelIdeal.nD Cert.SwigluKernelIdeal.τ Cert.SwigluKernelIdeal.sig) → Buf (Elt Ideal) ℓ) : Prop :=
  ∀ c : Dev Cert.SwigluKernelIdeal.nD,
    (Cert.Pre_finite_swiglu.fn (F := Ideal) (m ((c.tc : Thread Cert.SwigluKernelIdeal.nD Cert.SwigluKernelIdeal.τ).loc Cert.SwigluKernelIdeal.main_arg0)) (m ((c.tc : Thread Cert.SwigluKernelIdeal.nD Cert.SwigluKernelIdeal.τ).loc Cert.SwigluKernelIdeal.main_arg1))) = (fun _ => 1#1)

def Pre_SwigluReferenceIdeal (m : (ℓ : Loc Cert.SwigluReferenceIdeal.nD Cert.SwigluReferenceIdeal.τ Cert.SwigluReferenceIdeal.sig) → Buf (Elt Ideal) ℓ) : Prop :=
  True

def Pre_SwigluReferenceIdeal_finite_swiglu [hPre_finite_swiglu : Cert.Pre_finite_swiglu.Facts] (m : (ℓ : Loc Cert.SwigluReferenceIdeal.nD Cert.SwigluReferenceIdeal.τ Cert.SwigluReferenceIdeal.sig) → Buf (Elt Ideal) ℓ) : Prop :=
  ∀ c : Dev Cert.SwigluReferenceIdeal.nD,
    (Cert.Pre_finite_swiglu.fn (F := Ideal) (m ((c.tc : Thread Cert.SwigluReferenceIdeal.nD Cert.SwigluReferenceIdeal.τ).loc Cert.SwigluReferenceIdeal.main_arg0)) (m ((c.tc : Thread Cert.SwigluReferenceIdeal.nD Cert.SwigluReferenceIdeal.τ).loc Cert.SwigluReferenceIdeal.main_arg1))) = (fun _ => 1#1)

def Pre_ResnormKernel (m : (ℓ : Loc Cert.ResnormKernel.nD Cert.ResnormKernel.τ Cert.ResnormKernel.sig) → Buf (Elt Bits) ℓ) : Prop :=
  True

def Pre_ResnormKernelIdeal (m : (ℓ : Loc Cert.ResnormKernelIdeal.nD Cert.ResnormKernelIdeal.τ Cert.ResnormKernelIdeal.sig) → Buf (Elt Ideal) ℓ) : Prop :=
  True

def Pre_ResnormReferenceIdeal (m : (ℓ : Loc Cert.ResnormReferenceIdeal.nD Cert.ResnormReferenceIdeal.τ Cert.ResnormReferenceIdeal.sig) → Buf (Elt Ideal) ℓ) : Prop :=
  True

def Pre_EmbedKernel (m : (ℓ : Loc Cert.EmbedKernel.nD Cert.EmbedKernel.τ Cert.EmbedKernel.sig) → Buf (Elt Bits) ℓ) : Prop :=
  True

def Pre_EmbedKernelIdeal (m : (ℓ : Loc Cert.EmbedKernelIdeal.nD Cert.EmbedKernelIdeal.τ Cert.EmbedKernelIdeal.sig) → Buf (Elt Ideal) ℓ) : Prop :=
  True

def Pre_EmbedReferenceIdeal (m : (ℓ : Loc Cert.EmbedReferenceIdeal.nD Cert.EmbedReferenceIdeal.τ Cert.EmbedReferenceIdeal.sig) → Buf (Elt Ideal) ℓ) : Prop :=
  True

def Pre_GatedKernel (m : (ℓ : Loc Cert.GatedKernel.nD Cert.GatedKernel.τ Cert.GatedKernel.sig) → Buf (Elt Bits) ℓ) : Prop :=
  True

def Pre_GatedKernelIdeal (m : (ℓ : Loc Cert.GatedKernelIdeal.nD Cert.GatedKernelIdeal.τ Cert.GatedKernelIdeal.sig) → Buf (Elt Ideal) ℓ) : Prop :=
  True

def Pre_GatedReferenceIdeal (m : (ℓ : Loc Cert.GatedReferenceIdeal.nD Cert.GatedReferenceIdeal.τ Cert.GatedReferenceIdeal.sig) → Buf (Elt Ideal) ℓ) : Prop :=
  True

def Pre_LowerKernel (m : (ℓ : Loc Cert.LowerKernel.nD Cert.LowerKernel.τ Cert.LowerKernel.sig) → Buf (Elt Bits) ℓ) : Prop :=
  True

def Pre_LowerKernelIdeal (m : (ℓ : Loc Cert.LowerKernelIdeal.nD Cert.LowerKernelIdeal.τ Cert.LowerKernelIdeal.sig) → Buf (Elt Ideal) ℓ) : Prop :=
  True

def Pre_LowerKernelIdeal_finite_lower [hPre_finite_lower : Cert.Pre_finite_lower.Facts] (m : (ℓ : Loc Cert.LowerKernelIdeal.nD Cert.LowerKernelIdeal.τ Cert.LowerKernelIdeal.sig) → Buf (Elt Ideal) ℓ) : Prop :=
  ∀ c : Dev Cert.LowerKernelIdeal.nD,
    (Cert.Pre_finite_lower.fn (F := Ideal) (m ((c.tc : Thread Cert.LowerKernelIdeal.nD Cert.LowerKernelIdeal.τ).loc Cert.LowerKernelIdeal.main_arg0))) = (fun _ => 1#1)

def Pre_LowerReferenceIdeal (m : (ℓ : Loc Cert.LowerReferenceIdeal.nD Cert.LowerReferenceIdeal.τ Cert.LowerReferenceIdeal.sig) → Buf (Elt Ideal) ℓ) : Prop :=
  True

def Pre_LowerReferenceIdeal_finite_lower [hPre_finite_lower : Cert.Pre_finite_lower.Facts] (m : (ℓ : Loc Cert.LowerReferenceIdeal.nD Cert.LowerReferenceIdeal.τ Cert.LowerReferenceIdeal.sig) → Buf (Elt Ideal) ℓ) : Prop :=
  ∀ c : Dev Cert.LowerReferenceIdeal.nD,
    (Cert.Pre_finite_lower.fn (F := Ideal) (m ((c.tc : Thread Cert.LowerReferenceIdeal.nD Cert.LowerReferenceIdeal.τ).loc Cert.LowerReferenceIdeal.main_arg0))) = (fun _ => 1#1)

def Pre_ProdKernel (m : (ℓ : Loc Cert.ProdKernel.nD Cert.ProdKernel.τ Cert.ProdKernel.sig) → Buf (Elt Bits) ℓ) : Prop :=
  True

def Pre_ProdKernelIdeal (m : (ℓ : Loc Cert.ProdKernelIdeal.nD Cert.ProdKernelIdeal.τ Cert.ProdKernelIdeal.sig) → Buf (Elt Ideal) ℓ) : Prop :=
  True

def Pre_ProdReferenceIdeal (m : (ℓ : Loc Cert.ProdReferenceIdeal.nD Cert.ProdReferenceIdeal.τ Cert.ProdReferenceIdeal.sig) → Buf (Elt Ideal) ℓ) : Prop :=
  True

def Pre_WgradKernel (m : (ℓ : Loc Cert.WgradKernel.nD Cert.WgradKernel.τ Cert.WgradKernel.sig) → Buf (Elt Bits) ℓ) : Prop :=
  True

def Pre_WgradKernelIdeal (m : (ℓ : Loc Cert.WgradKernelIdeal.nD Cert.WgradKernelIdeal.τ Cert.WgradKernelIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def Pre_BackKernel (m : (ℓ : Loc Cert.BackKernel.nD Cert.BackKernel.τ Cert.BackKernel.sig) → Buf (Elt Bits) ℓ) : Prop :=
  True

def Pre_BackKernelIdeal (m : (ℓ : Loc Cert.BackKernelIdeal.nD Cert.BackKernelIdeal.τ Cert.BackKernelIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_AdamwKernel (m : (ℓ : Loc Cert.AdamwKernel.nD Cert.AdamwKernel.τ Cert.AdamwKernel.sig) → Buf (Elt Bits) ℓ) : Prop :=
  True

def Pre_AdamwKernelIdeal (m : (ℓ : Loc Cert.AdamwKernelIdeal.nD Cert.AdamwKernelIdeal.τ Cert.AdamwKernelIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_finite_attn [hAttnKernelIdeal : Cert.AttnKernelIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attn m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4))
      ∧ r.2.sem = fun _ => 0)

def quiescent_PostKernelIdeal_pre_finite_post [hPostKernelIdeal : Cert.PostKernelIdeal.Facts] [hPre_finite_post : Cert.Pre_finite_post.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal_finite_post m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4))
      ∧ r.2.sem = fun _ => 0)

def quiescent_PostReferenceIdeal_pre_finite_post [hPostReferenceIdeal : Cert.PostReferenceIdeal.Facts] [hPre_finite_post : Cert.Pre_finite_post.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_finite_post m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4))
      ∧ r.2.sem = fun _ => 0)

def quiescent_BoundsKernel [hBoundsKernel : Cert.BoundsKernel.Facts] : Prop :=
  ∀ (m : (ℓ : Loc Cert.BoundsKernel.nD Cert.BoundsKernel.τ Cert.BoundsKernel.sig) → Buf (Elt Bits) ℓ) (g : Dev Cert.BoundsKernel.nD → PrngReg), Pre_BoundsKernel m →
    θ_run (Cert.BoundsKernel.defs (F := Bits)) (onTc (τ := Cert.BoundsKernel.τ) (Cert.BoundsKernel.main (F := Bits))) ⟨m, fun _ => 0, g⟩ (fun r => (∀ c : Dev Cert.BoundsKernel.nD,
      r.2.mem ((c.tc : Thread Cert.BoundsKernel.nD Cert.BoundsKernel.τ).loc Cert.BoundsKernel.main_arg0) = m ((c.tc : Thread Cert.BoundsKernel.nD Cert.BoundsKernel.τ).loc Cert.BoundsKernel.main_arg0)
      ∧ r.2.mem ((c.tc : Thread Cert.BoundsKernel.nD Cert.BoundsKernel.τ).loc Cert.BoundsKernel.main_arg1) = m ((c.tc : Thread Cert.BoundsKernel.nD Cert.BoundsKernel.τ).loc Cert.BoundsKernel.main_arg1))
      ∧ r.2.sem = fun _ => 0)

def quiescent_BoundsKernelIdeal [hBoundsKernelIdeal : Cert.BoundsKernelIdeal.Facts] : Prop :=
  ∀ (m : (ℓ : Loc Cert.BoundsKernelIdeal.nD Cert.BoundsKernelIdeal.τ Cert.BoundsKernelIdeal.sig) → Buf (Elt Ideal) ℓ) (g : Dev Cert.BoundsKernelIdeal.nD → PrngReg), Pre_BoundsKernelIdeal m →
    θ_run (Cert.BoundsKernelIdeal.defs (F := Ideal)) (onTc (τ := Cert.BoundsKernelIdeal.τ) (Cert.BoundsKernelIdeal.main (F := Ideal))) ⟨m, fun _ => 0, g⟩ (fun r => (∀ c : Dev Cert.BoundsKernelIdeal.nD,
      r.2.mem ((c.tc : Thread Cert.BoundsKernelIdeal.nD Cert.BoundsKernelIdeal.τ).loc Cert.BoundsKernelIdeal.main_arg0) = m ((c.tc : Thread Cert.BoundsKernelIdeal.nD Cert.BoundsKernelIdeal.τ).loc Cert.BoundsKernelIdeal.main_arg0)
      ∧ r.2.mem ((c.tc : Thread Cert.BoundsKernelIdeal.nD Cert.BoundsKernelIdeal.τ).loc Cert.BoundsKernelIdeal.main_arg1) = m ((c.tc : Thread Cert.BoundsKernelIdeal.nD Cert.BoundsKernelIdeal.τ).loc Cert.BoundsKernelIdeal.main_arg1))
      ∧ r.2.sem = fun _ => 0)

def quiescent_BoundsKernelIdeal_pre_finite_bounds [hBoundsKernelIdeal : Cert.BoundsKernelIdeal.Facts] [hPre_finite_bounds : Cert.Pre_finite_bounds.Facts] : Prop :=
  ∀ (m : (ℓ : Loc Cert.BoundsKernelIdeal.nD Cert.BoundsKernelIdeal.τ Cert.BoundsKernelIdeal.sig) → Buf (Elt Ideal) ℓ) (g : Dev Cert.BoundsKernelIdeal.nD → PrngReg), Pre_BoundsKernelIdeal_finite_bounds m →
    θ_run (Cert.BoundsKernelIdeal.defs (F := Ideal)) (onTc (τ := Cert.BoundsKernelIdeal.τ) (Cert.BoundsKernelIdeal.main (F := Ideal))) ⟨m, fun _ => 0, g⟩ (fun r => (∀ c : Dev Cert.BoundsKernelIdeal.nD,
      r.2.mem ((c.tc : Thread Cert.BoundsKernelIdeal.nD Cert.BoundsKernelIdeal.τ).loc Cert.BoundsKernelIdeal.main_arg0) = m ((c.tc : Thread Cert.BoundsKernelIdeal.nD Cert.BoundsKernelIdeal.τ).loc Cert.BoundsKernelIdeal.main_arg0)
      ∧ r.2.mem ((c.tc : Thread Cert.BoundsKernelIdeal.nD Cert.BoundsKernelIdeal.τ).loc Cert.BoundsKernelIdeal.main_arg1) = m ((c.tc : Thread Cert.BoundsKernelIdeal.nD Cert.BoundsKernelIdeal.τ).loc Cert.BoundsKernelIdeal.main_arg1))
      ∧ r.2.sem = fun _ => 0)

def quiescent_BoundsReferenceIdeal [hBoundsReferenceIdeal : Cert.BoundsReferenceIdeal.Facts] : Prop :=
  ∀ (m : (ℓ : Loc Cert.BoundsReferenceIdeal.nD Cert.BoundsReferenceIdeal.τ Cert.BoundsReferenceIdeal.sig) → Buf (Elt Ideal) ℓ) (g : Dev Cert.BoundsReferenceIdeal.nD → PrngReg), Pre_BoundsReferenceIdeal m →
    θ_run (Cert.BoundsReferenceIdeal.defs (F := Ideal)) (onTc (τ := Cert.BoundsReferenceIdeal.τ) (Cert.BoundsReferenceIdeal.main (F := Ideal))) ⟨m, fun _ => 0, g⟩ (fun r => (∀ c : Dev Cert.BoundsReferenceIdeal.nD,
      r.2.mem ((c.tc : Thread Cert.BoundsReferenceIdeal.nD Cert.BoundsReferenceIdeal.τ).loc Cert.BoundsReferenceIdeal.main_arg0) = m ((c.tc : Thread Cert.BoundsReferenceIdeal.nD Cert.BoundsReferenceIdeal.τ).loc Cert.BoundsReferenceIdeal.main_arg0)
      ∧ r.2.mem ((c.tc : Thread Cert.BoundsReferenceIdeal.nD Cert.BoundsReferenceIdeal.τ).loc Cert.BoundsReferenceIdeal.main_arg1) = m ((c.tc : Thread Cert.BoundsReferenceIdeal.nD Cert.BoundsReferenceIdeal.τ).loc Cert.BoundsReferenceIdeal.main_arg1))
      ∧ r.2.sem = fun _ => 0)

def quiescent_BoundsReferenceIdeal_pre_finite_bounds [hBoundsReferenceIdeal : Cert.BoundsReferenceIdeal.Facts] [hPre_finite_bounds : Cert.Pre_finite_bounds.Facts] : Prop :=
  ∀ (m : (ℓ : Loc Cert.BoundsReferenceIdeal.nD Cert.BoundsReferenceIdeal.τ Cert.BoundsReferenceIdeal.sig) → Buf (Elt Ideal) ℓ) (g : Dev Cert.BoundsReferenceIdeal.nD → PrngReg), Pre_BoundsReferenceIdeal_finite_bounds m →
    θ_run (Cert.BoundsReferenceIdeal.defs (F := Ideal)) (onTc (τ := Cert.BoundsReferenceIdeal.τ) (Cert.BoundsReferenceIdeal.main (F := Ideal))) ⟨m, fun _ => 0, g⟩ (fun r => (∀ c : Dev Cert.BoundsReferenceIdeal.nD,
      r.2.mem ((c.tc : Thread Cert.BoundsReferenceIdeal.nD Cert.BoundsReferenceIdeal.τ).loc Cert.BoundsReferenceIdeal.main_arg0) = m ((c.tc : Thread Cert.BoundsReferenceIdeal.nD Cert.BoundsReferenceIdeal.τ).loc Cert.BoundsReferenceIdeal.main_arg0)
      ∧ r.2.mem ((c.tc : Thread Cert.BoundsReferenceIdeal.nD Cert.BoundsReferenceIdeal.τ).loc Cert.BoundsReferenceIdeal.main_arg1) = m ((c.tc : Thread Cert.BoundsReferenceIdeal.nD Cert.BoundsReferenceIdeal.τ).loc Cert.BoundsReferenceIdeal.main_arg1))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2)
      ∧ r.2.mem ((c.tc : Thread Cert.PleKernel.nD Cert.PleKernel.τ).loc Cert.PleKernel.main_arg3) = m ((c.tc : Thread Cert.PleKernel.nD Cert.PleKernel.τ).loc Cert.PleKernel.main_arg3)
      ∧ r.2.mem ((c.tc : Thread Cert.PleKernel.nD Cert.PleKernel.τ).loc Cert.PleKernel.main_arg4) = m ((c.tc : Thread Cert.PleKernel.nD Cert.PleKernel.τ).loc Cert.PleKernel.main_arg4)
      ∧ r.2.mem ((c.tc : Thread Cert.PleKernel.nD Cert.PleKernel.τ).loc Cert.PleKernel.main_arg5) = m ((c.tc : Thread Cert.PleKernel.nD Cert.PleKernel.τ).loc Cert.PleKernel.main_arg5)
      ∧ r.2.mem ((c.tc : Thread Cert.PleKernel.nD Cert.PleKernel.τ).loc Cert.PleKernel.main_arg6) = m ((c.tc : Thread Cert.PleKernel.nD Cert.PleKernel.τ).loc Cert.PleKernel.main_arg6))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
      ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
      ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
      ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5)
      ∧ r.2.mem ((c.tc : Thread Cert.PleKernelIdeal.nD Cert.PleKernelIdeal.τ).loc Cert.PleKernelIdeal.main_arg6) = m ((c.tc : Thread Cert.PleKernelIdeal.nD Cert.PleKernelIdeal.τ).loc Cert.PleKernelIdeal.main_arg6))
      ∧ r.2.sem = fun _ => 0)

def quiescent_PleKernelIdeal_pre_finite_ple [hPleKernelIdeal : Cert.PleKernelIdeal.Facts] [hPre_finite_ple : Cert.Pre_finite_ple.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal_finite_ple m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
      ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
      ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
      ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5)
      ∧ r.2.mem ((c.tc : Thread Cert.PleKernelIdeal.nD Cert.PleKernelIdeal.τ).loc Cert.PleKernelIdeal.main_arg6) = m ((c.tc : Thread Cert.PleKernelIdeal.nD Cert.PleKernelIdeal.τ).loc Cert.PleKernelIdeal.main_arg6))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5)
      ∧ r.2.mem ((c.tc : Thread Cert.PleReferenceIdeal.nD Cert.PleReferenceIdeal.τ).loc Cert.PleReferenceIdeal.main_arg6) = m ((c.tc : Thread Cert.PleReferenceIdeal.nD Cert.PleReferenceIdeal.τ).loc Cert.PleReferenceIdeal.main_arg6))
      ∧ r.2.sem = fun _ => 0)

def quiescent_PleReferenceIdeal_pre_finite_ple [hPleReferenceIdeal : Cert.PleReferenceIdeal.Facts] [hPre_finite_ple : Cert.Pre_finite_ple.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal_finite_ple m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5)
      ∧ r.2.mem ((c.tc : Thread Cert.PleReferenceIdeal.nD Cert.PleReferenceIdeal.τ).loc Cert.PleReferenceIdeal.main_arg6) = m ((c.tc : Thread Cert.PleReferenceIdeal.nD Cert.PleReferenceIdeal.τ).loc Cert.PleReferenceIdeal.main_arg6))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4)
      ∧ r.2.mem ((c.tc : Thread Cert.NormKernel.nD Cert.NormKernel.τ).loc Cert.NormKernel.main_arg5) = m ((c.tc : Thread Cert.NormKernel.nD Cert.NormKernel.τ).loc Cert.NormKernel.main_arg5)
      ∧ r.2.mem ((c.tc : Thread Cert.NormKernel.nD Cert.NormKernel.τ).loc Cert.NormKernel.main_arg6) = m ((c.tc : Thread Cert.NormKernel.nD Cert.NormKernel.τ).loc Cert.NormKernel.main_arg6))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ r.2.sem = fun _ => 0)

def quiescent_NormKernelIdeal_pre_finite_norm [hNormKernelIdeal : Cert.NormKernelIdeal.Facts] [hPre_finite_norm : Cert.Pre_finite_norm.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_finite_norm m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_NormReferenceIdeal_pre_finite_norm [hNormReferenceIdeal : Cert.NormReferenceIdeal.Facts] [hPre_finite_norm : Cert.Pre_finite_norm.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_finite_norm m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_SwigluKernel [hSwigluKernel : Cert.SwigluKernel.Facts] : Prop :=
  ∀ (m : (ℓ : Loc Cert.SwigluKernel.nD Cert.SwigluKernel.τ Cert.SwigluKernel.sig) → Buf (Elt Bits) ℓ) (g : Dev Cert.SwigluKernel.nD → PrngReg), Pre_SwigluKernel m →
    θ_run (Cert.SwigluKernel.defs (F := Bits)) (onTc (τ := Cert.SwigluKernel.τ) (Cert.SwigluKernel.main (F := Bits))) ⟨m, fun _ => 0, g⟩ (fun r => (∀ c : Dev Cert.SwigluKernel.nD,
      r.2.mem ((c.tc : Thread Cert.SwigluKernel.nD Cert.SwigluKernel.τ).loc Cert.SwigluKernel.main_arg0) = m ((c.tc : Thread Cert.SwigluKernel.nD Cert.SwigluKernel.τ).loc Cert.SwigluKernel.main_arg0)
      ∧ r.2.mem ((c.tc : Thread Cert.SwigluKernel.nD Cert.SwigluKernel.τ).loc Cert.SwigluKernel.main_arg1) = m ((c.tc : Thread Cert.SwigluKernel.nD Cert.SwigluKernel.τ).loc Cert.SwigluKernel.main_arg1))
      ∧ r.2.sem = fun _ => 0)

def quiescent_SwigluKernelIdeal [hSwigluKernelIdeal : Cert.SwigluKernelIdeal.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
      ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1))
      ∧ r.2.sem = fun _ => 0)

def quiescent_SwigluKernelIdeal_pre_finite_swiglu [hSwigluKernelIdeal : Cert.SwigluKernelIdeal.Facts] [hPre_finite_swiglu : Cert.Pre_finite_swiglu.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal_finite_swiglu m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
      ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1))
      ∧ r.2.sem = fun _ => 0)

def quiescent_SwigluReferenceIdeal_pre_finite_swiglu [hSwigluReferenceIdeal : Cert.SwigluReferenceIdeal.Facts] [hPre_finite_swiglu : Cert.Pre_finite_swiglu.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal_finite_swiglu m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1))
      ∧ r.2.sem = fun _ => 0)

def quiescent_ResnormKernel [hResnormKernel : Cert.ResnormKernel.Facts] : Prop :=
  ∀ (m : (ℓ : Loc Cert.ResnormKernel.nD Cert.ResnormKernel.τ Cert.ResnormKernel.sig) → Buf (Elt Bits) ℓ) (g : Dev Cert.ResnormKernel.nD → PrngReg), Pre_ResnormKernel m →
    θ_run (Cert.ResnormKernel.defs (F := Bits)) (onTc (τ := Cert.ResnormKernel.τ) (Cert.ResnormKernel.main (F := Bits))) ⟨m, fun _ => 0, g⟩ (fun r => (∀ c : Dev Cert.ResnormKernel.nD,
      r.2.mem ((c.tc : Thread Cert.ResnormKernel.nD Cert.ResnormKernel.τ).loc Cert.ResnormKernel.main_arg0) = m ((c.tc : Thread Cert.ResnormKernel.nD Cert.ResnormKernel.τ).loc Cert.ResnormKernel.main_arg0)
      ∧ r.2.mem ((c.tc : Thread Cert.ResnormKernel.nD Cert.ResnormKernel.τ).loc Cert.ResnormKernel.main_arg1) = m ((c.tc : Thread Cert.ResnormKernel.nD Cert.ResnormKernel.τ).loc Cert.ResnormKernel.main_arg1)
      ∧ r.2.mem ((c.tc : Thread Cert.ResnormKernel.nD Cert.ResnormKernel.τ).loc Cert.ResnormKernel.main_arg2) = m ((c.tc : Thread Cert.ResnormKernel.nD Cert.ResnormKernel.τ).loc Cert.ResnormKernel.main_arg2)
      ∧ r.2.mem ((c.tc : Thread Cert.ResnormKernel.nD Cert.ResnormKernel.τ).loc Cert.ResnormKernel.main_arg3) = m ((c.tc : Thread Cert.ResnormKernel.nD Cert.ResnormKernel.τ).loc Cert.ResnormKernel.main_arg3)
      ∧ r.2.mem ((c.tc : Thread Cert.ResnormKernel.nD Cert.ResnormKernel.τ).loc Cert.ResnormKernel.main_arg4) = m ((c.tc : Thread Cert.ResnormKernel.nD Cert.ResnormKernel.τ).loc Cert.ResnormKernel.main_arg4))
      ∧ r.2.sem = fun _ => 0)

def quiescent_ResnormKernelIdeal [hResnormKernelIdeal : Cert.ResnormKernelIdeal.Facts] : Prop :=
  ∀ (m : (ℓ : Loc Cert.ResnormKernelIdeal.nD Cert.ResnormKernelIdeal.τ Cert.ResnormKernelIdeal.sig) → Buf (Elt Ideal) ℓ) (g : Dev Cert.ResnormKernelIdeal.nD → PrngReg), Pre_ResnormKernelIdeal m →
    θ_run (Cert.ResnormKernelIdeal.defs (F := Ideal)) (onTc (τ := Cert.ResnormKernelIdeal.τ) (Cert.ResnormKernelIdeal.main (F := Ideal))) ⟨m, fun _ => 0, g⟩ (fun r => (∀ c : Dev Cert.ResnormKernelIdeal.nD,
      r.2.mem ((c.tc : Thread Cert.ResnormKernelIdeal.nD Cert.ResnormKernelIdeal.τ).loc Cert.ResnormKernelIdeal.main_arg0) = m ((c.tc : Thread Cert.ResnormKernelIdeal.nD Cert.ResnormKernelIdeal.τ).loc Cert.ResnormKernelIdeal.main_arg0)
      ∧ r.2.mem ((c.tc : Thread Cert.ResnormKernelIdeal.nD Cert.ResnormKernelIdeal.τ).loc Cert.ResnormKernelIdeal.main_arg1) = m ((c.tc : Thread Cert.ResnormKernelIdeal.nD Cert.ResnormKernelIdeal.τ).loc Cert.ResnormKernelIdeal.main_arg1)
      ∧ r.2.mem ((c.tc : Thread Cert.ResnormKernelIdeal.nD Cert.ResnormKernelIdeal.τ).loc Cert.ResnormKernelIdeal.main_arg2) = m ((c.tc : Thread Cert.ResnormKernelIdeal.nD Cert.ResnormKernelIdeal.τ).loc Cert.ResnormKernelIdeal.main_arg2)
      ∧ r.2.mem ((c.tc : Thread Cert.ResnormKernelIdeal.nD Cert.ResnormKernelIdeal.τ).loc Cert.ResnormKernelIdeal.main_arg3) = m ((c.tc : Thread Cert.ResnormKernelIdeal.nD Cert.ResnormKernelIdeal.τ).loc Cert.ResnormKernelIdeal.main_arg3)
      ∧ r.2.mem ((c.tc : Thread Cert.ResnormKernelIdeal.nD Cert.ResnormKernelIdeal.τ).loc Cert.ResnormKernelIdeal.main_arg4) = m ((c.tc : Thread Cert.ResnormKernelIdeal.nD Cert.ResnormKernelIdeal.τ).loc Cert.ResnormKernelIdeal.main_arg4))
      ∧ r.2.sem = fun _ => 0)

def quiescent_ResnormReferenceIdeal [hResnormReferenceIdeal : Cert.ResnormReferenceIdeal.Facts] : Prop :=
  ∀ (m : (ℓ : Loc Cert.ResnormReferenceIdeal.nD Cert.ResnormReferenceIdeal.τ Cert.ResnormReferenceIdeal.sig) → Buf (Elt Ideal) ℓ) (g : Dev Cert.ResnormReferenceIdeal.nD → PrngReg), Pre_ResnormReferenceIdeal m →
    θ_run (Cert.ResnormReferenceIdeal.defs (F := Ideal)) (onTc (τ := Cert.ResnormReferenceIdeal.τ) (Cert.ResnormReferenceIdeal.main (F := Ideal))) ⟨m, fun _ => 0, g⟩ (fun r => (∀ c : Dev Cert.ResnormReferenceIdeal.nD,
      r.2.mem ((c.tc : Thread Cert.ResnormReferenceIdeal.nD Cert.ResnormReferenceIdeal.τ).loc Cert.ResnormReferenceIdeal.main_arg0) = m ((c.tc : Thread Cert.ResnormReferenceIdeal.nD Cert.ResnormReferenceIdeal.τ).loc Cert.ResnormReferenceIdeal.main_arg0)
      ∧ r.2.mem ((c.tc : Thread Cert.ResnormReferenceIdeal.nD Cert.ResnormReferenceIdeal.τ).loc Cert.ResnormReferenceIdeal.main_arg1) = m ((c.tc : Thread Cert.ResnormReferenceIdeal.nD Cert.ResnormReferenceIdeal.τ).loc Cert.ResnormReferenceIdeal.main_arg1)
      ∧ r.2.mem ((c.tc : Thread Cert.ResnormReferenceIdeal.nD Cert.ResnormReferenceIdeal.τ).loc Cert.ResnormReferenceIdeal.main_arg2) = m ((c.tc : Thread Cert.ResnormReferenceIdeal.nD Cert.ResnormReferenceIdeal.τ).loc Cert.ResnormReferenceIdeal.main_arg2)
      ∧ r.2.mem ((c.tc : Thread Cert.ResnormReferenceIdeal.nD Cert.ResnormReferenceIdeal.τ).loc Cert.ResnormReferenceIdeal.main_arg3) = m ((c.tc : Thread Cert.ResnormReferenceIdeal.nD Cert.ResnormReferenceIdeal.τ).loc Cert.ResnormReferenceIdeal.main_arg3)
      ∧ r.2.mem ((c.tc : Thread Cert.ResnormReferenceIdeal.nD Cert.ResnormReferenceIdeal.τ).loc Cert.ResnormReferenceIdeal.main_arg4) = m ((c.tc : Thread Cert.ResnormReferenceIdeal.nD Cert.ResnormReferenceIdeal.τ).loc Cert.ResnormReferenceIdeal.main_arg4))
      ∧ r.2.sem = fun _ => 0)

def quiescent_EmbedKernel [hEmbedKernel : Cert.EmbedKernel.Facts] : Prop :=
  ∀ (m : (ℓ : Loc Cert.EmbedKernel.nD Cert.EmbedKernel.τ Cert.EmbedKernel.sig) → Buf (Elt Bits) ℓ) (g : Dev Cert.EmbedKernel.nD → PrngReg), Pre_EmbedKernel m →
    θ_run (Cert.EmbedKernel.defs (F := Bits)) (onTc (τ := Cert.EmbedKernel.τ) (Cert.EmbedKernel.main (F := Bits))) ⟨m, fun _ => 0, g⟩ (fun r => (∀ c : Dev Cert.EmbedKernel.nD,
      r.2.mem ((c.tc : Thread Cert.EmbedKernel.nD Cert.EmbedKernel.τ).loc Cert.EmbedKernel.main_arg0) = m ((c.tc : Thread Cert.EmbedKernel.nD Cert.EmbedKernel.τ).loc Cert.EmbedKernel.main_arg0)
      ∧ r.2.mem ((c.tc : Thread Cert.EmbedKernel.nD Cert.EmbedKernel.τ).loc Cert.EmbedKernel.main_arg1) = m ((c.tc : Thread Cert.EmbedKernel.nD Cert.EmbedKernel.τ).loc Cert.EmbedKernel.main_arg1)
      ∧ r.2.mem ((c.tc : Thread Cert.EmbedKernel.nD Cert.EmbedKernel.τ).loc Cert.EmbedKernel.main_arg2) = m ((c.tc : Thread Cert.EmbedKernel.nD Cert.EmbedKernel.τ).loc Cert.EmbedKernel.main_arg2)
      ∧ r.2.mem ((c.tc : Thread Cert.EmbedKernel.nD Cert.EmbedKernel.τ).loc Cert.EmbedKernel.main_arg3) = m ((c.tc : Thread Cert.EmbedKernel.nD Cert.EmbedKernel.τ).loc Cert.EmbedKernel.main_arg3))
      ∧ r.2.sem = fun _ => 0)

def quiescent_EmbedKernelIdeal [hEmbedKernelIdeal : Cert.EmbedKernelIdeal.Facts] : Prop :=
  ∀ (m : (ℓ : Loc Cert.EmbedKernelIdeal.nD Cert.EmbedKernelIdeal.τ Cert.EmbedKernelIdeal.sig) → Buf (Elt Ideal) ℓ) (g : Dev Cert.EmbedKernelIdeal.nD → PrngReg), Pre_EmbedKernelIdeal m →
    θ_run (Cert.EmbedKernelIdeal.defs (F := Ideal)) (onTc (τ := Cert.EmbedKernelIdeal.τ) (Cert.EmbedKernelIdeal.main (F := Ideal))) ⟨m, fun _ => 0, g⟩ (fun r => (∀ c : Dev Cert.EmbedKernelIdeal.nD,
      r.2.mem ((c.tc : Thread Cert.EmbedKernelIdeal.nD Cert.EmbedKernelIdeal.τ).loc Cert.EmbedKernelIdeal.main_arg0) = m ((c.tc : Thread Cert.EmbedKernelIdeal.nD Cert.EmbedKernelIdeal.τ).loc Cert.EmbedKernelIdeal.main_arg0)
      ∧ r.2.mem ((c.tc : Thread Cert.EmbedKernelIdeal.nD Cert.EmbedKernelIdeal.τ).loc Cert.EmbedKernelIdeal.main_arg1) = m ((c.tc : Thread Cert.EmbedKernelIdeal.nD Cert.EmbedKernelIdeal.τ).loc Cert.EmbedKernelIdeal.main_arg1)
      ∧ r.2.mem ((c.tc : Thread Cert.EmbedKernelIdeal.nD Cert.EmbedKernelIdeal.τ).loc Cert.EmbedKernelIdeal.main_arg2) = m ((c.tc : Thread Cert.EmbedKernelIdeal.nD Cert.EmbedKernelIdeal.τ).loc Cert.EmbedKernelIdeal.main_arg2)
      ∧ r.2.mem ((c.tc : Thread Cert.EmbedKernelIdeal.nD Cert.EmbedKernelIdeal.τ).loc Cert.EmbedKernelIdeal.main_arg3) = m ((c.tc : Thread Cert.EmbedKernelIdeal.nD Cert.EmbedKernelIdeal.τ).loc Cert.EmbedKernelIdeal.main_arg3))
      ∧ r.2.sem = fun _ => 0)

def quiescent_EmbedReferenceIdeal [hEmbedReferenceIdeal : Cert.EmbedReferenceIdeal.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1)
      ∧ r.2.mem ((c.tc : Thread Cert.EmbedReferenceIdeal.nD Cert.EmbedReferenceIdeal.τ).loc Cert.EmbedReferenceIdeal.main_arg2) = m ((c.tc : Thread Cert.EmbedReferenceIdeal.nD Cert.EmbedReferenceIdeal.τ).loc Cert.EmbedReferenceIdeal.main_arg2)
      ∧ r.2.mem ((c.tc : Thread Cert.EmbedReferenceIdeal.nD Cert.EmbedReferenceIdeal.τ).loc Cert.EmbedReferenceIdeal.main_arg3) = m ((c.tc : Thread Cert.EmbedReferenceIdeal.nD Cert.EmbedReferenceIdeal.τ).loc Cert.EmbedReferenceIdeal.main_arg3))
      ∧ r.2.sem = fun _ => 0)

def quiescent_GatedKernel [hGatedKernel : Cert.GatedKernel.Facts] : Prop :=
  ∀ (m : (ℓ : Loc Cert.GatedKernel.nD Cert.GatedKernel.τ Cert.GatedKernel.sig) → Buf (Elt Bits) ℓ) (g : Dev Cert.GatedKernel.nD → PrngReg), Pre_GatedKernel m →
    θ_run (Cert.GatedKernel.defs (F := Bits)) (onTc (τ := Cert.GatedKernel.τ) (Cert.GatedKernel.main (F := Bits))) ⟨m, fun _ => 0, g⟩ (fun r => (∀ c : Dev Cert.GatedKernel.nD,
      r.2.mem ((c.tc : Thread Cert.GatedKernel.nD Cert.GatedKernel.τ).loc Cert.GatedKernel.main_arg0) = m ((c.tc : Thread Cert.GatedKernel.nD Cert.GatedKernel.τ).loc Cert.GatedKernel.main_arg0)
      ∧ r.2.mem ((c.tc : Thread Cert.GatedKernel.nD Cert.GatedKernel.τ).loc Cert.GatedKernel.main_arg1) = m ((c.tc : Thread Cert.GatedKernel.nD Cert.GatedKernel.τ).loc Cert.GatedKernel.main_arg1)
      ∧ r.2.mem ((c.tc : Thread Cert.GatedKernel.nD Cert.GatedKernel.τ).loc Cert.GatedKernel.main_arg2) = m ((c.tc : Thread Cert.GatedKernel.nD Cert.GatedKernel.τ).loc Cert.GatedKernel.main_arg2)
      ∧ r.2.mem ((c.tc : Thread Cert.GatedKernel.nD Cert.GatedKernel.τ).loc Cert.GatedKernel.main_arg3) = m ((c.tc : Thread Cert.GatedKernel.nD Cert.GatedKernel.τ).loc Cert.GatedKernel.main_arg3))
      ∧ r.2.sem = fun _ => 0)

def quiescent_GatedKernelIdeal [hGatedKernelIdeal : Cert.GatedKernelIdeal.Facts] : Prop :=
  ∀ (m : (ℓ : Loc Cert.GatedKernelIdeal.nD Cert.GatedKernelIdeal.τ Cert.GatedKernelIdeal.sig) → Buf (Elt Ideal) ℓ) (g : Dev Cert.GatedKernelIdeal.nD → PrngReg), Pre_GatedKernelIdeal m →
    θ_run (Cert.GatedKernelIdeal.defs (F := Ideal)) (onTc (τ := Cert.GatedKernelIdeal.τ) (Cert.GatedKernelIdeal.main (F := Ideal))) ⟨m, fun _ => 0, g⟩ (fun r => (∀ c : Dev Cert.GatedKernelIdeal.nD,
      r.2.mem ((c.tc : Thread Cert.GatedKernelIdeal.nD Cert.GatedKernelIdeal.τ).loc Cert.GatedKernelIdeal.main_arg0) = m ((c.tc : Thread Cert.GatedKernelIdeal.nD Cert.GatedKernelIdeal.τ).loc Cert.GatedKernelIdeal.main_arg0)
      ∧ r.2.mem ((c.tc : Thread Cert.GatedKernelIdeal.nD Cert.GatedKernelIdeal.τ).loc Cert.GatedKernelIdeal.main_arg1) = m ((c.tc : Thread Cert.GatedKernelIdeal.nD Cert.GatedKernelIdeal.τ).loc Cert.GatedKernelIdeal.main_arg1)
      ∧ r.2.mem ((c.tc : Thread Cert.GatedKernelIdeal.nD Cert.GatedKernelIdeal.τ).loc Cert.GatedKernelIdeal.main_arg2) = m ((c.tc : Thread Cert.GatedKernelIdeal.nD Cert.GatedKernelIdeal.τ).loc Cert.GatedKernelIdeal.main_arg2)
      ∧ r.2.mem ((c.tc : Thread Cert.GatedKernelIdeal.nD Cert.GatedKernelIdeal.τ).loc Cert.GatedKernelIdeal.main_arg3) = m ((c.tc : Thread Cert.GatedKernelIdeal.nD Cert.GatedKernelIdeal.τ).loc Cert.GatedKernelIdeal.main_arg3))
      ∧ r.2.sem = fun _ => 0)

def quiescent_GatedReferenceIdeal [hGatedReferenceIdeal : Cert.GatedReferenceIdeal.Facts] : Prop :=
  ∀ (m : (ℓ : Loc Cert.GatedReferenceIdeal.nD Cert.GatedReferenceIdeal.τ Cert.GatedReferenceIdeal.sig) → Buf (Elt Ideal) ℓ) (g : Dev Cert.GatedReferenceIdeal.nD → PrngReg), Pre_GatedReferenceIdeal m →
    θ_run (Cert.GatedReferenceIdeal.defs (F := Ideal)) (onTc (τ := Cert.GatedReferenceIdeal.τ) (Cert.GatedReferenceIdeal.main (F := Ideal))) ⟨m, fun _ => 0, g⟩ (fun r => (∀ c : Dev Cert.GatedReferenceIdeal.nD,
      r.2.mem ((c.tc : Thread Cert.GatedReferenceIdeal.nD Cert.GatedReferenceIdeal.τ).loc Cert.GatedReferenceIdeal.main_arg0) = m ((c.tc : Thread Cert.GatedReferenceIdeal.nD Cert.GatedReferenceIdeal.τ).loc Cert.GatedReferenceIdeal.main_arg0)
      ∧ r.2.mem ((c.tc : Thread Cert.GatedReferenceIdeal.nD Cert.GatedReferenceIdeal.τ).loc Cert.GatedReferenceIdeal.main_arg1) = m ((c.tc : Thread Cert.GatedReferenceIdeal.nD Cert.GatedReferenceIdeal.τ).loc Cert.GatedReferenceIdeal.main_arg1)
      ∧ r.2.mem ((c.tc : Thread Cert.GatedReferenceIdeal.nD Cert.GatedReferenceIdeal.τ).loc Cert.GatedReferenceIdeal.main_arg2) = m ((c.tc : Thread Cert.GatedReferenceIdeal.nD Cert.GatedReferenceIdeal.τ).loc Cert.GatedReferenceIdeal.main_arg2)
      ∧ r.2.mem ((c.tc : Thread Cert.GatedReferenceIdeal.nD Cert.GatedReferenceIdeal.τ).loc Cert.GatedReferenceIdeal.main_arg3) = m ((c.tc : Thread Cert.GatedReferenceIdeal.nD Cert.GatedReferenceIdeal.τ).loc Cert.GatedReferenceIdeal.main_arg3))
      ∧ r.2.sem = fun _ => 0)

def quiescent_LowerKernel [hLowerKernel : Cert.LowerKernel.Facts] : Prop :=
  ∀ (m : (ℓ : Loc Cert.LowerKernel.nD Cert.LowerKernel.τ Cert.LowerKernel.sig) → Buf (Elt Bits) ℓ) (g : Dev Cert.LowerKernel.nD → PrngReg), Pre_LowerKernel m →
    θ_run (Cert.LowerKernel.defs (F := Bits)) (onTc (τ := Cert.LowerKernel.τ) (Cert.LowerKernel.main (F := Bits))) ⟨m, fun _ => 0, g⟩ (fun r => (∀ c : Dev Cert.LowerKernel.nD,
      r.2.mem ((c.tc : Thread Cert.LowerKernel.nD Cert.LowerKernel.τ).loc Cert.LowerKernel.main_arg0) = m ((c.tc : Thread Cert.LowerKernel.nD Cert.LowerKernel.τ).loc Cert.LowerKernel.main_arg0))
      ∧ r.2.sem = fun _ => 0)

def quiescent_LowerKernelIdeal [hLowerKernelIdeal : Cert.LowerKernelIdeal.Facts] : Prop :=
  ∀ (m : (ℓ : Loc Cert.LowerKernelIdeal.nD Cert.LowerKernelIdeal.τ Cert.LowerKernelIdeal.sig) → Buf (Elt Ideal) ℓ) (g : Dev Cert.LowerKernelIdeal.nD → PrngReg), Pre_LowerKernelIdeal m →
    θ_run (Cert.LowerKernelIdeal.defs (F := Ideal)) (onTc (τ := Cert.LowerKernelIdeal.τ) (Cert.LowerKernelIdeal.main (F := Ideal))) ⟨m, fun _ => 0, g⟩ (fun r => (∀ c : Dev Cert.LowerKernelIdeal.nD,
      r.2.mem ((c.tc : Thread Cert.LowerKernelIdeal.nD Cert.LowerKernelIdeal.τ).loc Cert.LowerKernelIdeal.main_arg0) = m ((c.tc : Thread Cert.LowerKernelIdeal.nD Cert.LowerKernelIdeal.τ).loc Cert.LowerKernelIdeal.main_arg0))
      ∧ r.2.sem = fun _ => 0)

def quiescent_LowerKernelIdeal_pre_finite_lower [hLowerKernelIdeal : Cert.LowerKernelIdeal.Facts] [hPre_finite_lower : Cert.Pre_finite_lower.Facts] : Prop :=
  ∀ (m : (ℓ : Loc Cert.LowerKernelIdeal.nD Cert.LowerKernelIdeal.τ Cert.LowerKernelIdeal.sig) → Buf (Elt Ideal) ℓ) (g : Dev Cert.LowerKernelIdeal.nD → PrngReg), Pre_LowerKernelIdeal_finite_lower m →
    θ_run (Cert.LowerKernelIdeal.defs (F := Ideal)) (onTc (τ := Cert.LowerKernelIdeal.τ) (Cert.LowerKernelIdeal.main (F := Ideal))) ⟨m, fun _ => 0, g⟩ (fun r => (∀ c : Dev Cert.LowerKernelIdeal.nD,
      r.2.mem ((c.tc : Thread Cert.LowerKernelIdeal.nD Cert.LowerKernelIdeal.τ).loc Cert.LowerKernelIdeal.main_arg0) = m ((c.tc : Thread Cert.LowerKernelIdeal.nD Cert.LowerKernelIdeal.τ).loc Cert.LowerKernelIdeal.main_arg0))
      ∧ r.2.sem = fun _ => 0)

def quiescent_LowerReferenceIdeal [hLowerReferenceIdeal : Cert.LowerReferenceIdeal.Facts] : Prop :=
  ∀ (m : (ℓ : Loc Cert.LowerReferenceIdeal.nD Cert.LowerReferenceIdeal.τ Cert.LowerReferenceIdeal.sig) → Buf (Elt Ideal) ℓ) (g : Dev Cert.LowerReferenceIdeal.nD → PrngReg), Pre_LowerReferenceIdeal m →
    θ_run (Cert.LowerReferenceIdeal.defs (F := Ideal)) (onTc (τ := Cert.LowerReferenceIdeal.τ) (Cert.LowerReferenceIdeal.main (F := Ideal))) ⟨m, fun _ => 0, g⟩ (fun r => (∀ c : Dev Cert.LowerReferenceIdeal.nD,
      r.2.mem ((c.tc : Thread Cert.LowerReferenceIdeal.nD Cert.LowerReferenceIdeal.τ).loc Cert.LowerReferenceIdeal.main_arg0) = m ((c.tc : Thread Cert.LowerReferenceIdeal.nD Cert.LowerReferenceIdeal.τ).loc Cert.LowerReferenceIdeal.main_arg0))
      ∧ r.2.sem = fun _ => 0)

def quiescent_LowerReferenceIdeal_pre_finite_lower [hLowerReferenceIdeal : Cert.LowerReferenceIdeal.Facts] [hPre_finite_lower : Cert.Pre_finite_lower.Facts] : Prop :=
  ∀ (m : (ℓ : Loc Cert.LowerReferenceIdeal.nD Cert.LowerReferenceIdeal.τ Cert.LowerReferenceIdeal.sig) → Buf (Elt Ideal) ℓ) (g : Dev Cert.LowerReferenceIdeal.nD → PrngReg), Pre_LowerReferenceIdeal_finite_lower m →
    θ_run (Cert.LowerReferenceIdeal.defs (F := Ideal)) (onTc (τ := Cert.LowerReferenceIdeal.τ) (Cert.LowerReferenceIdeal.main (F := Ideal))) ⟨m, fun _ => 0, g⟩ (fun r => (∀ c : Dev Cert.LowerReferenceIdeal.nD,
      r.2.mem ((c.tc : Thread Cert.LowerReferenceIdeal.nD Cert.LowerReferenceIdeal.τ).loc Cert.LowerReferenceIdeal.main_arg0) = m ((c.tc : Thread Cert.LowerReferenceIdeal.nD Cert.LowerReferenceIdeal.τ).loc Cert.LowerReferenceIdeal.main_arg0))
      ∧ r.2.sem = fun _ => 0)

def quiescent_ProdKernel [hProdKernel : Cert.ProdKernel.Facts] : Prop :=
  ∀ (m : (ℓ : Loc Cert.ProdKernel.nD Cert.ProdKernel.τ Cert.ProdKernel.sig) → Buf (Elt Bits) ℓ) (g : Dev Cert.ProdKernel.nD → PrngReg), Pre_ProdKernel m →
    θ_run (Cert.ProdKernel.defs (F := Bits)) (onTc (τ := Cert.ProdKernel.τ) (Cert.ProdKernel.main (F := Bits))) ⟨m, fun _ => 0, g⟩ (fun r => (∀ c : Dev Cert.ProdKernel.nD,
      r.2.mem ((c.tc : Thread Cert.ProdKernel.nD Cert.ProdKernel.τ).loc Cert.ProdKernel.main_arg0) = m ((c.tc : Thread Cert.ProdKernel.nD Cert.ProdKernel.τ).loc Cert.ProdKernel.main_arg0)
      ∧ r.2.mem ((c.tc : Thread Cert.ProdKernel.nD Cert.ProdKernel.τ).loc Cert.ProdKernel.main_arg1) = m ((c.tc : Thread Cert.ProdKernel.nD Cert.ProdKernel.τ).loc Cert.ProdKernel.main_arg1))
      ∧ r.2.sem = fun _ => 0)

def quiescent_ProdKernelIdeal [hProdKernelIdeal : Cert.ProdKernelIdeal.Facts] : Prop :=
  ∀ (m : (ℓ : Loc Cert.ProdKernelIdeal.nD Cert.ProdKernelIdeal.τ Cert.ProdKernelIdeal.sig) → Buf (Elt Ideal) ℓ) (g : Dev Cert.ProdKernelIdeal.nD → PrngReg), Pre_ProdKernelIdeal m →
    θ_run (Cert.ProdKernelIdeal.defs (F := Ideal)) (onTc (τ := Cert.ProdKernelIdeal.τ) (Cert.ProdKernelIdeal.main (F := Ideal))) ⟨m, fun _ => 0, g⟩ (fun r => (∀ c : Dev Cert.ProdKernelIdeal.nD,
      r.2.mem ((c.tc : Thread Cert.ProdKernelIdeal.nD Cert.ProdKernelIdeal.τ).loc Cert.ProdKernelIdeal.main_arg0) = m ((c.tc : Thread Cert.ProdKernelIdeal.nD Cert.ProdKernelIdeal.τ).loc Cert.ProdKernelIdeal.main_arg0)
      ∧ r.2.mem ((c.tc : Thread Cert.ProdKernelIdeal.nD Cert.ProdKernelIdeal.τ).loc Cert.ProdKernelIdeal.main_arg1) = m ((c.tc : Thread Cert.ProdKernelIdeal.nD Cert.ProdKernelIdeal.τ).loc Cert.ProdKernelIdeal.main_arg1))
      ∧ r.2.sem = fun _ => 0)

def quiescent_ProdReferenceIdeal [hProdReferenceIdeal : Cert.ProdReferenceIdeal.Facts] : Prop :=
  ∀ (m : (ℓ : Loc Cert.ProdReferenceIdeal.nD Cert.ProdReferenceIdeal.τ Cert.ProdReferenceIdeal.sig) → Buf (Elt Ideal) ℓ) (g : Dev Cert.ProdReferenceIdeal.nD → PrngReg), Pre_ProdReferenceIdeal m →
    θ_run (Cert.ProdReferenceIdeal.defs (F := Ideal)) (onTc (τ := Cert.ProdReferenceIdeal.τ) (Cert.ProdReferenceIdeal.main (F := Ideal))) ⟨m, fun _ => 0, g⟩ (fun r => (∀ c : Dev Cert.ProdReferenceIdeal.nD,
      r.2.mem ((c.tc : Thread Cert.ProdReferenceIdeal.nD Cert.ProdReferenceIdeal.τ).loc Cert.ProdReferenceIdeal.main_arg0) = m ((c.tc : Thread Cert.ProdReferenceIdeal.nD Cert.ProdReferenceIdeal.τ).loc Cert.ProdReferenceIdeal.main_arg0)
      ∧ r.2.mem ((c.tc : Thread Cert.ProdReferenceIdeal.nD Cert.ProdReferenceIdeal.τ).loc Cert.ProdReferenceIdeal.main_arg1) = m ((c.tc : Thread Cert.ProdReferenceIdeal.nD Cert.ProdReferenceIdeal.τ).loc Cert.ProdReferenceIdeal.main_arg1))
      ∧ r.2.sem = fun _ => 0)

def quiescent_WgradKernel [hWgradKernel : Cert.WgradKernel.Facts] : Prop :=
  ∀ (m : (ℓ : Loc Cert.WgradKernel.nD Cert.WgradKernel.τ Cert.WgradKernel.sig) → Buf (Elt Bits) ℓ) (g : Dev Cert.WgradKernel.nD → PrngReg), Pre_WgradKernel m →
    θ_run (Cert.WgradKernel.defs (F := Bits)) (onTc (τ := Cert.WgradKernel.τ) (Cert.WgradKernel.main (F := Bits))) ⟨m, fun _ => 0, g⟩ (fun r => (∀ c : Dev Cert.WgradKernel.nD,
      r.2.mem ((c.tc : Thread Cert.WgradKernel.nD Cert.WgradKernel.τ).loc Cert.WgradKernel.main_arg0) = m ((c.tc : Thread Cert.WgradKernel.nD Cert.WgradKernel.τ).loc Cert.WgradKernel.main_arg0)
      ∧ r.2.mem ((c.tc : Thread Cert.WgradKernel.nD Cert.WgradKernel.τ).loc Cert.WgradKernel.main_arg1) = m ((c.tc : Thread Cert.WgradKernel.nD Cert.WgradKernel.τ).loc Cert.WgradKernel.main_arg1)
      ∧ r.2.mem ((c.tc : Thread Cert.WgradKernel.nD Cert.WgradKernel.τ).loc Cert.WgradKernel.main_arg2) = m ((c.tc : Thread Cert.WgradKernel.nD Cert.WgradKernel.τ).loc Cert.WgradKernel.main_arg2))
      ∧ r.2.sem = fun _ => 0)

def quiescent_WgradKernelIdeal [hWgradKernelIdeal : Cert.WgradKernelIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg), Pre_WgradKernelIdeal m →
    θ_run (Cert.WgradKernelIdeal.defs (F := Ideal)) (onTc (τ := Cert.WgradKernelIdeal.τ) (Cert.WgradKernelIdeal.main (F := Ideal))) ⟨m, fun _ => 0, g⟩ (fun r => (∀ c : Dev Cert.WgradKernelIdeal.nD,
      r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
      ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1)
      ∧ r.2.mem ((c.tc : Thread Cert.WgradKernelIdeal.nD Cert.WgradKernelIdeal.τ).loc Cert.WgradKernelIdeal.main_arg2) = m ((c.tc : Thread Cert.WgradKernelIdeal.nD Cert.WgradKernelIdeal.τ).loc Cert.WgradKernelIdeal.main_arg2))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1)
      ∧ r.2.mem ((c.tc : Thread Cert.WgradReferenceIdeal.nD Cert.WgradReferenceIdeal.τ).loc Cert.WgradReferenceIdeal.main_arg2) = m ((c.tc : Thread Cert.WgradReferenceIdeal.nD Cert.WgradReferenceIdeal.τ).loc Cert.WgradReferenceIdeal.main_arg2))
      ∧ r.2.sem = fun _ => 0)

def quiescent_BackKernel [hBackKernel : Cert.BackKernel.Facts] : Prop :=
  ∀ (m : (ℓ : Loc Cert.BackKernel.nD Cert.BackKernel.τ Cert.BackKernel.sig) → Buf (Elt Bits) ℓ) (g : Dev Cert.BackKernel.nD → PrngReg), Pre_BackKernel m →
    θ_run (Cert.BackKernel.defs (F := Bits)) (onTc (τ := Cert.BackKernel.τ) (Cert.BackKernel.main (F := Bits))) ⟨m, fun _ => 0, g⟩ (fun r => (∀ c : Dev Cert.BackKernel.nD,
      r.2.mem ((c.tc : Thread Cert.BackKernel.nD Cert.BackKernel.τ).loc Cert.BackKernel.main_arg0) = m ((c.tc : Thread Cert.BackKernel.nD Cert.BackKernel.τ).loc Cert.BackKernel.main_arg0)
      ∧ r.2.mem ((c.tc : Thread Cert.BackKernel.nD Cert.BackKernel.τ).loc Cert.BackKernel.main_arg1) = m ((c.tc : Thread Cert.BackKernel.nD Cert.BackKernel.τ).loc Cert.BackKernel.main_arg1)
      ∧ r.2.mem ((c.tc : Thread Cert.BackKernel.nD Cert.BackKernel.τ).loc Cert.BackKernel.main_arg2) = m ((c.tc : Thread Cert.BackKernel.nD Cert.BackKernel.τ).loc Cert.BackKernel.main_arg2)
      ∧ r.2.mem ((c.tc : Thread Cert.BackKernel.nD Cert.BackKernel.τ).loc Cert.BackKernel.main_arg3) = m ((c.tc : Thread Cert.BackKernel.nD Cert.BackKernel.τ).loc Cert.BackKernel.main_arg3))
      ∧ r.2.sem = fun _ => 0)

def quiescent_BackKernelIdeal [hBackKernelIdeal : Cert.BackKernelIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg), Pre_BackKernelIdeal m →
    θ_run (Cert.BackKernelIdeal.defs (F := Ideal)) (onTc (τ := Cert.BackKernelIdeal.τ) (Cert.BackKernelIdeal.main (F := Ideal))) ⟨m, fun _ => 0, g⟩ (fun r => (∀ c : Dev Cert.BackKernelIdeal.nD,
      r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
      ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1)
      ∧ r.2.mem ((c.tc : Thread Cert.BackKernelIdeal.nD Cert.BackKernelIdeal.τ).loc Cert.BackKernelIdeal.main_arg2) = m ((c.tc : Thread Cert.BackKernelIdeal.nD Cert.BackKernelIdeal.τ).loc Cert.BackKernelIdeal.main_arg2)
      ∧ r.2.mem ((c.tc : Thread Cert.BackKernelIdeal.nD Cert.BackKernelIdeal.τ).loc Cert.BackKernelIdeal.main_arg3) = m ((c.tc : Thread Cert.BackKernelIdeal.nD Cert.BackKernelIdeal.τ).loc Cert.BackKernelIdeal.main_arg3))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3))
      ∧ r.2.sem = fun _ => 0)

def quiescent_AdamwKernel [hAdamwKernel : Cert.AdamwKernel.Facts] : Prop :=
  ∀ (m : (ℓ : Loc Cert.AdamwKernel.nD Cert.AdamwKernel.τ Cert.AdamwKernel.sig) → Buf (Elt Bits) ℓ) (g : Dev Cert.AdamwKernel.nD → PrngReg), Pre_AdamwKernel m →
    θ_run (Cert.AdamwKernel.defs (F := Bits)) (onTc (τ := Cert.AdamwKernel.τ) (Cert.AdamwKernel.main (F := Bits))) ⟨m, fun _ => 0, g⟩ (fun r => (∀ c : Dev Cert.AdamwKernel.nD,
      r.2.mem ((c.tc : Thread Cert.AdamwKernel.nD Cert.AdamwKernel.τ).loc Cert.AdamwKernel.main_arg0) = m ((c.tc : Thread Cert.AdamwKernel.nD Cert.AdamwKernel.τ).loc Cert.AdamwKernel.main_arg0)
      ∧ r.2.mem ((c.tc : Thread Cert.AdamwKernel.nD Cert.AdamwKernel.τ).loc Cert.AdamwKernel.main_arg1) = m ((c.tc : Thread Cert.AdamwKernel.nD Cert.AdamwKernel.τ).loc Cert.AdamwKernel.main_arg1)
      ∧ r.2.mem ((c.tc : Thread Cert.AdamwKernel.nD Cert.AdamwKernel.τ).loc Cert.AdamwKernel.main_arg2) = m ((c.tc : Thread Cert.AdamwKernel.nD Cert.AdamwKernel.τ).loc Cert.AdamwKernel.main_arg2)
      ∧ r.2.mem ((c.tc : Thread Cert.AdamwKernel.nD Cert.AdamwKernel.τ).loc Cert.AdamwKernel.main_arg3) = m ((c.tc : Thread Cert.AdamwKernel.nD Cert.AdamwKernel.τ).loc Cert.AdamwKernel.main_arg3))
      ∧ r.2.sem = fun _ => 0)

def quiescent_AdamwKernelIdeal [hAdamwKernelIdeal : Cert.AdamwKernelIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg), Pre_AdamwKernelIdeal m →
    θ_run (Cert.AdamwKernelIdeal.defs (F := Ideal)) (onTc (τ := Cert.AdamwKernelIdeal.τ) (Cert.AdamwKernelIdeal.main (F := Ideal))) ⟨m, fun _ => 0, g⟩ (fun r => (∀ c : Dev Cert.AdamwKernelIdeal.nD,
      r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
      ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
      ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
      ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v9) = v0 c
          ∧ r.2.mem ((c.tc : Thread Cert.LossReferenceIdeal.nD Cert.LossReferenceIdeal.τ).loc Cert.LossReferenceIdeal.main_v15) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_AttnKernel_AttnKernelIdeal : Prop :=
  IdealRules.named_const.Statement Cert.AttnKernelIdeal.κ "mask" .f32 0xF149F2CA#32 ⊥

def algebraic_AttnKernelIdeal_AttnReferenceIdeal_pre_finite_attn [hAttnKernelIdeal : Cert.AttnKernelIdeal.Facts] [hAttnReferenceIdeal : Cert.AttnReferenceIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attn m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v38_0)) (v1 : (c : Dev Cert.AttnKernelIdeal.nD) → Buf (Elt Ideal) ((c.tc : Thread Cert.AttnKernelIdeal.nD Cert.AttnKernelIdeal.τ).loc Cert.AttnKernelIdeal.main_v41)) (v2 : (c : Dev Cert.AttnKernelIdeal.nD) → Buf (Elt Ideal) ((c.tc : Thread Cert.AttnKernelIdeal.nD Cert.AttnKernelIdeal.τ).loc Cert.AttnKernelIdeal.main_v40_3)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v38_0) = v0 c
          ∧ r.2.mem ((c.tc : Thread Cert.AttnKernelIdeal.nD Cert.AttnKernelIdeal.τ).loc Cert.AttnKernelIdeal.main_v41) = v1 c
          ∧ r.2.mem ((c.tc : Thread Cert.AttnKernelIdeal.nD Cert.AttnKernelIdeal.τ).loc Cert.AttnKernelIdeal.main_v40_3) = v2 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v210) = v0 c
          ∧ r.2.mem ((c.tc : Thread Cert.AttnReferenceIdeal.nD Cert.AttnReferenceIdeal.τ).loc Cert.AttnReferenceIdeal.main_v211) = v1 c
          ∧ r.2.mem ((c.tc : Thread Cert.AttnReferenceIdeal.nD Cert.AttnReferenceIdeal.τ).loc Cert.AttnReferenceIdeal.main_v212) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_PostKernel_PostKernelIdeal : Prop :=
  True

def algebraic_PostKernelIdeal_PostReferenceIdeal_pre_finite_post [hPostKernelIdeal : Cert.PostKernelIdeal.Facts] [hPostReferenceIdeal : Cert.PostReferenceIdeal.Facts] [hPre_finite_post : Cert.Pre_finite_post.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal_finite_post m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)
      ∧ m' ((c.tc : Thread Cert.PostReferenceIdeal.nD Cert.PostReferenceIdeal.τ).loc Cert.PostReferenceIdeal.main_arg4) = m ((c.tc : Thread Cert.PostKernelIdeal.nD Cert.PostKernelIdeal.τ).loc Cert.PostKernelIdeal.main_arg4)) →
    ∃ (v0 : (c : Dev Cert.PostKernelIdeal.nD) → Buf (Elt Ideal) ((c.tc : Thread Cert.PostKernelIdeal.nD Cert.PostKernelIdeal.τ).loc Cert.PostKernelIdeal.main_v2_0)) (v1 : (c : Dev Cert.PostKernelIdeal.nD) → Buf (Elt Ideal) ((c.tc : Thread Cert.PostKernelIdeal.nD Cert.PostKernelIdeal.τ).loc Cert.PostKernelIdeal.main_v2_1)) (v2 : (c : Dev Cert.PostKernelIdeal.nD) → Buf (Elt Ideal) ((c.tc : Thread Cert.PostKernelIdeal.nD Cert.PostKernelIdeal.τ).loc Cert.PostKernelIdeal.main_v2_2)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v2_0) = v0 c
          ∧ r.2.mem ((c.tc : Thread Cert.PostKernelIdeal.nD Cert.PostKernelIdeal.τ).loc Cert.PostKernelIdeal.main_v2_1) = v1 c
          ∧ r.2.mem ((c.tc : Thread Cert.PostKernelIdeal.nD Cert.PostKernelIdeal.τ).loc Cert.PostKernelIdeal.main_v2_2) = v2 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v47) = v0 c
          ∧ r.2.mem ((c.tc : Thread Cert.PostReferenceIdeal.nD Cert.PostReferenceIdeal.τ).loc Cert.PostReferenceIdeal.main_v49) = v1 c
          ∧ r.2.mem ((c.tc : Thread Cert.PostReferenceIdeal.nD Cert.PostReferenceIdeal.τ).loc Cert.PostReferenceIdeal.main_v50) = v2 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4))

def preserves_BoundsKernel_BoundsKernelIdeal : Prop :=
  True

def algebraic_BoundsKernelIdeal_BoundsReferenceIdeal_pre_finite_bounds [hBoundsKernelIdeal : Cert.BoundsKernelIdeal.Facts] [hBoundsReferenceIdeal : Cert.BoundsReferenceIdeal.Facts] [hPre_finite_bounds : Cert.Pre_finite_bounds.Facts] : Prop :=
  ∀ (m : (ℓ : Loc Cert.BoundsKernelIdeal.nD Cert.BoundsKernelIdeal.τ Cert.BoundsKernelIdeal.sig) → Buf (Elt Ideal) ℓ) (g : Dev Cert.BoundsKernelIdeal.nD → PrngReg)
    (m' : (ℓ : Loc Cert.BoundsReferenceIdeal.nD Cert.BoundsReferenceIdeal.τ Cert.BoundsReferenceIdeal.sig) → Buf (Elt Ideal) ℓ) (g' : Dev Cert.BoundsReferenceIdeal.nD → PrngReg), Pre_BoundsKernelIdeal_finite_bounds m →
    (∀ c : Dev Cert.BoundsKernelIdeal.nD,
      m' ((c.tc : Thread Cert.BoundsReferenceIdeal.nD Cert.BoundsReferenceIdeal.τ).loc Cert.BoundsReferenceIdeal.main_arg0) = m ((c.tc : Thread Cert.BoundsKernelIdeal.nD Cert.BoundsKernelIdeal.τ).loc Cert.BoundsKernelIdeal.main_arg0)
      ∧ m' ((c.tc : Thread Cert.BoundsReferenceIdeal.nD Cert.BoundsReferenceIdeal.τ).loc Cert.BoundsReferenceIdeal.main_arg1) = m ((c.tc : Thread Cert.BoundsKernelIdeal.nD Cert.BoundsKernelIdeal.τ).loc Cert.BoundsKernelIdeal.main_arg1)) →
    ∃ (v0 : (c : Dev Cert.BoundsKernelIdeal.nD) → Buf (Elt Ideal) ((c.tc : Thread Cert.BoundsKernelIdeal.nD Cert.BoundsKernelIdeal.τ).loc Cert.BoundsKernelIdeal.main_v2)),
      θ_run (Cert.BoundsKernelIdeal.defs (F := Ideal)) (onTc (τ := Cert.BoundsKernelIdeal.τ) (Cert.BoundsKernelIdeal.main (F := Ideal))) ⟨m, fun _ => 0, g⟩ (fun r => ∀ c : Dev Cert.BoundsKernelIdeal.nD,
          r.2.mem ((c.tc : Thread Cert.BoundsKernelIdeal.nD Cert.BoundsKernelIdeal.τ).loc Cert.BoundsKernelIdeal.main_v2) = v0 c
          ∧ r.2.mem ((c.tc : Thread Cert.BoundsKernelIdeal.nD Cert.BoundsKernelIdeal.τ).loc Cert.BoundsKernelIdeal.main_arg0) = m ((c.tc : Thread Cert.BoundsKernelIdeal.nD Cert.BoundsKernelIdeal.τ).loc Cert.BoundsKernelIdeal.main_arg0)
          ∧ r.2.mem ((c.tc : Thread Cert.BoundsKernelIdeal.nD Cert.BoundsKernelIdeal.τ).loc Cert.BoundsKernelIdeal.main_arg1) = m ((c.tc : Thread Cert.BoundsKernelIdeal.nD Cert.BoundsKernelIdeal.τ).loc Cert.BoundsKernelIdeal.main_arg1))
      ∧ θ_run (Cert.BoundsReferenceIdeal.defs (F := Ideal)) (onTc (τ := Cert.BoundsReferenceIdeal.τ) (Cert.BoundsReferenceIdeal.main (F := Ideal))) ⟨m', fun _ => 0, g'⟩ (fun r => ∀ c : Dev Cert.BoundsReferenceIdeal.nD,
          r.2.mem ((c.tc : Thread Cert.BoundsReferenceIdeal.nD Cert.BoundsReferenceIdeal.τ).loc Cert.BoundsReferenceIdeal.main_v51) = v0 c
          ∧ r.2.mem ((c.tc : Thread Cert.BoundsReferenceIdeal.nD Cert.BoundsReferenceIdeal.τ).loc Cert.BoundsReferenceIdeal.main_arg0) = m' ((c.tc : Thread Cert.BoundsReferenceIdeal.nD Cert.BoundsReferenceIdeal.τ).loc Cert.BoundsReferenceIdeal.main_arg0)
          ∧ r.2.mem ((c.tc : Thread Cert.BoundsReferenceIdeal.nD Cert.BoundsReferenceIdeal.τ).loc Cert.BoundsReferenceIdeal.main_arg1) = m' ((c.tc : Thread Cert.BoundsReferenceIdeal.nD Cert.BoundsReferenceIdeal.τ).loc Cert.BoundsReferenceIdeal.main_arg1))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v18_0)) (v1 : (c : Dev Cert.FfnKernelIdeal.nD) → Buf (Elt Ideal) ((c.tc : Thread Cert.FfnKernelIdeal.nD Cert.FfnKernelIdeal.τ).loc Cert.FfnKernelIdeal.main_v18_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v18_0) = v0 c
          ∧ r.2.mem ((c.tc : Thread Cert.FfnKernelIdeal.nD Cert.FfnKernelIdeal.τ).loc Cert.FfnKernelIdeal.main_v18_1) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v7) = v0 c
          ∧ r.2.mem ((c.tc : Thread Cert.FfnReferenceIdeal.nD Cert.FfnReferenceIdeal.τ).loc Cert.FfnReferenceIdeal.main_v8) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_PleKernel_PleKernelIdeal : Prop :=
  True

def algebraic_PleKernelIdeal_PleReferenceIdeal_pre_finite_ple [hPleKernelIdeal : Cert.PleKernelIdeal.Facts] [hPleReferenceIdeal : Cert.PleReferenceIdeal.Facts] [hPre_finite_ple : Cert.Pre_finite_ple.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal_finite_ple m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)
      ∧ m' ((c.tc : Thread Cert.PleReferenceIdeal.nD Cert.PleReferenceIdeal.τ).loc Cert.PleReferenceIdeal.main_arg3) = m ((c.tc : Thread Cert.PleKernelIdeal.nD Cert.PleKernelIdeal.τ).loc Cert.PleKernelIdeal.main_arg3)
      ∧ m' ((c.tc : Thread Cert.PleReferenceIdeal.nD Cert.PleReferenceIdeal.τ).loc Cert.PleReferenceIdeal.main_arg4) = m ((c.tc : Thread Cert.PleKernelIdeal.nD Cert.PleKernelIdeal.τ).loc Cert.PleKernelIdeal.main_arg4)
      ∧ m' ((c.tc : Thread Cert.PleReferenceIdeal.nD Cert.PleReferenceIdeal.τ).loc Cert.PleReferenceIdeal.main_arg5) = m ((c.tc : Thread Cert.PleKernelIdeal.nD Cert.PleKernelIdeal.τ).loc Cert.PleKernelIdeal.main_arg5)
      ∧ m' ((c.tc : Thread Cert.PleReferenceIdeal.nD Cert.PleReferenceIdeal.τ).loc Cert.PleReferenceIdeal.main_arg6) = m ((c.tc : Thread Cert.PleKernelIdeal.nD Cert.PleKernelIdeal.τ).loc Cert.PleKernelIdeal.main_arg6)) →
    ∃ (v0 : (c : Dev Cert.PleKernelIdeal.nD) → Buf (Elt Ideal) ((c.tc : Thread Cert.PleKernelIdeal.nD Cert.PleKernelIdeal.τ).loc Cert.PleKernelIdeal.main_v37_0)) (v1 : (c : Dev Cert.PleKernelIdeal.nD) → Buf (Elt Ideal) ((c.tc : Thread Cert.PleKernelIdeal.nD Cert.PleKernelIdeal.τ).loc Cert.PleKernelIdeal.main_v37_2)) (v2 : (c : Dev Cert.PleKernelIdeal.nD) → Buf (Elt Ideal) ((c.tc : Thread Cert.PleKernelIdeal.nD Cert.PleKernelIdeal.τ).loc Cert.PleKernelIdeal.main_v37_3)) (v3 : (c : Dev Cert.PleKernelIdeal.nD) → Buf (Elt Ideal) ((c.tc : Thread Cert.PleKernelIdeal.nD Cert.PleKernelIdeal.τ).loc Cert.PleKernelIdeal.main_v37_4)) (v4 : (c : Dev Cert.PleKernelIdeal.nD) → Buf (Elt Ideal) ((c.tc : Thread Cert.PleKernelIdeal.nD Cert.PleKernelIdeal.τ).loc Cert.PleKernelIdeal.main_v37_5)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v37_0) = v0 c
          ∧ r.2.mem ((c.tc : Thread Cert.PleKernelIdeal.nD Cert.PleKernelIdeal.τ).loc Cert.PleKernelIdeal.main_v37_2) = v1 c
          ∧ r.2.mem ((c.tc : Thread Cert.PleKernelIdeal.nD Cert.PleKernelIdeal.τ).loc Cert.PleKernelIdeal.main_v37_3) = v2 c
          ∧ r.2.mem ((c.tc : Thread Cert.PleKernelIdeal.nD Cert.PleKernelIdeal.τ).loc Cert.PleKernelIdeal.main_v37_4) = v3 c
          ∧ r.2.mem ((c.tc : Thread Cert.PleKernelIdeal.nD Cert.PleKernelIdeal.τ).loc Cert.PleKernelIdeal.main_v37_5) = v4 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
          ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
          ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
          ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5)
          ∧ r.2.mem ((c.tc : Thread Cert.PleKernelIdeal.nD Cert.PleKernelIdeal.τ).loc Cert.PleKernelIdeal.main_arg6) = m ((c.tc : Thread Cert.PleKernelIdeal.nD Cert.PleKernelIdeal.τ).loc Cert.PleKernelIdeal.main_arg6))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v81) = v0 c
          ∧ r.2.mem ((c.tc : Thread Cert.PleReferenceIdeal.nD Cert.PleReferenceIdeal.τ).loc Cert.PleReferenceIdeal.main_v82) = v1 c
          ∧ r.2.mem ((c.tc : Thread Cert.PleReferenceIdeal.nD Cert.PleReferenceIdeal.τ).loc Cert.PleReferenceIdeal.main_v83) = v2 c
          ∧ r.2.mem ((c.tc : Thread Cert.PleReferenceIdeal.nD Cert.PleReferenceIdeal.τ).loc Cert.PleReferenceIdeal.main_v84) = v3 c
          ∧ r.2.mem ((c.tc : Thread Cert.PleReferenceIdeal.nD Cert.PleReferenceIdeal.τ).loc Cert.PleReferenceIdeal.main_v85) = v4 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5)
          ∧ r.2.mem ((c.tc : Thread Cert.PleReferenceIdeal.nD Cert.PleReferenceIdeal.τ).loc Cert.PleReferenceIdeal.main_arg6) = m' ((c.tc : Thread Cert.PleReferenceIdeal.nD Cert.PleReferenceIdeal.τ).loc Cert.PleReferenceIdeal.main_arg6))

def preserves_NormKernel_NormKernelIdeal : Prop :=
  True

def algebraic_NormKernelIdeal_NormReferenceIdeal_pre_finite_norm [hNormKernelIdeal : Cert.NormKernelIdeal.Facts] [hNormReferenceIdeal : Cert.NormReferenceIdeal.Facts] [hPre_finite_norm : Cert.Pre_finite_norm.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_finite_norm m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)
      ∧ m' ((c.tc : Thread Cert.NormReferenceIdeal.nD Cert.NormReferenceIdeal.τ).loc Cert.NormReferenceIdeal.main_arg5) = m ((c.tc : Thread Cert.NormKernelIdeal.nD Cert.NormKernelIdeal.τ).loc Cert.NormKernelIdeal.main_arg5)
      ∧ m' ((c.tc : Thread Cert.NormReferenceIdeal.nD Cert.NormReferenceIdeal.τ).loc Cert.NormReferenceIdeal.main_arg6) = m ((c.tc : Thread Cert.NormKernelIdeal.nD Cert.NormKernelIdeal.τ).loc Cert.NormKernelIdeal.main_arg6)) →
    ∃ (v0 : (c : Dev Cert.NormKernelIdeal.nD) → Buf (Elt Ideal) ((c.tc : Thread Cert.NormKernelIdeal.nD Cert.NormKernelIdeal.τ).loc Cert.NormKernelIdeal.main_v25_0)) (v1 : (c : Dev Cert.NormKernelIdeal.nD) → Buf (Elt Ideal) ((c.tc : Thread Cert.NormKernelIdeal.nD Cert.NormKernelIdeal.τ).loc Cert.NormKernelIdeal.main_v25_2)) (v2 : (c : Dev Cert.NormKernelIdeal.nD) → Buf (Elt Ideal) ((c.tc : Thread Cert.NormKernelIdeal.nD Cert.NormKernelIdeal.τ).loc Cert.NormKernelIdeal.main_v25_3)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v25_0) = v0 c
          ∧ r.2.mem ((c.tc : Thread Cert.NormKernelIdeal.nD Cert.NormKernelIdeal.τ).loc Cert.NormKernelIdeal.main_v25_2) = v1 c
          ∧ r.2.mem ((c.tc : Thread Cert.NormKernelIdeal.nD Cert.NormKernelIdeal.τ).loc Cert.NormKernelIdeal.main_v25_3) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
          ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
          ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v71) = v0 c
          ∧ r.2.mem ((c.tc : Thread Cert.NormReferenceIdeal.nD Cert.NormReferenceIdeal.τ).loc Cert.NormReferenceIdeal.main_v72) = v1 c
          ∧ r.2.mem ((c.tc : Thread Cert.NormReferenceIdeal.nD Cert.NormReferenceIdeal.τ).loc Cert.NormReferenceIdeal.main_v73) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5)
          ∧ r.2.mem ((c.tc : Thread Cert.NormReferenceIdeal.nD Cert.NormReferenceIdeal.τ).loc Cert.NormReferenceIdeal.main_arg6) = m' ((c.tc : Thread Cert.NormReferenceIdeal.nD Cert.NormReferenceIdeal.τ).loc Cert.NormReferenceIdeal.main_arg6))

def preserves_SwigluKernel_SwigluKernelIdeal : Prop :=
  True

def algebraic_SwigluKernelIdeal_SwigluReferenceIdeal_pre_finite_swiglu [hSwigluKernelIdeal : Cert.SwigluKernelIdeal.Facts] [hSwigluReferenceIdeal : Cert.SwigluReferenceIdeal.Facts] [hPre_finite_swiglu : Cert.Pre_finite_swiglu.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluKernelIdeal_finite_swiglu m →
    (∀ c : Dev Cert.SwigluKernelIdeal.nD,
      m' ((c.tc : Thread Cert.SwigluReferenceIdeal.nD Cert.SwigluReferenceIdeal.τ).loc Cert.SwigluReferenceIdeal.main_arg0) = m ((c.tc : Thread Cert.SwigluKernelIdeal.nD Cert.SwigluKernelIdeal.τ).loc Cert.SwigluKernelIdeal.main_arg0)
      ∧ m' ((c.tc : Thread Cert.SwigluReferenceIdeal.nD Cert.SwigluReferenceIdeal.τ).loc Cert.SwigluReferenceIdeal.main_arg1) = m ((c.tc : Thread Cert.SwigluKernelIdeal.nD Cert.SwigluKernelIdeal.τ).loc Cert.SwigluKernelIdeal.main_arg1)) →
    ∃ (v0 : (c : Dev Cert.SwigluKernelIdeal.nD) → Buf (Elt Ideal) ((c.tc : Thread Cert.SwigluKernelIdeal.nD Cert.SwigluKernelIdeal.τ).loc Cert.SwigluKernelIdeal.main_v4_0)) (v1 : (c : Dev Cert.SwigluKernelIdeal.nD) → Buf (Elt Ideal) ((c.tc : Thread Cert.SwigluKernelIdeal.nD Cert.SwigluKernelIdeal.τ).loc Cert.SwigluKernelIdeal.main_v4_1)) (v2 : (c : Dev Cert.SwigluKernelIdeal.nD) → Buf (Elt Ideal) ((c.tc : Thread Cert.SwigluKernelIdeal.nD Cert.SwigluKernelIdeal.τ).loc Cert.SwigluKernelIdeal.main_v4_2)),
      θ_run (Cert.SwigluKernelIdeal.defs (F := Ideal)) (onTc (τ := Cert.SwigluKernelIdeal.τ) (Cert.SwigluKernelIdeal.main (F := Ideal))) ⟨m, fun _ => 0, g⟩ (fun r => ∀ c : Dev Cert.SwigluKernelIdeal.nD,
          r.2.mem ((c.tc : Thread Cert.SwigluKernelIdeal.nD Cert.SwigluKernelIdeal.τ).loc Cert.SwigluKernelIdeal.main_v4_0) = v0 c
          ∧ r.2.mem ((c.tc : Thread Cert.SwigluKernelIdeal.nD Cert.SwigluKernelIdeal.τ).loc Cert.SwigluKernelIdeal.main_v4_1) = v1 c
          ∧ r.2.mem ((c.tc : Thread Cert.SwigluKernelIdeal.nD Cert.SwigluKernelIdeal.τ).loc Cert.SwigluKernelIdeal.main_v4_2) = v2 c
          ∧ r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
          ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v9) = v0 c
          ∧ r.2.mem ((c.tc : Thread Cert.SwigluReferenceIdeal.nD Cert.SwigluReferenceIdeal.τ).loc Cert.SwigluReferenceIdeal.main_v10) = v1 c
          ∧ r.2.mem ((c.tc : Thread Cert.SwigluReferenceIdeal.nD Cert.SwigluReferenceIdeal.τ).loc Cert.SwigluReferenceIdeal.main_v11) = v2 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1))

def preserves_ResnormKernel_ResnormKernelIdeal : Prop :=
  True

def algebraic_ResnormKernelIdeal_ResnormReferenceIdeal [hResnormKernelIdeal : Cert.ResnormKernelIdeal.Facts] [hResnormReferenceIdeal : Cert.ResnormReferenceIdeal.Facts] : Prop :=
  ∀ (m : (ℓ : Loc Cert.ResnormKernelIdeal.nD Cert.ResnormKernelIdeal.τ Cert.ResnormKernelIdeal.sig) → Buf (Elt Ideal) ℓ) (g : Dev Cert.ResnormKernelIdeal.nD → PrngReg)
    (m' : (ℓ : Loc Cert.ResnormReferenceIdeal.nD Cert.ResnormReferenceIdeal.τ Cert.ResnormReferenceIdeal.sig) → Buf (Elt Ideal) ℓ) (g' : Dev Cert.ResnormReferenceIdeal.nD → PrngReg), Pre_ResnormKernelIdeal m →
    (∀ c : Dev Cert.ResnormKernelIdeal.nD,
      m' ((c.tc : Thread Cert.ResnormReferenceIdeal.nD Cert.ResnormReferenceIdeal.τ).loc Cert.ResnormReferenceIdeal.main_arg0) = m ((c.tc : Thread Cert.ResnormKernelIdeal.nD Cert.ResnormKernelIdeal.τ).loc Cert.ResnormKernelIdeal.main_arg0)
      ∧ m' ((c.tc : Thread Cert.ResnormReferenceIdeal.nD Cert.ResnormReferenceIdeal.τ).loc Cert.ResnormReferenceIdeal.main_arg1) = m ((c.tc : Thread Cert.ResnormKernelIdeal.nD Cert.ResnormKernelIdeal.τ).loc Cert.ResnormKernelIdeal.main_arg1)
      ∧ m' ((c.tc : Thread Cert.ResnormReferenceIdeal.nD Cert.ResnormReferenceIdeal.τ).loc Cert.ResnormReferenceIdeal.main_arg2) = m ((c.tc : Thread Cert.ResnormKernelIdeal.nD Cert.ResnormKernelIdeal.τ).loc Cert.ResnormKernelIdeal.main_arg2)
      ∧ m' ((c.tc : Thread Cert.ResnormReferenceIdeal.nD Cert.ResnormReferenceIdeal.τ).loc Cert.ResnormReferenceIdeal.main_arg3) = m ((c.tc : Thread Cert.ResnormKernelIdeal.nD Cert.ResnormKernelIdeal.τ).loc Cert.ResnormKernelIdeal.main_arg3)
      ∧ m' ((c.tc : Thread Cert.ResnormReferenceIdeal.nD Cert.ResnormReferenceIdeal.τ).loc Cert.ResnormReferenceIdeal.main_arg4) = m ((c.tc : Thread Cert.ResnormKernelIdeal.nD Cert.ResnormKernelIdeal.τ).loc Cert.ResnormKernelIdeal.main_arg4)) →
    ∃ (v0 : (c : Dev Cert.ResnormKernelIdeal.nD) → Buf (Elt Ideal) ((c.tc : Thread Cert.ResnormKernelIdeal.nD Cert.ResnormKernelIdeal.τ).loc Cert.ResnormKernelIdeal.main_v4_0)) (v1 : (c : Dev Cert.ResnormKernelIdeal.nD) → Buf (Elt Ideal) ((c.tc : Thread Cert.ResnormKernelIdeal.nD Cert.ResnormKernelIdeal.τ).loc Cert.ResnormKernelIdeal.main_v4_1)) (v2 : (c : Dev Cert.ResnormKernelIdeal.nD) → Buf (Elt Ideal) ((c.tc : Thread Cert.ResnormKernelIdeal.nD Cert.ResnormKernelIdeal.τ).loc Cert.ResnormKernelIdeal.main_v4_2)) (v3 : (c : Dev Cert.ResnormKernelIdeal.nD) → Buf (Elt Ideal) ((c.tc : Thread Cert.ResnormKernelIdeal.nD Cert.ResnormKernelIdeal.τ).loc Cert.ResnormKernelIdeal.main_v4_3)),
      θ_run (Cert.ResnormKernelIdeal.defs (F := Ideal)) (onTc (τ := Cert.ResnormKernelIdeal.τ) (Cert.ResnormKernelIdeal.main (F := Ideal))) ⟨m, fun _ => 0, g⟩ (fun r => ∀ c : Dev Cert.ResnormKernelIdeal.nD,
          r.2.mem ((c.tc : Thread Cert.ResnormKernelIdeal.nD Cert.ResnormKernelIdeal.τ).loc Cert.ResnormKernelIdeal.main_v4_0) = v0 c
          ∧ r.2.mem ((c.tc : Thread Cert.ResnormKernelIdeal.nD Cert.ResnormKernelIdeal.τ).loc Cert.ResnormKernelIdeal.main_v4_1) = v1 c
          ∧ r.2.mem ((c.tc : Thread Cert.ResnormKernelIdeal.nD Cert.ResnormKernelIdeal.τ).loc Cert.ResnormKernelIdeal.main_v4_2) = v2 c
          ∧ r.2.mem ((c.tc : Thread Cert.ResnormKernelIdeal.nD Cert.ResnormKernelIdeal.τ).loc Cert.ResnormKernelIdeal.main_v4_3) = v3 c
          ∧ r.2.mem ((c.tc : Thread Cert.ResnormKernelIdeal.nD Cert.ResnormKernelIdeal.τ).loc Cert.ResnormKernelIdeal.main_arg0) = m ((c.tc : Thread Cert.ResnormKernelIdeal.nD Cert.ResnormKernelIdeal.τ).loc Cert.ResnormKernelIdeal.main_arg0)
          ∧ r.2.mem ((c.tc : Thread Cert.ResnormKernelIdeal.nD Cert.ResnormKernelIdeal.τ).loc Cert.ResnormKernelIdeal.main_arg1) = m ((c.tc : Thread Cert.ResnormKernelIdeal.nD Cert.ResnormKernelIdeal.τ).loc Cert.ResnormKernelIdeal.main_arg1)
          ∧ r.2.mem ((c.tc : Thread Cert.ResnormKernelIdeal.nD Cert.ResnormKernelIdeal.τ).loc Cert.ResnormKernelIdeal.main_arg2) = m ((c.tc : Thread Cert.ResnormKernelIdeal.nD Cert.ResnormKernelIdeal.τ).loc Cert.ResnormKernelIdeal.main_arg2)
          ∧ r.2.mem ((c.tc : Thread Cert.ResnormKernelIdeal.nD Cert.ResnormKernelIdeal.τ).loc Cert.ResnormKernelIdeal.main_arg3) = m ((c.tc : Thread Cert.ResnormKernelIdeal.nD Cert.ResnormKernelIdeal.τ).loc Cert.ResnormKernelIdeal.main_arg3)
          ∧ r.2.mem ((c.tc : Thread Cert.ResnormKernelIdeal.nD Cert.ResnormKernelIdeal.τ).loc Cert.ResnormKernelIdeal.main_arg4) = m ((c.tc : Thread Cert.ResnormKernelIdeal.nD Cert.ResnormKernelIdeal.τ).loc Cert.ResnormKernelIdeal.main_arg4))
      ∧ θ_run (Cert.ResnormReferenceIdeal.defs (F := Ideal)) (onTc (τ := Cert.ResnormReferenceIdeal.τ) (Cert.ResnormReferenceIdeal.main (F := Ideal))) ⟨m', fun _ => 0, g'⟩ (fun r => ∀ c : Dev Cert.ResnormReferenceIdeal.nD,
          r.2.mem ((c.tc : Thread Cert.ResnormReferenceIdeal.nD Cert.ResnormReferenceIdeal.τ).loc Cert.ResnormReferenceIdeal.main_v27) = v0 c
          ∧ r.2.mem ((c.tc : Thread Cert.ResnormReferenceIdeal.nD Cert.ResnormReferenceIdeal.τ).loc Cert.ResnormReferenceIdeal.main_v28) = v1 c
          ∧ r.2.mem ((c.tc : Thread Cert.ResnormReferenceIdeal.nD Cert.ResnormReferenceIdeal.τ).loc Cert.ResnormReferenceIdeal.main_v29) = v2 c
          ∧ r.2.mem ((c.tc : Thread Cert.ResnormReferenceIdeal.nD Cert.ResnormReferenceIdeal.τ).loc Cert.ResnormReferenceIdeal.main_v17) = v3 c
          ∧ r.2.mem ((c.tc : Thread Cert.ResnormReferenceIdeal.nD Cert.ResnormReferenceIdeal.τ).loc Cert.ResnormReferenceIdeal.main_arg0) = m' ((c.tc : Thread Cert.ResnormReferenceIdeal.nD Cert.ResnormReferenceIdeal.τ).loc Cert.ResnormReferenceIdeal.main_arg0)
          ∧ r.2.mem ((c.tc : Thread Cert.ResnormReferenceIdeal.nD Cert.ResnormReferenceIdeal.τ).loc Cert.ResnormReferenceIdeal.main_arg1) = m' ((c.tc : Thread Cert.ResnormReferenceIdeal.nD Cert.ResnormReferenceIdeal.τ).loc Cert.ResnormReferenceIdeal.main_arg1)
          ∧ r.2.mem ((c.tc : Thread Cert.ResnormReferenceIdeal.nD Cert.ResnormReferenceIdeal.τ).loc Cert.ResnormReferenceIdeal.main_arg2) = m' ((c.tc : Thread Cert.ResnormReferenceIdeal.nD Cert.ResnormReferenceIdeal.τ).loc Cert.ResnormReferenceIdeal.main_arg2)
          ∧ r.2.mem ((c.tc : Thread Cert.ResnormReferenceIdeal.nD Cert.ResnormReferenceIdeal.τ).loc Cert.ResnormReferenceIdeal.main_arg3) = m' ((c.tc : Thread Cert.ResnormReferenceIdeal.nD Cert.ResnormReferenceIdeal.τ).loc Cert.ResnormReferenceIdeal.main_arg3)
          ∧ r.2.mem ((c.tc : Thread Cert.ResnormReferenceIdeal.nD Cert.ResnormReferenceIdeal.τ).loc Cert.ResnormReferenceIdeal.main_arg4) = m' ((c.tc : Thread Cert.ResnormReferenceIdeal.nD Cert.ResnormReferenceIdeal.τ).loc Cert.ResnormReferenceIdeal.main_arg4))

def preserves_EmbedKernel_EmbedKernelIdeal : Prop :=
  True

def algebraic_EmbedKernelIdeal_EmbedReferenceIdeal [hEmbedKernelIdeal : Cert.EmbedKernelIdeal.Facts] [hEmbedReferenceIdeal : Cert.EmbedReferenceIdeal.Facts] : Prop :=
  ∀ (m : (ℓ : Loc Cert.EmbedKernelIdeal.nD Cert.EmbedKernelIdeal.τ Cert.EmbedKernelIdeal.sig) → Buf (Elt Ideal) ℓ) (g : Dev Cert.EmbedKernelIdeal.nD → PrngReg)
    (m' : (ℓ : Loc Cert.EmbedReferenceIdeal.nD Cert.EmbedReferenceIdeal.τ Cert.EmbedReferenceIdeal.sig) → Buf (Elt Ideal) ℓ) (g' : Dev Cert.EmbedReferenceIdeal.nD → PrngReg), Pre_EmbedKernelIdeal m →
    (∀ c : Dev Cert.EmbedKernelIdeal.nD,
      m' ((c.tc : Thread Cert.EmbedReferenceIdeal.nD Cert.EmbedReferenceIdeal.τ).loc Cert.EmbedReferenceIdeal.main_arg0) = m ((c.tc : Thread Cert.EmbedKernelIdeal.nD Cert.EmbedKernelIdeal.τ).loc Cert.EmbedKernelIdeal.main_arg0)
      ∧ m' ((c.tc : Thread Cert.EmbedReferenceIdeal.nD Cert.EmbedReferenceIdeal.τ).loc Cert.EmbedReferenceIdeal.main_arg1) = m ((c.tc : Thread Cert.EmbedKernelIdeal.nD Cert.EmbedKernelIdeal.τ).loc Cert.EmbedKernelIdeal.main_arg1)
      ∧ m' ((c.tc : Thread Cert.EmbedReferenceIdeal.nD Cert.EmbedReferenceIdeal.τ).loc Cert.EmbedReferenceIdeal.main_arg2) = m ((c.tc : Thread Cert.EmbedKernelIdeal.nD Cert.EmbedKernelIdeal.τ).loc Cert.EmbedKernelIdeal.main_arg2)
      ∧ m' ((c.tc : Thread Cert.EmbedReferenceIdeal.nD Cert.EmbedReferenceIdeal.τ).loc Cert.EmbedReferenceIdeal.main_arg3) = m ((c.tc : Thread Cert.EmbedKernelIdeal.nD Cert.EmbedKernelIdeal.τ).loc Cert.EmbedKernelIdeal.main_arg3)) →
    ∃ (v0 : (c : Dev Cert.EmbedKernelIdeal.nD) → Buf (Elt Ideal) ((c.tc : Thread Cert.EmbedKernelIdeal.nD Cert.EmbedKernelIdeal.τ).loc Cert.EmbedKernelIdeal.main_v4_0)) (v1 : (c : Dev Cert.EmbedKernelIdeal.nD) → Buf (Elt Ideal) ((c.tc : Thread Cert.EmbedKernelIdeal.nD Cert.EmbedKernelIdeal.τ).loc Cert.EmbedKernelIdeal.main_v4_1)) (v2 : (c : Dev Cert.EmbedKernelIdeal.nD) → Buf (Elt Ideal) ((c.tc : Thread Cert.EmbedKernelIdeal.nD Cert.EmbedKernelIdeal.τ).loc Cert.EmbedKernelIdeal.main_v4_2)) (v3 : (c : Dev Cert.EmbedKernelIdeal.nD) → Buf (Elt Ideal) ((c.tc : Thread Cert.EmbedKernelIdeal.nD Cert.EmbedKernelIdeal.τ).loc Cert.EmbedKernelIdeal.main_v4_3)),
      θ_run (Cert.EmbedKernelIdeal.defs (F := Ideal)) (onTc (τ := Cert.EmbedKernelIdeal.τ) (Cert.EmbedKernelIdeal.main (F := Ideal))) ⟨m, fun _ => 0, g⟩ (fun r => ∀ c : Dev Cert.EmbedKernelIdeal.nD,
          r.2.mem ((c.tc : Thread Cert.EmbedKernelIdeal.nD Cert.EmbedKernelIdeal.τ).loc Cert.EmbedKernelIdeal.main_v4_0) = v0 c
          ∧ r.2.mem ((c.tc : Thread Cert.EmbedKernelIdeal.nD Cert.EmbedKernelIdeal.τ).loc Cert.EmbedKernelIdeal.main_v4_1) = v1 c
          ∧ r.2.mem ((c.tc : Thread Cert.EmbedKernelIdeal.nD Cert.EmbedKernelIdeal.τ).loc Cert.EmbedKernelIdeal.main_v4_2) = v2 c
          ∧ r.2.mem ((c.tc : Thread Cert.EmbedKernelIdeal.nD Cert.EmbedKernelIdeal.τ).loc Cert.EmbedKernelIdeal.main_v4_3) = v3 c
          ∧ r.2.mem ((c.tc : Thread Cert.EmbedKernelIdeal.nD Cert.EmbedKernelIdeal.τ).loc Cert.EmbedKernelIdeal.main_arg0) = m ((c.tc : Thread Cert.EmbedKernelIdeal.nD Cert.EmbedKernelIdeal.τ).loc Cert.EmbedKernelIdeal.main_arg0)
          ∧ r.2.mem ((c.tc : Thread Cert.EmbedKernelIdeal.nD Cert.EmbedKernelIdeal.τ).loc Cert.EmbedKernelIdeal.main_arg1) = m ((c.tc : Thread Cert.EmbedKernelIdeal.nD Cert.EmbedKernelIdeal.τ).loc Cert.EmbedKernelIdeal.main_arg1)
          ∧ r.2.mem ((c.tc : Thread Cert.EmbedKernelIdeal.nD Cert.EmbedKernelIdeal.τ).loc Cert.EmbedKernelIdeal.main_arg2) = m ((c.tc : Thread Cert.EmbedKernelIdeal.nD Cert.EmbedKernelIdeal.τ).loc Cert.EmbedKernelIdeal.main_arg2)
          ∧ r.2.mem ((c.tc : Thread Cert.EmbedKernelIdeal.nD Cert.EmbedKernelIdeal.τ).loc Cert.EmbedKernelIdeal.main_arg3) = m ((c.tc : Thread Cert.EmbedKernelIdeal.nD Cert.EmbedKernelIdeal.τ).loc Cert.EmbedKernelIdeal.main_arg3))
      ∧ θ_run (Cert.EmbedReferenceIdeal.defs (F := Ideal)) (onTc (τ := Cert.EmbedReferenceIdeal.τ) (Cert.EmbedReferenceIdeal.main (F := Ideal))) ⟨m', fun _ => 0, g'⟩ (fun r => ∀ c : Dev Cert.EmbedReferenceIdeal.nD,
          r.2.mem ((c.tc : Thread Cert.EmbedReferenceIdeal.nD Cert.EmbedReferenceIdeal.τ).loc Cert.EmbedReferenceIdeal.main_v9) = v0 c
          ∧ r.2.mem ((c.tc : Thread Cert.EmbedReferenceIdeal.nD Cert.EmbedReferenceIdeal.τ).loc Cert.EmbedReferenceIdeal.main_v10) = v1 c
          ∧ r.2.mem ((c.tc : Thread Cert.EmbedReferenceIdeal.nD Cert.EmbedReferenceIdeal.τ).loc Cert.EmbedReferenceIdeal.main_v11) = v2 c
          ∧ r.2.mem ((c.tc : Thread Cert.EmbedReferenceIdeal.nD Cert.EmbedReferenceIdeal.τ).loc Cert.EmbedReferenceIdeal.main_v12) = v3 c
          ∧ r.2.mem ((c.tc : Thread Cert.EmbedReferenceIdeal.nD Cert.EmbedReferenceIdeal.τ).loc Cert.EmbedReferenceIdeal.main_arg0) = m' ((c.tc : Thread Cert.EmbedReferenceIdeal.nD Cert.EmbedReferenceIdeal.τ).loc Cert.EmbedReferenceIdeal.main_arg0)
          ∧ r.2.mem ((c.tc : Thread Cert.EmbedReferenceIdeal.nD Cert.EmbedReferenceIdeal.τ).loc Cert.EmbedReferenceIdeal.main_arg1) = m' ((c.tc : Thread Cert.EmbedReferenceIdeal.nD Cert.EmbedReferenceIdeal.τ).loc Cert.EmbedReferenceIdeal.main_arg1)
          ∧ r.2.mem ((c.tc : Thread Cert.EmbedReferenceIdeal.nD Cert.EmbedReferenceIdeal.τ).loc Cert.EmbedReferenceIdeal.main_arg2) = m' ((c.tc : Thread Cert.EmbedReferenceIdeal.nD Cert.EmbedReferenceIdeal.τ).loc Cert.EmbedReferenceIdeal.main_arg2)
          ∧ r.2.mem ((c.tc : Thread Cert.EmbedReferenceIdeal.nD Cert.EmbedReferenceIdeal.τ).loc Cert.EmbedReferenceIdeal.main_arg3) = m' ((c.tc : Thread Cert.EmbedReferenceIdeal.nD Cert.EmbedReferenceIdeal.τ).loc Cert.EmbedReferenceIdeal.main_arg3))

def preserves_GatedKernel_GatedKernelIdeal : Prop :=
  True

def algebraic_GatedKernelIdeal_GatedReferenceIdeal [hGatedKernelIdeal : Cert.GatedKernelIdeal.Facts] [hGatedReferenceIdeal : Cert.GatedReferenceIdeal.Facts] : Prop :=
  ∀ (m : (ℓ : Loc Cert.GatedKernelIdeal.nD Cert.GatedKernelIdeal.τ Cert.GatedKernelIdeal.sig) → Buf (Elt Ideal) ℓ) (g : Dev Cert.GatedKernelIdeal.nD → PrngReg)
    (m' : (ℓ : Loc Cert.GatedReferenceIdeal.nD Cert.GatedReferenceIdeal.τ Cert.GatedReferenceIdeal.sig) → Buf (Elt Ideal) ℓ) (g' : Dev Cert.GatedReferenceIdeal.nD → PrngReg), Pre_GatedKernelIdeal m →
    (∀ c : Dev Cert.GatedKernelIdeal.nD,
      m' ((c.tc : Thread Cert.GatedReferenceIdeal.nD Cert.GatedReferenceIdeal.τ).loc Cert.GatedReferenceIdeal.main_arg0) = m ((c.tc : Thread Cert.GatedKernelIdeal.nD Cert.GatedKernelIdeal.τ).loc Cert.GatedKernelIdeal.main_arg0)
      ∧ m' ((c.tc : Thread Cert.GatedReferenceIdeal.nD Cert.GatedReferenceIdeal.τ).loc Cert.GatedReferenceIdeal.main_arg1) = m ((c.tc : Thread Cert.GatedKernelIdeal.nD Cert.GatedKernelIdeal.τ).loc Cert.GatedKernelIdeal.main_arg1)
      ∧ m' ((c.tc : Thread Cert.GatedReferenceIdeal.nD Cert.GatedReferenceIdeal.τ).loc Cert.GatedReferenceIdeal.main_arg2) = m ((c.tc : Thread Cert.GatedKernelIdeal.nD Cert.GatedKernelIdeal.τ).loc Cert.GatedKernelIdeal.main_arg2)
      ∧ m' ((c.tc : Thread Cert.GatedReferenceIdeal.nD Cert.GatedReferenceIdeal.τ).loc Cert.GatedReferenceIdeal.main_arg3) = m ((c.tc : Thread Cert.GatedKernelIdeal.nD Cert.GatedKernelIdeal.τ).loc Cert.GatedKernelIdeal.main_arg3)) →
    ∃ (v0 : (c : Dev Cert.GatedKernelIdeal.nD) → Buf (Elt Ideal) ((c.tc : Thread Cert.GatedKernelIdeal.nD Cert.GatedKernelIdeal.τ).loc Cert.GatedKernelIdeal.main_v1)),
      θ_run (Cert.GatedKernelIdeal.defs (F := Ideal)) (onTc (τ := Cert.GatedKernelIdeal.τ) (Cert.GatedKernelIdeal.main (F := Ideal))) ⟨m, fun _ => 0, g⟩ (fun r => ∀ c : Dev Cert.GatedKernelIdeal.nD,
          r.2.mem ((c.tc : Thread Cert.GatedKernelIdeal.nD Cert.GatedKernelIdeal.τ).loc Cert.GatedKernelIdeal.main_v1) = v0 c
          ∧ r.2.mem ((c.tc : Thread Cert.GatedKernelIdeal.nD Cert.GatedKernelIdeal.τ).loc Cert.GatedKernelIdeal.main_arg0) = m ((c.tc : Thread Cert.GatedKernelIdeal.nD Cert.GatedKernelIdeal.τ).loc Cert.GatedKernelIdeal.main_arg0)
          ∧ r.2.mem ((c.tc : Thread Cert.GatedKernelIdeal.nD Cert.GatedKernelIdeal.τ).loc Cert.GatedKernelIdeal.main_arg1) = m ((c.tc : Thread Cert.GatedKernelIdeal.nD Cert.GatedKernelIdeal.τ).loc Cert.GatedKernelIdeal.main_arg1)
          ∧ r.2.mem ((c.tc : Thread Cert.GatedKernelIdeal.nD Cert.GatedKernelIdeal.τ).loc Cert.GatedKernelIdeal.main_arg2) = m ((c.tc : Thread Cert.GatedKernelIdeal.nD Cert.GatedKernelIdeal.τ).loc Cert.GatedKernelIdeal.main_arg2)
          ∧ r.2.mem ((c.tc : Thread Cert.GatedKernelIdeal.nD Cert.GatedKernelIdeal.τ).loc Cert.GatedKernelIdeal.main_arg3) = m ((c.tc : Thread Cert.GatedKernelIdeal.nD Cert.GatedKernelIdeal.τ).loc Cert.GatedKernelIdeal.main_arg3))
      ∧ θ_run (Cert.GatedReferenceIdeal.defs (F := Ideal)) (onTc (τ := Cert.GatedReferenceIdeal.τ) (Cert.GatedReferenceIdeal.main (F := Ideal))) ⟨m', fun _ => 0, g'⟩ (fun r => ∀ c : Dev Cert.GatedReferenceIdeal.nD,
          r.2.mem ((c.tc : Thread Cert.GatedReferenceIdeal.nD Cert.GatedReferenceIdeal.τ).loc Cert.GatedReferenceIdeal.main_v20) = v0 c
          ∧ r.2.mem ((c.tc : Thread Cert.GatedReferenceIdeal.nD Cert.GatedReferenceIdeal.τ).loc Cert.GatedReferenceIdeal.main_arg0) = m' ((c.tc : Thread Cert.GatedReferenceIdeal.nD Cert.GatedReferenceIdeal.τ).loc Cert.GatedReferenceIdeal.main_arg0)
          ∧ r.2.mem ((c.tc : Thread Cert.GatedReferenceIdeal.nD Cert.GatedReferenceIdeal.τ).loc Cert.GatedReferenceIdeal.main_arg1) = m' ((c.tc : Thread Cert.GatedReferenceIdeal.nD Cert.GatedReferenceIdeal.τ).loc Cert.GatedReferenceIdeal.main_arg1)
          ∧ r.2.mem ((c.tc : Thread Cert.GatedReferenceIdeal.nD Cert.GatedReferenceIdeal.τ).loc Cert.GatedReferenceIdeal.main_arg2) = m' ((c.tc : Thread Cert.GatedReferenceIdeal.nD Cert.GatedReferenceIdeal.τ).loc Cert.GatedReferenceIdeal.main_arg2)
          ∧ r.2.mem ((c.tc : Thread Cert.GatedReferenceIdeal.nD Cert.GatedReferenceIdeal.τ).loc Cert.GatedReferenceIdeal.main_arg3) = m' ((c.tc : Thread Cert.GatedReferenceIdeal.nD Cert.GatedReferenceIdeal.τ).loc Cert.GatedReferenceIdeal.main_arg3))

def preserves_LowerKernel_LowerKernelIdeal : Prop :=
  True

def algebraic_LowerKernelIdeal_LowerReferenceIdeal_pre_finite_lower [hLowerKernelIdeal : Cert.LowerKernelIdeal.Facts] [hLowerReferenceIdeal : Cert.LowerReferenceIdeal.Facts] [hPre_finite_lower : Cert.Pre_finite_lower.Facts] : Prop :=
  ∀ (m : (ℓ : Loc Cert.LowerKernelIdeal.nD Cert.LowerKernelIdeal.τ Cert.LowerKernelIdeal.sig) → Buf (Elt Ideal) ℓ) (g : Dev Cert.LowerKernelIdeal.nD → PrngReg)
    (m' : (ℓ : Loc Cert.LowerReferenceIdeal.nD Cert.LowerReferenceIdeal.τ Cert.LowerReferenceIdeal.sig) → Buf (Elt Ideal) ℓ) (g' : Dev Cert.LowerReferenceIdeal.nD → PrngReg), Pre_LowerKernelIdeal_finite_lower m →
    (∀ c : Dev Cert.LowerKernelIdeal.nD,
      m' ((c.tc : Thread Cert.LowerReferenceIdeal.nD Cert.LowerReferenceIdeal.τ).loc Cert.LowerReferenceIdeal.main_arg0) = m ((c.tc : Thread Cert.LowerKernelIdeal.nD Cert.LowerKernelIdeal.τ).loc Cert.LowerKernelIdeal.main_arg0)) →
    ∃ (v0 : (c : Dev Cert.LowerKernelIdeal.nD) → Buf (Elt Ideal) ((c.tc : Thread Cert.LowerKernelIdeal.nD Cert.LowerKernelIdeal.τ).loc Cert.LowerKernelIdeal.main_v1)),
      θ_run (Cert.LowerKernelIdeal.defs (F := Ideal)) (onTc (τ := Cert.LowerKernelIdeal.τ) (Cert.LowerKernelIdeal.main (F := Ideal))) ⟨m, fun _ => 0, g⟩ (fun r => ∀ c : Dev Cert.LowerKernelIdeal.nD,
          r.2.mem ((c.tc : Thread Cert.LowerKernelIdeal.nD Cert.LowerKernelIdeal.τ).loc Cert.LowerKernelIdeal.main_v1) = v0 c
          ∧ r.2.mem ((c.tc : Thread Cert.LowerKernelIdeal.nD Cert.LowerKernelIdeal.τ).loc Cert.LowerKernelIdeal.main_arg0) = m ((c.tc : Thread Cert.LowerKernelIdeal.nD Cert.LowerKernelIdeal.τ).loc Cert.LowerKernelIdeal.main_arg0))
      ∧ θ_run (Cert.LowerReferenceIdeal.defs (F := Ideal)) (onTc (τ := Cert.LowerReferenceIdeal.τ) (Cert.LowerReferenceIdeal.main (F := Ideal))) ⟨m', fun _ => 0, g'⟩ (fun r => ∀ c : Dev Cert.LowerReferenceIdeal.nD,
          r.2.mem ((c.tc : Thread Cert.LowerReferenceIdeal.nD Cert.LowerReferenceIdeal.τ).loc Cert.LowerReferenceIdeal.main_v15) = v0 c
          ∧ r.2.mem ((c.tc : Thread Cert.LowerReferenceIdeal.nD Cert.LowerReferenceIdeal.τ).loc Cert.LowerReferenceIdeal.main_arg0) = m' ((c.tc : Thread Cert.LowerReferenceIdeal.nD Cert.LowerReferenceIdeal.τ).loc Cert.LowerReferenceIdeal.main_arg0))

def preserves_ProdKernel_ProdKernelIdeal : Prop :=
  True

def algebraic_ProdKernelIdeal_ProdReferenceIdeal [hProdKernelIdeal : Cert.ProdKernelIdeal.Facts] [hProdReferenceIdeal : Cert.ProdReferenceIdeal.Facts] : Prop :=
  ∀ (m : (ℓ : Loc Cert.ProdKernelIdeal.nD Cert.ProdKernelIdeal.τ Cert.ProdKernelIdeal.sig) → Buf (Elt Ideal) ℓ) (g : Dev Cert.ProdKernelIdeal.nD → PrngReg)
    (m' : (ℓ : Loc Cert.ProdReferenceIdeal.nD Cert.ProdReferenceIdeal.τ Cert.ProdReferenceIdeal.sig) → Buf (Elt Ideal) ℓ) (g' : Dev Cert.ProdReferenceIdeal.nD → PrngReg), Pre_ProdKernelIdeal m →
    (∀ c : Dev Cert.ProdKernelIdeal.nD,
      m' ((c.tc : Thread Cert.ProdReferenceIdeal.nD Cert.ProdReferenceIdeal.τ).loc Cert.ProdReferenceIdeal.main_arg0) = m ((c.tc : Thread Cert.ProdKernelIdeal.nD Cert.ProdKernelIdeal.τ).loc Cert.ProdKernelIdeal.main_arg0)
      ∧ m' ((c.tc : Thread Cert.ProdReferenceIdeal.nD Cert.ProdReferenceIdeal.τ).loc Cert.ProdReferenceIdeal.main_arg1) = m ((c.tc : Thread Cert.ProdKernelIdeal.nD Cert.ProdKernelIdeal.τ).loc Cert.ProdKernelIdeal.main_arg1)) →
    ∃ (v0 : (c : Dev Cert.ProdKernelIdeal.nD) → Buf (Elt Ideal) ((c.tc : Thread Cert.ProdKernelIdeal.nD Cert.ProdKernelIdeal.τ).loc Cert.ProdKernelIdeal.main_v2)),
      θ_run (Cert.ProdKernelIdeal.defs (F := Ideal)) (onTc (τ := Cert.ProdKernelIdeal.τ) (Cert.ProdKernelIdeal.main (F := Ideal))) ⟨m, fun _ => 0, g⟩ (fun r => ∀ c : Dev Cert.ProdKernelIdeal.nD,
          r.2.mem ((c.tc : Thread Cert.ProdKernelIdeal.nD Cert.ProdKernelIdeal.τ).loc Cert.ProdKernelIdeal.main_v2) = v0 c
          ∧ r.2.mem ((c.tc : Thread Cert.ProdKernelIdeal.nD Cert.ProdKernelIdeal.τ).loc Cert.ProdKernelIdeal.main_arg0) = m ((c.tc : Thread Cert.ProdKernelIdeal.nD Cert.ProdKernelIdeal.τ).loc Cert.ProdKernelIdeal.main_arg0)
          ∧ r.2.mem ((c.tc : Thread Cert.ProdKernelIdeal.nD Cert.ProdKernelIdeal.τ).loc Cert.ProdKernelIdeal.main_arg1) = m ((c.tc : Thread Cert.ProdKernelIdeal.nD Cert.ProdKernelIdeal.τ).loc Cert.ProdKernelIdeal.main_arg1))
      ∧ θ_run (Cert.ProdReferenceIdeal.defs (F := Ideal)) (onTc (τ := Cert.ProdReferenceIdeal.τ) (Cert.ProdReferenceIdeal.main (F := Ideal))) ⟨m', fun _ => 0, g'⟩ (fun r => ∀ c : Dev Cert.ProdReferenceIdeal.nD,
          r.2.mem ((c.tc : Thread Cert.ProdReferenceIdeal.nD Cert.ProdReferenceIdeal.τ).loc Cert.ProdReferenceIdeal.main_v0) = v0 c
          ∧ r.2.mem ((c.tc : Thread Cert.ProdReferenceIdeal.nD Cert.ProdReferenceIdeal.τ).loc Cert.ProdReferenceIdeal.main_arg0) = m' ((c.tc : Thread Cert.ProdReferenceIdeal.nD Cert.ProdReferenceIdeal.τ).loc Cert.ProdReferenceIdeal.main_arg0)
          ∧ r.2.mem ((c.tc : Thread Cert.ProdReferenceIdeal.nD Cert.ProdReferenceIdeal.τ).loc Cert.ProdReferenceIdeal.main_arg1) = m' ((c.tc : Thread Cert.ProdReferenceIdeal.nD Cert.ProdReferenceIdeal.τ).loc Cert.ProdReferenceIdeal.main_arg1))

def preserves_WgradKernel_WgradKernelIdeal : Prop :=
  True

def algebraic_WgradKernelIdeal_WgradReferenceIdeal [hWgradKernelIdeal : Cert.WgradKernelIdeal.Facts] [hWgradReferenceIdeal : Cert.WgradReferenceIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradKernelIdeal m →
    (∀ c : Dev Cert.WgradKernelIdeal.nD,
      m' ((c.tc : Thread Cert.WgradReferenceIdeal.nD Cert.WgradReferenceIdeal.τ).loc Cert.WgradReferenceIdeal.main_arg0) = m ((c.tc : Thread Cert.WgradKernelIdeal.nD Cert.WgradKernelIdeal.τ).loc Cert.WgradKernelIdeal.main_arg0)
      ∧ m' ((c.tc : Thread Cert.WgradReferenceIdeal.nD Cert.WgradReferenceIdeal.τ).loc Cert.WgradReferenceIdeal.main_arg1) = m ((c.tc : Thread Cert.WgradKernelIdeal.nD Cert.WgradKernelIdeal.τ).loc Cert.WgradKernelIdeal.main_arg1)
      ∧ m' ((c.tc : Thread Cert.WgradReferenceIdeal.nD Cert.WgradReferenceIdeal.τ).loc Cert.WgradReferenceIdeal.main_arg2) = m ((c.tc : Thread Cert.WgradKernelIdeal.nD Cert.WgradKernelIdeal.τ).loc Cert.WgradKernelIdeal.main_arg2)) →
    ∃ (v0 : (c : Dev Cert.WgradKernelIdeal.nD) → Buf (Elt Ideal) ((c.tc : Thread Cert.WgradKernelIdeal.nD Cert.WgradKernelIdeal.τ).loc Cert.WgradKernelIdeal.main_v2)),
      θ_run (Cert.WgradKernelIdeal.defs (F := Ideal)) (onTc (τ := Cert.WgradKernelIdeal.τ) (Cert.WgradKernelIdeal.main (F := Ideal))) ⟨m, fun _ => 0, g⟩ (fun r => ∀ c : Dev Cert.WgradKernelIdeal.nD,
          r.2.mem ((c.tc : Thread Cert.WgradKernelIdeal.nD Cert.WgradKernelIdeal.τ).loc Cert.WgradKernelIdeal.main_v2) = v0 c
          ∧ r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
          ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1)
          ∧ r.2.mem ((c.tc : Thread Cert.WgradKernelIdeal.nD Cert.WgradKernelIdeal.τ).loc Cert.WgradKernelIdeal.main_arg2) = m ((c.tc : Thread Cert.WgradKernelIdeal.nD Cert.WgradKernelIdeal.τ).loc Cert.WgradKernelIdeal.main_arg2))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v2) = v0 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1)
          ∧ r.2.mem ((c.tc : Thread Cert.WgradReferenceIdeal.nD Cert.WgradReferenceIdeal.τ).loc Cert.WgradReferenceIdeal.main_arg2) = m' ((c.tc : Thread Cert.WgradReferenceIdeal.nD Cert.WgradReferenceIdeal.τ).loc Cert.WgradReferenceIdeal.main_arg2))

def preserves_BackKernel_BackKernelIdeal : Prop :=
  True

def algebraic_BackKernelIdeal_BackReferenceIdeal [hBackKernelIdeal : Cert.BackKernelIdeal.Facts] [hBackReferenceIdeal : Cert.BackReferenceIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackKernelIdeal m →
    (∀ c : Dev Cert.BackKernelIdeal.nD,
      m' ((c.tc : Thread Cert.BackReferenceIdeal.nD Cert.BackReferenceIdeal.τ).loc Cert.BackReferenceIdeal.main_arg0) = m ((c.tc : Thread Cert.BackKernelIdeal.nD Cert.BackKernelIdeal.τ).loc Cert.BackKernelIdeal.main_arg0)
      ∧ m' ((c.tc : Thread Cert.BackReferenceIdeal.nD Cert.BackReferenceIdeal.τ).loc Cert.BackReferenceIdeal.main_arg1) = m ((c.tc : Thread Cert.BackKernelIdeal.nD Cert.BackKernelIdeal.τ).loc Cert.BackKernelIdeal.main_arg1)
      ∧ m' ((c.tc : Thread Cert.BackReferenceIdeal.nD Cert.BackReferenceIdeal.τ).loc Cert.BackReferenceIdeal.main_arg2) = m ((c.tc : Thread Cert.BackKernelIdeal.nD Cert.BackKernelIdeal.τ).loc Cert.BackKernelIdeal.main_arg2)
      ∧ m' ((c.tc : Thread Cert.BackReferenceIdeal.nD Cert.BackReferenceIdeal.τ).loc Cert.BackReferenceIdeal.main_arg3) = m ((c.tc : Thread Cert.BackKernelIdeal.nD Cert.BackKernelIdeal.τ).loc Cert.BackKernelIdeal.main_arg3)) →
    ∃ (v0 : (c : Dev Cert.BackKernelIdeal.nD) → Buf (Elt Ideal) ((c.tc : Thread Cert.BackKernelIdeal.nD Cert.BackKernelIdeal.τ).loc Cert.BackKernelIdeal.main_v11)),
      θ_run (Cert.BackKernelIdeal.defs (F := Ideal)) (onTc (τ := Cert.BackKernelIdeal.τ) (Cert.BackKernelIdeal.main (F := Ideal))) ⟨m, fun _ => 0, g⟩ (fun r => ∀ c : Dev Cert.BackKernelIdeal.nD,
          r.2.mem ((c.tc : Thread Cert.BackKernelIdeal.nD Cert.BackKernelIdeal.τ).loc Cert.BackKernelIdeal.main_v11) = v0 c
          ∧ r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
          ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1)
          ∧ r.2.mem ((c.tc : Thread Cert.BackKernelIdeal.nD Cert.BackKernelIdeal.τ).loc Cert.BackKernelIdeal.main_arg2) = m ((c.tc : Thread Cert.BackKernelIdeal.nD Cert.BackKernelIdeal.τ).loc Cert.BackKernelIdeal.main_arg2)
          ∧ r.2.mem ((c.tc : Thread Cert.BackKernelIdeal.nD Cert.BackKernelIdeal.τ).loc Cert.BackKernelIdeal.main_arg3) = m ((c.tc : Thread Cert.BackKernelIdeal.nD Cert.BackKernelIdeal.τ).loc Cert.BackKernelIdeal.main_arg3))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v6) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3))

def preserves_AdamwKernel_AdamwKernelIdeal : Prop :=
  True

def algebraic_AdamwKernelIdeal_AdamwReferenceIdeal [hAdamwKernelIdeal : Cert.AdamwKernelIdeal.Facts] [hAdamwReferenceIdeal : Cert.AdamwReferenceIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwKernelIdeal m →
    (∀ c : Dev Cert.AdamwKernelIdeal.nD,
      m' ((c.tc : Thread Cert.AdamwReferenceIdeal.nD Cert.AdamwReferenceIdeal.τ).loc Cert.AdamwReferenceIdeal.main_arg0) = m ((c.tc : Thread Cert.AdamwKernelIdeal.nD Cert.AdamwKernelIdeal.τ).loc Cert.AdamwKernelIdeal.main_arg0)
      ∧ m' ((c.tc : Thread Cert.AdamwReferenceIdeal.nD Cert.AdamwReferenceIdeal.τ).loc Cert.AdamwReferenceIdeal.main_arg1) = m ((c.tc : Thread Cert.AdamwKernelIdeal.nD Cert.AdamwKernelIdeal.τ).loc Cert.AdamwKernelIdeal.main_arg1)
      ∧ m' ((c.tc : Thread Cert.AdamwReferenceIdeal.nD Cert.AdamwReferenceIdeal.τ).loc Cert.AdamwReferenceIdeal.main_arg2) = m ((c.tc : Thread Cert.AdamwKernelIdeal.nD Cert.AdamwKernelIdeal.τ).loc Cert.AdamwKernelIdeal.main_arg2)
      ∧ m' ((c.tc : Thread Cert.AdamwReferenceIdeal.nD Cert.AdamwReferenceIdeal.τ).loc Cert.AdamwReferenceIdeal.main_arg3) = m ((c.tc : Thread Cert.AdamwKernelIdeal.nD Cert.AdamwKernelIdeal.τ).loc Cert.AdamwKernelIdeal.main_arg3)) →
    ∃ (v0 : (c : Dev Cert.AdamwKernelIdeal.nD) → Buf (Elt Ideal) ((c.tc : Thread Cert.AdamwKernelIdeal.nD Cert.AdamwKernelIdeal.τ).loc Cert.AdamwKernelIdeal.main_v0_0)) (v1 : (c : Dev Cert.AdamwKernelIdeal.nD) → Buf (Elt Ideal) ((c.tc : Thread Cert.AdamwKernelIdeal.nD Cert.AdamwKernelIdeal.τ).loc Cert.AdamwKernelIdeal.main_v0_1)) (v2 : (c : Dev Cert.AdamwKernelIdeal.nD) → Buf (Elt Ideal) ((c.tc : Thread Cert.AdamwKernelIdeal.nD Cert.AdamwKernelIdeal.τ).loc Cert.AdamwKernelIdeal.main_v0_2)),
      θ_run (Cert.AdamwKernelIdeal.defs (F := Ideal)) (onTc (τ := Cert.AdamwKernelIdeal.τ) (Cert.AdamwKernelIdeal.main (F := Ideal))) ⟨m, fun _ => 0, g⟩ (fun r => ∀ c : Dev Cert.AdamwKernelIdeal.nD,
          r.2.mem ((c.tc : Thread Cert.AdamwKernelIdeal.nD Cert.AdamwKernelIdeal.τ).loc Cert.AdamwKernelIdeal.main_v0_0) = v0 c
          ∧ r.2.mem ((c.tc : Thread Cert.AdamwKernelIdeal.nD Cert.AdamwKernelIdeal.τ).loc Cert.AdamwKernelIdeal.main_v0_1) = v1 c
          ∧ r.2.mem ((c.tc : Thread Cert.AdamwKernelIdeal.nD Cert.AdamwKernelIdeal.τ).loc Cert.AdamwKernelIdeal.main_v0_2) = v2 c
          ∧ r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
          ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
          ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
          ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_v23) = v0 c
          ∧ r.2.mem ((c.tc : Thread Cert.AdamwReferenceIdeal.nD Cert.AdamwReferenceIdeal.τ).loc Cert.AdamwReferenceIdeal.main_v4) = v1 c
          ∧ r.2.mem ((c.tc : Thread Cert.AdamwReferenceIdeal.nD Cert.AdamwReferenceIdeal.τ).loc Cert.AdamwReferenceIdeal.main_v10) = v2 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3))

def Claim : Prop :=
  ∃ (hLossKernel : Cert.LossKernel.Facts) (hLossKernelIdeal : Cert.LossKernelIdeal.Facts) (hLossReferenceIdeal : Cert.LossReferenceIdeal.Facts) (hAttnKernel : Cert.AttnKernel.Facts) (hAttnKernelIdeal : Cert.AttnKernelIdeal.Facts) (hAttnReferenceIdeal : Cert.AttnReferenceIdeal.Facts) (hPostKernel : Cert.PostKernel.Facts) (hPostKernelIdeal : Cert.PostKernelIdeal.Facts) (hPostReferenceIdeal : Cert.PostReferenceIdeal.Facts) (hBoundsKernel : Cert.BoundsKernel.Facts) (hBoundsKernelIdeal : Cert.BoundsKernelIdeal.Facts) (hBoundsReferenceIdeal : Cert.BoundsReferenceIdeal.Facts) (hFfnKernel : Cert.FfnKernel.Facts) (hFfnKernelIdeal : Cert.FfnKernelIdeal.Facts) (hFfnReferenceIdeal : Cert.FfnReferenceIdeal.Facts) (hPleKernel : Cert.PleKernel.Facts) (hPleKernelIdeal : Cert.PleKernelIdeal.Facts) (hPleReferenceIdeal : Cert.PleReferenceIdeal.Facts) (hNormKernel : Cert.NormKernel.Facts) (hNormKernelIdeal : Cert.NormKernelIdeal.Facts) (hNormReferenceIdeal : Cert.NormReferenceIdeal.Facts) (hSwigluKernel : Cert.SwigluKernel.Facts) (hSwigluKernelIdeal : Cert.SwigluKernelIdeal.Facts) (hSwigluReferenceIdeal : Cert.SwigluReferenceIdeal.Facts) (hResnormKernel : Cert.ResnormKernel.Facts) (hResnormKernelIdeal : Cert.ResnormKernelIdeal.Facts) (hResnormReferenceIdeal : Cert.ResnormReferenceIdeal.Facts) (hEmbedKernel : Cert.EmbedKernel.Facts) (hEmbedKernelIdeal : Cert.EmbedKernelIdeal.Facts) (hEmbedReferenceIdeal : Cert.EmbedReferenceIdeal.Facts) (hGatedKernel : Cert.GatedKernel.Facts) (hGatedKernelIdeal : Cert.GatedKernelIdeal.Facts) (hGatedReferenceIdeal : Cert.GatedReferenceIdeal.Facts) (hLowerKernel : Cert.LowerKernel.Facts) (hLowerKernelIdeal : Cert.LowerKernelIdeal.Facts) (hLowerReferenceIdeal : Cert.LowerReferenceIdeal.Facts) (hProdKernel : Cert.ProdKernel.Facts) (hProdKernelIdeal : Cert.ProdKernelIdeal.Facts) (hProdReferenceIdeal : Cert.ProdReferenceIdeal.Facts) (hWgradKernel : Cert.WgradKernel.Facts) (hWgradKernelIdeal : Cert.WgradKernelIdeal.Facts) (hWgradReferenceIdeal : Cert.WgradReferenceIdeal.Facts) (hBackKernel : Cert.BackKernel.Facts) (hBackKernelIdeal : Cert.BackKernelIdeal.Facts) (hBackReferenceIdeal : Cert.BackReferenceIdeal.Facts) (hAdamwKernel : Cert.AdamwKernel.Facts) (hAdamwKernelIdeal : Cert.AdamwKernelIdeal.Facts) (hAdamwReferenceIdeal : Cert.AdamwReferenceIdeal.Facts) (hPre_finite_attn : Cert.Pre_finite_attn.Facts) (hPre_finite_post : Cert.Pre_finite_post.Facts) (hPre_finite_bounds : Cert.Pre_finite_bounds.Facts) (hPre_finite_ffn : Cert.Pre_finite_ffn.Facts) (hPre_finite_ple : Cert.Pre_finite_ple.Facts) (hPre_finite_norm : Cert.Pre_finite_norm.Facts) (hPre_finite_swiglu : Cert.Pre_finite_swiglu.Facts) (hPre_finite_lower : Cert.Pre_finite_lower.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_AttnKernel (hAttnKernel := hAttnKernel)
    ∧ quiescent_AttnKernelIdeal (hAttnKernelIdeal := hAttnKernelIdeal)
    ∧ quiescent_AttnKernelIdeal_pre_finite_attn (hAttnKernelIdeal := hAttnKernelIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_PostKernel (hPostKernel := hPostKernel)
    ∧ quiescent_PostKernelIdeal (hPostKernelIdeal := hPostKernelIdeal)
    ∧ quiescent_PostKernelIdeal_pre_finite_post (hPostKernelIdeal := hPostKernelIdeal) (hPre_finite_post := hPre_finite_post)
    ∧ quiescent_PostReferenceIdeal (hPostReferenceIdeal := hPostReferenceIdeal)
    ∧ quiescent_PostReferenceIdeal_pre_finite_post (hPostReferenceIdeal := hPostReferenceIdeal) (hPre_finite_post := hPre_finite_post)
    ∧ quiescent_BoundsKernel (hBoundsKernel := hBoundsKernel)
    ∧ quiescent_BoundsKernelIdeal (hBoundsKernelIdeal := hBoundsKernelIdeal)
    ∧ quiescent_BoundsKernelIdeal_pre_finite_bounds (hBoundsKernelIdeal := hBoundsKernelIdeal) (hPre_finite_bounds := hPre_finite_bounds)
    ∧ quiescent_BoundsReferenceIdeal (hBoundsReferenceIdeal := hBoundsReferenceIdeal)
    ∧ quiescent_BoundsReferenceIdeal_pre_finite_bounds (hBoundsReferenceIdeal := hBoundsReferenceIdeal) (hPre_finite_bounds := hPre_finite_bounds)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_PleKernel (hPleKernel := hPleKernel)
    ∧ quiescent_PleKernelIdeal (hPleKernelIdeal := hPleKernelIdeal)
    ∧ quiescent_PleKernelIdeal_pre_finite_ple (hPleKernelIdeal := hPleKernelIdeal) (hPre_finite_ple := hPre_finite_ple)
    ∧ quiescent_PleReferenceIdeal (hPleReferenceIdeal := hPleReferenceIdeal)
    ∧ quiescent_PleReferenceIdeal_pre_finite_ple (hPleReferenceIdeal := hPleReferenceIdeal) (hPre_finite_ple := hPre_finite_ple)
    ∧ quiescent_NormKernel (hNormKernel := hNormKernel)
    ∧ quiescent_NormKernelIdeal (hNormKernelIdeal := hNormKernelIdeal)
    ∧ quiescent_NormKernelIdeal_pre_finite_norm (hNormKernelIdeal := hNormKernelIdeal) (hPre_finite_norm := hPre_finite_norm)
    ∧ quiescent_NormReferenceIdeal (hNormReferenceIdeal := hNormReferenceIdeal)
    ∧ quiescent_NormReferenceIdeal_pre_finite_norm (hNormReferenceIdeal := hNormReferenceIdeal) (hPre_finite_norm := hPre_finite_norm)
    ∧ quiescent_SwigluKernel (hSwigluKernel := hSwigluKernel)
    ∧ quiescent_SwigluKernelIdeal (hSwigluKernelIdeal := hSwigluKernelIdeal)
    ∧ quiescent_SwigluKernelIdeal_pre_finite_swiglu (hSwigluKernelIdeal := hSwigluKernelIdeal) (hPre_finite_swiglu := hPre_finite_swiglu)
    ∧ quiescent_SwigluReferenceIdeal (hSwigluReferenceIdeal := hSwigluReferenceIdeal)
    ∧ quiescent_SwigluReferenceIdeal_pre_finite_swiglu (hSwigluReferenceIdeal := hSwigluReferenceIdeal) (hPre_finite_swiglu := hPre_finite_swiglu)
    ∧ quiescent_ResnormKernel (hResnormKernel := hResnormKernel)
    ∧ quiescent_ResnormKernelIdeal (hResnormKernelIdeal := hResnormKernelIdeal)
    ∧ quiescent_ResnormReferenceIdeal (hResnormReferenceIdeal := hResnormReferenceIdeal)
    ∧ quiescent_EmbedKernel (hEmbedKernel := hEmbedKernel)
    ∧ quiescent_EmbedKernelIdeal (hEmbedKernelIdeal := hEmbedKernelIdeal)
    ∧ quiescent_EmbedReferenceIdeal (hEmbedReferenceIdeal := hEmbedReferenceIdeal)
    ∧ quiescent_GatedKernel (hGatedKernel := hGatedKernel)
    ∧ quiescent_GatedKernelIdeal (hGatedKernelIdeal := hGatedKernelIdeal)
    ∧ quiescent_GatedReferenceIdeal (hGatedReferenceIdeal := hGatedReferenceIdeal)
    ∧ quiescent_LowerKernel (hLowerKernel := hLowerKernel)
    ∧ quiescent_LowerKernelIdeal (hLowerKernelIdeal := hLowerKernelIdeal)
    ∧ quiescent_LowerKernelIdeal_pre_finite_lower (hLowerKernelIdeal := hLowerKernelIdeal) (hPre_finite_lower := hPre_finite_lower)
    ∧ quiescent_LowerReferenceIdeal (hLowerReferenceIdeal := hLowerReferenceIdeal)
    ∧ quiescent_LowerReferenceIdeal_pre_finite_lower (hLowerReferenceIdeal := hLowerReferenceIdeal) (hPre_finite_lower := hPre_finite_lower)
    ∧ quiescent_ProdKernel (hProdKernel := hProdKernel)
    ∧ quiescent_ProdKernelIdeal (hProdKernelIdeal := hProdKernelIdeal)
    ∧ quiescent_ProdReferenceIdeal (hProdReferenceIdeal := hProdReferenceIdeal)
    ∧ quiescent_WgradKernel (hWgradKernel := hWgradKernel)
    ∧ quiescent_WgradKernelIdeal (hWgradKernelIdeal := hWgradKernelIdeal)
    ∧ quiescent_WgradReferenceIdeal (hWgradReferenceIdeal := hWgradReferenceIdeal)
    ∧ quiescent_BackKernel (hBackKernel := hBackKernel)
    ∧ quiescent_BackKernelIdeal (hBackKernelIdeal := hBackKernelIdeal)
    ∧ quiescent_BackReferenceIdeal (hBackReferenceIdeal := hBackReferenceIdeal)
    ∧ quiescent_AdamwKernel (hAdamwKernel := hAdamwKernel)
    ∧ quiescent_AdamwKernelIdeal (hAdamwKernelIdeal := hAdamwKernelIdeal)
    ∧ quiescent_AdamwReferenceIdeal (hAdamwReferenceIdeal := hAdamwReferenceIdeal)
    ∧ preserves_LossKernel_LossKernelIdeal
    ∧ algebraic_LossKernelIdeal_LossReferenceIdeal (hLossKernelIdeal := hLossKernelIdeal) (hLossReferenceIdeal := hLossReferenceIdeal)
    ∧ preserves_AttnKernel_AttnKernelIdeal
    ∧ algebraic_AttnKernelIdeal_AttnReferenceIdeal_pre_finite_attn (hAttnKernelIdeal := hAttnKernelIdeal) (hAttnReferenceIdeal := hAttnReferenceIdeal) (hPre_finite_attn := hPre_finite_attn)
    ∧ preserves_PostKernel_PostKernelIdeal
    ∧ algebraic_PostKernelIdeal_PostReferenceIdeal_pre_finite_post (hPostKernelIdeal := hPostKernelIdeal) (hPostReferenceIdeal := hPostReferenceIdeal) (hPre_finite_post := hPre_finite_post)
    ∧ preserves_BoundsKernel_BoundsKernelIdeal
    ∧ algebraic_BoundsKernelIdeal_BoundsReferenceIdeal_pre_finite_bounds (hBoundsKernelIdeal := hBoundsKernelIdeal) (hBoundsReferenceIdeal := hBoundsReferenceIdeal) (hPre_finite_bounds := hPre_finite_bounds)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_PleKernel_PleKernelIdeal
    ∧ algebraic_PleKernelIdeal_PleReferenceIdeal_pre_finite_ple (hPleKernelIdeal := hPleKernelIdeal) (hPleReferenceIdeal := hPleReferenceIdeal) (hPre_finite_ple := hPre_finite_ple)
    ∧ preserves_NormKernel_NormKernelIdeal
    ∧ algebraic_NormKernelIdeal_NormReferenceIdeal_pre_finite_norm (hNormKernelIdeal := hNormKernelIdeal) (hNormReferenceIdeal := hNormReferenceIdeal) (hPre_finite_norm := hPre_finite_norm)
    ∧ preserves_SwigluKernel_SwigluKernelIdeal
    ∧ algebraic_SwigluKernelIdeal_SwigluReferenceIdeal_pre_finite_swiglu (hSwigluKernelIdeal := hSwigluKernelIdeal) (hSwigluReferenceIdeal := hSwigluReferenceIdeal) (hPre_finite_swiglu := hPre_finite_swiglu)
    ∧ preserves_ResnormKernel_ResnormKernelIdeal
    ∧ algebraic_ResnormKernelIdeal_ResnormReferenceIdeal (hResnormKernelIdeal := hResnormKernelIdeal) (hResnormReferenceIdeal := hResnormReferenceIdeal)
    ∧ preserves_EmbedKernel_EmbedKernelIdeal
    ∧ algebraic_EmbedKernelIdeal_EmbedReferenceIdeal (hEmbedKernelIdeal := hEmbedKernelIdeal) (hEmbedReferenceIdeal := hEmbedReferenceIdeal)
    ∧ preserves_GatedKernel_GatedKernelIdeal
    ∧ algebraic_GatedKernelIdeal_GatedReferenceIdeal (hGatedKernelIdeal := hGatedKernelIdeal) (hGatedReferenceIdeal := hGatedReferenceIdeal)
    ∧ preserves_LowerKernel_LowerKernelIdeal
    ∧ algebraic_LowerKernelIdeal_LowerReferenceIdeal_pre_finite_lower (hLowerKernelIdeal := hLowerKernelIdeal) (hLowerReferenceIdeal := hLowerReferenceIdeal) (hPre_finite_lower := hPre_finite_lower)
    ∧ preserves_ProdKernel_ProdKernelIdeal
    ∧ algebraic_ProdKernelIdeal_ProdReferenceIdeal (hProdKernelIdeal := hProdKernelIdeal) (hProdReferenceIdeal := hProdReferenceIdeal)
    ∧ preserves_WgradKernel_WgradKernelIdeal
    ∧ algebraic_WgradKernelIdeal_WgradReferenceIdeal (hWgradKernelIdeal := hWgradKernelIdeal) (hWgradReferenceIdeal := hWgradReferenceIdeal)
    ∧ preserves_BackKernel_BackKernelIdeal
    ∧ algebraic_BackKernelIdeal_BackReferenceIdeal (hBackKernelIdeal := hBackKernelIdeal) (hBackReferenceIdeal := hBackReferenceIdeal)
    ∧ preserves_AdamwKernel_AdamwKernelIdeal
    ∧ algebraic_AdamwKernelIdeal_AdamwReferenceIdeal (hAdamwKernelIdeal := hAdamwKernelIdeal) (hAdamwReferenceIdeal := hAdamwReferenceIdeal)
-- ==== Pre_finite_attn.lean ====
abbrev S16384x1024 : Shape := ⟨2, ![16384, 1024]⟩
abbrev S1024x1536 : Shape := ⟨2, ![1024, 1536]⟩
abbrev S16 : Shape := ⟨1, ![16]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1536 : S_.BroadcastsInDim S1024x1536 (![] : Fin 0 → Fin S1024x1536.rank)
  reducesTo_S1024x1536_S_d0_1 : S1024x1536.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x1024 .f32) (main_arg1 : FVec F S1024x1536 .f32) (main_arg2 : FVec F S16 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1536 .f32 := Host.absf main_arg1
  let main_cst_0 : FVec F S_ .f32 := constant S_ .f32 0x7F800000#32
  let main_v5 : FVec F S1024x1536 .f32 := broadcastInDim S1024x1536 ![] bcast_S_S1024x1536 main_cst_0
  let main_v6 : IVec S1024x1536 1 := cmpf .olt main_v4 main_v5
  let main_c_1 : IVec S_ 1 := constantI S_ 1 1#1
  let main_v7 : IVec S_ 1 := (fun x v => Host.reduce IntOp.andi x v reducesTo_S1024x1536_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_v13 main_v16
-- ==== Pre_finite_bounds.lean ====
abbrev S4x2x1024 : Shape := ⟨3, ![4, 2, 1024]⟩
abbrev S_ : Shape := ⟨0, ![]⟩

class Facts : Prop where
  bcast_S_S4x2x1024 : S_.BroadcastsInDim S4x2x1024 (![] : Fin 0 → Fin S4x2x1024.rank)
  reducesTo_S4x2x1024_S_d0_1_2 : S4x2x1024.ReducesTo [0, 1, 2] S_
  h_S_ : 0 < S_.numel

variable [Facts]

def fn {F : FTy → Type} [FloatOps F] (main_arg0 : FVec F S4x2x1024 .f32) (main_arg1 : FVec F S4x2x1024 .f32) : IVec S_ 1 :=
  let main_v0 : FVec F S4x2x1024 .f32 := Host.absf main_arg0
  let main_cst : FVec F S_ .f32 := constant S_ .f32 0x7F800000#32
  let main_v1 : FVec F S4x2x1024 .f32 := broadcastInDim S4x2x1024 ![] bcast_S_S4x2x1024 main_cst
  let main_v2 : IVec S4x2x1024 1 := cmpf .olt main_v0 main_v1
  let main_c : IVec S_ 1 := constantI S_ 1 1#1
  let main_v3 : IVec S_ 1 := (fun x v => Host.reduce IntOp.andi x v reducesTo_S4x2x1024_S_d0_1_2 h_S_) main_v2 main_c
  let main_v4 : FVec F S4x2x1024 .f32 := Host.absf main_arg1
  let main_cst_0 : FVec F S_ .f32 := constant S_ .f32 0x7F800000#32
  let main_v5 : FVec F S4x2x1024 .f32 := broadcastInDim S4x2x1024 ![] bcast_S_S4x2x1024 main_cst_0
  let main_v6 : IVec S4x2x1024 1 := cmpf .olt main_v4 main_v5
  let main_c_1 : IVec S_ 1 := constantI S_ 1 1#1
  let main_v7 : IVec S_ 1 := (fun x v => Host.reduce IntOp.andi x v reducesTo_S4x2x1024_S_d0_1_2 h_S_) main_v6 main_c_1
  let main_v8 : IVec S_ 1 := andi main_v3 main_v7
  main_v8
-- ==== Pre_finite_ffn.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

class Facts : Prop where
  bcast_S_S16384x2816 : S_.BroadcastsInDim S16384x2816 (![] : Fin 0 → Fin S16384x2816.rank)
  reducesTo_S16384x2816_S_d0_1 : S16384x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x2816 .f32) (main_arg1 : FVec F S16384x2816 .f32) (main_arg2 : FVec F S2816x1024 .f32) (main_arg3 : FVec F S16384x1024 .f32) : IVec S_ 1 :=
  let main_v0 : FVec F S16384x2816 .f32 := Host.absf main_arg0
  let main_cst : FVec F S_ .f32 := constant S_ .f32 0x7F800000#32
  let main_v1 : FVec F S16384x2816 .f32 := broadcastInDim S16384x2816 ![] bcast_S_S16384x2816 main_cst
  let main_v2 : IVec S16384x2816 1 := cmpf .olt main_v0 main_v1
  let main_c : IVec S_ 1 := constantI S_ 1 1#1
  let main_v3 : IVec S_ 1 := (fun x v => Host.reduce IntOp.andi x v reducesTo_S16384x2816_S_d0_1 h_S_) main_v2 main_c
  let main_v4 : FVec F S16384x2816 .f32 := Host.absf main_arg1
  let main_cst_0 : FVec F S_ .f32 := constant S_ .f32 0x7F800000#32
  let main_v5 : FVec F S16384x2816 .f32 := broadcastInDim S16384x2816 ![] bcast_S_S16384x2816 main_cst_0
  let main_v6 : IVec S16384x2816 1 := cmpf .olt main_v4 main_v5
  let main_c_1 : IVec S_ 1 := constantI S_ 1 1#1
  let main_v7 : IVec S_ 1 := (fun x v => Host.reduce IntOp.andi x v reducesTo_S16384x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_v13 main_v16
-- ==== Pre_finite_lower.lean ====
abbrev S4x2x1024 : Shape := ⟨3, ![4, 2, 1024]⟩
abbrev S_ : Shape := ⟨0, ![]⟩

class Facts : Prop where
  bcast_S_S4x2x1024 : S_.BroadcastsInDim S4x2x1024 (![] : Fin 0 → Fin S4x2x1024.rank)
  reducesTo_S4x2x1024_S_d0_1_2 : S4x2x1024.ReducesTo [0, 1, 2] S_
  h_S_ : 0 < S_.numel

variable [Facts]

def fn {F : FTy → Type} [FloatOps F] (main_arg0 : FVec F S4x2x1024 .f32) : IVec S_ 1 :=
  let main_v0 : FVec F S4x2x1024 .f32 := Host.absf main_arg0
  let main_cst : FVec F S_ .f32 := constant S_ .f32 0x7F800000#32
  let main_v1 : FVec F S4x2x1024 .f32 := broadcastInDim S4x2x1024 ![] bcast_S_S4x2x1024 main_cst
  let main_v2 : IVec S4x2x1024 1 := cmpf .olt main_v0 main_v1
  let main_c : IVec S_ 1 := constantI S_ 1 1#1
  let main_v3 : IVec S_ 1 := (fun x v => Host.reduce IntOp.andi x v reducesTo_S4x2x1024_S_d0_1_2 h_S_) main_v2 main_c
  main_v3
-- ==== Pre_finite_norm.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S16384x2816 : S_.BroadcastsInDim S16384x2816 (![] : Fin 0 → Fin S16384x2816.rank)
  reducesTo_S16384x2816_S_d0_1 : S16384x2816.ReducesTo [0, 1] S_

variable [Facts]

def fn_part1 {F : FTy → Type} [FloatOps F] (main_arg5 : FVec F S16384x2816 .f32) (main_arg6 : FVec F S16384x1024 .f32) (main_v13 : IVec S_ 1) (main_v16 : IVec S16384x2816 1) : IVec S_ 1 :=
  let main_c_5 : IVec S_ 1 := constantI S_ 1 1#1
  let main_v17 : IVec S_ 1 := (fun x v => Host.reduce IntOp.andi x v reducesTo_S16384x2816_S_d0_1 h_S_) main_v16 main_c_5
  let main_v18 : IVec S_ 1 := andi main_v13 main_v17
  let main_v19 : FVec F S16384x2816 .f32 := Host.absf main_arg5
  let main_cst_6 : FVec F S_ .f32 := constant S_ .f32 0x7F800000#32
  let main_v20 : FVec F S16384x2816 .f32 := broadcastInDim S16384x2816 ![] bcast_S_S16384x2816 main_cst_6
  let main_v21 : IVec S16384x2816 1 := cmpf .olt main_v19 main_v20
  let main_c_7 : IVec S_ 1 := constantI S_ 1 1#1
  let main_v22 : IVec S_ 1 := (fun x v => Host.reduce IntOp.andi x v reducesTo_S16384x2816_S_d0_1 h_S_) main_v21 main_c_7
  let main_v23 : IVec S_ 1 := andi main_v18 main_v22
  let main_v24 : FVec F S16384x1024 .f32 := Host.absf main_arg6
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  main_v28

def fn {F : FTy → Type} [FloatOps F] (main_arg0 : FVec F S16384x1024 .f32) (main_arg1 : FVec F S1024 .f32) (main_arg2 : FVec F S1024 .f32) (main_arg3 : FVec F S1024x5632 .f32) (main_arg4 : FVec F S16384x2816 .f32) (main_arg5 : FVec F S16384x2816 .f32) (main_arg6 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S16384x2816 .f32 := Host.absf main_arg4
  let main_cst_4 : FVec F S_ .f32 := constant S_ .f32 0x7F800000#32
  let main_v15 : FVec F S16384x2816 .f32 := broadcastInDim S16384x2816 ![] bcast_S_S16384x2816 main_cst_4
  let main_v16 : IVec S16384x2816 1 := cmpf .olt main_v14 main_v15
  fn_part1 (F := F) main_arg5 main_arg6 main_v13 main_v16
-- ==== Pre_finite_ple.lean ====
abbrev S16384x1024 : Shape := ⟨2, ![16384, 1024]⟩
abbrev S1024 : Shape := ⟨1, ![1024]⟩
abbrev S16384x256 : Shape := ⟨2, ![16384, 256]⟩
abbrev S1024x1024 : Shape := ⟨2, ![1024, 1024]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S16384x256 : S_.BroadcastsInDim S16384x256 (![] : Fin 0 → Fin S16384x256.rank)
  reducesTo_S16384x256_S_d0_1 : S16384x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S1024x1024 .f32) (main_arg5 : FVec F S256x1024 .f32) (main_arg6 : FVec F S16384x1024 .f32) (main_v13 : IVec S_ 1) (main_v16 : IVec S16384x256 1) : IVec S_ 1 :=
  let main_c_5 : IVec S_ 1 := constantI S_ 1 1#1
  let main_v17 : IVec S_ 1 := (fun x v => Host.reduce IntOp.andi x v reducesTo_S16384x256_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S16384x1024 .f32 := Host.absf main_arg6
  let main_cst_10 : FVec F S_ .f32 := constant S_ .f32 0x7F800000#32
  let main_v30 : FVec F S16384x1024 .f32 := broadcastInDim S16384x1024 ![] bcast_S_S16384x1024 main_cst_10
  let main_v31 : IVec S16384x1024 1 := cmpf .olt main_v29 main_v30
  let main_c_11 : IVec S_ 1 := constantI S_ 1 1#1
  let main_v32 : IVec S_ 1 := (fun x v => Host.reduce IntOp.andi x v reducesTo_S16384x1024_S_d0_1 h_S_) main_v31 main_c_11
  let main_v33 : IVec S_ 1 := andi main_v28 main_v32
  main_v33

def fn {F : FTy → Type} [FloatOps F] (main_arg0 : FVec F S16384x1024 .f32) (main_arg1 : FVec F S1024 .f32) (main_arg2 : FVec F S1024 .f32) (main_arg3 : FVec F S16384x256 .f32) (main_arg4 : FVec F S1024x1024 .f32) (main_arg5 : FVec F S256x1024 .f32) (main_arg6 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16384x256 .f32 := Host.absf main_arg3
  let main_cst_4 : FVec F S_ .f32 := constant S_ .f32 0x7F800000#32
  let main_v15 : FVec F S16384x256 .f32 := broadcastInDim S16384x256 ![] bcast_S_S16384x256 main_cst_4
  let main_v16 : IVec S16384x256 1 := cmpf .olt main_v14 main_v15
  fn_part1 (F := F) main_arg4 main_arg5 main_arg6 main_v13 main_v16
-- ==== Pre_finite_post.lean ====
abbrev S16384x1024 : Shape := ⟨2, ![16384, 1024]⟩
abbrev S16384x5120 : Shape := ⟨2, ![16384, 5120]⟩
abbrev S128 : Shape := ⟨1, ![128]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x5120 : S_.BroadcastsInDim S16384x5120 (![] : Fin 0 → Fin S16384x5120.rank)
  reducesTo_S16384x5120_S_d0_1 : S16384x5120.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S16384x1024 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S16384x5120 .f32) (main_arg3 : FVec F S128 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x5120 .f32 := Host.absf main_arg2
  let main_cst_2 : FVec F S_ .f32 := constant S_ .f32 0x7F800000#32
  let main_v10 : FVec F S16384x5120 .f32 := broadcastInDim S16384x5120 ![] bcast_S_S16384x5120 main_cst_2
  let main_v11 : IVec S16384x5120 1 := cmpf .olt main_v9 main_v10
  let main_c_3 : IVec S_ 1 := constantI S_ 1 1#1
  let main_v12 : IVec S_ 1 := (fun x v => Host.reduce IntOp.andi x v reducesTo_S16384x5120_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Pre_finite_swiglu.lean ====
abbrev S16384x1024 : Shape := ⟨2, ![16384, 1024]⟩
abbrev S1024x5632 : Shape := ⟨2, ![1024, 5632]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S16384x1024 .f32) (main_arg1 : FVec F S1024x5632 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  main_v8
-- ==== LossKernel.lean ====
abbrev S16384x1024 : Shape := ⟨2, ![16384, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S16384x1024 : Shape := ⟨2, ![16384, 1024]⟩
abbrev S_ : Shape := ⟨0, ![]⟩
abbrev S16384 : Shape := ⟨1, ![16384]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384x1024, .f32⟩
  | .hbm, ⟨25, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== AttnKernel.lean ====
abbrev S16384x1024 : Shape := ⟨2, ![16384, 1024]⟩
abbrev S1024x1536 : Shape := ⟨2, ![1024, 1536]⟩
abbrev S16 : Shape := ⟨1, ![16]⟩
abbrev S8 : Shape := ⟨1, ![8]⟩
abbrev S_ : Shape := ⟨0, ![]⟩
abbrev S16384 : Shape := ⟨1, ![16384]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S16384x56 : Shape := ⟨2, ![16384, 56]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S16384x256 : Shape := ⟨2, ![16384, 256]⟩
abbrev S512x1024 : Shape := ⟨2, ![512, 1024]⟩
abbrev S512x128 : Shape := ⟨2, ![512, 128]⟩
abbrev S512x256 : Shape := ⟨2, ![512, 256]⟩
abbrev S512x1536 : Shape := ⟨2, ![512, 1536]⟩
abbrev S4x128x512x1 : Shape := ⟨4, ![4, 128, 512, 1]⟩
abbrev S256x1024 : Shape := ⟨2, ![256, 1024]⟩
abbrev S128x256 : Shape := ⟨2, ![128, 256]⟩
abbrev S256x256 : Shape := ⟨2, ![256, 256]⟩
abbrev S4x2x512x1 : Shape := ⟨4, ![4, 2, 512, 1]⟩
abbrev S384x64 : Shape := ⟨2, ![384, 64]⟩
abbrev S512x384 : Shape := ⟨2, ![512, 384]⟩
abbrev S128x384 : Shape := ⟨2, ![128, 384]⟩
abbrev S128x64 : Shape := ⟨2, ![128, 64]⟩
abbrev S384x128 : Shape := ⟨2, ![384, 128]⟩
abbrev S1 : Shape := ⟨1, ![1]⟩
abbrev S128 : Shape := ⟨1, ![128]⟩
abbrev S128x1 : Shape := ⟨2, ![128, 1]⟩
abbrev S128x128 : Shape := ⟨2, ![128, 128]⟩
abbrev S1x1x128x1 : Shape := ⟨4, ![1, 1, 128, 1]⟩
abbrev S128x1024 : Shape := ⟨2, ![128, 1024]⟩
abbrev S128x384x256 : Shape := ⟨3, ![128, 384, 256]⟩
abbrev S1x16 : Shape := ⟨2, ![1, 16]⟩
abbrev S2x384x256 : Shape := ⟨3, ![2, 384, 256]⟩
abbrev S512x64 : Shape := ⟨2, ![512, 64]⟩
abbrev S512 : Shape := ⟨1, ![512]⟩
abbrev S512x1 : Shape := ⟨2, ![512, 1]⟩
abbrev S1x1x512x1 : Shape := ⟨4, ![1, 1, 512, 1]⟩
abbrev S1x1 : Shape := ⟨2, ![1, 1]⟩
abbrev S384x256 : Shape := ⟨2, ![384, 256]⟩
abbrev S1x384x256 : Shape := ⟨3, ![1, 384, 256]⟩
abbrev S16384x1536 : Shape := ⟨2, ![16384, 1536]⟩
abbrev S1x128x256 : Shape := ⟨3, ![1, 128, 256]⟩
abbrev S128x1536 : Shape := ⟨2, ![128, 1536]⟩

abbrev nBuf : Space → Nat
  | .hbm => 60
  | .vmem => 82
  | .smem => 2
  | _ => 0

abbrev bufTy : (tb : Table) → Fin (tcTables nBuf tb) → BufTy
  | .hbm, ⟨0, _⟩ => ⟨S16384x1024, .f32⟩
  | .hbm, ⟨1, _⟩ => ⟨S1024x1536, .f32⟩
  | .hbm, ⟨2, _⟩ => ⟨S16, .f32⟩
  | .hbm, ⟨3, _⟩ => ⟨S16384x1024, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S16384, .f32⟩
  | .hbm, ⟨19, _⟩ => ⟨S16384x1, .f32⟩
  | .hbm, ⟨20, _⟩ => ⟨S1x8, .f32⟩
  | .hbm, ⟨21, _⟩ => ⟨S16384x8, .f32⟩
  | .hbm, ⟨22, _⟩ => ⟨S16384x8, .f32⟩
  | .hbm, ⟨23, _⟩ => ⟨S16384x8, .f32⟩
  | .hbm, ⟨24, _⟩ => ⟨S16384x8, .f32⟩
  | .hbm, ⟨25, _⟩ => ⟨S16384x8, .f32⟩
  | .hbm, ⟨26, _⟩ => ⟨S_, .f32⟩
  | .hbm, ⟨27, _⟩ => ⟨S16384x48, .f32⟩
  | .hbm, ⟨28, _⟩ => ⟨S16384x64, .f32⟩
  | .hbm, ⟨29, _⟩ => ⟨S_, .f32⟩
  | .hbm, ⟨30, _⟩ => ⟨S16384x8, .f32⟩
  | .hbm, ⟨31, _⟩ => ⟨S_, .f32⟩
  | .hbm, ⟨32, _⟩ => ⟨S16384x48, .f32⟩
  | .hbm, ⟨33, _⟩ => ⟨S16384x64, .f32⟩
  | .hbm, ⟨34, _⟩ => ⟨S16384x8, .f32⟩
  | .hbm, ⟨35, _⟩ => ⟨S_, .f32⟩
  | .hbm, ⟨36, _⟩ => ⟨S16384x56, .f32⟩
  | .hbm, ⟨37, _⟩ => ⟨S16384x64, .f32⟩
  | .hbm, ⟨38, _⟩ => ⟨S1x16384x1x64, .f32⟩
  | .hbm, ⟨39, _⟩ => ⟨S1x16384x2x64, .f32⟩
  | .hbm, ⟨40, _⟩ => ⟨S16384x128, .f32⟩
  | .hbm, ⟨41, _⟩ => ⟨S1x16384x1x64, .f32⟩
  | .hbm, ⟨42, _⟩ => ⟨S1x16384x2x64, .f32⟩
  | .hbm, ⟨43, _⟩ => ⟨S16384x128, .f32⟩
  | .hbm, ⟨44, _⟩ => ⟨S1x16384x1x64, .f32⟩
  | .hbm, ⟨45, _⟩ => ⟨S1x16384x2x64, .f32⟩
  | .hbm, ⟨46, _⟩ => ⟨S16384x128, .f32⟩
  | .hbm, ⟨47, _⟩ => ⟨S16384x1024, .bf16⟩
  | .hbm, ⟨48, _⟩ => ⟨S1024x1536, .bf16⟩
  | .hbm, ⟨49, _⟩ => ⟨S16384x1024, .bf16⟩
  | .hbm, ⟨50, _⟩ => ⟨S16384x256, .bf16⟩
  | .hbm, ⟨51, _⟩ => ⟨S16384x256, .bf16⟩
  | .hbm, ⟨52, _⟩ => ⟨S16384x1024, .bf16⟩
  | .hbm, ⟨53, _⟩ => ⟨S4x128x512x1, .f32⟩
  | .hbm, ⟨54, _⟩ => ⟨S16384x1024, .bf16⟩
  | .hbm, ⟨55, _⟩ => ⟨S16384x1024, .bf16⟩
  | .hbm, ⟨56, _⟩ => ⟨S128x384x256, .f32⟩
  | .hbm, ⟨57, _⟩ => ⟨S128x384x256, .f32⟩
  | .hbm, ⟨58, _⟩ => ⟨S1x16, .f32⟩
  | .hbm, ⟨59, _⟩ => ⟨S16384x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S256x1024, .bf16⟩
  | .local _ .vmem, ⟨16, _⟩ => ⟨S256x1024, .bf16⟩
  | .local _ .vmem, ⟨17, _⟩ => ⟨S128x256, .bf16⟩
  | .local _ .vmem, ⟨18, _⟩ => ⟨S128x256, .bf16⟩
  | .local _ .vmem, ⟨19, _⟩ => ⟨S256x256, .bf16⟩
  | .local _ .vmem, ⟨20, _⟩ => ⟨S256x256, .bf16⟩
  | .local _ .vmem, ⟨21, _⟩ => ⟨S128x256, .bf16⟩
  | .local _ .vmem, ⟨22, _⟩ => ⟨S128x256, .bf16⟩
  | .local _ .vmem, ⟨23, _⟩ => ⟨S128x256, .bf16⟩
  | .local _ .vmem, ⟨24, _⟩ => ⟨S128x256, .bf16⟩
  | .local _ .vmem, ⟨25, _⟩ => ⟨S256x256, .bf16⟩
  | .local _ .vmem, ⟨26, _⟩ => ⟨S256x256, .bf16⟩
  | .local _ .vmem, ⟨27, _⟩ => ⟨S128x256, .bf16⟩
  | .local _ .vmem, ⟨28, _⟩ => ⟨S128x256, .bf16⟩
  | .local _ .vmem, ⟨29, _⟩ => ⟨S256x1024, .bf16⟩
  | .local _ .vmem, ⟨30, _⟩ => ⟨S256x1024, .bf16⟩
  | .local _ .vmem, ⟨31, _⟩ => ⟨S4x2x512x1, .f32⟩
  | .local _ .vmem, ⟨32, _⟩ => ⟨S4x2x512x1, .f32⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S4x2x512x1, .f32⟩
  | .local _ .vmem, ⟨40, _⟩ => ⟨S4x2x512x1, .f32⟩
  | .local _ .vmem, ⟨41, _⟩ => ⟨S128x256, .bf16⟩
  | .local _ .vmem, ⟨42, _⟩ => ⟨S128x256, .bf16⟩
  | .local _ .vmem, ⟨43, _⟩ => ⟨S256x256, .bf16⟩
  | .local _ .vmem, ⟨44, _⟩ => ⟨S256x256, .bf16⟩
  | .local _ .vmem, ⟨45, _⟩ => ⟨S128x256, .bf16⟩
  | .local _ .vmem, ⟨46, _⟩ => ⟨S128x256, .bf16⟩
  | .local _ .vmem, ⟨47, _⟩ => ⟨S128x256, .bf16⟩
  | .local _ .vmem, ⟨48, _⟩ => ⟨S128x256, .bf16⟩
  | .local _ .vmem, ⟨49, _⟩ => ⟨S256x256, .bf16⟩
  | .local _ .vmem, ⟨50, _⟩ => ⟨S256x256, .bf16⟩
  | .local _ .vmem, ⟨51, _⟩ => ⟨S128x256, .bf16⟩
  | .local _ .vmem, ⟨52, _⟩ => ⟨S128x256, .bf16⟩
  | .local _ .vmem, ⟨53, _⟩ => ⟨S256x1024, .bf16⟩
  | .local _ .vmem, ⟨54, _⟩ => ⟨S256x1024, .bf16⟩
  | .local _ .vmem, ⟨55, _⟩ => ⟨S2x384x256, .f32⟩
  | .local _ .vmem, ⟨56, _⟩ => ⟨S2x384x256, .f32⟩
  | .local _ .vmem, ⟨57, _⟩ => ⟨S2x384x256, .f32⟩
  | .local _ .vmem, ⟨58, _⟩ => ⟨S2x384x256, .f32⟩
  | .local _ .vmem, ⟨59, _⟩ => ⟨S1x16, .f32⟩
  | .local _ .vmem, ⟨60, _⟩ => ⟨S128x1024, .bf16⟩
  | .local _ .vmem, ⟨61, _⟩ => ⟨S128x1024, .bf16⟩
  | .local _ .vmem, ⟨62, _⟩ => ⟨S1x128x256, .f32⟩
  | .local _ .vmem, ⟨63, _⟩ => ⟨S1x128x256, .f32⟩
  | .local _ .vmem, ⟨64, _⟩ => ⟨S1x128x256, .f32⟩
  | .local _ .vmem, ⟨65, _⟩ => ⟨S1x128x256, .f32⟩
  | .local _ .vmem, ⟨66, _⟩ => ⟨S1x128x256, .f32⟩
  | .local _ .vmem, ⟨67, _⟩ => ⟨S1x128x256, .f32⟩
  | .local _ .vmem, ⟨68, _⟩ => ⟨S1x128x256, .f32⟩
  | .local _ .vmem, ⟨69, _⟩ => ⟨S1x128x256, .f32⟩
  | .local _ .vmem, ⟨70, _⟩ => ⟨S1x128x256, .f32⟩
  | .local _ .vmem, ⟨71, _⟩ => ⟨S1x128x256, .f32⟩
  | .local _ .vmem, ⟨72, _⟩ => ⟨S1x128x256, .f32⟩
  | .local _ .vmem, ⟨73, _⟩ => ⟨S1x128x256, .f32⟩
  | .local _ .vmem, ⟨74, _⟩ => ⟨S128x128, .f32⟩
  | .local _ .vmem, ⟨75, _⟩ => ⟨S128x128, .f32⟩
  | .local _ .vmem, ⟨76, _⟩ => ⟨S128x128, .f32⟩
  | .local _ .vmem, ⟨77, _⟩ => ⟨S128x128, .f32⟩
  | .local _ .vmem, ⟨78, _⟩ => ⟨S128x128, .f32⟩
  | .local _ .vmem, ⟨79, _⟩ => ⟨S128x128, .f32⟩
  | .local _ .vmem, ⟨80, _⟩ => ⟨S128x1536, .bf16⟩
  | .local _ .vmem, ⟨81, _⟩ => ⟨S128x1536, .bf16⟩
  | .local _ .smem, ⟨0, _⟩ => ⟨S16, .f32⟩
  | .local _ .smem, ⟨1, _⟩ => ⟨S16, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev main_v37_2 : Ref sig .tc := ⟨.hbm, 51, rfl⟩
abbrev main_v38_0 : Ref sig .tc := ⟨.hbm, 52, rfl⟩
abbrev main_v38_1 : Ref sig .tc := ⟨.hbm, 53, rfl⟩
abbrev main_v39 : Ref sig .tc := ⟨.hbm, 54, rfl⟩
abbrev main_v40_0 : Ref sig .tc := ⟨.hbm, 55, rfl⟩
abbrev main_v40_1 : Ref sig .tc := ⟨.hbm, 56, rfl⟩
abbrev main_v40_2 : Ref sig .tc := ⟨.hbm, 57, rfl⟩
abbrev main_v40_3 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg3_1 : Ref sig .tc := ⟨.vmem, 38, rfl⟩
abbrev cc2_stg4_0 : Ref sig .tc := ⟨.vmem, 39, rfl⟩
abbrev cc2_stg4_1 : Ref sig .tc := ⟨.vmem, 40, rfl⟩
abbrev cc2_stg5_0 : Ref sig .tc := ⟨.vmem, 41, rfl⟩
abbrev cc2_stg5_1 : Ref sig .tc := ⟨.vmem, 42, rfl⟩
abbrev cc2_stg6_0 : Ref sig .tc := ⟨.vmem, 43, rfl⟩
abbrev cc2_stg6_1 : Ref sig .tc := ⟨.vmem, 44, rfl⟩
abbrev cc2_stg7_0 : Ref sig .tc := ⟨.vmem, 45, rfl⟩
abbrev cc2_stg7_1 : Ref sig .tc := ⟨.vmem, 46, rfl⟩
abbrev cc2_stg8_0 : Ref sig .tc := ⟨.vmem, 47, rfl⟩
abbrev cc2_stg8_1 : Ref sig .tc := ⟨.vmem, 48, rfl⟩
abbrev cc2_stg9_0 : Ref sig .tc := ⟨.vmem, 49, rfl⟩
abbrev cc2_stg9_1 : Ref sig .tc := ⟨.vmem, 50, rfl⟩
abbrev cc2_stg10_0 : Ref sig .tc := ⟨.vmem, 51, rfl⟩
abbrev cc2_stg10_1 : Ref sig .tc := ⟨.vmem, 52, rfl⟩
abbrev cc2_stg11_0 : Ref sig .tc := ⟨.vmem, 53, rfl⟩
abbrev cc2_stg11_1 : Ref sig .tc := ⟨.vmem, 54, rfl⟩
abbrev cc2_stg12_0 : Ref sig .tc := ⟨.vmem, 55, rfl⟩
abbrev cc2_stg12_1 : Ref sig .tc := ⟨.vmem, 56, rfl⟩
abbrev cc2_stg13_0 : Ref sig .tc := ⟨.vmem, 57, rfl⟩
abbrev cc2_stg13_1 : Ref sig .tc := ⟨.vmem, 58, rfl⟩
abbrev cc2_stg14_0 : Ref sig .tc := ⟨.vmem, 59, rfl⟩
abbrev cc3_stg0_0 : Ref sig .tc := ⟨.vmem, 60, rfl⟩
abbrev cc3_stg0_1 : Ref sig .tc := ⟨.vmem, 61, rfl⟩
abbrev cc3_stg1_0 : Ref sig .tc := ⟨.vmem, 62, rfl⟩
abbrev cc3_stg1_1 : Ref sig .tc := ⟨.vmem, 63, rfl⟩
abbrev cc3_stg2_0 : Ref sig .tc := ⟨.vmem, 64, rfl⟩
abbrev cc3_stg2_1 : Ref sig .tc := ⟨.vmem, 65, rfl⟩
abbrev cc3_stg3_0 : Ref sig .tc := ⟨.vmem, 66, rfl⟩
abbrev cc3_stg3_1 : Ref sig .tc := ⟨.vmem, 67, rfl⟩
abbrev cc3_stg4_0 : Ref sig .tc := ⟨.vmem, 68, rfl⟩
abbrev cc3_stg4_1 : Ref sig .tc := ⟨.vmem, 69, rfl⟩
abbrev cc3_stg5_0 : Ref sig .tc := ⟨.vmem, 70, rfl⟩
abbrev cc3_stg5_1 : Ref sig .tc := ⟨.vmem, 71, rfl⟩
abbrev cc3_stg6_0 : Ref sig .tc := ⟨.vmem, 72, rfl⟩
abbrev cc3_stg6_1 : Ref sig .tc := ⟨.vmem, 73, rfl⟩
abbrev cc3_stg7_0 : Ref sig .tc := ⟨.vmem, 74, rfl⟩
abbrev cc3_stg7_1 : Ref sig .tc := ⟨.vmem, 75, rfl⟩
abbrev cc3_stg8_0 : Ref sig .tc := ⟨.vmem, 76, rfl⟩
abbrev cc3_stg8_1 : Ref sig .tc := ⟨.vmem, 77, rfl⟩
abbrev cc3_stg9_0 : Ref sig .tc := ⟨.vmem, 78, rfl⟩
abbrev cc3_stg9_1 : Ref sig .tc := ⟨.vmem, 79, rfl⟩
abbrev cc3_stg10_0 : Ref sig .tc := ⟨.vmem, 80, rfl⟩
abbrev cc3_stg10_1 : Ref sig .tc := ⟨.vmem, 81, rfl⟩
abbrev cc1_stg0_0 : Ref sig .tc := ⟨.smem, 0, rfl⟩
abbrev cc2_stg0_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc2_sem0_0 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem3_1 : DmaSem sig := 40
abbrev cc2_sem4_0 : DmaSem sig := 41
abbrev cc2_sem4_1 : DmaSem sig := 42
abbrev cc2_sem5_0 : DmaSem sig := 43
abbrev cc2_sem5_1 : DmaSem sig := 44
abbrev cc2_sem6_0 : DmaSem sig := 45
abbrev cc2_sem6_1 : DmaSem sig := 46
abbrev cc2_sem7_0 : DmaSem sig := 47
abbrev cc2_sem7_1 : DmaSem sig := 48
abbrev cc2_sem8_0 : DmaSem sig := 49
abbrev cc2_sem8_1 : DmaSem sig := 50
abbrev cc2_sem9_0 : DmaSem sig := 51
abbrev cc2_sem9_1 : DmaSem sig := 52
abbrev cc2_sem10_0 : DmaSem sig := 53
abbrev cc2_sem10_1 : DmaSem sig := 54
abbrev cc2_sem11_0 : DmaSem sig := 55
abbrev cc2_sem11_1 : DmaSem sig := 56
abbrev cc2_sem12_0 : DmaSem sig := 57
abbrev cc2_sem12_1 : DmaSem sig := 58
abbrev cc2_sem13_0 : DmaSem sig := 59
abbrev cc2_sem13_1 : DmaSem sig := 60
abbrev cc2_sem14_0 : DmaSem sig := 61
abbrev cc3_sem0_0 : DmaSem sig := 62
abbrev cc3_sem0_1 : DmaSem sig := 63
abbrev cc3_sem1_0 : DmaSem sig := 64
abbrev cc3_sem1_1 : DmaSem sig := 65
abbrev cc3_sem2_0 : DmaSem sig := 66
abbrev cc3_sem2_1 : DmaSem sig := 67
abbrev cc3_sem3_0 : DmaSem sig := 68
abbrev cc3_sem3_1 : DmaSem sig := 69
abbrev cc3_sem4_0 : DmaSem sig := 70
abbrev cc3_sem4_1 : DmaSem sig := 71
abbrev cc3_sem5_0 : DmaSem sig := 72
abbrev cc3_sem5_1 : DmaSem sig := 73
abbrev cc3_sem6_0 : DmaSem sig := 74
abbrev cc3_sem6_1 : DmaSem sig := 75
abbrev cc3_sem7_0 : DmaSem sig := 76
abbrev cc3_sem7_1 : DmaSem sig := 77
abbrev cc3_sem8_0 : DmaSem sig := 78
abbrev cc3_sem8_1 : DmaSem sig := 79
abbrev cc3_sem9_0 : DmaSem sig := 80
abbrev cc3_sem9_1 : DmaSem sig := 81
abbrev cc3_sem10_0 : DmaSem sig := 82
abbrev cc3_sem10_1 : DmaSem sig := 83

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc1_transform_5 (i : grid1.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .smem S16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x2x512x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![64], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_5 (i : grid2.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc2_transform_8 (i : grid2.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4x2x512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S128x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S128x256 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x256 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S128x256 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S256x1024 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S2x384x256 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S2x384x256 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 1 → Memref sig .tc .vmem S1x16 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc3_transform_3 (i : grid3.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![v1.toNat, c2_i32.toNat, c0_i32_0.toNat]

def cc3_transform_4 (i : grid3.Coords) : Fin 3 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  let c0_i32_1 : BitVec 32 := 0#32
  ![v1.toNat, c0_i32.toNat, c0_i32_0.toNat]

def cc3_transform_5 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc3_transform_6 (i : grid3.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![v1.toNat, c2_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x128x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x128x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x128x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x128x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S128x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S128x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S128x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S128x1536 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]
-- ==== AttnKernelIdeal.lean ====
variable {F : FTy → Type} [FloatOps F] [Named F]
def κ : String → Option EReal := fun
  | "mask" => some ⊥
  | _ => none
-- ==== AttnReferenceIdeal.lean ====
abbrev S16384x1024 : Shape := ⟨2, ![16384, 1024]⟩
abbrev S1024x1536 : Shape := ⟨2, ![1024, 1536]⟩
abbrev S16 : Shape := ⟨1, ![16]⟩
abbrev S8 : Shape := ⟨1, ![8]⟩
abbrev S_ : Shape := ⟨0, ![]⟩
abbrev S16384 : Shape := ⟨1, ![16384]⟩
abbrev S16384x1 : Shape := ⟨2, ![16384, 1]⟩
abbrev S1x8 : Shape := ⟨2, ![1, 8]⟩
abbrev S16384x8 : Shape := ⟨2, ![16384, 8]⟩
abbrev S1x16384 : Shape := ⟨2, ![1, 16384]⟩
abbrev S16384x16384 : Shape := ⟨2, ![16384, 16384]⟩
abbrev S16384x1536 : Shape := ⟨2, ![16384, 1536]⟩
abbrev S16384x16x64 : Shape := ⟨3, ![16384, 16, 64]⟩
abbrev S16384x256 : Shape := ⟨2, ![16384, 256]⟩
abbrev S16384x4x64 : Shape := ⟨3, ![16384, 4, 64]⟩
abbrev S16384x1x8 : Shape := ⟨3, ![16384, 1, 8]⟩
abbrev S16384x16x8 : Shape := ⟨3, ![16384, 16, 8]⟩
abbrev S16384x16x48 : Shape := ⟨3, ![16384, 16, 48]⟩
abbrev S16384x4x4x64 : Shape := ⟨4, ![16384, 4, 4, 64]⟩
abbrev S16384x4x8 : Shape := ⟨3, ![16384, 4, 8]⟩
abbrev S16384x4x48 : Shape := ⟨3, ![16384, 4, 48]⟩
abbrev S4x16384x16384x4 : Shape := ⟨4, ![4, 16384, 16384, 4]⟩
abbrev S4x4x16384x16384 : Shape := ⟨4, ![4, 4, 16384, 16384]⟩
abbrev S4x4 : Shape := ⟨2, ![4, 4]⟩
abbrev S4x4x1x1 : Shape := ⟨4, ![4, 4, 1, 1]⟩
abbrev S4x4x16384 : Shape := ⟨3, ![4, 4, 16384]⟩
abbrev S4x4x16384x1 : Shape := ⟨4, ![4, 4, 16384, 1]⟩
abbrev S4x64x4x16384 : Shape := ⟨4, ![4, 64, 4, 16384]⟩
abbrev S4x64x16384 : Shape := ⟨3, ![4, 64, 16384]⟩
abbrev S4x4x1 : Shape := ⟨3, ![4, 4, 1]⟩
abbrev S4x16384x4x64 : Shape := ⟨4, ![4, 16384, 4, 64]⟩
abbrev S4x16384x64 : Shape := ⟨3, ![4, 16384, 64]⟩
abbrev S1x16 : Shape := ⟨2, ![1, 16]⟩

abbrev nBuf : Space → Nat
  | .hbm => 258
  | .vmem => 0
  | .smem => 0
  | _ => 0

abbrev hbmTy0_0 (i : Nat) : BufTy := match i % 128 with
  | 0 => ⟨S16384x1024, .f32⟩
  | 1 => ⟨S1024x1536, .f32⟩
  | 2 => ⟨S16, .f32⟩
  | 3 => ⟨S16384x1024, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S16384, .f32⟩
  | 19 => ⟨S16384x1, .f32⟩
  | 20 => ⟨S1x8, .f32⟩
  | 21 => ⟨S16384x8, .f32⟩
  | 22 => ⟨S16384x8, .f32⟩
  | 23 => ⟨S16384x8, .f32⟩
  | 24 => ⟨S16384x8, .f32⟩
  | 25 => ⟨S16384x8, .f32⟩
  | 26 => ⟨S16384, .i32⟩
  | 27 => ⟨S16384x1, .i32⟩
  | 28 => ⟨S1x16384, .i32⟩
  | 29 => ⟨S16384x16384, .i32⟩
  | 30 => ⟨S16384x16384, .i32⟩
  | 31 => ⟨S16384x16384, .i32⟩
  | 32 => ⟨S16384x16384, .i32⟩
  | 33 => ⟨S_, .i32⟩
  | 34 => ⟨S16384x16384, .i32⟩
  | 35 => ⟨S16384x16384, .i1⟩
  | 36 => ⟨S16384x1536, .f32⟩
  | 37 => ⟨S16384x1024, .f32⟩
  | 38 => ⟨S16384x16x64, .f32⟩
  | 39 => ⟨S16384x256, .f32⟩
  | 40 => ⟨S16384x4x64, .f32⟩
  | 41 => ⟨S16384x256, .f32⟩
  | 42 => ⟨S16384x4x64, .f32⟩
  | 43 => ⟨S16384x1x8, .f32⟩
  | 44 => ⟨S16384x1x8, .f32⟩
  | 45 => ⟨S16384x16x8, .f32⟩
  | 46 => ⟨S16384x16x8, .f32⟩
  | 47 => ⟨S16384x16x8, .f32⟩
  | 48 => ⟨S16384x16x8, .f32⟩
  | 49 => ⟨S16384x16x8, .f32⟩
  | 50 => ⟨S16384x16x8, .f32⟩
  | 51 => ⟨S16384x16x8, .f32⟩
  | 52 => ⟨S16384x16x8, .f32⟩
  | 53 => ⟨S16384x16x8, .f32⟩
  | 54 => ⟨S16384x16x8, .f32⟩
  | 55 => ⟨S16384x16x8, .f32⟩
  | 56 => ⟨S16384x16x8, .f32⟩
  | 57 => ⟨S16384x16x48, .f32⟩
  | 58 => ⟨S16384x16x64, .f32⟩
  | 59 => ⟨S16384x4x4x64, .f32⟩
  | 60 => ⟨S16384x1x8, .f32⟩
  | 61 => ⟨S16384x1x8, .f32⟩
  | 62 => ⟨S16384x4x8, .f32⟩
  | 63 => ⟨S16384x4x8, .f32⟩
  | 64 => ⟨S16384x4x8, .f32⟩
  | 65 => ⟨S16384x4x8, .f32⟩
  | 66 => ⟨S16384x4x8, .f32⟩
  | 67 => ⟨S16384x4x8, .f32⟩
  | 68 => ⟨S16384x4x8, .f32⟩
  | 69 => ⟨S16384x4x8, .f32⟩
  | 70 => ⟨S16384x4x8, .f32⟩
  | 71 => ⟨S16384x4x8, .f32⟩
  | 72 => ⟨S16384x4x8, .f32⟩
  | 73 => ⟨S16384x4x8, .f32⟩
  | 74 => ⟨S16384x4x48, .f32⟩
  | 75 => ⟨S16384x4x64, .f32⟩
  | 76 => ⟨S4x16384x16384x4, .f32⟩
  | 77 => ⟨S4x4x16384x16384, .f32⟩
  | 78 => ⟨S_, .f32⟩
  | 79 => ⟨S4x4x16384x16384, .f32⟩
  | 80 => ⟨S4x4x16384x16384, .f32⟩
  | 81 => ⟨S_, .f32⟩
  | 82 => ⟨S_, .f32⟩
  | 83 => ⟨S4x4x16384x16384, .i1⟩
  | 84 => ⟨S4x4x16384x16384, .f32⟩
  | 85 => ⟨S4x4x16384x16384, .f32⟩
  | 86 => ⟨S_, .f32⟩
  | 87 => ⟨S4x4x16384x16384, .f32⟩
  | 88 => ⟨S4x4, .f32⟩
  | 89 => ⟨S4x4x1x1, .f32⟩
  | 90 => ⟨S_, .f32⟩
  | 91 => ⟨S4x4x16384, .f32⟩
  | 92 => ⟨S4x4x16384x1, .f32⟩
  | 93 => ⟨S4x4x16384x16384, .f32⟩
  | 94 => ⟨S4x4x16384x16384, .i1⟩
  | 95 => ⟨S4x4x16384x16384, .f32⟩
  | 96 => ⟨S_, .f32⟩
  | 97 => ⟨S4x4x16384, .f32⟩
  | 98 => ⟨S4x4x16384x1, .f32⟩
  | 99 => ⟨S4x4x16384x1, .f32⟩
  | 100 => ⟨S4x4x16384x1, .f32⟩
  | 101 => ⟨S4x4x16384x1, .f32⟩
  | 102 => ⟨S4x4x16384x1, .i1⟩
  | 103 => ⟨S4x4x16384x1, .f32⟩
  | 104 => ⟨S4x4x16384x1, .i1⟩
  | 105 => ⟨S_, .f32⟩
  | 106 => ⟨S4x4x16384x1, .f32⟩
  | 107 => ⟨S_, .f32⟩
  | 108 => ⟨S4x4x16384x1, .f32⟩
  | 109 => ⟨S_, .f32⟩
  | 110 => ⟨S4x4x16384x1, .f32⟩
  | 111 => ⟨S4x4x16384x1, .f32⟩
  | 112 => ⟨S4x4x16384x1, .f32⟩
  | 113 => ⟨S4x4x16384x1, .f32⟩
  | 114 => ⟨S4x4x16384x1, .i1⟩
  | 115 => ⟨S4x4x16384x1, .f32⟩
  | 116 => ⟨S4x4x16384x1, .i1⟩
  | 117 => ⟨S_, .f32⟩
  | 118 => ⟨S4x4x16384x1, .f32⟩
  | 119 => ⟨S_, .f32⟩
  | 120 => ⟨S4x4x16384x1, .f32⟩
  | 121 => ⟨S_, .f32⟩
  | 122 => ⟨S4x4x16384x1, .f32⟩
  | 123 => ⟨S4x4x16384x1, .f32⟩
  | 124 => ⟨S4x4x16384x1, .f32⟩
  | 125 => ⟨S4x4x16384x16384, .f32⟩
  | 126 => ⟨S4x4x16384x16384, .f32⟩
  | 127 => ⟨S4x4x16384x16384, .f32⟩
  | _ => ⟨S16384x1024, .f32⟩

abbrev hbmTy0_1 (i : Nat) : BufTy := match i % 128 with
  | 0 => ⟨S_, .f32⟩
  | 1 => ⟨S4x4x16384, .f32⟩
  | 2 => ⟨S4x4x16384x1, .f32⟩
  | 3 => ⟨S4x4x16384x1, .f32⟩
  | 4 => ⟨S4x4x16384x1, .f32⟩
  | 5 => ⟨S4x4x16384x1, .f32⟩
  | 6 => ⟨S4x4x16384x1, .f32⟩
  | 7 => ⟨S4x4x16384x16384, .f32⟩
  | 8 => ⟨S4x4x16384x16384, .f32⟩
  | 9 => ⟨S4x4x16384x1, .f32⟩
  | 10 => ⟨S_, .f32⟩
  | 11 => ⟨S4x4x16384x1, .f32⟩
  | 12 => ⟨S4x4x16384x1, .f32⟩
  | 13 => ⟨S4x64x4x16384, .f32⟩
  | 14 => ⟨S16384x4x4x64, .f32⟩
  | 15 => ⟨S16384x1024, .f32⟩
  | 16 => ⟨S16384x4x4x64, .f32⟩
  | 17 => ⟨S4x64x4x16384, .f32⟩
  | 18 => ⟨S4x4x16384x16384, .f32⟩
  | 19 => ⟨S4x64x16384, .f32⟩
  | 20 => ⟨S16384x4x64, .f32⟩
  | 21 => ⟨S4x4x16384x16384, .f32⟩
  | 22 => ⟨S4x4x16384x16384, .f32⟩
  | 23 => ⟨S4x4x16384x16384, .f32⟩
  | 24 => ⟨S_, .f32⟩
  | 25 => ⟨S4x4x16384, .f32⟩
  | 26 => ⟨S4x4x16384x1, .f32⟩
  | 27 => ⟨S4x4x16384x1, .f32⟩
  | 28 => ⟨S4x4x16384x16384, .f32⟩
  | 29 => ⟨S4x4x16384x16384, .f32⟩
  | 30 => ⟨S4x4x16384x1, .f32⟩
  | 31 => ⟨S_, .f32⟩
  | 32 => ⟨S4x4x1, .f32⟩
  | 33 => ⟨S4x4x1x1, .f32⟩
  | 34 => ⟨S4x4x16384x1, .f32⟩
  | 35 => ⟨S_, .f32⟩
  | 36 => ⟨S4x4x16384, .f32⟩
  | 37 => ⟨S4x4x16384x16384, .f32⟩
  | 38 => ⟨S4x4x16384x16384, .f32⟩
  | 39 => ⟨S4x4x16384x16384, .f32⟩
  | 40 => ⟨S4x4x16384x16384, .f32⟩
  | 41 => ⟨S_, .f32⟩
  | 42 => ⟨S4x4x16384, .f32⟩
  | 43 => ⟨S4x4x16384x1, .f32⟩
  | 44 => ⟨S4x4x16384x1, .f32⟩
  | 45 => ⟨S4x4x16384x1, .f32⟩
  | 46 => ⟨S_, .f32⟩
  | 47 => ⟨S4x4x1, .f32⟩
  | 48 => ⟨S4x4x1x1, .f32⟩
  | 49 => ⟨S4x4x1x1, .f32⟩
  | 50 => ⟨S4x4x16384x1, .f32⟩
  | 51 => ⟨S_, .f32⟩
  | 52 => ⟨S4x4x16384, .f32⟩
  | 53 => ⟨S4x4x16384, .f32⟩
  | 54 => ⟨S4x4x16384x16384, .f32⟩
  | 55 => ⟨S4x4x16384x16384, .f32⟩
  | 56 => ⟨S4x4x16384x16384, .f32⟩
  | 57 => ⟨S_, .f32⟩
  | 58 => ⟨S4x4, .f32⟩
  | 59 => ⟨S16, .f32⟩
  | 60 => ⟨S_, .f32⟩
  | 61 => ⟨S4x4x16384x16384, .f32⟩
  | 62 => ⟨S4x4x16384x16384, .f32⟩
  | 63 => ⟨S_, .f32⟩
  | 64 => ⟨S4x4x16384x16384, .f32⟩
  | 65 => ⟨S4x4x16384x16384, .f32⟩
  | 66 => ⟨S4x16384x16384x4, .f32⟩
  | 67 => ⟨S4x16384x4x64, .f32⟩
  | 68 => ⟨S16384x4x4x64, .f32⟩
  | 69 => ⟨S4x16384x64, .f32⟩
  | 70 => ⟨S16384x4x64, .f32⟩
  | 71 => ⟨S16384x4x8, .f32⟩
  | 72 => ⟨S16384x4x8, .f32⟩
  | 73 => ⟨S16384x4x48, .f32⟩
  | 74 => ⟨S_, .f32⟩
  | 75 => ⟨S16384x4x64, .f32⟩
  | 76 => ⟨S16384x4x8, .f32⟩
  | 77 => ⟨S16384x4x8, .f32⟩
  | 78 => ⟨S16384x4x8, .f32⟩
  | 79 => ⟨S16384x4x8, .f32⟩
  | 80 => ⟨S16384x4x8, .f32⟩
  | 81 => ⟨S16384x4x8, .f32⟩
  | 82 => ⟨S16384x4x8, .f32⟩
  | 83 => ⟨S16384x4x8, .f32⟩
  | 84 => ⟨S16384x4x8, .f32⟩
  | 85 => ⟨S16384x4x8, .f32⟩
  | 86 => ⟨S16384x4x8, .f32⟩
  | 87 => ⟨S_, .f32⟩
  | 88 => ⟨S16384x4x64, .f32⟩
  | 89 => ⟨S16384x4x64, .f32⟩
  | 90 => ⟨S_, .f32⟩
  | 91 => ⟨S16384x4x64, .f32⟩
  | 92 => ⟨S16384x4x64, .f32⟩
  | 93 => ⟨S16384x16x64, .f32⟩
  | 94 => ⟨S16384x16x8, .f32⟩
  | 95 => ⟨S16384x16x8, .f32⟩
  | 96 => ⟨S16384x16x48, .f32⟩
  | 97 => ⟨S_, .f32⟩
  | 98 => ⟨S16384x16x64, .f32⟩
  | 99 => ⟨S16384x16x8, .f32⟩
  | 100 => ⟨S16384x16x8, .f32⟩
  | 101 => ⟨S16384x16x8, .f32⟩
  | 102 => ⟨S16384x16x8, .f32⟩
  | 103 => ⟨S16384x16x8, .f32⟩
  | 104 => ⟨S16384x16x8, .f32⟩
  | 105 => ⟨S16384x16x8, .f32⟩
  | 106 => ⟨S16384x16x8, .f32⟩
  | 107 => ⟨S16384x16x8, .f32⟩
  | 108 => ⟨S16384x16x8, .f32⟩
  | 109 => ⟨S16384x16x8, .f32⟩
  | 110 => ⟨S_, .f32⟩
  | 111 => ⟨S16384x16x64, .f32⟩
  | 112 => ⟨S16384x16x64, .f32⟩
  | 113 => ⟨S_, .f32⟩
  | 114 => ⟨S16384x16x64, .f32⟩
  | 115 => ⟨S16384x16x64, .f32⟩
  | 116 => ⟨S16384x256, .f32⟩
  | 117 => ⟨S_, .f32⟩
  | 118 => ⟨S16384x1536, .f32⟩
  | 119 => ⟨S16384x256, .f32⟩
  | 120 => ⟨S_, .f32⟩
  | 121 => ⟨S16384x1536, .f32⟩
  | 122 => ⟨S16384x1536, .f32⟩
  | 123 => ⟨S16384x1024, .f32⟩
  | 124 => ⟨S_, .f32⟩
  | 125 => ⟨S16384x1536, .f32⟩
  | 126 => ⟨S16384x1536, .f32⟩
  | 127 => ⟨S16384x1024, .bf16⟩
  | _ => ⟨S16384x1024, .f32⟩

abbrev hbmTy0_2 (i : Nat) : BufTy := match i % 128 with
  | 0 => ⟨S16384x1536, .bf16⟩
  | 1 => ⟨S1x16, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_cst_3 : Ref sig .tc := ⟨.hbm, 78, rfl⟩
abbrev main_v69 : Ref sig .tc := ⟨.hbm, 79, rfl⟩
abbrev main_v70 : Ref sig .tc := ⟨.hbm, 80, rfl⟩
abbrev main_cst_4 : Ref sig .tc := ⟨.hbm, 81, rfl⟩
abbrev main_call0_v0 : Ref sig .tc := ⟨.hbm, 82, rfl⟩
abbrev main_v71_1 : Ref sig .tc := ⟨.hbm, 83, rfl⟩
abbrev main_call0_v2 : Ref sig .tc := ⟨.hbm, 84, rfl⟩
abbrev main_v71_0 : Ref sig .tc := ⟨.hbm, 85, rfl⟩
abbrev main_call0_cst : Ref sig .tc := ⟨.hbm, 86, rfl⟩
abbrev main_v71_2 : Ref sig .tc := ⟨.hbm, 87, rfl⟩
abbrev main_v72 : Ref sig .tc := ⟨.hbm, 88, rfl⟩
abbrev main_v73 : Ref sig .tc := ⟨.hbm, 89, rfl⟩
abbrev main_cst_5 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_6 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_7 : Ref sig .tc := ⟨.hbm, 105, rfl⟩
abbrev main_v87 : Ref sig .tc := ⟨.hbm, 106, rfl⟩
abbrev main_cst_8 : Ref sig .tc := ⟨.hbm, 107, rfl⟩
abbrev main_v88 : Ref sig .tc := ⟨.hbm, 108, rfl⟩
abbrev main_cst_9 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_10 : Ref sig .tc := ⟨.hbm, 117, rfl⟩
abbrev main_v96 : Ref sig .tc := ⟨.hbm, 118, rfl⟩
abbrev main_cst_11 : Ref sig .tc := ⟨.hbm, 119, rfl⟩
abbrev main_v97 : Ref sig .tc := ⟨.hbm, 120, rfl⟩
abbrev main_cst_12 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_13 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_14 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_cst_15 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_16 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_17 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_18 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_cst_19 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_20 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_cst_21 : Ref sig .tc := ⟨.hbm, 185, rfl⟩
abbrev main_v153 : Ref sig .tc := ⟨.hbm, 186, rfl⟩
abbrev main_v154 : Ref sig .tc := ⟨.hbm, 187, rfl⟩
abbrev main_call1_cst : Ref sig .tc := ⟨.hbm, 188, rfl⟩
abbrev main_call1_v0 : Ref sig .tc := ⟨.hbm, 189, rfl⟩
abbrev main_v155 : Ref sig .tc := ⟨.hbm, 190, rfl⟩
abbrev main_cst_22 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_cst_23 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_cst_24 : Ref sig .tc := ⟨.hbm, 215, rfl⟩
abbrev main_v178 : Ref sig .tc := ⟨.hbm, 216, rfl⟩
abbrev main_v179 : Ref sig .tc := ⟨.hbm, 217, rfl⟩
abbrev main_cst_25 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_cst_26 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_cst_27 : Ref sig .tc := ⟨.hbm, 238, rfl⟩
abbrev main_v198 : Ref sig .tc := ⟨.hbm, 239, rfl⟩
abbrev main_v199 : Ref sig .tc := ⟨.hbm, 240, rfl⟩
abbrev main_cst_28 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_cst_29 : Ref sig .tc := ⟨.hbm, 245, rfl⟩
abbrev main_v203 : Ref sig .tc := ⟨.hbm, 246, rfl⟩
abbrev main_v204 : Ref sig .tc := ⟨.hbm, 247, rfl⟩
abbrev main_cst_30 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_cst_31 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩

abbrev nD : Nat := 1
abbrev τ : Topo := Topo.v7x

variable {F : FTy → Type} [FloatOps F]
-- ==== PostKernel.lean ====
abbrev S16384x1024 : Shape := ⟨2, ![16384, 1024]⟩
abbrev S16384x5120 : Shape := ⟨2, ![16384, 5120]⟩
abbrev S128 : Shape := ⟨1, ![128]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x5120, .f32⟩
  | .hbm, ⟨3, _⟩ => ⟨S128, .f32⟩
  | .hbm, ⟨4, _⟩ => ⟨S16384x1024, .f32⟩
  | .hbm, ⟨5, _⟩ => ⟨S16384x1024, .bf16⟩
  | .hbm, ⟨6, _⟩ => ⟨S1x128, .f32⟩
  | .hbm, ⟨7, _⟩ => ⟨S16384x1024, .f32⟩
  | .hbm, ⟨8, _⟩ => ⟨S16384x1024, .bf16⟩
  | .hbm, ⟨9, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PostReferenceIdeal.lean ====
abbrev S16384x1024 : Shape := ⟨2, ![16384, 1024]⟩
abbrev S16384x5120 : Shape := ⟨2, ![16384, 5120]⟩
abbrev S128 : Shape := ⟨1, ![128]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x5120, .f32⟩
  | .hbm, ⟨3, _⟩ => ⟨S128, .f32⟩
  | .hbm, ⟨4, _⟩ => ⟨S16384x1024, .f32⟩
  | .hbm, ⟨5, _⟩ => ⟨S16384x1024, .f32⟩
  | .hbm, ⟨6, _⟩ => ⟨S16384x8x128, .f32⟩
  | .hbm, ⟨7, _⟩ => ⟨S16384x1024, .f32⟩
  | .hbm, ⟨8, _⟩ => ⟨S16384x8x128, .f32⟩
  | .hbm, ⟨9, _⟩ => ⟨S16384x8x128, .f32⟩
  | .hbm, ⟨10, _⟩ => ⟨S_, .f32⟩
  | .hbm, ⟨11, _⟩ => ⟨S16384x8, .f32⟩
  | .hbm, ⟨12, _⟩ => ⟨S16384x8x1, .f32⟩
  | .hbm, ⟨13, _⟩ => ⟨S_, .f32⟩
  | .hbm, ⟨14, _⟩ => ⟨S16384x8x1, .f32⟩
  | .hbm, ⟨15, _⟩ => ⟨S16384x8x1, .f32⟩
  | .hbm, ⟨16, _⟩ => ⟨S_, .f32⟩
  | .hbm, ⟨17, _⟩ => ⟨S16384x8x1, .f32⟩
  | .hbm, ⟨18, _⟩ => ⟨S16384x8x1, .f32⟩
  | .hbm, ⟨19, _⟩ => ⟨S16384x8x1, .f32⟩
  | .hbm, ⟨20, _⟩ => ⟨S16384x8x1, .f32⟩
  | .hbm, ⟨21, _⟩ => ⟨S_, .f32⟩
  | .hbm, ⟨22, _⟩ => ⟨S16384x8x1, .f32⟩
  | .hbm, ⟨23, _⟩ => ⟨S16384x8x1, .f32⟩
  | .hbm, ⟨24, _⟩ => ⟨S16384x8x128, .f32⟩
  | .hbm, ⟨25, _⟩ => ⟨S16384x8x128, .f32⟩
  | .hbm, ⟨26, _⟩ => ⟨S1x1x128, .f32⟩
  | .hbm, ⟨27, _⟩ => ⟨S16384x8x128, .f32⟩
  | .hbm, ⟨28, _⟩ => ⟨S16384x8x128, .f32⟩
  | .hbm, ⟨29, _⟩ => ⟨S16384x8x128, .f32⟩
  | .hbm, ⟨30, _⟩ => ⟨S16384x8x128, .f32⟩
  | .hbm, ⟨31, _⟩ => ⟨S_, .f32⟩
  | .hbm, ⟨32, _⟩ => ⟨S16384x8x128, .f32⟩
  | .hbm, ⟨33, _⟩ => ⟨S16384x8x128, .f32⟩
  | .hbm, ⟨34, _⟩ => ⟨S_, .f32⟩
  | .hbm, ⟨35, _⟩ => ⟨S16384x8x128, .f32⟩
  | .hbm, ⟨36, _⟩ => ⟨S16384x8x128, .f32⟩
  | .hbm, ⟨37, _⟩ => ⟨S_, .f32⟩
  | .hbm, ⟨38, _⟩ => ⟨S16384x8x128, .f32⟩
  | .hbm, ⟨39, _⟩ => ⟨S16384x8x128, .f32⟩
  | .hbm, ⟨40, _⟩ => ⟨S16384x8x128, .f32⟩
  | .hbm, ⟨41, _⟩ => ⟨S16384x8x128, .f32⟩
  | .hbm, ⟨42, _⟩ => ⟨S16384x8x128, .f32⟩
  | .hbm, ⟨43, _⟩ => ⟨S16384x1024, .f32⟩
  | .hbm, ⟨44, _⟩ => ⟨S16384x8x128, .f32⟩
  | .hbm, ⟨45, _⟩ => ⟨S16384x8x128, .f32⟩
  | .hbm, ⟨46, _⟩ => ⟨S16384x8x128, .f32⟩
  | .hbm, ⟨47, _⟩ => ⟨S16384x8x128, .f32⟩
  | .hbm, ⟨48, _⟩ => ⟨S16384x8x128, .f32⟩
  | .hbm, ⟨49, _⟩ => ⟨S16384x8x128, .f32⟩
  | .hbm, ⟨50, _⟩ => ⟨S16384x8x128, .f32⟩
  | .hbm, ⟨51, _⟩ => ⟨S16384x8x128, .f32⟩
  | .hbm, ⟨52, _⟩ => ⟨S_, .f32⟩
  | .hbm, ⟨53, _⟩ => ⟨S128, .f32⟩
  | .hbm, ⟨54, _⟩ => ⟨S1x1x128, .f32⟩
  | .hbm, ⟨55, _⟩ => ⟨S16384x8x128, .f32⟩
  | .hbm, ⟨56, _⟩ => ⟨S16384x8x128, .f32⟩
  | .hbm, ⟨57, _⟩ => ⟨S_, .f32⟩
  | .hbm, ⟨58, _⟩ => ⟨S128, .f32⟩
  | .hbm, ⟨59, _⟩ => ⟨S16384x8x128, .f32⟩
  | .hbm, ⟨60, _⟩ => ⟨S_, .f32⟩
  | .hbm, ⟨61, _⟩ => ⟨S16384x8, .f32⟩
  | .hbm, ⟨62, _⟩ => ⟨S16384x8x1, .f32⟩
  | .hbm, ⟨63, _⟩ => ⟨S16384x8x128, .f32⟩
  | .hbm, ⟨64, _⟩ => ⟨S16384x8x128, .f32⟩
  | .hbm, ⟨65, _⟩ => ⟨S16384x8x1, .f32⟩
  | .hbm, ⟨66, _⟩ => ⟨S_, .f32⟩
  | .hbm, ⟨67, _⟩ => ⟨S16384x8x1, .f32⟩
  | .hbm, ⟨68, _⟩ => ⟨S16384x8x1, .f32⟩
  | .hbm, ⟨69, _⟩ => ⟨S_, .f32⟩
  | .hbm, ⟨70, _⟩ => ⟨S16384x8, .f32⟩
  | .hbm, ⟨71, _⟩ => ⟨S16384x8x128, .f32⟩
  | .hbm, ⟨72, _⟩ => ⟨S16384x8x128, .f32⟩
  | .hbm, ⟨73, _⟩ => ⟨S16384x8x128, .f32⟩
  | .hbm, ⟨74, _⟩ => ⟨S16384x8x128, .f32⟩
  | .hbm, ⟨75, _⟩ => ⟨S16384x8x128, .f32⟩
  | .hbm, ⟨76, _⟩ => ⟨S16384x1024, .f32⟩
  | .hbm, ⟨77, _⟩ => ⟨S16384x1024, .f32⟩
  | .hbm, ⟨78, _⟩ => ⟨S16384x1024, .bf16⟩
  | .hbm, ⟨79, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== BoundsKernel.lean ====
abbrev S4x2x1024 : Shape := ⟨3, ![4, 2, 1024]⟩
abbrev S4x2048 : Shape := ⟨2, ![4, 2048]⟩
abbrev S2048 : Shape := ⟨1, ![2048]⟩
abbrev S1x2048 : Shape := ⟨2, ![1, 2048]⟩

abbrev nBuf : Space → Nat
  | .hbm => 5
  | .vmem => 3
  | .smem => 0
  | _ => 0

abbrev bufTy : (tb : Table) → Fin (tcTables nBuf tb) → BufTy
  | .hbm, ⟨0, _⟩ => ⟨S4x2x1024, .f32⟩
  | .hbm, ⟨1, _⟩ => ⟨S4x2x1024, .f32⟩
  | .hbm, ⟨2, _⟩ => ⟨S4x2048, .f32⟩
  | .hbm, ⟨3, _⟩ => ⟨S4x2048, .f32⟩
  | .hbm, ⟨4, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | _, _ => ⟨S4x2x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BoundsReferenceIdeal.lean ====
abbrev S4x2x1024 : Shape := ⟨3, ![4, 2, 1024]⟩
abbrev S_ : Shape := ⟨0, ![]⟩
abbrev S2x1024 : Shape := ⟨2, ![2, 1024]⟩
abbrev S1x2x1024 : Shape := ⟨3, ![1, 2, 1024]⟩
abbrev S4x2048 : Shape := ⟨2, ![4, 2048]⟩

abbrev nBuf : Space → Nat
  | .hbm => 72
  | .vmem => 0
  | .smem => 0
  | _ => 0

abbrev bufTy : (tb : Table) → Fin (tcTables nBuf tb) → BufTy
  | .hbm, ⟨0, _⟩ => ⟨S4x2x1024, .f32⟩
  | .hbm, ⟨1, _⟩ => ⟨S4x2x1024, .f32⟩
  | .hbm, ⟨2, _⟩ => ⟨S_, .f32⟩
  | .hbm, ⟨3, _⟩ => ⟨S2x1024, .f32⟩
  | .hbm, ⟨4, _⟩ => ⟨S1x2x1024, .f32⟩
  | .hbm, ⟨5, _⟩ => ⟨S4x2x1024, .f32⟩
  | .hbm, ⟨6, _⟩ => ⟨S4x2x1024, .i1⟩
  | .hbm, ⟨7, _⟩ => ⟨S4x2x1024, .f32⟩
  | .hbm, ⟨8, _⟩ => ⟨S_, .f32⟩
  | .hbm, ⟨9, _⟩ => ⟨S2x1024, .f32⟩
  | .hbm, ⟨10, _⟩ => ⟨S_, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S2x1024, .f32⟩
  | .hbm, ⟨15, _⟩ => ⟨S2x1024, .i1⟩
  | .hbm, ⟨16, _⟩ => ⟨S_, .f32⟩
  | .hbm, ⟨17, _⟩ => ⟨S2x1024, .f32⟩
  | .hbm, ⟨18, _⟩ => ⟨S2x1024, .i1⟩
  | .hbm, ⟨19, _⟩ => ⟨S_, .f32⟩
  | .hbm, ⟨20, _⟩ => ⟨S2x1024, .f32⟩
  | .hbm, ⟨21, _⟩ => ⟨S_, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S1x2x1024, .f32⟩
  | .hbm, ⟨28, _⟩ => ⟨S4x2x1024, .f32⟩
  | .hbm, ⟨29, _⟩ => ⟨S4x2x1024, .f32⟩
  | .hbm, ⟨30, _⟩ => ⟨S4x2x1024, .f32⟩
  | .hbm, ⟨31, _⟩ => ⟨S_, .f32⟩
  | .hbm, ⟨32, _⟩ => ⟨S2x1024, .f32⟩
  | .hbm, ⟨33, _⟩ => ⟨S1x2x1024, .f32⟩
  | .hbm, ⟨34, _⟩ => ⟨S4x2x1024, .f32⟩
  | .hbm, ⟨35, _⟩ => ⟨S4x2x1024, .f32⟩
  | .hbm, ⟨36, _⟩ => ⟨S1x2x1024, .f32⟩
  | .hbm, ⟨37, _⟩ => ⟨S_, .f32⟩
  | .hbm, ⟨38, _⟩ => ⟨S1x2x1024, .f32⟩
  | .hbm, ⟨39, _⟩ => ⟨S1x2x1024, .f32⟩
  | .hbm, ⟨40, _⟩ => ⟨S_, .f32⟩
  | .hbm, ⟨41, _⟩ => ⟨S_, .f32⟩
  | .hbm, ⟨42, _⟩ => ⟨S4x2x1024, .f32⟩
  | .hbm, ⟨43, _⟩ => ⟨S1x2x1024, .f32⟩
  | .hbm, ⟨44, _⟩ => ⟨S4x2x1024, .f32⟩
  | .hbm, ⟨45, _⟩ => ⟨S4x2x1024, .f32⟩
  | .hbm, ⟨46, _⟩ => ⟨S4x2x1024, .f32⟩
  | .hbm, ⟨47, _⟩ => ⟨S4x2x1024, .f32⟩
  | .hbm, ⟨48, _⟩ => ⟨S_, .f32⟩
  | .hbm, ⟨49, _⟩ => ⟨S2x1024, .f32⟩
  | .hbm, ⟨50, _⟩ => ⟨S1x2x1024, .f32⟩
  | .hbm, ⟨51, _⟩ => ⟨S_, .f32⟩
  | .hbm, ⟨52, _⟩ => ⟨S4x2x1024, .f32⟩
  | .hbm, ⟨53, _⟩ => ⟨S_, .f32⟩
  | .hbm, ⟨54, _⟩ => ⟨S_, .f32⟩
  | .hbm, ⟨55, _⟩ => ⟨S4x2x1024, .f32⟩
  | .hbm, ⟨56, _⟩ => ⟨S4x2x1024, .f32⟩
  | .hbm, ⟨57, _⟩ => ⟨S4x2x1024, .f32⟩
  | .hbm, ⟨58, _⟩ => ⟨S4x2x1024, .f32⟩
  | .hbm, ⟨59, _⟩ => ⟨S4x2x1024, .f32⟩
  | .hbm, ⟨60, _⟩ => ⟨S_, .f32⟩
  | .hbm, ⟨61, _⟩ => ⟨S2x1024, .f32⟩
  | .hbm, ⟨62, _⟩ => ⟨S1x2x1024, .f32⟩
  | .hbm, ⟨63, _⟩ => ⟨S1x2x1024, .f32⟩
  | .hbm, ⟨64, _⟩ => ⟨S4x2x1024, .f32⟩
  | .hbm, ⟨65, _⟩ => ⟨S4x2x1024, .f32⟩
  | .hbm, ⟨66, _⟩ => ⟨S_, .f32⟩
  | .hbm, ⟨67, _⟩ => ⟨S2x1024, .f32⟩
  | .hbm, ⟨68, _⟩ => ⟨S4x2x1024, .f32⟩
  | .hbm, ⟨69, _⟩ => ⟨S4x2x1024, .f32⟩
  | .hbm, ⟨70, _⟩ => ⟨S4x2x1024, .f32⟩
  | .hbm, ⟨71, _⟩ => ⟨S4x2048, .f32⟩
  | _, _ => ⟨S4x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_call1_call0_cst : Ref sig .tc := ⟨.hbm, 53, rfl⟩
abbrev main_call1_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== FfnKernel.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 28
  | .vmem => 12
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .bf16⟩
  | .hbm, ⟨22, _⟩ => ⟨S2816x1024, .bf16⟩
  | .hbm, ⟨23, _⟩ => ⟨S16384x2816, .bf16⟩
  | .hbm, ⟨24, _⟩ => ⟨S16384x2816, .f32⟩
  | .hbm, ⟨25, _⟩ => ⟨S16384x2816, .bf16⟩
  | .hbm, ⟨26, _⟩ => ⟨S16384x2816, .bf16⟩
  | .hbm, ⟨27, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnReferenceIdeal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .bf16⟩
  | .hbm, ⟨27, _⟩ => ⟨S16384x2816, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== PleKernel.lean ====
abbrev S16384x1024 : Shape := ⟨2, ![16384, 1024]⟩
abbrev S1024 : Shape := ⟨1, ![1024]⟩
abbrev S16384x256 : Shape := ⟨2, ![16384, 256]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S512x1024 : Shape := ⟨2, ![512, 1024]⟩
abbrev S512x1 : Shape := ⟨2, ![512, 1]⟩
abbrev S512 : Shape := ⟨1, ![512]⟩

abbrev nBuf : Space → Nat
  | .hbm => 57
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S16384x256, .f32⟩
  | .hbm, ⟨4, _⟩ => ⟨S1024x1024, .f32⟩
  | .hbm, ⟨5, _⟩ => ⟨S256x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .bf16⟩
  | .hbm, ⟨46, _⟩ => ⟨S16384x1024, .f32⟩
  | .hbm, ⟨47, _⟩ => ⟨S16384x1024, .bf16⟩
  | .hbm, ⟨48, _⟩ => ⟨S1024x1024, .bf16⟩
  | .hbm, ⟨49, _⟩ => ⟨S16384x1024, .bf16⟩
  | .hbm, ⟨50, _⟩ => ⟨S1x1024, .f32⟩
  | .hbm, ⟨51, _⟩ => ⟨S16384x1024, .f32⟩
  | .hbm, ⟨52, _⟩ => ⟨S16384x1024, .bf16⟩
  | .hbm, ⟨53, _⟩ => ⟨S16384x1024, .bf16⟩
  | .hbm, ⟨54, _⟩ => ⟨S16384x1024, .bf16⟩
  | .hbm, ⟨55, _⟩ => ⟨S1x1024, .f32⟩
  | .hbm, ⟨56, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1, .f32⟩
  | .local _ .vmem, ⟨10, _⟩ => ⟨S512x1, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37_0 : Ref sig .tc := ⟨.hbm, 51, rfl⟩
abbrev main_v37_1 : Ref sig .tc := ⟨.hbm, 52, rfl⟩
abbrev main_v37_2 : Ref sig .tc := ⟨.hbm, 53, rfl⟩
abbrev main_v37_3 : Ref sig .tc := ⟨.hbm, 54, rfl⟩
abbrev main_v37_4 : Ref sig .tc := ⟨.hbm, 55, rfl⟩
abbrev main_v37_5 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PleReferenceIdeal.lean ====
abbrev S16384x1024 : Shape := ⟨2, ![16384, 1024]⟩
abbrev S1024 : Shape := ⟨1, ![1024]⟩
abbrev S16384x256 : Shape := ⟨2, ![16384, 256]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S16384x256, .f32⟩
  | .hbm, ⟨4, _⟩ => ⟨S1024x1024, .f32⟩
  | .hbm, ⟨5, _⟩ => ⟨S256x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S16384x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S16384x1, .f32⟩
  | .hbm, ⟨86, _⟩ => ⟨S16384x1024, .f32⟩
  | .hbm, ⟨87, _⟩ => ⟨S_, .f32⟩
  | .hbm, ⟨88, _⟩ => ⟨S16384, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S_, .f32⟩
  | .hbm, ⟨94, _⟩ => ⟨S16384, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S_, .f32⟩
  | .hbm, ⟨99, _⟩ => ⟨S16384, .f32⟩
  | .hbm, ⟨100, _⟩ => ⟨S16384x1, .f32⟩
  | .hbm, ⟨101, _⟩ => ⟨S16384x1024, .f32⟩
  | .hbm, ⟨102, _⟩ => ⟨S16384x1, .f32⟩
  | .hbm, ⟨103, _⟩ => ⟨S_, .f32⟩
  | .hbm, ⟨104, _⟩ => ⟨S16384x1, .f32⟩
  | .hbm, ⟨105, _⟩ => ⟨S16384x1, .f32⟩
  | .hbm, ⟨106, _⟩ => ⟨S_, .f32⟩
  | .hbm, ⟨107, _⟩ => ⟨S16384, .f32⟩
  | .hbm, ⟨108, _⟩ => ⟨S16384x1024, .f32⟩
  | .hbm, ⟨109, _⟩ => ⟨S16384x1024, .f32⟩
  | .hbm, ⟨110, _⟩ => ⟨S16384x1024, .bf16⟩
  | .hbm, ⟨111, _⟩ => ⟨S16384x1024, .bf16⟩
  | .hbm, ⟨112, _⟩ => ⟨S1x1024, .f32⟩
  | .hbm, ⟨113, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_cst_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_17 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_18 : Ref sig .tc := ⟨.hbm, 103, rfl⟩
abbrev main_v77 : Ref sig .tc := ⟨.hbm, 104, rfl⟩
abbrev main_v78 : Ref sig .tc := ⟨.hbm, 105, rfl⟩
abbrev main_cst_19 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]
-- ==== NormKernel.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x2816 : Shape := ⟨2, ![512, 2816]⟩
abbrev S512x1024 : Shape := ⟨2, ![512, 1024]⟩
abbrev S512x1 : Shape := ⟨2, ![512, 1]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩

abbrev nBuf : Space → Nat
  | .hbm => 41
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S16384x2816, .f32⟩
  | .hbm, ⟨5, _⟩ => ⟨S16384x2816, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1024x5632, .bf16⟩
  | .hbm, ⟨31, _⟩ => ⟨S1024x4x1408, .bf16⟩
  | .hbm, ⟨32, _⟩ => ⟨S4x1024x1408, .bf16⟩
  | .hbm, ⟨33, _⟩ => ⟨S16384x2816, .bf16⟩
  | .hbm, ⟨34, _⟩ => ⟨S16384x2816, .bf16⟩
  | .hbm, ⟨35, _⟩ => ⟨S16384x1024, .bf16⟩
  | .hbm, ⟨36, _⟩ => ⟨S1x1024, .f32⟩
  | .hbm, ⟨37, _⟩ => ⟨S16384x1024, .f32⟩
  | .hbm, ⟨38, _⟩ => ⟨S16384x1024, .bf16⟩
  | .hbm, ⟨39, _⟩ => ⟨S1x1024, .f32⟩
  | .hbm, ⟨40, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S4x1024x1408, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1, .f32⟩
  | .local _ .vmem, ⟨10, _⟩ => ⟨S512x1, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== NormReferenceIdeal.lean ====
abbrev S16384x1024 : Shape := ⟨2, ![16384, 1024]⟩
abbrev S1024 : Shape := ⟨1, ![1024]⟩
abbrev S1024x5632 : Shape := ⟨2, ![1024, 5632]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S16384x2816, .f32⟩
  | .hbm, ⟨5, _⟩ => ⟨S16384x2816, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x5632, .f32⟩
  | .hbm, ⟨44, _⟩ => ⟨S16384x2816, .f32⟩
  | .hbm, ⟨45, _⟩ => ⟨S16384x2816, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x5632, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S16384x1, .f32⟩
  | .hbm, ⟨75, _⟩ => ⟨S16384x1024, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384, .f32⟩
  | .hbm, ⟨89, _⟩ => ⟨S16384x1, .f32⟩
  | .hbm, ⟨90, _⟩ => ⟨S16384x1024, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384, .f32⟩
  | .hbm, ⟨97, _⟩ => ⟨S16384x1024, .f32⟩
  | .hbm, ⟨98, _⟩ => ⟨S16384x1024, .f32⟩
  | .hbm, ⟨99, _⟩ => ⟨S1x1024, .f32⟩
  | .hbm, ⟨100, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_17 : Ref sig .tc := ⟨.hbm, 92, rfl⟩
abbrev main_v67 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== SwigluKernel.lean ====
abbrev S16384x1024 : Shape := ⟨2, ![16384, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S16384x2816 : Shape := ⟨2, ![16384, 2816]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S16384x1024, .bf16⟩
  | .hbm, ⟨6, _⟩ => ⟨S16384x2816, .bf16⟩
  | .hbm, ⟨7, _⟩ => ⟨S16384x2816, .bf16⟩
  | .hbm, ⟨8, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluReferenceIdeal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S_, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .bf16⟩
  | .hbm, ⟨28, _⟩ => ⟨S16384x2816, .bf16⟩
  | .hbm, ⟨29, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩

abbrev nD : Nat := 1
abbrev τ : Topo := Topo.v7x

variable {F : FTy → Type} [FloatOps F]
-- ==== ResnormKernel.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S16384x1 : Shape := ⟨2, ![16384, 1]⟩
abbrev S512x2816 : Shape := ⟨2, ![512, 2816]⟩
abbrev S512x1024 : Shape := ⟨2, ![512, 1024]⟩
abbrev S512x1 : Shape := ⟨2, ![512, 1]⟩
abbrev S512 : Shape := ⟨1, ![512]⟩

abbrev nBuf : Space → Nat
  | .hbm => 13
  | .vmem => 15
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S16384x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x1024, .bf16⟩
  | .hbm, ⟨11, _⟩ => ⟨S16384x1024, .bf16⟩
  | .hbm, ⟨12, _⟩ => ⟨S16384x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1, .f32⟩
  | .local _ .vmem, ⟨14, _⟩ => ⟨S512x1, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ResnormReferenceIdeal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | .hbm, ⟨40, _⟩ => ⟨S16384x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== EmbedKernel.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1x1x16384x256 : Shape := ⟨4, ![1, 1, 16384, 256]⟩
abbrev S512x1024 : Shape := ⟨2, ![512, 1024]⟩
abbrev S1x1x512x256 : Shape := ⟨4, ![1, 1, 512, 256]⟩
abbrev S512x256 : Shape := ⟨2, ![512, 256]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024x1024, .f32⟩
  | .hbm, ⟨3, _⟩ => ⟨S256x1024, .f32⟩
  | .hbm, ⟨4, _⟩ => ⟨S16384x1024, .bf16⟩
  | .hbm, ⟨5, _⟩ => ⟨S1x1x16384x256, .f32⟩
  | .hbm, ⟨6, _⟩ => ⟨S1024x1024, .bf16⟩
  | .hbm, ⟨7, _⟩ => ⟨S256x1024, .bf16⟩
  | .hbm, ⟨8, _⟩ => ⟨S16384x1024, .f32⟩
  | .hbm, ⟨9, _⟩ => ⟨S16384x1024, .bf16⟩
  | .hbm, ⟨10, _⟩ => ⟨S16384x1024, .bf16⟩
  | .hbm, ⟨11, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x512x256, .f32⟩
  | .local _ .vmem, ⟨5, _⟩ => ⟨S1x1x512x256, .f32⟩
  | .local _ .vmem, ⟨6, _⟩ => ⟨S1024x1024, .bf16⟩
  | .local _ .vmem, ⟨7, _⟩ => ⟨S256x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EmbedReferenceIdeal.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024x1024, .f32⟩
  | .hbm, ⟨3, _⟩ => ⟨S256x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .bf16⟩
  | .hbm, ⟨17, _⟩ => ⟨S16384x1024, .bf16⟩
  | .hbm, ⟨18, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== GatedKernel.lean ====
abbrev S16384x1024 : Shape := ⟨2, ![16384, 1024]⟩
abbrev S16384x5120 : Shape := ⟨2, ![16384, 5120]⟩
abbrev S128 : Shape := ⟨1, ![128]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x5120, .f32⟩
  | .hbm, ⟨3, _⟩ => ⟨S128, .f32⟩
  | .hbm, ⟨4, _⟩ => ⟨S1x128, .f32⟩
  | .hbm, ⟨5, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatedReferenceIdeal.lean ====
abbrev S16384x1024 : Shape := ⟨2, ![16384, 1024]⟩
abbrev S16384x5120 : Shape := ⟨2, ![16384, 5120]⟩
abbrev S128 : Shape := ⟨1, ![128]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x5120, .f32⟩
  | .hbm, ⟨3, _⟩ => ⟨S128, .f32⟩
  | .hbm, ⟨4, _⟩ => ⟨S16384x1024, .f32⟩
  | .hbm, ⟨5, _⟩ => ⟨S16384x8x128, .f32⟩
  | .hbm, ⟨6, _⟩ => ⟨S16384x1024, .f32⟩
  | .hbm, ⟨7, _⟩ => ⟨S16384x8x128, .f32⟩
  | .hbm, ⟨8, _⟩ => ⟨S16384x8x128, .f32⟩
  | .hbm, ⟨9, _⟩ => ⟨S_, .f32⟩
  | .hbm, ⟨10, _⟩ => ⟨S16384x8, .f32⟩
  | .hbm, ⟨11, _⟩ => ⟨S16384x8x1, .f32⟩
  | .hbm, ⟨12, _⟩ => ⟨S_, .f32⟩
  | .hbm, ⟨13, _⟩ => ⟨S16384x8x1, .f32⟩
  | .hbm, ⟨14, _⟩ => ⟨S16384x8x1, .f32⟩
  | .hbm, ⟨15, _⟩ => ⟨S_, .f32⟩
  | .hbm, ⟨16, _⟩ => ⟨S16384x8x1, .f32⟩
  | .hbm, ⟨17, _⟩ => ⟨S16384x8x1, .f32⟩
  | .hbm, ⟨18, _⟩ => ⟨S16384x8x1, .f32⟩
  | .hbm, ⟨19, _⟩ => ⟨S16384x8x128, .f32⟩
  | .hbm, ⟨20, _⟩ => ⟨S16384x8x128, .f32⟩
  | .hbm, ⟨21, _⟩ => ⟨S1x1x128, .f32⟩
  | .hbm, ⟨22, _⟩ => ⟨S16384x8x128, .f32⟩
  | .hbm, ⟨23, _⟩ => ⟨S16384x8x128, .f32⟩
  | .hbm, ⟨24, _⟩ => ⟨S16384x8x128, .f32⟩
  | .hbm, ⟨25, _⟩ => ⟨S16384x8x128, .f32⟩
  | .hbm, ⟨26, _⟩ => ⟨S_, .f32⟩
  | .hbm, ⟨27, _⟩ => ⟨S16384x8x128, .f32⟩
  | .hbm, ⟨28, _⟩ => ⟨S16384x8x128, .f32⟩
  | .hbm, ⟨29, _⟩ => ⟨S_, .f32⟩
  | .hbm, ⟨30, _⟩ => ⟨S16384x8x128, .f32⟩
  | .hbm, ⟨31, _⟩ => ⟨S16384x8x128, .f32⟩
  | .hbm, ⟨32, _⟩ => ⟨S16384x8x128, .f32⟩
  | .hbm, ⟨33, _⟩ => ⟨S16384x8x128, .f32⟩
  | .hbm, ⟨34, _⟩ => ⟨S16384x1024, .f32⟩
  | .hbm, ⟨35, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== LowerKernel.lean ====
abbrev S4x2x1024 : Shape := ⟨3, ![4, 2, 1024]⟩
abbrev S4x2048 : Shape := ⟨2, ![4, 2048]⟩
abbrev S2048 : Shape := ⟨1, ![2048]⟩
abbrev S1x2048 : Shape := ⟨2, ![1, 2048]⟩

abbrev nBuf : Space → Nat
  | .hbm => 3
  | .vmem => 2
  | .smem => 0
  | _ => 0

abbrev bufTy : (tb : Table) → Fin (tcTables nBuf tb) → BufTy
  | .hbm, ⟨0, _⟩ => ⟨S4x2x1024, .f32⟩
  | .hbm, ⟨1, _⟩ => ⟨S4x2048, .f32⟩
  | .hbm, ⟨2, _⟩ => ⟨S4x2048, .f32⟩
  | .local _ .vmem, ⟨0, _⟩ => ⟨S4x2048, .f32⟩
  | .local _ .vmem, ⟨1, _⟩ => ⟨S4x2048, .f32⟩
  | _, _ => ⟨S4x2x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LowerReferenceIdeal.lean ====
abbrev S4x2x1024 : Shape := ⟨3, ![4, 2, 1024]⟩
abbrev S_ : Shape := ⟨0, ![]⟩
abbrev S2x1024 : Shape := ⟨2, ![2, 1024]⟩
abbrev S1x2x1024 : Shape := ⟨3, ![1, 2, 1024]⟩
abbrev S4x2048 : Shape := ⟨2, ![4, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x2x1024, .f32⟩
  | .hbm, ⟨1, _⟩ => ⟨S_, .f32⟩
  | .hbm, ⟨2, _⟩ => ⟨S2x1024, .f32⟩
  | .hbm, ⟨3, _⟩ => ⟨S_, .f32⟩
  | .hbm, ⟨4, _⟩ => ⟨S2x1024, .f32⟩
  | .hbm, ⟨5, _⟩ => ⟨S2x1024, .f32⟩
  | .hbm, ⟨6, _⟩ => ⟨S1x2x1024, .f32⟩
  | .hbm, ⟨7, _⟩ => ⟨S4x2x1024, .f32⟩
  | .hbm, ⟨8, _⟩ => ⟨S4x2x1024, .f32⟩
  | .hbm, ⟨9, _⟩ => ⟨S4x2x1024, .f32⟩
  | .hbm, ⟨10, _⟩ => ⟨S_, .f32⟩
  | .hbm, ⟨11, _⟩ => ⟨S2x1024, .f32⟩
  | .hbm, ⟨12, _⟩ => ⟨S1x2x1024, .f32⟩
  | .hbm, ⟨13, _⟩ => ⟨S4x2x1024, .f32⟩
  | .hbm, ⟨14, _⟩ => ⟨S4x2x1024, .f32⟩
  | .hbm, ⟨15, _⟩ => ⟨S_, .f32⟩
  | .hbm, ⟨16, _⟩ => ⟨S_, .f32⟩
  | .hbm, ⟨17, _⟩ => ⟨S4x2x1024, .f32⟩
  | .hbm, ⟨18, _⟩ => ⟨S1x2x1024, .f32⟩
  | .hbm, ⟨19, _⟩ => ⟨S4x2x1024, .f32⟩
  | .hbm, ⟨20, _⟩ => ⟨S4x2x1024, .f32⟩
  | .hbm, ⟨21, _⟩ => ⟨S4x2048, .f32⟩
  | _, _ => ⟨S4x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ProdKernel.lean ====
abbrev S16384x1024 : Shape := ⟨2, ![16384, 1024]⟩
abbrev S1024x5120 : Shape := ⟨2, ![1024, 5120]⟩
abbrev S16384x5120 : Shape := ⟨2, ![16384, 5120]⟩
abbrev S512x1024 : Shape := ⟨2, ![512, 1024]⟩
abbrev S1024x1280 : Shape := ⟨2, ![1024, 1280]⟩
abbrev S512x1280 : Shape := ⟨2, ![512, 1280]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x5120, .f32⟩
  | .hbm, ⟨2, _⟩ => ⟨S16384x1024, .bf16⟩
  | .hbm, ⟨3, _⟩ => ⟨S1024x5120, .bf16⟩
  | .hbm, ⟨4, _⟩ => ⟨S16384x5120, .f32⟩
  | .local _ .vmem, ⟨0, _⟩ => ⟨S512x1024, .bf16⟩
  | .local _ .vmem, ⟨1, _⟩ => ⟨S512x1024, .bf16⟩
  | .local _ .vmem, ⟨2, _⟩ => ⟨S1024x1280, .bf16⟩
  | .local _ .vmem, ⟨3, _⟩ => ⟨S1024x1280, .bf16⟩
  | .local _ .vmem, ⟨4, _⟩ => ⟨S512x1280, .f32⟩
  | .local _ .vmem, ⟨5, _⟩ => ⟨S512x1280, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProdReferenceIdeal.lean ====
abbrev S16384x1024 : Shape := ⟨2, ![16384, 1024]⟩
abbrev S1024x5120 : Shape := ⟨2, ![1024, 5120]⟩
abbrev S16384x5120 : Shape := ⟨2, ![16384, 5120]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5120, .f32⟩
  | .hbm, ⟨2, _⟩ => ⟨S16384x5120, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== WgradKernel.lean ====
abbrev S16384x2816 : Shape := ⟨2, ![16384, 2816]⟩
abbrev S2816x1024 : Shape := ⟨2, ![2816, 1024]⟩
abbrev S16384x1024 : Shape := ⟨2, ![16384, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x2816, .bf16⟩
  | .hbm, ⟨4, _⟩ => ⟨S16384x1024, .bf16⟩
  | .hbm, ⟨5, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .f32⟩
  | .local _ .vmem, ⟨5, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradReferenceIdeal.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x1024, .f32⟩
  | .hbm, ⟨4, _⟩ => ⟨S1024x2816, .f32⟩
  | .hbm, ⟨5, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BackKernel.lean ====
abbrev S16384x1024 : Shape := ⟨2, ![16384, 1024]⟩
abbrev S1024x5120 : Shape := ⟨2, ![1024, 5120]⟩
abbrev S16384x5120 : Shape := ⟨2, ![16384, 5120]⟩
abbrev S512x1024 : Shape := ⟨2, ![512, 1024]⟩
abbrev S1024x1024 : Shape := ⟨2, ![1024, 1024]⟩

abbrev nBuf : Space → Nat
  | .hbm => 16
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024x5120, .f32⟩
  | .hbm, ⟨2, _⟩ => ⟨S16384x5120, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S16384x1024, .bf16⟩
  | .hbm, ⟨14, _⟩ => ⟨S1024x5120, .bf16⟩
  | .hbm, ⟨15, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x5120, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BackReferenceIdeal.lean ====
abbrev S16384x1024 : Shape := ⟨2, ![16384, 1024]⟩
abbrev S1024x5120 : Shape := ⟨2, ![1024, 5120]⟩
abbrev S16384x5120 : Shape := ⟨2, ![16384, 5120]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5120, .f32⟩
  | .hbm, ⟨2, _⟩ => ⟨S16384x5120, .f32⟩
  | .hbm, ⟨3, _⟩ => ⟨S16384x1024, .f32⟩
  | .hbm, ⟨4, _⟩ => ⟨S16384x5120, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== AdamwKernel.lean ====
abbrev S4096x1408 : Shape := ⟨2, ![4096, 1408]⟩
abbrev S512x1408 : Shape := ⟨2, ![512, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwReferenceIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Loss.Kernel.lean ====
/-
  The loss head's kernel: what its two results hold, as functions of its two arguments.
-/
module

public import proofs.«01_k».proof.Proof.Gen.LossKernelIdeal.Value
public import Idealize.ShloMosaic.Lib.Pipeline.ValueKit

@[expose] public section

set_option maxRecDepth 16384

noncomputable section

namespace Cert.LossKernelIdeal.Value

open Cert.LossKernelIdeal Cert.LossKernelIdeal.Gen Idealize.ShloMosaic Idealize.ShloMosaic.TcCoe Idealize.SL.Sem
open Idealize.ShloMosaic.Pipeline (Dat)

/-- The gradient of the loss: the error times the kernel's word for 1/1024. -/
def gradient (y t : FVec Ideal S16384x1024 .f32) : FVec Ideal S16384x1024 .f32 :=
  fun i => (y i - t i) * Ideal.ofBits .f32 0x3A800000#32

/-- The loss: the sum over all blocks of rows of a block's squared errors times the kernel's word for 0.5/1024. -/
def loss (y t : FVec Ideal S16384x1024 .f32) : FVec Ideal S1x1 .f32 :=
  fun _ => ∑ b : Fin 32, (∑ r : Fin 512, ∑ k : Fin 1024,
    (y (ix2 ⟨b.val * 512 + r.val, by omega⟩ k) - t (ix2 ⟨b.val * 512 + r.val, by omega⟩ k))
      * (y (ix2 ⟨b.val * 512 + r.val, by omega⟩ k) - t (ix2 ⟨b.val * 512 + r.val, by omega⟩ k)))
        * Ideal.ofBits .f32 0x3A000000#32

variable (m : (ℓ : Loc nD τ sig) → Buf (Elt Ideal) ℓ)

/-- The blocks that each grid point stages. -/
theorem idx : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- The gradient that a point stores. -/
theorem pay_grad (x0 x1 : FVec Ideal S512x1024 .f32) (j) :
    k0_pay4 (F := Ideal) x0 x1 j = (x0 j - x1 j) * Ideal.ofBits .f32 0x3A800000#32 := by
  pointwise [k0_pay4, k0_pay1]

/-- The zero that the first point stores. -/
theorem pay_zero (j) : k0_pay2 (F := Ideal) j = 0 := by
  pointwise [k0_pay2]

/-- What a point adds to the running loss. -/
theorem pay_loss (x0 x1 : FVec Ideal S512x1024 .f32) (acc : FVec Ideal S1x1 .f32) (j) :
    k0_pay3 (F := Ideal) x0 x1 acc j = acc j + (∑ r : Fin 512, ∑ k : Fin 1024,
      (x0 (ix2 r k) - x1 (ix2 r k)) * (x0 (ix2 r k) - x1 (ix2 r k))) * Ideal.ofBits .f32 0x3A000000#32 := by
  pointwise [k0_pay3, k0_pay1]

/-- The array of the gradient after the run. -/
theorem final3 (c : Dev nD) : (dats m 0 c).arrAt 3 cfg0.N
    = gradient (m ((c : Thread nD τ).loc main_arg0)) (m ((c : Thread nD τ).loc main_arg1)) := by
  refine (dats m 0 c).arrAt_eq_of_covers 3 _ (by decide +kernel) fun t hf y => ?_
  blk_simp
  rw [after0_3]
  have h : k0_pay4 (F := Ideal) (iblk m c 0 t) (iblk m c 1 t) y
      = gradient (m ((c : Thread nD τ).loc main_arg0)) (m ((c : Thread nD τ).loc main_arg1))
          (((cfg0.win 3).blk t).view.emb y) := by
    rw [pay_grad]
    unfold gradient
    blk_point [iblk, V, idx t]
  by_cases h0 : t.val % 32 = 0
  · rw [outsAt0_A m c t h0]
    frame_out
    exact h
  · rw [outsAt0_B m c t h0]
    frame_out
    exact h

/-- The loss after the run. -/
theorem final2 (c : Dev nD) : (dats m 0 c).arrAt 2 cfg0.N
    = loss (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h).1) 32 (fun _ => 0) _
    (fun t h j => by rw [outsAt0_A m c t h]; frame_out; rw [pay_loss, pay_zero])
    (fun t h j => by rw [outsAt0_B m c t h]; frame_out; rw [pay_loss])
    t ((flush0_2 t).mp hf) _, zero_add]
  unfold loss
  have ht : t.val / 32 = 0 := Nat.div_eq_of_lt (lt_of_lt_of_eq t.isLt N_0)
  refine Fin.sum_fin_congr fun s => ?_
  blk_point [iblk, V, idx ⟨_, Pipeline.run_point_lt_of_flush t ((flush0_2 t).mp hf) s⟩]

end Cert.LossKernelIdeal.Value
-- ==== Proof.Words.lean ====
/-
  The real numbers that the programs' float words stand for, and the distributive laws of the extended reals
  that the value proofs use.
-/
module

public import Idealize.ShloMosaic.Lib.IdealHost

@[expose] public section

noncomputable section

namespace Cert.Words

open Idealize.ShloMosaic

theorem word_half : Ideal.ofBits .f32 0x3F000000#32 = ((1 / 2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_inv1024 : Ideal.ofBits .f32 0x3A800000#32 = ((1 / 1024 : ℝ) : EReal) := by
  simp [Ideal.ofBits, Ideal.ieee, -EReal.coe_mul]; norm_num
theorem word_inv2048 : Ideal.ofBits .f32 0x3A000000#32 = ((1 / 2048 : ℝ) : EReal) := by
  simp [Ideal.ofBits, Ideal.ieee, -EReal.coe_mul]; norm_num

/-- A finite sum of extended reals times a nonnegative real number. -/
theorem sum_mul_const {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

end Cert.Words
-- ==== Proof.Loss.Equation.lean ====
/-
  The loss head: the reference's two terms are the kernel's two functions.
-/
module

public import proofs.«01_k».proof.Proof.Loss.Kernel
public import proofs.«01_k».proof.Proof.Gen.LossReferenceIdeal.Run
public import proofs.«01_k».proof.Proof.Words

@[expose] public section

set_option maxRecDepth 16384

noncomputable section

namespace Cert.LossReferenceIdeal.Value

open Cert.LossReferenceIdeal Cert.LossReferenceIdeal.Gen Idealize.ShloMosaic Idealize.ShloMosaic.TcCoe Idealize.SL.Sem Cert.Words

/-- The reference's loss. -/
def refLoss (y t : FVec Ideal S16384x1024 .f32) : FVec Ideal S1x1 .f32 :=
  shapeCast _ (mulf (constant S_ .f32 0x3F000000#32) (Host.reduceAdd (Host.divf (Host.reduceAdd (mulf (subf y t) (subf y t)) (constant S_ .f32 0x00000000#32) reducesTo_S16384x1024_S16384_d1 h_S_) (broadcastInDim S16384 ![] bcast_S_S16384 (constant S_ .f32 0x44800000#32))) (constant S_ .f32 0x00000000#32) reducesTo_S16384_S_d0 h_S_)) shapeCasts_S_S1x1

/-- The reference's gradient. -/
def refGradient (y t : FVec Ideal S16384x1024 .f32) : FVec Ideal S16384x1024 .f32 :=
  mulf (broadcastInDim S16384x1024 ![0] bcast_S16384_S16384x1024_0 (Host.divf (broadcastInDim S16384 ![] bcast_S_S16384 (mulf (constant S_ .f32 0x3F000000#32) (constant S_ .f32 0x3F800000#32))) (broadcastInDim S16384 ![] bcast_S_S16384 (constant S_ .f32 0x44800000#32)))) (mulf (broadcastInDim S16384x1024 ![] bcast_S_S16384x1024 (constant S_ .f32 0x40000000#32)) (subf y t))

/-- The reference's gradient is the kernel's. -/
theorem refGradient_eq (y t : FVec Ideal S16384x1024 .f32) : refGradient y t = Cert.LossKernelIdeal.Value.gradient y t := by
  funext i
  idx_vars i
  pointwise [refGradient, Cert.LossKernelIdeal.Value.gradient]
  rw [word_half, word_1024, word_two, word_inv1024, Ideal.div_coe (by norm_num)]
  rw [← EReal.coe_mul, ← mul_assoc, ← EReal.coe_mul, mul_comm]
  norm_num

/-- The reference's loss is the kernel's. -/
theorem refLoss_eq (y t : FVec Ideal S16384x1024 .f32) : refLoss y t = Cert.LossKernelIdeal.Value.loss y t := by
  funext i
  idx_vars i
  pointwise [refLoss, Cert.LossKernelIdeal.Value.loss]
  rw [word_half, word_1024, word_inv2048]
  simp only [Ideal.div_coe (show (1024:ℝ) ≠ 0 by norm_num)]
  rw [mul_comm, sum_mul_const _ _ _ (by norm_num)]
  simp only [mul_assoc, ← EReal.coe_mul, show (1 / 1024 * (1 / 2) : ℝ) = 1 / 2048 by norm_num]
  simp only [sum_mul_const _ _ (1 / 2048) (by norm_num)]
  exact (Fin.sum_mul_add_congr fun b r hl => rfl).symm

end Cert.LossReferenceIdeal.Value
-- ==== Proof.Loss.Claims.lean ====
/-
  The claims about the loss head: both frames, the reference's frame, and the equality of the two programs' results.
-/
module

public import proofs.«01_k».proof.Proof.Loss.Equation
public import proofs.«01_k».proof.Proof.Gen.LossKernel.Frame
public import proofs.«01_k».proof.Defs
public import Idealize.ShloMosaic.Lib.Claim

@[expose] public section

set_option maxRecDepth 16384

noncomputable section

namespace Cert.LossClaims

open Idealize.ShloMosaic Idealize.ShloMosaic.TcCoe Idealize.SL.Sem

theorem frame_kernel : Cert.quiescent_LossKernel := fun m ρ _ => Cert.LossKernel.Gen.frame m ρ

theorem frame_ideal : Cert.quiescent_LossKernelIdeal := fun m ρ _ => Cert.LossKernelIdeal.Gen.frame m ρ

theorem frame_reference : Cert.quiescent_LossReferenceIdeal := fun m ρ _ =>
  (θ_run Cert.LossReferenceIdeal.defs _ _).mono (fun r h => ⟨fun c => (h c).2.2, sem_eq_zero_of_no_sems (by decide) r.2⟩)
    (Cert.LossReferenceIdeal.Value.run m ρ)

/-- Kernel and reference give the same loss and the same gradient. -/
theorem algebraic : Cert.algebraic_LossKernelIdeal_LossReferenceIdeal := by
  intro m ρ m' ρ' _ hagree
  refine ⟨fun c => Cert.LossKernelIdeal.Value.loss
      (m ((c.tc : Thread Cert.LossKernelIdeal.nD Cert.LossKernelIdeal.τ).loc Cert.LossKernelIdeal.main_arg0))
      (m ((c.tc : Thread Cert.LossKernelIdeal.nD Cert.LossKernelIdeal.τ).loc Cert.LossKernelIdeal.main_arg1)),
    fun c => Cert.LossKernelIdeal.Value.gradient
      (m ((c.tc : Thread Cert.LossKernelIdeal.nD Cert.LossKernelIdeal.τ).loc Cert.LossKernelIdeal.main_arg0))
      (m ((c.tc : Thread Cert.LossKernelIdeal.nD Cert.LossKernelIdeal.τ).loc Cert.LossKernelIdeal.main_arg1)),
    (θ_run Cert.LossKernelIdeal.defs _ _).mono (fun r h c => ?_) (Cert.LossKernelIdeal.Value.run_blocks m ρ),
    (θ_run Cert.LossReferenceIdeal.defs _ _).mono (fun r h c => ?_) (Cert.LossReferenceIdeal.Value.run m' ρ')⟩
  · obtain ⟨h2, h3, hy, ht⟩ := h c
    exact ⟨h2.trans (Cert.LossKernelIdeal.Value.final2 m c), h3.trans (Cert.LossKernelIdeal.Value.final3 m c), hy, ht⟩
  · obtain ⟨h2, h3, hy, ht⟩ := h c
    refine ⟨h2.trans ?_, h3.trans ?_, hy, ht⟩
    · rw [(hagree c).1, (hagree c).2]
      exact Cert.LossReferenceIdeal.Value.refLoss_eq _ _
    · rw [(hagree c).1, (hagree c).2]
      exact Cert.LossReferenceIdeal.Value.refGradient_eq _ _

end Cert.LossClaims
-- ==== Proof.Reals.lean ====
/-
  Real numbers inside the extended reals: sums, exponentials and maxima of real values.
-/
module

public import Idealize.ShloMosaic.Lib.IdealHost

@[expose] public section

noncomputable section

namespace Cert.Reals

open Idealize.ShloMosaic

/-- A sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem word_bot : Ideal.ofBits .f32 0xFF800000#32 = (⊥ : EReal) := by
  simp [Ideal.ofBits, Ideal.ieee]

theorem word_one_bf16 : Ideal.ofBits .bf16 0x3F80#16 = ((1 : ℝ) : EReal) := by
  simp [Ideal.ofBits, Ideal.ieee, -EReal.coe_mul]; try norm_num

theorem word_eighth : Ideal.ofBits .f32 0x3E000000#32 = ((1 / 8 : ℝ) : EReal) := by
  simp [Ideal.ofBits, Ideal.ieee, -EReal.coe_mul]; norm_num

/-- The maximum of finitely many values below ⊤ is below ⊤. -/
theorem fold_max_ne_top {ι : Type*} (s : Finset ι) (f : ι → EReal) (h : ∀ i, f i ≠ ⊤) :
    s.fold max (⊥ : EReal) f ≠ ⊤ := by
  classical
  induction s using Finset.induction_on with
  | empty => simp
  | insert a s ha ih =>
    rw [Finset.fold_insert ha]
    rcases max_choice (f a) (s.fold max (⊥ : EReal) f) with e | e <;> rw [e]
    · exact h a
    · exact ih

/-- The maximum of a value below ⊤ and a real number is a real number. -/
theorem exists_max_coe (x : EReal) (hx : x ≠ ⊤) (r : ℝ) : ∃ m : ℝ, max x (r : EReal) = (m : EReal) := by
  induction x using EReal.rec with
  | bot => exact ⟨r, by simp⟩
  | top => exact absurd rfl hx
  | coe x => exact ⟨max x r, (EReal.coe_strictMono.monotone.map_max).symm⟩

/-- The exponential of a score that is either a real number or masked out. -/
theorem exp_masked (p : Prop) [Decidable p] (s m : ℝ) :
    Ideal.exp ((s : EReal) + (if p then (0 : EReal) else ⊥) - (m : EReal))
      = (((if p then Real.exp s else 0) * Real.exp (-m) : ℝ) : EReal) := by
  split_ifs with h
  · rw [add_zero, ← EReal.coe_sub, Ideal.exp_coe, sub_eq_add_neg, Real.exp_add]
  · rw [EReal.add_bot, EReal.bot_sub, Ideal.exp_bot]; simp

theorem masked_ne_top (p : Prop) [Decidable p] (s : ℝ) :
    ((s : EReal) + (if p then (0 : EReal) else ⊥)) ≠ ⊤ := by
  split_ifs with h
  · rw [add_zero]; exact EReal.coe_ne_top s
  · rw [EReal.add_bot]; exact bot_ne_top

theorem div_coe_coe (x y : ℝ) (h : y ≠ 0) : Ideal.div (x : EReal) (y : EReal) = ((x / y : ℝ) : EReal) := by
  rw [Ideal.div_coe h, ← EReal.coe_mul]; congr 1; ring

theorem log_coe_pos (r : ℝ) (h : 0 < r) : Ideal.log (r : EReal) = (Real.log r : EReal) := by
  rw [Ideal.log_coe, if_neg (not_le.mpr h)]

end Cert.Reals

end
-- ==== Proof.Attn.Spec.lean ====
/-
  Windowed attention with sinks and its gradient over the real numbers: queries of 16 heads, keys and values of 4,
  16384 positions, a window of 128 positions to either side.
-/
module

public import proofs.«01_k».proof.Proof.Reals

@[expose] public section

set_option maxRecDepth 16384

noncomputable section

namespace Cert.AttnSpec

open Classical

/-- Two positions see each other. -/
def near (t u : ℕ) : Prop := t ≤ u + 128 ∧ u ≤ t + 128

/-- Key `c` of the window of block `b`'s queries exists and is seen from the block's query `r`. -/
def sees (b r c : ℕ) : Prop := near (b * 128 + r + 128) (b * 128 + c) ∧ 128 ≤ b * 128 + c ∧ b * 128 + c < 16384 + 128

/-- A sum over a block's window of 384 keys is the sum over all positions near the query. -/
theorem sum_window (b r : ℕ) (hb : b < 128) (hr : r < 128) (f : ℕ → ℝ) :
    (∑ c : Fin 384, if sees b r c then f (b * 128 + c - 128) else 0)
      = ∑ u : Fin 16384, if near (b * 128 + r) u then f u else 0 := by
  rw [← Finset.sum_filter, ← Finset.sum_filter]
  refine Finset.sum_bij' (fun c hc => ⟨b * 128 + c.val - 128, ?_⟩) (fun u hu => ⟨u.val + 128 - b * 128, ?_⟩) ?_ ?_ ?_ ?_ ?_
  · have h := (Finset.mem_filter.mp hc).2; simp only [sees, near] at h; omega
  · have h := (Finset.mem_filter.mp hu).2; simp only [near] at h; omega
  · intro c hc
    have h := (Finset.mem_filter.mp hc).2
    refine Finset.mem_filter.mpr ⟨Finset.mem_univ _, ?_⟩
    simp only [sees, near] at h ⊢; omega
  · intro u hu
    have h := (Finset.mem_filter.mp hu).2
    refine Finset.mem_filter.mpr ⟨Finset.mem_univ _, ?_⟩
    simp only [sees, near] at h ⊢; omega
  · intro c hc
    have h := (Finset.mem_filter.mp hc).2
    simp only [sees, near] at h
    apply Fin.ext; show b * 128 + c.val - 128 + 128 - b * 128 = c.val; omega
  · intro u hu
    have h := (Finset.mem_filter.mp hu).2
    simp only [near] at h
    apply Fin.ext; show b * 128 + (u.val + 128 - b * 128) - 128 = u.val; omega
  · intro c hc
    rfl

/-- A sum over the queries near a key is the sum over the three blocks of queries whose windows hold the key. -/
theorem sum_queries (j r : ℕ) (hj : j < 128) (hr : r < 128) (f : ℕ → ℝ) :
    (∑ t : Fin 16384, if near t (j * 128 + r) then f t else 0)
      = (if j < 127 then ∑ x : Fin 128, (if sees (j + 1) x r then f ((j + 1) * 128 + x) else 0) else 0)
        + (∑ x : Fin 128, if sees j x (128 + r) then f (j * 128 + x) else 0)
        + (if 0 < j then ∑ x : Fin 128, (if sees (j - 1) x (256 + r) then f ((j - 1) * 128 + x) else 0) else 0) := by
  have key : ∀ (b : ℕ) (hb : b < 128) (c : ℕ) (hc : b * 128 + c = j * 128 + r + 128),
      (∑ x : Fin 128, if sees b x c then f (b * 128 + x) else 0)
        = ∑ t : Fin 16384, if t.val / 128 = b then (if near t (j * 128 + r) then f t else 0) else 0 := by
    intro b hb c hc
    refine Eq.trans ?_ (Finset.sum_filter (fun t : Fin 16384 => t.val / 128 = b) _)
    refine Finset.sum_bij' (fun x _ => ⟨b * 128 + x.val, by omega⟩) (fun t ht => ⟨t.val % 128, by omega⟩) ?_ ?_ ?_ ?_ ?_
    · intro x _
      refine Finset.mem_filter.mpr ⟨Finset.mem_univ _, ?_⟩
      show (b * 128 + x.val) / 128 = b; omega
    · intro t _; exact Finset.mem_univ _
    · intro x _; apply Fin.ext; show (b * 128 + x.val) % 128 = x.val; omega
    · intro t ht
      have h := (Finset.mem_filter.mp ht).2
      apply Fin.ext; show b * 128 + t.val % 128 = t.val; omega
    · intro x _
      have : sees b x c ↔ near (b * 128 + x) (j * 128 + r) := by unfold sees near; omega
      simp only [this]
  have split : ∀ t : Fin 16384, (if near t (j * 128 + r) then f t else 0)
      = (if t.val / 128 = j + 1 then (if near t (j * 128 + r) then f t else 0) else 0)
        + (if t.val / 128 = j then (if near t (j * 128 + r) then f t else 0) else 0)
        + (if t.val / 128 + 1 = j then (if near t (j * 128 + r) then f t else 0) else 0) := by
    intro t
    by_cases h : near t (j * 128 + r)
    · simp only [h, if_true]
      have : t.val / 128 = j + 1 ∨ t.val / 128 = j ∨ t.val / 128 + 1 = j := by unfold near at h; omega
      rcases this with e | e | e
      · rw [if_pos e, if_neg (by omega), if_neg (by omega)]; ring
      · rw [if_neg (by omega), if_pos e, if_neg (by omega)]; ring
      · rw [if_neg (by omega), if_neg (by omega), if_pos e]; ring
    · simp [h]
  rw [Finset.sum_congr rfl fun t _ => split t, Finset.sum_add_distrib, Finset.sum_add_distrib]
  refine congrArg₂ (· + ·) (congrArg₂ (· + ·) ?_ ?_) ?_
  · split_ifs with h
    · exact (key (j + 1) (by omega) r (by ring)).symm
    · exact Finset.sum_eq_zero fun t _ => if_neg (by omega)
  · exact (key j hj (128 + r) (by ring)).symm
  · split_ifs with h
    · rw [key (j - 1) (by omega) (256 + r) (by omega)]
      exact Finset.sum_congr rfl fun t _ => if_congr (by omega) rfl rfl
    · exact Finset.sum_eq_zero fun t _ => if_neg (by omega)

section attention

variable (q k v dO : ℕ → ℕ → ℝ) (sk : ℕ → ℝ)

/-- Query `t` of head `h` against key `u`. -/
def score (h t u : ℕ) : ℝ := ∑ d : Fin 64, q t (h * 64 + d) * k u (h / 4 * 64 + d)
/-- The weight before the division. -/
def num (h t u : ℕ) : ℝ := if near t u then Real.exp (score q k h t u) else 0
/-- The denominator, the sink's weight included. -/
def den (h t : ℕ) : ℝ := (∑ u : Fin 16384, num q k h t u) + Real.exp (sk h)
/-- The attention's weight. -/
def prob (h t u : ℕ) : ℝ := num q k h t u / den q k sk h t
/-- The attention's output. -/
def out (h t d : ℕ) : ℝ := (∑ u : Fin 16384, num q k h t u * v u (h / 4 * 64 + d)) / den q k sk h t
/-- A row's cotangent times its output. -/
def delta (h t : ℕ) : ℝ := ∑ d : Fin 64, dO t (h * 64 + d) * out q k v sk h t d
/-- The scores' gradient. -/
def dscore (h t u : ℕ) : ℝ :=
  prob q k sk h t u * ((∑ d : Fin 64, dO t (h * 64 + d) * v u (h / 4 * 64 + d)) - delta q k v dO sk h t)
/-- The gradient of the (scaled) queries. -/
def dquery (h t d : ℕ) : ℝ := ∑ u : Fin 16384, dscore q k v dO sk h t u * k u (h / 4 * 64 + d)
/-- The gradient of the keys, four heads of queries together. -/
def dkey (g u d : ℕ) : ℝ :=
  ∑ h : Fin 4, ∑ t : Fin 16384, dscore q k v dO sk (g * 4 + h) t u * q t ((g * 4 + h) * 64 + d)
/-- The gradient of the values. -/
def dvalue (g u d : ℕ) : ℝ :=
  ∑ h : Fin 4, ∑ t : Fin 16384, prob q k sk (g * 4 + h) t u * dO t ((g * 4 + h) * 64 + d)
/-- The gradient of the sinks' logits. -/
def dsink (h : ℕ) : ℝ := - ∑ t : Fin 16384, Real.exp (sk h) / den q k sk h t * delta q k v dO sk h t

theorem den_pos (h t : ℕ) : 0 < den q k sk h t := by
  refine add_pos_of_nonneg_of_pos (Finset.sum_nonneg fun u _ => ?_) (Real.exp_pos _)
  unfold num; split_ifs
  · exact (Real.exp_pos _).le
  · exact le_rfl

end attention

end Cert.AttnSpec

end
-- ==== Proof.Attn.Rope.lean ====
/-
  The rotary embedding: over the real numbers, and in the kernel's operations on groups of two heads of lanes.
-/
module

public import proofs.«01_k».proof.Proof.Attn.Spec
public import proofs.«01_k».proof.Proof.Gen.AttnKernelIdeal.Frame
public import Idealize.ShloMosaic.Lib.KernelVsHost
public import Idealize.ShloMosaic.Lib.Pipeline.ValueKit

@[expose] public section

set_option maxRecDepth 16384
noncomputable section

namespace Cert.AttnRope
open Idealize.ShloMosaic Idealize.ShloMosaic.TcCoe
open Cert.AttnKernelIdeal

/-! ## Over the real numbers -/

/-- The angle of position `t` in the pair of lanes `j`. -/
def angle (t j : ℕ) : ℝ := t * Real.rpow 500000 (-(2 * j) / 16)
/-- A head's lanes `x` at position `t`, turned by the angles (`s = 1`) or back (`s = -1`): 8 pairs turn, the lanes from 16
    on stay. -/
def rot (s : ℝ) (x : ℕ → ℝ) (t d : ℕ) : ℝ :=
  if d < 8 then x d * Real.cos (angle t d) - s * (x (d + 8) * Real.sin (angle t d))
  else if d < 16 then x d * Real.cos (angle t (d - 8)) + s * (x (d - 8) * Real.sin (angle t (d - 8)))
  else x d

/-- The tables of the kernel over 128 lanes, two heads: the factor of a lane itself, … -/
def tabC (t l : ℕ) : ℝ := if l % 64 < 8 then Real.cos (angle t (l % 64)) else if l % 64 < 16 then Real.cos (angle t (l % 64 - 8)) else 1
/-- … of the lane 8 below … -/
def tabH (t l : ℕ) : ℝ := if l % 64 < 8 then 0 else if l % 64 < 16 then Real.sin (angle t (l % 64 - 8)) else 0
/-- … and of the lane 8 above. -/
def tabL (t l : ℕ) : ℝ := if l % 64 < 8 then -Real.sin (angle t (l % 64)) else 0

/-- The embedding of a lane of two heads by the tables. -/
theorem rot_tab (s : ℝ) (x : ℕ → ℝ) (t l : ℕ) (hl : l < 128) :
    x l * tabC t l + s * (x ((l + 120) % 128) * tabH t l + x ((l + 8) % 128) * tabL t l)
      = rot s (fun d => x (l / 64 * 64 + d)) t (l % 64) := by
  unfold rot tabC tabH tabL
  by_cases h8 : l % 64 < 8
  · simp only [h8, ↓reduceIte]
    rw [show (l + 8) % 128 = l / 64 * 64 + (l % 64 + 8) by omega, show l / 64 * 64 + l % 64 = l by omega]
    ring
  · by_cases h16 : l % 64 < 16
    · simp only [h8, h16, ↓reduceIte]
      rw [show (l + 120) % 128 = l / 64 * 64 + (l % 64 - 8) by omega, show l / 64 * 64 + l % 64 = l by omega]
      ring
    · simp only [h8, h16, ↓reduceIte]
      rw [show l / 64 * 64 + l % 64 = l by omega]
      ring

theorem rot_congr (s : ℝ) (x y : ℕ → ℝ) (t d : ℕ) (hd : d < 64) (h : ∀ e, e < 64 → x e = y e) : rot s x t d = rot s y t d := by
  unfold rot
  split_ifs
  · rw [h d hd, h (d + 8) (by omega)]
  · rw [h d hd, h (d - 8) (by omega)]
  · rw [h d hd]

/-! ## In the kernel's operations -/

section group

variable {R : ℕ} (s : Ideal .f32) (C H L : FVec Ideal ⟨2, ![R, 128]⟩ .f32)

/-- A group of 128 lanes. -/
def turn (X : FVec Ideal ⟨2, ![R, 128]⟩ .f32) (hr : Shape.Rotates (⟨2, ![R, 128]⟩ : Shape) 1 none) : FVec Ideal ⟨2, ![R, 128]⟩ .f32 :=
  addf (mulf X C) (mulf (broadcast ⟨2, ![R, 128]⟩ s)
    (addf (mulf (dynamicRotate 1 8#32 none X hr) H) (mulf (dynamicRotate 1 120#32 none X hr) L)))

theorem turn_apply (X : FVec Ideal ⟨2, ![R, 128]⟩ .f32) (hr : Shape.Rotates (⟨2, ![R, 128]⟩ : Shape) 1 none) (r : Fin R) (l : Fin 128) :
    turn s C H L X hr (ix2 r l) = (X (ix2 r l) * C (ix2 r l) + s * (X (ix2 r ⟨(l + 120) % 128, Nat.mod_lt _ (by decide)⟩) * H (ix2 r l)
      + X (ix2 r ⟨(l + 8) % 128, Nat.mod_lt _ (by decide)⟩) * L (ix2 r l)) : EReal) := by
  have hl : l.val < 128 := l.isLt
  have e1 : dynamicRotate 1 8#32 none X hr (ix2 r l) = X (ix2 r ⟨(l + 120) % 128, Nat.mod_lt _ (by decide)⟩) :=
    dynamicRotate_apply 1 8#32 X hr _ _ fun b => by
      fin_cases b
      · rfl
      · show (l.val + 120) % 128 = (l.val + 128 - 8 % 128) % 128
        omega
  have e2 : dynamicRotate 1 120#32 none X hr (ix2 r l) = X (ix2 r ⟨(l + 8) % 128, Nat.mod_lt _ (by decide)⟩) :=
    dynamicRotate_apply 1 120#32 X hr _ _ fun b => by
      fin_cases b
      · rfl
      · show (l.val + 8) % 128 = (l.val + 128 - 120 % 128) % 128
        omega
  rw [← e1, ← e2]
  rfl

/-- Groups side by side, each turned. -/
def turns (n : ℕ) (X : FVec Ideal ⟨2, ![R, 128 * n]⟩ .f32) (hr : Shape.Rotates (⟨2, ![R, 128]⟩ : Shape) 1 none)
    (hs : ∀ g : Fin n, (⟨2, ![R, 128 * n]⟩ : Shape).Slices ![0, 128 * g.val] ⟨2, ![R, 128]⟩)
    (hc : Shape.Concatenates ((List.ofFn fun g : Fin n => (⟨⟨2, ![R, 128]⟩, turn s C H L (extractStridedSlice ⟨2, ![R, 128]⟩ ![0, 128 * g.val] X (hs g)) hr⟩ :
      (s : Shape) × (s.Idx → Ideal .f32))).map (·.1)) ⟨2, ![R, 128 * n]⟩ 1) : FVec Ideal ⟨2, ![R, 128 * n]⟩ .f32 :=
  concatenate ⟨2, ![R, 128 * n]⟩ 1 (List.ofFn fun g : Fin n => (⟨⟨2, ![R, 128]⟩, turn s C H L (extractStridedSlice ⟨2, ![R, 128]⟩ ![0, 128 * g.val] X (hs g)) hr⟩ :
      (s : Shape) × (s.Idx → Ideal .f32))) hc

/-- With the tables of the positions from `b` on, each head's lanes are turned. -/
theorem turns_val (n : ℕ) (X : FVec Ideal ⟨2, ![R, 128 * n]⟩ .f32) (hr : Shape.Rotates (⟨2, ![R, 128]⟩ : Shape) 1 none)
    (hs : ∀ g : Fin n, (⟨2, ![R, 128 * n]⟩ : Shape).Slices ![0, 128 * g.val] ⟨2, ![R, 128]⟩) (hc) (b : ℕ) (σ : ℝ) (x : ℕ → ℕ → ℝ)
    (hσ : s = (σ : EReal)) (hC : ∀ (r : Fin R) (l : Fin 128), C (ix2 r l) = (tabC (b + r) l : EReal))
    (hH : ∀ (r : Fin R) (l : Fin 128), H (ix2 r l) = (tabH (b + r) l : EReal))
    (hL : ∀ (r : Fin R) (l : Fin 128), L (ix2 r l) = (tabL (b + r) l : EReal))
    (hX : ∀ (r : Fin R) (m : Fin (128 * n)), X (ix2 r m) = (x r m : EReal)) (r : Fin R) (m : Fin (128 * n)) :
    turns s C H L n X hr hs hc (ix2 r m) = (rot σ (fun d => x r (m.val / 64 * 64 + d)) (b + r) (m.val % 64) : EReal) := by
  have hm : m.val < 128 * n := m.isLt
  have e : turns s C H L n X hr hs hc (ix2 r m) = turn s C H L (extractStridedSlice ⟨2, ![R, 128]⟩ ![0, 128 * (m.val / 128)] X
      (hs ⟨m.val / 128, by omega⟩)) hr (ix2 r ⟨m.val % 128, Nat.mod_lt _ (by decide)⟩) := by
    unfold turns
    refine concatenate_ofFn_apply (t := ⟨2, ![R, 128 * n]⟩) (s₁ := ⟨2, ![R, 128]⟩) 1
      (fun g : Fin n => turn s C H L (extractStridedSlice ⟨2, ![R, 128]⟩ ![0, 128 * g.val] X (hs g)) hr) _ rfl 128 rfl _
      ⟨m.val / 128, by omega⟩ rfl (ix2 r ⟨m.val % 128, Nat.mod_lt _ (by decide)⟩) rfl ?_
    intro b hb
    fin_cases b
    · rfl
    · exact absurd rfl hb
  have sl : ∀ l : Fin 128, extractStridedSlice ⟨2, ![R, 128]⟩ ![0, 128 * (m.val / 128)] X (hs ⟨m.val / 128, by omega⟩) (ix2 r l)
      = (x r (128 * (m.val / 128) + l) : EReal) := by
    intro l
    have hl : l.val < 128 := l.isLt
    refine Eq.trans (congrArg X (funext fun a => Fin.ext ?_)) (hX r ⟨128 * (m.val / 128) + l.val, by omega⟩)
    fin_cases a
    · show 0 + r.val = r.val; omega
    · rfl
  rw [e, turn_apply, sl, sl, sl, hC, hH, hL, hσ]
  simp only [← EReal.coe_mul, ← EReal.coe_add]
  refine congrArg Real.toEReal (((rot_tab σ (fun l => x r (128 * (m.val / 128) + l)) (b + r) (m.val % 128) (Nat.mod_lt _ (by decide)))).trans ?_)
  rw [show m.val % 128 % 64 = m.val % 64 by omega]
  refine rot_congr _ _ _ _ _ (Nat.mod_lt _ (by decide)) fun d hd => ?_
  show x r _ = x r _
  congr 1
  omega

end group

theorem word_one : Ideal.ofBits .f32 0x3F800000#32 = ((1 : ℝ) : EReal) := by
  simp [Ideal.ofBits, Ideal.ieee, -EReal.coe_mul]; try norm_num
theorem word_neg_one : Ideal.ofBits .f32 0xBF800000#32 = ((-1 : ℝ) : EReal) := by
  simp [Ideal.ofBits, Ideal.ieee, -EReal.coe_mul]; try norm_num

end Cert.AttnRope
-- ==== Proof.Attn.Region0.lean ====
/-
  The attention's first call: the queries, keys and values of the inputs, the queries and keys turned and the queries scaled.
-/
module

public import proofs.«01_k».proof.Proof.Attn.Rope
public import Idealize.ShloMosaic.Lib.Pipeline.ValueKit

@[expose] public section

set_option maxRecDepth 16384
noncomputable section

namespace Cert.AttnQkv
open Idealize.ShloMosaic Idealize.ShloMosaic.TcCoe Idealize.SL.Sem
open Cert.AttnKernelIdeal Cert.AttnKernelIdeal.Gen Cert.AttnRope
open Classical

/-! ## Over the real numbers -/

/-- The product of the inputs with the weights. -/
def proj (h w : ℕ → ℕ → ℝ) (t n : ℕ) : ℝ := ∑ e : Fin 1024, h t e * w e n
/-- The queries, turned and scaled: lane `n` of 16 heads. -/
def query (h w : ℕ → ℕ → ℝ) (t n : ℕ) : ℝ := rot 1 (fun d => proj h w t (n / 64 * 64 + d)) t (n % 64) * (1 / 8)
/-- The keys, turned. -/
def key (h w : ℕ → ℕ → ℝ) (t n : ℕ) : ℝ := rot 1 (fun d => proj h w t (1024 + (n / 64 * 64 + d))) t (n % 64)
/-- The values. -/
def value (h w : ℕ → ℕ → ℝ) (t n : ℕ) : ℝ := proj h w t (1280 + n)

/-! ## In the kernel's operations, on a block of 512 positions -/

theorem slices_k : ∀ g : Fin 2, (⟨2, ![512, 128 * 2]⟩ : Shape).Slices ![0, 128 * g.val] ⟨2, ![512, 128]⟩ := by decide
theorem slices_q : ∀ g : Fin 8, (⟨2, ![512, 128 * 8]⟩ : Shape).Slices ![0, 128 * g.val] ⟨2, ![512, 128]⟩ := by decide

section defs

variable (X : FVec Ideal S512x1024 .bf16) (W : FVec Ideal S1024x1536 .bf16) (C H L : FVec Ideal S512x128 .f32)

def bQ : FVec Ideal S512x1024 .bf16 :=
  truncf .bf16 (mulf (turns (Scalar.ofBits .f32 0x3F800000#32) (k0_pay5 C) (k0_pay6 H) (k0_pay7 L) 8 (k0_pay8 X W) rotates_S512x128_d1 slices_q
    concatenates_S512x128_S512x128_S512x128_S512x128_S512x128_S512x128_S512x128_S512x128_S512x1024_d1) (broadcast S512x1024 (Scalar.ofBits .f32 0x3E000000#32))) bitsLt_bf16_f32
def bK : FVec Ideal S512x256 .bf16 :=
  truncf .bf16 (turns (Scalar.ofBits .f32 0x3F800000#32) (k0_pay5 C) (k0_pay6 H) (k0_pay7 L) 2
    (extractStridedSlice S512x256 ![0, 1024] (k0_pay4 X W) slices_S512x1536_o0_1024_S512x256) rotates_S512x128_d1 slices_k
    concatenates_S512x128_S512x128_S512x256_d1) bitsLt_bf16_f32
def bV : FVec Ideal S512x256 .bf16 := k0_pay3 (k0_pay4 X W)

theorem out0_5_val (r : Fin 512) (d : Fin 1024) : out0_5 (F := Ideal) X W C H L (ix2 r d) = bQ X W C H L (ix2 r d) := by
  unfold_out out0_5
  frame_out
  sl_kernel_rfl
theorem out0_6_val (r : Fin 512) (d : Fin 256) : out0_6 (F := Ideal) X W C H L (ix2 r d) = bK X W C H L (ix2 r d) := by
  unfold_out out0_6
  frame_out
  sl_kernel_rfl
theorem out0_7_val (r : Fin 512) (d : Fin 256) : out0_7 (F := Ideal) X W C H L (ix2 r d) = bV X W (ix2 r d) := by
  unfold_out out0_7
  frame_out
  sl_kernel_rfl

theorem k0_pay4_apply (r : Fin 512) (n : Fin 1536) : k0_pay4 (F := Ideal) X W (ix2 r n) = ∑ e : Fin 1024, (X (ix2 r e) * W (ix2 e n) : EReal) := by
  pointwise [k0_pay4]

variable (b : ℕ) (h w : ℕ → ℕ → ℝ)
  (hX : ∀ (r : Fin 512) (e : Fin 1024), X (ix2 r e) = (h (b + r) e : EReal)) (hW : ∀ (e : Fin 1024) (n : Fin 1536), W (ix2 e n) = (w e n : EReal))
  (hC : ∀ (r : Fin 512) (l : Fin 128), C (ix2 r l) = (tabC (b + r) l : EReal))
  (hH : ∀ (r : Fin 512) (l : Fin 128), H (ix2 r l) = (tabH (b + r) l : EReal))
  (hL : ∀ (r : Fin 512) (l : Fin 128), L (ix2 r l) = (tabL (b + r) l : EReal))

include hX hW in
theorem prod_val (r : Fin 512) (n : Fin 1536) : k0_pay4 (F := Ideal) X W (ix2 r n) = (proj h w (b + r) n : EReal) := by
  rw [k0_pay4_apply]
  unfold proj
  rw [Cert.Reals.coe_sum]
  exact Finset.sum_congr rfl fun e _ => by rw [hX, hW, EReal.coe_mul]

include hC in
theorem tC (r : Fin 512) (l : Fin 128) : k0_pay5 (F := Ideal) C (ix2 r l) = (tabC (b + r) l : EReal) := by
  pointwise [k0_pay5]
  exact hC r l
include hH in
theorem tH (r : Fin 512) (l : Fin 128) : k0_pay6 (F := Ideal) H (ix2 r l) = (tabH (b + r) l : EReal) := by
  pointwise [k0_pay6]
  exact hH r l
include hL in
theorem tL (r : Fin 512) (l : Fin 128) : k0_pay7 (F := Ideal) L (ix2 r l) = (tabL (b + r) l : EReal) := by
  pointwise [k0_pay7]
  exact hL r l

theorem bV_apply (r : Fin 512) (n : Fin 256) : bV X W (ix2 r n) = k0_pay4 (F := Ideal) X W (ix2 r ⟨1280 + n, by omega⟩) := by
  pointwise [bV, k0_pay3]
theorem q_slice (r : Fin 512) (n : Fin 1024) : k0_pay8 (F := Ideal) X W (ix2 r n) = k0_pay4 (F := Ideal) X W (ix2 r ⟨n, by omega⟩) := by
  pointwise [k0_pay8]
theorem k_slice (r : Fin 512) (n : Fin 256) : extractStridedSlice S512x256 ![0, 1024] (k0_pay4 (F := Ideal) X W) slices_S512x1536_o0_1024_S512x256 (ix2 r n)
    = k0_pay4 (F := Ideal) X W (ix2 r ⟨1024 + n, by omega⟩) := by
  pointwise

include hX hW in
theorem bV_val (r : Fin 512) (n : Fin 256) : bV X W (ix2 r n) = (value h w (b + r) n : EReal) :=
  (bV_apply X W r n).trans (prod_val X W b h w hX hW r _)
include hX hW hC hH hL in
theorem bK_val (r : Fin 512) (n : Fin 256) : bK X W C H L (ix2 r n) = (key h w (b + r) n : EReal) :=
  turns_val (Scalar.ofBits .f32 0x3F800000#32) (k0_pay5 C) (k0_pay6 H) (k0_pay7 L) 2 _ rotates_S512x128_d1 slices_k
    concatenates_S512x128_S512x128_S512x256_d1 b 1 (fun r n => proj h w (b + r) (1024 + n)) word_one (tC C b hC) (tH H b hH) (tL L b hL)
    (fun r n => (k_slice X W r n).trans (prod_val X W b h w hX hW r _)) r n
include hX hW hC hH hL in
theorem bQ_val (r : Fin 512) (n : Fin 1024) : bQ X W C H L (ix2 r n) = (query h w (b + r) n : EReal) := by
  have e := turns_val (Scalar.ofBits .f32 0x3F800000#32) (k0_pay5 C) (k0_pay6 H) (k0_pay7 L) 8 (k0_pay8 X W) rotates_S512x128_d1 slices_q
    concatenates_S512x128_S512x128_S512x128_S512x128_S512x128_S512x128_S512x128_S512x128_S512x1024_d1 b 1 (fun r n => proj h w (b + r) n) word_one
    (tC C b hC) (tH H b hH) (tL L b hL) (fun r n => (q_slice X W r n).trans (prod_val X W b h w hX hW r _)) r n
  show (turns _ _ _ _ 8 (k0_pay8 X W) _ _ _ (ix2 r n) * Ideal.ofBits .f32 0x3E000000#32 : EReal) = _
  unfold query
  rw [Cert.Reals.word_eighth, EReal.coe_mul]
  exact congrArg (· * ((1 / 8 : ℝ) : EReal)) e

end defs

/-! ## The arrays -/

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem blk0 (c : Dev nD) (t : Fin cfg0.N) (i : Fin 512) (d : Fin 1024) :
    iblk0 V c 0 t (ix2 i d) = V c main_v35 (ix2 ⟨t.val * 512 + i.val, by have : t.val < 32 := t.isLt; omega⟩ d) := by
  blk_simp [iblk0]
  blk_ext [idx0 t]
theorem blk1 (c : Dev nD) (t : Fin cfg0.N) (i : Fin 1024) (d : Fin 1536) : iblk0 V c 1 t (ix2 i d) = V c main_v36 (ix2 i d) := by
  blk_simp [iblk0]
  blk_ext [idx0 t]
theorem blk2 (c : Dev nD) (t : Fin cfg0.N) (i : Fin 512) (d : Fin 128) :
    iblk0 V c 2 t (ix2 i d) = V c main_v28 (ix2 ⟨t.val * 512 + i.val, by have : t.val < 32 := t.isLt; omega⟩ d) := by
  blk_simp [iblk0]
  blk_ext [idx0 t]
theorem blk3 (c : Dev nD) (t : Fin cfg0.N) (i : Fin 512) (d : Fin 128) :
    iblk0 V c 3 t (ix2 i d) = V c main_v31 (ix2 ⟨t.val * 512 + i.val, by have : t.val < 32 := t.isLt; omega⟩ d) := by
  blk_simp [iblk0]
  blk_ext [idx0 t]
theorem blk4 (c : Dev nD) (t : Fin cfg0.N) (i : Fin 512) (d : Fin 128) :
    iblk0 V c 4 t (ix2 i d) = V c main_v34 (ix2 ⟨t.val * 512 + i.val, by have : t.val < 32 := t.isLt; omega⟩ d) := by
  blk_simp [iblk0]
  blk_ext [idx0 t]

section values

variable (c : Dev nD) (h w : ℕ → ℕ → ℝ)
  (hX : ∀ (u : Fin 16384) (e : Fin 1024), V c main_v35 (ix2 u e) = (h u e : EReal)) (hW : ∀ (e : Fin 1024) (n : Fin 1536), V c main_v36 (ix2 e n) = (w e n : EReal))
  (hC : ∀ (u : Fin 16384) (l : Fin 128), V c main_v28 (ix2 u l) = (tabC u l : EReal))
  (hH : ∀ (u : Fin 16384) (l : Fin 128), V c main_v31 (ix2 u l) = (tabH u l : EReal))
  (hL : ∀ (u : Fin 16384) (l : Fin 128), V c main_v34 (ix2 u l) = (tabL u l : EReal))

include hX hW hC hH hL in
/-- The queries. -/
theorem final0_5 : (dat0 V c).arrAt 5 cfg0.N = fun i : S16384x1024.Idx => (query h w (i 0) (i 1) : EReal) := by
  refine (dat0 V c).arrAt_eq_of_covers 5 _ (by decide +kernel) fun t hf (y : S512x1024.Idx) => ?_
  blk_simp
  rw [after0_5]
  obtain ⟨r, d, rfl⟩ : ∃ (r : Fin 512) (d : Fin 1024), y = ix2 r d := ⟨y 0, y 1, by idx_vars y⟩
  rw [out0_5_val, bQ_val _ _ _ _ _ (t.val * 512) h w (fun r e => (blk0 V c t r e).trans (hX _ _)) (fun e n => (blk1 V c t e n).trans (hW _ _))
    (fun r l => (blk2 V c t r l).trans (hC _ _)) (fun r l => (blk3 V c t r l).trans (hH _ _)) (fun r l => (blk4 V c t r l).trans (hL _ _)) r d]
  rw [(idx0 t).2.2.2.2.2.1]
  show _ = (query h w (t.val * 512 + r.val) (0 * 1024 + d.val) : EReal)
  rw [show 0 * 1024 + d.val = d.val by omega]
include hX hW hC hH hL in
/-- The keys. -/
theorem final0_6 : (dat0 V c).arrAt 6 cfg0.N = fun i : S16384x256.Idx => (key h w (i 0) (i 1) : EReal) := by
  refine (dat0 V c).arrAt_eq_of_covers 6 _ (by decide +kernel) fun t hf (y : S512x256.Idx) => ?_
  blk_simp
  rw [after0_6]
  obtain ⟨r, d, rfl⟩ : ∃ (r : Fin 512) (d : Fin 256), y = ix2 r d := ⟨y 0, y 1, by idx_vars y⟩
  rw [out0_6_val, bK_val _ _ _ _ _ (t.val * 512) h w (fun r e => (blk0 V c t r e).trans (hX _ _)) (fun e n => (blk1 V c t e n).trans (hW _ _))
    (fun r l => (blk2 V c t r l).trans (hC _ _)) (fun r l => (blk3 V c t r l).trans (hH _ _)) (fun r l => (blk4 V c t r l).trans (hL _ _)) r d]
  rw [(idx0 t).2.2.2.2.2.2.1]
  show _ = (key h w (t.val * 512 + r.val) (0 * 256 + d.val) : EReal)
  rw [show 0 * 256 + d.val = d.val by omega]
include hX hW in
/-- The values. -/
theorem final0_7 : (dat0 V c).arrAt 7 cfg0.N = fun i : S16384x256.Idx => (value h w (i 0) (i 1) : EReal) := by
  refine (dat0 V c).arrAt_eq_of_covers 7 _ (by decide +kernel) fun t hf (y : S512x256.Idx) => ?_
  blk_simp
  rw [after0_7]
  obtain ⟨r, d, rfl⟩ : ∃ (r : Fin 512) (d : Fin 256), y = ix2 r d := ⟨y 0, y 1, by idx_vars y⟩
  rw [out0_7_val, bV_val _ _ (t.val * 512) h w (fun r e => (blk0 V c t r e).trans (hX _ _)) (fun e n => (blk1 V c t e n).trans (hW _ _)) r d]
  rw [(idx0 t).2.2.2.2.2.2.2]
  show _ = (value h w (t.val * 512 + r.val) (0 * 256 + d.val) : EReal)
  rw [show 0 * 256 + d.val = d.val by omega]

end values

end Cert.AttnQkv
-- ==== Proof.Attn.RefProj.lean ====
/-
  The attention's reference, first part: the product with the weights and the turned queries and keys.
-/
module

public import proofs.«01_k».proof.Proof.Attn.Region0
public import proofs.«01_k».proof.Proof.Gen.AttnReferenceIdeal.Run

@[expose] public section

set_option maxRecDepth 16384
noncomputable section

namespace Cert.AttnRef
open Idealize.ShloMosaic Idealize.ShloMosaic.TcCoe Idealize.SL.Sem
open Cert.AttnReferenceIdeal Cert.AttnReferenceIdeal.Gen Cert.AttnReferenceIdeal.Value Cert.AttnRope Cert.AttnQkv
open Classical

theorem word_zero : Ideal.ofBits .f32 0x00000000#32 = ((0 : ℝ) : EReal) := by
  simp [Ideal.ofBits, Ideal.ieee, -EReal.coe_mul]
theorem word_two : Ideal.ofBits .f32 0x40000000#32 = ((2 : ℝ) : EReal) := by
  simp [Ideal.ofBits, Ideal.ieee, -EReal.coe_mul]; norm_num
theorem word_16 : Ideal.ofBits .f32 0x41800000#32 = ((16 : ℝ) : EReal) := by
  simp [Ideal.ofBits, Ideal.ieee, -EReal.coe_mul]; norm_num
theorem word_theta : Ideal.ofBits .f32 0x48F42400#32 = ((500000 : ℝ) : EReal) := by
  simp [Ideal.ofBits, Ideal.ieee, -EReal.coe_mul]; norm_num

/-- A sum of products of real numbers. -/
theorem sum_mul_val {n : ℕ} (f g : Fin n → EReal) (x y : Fin n → ℝ) (hf : ∀ i, f i = (x i : EReal)) (hg : ∀ i, g i = (y i : EReal)) :
    (∑ i, f i * g i) = ((∑ i, x i * y i : ℝ) : EReal) := by
  rw [Cert.Reals.coe_sum]
  exact Finset.sum_congr rfl fun i _ => by rw [hf, hg, EReal.coe_mul]

section arrays

variable (V0 : Valuation τ sig (Elt Ideal)) (h w : ℕ → ℕ → ℝ)
  (hX : ∀ (t : Fin 16384) (e : Fin 1024), (V0 (Proc.devRef .tc main_arg0) : FVec Ideal S16384x1024 .f32) (ix2 t e) = (h t e : EReal))
  (hW : ∀ (e : Fin 1024) (n : Fin 1536), (V0 (Proc.devRef .tc main_arg1) : FVec Ideal S1024x1536 .f32) (ix2 e n) = (w e n : EReal))

theorem toInt_small (n : ℕ) (hn : n < 16384) : (BitVec.ofNat 32 n).toInt = (n : ℤ) := by
  rw [BitVec.toInt_eq_toNat_of_lt (by rw [BitVec.toNat_ofNat]; omega), BitVec.toNat_ofNat]
  omega

/-- A power of two real numbers. -/
theorem angle_word (t j : ℕ) (ht : t < 16384) (hj : j < 8) :
    (FloatOps.sitofp FTy.f32 (BitVec.ofNat 32 t) : Ideal .f32) *
      Ideal.pow (Ideal.ofBits FTy.f32 0x48F42400#32)
        (Ideal.div (-(Ideal.ofBits FTy.f32 0x40000000#32 * (FloatOps.sitofp FTy.f32 (BitVec.ofNat 32 j) : Ideal .f32)))
          (Ideal.ofBits FTy.f32 0x41800000#32)) = ((angle t j : ℝ) : EReal) := by
  have e (n : ℕ) (hn : n < 16384) : (FloatOps.sitofp FTy.f32 (BitVec.ofNat 32 n) : Ideal .f32) = ((n : ℝ) : EReal) := by
    show (((BitVec.ofNat 32 n).toInt : ℝ) : EReal) = _
    rw [toInt_small n hn]
    rfl
  rw [e t ht, e j (by omega), word_two, word_16, word_theta, ← EReal.coe_mul, ← EReal.coe_neg,
    Cert.Reals.div_coe_coe _ _ (by norm_num), Ideal.pow_coe_coe, ← EReal.coe_mul]
  rfl

theorem v15_val (t : Fin 16384) (j : Fin 8) : res_main_v15 V0 (ix2 t j) = (angle t j : EReal) := by
  pointwise [res_main_v15]
  exact angle_word t j t.isLt j.isLt

include hX hW in
theorem v27_val (t : Fin 16384) (n : Fin 1536) : res_main_v27 V0 (ix2 t n) = (proj h w t n : EReal) := by
  pointwise [res_main_v27]
  unfold proj
  exact sum_mul_val _ _ _ _ (fun e => hX t e) (fun e => hW e n)

include hX hW in
theorem v29_val (t : Fin 16384) (a : Fin 16) (d : Fin 64) : res_main_v29 V0 (ix3 t a d) = (proj h w t (a * 64 + d) : EReal) := by
  pointwise [res_main_v29]
  exact v27_val V0 h w hX hW t _

include hX hW in
theorem v31_val (t : Fin 16384) (a : Fin 4) (d : Fin 64) : res_main_v31 V0 (ix3 t a d) = (proj h w t (1024 + (a * 64 + d)) : EReal) := by
  pointwise [res_main_v31]
  exact v27_val V0 h w hX hW t _

include hX hW in
theorem v33_val (t : Fin 16384) (a : Fin 4) (d : Fin 64) : res_main_v33 V0 (ix3 t a d) = (value h w t (a * 64 + d) : EReal) := by
  pointwise [res_main_v33]
  exact v27_val V0 h w hX hW t _

/-- A head's lanes turned, in the reference's three pieces. -/
theorem rot_pieces (y : Fin 64 → EReal) (c s : Fin 8 → EReal) (x : ℕ → ℝ) (t : ℕ) (d : Fin 64) (hy : ∀ e : Fin 64, y e = (x e : EReal))
    (hc : ∀ j : Fin 8, c j = (angle t j : EReal)) (hs : ∀ j : Fin 8, s j = (angle t j : EReal)) :
    (if h : (d : ℕ) < 8 then y d * Ideal.cos (c ⟨d, h⟩) - y ⟨8 + d, by omega⟩ * Ideal.sin (s ⟨d, h⟩)
      else if h : (d : ℕ) - 8 < 8 then y ⟨8 + (d - 8), by omega⟩ * Ideal.cos (c ⟨d - 8, h⟩) + y ⟨d - 8, by omega⟩ * Ideal.sin (s ⟨d - 8, h⟩)
      else y ⟨16 + (d - 8 - 8), by omega⟩) = (rot 1 x t d : EReal) := by
  have hd : d.val < 64 := d.isLt
  unfold rot
  by_cases h1 : (d : ℕ) < 8
  · rw [dif_pos h1, if_pos h1, hy, hy, hc, hs, Ideal.cos_coe, Ideal.sin_coe, ← EReal.coe_mul, ← EReal.coe_mul, ← EReal.coe_sub]
    refine congrArg Real.toEReal ?_
    show x d * _ - x (8 + d) * _ = _
    rw [Nat.add_comm 8]; ring
  · by_cases h2 : (d : ℕ) - 8 < 8
    · rw [dif_neg h1, dif_pos h2, if_neg h1, if_pos (by omega), hy, hy, hc, hs, Ideal.cos_coe, Ideal.sin_coe, ← EReal.coe_mul, ← EReal.coe_mul,
        ← EReal.coe_add]
      refine congrArg Real.toEReal ?_
      show x (8 + (d - 8)) * _ + x (d - 8) * _ = _
      rw [show 8 + ((d : ℕ) - 8) = d by omega]; ring
    · rw [dif_neg h1, dif_neg h2, if_neg h1, if_neg (by omega), hy]
      refine congrArg Real.toEReal ?_
      show x (16 + (d - 8 - 8)) = _
      rw [show 16 + ((d : ℕ) - 8 - 8) = d by omega]

include hX hW in
theorem v50_val (t : Fin 16384) (g a : Fin 4) (d : Fin 64) : res_main_v50 V0 (ix4 t g a d)
    = (rot 1 (fun d => proj h w t ((g * 4 + a) * 64 + d)) t d : EReal) := by
  pointwise [res_main_v50, res_main_v36, res_main_v37, res_main_v34, res_main_v35, res_main_v16, res_main_v17]
  exact rot_pieces (fun d => res_main_v29 V0 (ix3 t ⟨g * 4 + a, by omega⟩ d)) _ _ _ t d (fun e => v29_val V0 h w hX hW t _ e)
    (fun j => v15_val V0 t j) (fun j => v15_val V0 t j)

include hX hW in
theorem v66_val (t : Fin 16384) (g : Fin 4) (d : Fin 64) : res_main_v66 V0 (ix3 t g d) = (key h w t (g * 64 + d) : EReal) := by
  have hd : d.val < 64 := d.isLt
  pointwise [res_main_v66, res_main_v53, res_main_v54, res_main_v51, res_main_v52, res_main_v16, res_main_v17]
  unfold key
  rw [show (g.val * 64 + d.val) / 64 = g by omega, show (g.val * 64 + d.val) % 64 = d by omega]
  exact rot_pieces (fun d => res_main_v31 V0 (ix3 t g d)) _ _ _ t d (fun e => v31_val V0 h w hX hW t _ e)
    (fun j => v15_val V0 t j) (fun j => v15_val V0 t j)

/-- A query before its scaling. -/
theorem query_eq (t g a d : ℕ) (hd : d < 64) :
    query h w t ((g * 4 + a) * 64 + d) = rot 1 (fun d => proj h w t ((g * 4 + a) * 64 + d)) t d * (1 / 8) := by
  unfold query
  rw [show ((g * 4 + a) * 64 + d) / 64 = g * 4 + a by omega, show ((g * 4 + a) * 64 + d) % 64 = d by omega]

end arrays

end Cert.AttnRef

end
-- ==== Proof.Attn.Tables.lean ====
/-
  The attention's kernel program: what its host lines compute before the first call.
-/
module

public import proofs.«01_k».proof.Proof.Attn.RefProj
public import proofs.«01_k».proof.Proof.Gen.AttnKernelIdeal.Frame
public import Idealize.ShloMosaic.Lib.StableHlo.RunRead

@[expose] public section

set_option maxRecDepth 16384
noncomputable section

namespace Cert.AttnTables
open Idealize.ShloMosaic Idealize.ShloMosaic.TcCoe Idealize.ShloMosaic.StableHlo Idealize.SL.Sem
open Cert.AttnKernelIdeal Cert.AttnKernelIdeal.Gen Cert.AttnRope

variable (V : Valuation τ sig (Elt Ideal))

/-- The angles' array. -/
theorem angles_val (t : Fin 16384) (d : Fin 8) :
    (after hostOps0 V (Proc.devRef .tc main_v15) : FVec Ideal S16384x8 .f32) (ix2 t d) = (angle t d : EReal) := by
  after_results_simp
  pointwise
  exact Cert.AttnRef.angle_word t d t.isLt d.isLt

/-- The three tables of the rotary embedding. -/
theorem tabC_val (u : Fin 16384) (l : Fin 128) :
    (after hostOps0 V (Proc.devRef .tc main_v28) : FVec Ideal S16384x128 .f32) (ix2 u l) = (tabC u l : EReal) := by
  after_results_simp
  pointwise
  after_results_simp
  pointwise
  by_cases h1 : l.val % 64 < 8
  · simp only [dif_pos h1, tabC, if_pos h1]
    rw [Cert.AttnRef.angle_word u (l.val % 64) u.isLt h1, Ideal.cos_coe]
  · by_cases h2 : l.val % 64 - 8 < 8
    · simp only [dif_neg h1, dif_pos h2, tabC, if_neg h1, if_pos (show l.val % 64 < 16 by omega)]
      rw [Cert.AttnRef.angle_word u (l.val % 64 - 8) u.isLt h2, Ideal.cos_coe]
    · simp only [dif_neg h1, dif_neg h2, tabC, if_neg h1, if_neg (show ¬ l.val % 64 < 16 by omega), EReal.coe_one]

theorem tabH_val (u : Fin 16384) (l : Fin 128) :
    (after hostOps0 V (Proc.devRef .tc main_v31) : FVec Ideal S16384x128 .f32) (ix2 u l) = (tabH u l : EReal) := by
  after_results_simp
  pointwise
  after_results_simp
  pointwise
  by_cases h1 : l.val % 64 < 8
  · simp only [dif_pos h1, tabH, if_pos h1, EReal.coe_zero]
  · by_cases h2 : l.val % 64 - 8 < 8
    · simp only [dif_neg h1, dif_pos h2, tabH, if_neg h1, if_pos (show l.val % 64 < 16 by omega)]
      rw [Cert.AttnRef.angle_word u (l.val % 64 - 8) u.isLt h2, Ideal.sin_coe]
    · simp only [dif_neg h1, dif_neg h2, tabH, if_neg h1, if_neg (show ¬ l.val % 64 < 16 by omega), EReal.coe_zero]

theorem tabL_val (u : Fin 16384) (l : Fin 128) :
    (after hostOps0 V (Proc.devRef .tc main_v34) : FVec Ideal S16384x128 .f32) (ix2 u l) = (tabL u l : EReal) := by
  after_results_simp
  pointwise
  after_results_simp
  pointwise
  by_cases h1 : l.val % 64 < 8
  · simp only [dif_pos h1, tabL, if_pos h1]
    rw [Cert.AttnRef.angle_word u (l.val % 64) u.isLt h1, Ideal.sin_coe, EReal.coe_neg]
  · simp only [dif_neg h1, tabL, if_neg h1, EReal.coe_zero]

/-- The two arguments that the first call reads, cast. -/
theorem cast_h (u : Fin 16384) (e : Fin 1024) : (after hostOps0 V (Proc.devRef .tc main_v35) : FVec Ideal S16384x1024 .bf16) (ix2 u e)
    = (V (Proc.devRef .tc main_arg0) : FVec Ideal S16384x1024 .f32) (ix2 u e) := by
  after_results_simp
  rfl
theorem cast_w (e : Fin 1024) (n : Fin 1536) : (after hostOps0 V (Proc.devRef .tc main_v36) : FVec Ideal S1024x1536 .bf16) (ix2 e n)
    = (V (Proc.devRef .tc main_arg1) : FVec Ideal S1024x1536 .f32) (ix2 e n) := by
  after_results_simp
  rfl

/-- The cotangent, cast after the second call. -/
theorem cast_do (u : Fin 16384) (e : Fin 1024) : (after hostOps2 V (Proc.devRef .tc main_v39) : FVec Ideal S16384x1024 .bf16) (ix2 u e)
    = (V (Proc.devRef .tc main_arg3) : FVec Ideal S16384x1024 .f32) (ix2 u e) := by
  after_results_simp
  rfl

end Cert.AttnTables

end
-- ==== Proof.Attn.Head.lean ====
/-
  One head of the attention's forward kernel on one block of 128 query rows: its operations, written once for
  every head and block, and what they compute over real inputs.
-/
module

public import proofs.«01_k».proof.Proof.Gen.AttnKernelIdeal.Skeleton
public import Idealize.ShloMosaic.Lib.Pipeline.ValueKit
public import proofs.«01_k».proof.Proof.Reals

@[expose] public section

set_option maxRecDepth 16384

noncomputable section

namespace Cert.AttnFwd

open Idealize.ShloMosaic Idealize.ShloMosaic.TcCoe Idealize.SL.Sem
open Cert.AttnKernelIdeal Cert.AttnKernelIdeal.Gen Cert.Reals

variable (q : FVec Ideal S128x64 .bf16) (k v : FVec Ideal S384x64 .bf16) (b : FVec Ideal S128x384 .f32) (s : Ideal .f32)

/-- The scores of a head's 128 queries against the window's 384 keys, with the mask's bias added. -/
def hScore : FVec Ideal S128x384 .f32 :=
  addf (matmul dot_S128x64_S384x64_S128x384_1_1_0_0_n_n none q k (constant S128x384 .f32 0x00000000#32)) b
/-- Each query's greatest score, the sink's logit among them. -/
def hMax : FVec Ideal S128x1 .f32 :=
  maximumf (shapeCast S128x1 (multiReduction .maximumf [1] S128 (hScore q k b) 0xFF800000#32 reduces_S128x384_S128 (.inl rfl) rfl)
    shapeCasts_S128_S128x1) (broadcast S128x1 s)
/-- The exponentials times the values and, beside them, times ones. -/
def hAcc : FVec Ideal S128x128 .f32 :=
  matmul dot_S128x384_S384x128_S128x128_1_0_0_1_n_n none
    (truncf .bf16 (exp (subf (hScore q k b) (broadcastTo S128x384 (hMax q k b s) broadcasts_S128x1_S128x384))) bitsLt_bf16_f32)
    (concatenate S384x128 1 [⟨S384x64, v⟩, ⟨S384x64, k1_pay6⟩] concatenates_S384x64_S384x64_S384x128_d1)
    (constant S128x128 .f32 0x00000000#32)
/-- The denominators. -/
def hDen : FVec Ideal S128x1 .f32 :=
  addf (extractStridedSlice S128x1 ![0, 64] (hAcc q k v b s) slices_S128x128_o0_64_S128x1)
    (exp (subf (broadcast S128x1 s) (hMax q k b s)))
/-- The head's output. -/
def hOut : FVec Ideal S128x64 .f32 :=
  mulf (extractStridedSlice S128x64 ![0, 0] (hAcc q k v b s) slices_S128x128_o0_0_S128x64)
    (broadcastTo S128x64 (divf (broadcast S128x1 (Scalar.ofBits .f32 0x3F800000#32)) (hDen q k v b s)) broadcasts_S128x1_S128x64)
/-- The head's log-sums. -/
def hLse : FVec Ideal S128x1 .f32 := addf (hMax q k b s) (log (hDen q k v b s))

section values

variable (Q : Fin 128 → Fin 64 → ℝ) (K W : Fin 384 → Fin 64 → ℝ) (ok : Fin 128 → Fin 384 → Prop)
  [∀ r c, Decidable (ok r c)] (σ : ℝ)

/-- A query's weight on a key of the window before the division: the exponential of its score, or nothing. -/
def weight (r : Fin 128) (c : Fin 384) : ℝ := if ok r c then Real.exp (∑ d, Q r d * K c d) else 0
/-- The sum of a query's weights, the sink's included. -/
def total (r : Fin 128) : ℝ := (∑ c, weight Q K ok r c) + Real.exp σ

theorem weight_nonneg (r : Fin 128) (c : Fin 384) : 0 ≤ weight Q K ok r c := by
  unfold weight; split_ifs
  · exact (Real.exp_pos _).le
  · exact le_rfl

theorem total_pos (r : Fin 128) : 0 < total Q K ok σ r :=
  add_pos_of_nonneg_of_pos (Finset.sum_nonneg fun c _ => weight_nonneg Q K ok r c) (Real.exp_pos σ)

variable (hq : ∀ r d, q (ix2 r d) = (Q r d : EReal)) (hk : ∀ c d, k (ix2 c d) = (K c d : EReal))
  (hv : ∀ c d, v (ix2 c d) = (W c d : EReal)) (hb : ∀ r c, b (ix2 r c) = if ok r c then (0 : EReal) else ⊥)
  (hs : s = (σ : EReal))

include hq hk hb in
theorem hScore_val (r : Fin 128) (c : Fin 384) :
    hScore q k b (ix2 r c) = ((∑ d, Q r d * K c d : ℝ) : EReal) + (if ok r c then (0 : EReal) else ⊥) := by
  pointwise [hScore, hb, hq, hk]
  rw [coe_sum]
  simp only [EReal.coe_mul]
  try rw [zero_add]

include hq hk hb hs in
theorem hMax_val (r : Fin 128) : ∃ m : ℝ, hMax q k b s (ix2 r 0) = (m : EReal) := by
  obtain ⟨m, hm⟩ := exists_max_coe (Finset.univ.fold max (⊥ : EReal) fun c : Fin 384 => hScore q k b (ix2 r c))
    (fold_max_ne_top _ _ fun c => by rw [hScore_val q k b Q K ok hq hk hb]; exact masked_ne_top _ _) σ
  refine ⟨m, ?_⟩
  rw [← hm]
  pointwise [hMax, hs]
  simp only [word_bot]

include hq hk hv hb hs in
theorem hAcc_val (r : Fin 128) (m : ℝ) (hm : hMax q k b s (ix2 r 0) = (m : EReal)) (d : Fin 64) :
    hAcc q k v b s (ix2 r ⟨d.val, by omega⟩) = (((∑ c, weight Q K ok r c * W c d) * Real.exp (-m) : ℝ) : EReal) := by
  pointwise [hAcc, hm, hScore_val q k b Q K ok hq hk hb, hv]
  rw [Finset.sum_mul, coe_sum]
  refine Finset.sum_congr rfl fun c _ => ?_
  rw [exp_masked, ← EReal.coe_mul, weight]
  exact congrArg Real.toEReal (by ring)

include hq hk hb hs in
theorem hAcc_one (r : Fin 128) (m : ℝ) (hm : hMax q k b s (ix2 r 0) = (m : EReal)) :
    hAcc q k v b s (ix2 r (64 : Fin 128)) = (((∑ c, weight Q K ok r c) * Real.exp (-m) : ℝ) : EReal) := by
  pointwise [hAcc, hm, hScore_val q k b Q K ok hq hk hb, k1_pay6]
  rw [Finset.sum_mul, coe_sum]
  refine Finset.sum_congr rfl fun c _ => ?_
  rw [exp_masked, weight]

include hq hk hb hs in
theorem hDen_val (r : Fin 128) (m : ℝ) (hm : hMax q k b s (ix2 r 0) = (m : EReal)) :
    hDen q k v b s (ix2 r 0) = ((total Q K ok σ r * Real.exp (-m) : ℝ) : EReal) := by
  have h1 := hAcc_one q k v b s Q K ok σ hq hk hb hs r m hm
  subst hs
  pointwise [hDen, hm]
  rw [h1, ← EReal.coe_sub, Ideal.exp_coe, ← EReal.coe_add, total, sub_eq_add_neg, Real.exp_add]
  exact congrArg Real.toEReal (by ring)

include hq hk hv hb hs in
/-- The head's output: each query's weighted mean of the values. -/
theorem hOut_val (r : Fin 128) (d : Fin 64) :
    hOut q k v b s (ix2 r d) = (((∑ c, weight Q K ok r c * W c d) / total Q K ok σ r : ℝ) : EReal) := by
  obtain ⟨m, hm⟩ := hMax_val q k b s Q K ok σ hq hk hb hs r
  have h1 := hAcc_val q k v b s Q K W ok σ hq hk hv hb hs r m hm d
  have h2 := hDen_val q k v b s Q K ok σ hq hk hb hs r m hm
  have h3 := total_pos Q K ok σ r
  pointwise [hOut, h2]
  rw [h1, ← EReal.coe_one, div_coe_coe _ _ (by positivity), ← EReal.coe_mul]
  refine congrArg Real.toEReal ?_
  field_simp

include hq hk hb hs in
/-- The head's log-sum. -/
theorem hLse_val (r : Fin 128) :
    hLse q k v b s (ix2 r 0) = ((Real.log (total Q K ok σ r) : ℝ) : EReal) := by
  obtain ⟨m, hm⟩ := hMax_val q k b s Q K ok σ hq hk hb hs r
  have h2 := hDen_val q k v b s Q K ok σ hq hk hb hs r m hm
  have h3 := total_pos Q K ok σ r
  pointwise [hLse, h2, hm]
  rw [log_coe_pos _ (by positivity), ← EReal.coe_add, Real.log_mul h3.ne' (Real.exp_pos _).ne', Real.log_exp]
  exact congrArg Real.toEReal (by ring)

end values

end Cert.AttnFwd

end
-- ==== Proof.Attn.Mask.lean ====
/-
  The window's mask as the kernels compute it, in 32-bit words, and as a fact about positions.
-/
module

public import Idealize.ShloMosaic.Lib.Pipeline.ValueKit
public import proofs.«01_k».proof.Proof.Attn.Spec

@[expose] public section

set_option maxRecDepth 16384

noncomputable section

namespace Cert.AttnMask

open Idealize.ShloMosaic Idealize.ShloMosaic.TcCoe Cert.AttnSpec

open Classical

/-- The mask's bit of a query word and a key word: at most 128 apart, the key at least 0 and below 16384. -/
def bit (x y : BitVec 32) : BitVec 1 :=
  IntOp.andi (IntOp.andi (IntOp.cmpi .sle (IntOp.absi (IntOp.subi x y)) 128#32) (IntOp.cmpi .sge y 0#32)) (IntOp.cmpi .slt y 16384#32)

theorem ofInt_sub (x y : ℤ) : BitVec.ofInt 32 (x - y) = BitVec.ofInt 32 x - BitVec.ofInt 32 y := by
  rw [BitVec.sub_eq_add_neg, ← BitVec.ofInt_neg, ← BitVec.ofInt_add, sub_eq_add_neg]

theorem toInt_small (z : ℤ) (h1 : -100000 ≤ z) (h2 : z ≤ 100000) : (BitVec.ofInt 32 z).toInt = z := by
  rw [BitVec.toInt_ofInt, Int.bmod_def]; split <;> omega

theorem absi_small (z : ℤ) (h1 : -100000 ≤ z) (h2 : z ≤ 100000) : (IntOp.absi (BitVec.ofInt 32 z)).toInt = |z| := by
  unfold IntOp.absi
  have hm : (BitVec.ofInt 32 z).msb = decide (z < 0) := by rw [BitVec.msb_eq_toInt, toInt_small z h1 h2]
  rw [hm]
  by_cases hz : z < 0
  · rw [if_pos (by simpa using hz), ← BitVec.ofInt_neg, toInt_small _ (by omega) (by omega), abs_of_neg hz]
  · rw [if_neg (by simpa using hz), toInt_small z h1 h2, abs_of_nonneg (by omega)]

/-- The bit at a block's query `r` and its window's key `c`. -/
theorem bit_eq (b r c : ℕ) (hb : b < 128) (hr : r < 128) (hc : c < 384) (x y : BitVec 32)
    (hx : x = BitVec.ofInt 32 (b * 128 + r)) (hy : y = BitVec.ofInt 32 (b * 128 - 128 + c)) :
    bit x y = BitVec.ofBool (decide (sees b r c)) := by
  subst hx hy
  have hs : IntOp.subi (BitVec.ofInt 32 (b * 128 + r : ℤ)) (BitVec.ofInt 32 (b * 128 - 128 + c))
      = BitVec.ofInt 32 (r + 128 - c : ℤ) := by
    rw [IntOp.subi, ← ofInt_sub]; exact congrArg _ (by omega)
  have e0 : (0#32).toInt = 0 := by decide
  have e1 : (128#32).toInt = 128 := by decide
  have e2 : (16384#32).toInt = 16384 := by decide
  unfold bit
  rw [hs]
  simp only [IntOp.cmpi, BitVec.sle_eq_decide, BitVec.slt_eq_decide, absi_small (r + 128 - c : ℤ) (by omega) (by omega),
    toInt_small (b * 128 - 128 + c : ℤ) (by omega) (by omega), e0, e1, e2, abs_le, IntOp.andi]
  by_cases h : sees b r c
  · have h' := h
    simp only [sees, near] at h'
    rw [decide_eq_true h, decide_eq_true (by omega), decide_eq_true (by omega), decide_eq_true (by omega)]; rfl
  · rw [decide_eq_false h]
    have h' : ¬ (-128 ≤ (r : ℤ) + 128 - c ∧ (r : ℤ) + 128 - c ≤ 128) ∨ ¬ (0 ≤ (b : ℤ) * 128 - 128 + c) ∨ ¬ ((b : ℤ) * 128 - 128 + c < 16384) := by
      simp only [sees, near] at h; omega
    have hand : ∀ p q : Bool, BitVec.ofBool p &&& BitVec.ofBool q = BitVec.ofBool (p && q) := by decide
    rw [hand, hand]
    refine congrArg BitVec.ofBool ?_
    rcases h' with h' | h' | h' <;> simp [h'] <;> omega

/-- A query's word: the block's first position plus the row within the block. -/
theorem query_word (b r R : ℕ) (w : BitVec 32) (hw : w = BitVec.ofInt 32 (b * 128)) (hR : R % 128 = r) :
    IntOp.addi w (IntOp.andi (BitVec.ofNat 32 R) 127#32) = BitVec.ofInt 32 (b * 128 + r) := by
  have : IntOp.andi (BitVec.ofNat 32 R) 127#32 = BitVec.ofInt 32 (r : ℤ) := by
    apply BitVec.eq_of_toNat_eq
    rw [IntOp.andi, BitVec.toNat_and, BitVec.toNat_ofNat, BitVec.ofInt_natCast, BitVec.toNat_ofNat, BitVec.toNat_ofNat]
    rw [show 127 % 2 ^ 32 = 2 ^ 7 - 1 by decide, Nat.and_two_pow_sub_one_eq_mod]
    have : 2 ^ 7 = 128 := rfl
    have : 2 ^ 32 = 4294967296 := rfl
    omega
  rw [this, hw, IntOp.addi, ← BitVec.ofInt_add]

/-- A key's word: 128 before the block's first position plus the column within the window. -/
theorem key_word (b c : ℕ) (w : BitVec 32) (hw : w = BitVec.ofInt 32 (b * 128)) :
    IntOp.addi (Scalar.subi w 128#32) (BitVec.ofNat 32 c) = BitVec.ofInt 32 (b * 128 - 128 + c) := by
  rw [hw, IntOp.addi, Scalar.subi, IntOp.subi, show (128#32) = BitVec.ofInt 32 128 by decide, ← BitVec.ofInt_natCast,
    ← ofInt_sub, ← BitVec.ofInt_add]

/-- The first position of the even and of the odd block of a grid point. -/
theorem base_word (t o b : ℕ) (w : BitVec 32) (hw : w = BitVec.ofNat 32 t) (h : b * 128 = t * 256 + o) :
    Scalar.addi (Scalar.muli w 256#32) (BitVec.ofNat 32 o) = BitVec.ofInt 32 (b * 128) := by
  rw [hw, Scalar.addi, Scalar.muli, IntOp.addi, IntOp.muli, show (256#32) = BitVec.ofNat 32 256 by decide, BitVec.ofNat_mul_ofNat,
    BitVec.ofNat_add_ofNat, show ((b : ℤ) * 128) = ((b * 128 : ℕ) : ℤ) by push_cast; rfl, BitVec.ofInt_natCast, h]

end Cert.AttnMask
-- ==== Proof.Attn.Forward.lean ====
/-
  The attention's forward kernel on one grid point: the mask, the window's rows, and what is stored for each of the
  point's two blocks of 128 queries.
-/
module

public import proofs.«01_k».proof.Proof.Gen.AttnKernelIdeal.Skeleton
public import proofs.«01_k».proof.Proof.Attn.Head
public import proofs.«01_k».proof.Proof.Attn.Mask

@[expose] public section

set_option maxRecDepth 16384
noncomputable section

namespace Cert.AttnFwd
open Idealize.ShloMosaic Idealize.ShloMosaic.TcCoe Idealize.SL.Sem
open Cert.AttnKernelIdeal Cert.AttnKernelIdeal.Gen Cert.AttnSpec
open Classical

theorem select_sees (p : Prop) :
    Scalar.select (α := Ideal .f32) (BitVec.ofBool (decide p)) (0 : EReal) (Named.named (F := Ideal) κ "mask" 0xF149F2CA#32) = if p then (0 : EReal) else ⊥ := by
  have e : (Named.named κ "mask" 0xF149F2CA#32 : Ideal .f32) = (⊥ : EReal) := rfl
  rw [e]
  by_cases h : p <;> simp [h, Scalar.select]

/-- The bias of the even block of a grid point. -/
theorem bias0 (i : grid1.Coords) (r : Fin 128) (c : Fin 384) :
    k1_pay10 (F := Ideal) (k1_pay8 i) (k1_pay9 i) (ix2 r c) = if sees (2 * (i 0).val) r c then (0 : EReal) else ⊥ := by
  have h0 : (i 0).val < 64 := (i 0).isLt
  have hw := Cert.AttnMask.base_word (i 0).val 0 (2 * (i 0).val) _ rfl (by omega)
  pointwise [k1_pay10, k1_pay8, k1_pay9, k1_pay7]
  refine Eq.trans ?_ (select_sees _)
  refine congrArg (fun z => Scalar.select z _ _) ?_
  exact Cert.AttnMask.bit_eq (2 * (i 0).val) r c (by omega) r.isLt c.isLt _ _
    (Cert.AttnMask.query_word _ _ _ _ hw (Nat.mod_eq_of_lt r.isLt)) (Cert.AttnMask.key_word _ _ _ hw)

/-- The bias of the odd block. -/
theorem bias1 (t : ℕ) (ht : t < 64) (r : Fin 128) (c : Fin 384) :
    k1_pay123 (F := Ideal) (BitVec.ofNat 32 t) (ix2 r c) = if sees (2 * t + 1) r c then (0 : EReal) else ⊥ := by
  have hw := Cert.AttnMask.base_word t 128 (2 * t + 1) _ rfl (by omega)
  pointwise [k1_pay123]
  refine Eq.trans ?_ (select_sees _)
  refine congrArg (fun z => Scalar.select z _ _) ?_
  exact Cert.AttnMask.bit_eq (2 * t + 1) r c (by omega) r.isLt c.isLt _ _
    (Cert.AttnMask.query_word _ _ _ _ hw (Nat.mod_eq_of_lt r.isLt)) (Cert.AttnMask.key_word _ _ _ hw)

/-- The position from which a grid point's window takes its key row `j`. -/
def kRow (t j : ℕ) : ℕ := if j < 128 then (2 * t - 1) * 128 + j else if j < 384 then t * 256 + (j - 128) else min (2 * t + 2) 127 * 128 + (j - 384)

/-- A key that a query sees is read from its own position. -/
theorem kRow_sees (t sb r c : ℕ) (ht : t < 64) (hsb : sb < 2) (hc : c < 384) (h : sees (2 * t + sb) r c) :
    kRow t (sb * 128 + c) = (2 * t + sb) * 128 + c - 128 := by
  simp only [sees, near] at h
  unfold kRow
  split_ifs <;> omega

/-- The window's rows: two half blocks around a block. -/
theorem window_val (A : FVec Ideal S128x256 .bf16) (B : FVec Ideal S256x256 .bf16) (C : FVec Ideal S128x256 .bf16) (K : ℕ → ℕ → ℝ) (t : ℕ)
    (hA : ∀ (i : Fin 128) (d : Fin 256), A (ix2 i d) = (K ((2 * t - 1) * 128 + i) d : EReal))
    (hB : ∀ (i : Fin 256) (d : Fin 256), B (ix2 i d) = (K (t * 256 + i) d : EReal))
    (hC : ∀ (i : Fin 128) (d : Fin 256), C (ix2 i d) = (K (min (2 * t + 2) 127 * 128 + i) d : EReal))
    (j : Fin 512) (d : Fin 256) : k1_pay4 (F := Ideal) A B C (ix2 j d) = (K (kRow t j) d : EReal) := by
  unfold kRow
  rcases (by omega : j.val < 128 ∨ (128 ≤ j.val ∧ j.val < 384) ∨ 384 ≤ j.val) with h | h | h
  · pointwise [k1_pay4]
    simp only [h, ↓reduceDIte, ↓reduceIte]
    exact hA ⟨j, h⟩ d
  · have h1 : ¬ j.val < 128 := by omega
    have h2 : j.val - 128 < 256 := by omega
    pointwise [k1_pay4]
    simp only [h1, h2, h.2, ↓reduceDIte, ↓reduceIte]
    exact hB ⟨j - 128, h2⟩ d
  · have h1 : ¬ j.val < 128 := by omega
    have h2 : ¬ j.val - 128 < 256 := by omega
    have h3 : ¬ j.val < 384 := by omega
    pointwise [k1_pay4]
    simp only [h1, h2, h3, ↓reduceDIte, ↓reduceIte]
    exact hC ⟨j - 384, by omega⟩ d

/-- Sixteen heads' outputs side by side. -/
def cat16 (p : Fin 16 → FVec Ideal S128x64 .f32) : FVec Ideal S128x1024 .f32 :=
  concatenate S128x1024 1 [⟨S128x64, p 0⟩, ⟨S128x64, p 1⟩, ⟨S128x64, p 2⟩, ⟨S128x64, p 3⟩, ⟨S128x64, p 4⟩, ⟨S128x64, p 5⟩, ⟨S128x64, p 6⟩, ⟨S128x64, p 7⟩,
    ⟨S128x64, p 8⟩, ⟨S128x64, p 9⟩, ⟨S128x64, p 10⟩, ⟨S128x64, p 11⟩, ⟨S128x64, p 12⟩, ⟨S128x64, p 13⟩, ⟨S128x64, p 14⟩, ⟨S128x64, p 15⟩] concatenates_S128x64_S128x64_S128x64_S128x64_S128x64_S128x64_S128x64_S128x64_S128x64_S128x64_S128x64_S128x64_S128x64_S128x64_S128x64_S128x64_S128x1024_d1

set_option maxHeartbeats 2000000 in
theorem cat16_val (p : Fin 16 → FVec Ideal S128x64 .f32) (r : Fin 128) (hh : Fin 16) (d : Fin 64) :
    cat16 p (ix2 r ⟨64 * hh + d, by omega⟩) = p hh (ix2 r d) := by
  show concatenate S128x1024 1 (List.ofFn fun n : Fin 16 => (⟨S128x64, p n⟩ : (s : Shape) × (s.Idx → Ideal .f32))) _ _ = _
  refine concatenate_ofFn_apply (t := S128x1024) (s₁ := S128x64) 1 p _ rfl 64 rfl _ hh ?_ (ix2 r d) ?_ ?_
  · show (64 * hh.val + d.val) / 64 = hh.val
    omega
  · show d.val = (64 * hh.val + d.val) % 64
    omega
  · intro b hb
    fin_cases b
    · rfl
    · exact absurd rfl hb

theorem slices_q : ∀ (sb : Fin 2) (hh : Fin 16), S256x1024.Slices ![128 * sb.val, 64 * hh.val] S128x64 := by decide
theorem slices_k : ∀ (sb : Fin 2) (hh : Fin 16), S512x256.Slices ![128 * sb.val, 64 * (hh.val / 4)] S384x64 := by decide

/-- A head's queries in one of the two blocks. -/
def qPart (x : FVec Ideal S256x1024 .bf16) (sb : Fin 2) (hh : Fin 16) : FVec Ideal S128x64 .bf16 :=
  extractStridedSlice S128x64 ![128 * sb.val, 64 * hh.val] x (slices_q sb hh)
/-- The keys, or the values, of a head in the block's window. -/
def kPart (x : FVec Ideal S512x256 .bf16) (sb : Fin 2) (hh : Fin 16) : FVec Ideal S384x64 .bf16 :=
  extractStridedSlice S384x64 ![128 * sb.val, 64 * (hh.val / 4)] x (slices_k sb hh)

theorem qPart_val (x : FVec Ideal S256x1024 .bf16) (sb : Fin 2) (hh : Fin 16) (r : Fin 128) (d : Fin 64) :
    qPart x sb hh (ix2 r d) = x (ix2 ⟨128 * sb + r, by omega⟩ ⟨64 * hh + d, by omega⟩) := by
  pointwise [qPart]
theorem kPart_val (x : FVec Ideal S512x256 .bf16) (sb : Fin 2) (hh : Fin 16) (r : Fin 384) (d : Fin 64) :
    kPart x sb hh (ix2 r d) = x (ix2 ⟨128 * sb + r, by omega⟩ ⟨64 * (hh / 4) + d, by omega⟩) := by
  pointwise [kPart]

/-- What the kernel stores of the output for one of a grid point's two blocks. -/
def kOut (x : FVec Ideal S256x1024 .bf16) (y z : FVec Ideal S512x256 .bf16) (b : FVec Ideal S128x384 .f32) (s : Fin 16 → Ideal .f32) (sb : Fin 2) :
    FVec Ideal S128x1024 .bf16 :=
  truncf .bf16 (cat16 fun hh => hOut (qPart x sb hh) (kPart y sb hh) (kPart z sb hh) b (s hh)) bitsLt_bf16_f32
/-- What it stores of the log-sums for one head. -/
def kLse (x : FVec Ideal S256x1024 .bf16) (y z : FVec Ideal S512x256 .bf16) (b : FVec Ideal S128x384 .f32) (s : Fin 16 → Ideal .f32) (sb : Fin 2)
    (hh : Fin 16) : FVec Ideal S1x1x128x1 .f32 :=
  shapeCast S1x1x128x1 (hLse (qPart x sb hh) (kPart y sb hh) (kPart z sb hh) b (s hh)) shapeCasts_S128x1_S1x1x128x1

section values

variable (x : FVec Ideal S256x1024 .bf16) (y z : FVec Ideal S512x256 .bf16) (b : FVec Ideal S128x384 .f32) (s : Fin 16 → Ideal .f32)
  (t : ℕ) (ht : t < 64) (sb : Fin 2) (q k v : ℕ → ℕ → ℝ) (sk : ℕ → ℝ)
  (hx : ∀ (r : Fin 256) (d : Fin 1024), x (ix2 r d) = (q (t * 256 + r) d : EReal))
  (hy : ∀ (j : Fin 512) (d : Fin 256), y (ix2 j d) = (k (kRow t j) d : EReal))
  (hz : ∀ (j : Fin 512) (d : Fin 256), z (ix2 j d) = (v (kRow t j) d : EReal))
  (hb : ∀ r c, b (ix2 r c) = if sees (2 * t + sb) r c then (0 : EReal) else ⊥) (hs : ∀ hh : Fin 16, s hh = (sk hh : EReal))

include ht in
/-- A sum over a head's window with the block's weights is the sum over all positions. -/
theorem weights (hh : Fin 16) (r : Fin 128) (f : ℕ → ℝ) :
    ∑ c : Fin 384, weight (fun r d => q (t * 256 + (128 * sb + r)) (64 * hh + d)) (fun c d => k (kRow t (128 * sb + c)) (64 * (hh / 4) + d))
        (fun r c => sees (2 * t + sb) r c) r c * f (kRow t (128 * sb + c))
      = ∑ u : Fin 16384, num q k hh ((2 * t + sb) * 128 + r) u * f u := by
  have h := sum_window (2 * t + sb) r (by omega) r.isLt
    (fun u => Real.exp (score q k hh ((2 * t + sb) * 128 + r) u) * f u)
  refine Eq.trans ?_ (h.trans ?_)
  · refine Finset.sum_congr rfl fun c _ => ?_
    unfold weight
    by_cases hc : sees (2 * t + sb) r c
    · have e := kRow_sees t sb r c ht sb.isLt c.isLt hc
      rw [if_pos hc, if_pos hc, Nat.mul_comm 128, e]
      refine congrArg (· * f _) (congrArg Real.exp (Finset.sum_congr rfl fun d _ => ?_))
      show q (t * 256 + (sb.val * 128 + r.val)) (64 * hh.val + d.val) * k (kRow t (sb.val * 128 + c.val)) (64 * (hh.val / 4) + d.val) = _
      rw [e, show t * 256 + (sb.val * 128 + r.val) = (2 * t + sb) * 128 + r by ring, Nat.mul_comm 64, Nat.mul_comm 64]
    · rw [if_neg hc, if_neg hc, zero_mul]
  · refine Finset.sum_congr rfl fun u _ => ?_
    unfold num
    split_ifs
    · rfl
    · rw [zero_mul]

include ht in
theorem totals (hh : Fin 16) (r : Fin 128) :
    total (fun r d => q (t * 256 + (128 * sb + r)) (64 * hh + d)) (fun c d => k (kRow t (128 * sb + c)) (64 * (hh / 4) + d))
        (fun r c => sees (2 * t + sb) r c) (sk hh) r = den q k sk hh ((2 * t + sb) * 128 + r) := by
  have h := weights t ht sb q k hh r (fun _ => 1)
  simp only [mul_one] at h
  unfold total den
  rw [h]

include hx hy hz hb hs ht in
theorem kOut_val (r : Fin 128) (hh : Fin 16) (d : Fin 64) :
    kOut x y z b s sb (ix2 r ⟨64 * hh + d, by omega⟩) = (out q k v sk hh ((2 * t + sb) * 128 + r) d : EReal) := by
  show cat16 (fun hh => hOut (qPart x sb hh) (kPart y sb hh) (kPart z sb hh) b (s hh)) (ix2 r ⟨64 * hh + d, by omega⟩) = _
  refine (cat16_val _ r hh d).trans ?_
  refine (hOut_val _ _ _ b _ (fun r d => q (t * 256 + (128 * sb + r)) (64 * hh + d)) (fun c d => k (kRow t (128 * sb + c)) (64 * (hh / 4) + d))
    (fun c d => v (kRow t (128 * sb + c)) (64 * (hh / 4) + d)) (fun r c => sees (2 * t + sb) r c) (sk hh)
    (fun r d => (qPart_val x sb hh r d).trans (hx _ _)) (fun r d => (kPart_val y sb hh r d).trans (hy _ _))
    (fun r d => (kPart_val z sb hh r d).trans (hz _ _)) hb (hs hh) r d).trans ?_
  refine congrArg Real.toEReal ?_
  rw [totals t ht sb q k sk hh r, weights t ht sb q k hh r (fun u => v u (64 * (hh / 4) + d))]
  unfold out
  rw [Nat.mul_comm 64]

include hx hy hz hb hs ht in
theorem kLse_val (r : Fin 128) (hh : Fin 16) :
    kLse x y z b s sb hh (ix4 0 0 r 0) = (Real.log (den q k sk hh ((2 * t + sb) * 128 + r)) : EReal) := by
  pointwise [kLse]
  refine (hLse_val _ _ _ b _ (fun r d => q (t * 256 + (128 * sb + r)) (64 * hh + d)) (fun c d => k (kRow t (128 * sb + c)) (64 * (hh / 4) + d))
    (fun r c => sees (2 * t + sb) r c) (sk hh)
    (fun r d => (qPart_val x sb hh r d).trans (hx _ _)) (fun r d => (kPart_val y sb hh r d).trans (hy _ _)) hb (hs hh) r).trans ?_
  rw [totals t ht sb q k sk hh r]

end values

end Cert.AttnFwd
-- ==== Proof.Attn.Region1.lean ====
/-
  The attention's forward call: its two results as arrays.
-/
module

public import proofs.«01_k».proof.Proof.Gen.AttnKernelIdeal.Frame
public import proofs.«01_k».proof.Proof.Attn.Forward

@[expose] public section

set_option maxRecDepth 16384
noncomputable section

namespace Cert.AttnFwd
open Idealize.ShloMosaic Idealize.ShloMosaic.TcCoe Idealize.SL.Sem
open Cert.AttnKernelIdeal Cert.AttnKernelIdeal.Gen Cert.AttnSpec
open Classical

variable (V : (c : Dev nD) → (b : Ref sig .tc) → Buf (Elt Ideal) ((c : Thread nD τ).loc b))

theorem idx1 : ∀ t : Fin cfg1.N, win1_0.index t = ![0] ∧ win1_1.index t = ![t.val, 0] ∧ win1_2.index t = ![2 * t.val - 1, 0] ∧ win1_3.index t = ![t.val, 0]
    ∧ win1_4.index t = ![min (2 * t.val + 2) 127, 0] ∧ win1_5.index t = ![2 * t.val - 1, 0] ∧ win1_6.index t = ![t.val, 0]
    ∧ win1_7.index t = ![min (2 * t.val + 2) 127, 0] ∧ win1_8.index t = ![t.val, 0] ∧ win1_9.index t = ![0, t.val, 0, 0] :=
  (by decide +kernel : ∀ t : Fin grid1.N, _)

/-- Loading a whole block gives the block. -/
theorem load_block {S : Shape} {e : EltTy} (m : Memref sig .tc .vmem S e) (hm : m.IsWhole) (X : S.Idx → Elt Ideal e) (off : Fin S.rank → ℕ) (h0 : off = fun _ => 0)
    (inb) : View.ld (m.view.read (Elt Ideal) (hm.unread X)) (Rect.unit off S.size inb) = X := by
  rw [hm.read_unread]; exact View.ld_unit_zero h0 inb X

theorem inb_sink : ∀ (hh : Fin 16) (a : Fin S16.rank), ![hh.val] a + S1.size a ≤ S16.size a := by decide
/-- The sink's logit of a head, as the kernel loads it. -/
def sinkAt (X : S16.Idx → Elt Ideal .f32) (hh : Fin 16) : Elt Ideal .f32 :=
  View.ld (Val := Elt Ideal) (S := S16) (e' := .f32) X (Rect.unit ![hh.val] ![1] (inb_sink hh)) (Shape.Idx.first (show 0 < S1.numel by decide))
theorem sinkAt_val (X : S16.Idx → Elt Ideal .f32) (hh : Fin 16) : sinkAt X hh = X (ix1 hh) := by
  unfold sinkAt
  exact View.ld_unit_apply_of (Val := Elt Ideal) (S := S16) (e := .f32) X ![hh.val] ![1] (inb_sink hh) (Shape.Idx.first (show 0 < S1.numel by decide)) (ix1 hh) fun a => by
    fin_cases a; rfl

theorem blk0 (c : Dev nD) (t : Fin cfg1.N) (i : Fin 16) : iblk1 V c 0 t (ix1 i) = V c main_arg2 (ix1 i) := by
  blk_simp [iblk1]
  blk_ext [idx1 t]
theorem blk1 (c : Dev nD) (t : Fin cfg1.N) (i : Fin 256) (d : Fin 1024) :
    iblk1 V c 1 t (ix2 i d) = V c main_v37_0 (ix2 ⟨t.val * 256 + i.val, by have : t.val < 64 := t.isLt; omega⟩ d) := by
  blk_simp [iblk1]
  blk_ext [idx1 t]
theorem blk2 (c : Dev nD) (t : Fin cfg1.N) (i : Fin 128) (d : Fin 256) :
    iblk1 V c 2 t (ix2 i d) = V c main_v37_1 (ix2 ⟨(2 * t.val - 1) * 128 + i.val, by have : t.val < 64 := t.isLt; omega⟩ d) := by
  blk_simp [iblk1]
  blk_ext [idx1 t]
theorem blk3 (c : Dev nD) (t : Fin cfg1.N) (i : Fin 256) (d : Fin 256) :
    iblk1 V c 3 t (ix2 i d) = V c main_v37_1 (ix2 ⟨t.val * 256 + i.val, by have : t.val < 64 := t.isLt; omega⟩ d) := by
  blk_simp [iblk1]
  blk_ext [idx1 t]
theorem blk4 (c : Dev nD) (t : Fin cfg1.N) (i : Fin 128) (d : Fin 256) :
    iblk1 V c 4 t (ix2 i d) = V c main_v37_1 (ix2 ⟨min (2 * t.val + 2) 127 * 128 + i.val, by have : t.val < 64 := t.isLt; omega⟩ d) := by
  blk_simp [iblk1]
  blk_ext [idx1 t]
theorem blk5 (c : Dev nD) (t : Fin cfg1.N) (i : Fin 128) (d : Fin 256) :
    iblk1 V c 5 t (ix2 i d) = V c main_v37_2 (ix2 ⟨(2 * t.val - 1) * 128 + i.val, by have : t.val < 64 := t.isLt; omega⟩ d) := by
  blk_simp [iblk1]
  blk_ext [idx1 t]
theorem blk6 (c : Dev nD) (t : Fin cfg1.N) (i : Fin 256) (d : Fin 256) :
    iblk1 V c 6 t (ix2 i d) = V c main_v37_2 (ix2 ⟨t.val * 256 + i.val, by have : t.val < 64 := t.isLt; omega⟩ d) := by
  blk_simp [iblk1]
  blk_ext [idx1 t]
theorem blk7 (c : Dev nD) (t : Fin cfg1.N) (i : Fin 128) (d : Fin 256) :
    iblk1 V c 7 t (ix2 i d) = V c main_v37_2 (ix2 ⟨min (2 * t.val + 2) 127 * 128 + i.val, by have : t.val < 64 := t.isLt; omega⟩ d) := by
  blk_simp [iblk1]
  blk_ext [idx1 t]

/-- The window's keys as a grid point loads them. -/
def keysAt (c : Dev nD) (t : Fin cfg1.N) : FVec Ideal S512x256 .bf16 :=
  k1_pay4 (View.ld ((ms1_2 t).view.read (Elt Ideal) ((hs1_2 t).unread (iblk1 V c 2 t))) (Rect.unit ![0, 0] ![128, 256] inb_S128x256_S128x256_0_0))
    (View.ld ((ms1_3 t).view.read (Elt Ideal) ((hs1_3 t).unread (iblk1 V c 3 t))) (Rect.unit ![0, 0] ![256, 256] inb_S256x256_S256x256_0_0))
    (View.ld ((ms1_4 t).view.read (Elt Ideal) ((hs1_4 t).unread (iblk1 V c 4 t))) (Rect.unit ![0, 0] ![128, 256] inb_S128x256_S128x256_0_0))
/-- The window's values. -/
def valuesAt (c : Dev nD) (t : Fin cfg1.N) : FVec Ideal S512x256 .bf16 :=
  k1_pay5 (View.ld ((ms1_5 t).view.read (Elt Ideal) ((hs1_5 t).unread (iblk1 V c 5 t))) (Rect.unit ![0, 0] ![128, 256] inb_S128x256_S128x256_0_0))
    (View.ld ((ms1_6 t).view.read (Elt Ideal) ((hs1_6 t).unread (iblk1 V c 6 t))) (Rect.unit ![0, 0] ![256, 256] inb_S256x256_S256x256_0_0))
    (View.ld ((ms1_7 t).view.read (Elt Ideal) ((hs1_7 t).unread (iblk1 V c 7 t))) (Rect.unit ![0, 0] ![128, 256] inb_S128x256_S128x256_0_0))
/-- The bias of a block. -/
def biasAt (t : Fin cfg1.N) : Fin 2 → FVec Ideal S128x384 .f32 :=
  ![k1_pay10 (k1_pay8 (grid1.coords t)) (k1_pay9 (grid1.coords t)), k1_pay123 (BitVec.ofNat 32 (grid1.coords t 0).val)]

section values

variable (c : Dev nD) (t : Fin cfg1.N) (q k v : ℕ → ℕ → ℝ) (sk : ℕ → ℝ)
  (hq : ∀ (u : Fin 16384) (d : Fin 1024), V c main_v37_0 (ix2 u d) = (q u d : EReal))
  (hk : ∀ (u : Fin 16384) (d : Fin 256), V c main_v37_1 (ix2 u d) = (k u d : EReal))
  (hv : ∀ (u : Fin 16384) (d : Fin 256), V c main_v37_2 (ix2 u d) = (v u d : EReal))
  (hs : ∀ h : Fin 16, V c main_arg2 (ix1 h) = (sk h : EReal))

include hq in
theorem queries_val (r : Fin 256) (d : Fin 1024) : k1_pay3 (F := Ideal) (iblk1 V c 1 t) (ix2 r d) = (q (t * 256 + r) d : EReal) := by
  pointwise [k1_pay3]
  exact (blk1 V c t r d).trans (hq _ _)

include hk in
theorem keysAt_val (j : Fin 512) (d : Fin 256) : keysAt V c t (ix2 j d) = (k (kRow t j) d : EReal) := by
  refine window_val _ _ _ k t (fun i d => ?_) (fun i d => ?_) (fun i d => ?_) j d
  · rw [load_block _ _ _ _ (by decide)]; exact (blk2 V c t i d).trans (hk _ _)
  · rw [load_block _ _ _ _ (by decide)]; exact (blk3 V c t i d).trans (hk _ _)
  · rw [load_block _ _ _ _ (by decide)]; exact (blk4 V c t i d).trans (hk _ _)

include hv in
theorem valuesAt_val (j : Fin 512) (d : Fin 256) : valuesAt V c t (ix2 j d) = (v (kRow t j) d : EReal) := by
  refine window_val _ _ _ v t (fun i d => ?_) (fun i d => ?_) (fun i d => ?_) j d
  · rw [load_block _ _ _ _ (by decide)]; exact (blk5 V c t i d).trans (hv _ _)
  · rw [load_block _ _ _ _ (by decide)]; exact (blk6 V c t i d).trans (hv _ _)
  · rw [load_block _ _ _ _ (by decide)]; exact (blk7 V c t i d).trans (hv _ _)

theorem coords1 : ∀ t : Fin cfg1.N, (grid1.coords t 0).val = t.val := (by decide +kernel : ∀ t : Fin grid1.N, _)

theorem biasAt_val (sb : Fin 2) (r : Fin 128) (d : Fin 384) : biasAt t sb (ix2 r d) = if sees (2 * t + sb) r d then (0 : EReal) else ⊥ := by
  have ht : t.val < 64 := t.isLt
  fin_cases sb
  · refine (bias0 (grid1.coords t) r d).trans ?_
    rw [coords1 t]; rfl
  · show k1_pay123 (F := Ideal) (BitVec.ofNat 32 (grid1.coords t 0).val) (ix2 r d) = _
    rw [coords1 t]; exact bias1 t ht r d

include hs in
theorem sinks_val (hh : Fin 16) : sinkAt (iblk1 V c 0 t) hh = (sk hh : EReal) :=
  (sinkAt_val _ hh).trans ((blk0 V c t hh).trans (hs hh))

end values

set_option maxHeartbeats 2000000 in
/-- The outputs that a grid point leaves, in the kernel's operations. -/
theorem outsAt1_out (c : Dev nD) (t : Fin cfg1.N) (r : Fin 256) (d : Fin 1024) : (outsAt1 V c t).1 (ix2 r d)
    = kOut (k1_pay3 (iblk1 V c 1 t)) (keysAt V c t) (valuesAt V c t) (biasAt t ⟨r.val / 128, by omega⟩) (sinkAt (iblk1 V c 0 t)) ⟨r.val / 128, by omega⟩
        (ix2 ⟨r.val % 128, by omega⟩ d) := by
  unfold Gen.outsAt1
  frame_out
  canon_tiles x h
  case piece0 =>
    refine Eq.trans (b := kOut (k1_pay3 (iblk1 V c 1 t)) (keysAt V c t) (valuesAt V c t) (biasAt t 1) (sinkAt (iblk1 V c 0 t)) 1 x) rfl ?_
    have hr : r.val = 128 + (x 0).val := h0
    have e : (⟨r.val / 128, by omega⟩ : Fin 2) = 1 := Fin.ext (by show r.val / 128 = 1; omega)
    rw [e]
    refine congrArg _ (funext fun a => Fin.ext ?_)
    fin_cases a
    · show (x 0).val = r.val % 128; omega
    · exact h1.symm
  case piece1 =>
    refine Eq.trans (b := kOut (k1_pay3 (iblk1 V c 1 t)) (keysAt V c t) (valuesAt V c t) (biasAt t 0) (sinkAt (iblk1 V c 0 t)) 0 x) rfl ?_
    have hr : r.val = (x 0).val := h0
    have e : (⟨r.val / 128, by omega⟩ : Fin 2) = 0 := Fin.ext (by show r.val / 128 = 0; omega)
    rw [e]
    refine congrArg _ (funext fun a => Fin.ext ?_)
    fin_cases a
    · show (x 0).val = r.val % 128; omega
    · exact h1.symm

/-- A piece of the log-sums' block, at its index of the block. -/
theorem lse_piece (c : Dev nD) (t : Fin cfg1.N) (n : Fin 16) (s : Fin 2) (r : Fin 128) (y : S4x2x512x1.Idx) (x : S1x1x128x1.Idx)
    (y0 : (y 0).val = n.val / 4) (y1 : (y 1).val = s.val) (y2 : (y 2).val = 128 * (n.val % 4) + r.val) {g o p : ℕ}
    (h0 : (y 0).val = g + (x 0).val) (h1 : (y 1).val = o + (x 1).val) (h2 : (y 2).val = p + (x 2).val)
    (hp : p % 128 = 0) (ho : o < 2) (hn : 4 * g + p / 128 < 16) :
    kLse (k1_pay3 (iblk1 V c 1 t)) (keysAt V c t) (valuesAt V c t) (biasAt t ⟨o, ho⟩) (sinkAt (iblk1 V c 0 t)) ⟨o, ho⟩ ⟨4 * g + p / 128, hn⟩ x
      = kLse (k1_pay3 (iblk1 V c 1 t)) (keysAt V c t) (valuesAt V c t) (biasAt t s) (sinkAt (iblk1 V c 0 t)) s n (ix4 0 0 r 0) := by
  have x0 : (x 0).val < 1 := (x 0).isLt
  have x1 : (x 1).val < 1 := (x 1).isLt
  have x2 : (x 2).val < 128 := (x 2).isLt
  have x3 : (x 3).val < 1 := (x 3).isLt
  have es : s = ⟨o, ho⟩ := Fin.ext (by show s.val = o; omega)
  have en : n = ⟨4 * g + p / 128, hn⟩ := Fin.ext (by show n.val = 4 * g + p / 128; omega)
  have ex : x = ix4 0 0 r 0 := funext fun a => Fin.ext (by
    fin_cases a
    · show (x 0).val = 0; omega
    · show (x 1).val = 0; omega
    · show (x 2).val = r.val; omega
    · show (x 3).val = 0; omega)
  rw [ex, es, en]

theorem eq_zero_add {a b : ℕ} (h : a = b) : a = 0 + b := h.trans (Nat.zero_add b).symm

set_option maxHeartbeats 2000000 in
/-- The log-sums that a grid point leaves, in the kernel's operations. -/
theorem outsAt1_lse (c : Dev nD) (t : Fin cfg1.N) (n : Fin 16) (s : Fin 2) (r : Fin 128) (y : S4x2x512x1.Idx) (y0 : (y 0).val = n.val / 4)
    (y1 : (y 1).val = s.val) (y2 : (y 2).val = 128 * (n.val % 4) + r.val) : (outsAt1 V c t).2 y
    = kLse (k1_pay3 (iblk1 V c 1 t)) (keysAt V c t) (valuesAt V c t) (biasAt t s) (sinkAt (iblk1 V c 0 t)) s n (ix4 0 0 r 0) := by
  unfold Gen.outsAt1
  frame_out
  canon_tiles x h
  all_goals
    first
      | refine Eq.trans ?_ (lse_piece V c t n s r y x y0 y1 y2 h0 h1 h2 (by decide) (by decide) (by decide))
      | refine Eq.trans ?_ (lse_piece V c t n s r y x y0 y1 y2 h0 h1 (eq_zero_add h2) (by decide) (by decide) (by decide))
      | refine Eq.trans ?_ (lse_piece V c t n s r y x y0 y1 y2 h0 (eq_zero_add h1) h2 (by decide) (by decide) (by decide))
      | refine Eq.trans ?_ (lse_piece V c t n s r y x y0 y1 y2 h0 (eq_zero_add h1) (eq_zero_add h2) (by decide) (by decide) (by decide))
      | refine Eq.trans ?_ (lse_piece V c t n s r y x y0 y1 y2 (eq_zero_add h0) h1 h2 (by decide) (by decide) (by decide))
      | refine Eq.trans ?_ (lse_piece V c t n s r y x y0 y1 y2 (eq_zero_add h0) h1 (eq_zero_add h2) (by decide) (by decide) (by decide))
      | refine Eq.trans ?_ (lse_piece V c t n s r y x y0 y1 y2 (eq_zero_add h0) (eq_zero_add h1) h2 (by decide) (by decide) (by decide))
      | refine Eq.trans ?_ (lse_piece V c t n s r y x y0 y1 y2 (eq_zero_add h0) (eq_zero_add h1) (eq_zero_add h2) (by decide) (by decide) (by decide))
    rfl

section values

variable (q k v : ℕ → ℕ → ℝ) (sk : ℕ → ℝ) (c : Dev nD)
  (hq : ∀ (u : Fin 16384) (d : Fin 1024), V c main_v37_0 (ix2 u d) = (q u d : EReal))
  (hk : ∀ (u : Fin 16384) (d : Fin 256), V c main_v37_1 (ix2 u d) = (k u d : EReal))
  (hv : ∀ (u : Fin 16384) (d : Fin 256), V c main_v37_2 (ix2 u d) = (v u d : EReal))
  (hs : ∀ h : Fin 16, V c main_arg2 (ix1 h) = (sk h : EReal))

include hq hk hv hs in
/-- The attention's output, as the forward call leaves it. -/
theorem final1_8 : (dat1 V c).arrAt 8 cfg1.N = fun i : S16384x1024.Idx => (out q k v sk ((i 1).val / 64) (i 0) ((i 1).val % 64) : EReal) := by
  refine (dat1 V c).arrAt_eq_of_covers 8 _ (by decide +kernel) fun t hf (y : S256x1024.Idx) => ?_
  have ht : t.val < 64 := t.isLt
  blk_simp
  rw [after1_8]
  obtain ⟨r, d, rfl⟩ : ∃ (r : Fin 256) (d : Fin 1024), y = ix2 r d := ⟨y 0, y 1, by idx_vars y⟩
  rw [outsAt1_out]
  have h := kOut_val _ _ _ _ _ t ht ⟨r.val / 128, by omega⟩ q k v sk (queries_val V c t q hq) (keysAt_val V c t k hk) (valuesAt_val V c t v hv)
    (biasAt_val t _) (sinks_val V c t sk hs) ⟨r.val % 128, by omega⟩ ⟨d.val / 64, by omega⟩ ⟨d.val % 64, by omega⟩
  have e : win1_8.index t = ![t.val, 0] := (idx1 t).2.2.2.2.2.2.2.2.1
  rw [e]
  refine Eq.trans (congrArg _ (congrArg (ix2 _) (Fin.ext ?_))) (h.trans (congrArg Real.toEReal ?_))
  · show d.val = 64 * (d.val / 64) + d.val % 64; omega
  · show out q k v sk (d.val / 64) ((2 * t.val + r.val / 128) * 128 + r.val % 128) (d.val % 64)
      = out q k v sk ((0 * 1024 + d.val) / 64) (t.val * 256 + r.val) ((0 * 1024 + d.val) % 64)
    rw [show (2 * t.val + r.val / 128) * 128 + r.val % 128 = t.val * 256 + r.val by omega, show 0 * 1024 + d.val = d.val by omega]

include hq hk hv hs in
/-- The log-sums, as the forward call leaves them. -/
theorem final1_9 : (dat1 V c).arrAt 9 cfg1.N = fun i : S4x128x512x1.Idx =>
    (Real.log (den q k sk ((i 0).val * 4 + (i 2).val / 128) ((i 1).val * 128 + (i 2).val % 128)) : EReal) := by
  refine (dat1 V c).arrAt_eq_of_covers 9 _ (by decide +kernel) fun t hf (y : S4x2x512x1.Idx) => ?_
  have ht : t.val < 64 := t.isLt
  blk_simp
  rw [after1_9]
  obtain ⟨g, s, r, z, rfl⟩ : ∃ (g : Fin 4) (s : Fin 2) (r : Fin 512) (z : Fin 1), y = ix4 g s r z := ⟨y 0, y 1, y 2, y 3, by idx_vars y⟩
  rw [outsAt1_lse V c t ⟨g.val * 4 + r.val / 128, by omega⟩ s ⟨r.val % 128, by omega⟩]
  have h := kLse_val _ _ _ _ _ t ht s q k v sk (queries_val V c t q hq) (keysAt_val V c t k hk) (valuesAt_val V c t v hv)
    (biasAt_val t _) (sinks_val V c t sk hs) ⟨r.val % 128, by omega⟩ ⟨g.val * 4 + r.val / 128, by omega⟩
  have e : win1_9.index t = ![0, t.val, 0, 0] := (idx1 t).2.2.2.2.2.2.2.2.2
  rw [e]
  refine h.trans (congrArg Real.toEReal (congrArg Real.log ?_))
  show den q k sk (g.val * 4 + r.val / 128) ((2 * t.val + s.val) * 128 + r.val % 128)
      = den q k sk ((0 * 4 + g.val) * 4 + (0 * 512 + r.val) / 128) ((t.val * 2 + s.val) * 128 + (0 * 512 + r.val) % 128)
  rw [show 0 * 4 + g.val = g.val by omega, show 0 * 512 + r.val = r.val by omega, Nat.mul_comm 2]
  · show g.val = (g.val * 4 + r.val / 128) / 4; omega
  · rfl
  · show r.val = 128 * ((g.val * 4 + r.val / 128) % 4) + r.val % 128; omega

end values

end Cert.AttnFwd
-- ==== Proof.Attn.Group.lean ====
/-
  The attention's backward kernel on one block of 128 queries and one group of four heads that share their keys: the
  four heads stand below one another in 512 rows.
-/
module

public import proofs.«01_k».proof.Proof.Attn.Forward

@[expose] public section

set_option maxRecDepth 16384
noncomputable section

namespace Cert.AttnBwd
open Idealize.ShloMosaic Idealize.ShloMosaic.TcCoe Idealize.SL.Sem
open Cert.AttnKernelIdeal Cert.AttnKernelIdeal.Gen Cert.AttnSpec Cert.AttnFwd
open Classical

/-- Head `i` of group `g`. -/
def hd (g i : Fin 4) : Fin 16 := ⟨4 * g.val + i.val, by omega⟩
/-- Row `r` of head `i` among the 512. -/
def row (i : Fin 4) (r : Fin 128) : Fin 512 := ⟨128 * i.val + r.val, by omega⟩

/-- Lane `d` of head `h` among the 1024. -/
def lane (h : Fin 16) (d : Fin 64) : Fin 1024 := ⟨64 * h.val + d.val, by omega⟩

theorem row_cases (R : Fin 512) : ∃ i r, R = row i r :=
  ⟨⟨R.val / 128, by omega⟩, ⟨R.val % 128, by omega⟩, Fin.ext (by show R.val = 128 * (R.val / 128) + R.val % 128; omega)⟩

theorem sum_rows {M : Type*} [AddCommMonoid M] (f : Fin 512 → M) : ∑ R, f R = ∑ i : Fin 4, ∑ r : Fin 128, f (row i r) :=
  Fin.sum_divmod_congr (fun R _ _ => congrArg f (Fin.ext (by show R.val = 128 * (R.val / 128) + R.val % 128; omega)))

/-- Four heads' blocks below one another. -/
def stack (x : FVec Ideal S256x1024 .bf16) (sb : Fin 2) (g : Fin 4) : FVec Ideal S512x64 .bf16 :=
  concatenate S512x64 0 [⟨S128x64, qPart x sb (hd g 0)⟩, ⟨S128x64, qPart x sb (hd g 1)⟩, ⟨S128x64, qPart x sb (hd g 2)⟩, ⟨S128x64, qPart x sb (hd g 3)⟩]
    concatenates_S128x64_S128x64_S128x64_S128x64_S512x64_d0

theorem stack_val (x : FVec Ideal S256x1024 .bf16) (sb : Fin 2) (g i : Fin 4) (r : Fin 128) (d : Fin 64) :
    stack x sb g (ix2 (row i r) d) = qPart x sb (hd g i) (ix2 r d) := by
  show concatenate S512x64 0 (List.ofFn fun n : Fin 4 => (⟨S128x64, qPart x sb (hd g n)⟩ : (s : Shape) × (s.Idx → Ideal .bf16))) _ _ = _
  refine concatenate_ofFn_apply (t := S512x64) (s₁ := S128x64) 0 (fun n => qPart x sb (hd g n)) _ rfl 128 rfl _ i ?_ (ix2 r d) ?_ ?_
  · show (128 * i.val + r.val) / 128 = i.val
    omega
  · show r.val = (128 * i.val + r.val) % 128
    omega
  · intro b hb
    fin_cases b
    · exact absurd rfl hb
    · rfl

/-- The group's keys, or values, in the block's window. -/
def keyPart (x : FVec Ideal S512x256 .bf16) (sb : Fin 2) (g : Fin 4) : FVec Ideal S384x64 .bf16 := kPart x sb (hd g 0)

/-- Each row's cotangent times its output. -/
def gDelta (o do_ : FVec Ideal S256x1024 .bf16) (sb : Fin 2) (g : Fin 4) : FVec Ideal S512x1 .f32 :=
  shapeCast S512x1 (multiReduction .add [1] S512 (mulf (extf .f32 (stack do_ sb g) bitsLt_bf16_f32) (extf .f32 (stack o sb g) bitsLt_bf16_f32))
    0x00000000#32 reduces_S512x64_S512 (.inl rfl) rfl) shapeCasts_S512_S512x1
/-- The attention's weights. -/
def gPr (q : FVec Ideal S256x1024 .bf16) (k : FVec Ideal S512x256 .bf16) (m : IVec S512x384 1) (l : Vec Ideal S1x1x512x1 .f32) (sb : Fin 2) (g : Fin 4) :
    FVec Ideal S512x384 .f32 :=
  select m (exp (subf (matmul dot_S512x64_S384x64_S512x384_1_1_0_0_n_n none (stack q sb g) (keyPart k sb g) (constant S512x384 .f32 0x00000000#32))
    (broadcastTo S512x384 (shapeCast S512x1 l shapeCasts_S1x1x512x1_S512x1) broadcasts_S512x1_S512x384))) (broadcast S512x384 (Scalar.ofBits .f32 0x00000000#32))
/-- The scores' gradient. -/
def gDs (q o do_ : FVec Ideal S256x1024 .bf16) (k v : FVec Ideal S512x256 .bf16) (m : IVec S512x384 1) (l : Vec Ideal S1x1x512x1 .f32) (sb : Fin 2) (g : Fin 4) :
    FVec Ideal S512x384 .bf16 :=
  truncf .bf16 (mulf (gPr q k m l sb g)
    (subf (matmul dot_S512x64_S384x64_S512x384_1_1_0_0_n_n none (stack do_ sb g) (keyPart v sb g) (constant S512x384 .f32 0x00000000#32))
      (broadcastTo S512x384 (gDelta o do_ sb g) broadcasts_S512x1_S512x384))) bitsLt_bf16_f32
/-- The queries' gradient. -/
def gDq (q o do_ : FVec Ideal S256x1024 .bf16) (k v : FVec Ideal S512x256 .bf16) (m : IVec S512x384 1) (l : Vec Ideal S1x1x512x1 .f32) (sb : Fin 2) (g : Fin 4) :
    FVec Ideal S512x64 .f32 :=
  matmul dot_S512x384_S384x64_S512x64_1_0_0_1_n_n none (gDs q o do_ k v m l sb g) (keyPart k sb g) (constant S512x64 .f32 0x00000000#32)
/-- The block's part of the keys' gradient. -/
def gDk (q o do_ : FVec Ideal S256x1024 .bf16) (k v : FVec Ideal S512x256 .bf16) (m : IVec S512x384 1) (l : Vec Ideal S1x1x512x1 .f32) (sb : Fin 2) (g : Fin 4) :
    FVec Ideal S384x64 .f32 :=
  matmul dot_S512x384_S512x64_S384x64_0_0_1_1_n_n none (gDs q o do_ k v m l sb g) (stack q sb g) (constant S384x64 .f32 0x00000000#32)
/-- The block's part of the values' gradient. -/
def gDv (q do_ : FVec Ideal S256x1024 .bf16) (k : FVec Ideal S512x256 .bf16) (m : IVec S512x384 1) (l : Vec Ideal S1x1x512x1 .f32) (sb : Fin 2) (g : Fin 4) :
    FVec Ideal S384x64 .f32 :=
  matmul dot_S512x384_S512x64_S384x64_0_0_1_1_n_n none (truncf .bf16 (gPr q k m l sb g) bitsLt_bf16_f32) (stack do_ sb g) (constant S384x64 .f32 0x00000000#32)
/-- The sinks' weights times each row's cotangent and output. -/
def gPs (o do_ : FVec Ideal S256x1024 .bf16) (l : Vec Ideal S1x1x512x1 .f32) (s : Fin 16 → Ideal .f32) (sb : Fin 2) (g : Fin 4) : FVec Ideal S512x1 .f32 :=
  mulf (exp (subf (concatenate S512x1 0 [⟨S128x1, broadcast S128x1 (s (hd g 0))⟩, ⟨S128x1, broadcast S128x1 (s (hd g 1))⟩, ⟨S128x1, broadcast S128x1 (s (hd g 2))⟩,
    ⟨S128x1, broadcast S128x1 (s (hd g 3))⟩] concatenates_S128x1_S128x1_S128x1_S128x1_S512x1_d0) (shapeCast S512x1 l shapeCasts_S1x1x512x1_S512x1)))
    (gDelta o do_ sb g)

section values

variable (x o do_ : FVec Ideal S256x1024 .bf16) (y z : FVec Ideal S512x256 .bf16) (m : IVec S512x384 1) (l : Vec Ideal S1x1x512x1 .f32) (s : Fin 16 → Ideal .f32)
  (t : ℕ) (ht : t < 64) (sb : Fin 2) (g : Fin 4) (q k v dO : ℕ → ℕ → ℝ) (sk : ℕ → ℝ)
  (hx : ∀ (r : Fin 256) (d : Fin 1024), x (ix2 r d) = (q (t * 256 + r) d : EReal))
  (hy : ∀ (j : Fin 512) (d : Fin 256), y (ix2 j d) = (k (kRow t j) d : EReal))
  (hz : ∀ (j : Fin 512) (d : Fin 256), z (ix2 j d) = (v (kRow t j) d : EReal))
  (hd_ : ∀ (r : Fin 256) (d : Fin 1024), do_ (ix2 r d) = (dO (t * 256 + r) d : EReal))
  (ho : ∀ (r : Fin 256) (h : Fin 16) (d : Fin 64), o (ix2 r (lane h d)) = (out q k v sk h (t * 256 + r) d : EReal))
  (hm : ∀ i r c, m (ix2 (row i r) c) = BitVec.ofBool (decide (sees (2 * t + sb) r c)))
  (hl : ∀ i r, l (ix4 0 0 (row i r) 0) = (Real.log (den q k sk (hd g i) ((2 * t + sb) * 128 + r)) : EReal))
  (hs : ∀ hh : Fin 16, s hh = (sk hh : EReal))

omit s in
theorem pos (r : Fin 128) : t * 256 + (128 * sb.val + r.val) = (2 * t + sb) * 128 + r := by ring

theorem stack_real (w : FVec Ideal S256x1024 .bf16) (f : ℕ → ℕ → ℝ)
    (hw : ∀ (r : Fin 256) (d : Fin 1024), w (ix2 r d) = (f (t * 256 + r) d : EReal)) (i : Fin 4) (r : Fin 128) (d : Fin 64) :
    stack w sb g (ix2 (row i r) d) = (f ((2 * t + sb) * 128 + r) ((hd g i).val * 64 + d) : EReal) := by
  rw [stack_val, qPart_val, hw]
  show (f (t * 256 + (128 * sb.val + r.val)) (64 * (hd g i).val + d.val) : EReal) = _
  rw [pos, Nat.mul_comm 64]

theorem hd_div (i : Fin 4) : (hd g i).val / 4 = g.val := by show (4 * g.val + i.val) / 4 = g.val; omega

theorem key_real (w : FVec Ideal S512x256 .bf16) (f : ℕ → ℕ → ℝ)
    (hw : ∀ (j : Fin 512) (d : Fin 256), w (ix2 j d) = (f (kRow t j) d : EReal)) (c : Fin 384) (d : Fin 64) :
    keyPart w sb g (ix2 c d) = (f (kRow t (sb.val * 128 + c)) (g.val * 64 + d) : EReal) := by
  unfold keyPart
  rw [kPart_val, hw]
  show (f (kRow t (128 * sb.val + c.val)) (64 * ((hd g 0).val / 4) + d.val) : EReal) = _
  rw [hd_div, Nat.mul_comm 128, Nat.mul_comm 64]

include hd_ ho in
theorem gDelta_val (i : Fin 4) (r : Fin 128) : gDelta o do_ sb g (ix2 (row i r) 0) = (delta q k v dO sk (hd g i) ((2 * t + sb) * 128 + r) : EReal) := by
  pointwise [gDelta]
  unfold delta
  rw [Cert.Reals.coe_sum]
  refine Finset.sum_congr rfl fun d _ => ?_
  rw [EReal.coe_mul]
  refine congrArg₂ _ (stack_real t sb g do_ dO hd_ i r d) ?_
  rw [stack_val, qPart_val]
  refine (ho ⟨128 * sb + r, by omega⟩ (hd g i) d).trans ?_
  show (out q k v sk (hd g i) (t * 256 + (128 * sb.val + r.val)) d : EReal) = _
  rw [pos]

theorem select_real (p : Prop) [Decidable p] (a : ℝ) :
    Scalar.select (α := Ideal .f32) (BitVec.ofBool (decide p)) (a : EReal) (0 : EReal) = ((if p then a else 0 : ℝ) : EReal) := by
  by_cases h : p <;> simp [h, Scalar.select]

include hx hy hm hl ht in
theorem gPr_val (i : Fin 4) (r : Fin 128) (c : Fin 384) :
    gPr x y m l sb g (ix2 (row i r) c)
      = ((if sees (2 * t + sb) r c then prob q k sk (hd g i) ((2 * t + sb) * 128 + r) ((2 * t + sb) * 128 + c - 128) else 0 : ℝ) : EReal) := by
  have hsum : (∑ d : Fin 64, stack x sb g (ix2 (row i r) d) * keyPart y sb g (ix2 c d) : EReal)
      = ((∑ d : Fin 64, q ((2 * t + sb) * 128 + r) ((hd g i).val * 64 + d) * k (kRow t (sb.val * 128 + c)) (g.val * 64 + d) : ℝ) : EReal) := by
    rw [Cert.Reals.coe_sum]
    refine Finset.sum_congr rfl fun d _ => ?_
    rw [EReal.coe_mul, stack_real t sb g x q hx i r d, key_real t sb g y k hy c d]
  pointwise [gPr]
  rw [hm]
  by_cases h : sees (2 * t + sb) r c
  · refine Eq.trans (congrArg (fun w => Scalar.select _ w _) ?_) (select_real _ _)
    rw [hsum, hl]
    refine Eq.trans (congrArg Ideal.exp (EReal.coe_sub _ _).symm) ?_
    rw [Ideal.exp_coe]
    refine congrArg Real.toEReal ?_
    rw [Real.exp_sub, Real.exp_log (den_pos q k sk _ _)]
    unfold prob num
    have hn : near ((2 * t + sb.val) * 128 + r.val) ((2 * t + sb.val) * 128 + c.val - 128) := by
      simp only [sees, near] at h ⊢; omega
    rw [if_pos hn]
    unfold score
    rw [kRow_sees t sb r c ht sb.isLt c.isLt h, hd_div]
  · simp [h, Scalar.select]

include hx hy hz hd_ ho hm hl ht in
theorem gDs_val (i : Fin 4) (r : Fin 128) (c : Fin 384) :
    gDs x o do_ y z m l sb g (ix2 (row i r) c)
      = ((if sees (2 * t + sb) r c then dscore q k v dO sk (hd g i) ((2 * t + sb) * 128 + r) ((2 * t + sb) * 128 + c - 128) else 0 : ℝ) : EReal) := by
  have hsum : (∑ d : Fin 64, stack do_ sb g (ix2 (row i r) d) * keyPart z sb g (ix2 c d) : EReal)
      = ((∑ d : Fin 64, dO ((2 * t + sb) * 128 + r) ((hd g i).val * 64 + d) * v (kRow t (sb.val * 128 + c)) (g.val * 64 + d) : ℝ) : EReal) := by
    rw [Cert.Reals.coe_sum]
    refine Finset.sum_congr rfl fun d _ => ?_
    rw [EReal.coe_mul, stack_real t sb g do_ dO hd_ i r d, key_real t sb g z v hz c d]
  pointwise [gDs]
  rw [hsum, gPr_val x y m l t ht sb g q k sk hx hy hm hl, gDelta_val o do_ t sb g q k v dO sk hd_ ho, ← EReal.coe_sub, ← EReal.coe_mul]
  refine congrArg Real.toEReal ?_
  by_cases h : sees (2 * t + sb) r c
  · rw [if_pos h, if_pos h]
    unfold dscore
    rw [kRow_sees t sb r c ht sb.isLt c.isLt h, hd_div]
  · rw [if_neg h, if_neg h, zero_mul]

include hx hy hz hd_ ho hm hl ht in
theorem gDq_val (i : Fin 4) (r : Fin 128) (d : Fin 64) :
    gDq x o do_ y z m l sb g (ix2 (row i r) d) = (dquery q k v dO sk (hd g i) ((2 * t + sb) * 128 + r) d : EReal) := by
  pointwise [gDq]
  have h : ∀ c : Fin 384, (gDs x o do_ y z m l sb g (ix2 (row i r) c) * keyPart y sb g (ix2 c d) : EReal)
      = ((if sees (2 * t + sb) r c then dscore q k v dO sk (hd g i) ((2 * t + sb) * 128 + r) ((2 * t + sb) * 128 + c - 128)
          * k ((2 * t + sb) * 128 + c - 128) (g.val * 64 + d) else 0 : ℝ) : EReal) := by
    intro c
    rw [gDs_val x o do_ y z m l t ht sb g q k v dO sk hx hy hz hd_ ho hm hl, key_real t sb g y k hy, ← EReal.coe_mul]
    refine congrArg Real.toEReal ?_
    by_cases h : sees (2 * t + sb) r c
    · rw [if_pos h, if_pos h, kRow_sees t sb r c ht sb.isLt c.isLt h]
    · rw [if_neg h, if_neg h, zero_mul]
  rw [Finset.sum_congr rfl fun c _ => h c, ← Cert.Reals.coe_sum]
  refine congrArg Real.toEReal ?_
  rw [sum_window (2 * t + sb) r (by omega) r.isLt (fun u => dscore q k v dO sk (hd g i) ((2 * t + sb) * 128 + r) u * k u (g.val * 64 + d))]
  unfold dquery
  refine Finset.sum_congr rfl fun u _ => ?_
  rw [hd_div]
  split_ifs with hn
  · rfl
  · have : dscore q k v dO sk (hd g i) ((2 * t + sb) * 128 + r) u = 0 := by
      unfold dscore prob num
      rw [if_neg hn, zero_div, zero_mul]
    rw [this, zero_mul]

include hx hy hz hd_ ho hm hl ht in
theorem gDk_val (c : Fin 384) (d : Fin 64) :
    gDk x o do_ y z m l sb g (ix2 c d)
      = ((∑ i : Fin 4, ∑ r : Fin 128, if sees (2 * t + sb) r c then
          dscore q k v dO sk (hd g i) ((2 * t + sb) * 128 + r) ((2 * t + sb) * 128 + c - 128) * q ((2 * t + sb) * 128 + r) ((hd g i).val * 64 + d) else 0 : ℝ) : EReal) := by
  pointwise [gDk]
  rw [sum_rows, Cert.Reals.coe_sum]
  refine Finset.sum_congr rfl fun i _ => ?_
  rw [Cert.Reals.coe_sum]
  refine Finset.sum_congr rfl fun r _ => ?_
  rw [gDs_val x o do_ y z m l t ht sb g q k v dO sk hx hy hz hd_ ho hm hl, stack_real t sb g x q hx, ← EReal.coe_mul]
  refine congrArg Real.toEReal ?_
  by_cases h : sees (2 * t + sb) r c
  · rw [if_pos h, if_pos h]
  · rw [if_neg h, if_neg h, zero_mul]

include hx hy hd_ hm hl ht in
theorem gDv_val (c : Fin 384) (d : Fin 64) :
    gDv x do_ y m l sb g (ix2 c d)
      = ((∑ i : Fin 4, ∑ r : Fin 128, if sees (2 * t + sb) r c then
          prob q k sk (hd g i) ((2 * t + sb) * 128 + r) ((2 * t + sb) * 128 + c - 128) * dO ((2 * t + sb) * 128 + r) ((hd g i).val * 64 + d) else 0 : ℝ) : EReal) := by
  pointwise [gDv]
  rw [sum_rows, Cert.Reals.coe_sum]
  refine Finset.sum_congr rfl fun i _ => ?_
  rw [Cert.Reals.coe_sum]
  refine Finset.sum_congr rfl fun r _ => ?_
  rw [gPr_val x y m l t ht sb g q k sk hx hy hm hl, stack_real t sb g do_ dO hd_, ← EReal.coe_mul]
  refine congrArg Real.toEReal ?_
  by_cases h : sees (2 * t + sb) r c
  · rw [if_pos h, if_pos h]
  · rw [if_neg h, if_neg h, zero_mul]

theorem sinks_stack (i : Fin 4) (r : Fin 128) :
    concatenate S512x1 0 [⟨S128x1, broadcast S128x1 (s (hd g 0))⟩, ⟨S128x1, broadcast S128x1 (s (hd g 1))⟩, ⟨S128x1, broadcast S128x1 (s (hd g 2))⟩,
      ⟨S128x1, broadcast S128x1 (s (hd g 3))⟩] concatenates_S128x1_S128x1_S128x1_S128x1_S512x1_d0 (ix2 (row i r) 0) = s (hd g i) := by
  show concatenate S512x1 0 (List.ofFn fun n : Fin 4 => (⟨S128x1, broadcast S128x1 (s (hd g n))⟩ : (s : Shape) × (s.Idx → Ideal .f32))) _ _ = _
  refine (concatenate_ofFn_apply (t := S512x1) (s₁ := S128x1) 0 (fun n => broadcast S128x1 (s (hd g n))) _ rfl 128 rfl _ i ?_ (ix2 r 0) ?_ ?_).trans rfl
  · show (128 * i.val + r.val) / 128 = i.val
    omega
  · show r.val = (128 * i.val + r.val) % 128
    omega
  · intro b hb
    fin_cases b
    · exact absurd rfl hb
    · rfl

include hd_ ho hl hs in
theorem gPs_val (i : Fin 4) (r : Fin 128) :
    gPs o do_ l s sb g (ix2 (row i r) 0)
      = ((Real.exp (sk (hd g i)) / den q k sk (hd g i) ((2 * t + sb) * 128 + r) * delta q k v dO sk (hd g i) ((2 * t + sb) * 128 + r) : ℝ) : EReal) := by
  unfold gPs
  show Ideal.exp (concatenate S512x1 0 _ _ (ix2 (row i r) 0) - shapeCast S512x1 l shapeCasts_S1x1x512x1_S512x1 (ix2 (row i r) 0)) * gDelta o do_ sb g (ix2 (row i r) 0) = _
  rw [sinks_stack, gDelta_val o do_ t sb g q k v dO sk hd_ ho, hs]
  have e : shapeCast S512x1 l shapeCasts_S1x1x512x1_S512x1 (ix2 (row i r) 0) = l (ix4 0 0 (row i r) 0) := by pointwise
  rw [e, hl, ← EReal.coe_sub, Ideal.exp_coe, ← EReal.coe_mul, Real.exp_sub, Real.exp_log (den_pos q k sk _ _)]

end values

end Cert.AttnBwd
-- ==== Proof.Attn.Backward.lean ====
/-
  The attention's backward kernel on one grid point: what is stored for each of the point's two blocks of 128 queries,
  and the point's part of the sinks' gradient.
-/
module

public import proofs.«01_k».proof.Proof.Attn.Group

@[expose] public section

set_option maxRecDepth 16384
noncomputable section

namespace Cert.AttnBwd
open Idealize.ShloMosaic Idealize.ShloMosaic.TcCoe Idealize.SL.Sem
open Cert.AttnKernelIdeal Cert.AttnKernelIdeal.Gen Cert.AttnSpec Cert.AttnFwd
open Classical

/-- The mask of the even block of a grid point. -/
theorem mask0 (i : grid2.Coords) (a : Fin 4) (r : Fin 128) (c : Fin 384) :
    k2_pay11 (k2_pay9 i) (k2_pay10 i) 128#32 (ix2 (row a r) c) = BitVec.ofBool (decide (sees (2 * (i 0).val) r c)) := by
  have h0 : (i 0).val < 64 := (i 0).isLt
  have hw := Cert.AttnMask.base_word (i 0).val 0 (2 * (i 0).val) _ rfl (by omega)
  have hr : (row a r).val % 128 = r.val := by show (128 * a.val + r.val) % 128 = r.val; omega
  pointwise [k2_pay11, k2_pay9, k2_pay10]
  exact Cert.AttnMask.bit_eq (2 * (i 0).val) r c (by omega) r.isLt c.isLt _ _
    (Cert.AttnMask.query_word _ _ _ _ hw hr) (Cert.AttnMask.key_word _ _ _ hw)

/-- The mask of the odd block. -/
theorem mask1 (t : ℕ) (ht : t < 64) (a : Fin 4) (r : Fin 128) (c : Fin 384) :
    k2_pay80 (k2_pay78 (BitVec.ofNat 32 t)) (k2_pay79 (BitVec.ofNat 32 t)) (ix2 (row a r) c) = BitVec.ofBool (decide (sees (2 * t + 1) r c)) := by
  have hw := Cert.AttnMask.base_word t 128 (2 * t + 1) _ rfl (by omega)
  have hr : (row a r).val % 128 = r.val := by show (128 * a.val + r.val) % 128 = r.val; omega
  pointwise [k2_pay80, k2_pay78, k2_pay79]
  exact Cert.AttnMask.bit_eq (2 * t + 1) r c (by omega) r.isLt c.isLt _ _
    (Cert.AttnMask.query_word _ _ _ _ hw hr) (Cert.AttnMask.key_word _ _ _ hw)

theorem slices_row : ∀ n : Fin 16, S512x64.Slices ![128 * (n.val % 4), 0] S128x64 := by decide
theorem slices_col : ∀ n : Fin 16, S512x1.Slices ![128 * (n.val % 4), 0] S128x1 := by decide

/-- A head's group. -/
def grp (n : Fin 16) : Fin 4 := ⟨n.val / 4, by omega⟩
/-- A head's place in its group. -/
def plc (n : Fin 16) : Fin 4 := ⟨n.val % 4, by omega⟩
theorem hd_grp (n : Fin 16) : hd (grp n) (plc n) = n := Fin.ext (by show 4 * (n.val / 4) + n.val % 4 = n.val; omega)

section defs

variable (x o do_ : FVec Ideal S256x1024 .bf16) (y z : FVec Ideal S512x256 .bf16) (m : Fin 2 → IVec S512x384 1)
  (l : Fin 2 → Fin 4 → Vec Ideal S1x1x512x1 .f32) (s : Fin 16 → Ideal .f32)

/-- What the kernel stores of the queries' gradient for one of a grid point's two blocks. -/
def bDq (sb : Fin 2) : FVec Ideal S128x1024 .bf16 :=
  truncf .bf16 (cat16 fun n => extractStridedSlice S128x64 ![128 * (n.val % 4), 0] (gDq x o do_ y z (m sb) (l sb (grp n)) sb (grp n)) (slices_row n)) bitsLt_bf16_f32

/-- Four groups side by side. -/
def cat4 (p : Fin 4 → FVec Ideal S384x64 .f32) : FVec Ideal S1x384x256 .f32 :=
  shapeCast S1x384x256 (concatenate S384x256 1 [⟨S384x64, p 0⟩, ⟨S384x64, p 1⟩, ⟨S384x64, p 2⟩, ⟨S384x64, p 3⟩]
    concatenates_S384x64_S384x64_S384x64_S384x64_S384x256_d1) shapeCasts_S384x256_S1x384x256
/-- What it stores of the keys' gradient for the block's window. -/
def bDk (sb : Fin 2) : FVec Ideal S1x384x256 .f32 := cat4 fun g => gDk x o do_ y z (m sb) (l sb g) sb g
/-- What it stores of the values' gradient. -/
def bDv (sb : Fin 2) : FVec Ideal S1x384x256 .f32 := cat4 fun g => gDv x do_ y (m sb) (l sb g) sb g

/-- A head's part of the sinks' gradient, in the head's lane. -/
def sinkPart (sb : Fin 2) (n : Fin 16) : FVec Ideal S1x16 .f32 :=
  select (cmpi .eq (iota .tc S1x16 32 [1] iota_S1x16_d1_w32) (broadcast S1x16 (BitVec.ofNat 32 n.val)))
    (broadcastTo S1x16 (shapeCast S1x1 (shapeCast S1x1 (multiReduction .add [0] S1
      (extractStridedSlice S128x1 ![128 * (n.val % 4), 0] (gPs o do_ (l sb (grp n)) s sb (grp n)) (slices_col n))
      0x00000000#32 reduces_S128x1_S1 (.inl rfl) rfl) shapeCasts_S1_S1x1) shapeCasts_S1x1_S1x1) broadcasts_S1x1_S1x16)
    (broadcast S1x16 (Scalar.ofBits .f32 0x00000000#32))
/-- The sinks' gradient of a grid point: head by head, block by block. -/
def sinkSum : ℕ → FVec Ideal S1x16 .f32
  | 0 => broadcast S1x16 (Scalar.ofBits .f32 0x00000000#32)
  | n + 1 => subf (sinkSum n) (sinkPart o do_ l s ⟨n / 16 % 2, Nat.mod_lt _ (by decide)⟩ ⟨n % 16, Nat.mod_lt _ (by decide)⟩)

end defs

theorem cast4 (X : FVec Ideal S384x256 .f32) (c : Fin 384) (d : Fin 256) : shapeCast S1x384x256 X shapeCasts_S384x256_S1x384x256 (ix3 0 c d) = X (ix2 c d) := by
  pointwise

theorem cat4_val (p : Fin 4 → FVec Ideal S384x64 .f32) (c : Fin 384) (g : Fin 4) (d : Fin 64) :
    cat4 p (ix3 0 c ⟨64 * g + d, by omega⟩) = p g (ix2 c d) := by
  have e : cat4 p (ix3 0 c ⟨64 * g + d, by omega⟩) = concatenate S384x256 1 (List.ofFn fun n : Fin 4 => (⟨S384x64, p n⟩ : (s : Shape) × (s.Idx → Ideal .f32)))
      concatenates_S384x64_S384x64_S384x64_S384x64_S384x256_d1 (ix2 c ⟨64 * g + d, by omega⟩) := by
    exact cast4 _ c _
  rw [e]
  refine concatenate_ofFn_apply (t := S384x256) (s₁ := S384x64) 1 p _ rfl 64 rfl _ g ?_ (ix2 c d) ?_ ?_
  · show (64 * g.val + d.val) / 64 = g.val
    omega
  · show d.val = (64 * g.val + d.val) % 64
    omega
  · intro b hb
    fin_cases b
    · rfl
    · exact absurd rfl hb

/-- What block `b` adds to the gradient of the key in column `c` of its window. -/
def dkPart (q k v dO : ℕ → ℕ → ℝ) (sk : ℕ → ℝ) (b c g d : ℕ) : ℝ :=
  ∑ i : Fin 4, ∑ r : Fin 128, if sees b r c then dscore q k v dO sk (g * 4 + i) (b * 128 + r) (b * 128 + c - 128) * q (b * 128 + r) ((g * 4 + i) * 64 + d) else 0
/-- What it adds to the value's. -/
def dvPart (q k dO : ℕ → ℕ → ℝ) (sk : ℕ → ℝ) (b c g d : ℕ) : ℝ :=
  ∑ i : Fin 4, ∑ r : Fin 128, if sees b r c then prob q k sk (g * 4 + i) (b * 128 + r) (b * 128 + c - 128) * dO (b * 128 + r) ((g * 4 + i) * 64 + d) else 0
/-- A row's part of the sinks' gradient. -/
def sinkRow (q k v dO : ℕ → ℕ → ℝ) (sk : ℕ → ℝ) (h t : ℕ) : ℝ := Real.exp (sk h) / den q k sk h t * delta q k v dO sk h t

section values

variable (x o do_ : FVec Ideal S256x1024 .bf16) (y z : FVec Ideal S512x256 .bf16) (m : Fin 2 → IVec S512x384 1)
  (l : Fin 2 → Fin 4 → Vec Ideal S1x1x512x1 .f32) (s : Fin 16 → Ideal .f32)
  (t : ℕ) (ht : t < 64) (q k v dO : ℕ → ℕ → ℝ) (sk : ℕ → ℝ)
  (hx : ∀ (r : Fin 256) (d : Fin 1024), x (ix2 r d) = (q (t * 256 + r) d : EReal))
  (hy : ∀ (j : Fin 512) (d : Fin 256), y (ix2 j d) = (k (kRow t j) d : EReal))
  (hz : ∀ (j : Fin 512) (d : Fin 256), z (ix2 j d) = (v (kRow t j) d : EReal))
  (hd_ : ∀ (r : Fin 256) (d : Fin 1024), do_ (ix2 r d) = (dO (t * 256 + r) d : EReal))
  (ho : ∀ (r : Fin 256) (h : Fin 16) (d : Fin 64), o (ix2 r (lane h d)) = (out q k v sk h (t * 256 + r) d : EReal))
  (hm : ∀ sb i r c, m sb (ix2 (row i r) c) = BitVec.ofBool (decide (sees (2 * t + sb) r c)))
  (hl : ∀ sb g i r, l sb g (ix4 0 0 (row i r) 0) = (Real.log (den q k sk (hd g i) ((2 * t + sb) * 128 + r)) : EReal))
  (hs : ∀ hh : Fin 16, s hh = (sk hh : EReal))

include hx hy hz hd_ ho hm hl ht in
theorem bDq_val (sb : Fin 2) (r : Fin 128) (n : Fin 16) (d : Fin 64) :
    bDq x o do_ y z m l sb (ix2 r ⟨64 * n + d, by omega⟩) = (dquery q k v dO sk n ((2 * t + sb) * 128 + r) d : EReal) := by
  show cat16 (fun n => extractStridedSlice S128x64 ![128 * (n.val % 4), 0] (gDq x o do_ y z (m sb) (l sb (grp n)) sb (grp n)) (slices_row n)) (ix2 r ⟨64 * n + d, by omega⟩) = _
  refine (cat16_val _ r n d).trans ?_
  have e : extractStridedSlice S128x64 ![128 * (n.val % 4), 0] (gDq x o do_ y z (m sb) (l sb (grp n)) sb (grp n)) (slices_row n) (ix2 r d)
      = gDq x o do_ y z (m sb) (l sb (grp n)) sb (grp n) (ix2 (row (plc n) r) d) := by
    pointwise
    refine congrArg _ (congrArg (fun j => ix2 j d) (Fin.ext ?_))
    rfl
  refine e.trans ((gDq_val x o do_ y z (m sb) (l sb (grp n)) t ht sb (grp n) q k v dO sk hx hy hz hd_ ho (hm sb) (hl sb (grp n)) (plc n) r d).trans ?_)
  rw [hd_grp]

theorem hd_val (g i : Fin 4) : (hd g i).val = g.val * 4 + i.val := by show 4 * g.val + i.val = _; ring

include hx hy hz hd_ ho hm hl ht in
theorem bDk_val (sb : Fin 2) (c : Fin 384) (g : Fin 4) (d : Fin 64) :
    bDk x o do_ y z m l sb (ix3 0 c ⟨64 * g + d, by omega⟩) = (dkPart q k v dO sk (2 * t + sb) c g d : EReal) := by
  refine (cat4_val _ c g d).trans ((gDk_val x o do_ y z (m sb) (l sb g) t ht sb g q k v dO sk hx hy hz hd_ ho (hm sb) (hl sb g) c d).trans ?_)
  unfold dkPart
  simp only [hd_val]

include hx hy hd_ hm hl ht in
theorem bDv_val (sb : Fin 2) (c : Fin 384) (g : Fin 4) (d : Fin 64) :
    bDv x do_ y m l sb (ix3 0 c ⟨64 * g + d, by omega⟩) = (dvPart q k dO sk (2 * t + sb) c g d : EReal) := by
  refine (cat4_val _ c g d).trans ((gDv_val x do_ y (m sb) (l sb g) t ht sb g q k dO sk hx hy hd_ (hm sb) (hl sb g) c d).trans ?_)
  unfold dvPart
  simp only [hd_val]

theorem lane_bit (j : Fin 16) (n : ℕ) (hn : n < 16) : IntOp.cmpi .eq (BitVec.ofNat 32 j.val) (BitVec.ofNat 32 n) = BitVec.ofBool (decide (j.val = n)) := by
  have : (BitVec.ofNat 32 j.val == BitVec.ofNat 32 n) = decide (j.val = n) := by
    by_cases h : j.val = n
    · simp [h]
    · have hne : BitVec.ofNat 32 j.val ≠ BitVec.ofNat 32 n := fun e => h (by
        have := congrArg BitVec.toNat e
        simp only [BitVec.toNat_ofNat] at this
        omega)
      rw [decide_eq_false h, beq_eq_false_iff_ne.mpr hne]
  simp only [IntOp.cmpi, this]

include hd_ ho hl hs in
theorem sinkPart_val (sb : Fin 2) (n j : Fin 16) :
    sinkPart o do_ l s sb n (ix2 0 j) = ((if j.val = n.val then ∑ r : Fin 128, sinkRow q k v dO sk n ((2 * t + sb) * 128 + r) else 0 : ℝ) : EReal) := by
  have e : ∀ r : Fin 128, gPs o do_ (l sb (grp n)) s sb (grp n) (ix2 ⟨128 * (n.val % 4) + r.val, by omega⟩ 0) = (sinkRow q k v dO sk n ((2 * t + sb) * 128 + r) : EReal) := by
    intro r
    have h := gPs_val o do_ (l sb (grp n)) s t sb (grp n) q k v dO sk hd_ ho (hl sb (grp n)) hs (plc n) r
    rw [hd_grp] at h
    exact h
  pointwise [sinkPart]
  rw [lane_bit j n n.isLt]
  refine Eq.trans (congrArg (fun w => Scalar.select _ w _) ?_) (select_real (j.val = n.val) _)
  rw [Cert.Reals.coe_sum]
  exact Finset.sum_congr rfl fun r _ => e r

include hd_ ho hl hs in
theorem sinkSum_val (n : ℕ) (hn : n ≤ 32) (j : Fin 16) :
    sinkSum o do_ l s n (ix2 0 j)
      = ((-∑ i ∈ Finset.range n, if j.val = i % 16 then ∑ r : Fin 128, sinkRow q k v dO sk j ((2 * t + i / 16) * 128 + r) else 0 : ℝ) : EReal) := by
  induction n with
  | zero => simp only [sinkSum]; pointwise; simp
  | succ n ih =>
    show sinkSum o do_ l s n (ix2 0 j) - sinkPart o do_ l s ⟨n / 16 % 2, _⟩ ⟨n % 16, _⟩ (ix2 0 j) = _
    rw [ih (by omega), sinkPart_val o do_ l s t q k v dO sk hd_ ho hl hs, ← EReal.coe_sub, Finset.sum_range_succ]
    refine congrArg Real.toEReal ?_
    have e : n / 16 % 2 = n / 16 := by omega
    simp only [e]
    have : (if j.val = n % 16 then ∑ r : Fin 128, sinkRow q k v dO sk (n % 16) ((2 * t + n / 16) * 128 + r) else 0)
        = if j.val = n % 16 then ∑ r : Fin 128, sinkRow q k v dO sk j ((2 * t + n / 16) * 128 + r) else 0 := by
      by_cases h : j.val = n % 16
      · rw [if_pos h, if_pos h, h]
      · rw [if_neg h, if_neg h]
    rw [this]; ring

include hd_ ho hl hs in
/-- A grid point's part of the sinks' gradient. -/
theorem sinkSum_all (j : Fin 16) :
    sinkSum o do_ l s 32 (ix2 0 j) = ((-∑ i : Fin 256, sinkRow q k v dO sk j (t * 256 + i) : ℝ) : EReal) := by
  rw [sinkSum_val o do_ l s t q k v dO sk hd_ ho hl hs 32 le_rfl]
  refine congrArg Real.toEReal (congrArg _ ?_)
  rw [Finset.sum_range]
  refine Eq.trans (Fin.sum_divmod_congr (A := 2) (S := 16)
    (f := fun a c => if j = c then ∑ r : Fin 128, sinkRow q k v dO sk j ((2 * t + a) * 128 + r) else 0)
    (fun i ha hs => if_congr (by rw [Fin.ext_iff]) rfl rfl)) ?_
  refine Eq.trans ?_ (Fin.sum_divmod_congr (A := 2) (S := 128) (f := fun a r => sinkRow q k v dO sk j ((2 * t + a) * 128 + r)) (fun i ha hs => ?_)).symm
  · refine Finset.sum_congr rfl fun a _ => ?_
    rw [Finset.sum_ite_eq]
    simp
  · show sinkRow q k v dO sk j (t * 256 + i.val) = sinkRow q k v dO sk j ((2 * t + i.val / 128) * 128 + i.val % 128)
    congr 1; omega

end values

end Cert.AttnBwd
-- ==== Proof.Attn.Region2.lean ====
/-
  The attention's backward call: its four results as arrays.
-/
module

public import proofs.«01_k».proof.Proof.Attn.Region1
public import proofs.«01_k».proof.Proof.Attn.Backward
public import Idealize.ShloMosaic.Lib.Pipeline.ValueKit

@[expose] public section

set_option maxRecDepth 16384
noncomputable section

namespace Cert.AttnBwd
open Idealize.ShloMosaic Idealize.ShloMosaic.TcCoe Idealize.SL.Sem
open Cert.AttnKernelIdeal Cert.AttnKernelIdeal.Gen Cert.AttnSpec Cert.AttnFwd
open Classical

variable (V : (c : Dev nD) → (b : Ref sig .tc) → Buf (Elt Ideal) ((c : Thread nD τ).loc b))

theorem idx2 : ∀ t : Fin cfg2.N, win2_0.index t = ![0] ∧ win2_1.index t = ![t.val, 0] ∧ win2_2.index t = ![t.val, 0] ∧ win2_3.index t = ![t.val, 0]
    ∧ win2_4.index t = ![0, t.val, 0, 0] ∧ win2_5.index t = ![2 * t.val - 1, 0] ∧ win2_6.index t = ![t.val, 0]
    ∧ win2_7.index t = ![min (2 * t.val + 2) 127, 0] ∧ win2_8.index t = ![2 * t.val - 1, 0] ∧ win2_9.index t = ![t.val, 0]
    ∧ win2_10.index t = ![min (2 * t.val + 2) 127, 0] ∧ win2_11.index t = ![t.val, 0] ∧ win2_12.index t = ![t.val, 0, 0]
    ∧ win2_13.index t = ![t.val, 0, 0] ∧ win2_14.index t = ![0, 0] :=
  (by decide +kernel : ∀ t : Fin grid2.N, _)

theorem blk0 (c : Dev nD) (t : Fin cfg2.N) (i : Fin 16) : iblk2 V c 0 t (ix1 i) = V c main_arg2 (ix1 i) := by
  blk_simp [iblk2]
  blk_ext [idx2 t]
theorem blk1 (c : Dev nD) (t : Fin cfg2.N) (i : Fin 256) (d : Fin 1024) :
    iblk2 V c 1 t (ix2 i d) = V c main_v37_0 (ix2 ⟨t.val * 256 + i.val, by have : t.val < 64 := t.isLt; omega⟩ d) := by
  blk_simp [iblk2]
  blk_ext [idx2 t]
theorem blk2 (c : Dev nD) (t : Fin cfg2.N) (i : Fin 256) (d : Fin 1024) :
    iblk2 V c 2 t (ix2 i d) = V c main_v38_0 (ix2 ⟨t.val * 256 + i.val, by have : t.val < 64 := t.isLt; omega⟩ d) := by
  blk_simp [iblk2]
  blk_ext [idx2 t]
theorem blk3 (c : Dev nD) (t : Fin cfg2.N) (i : Fin 256) (d : Fin 1024) :
    iblk2 V c 3 t (ix2 i d) = V c main_v39 (ix2 ⟨t.val * 256 + i.val, by have : t.val < 64 := t.isLt; omega⟩ d) := by
  blk_simp [iblk2]
  blk_ext [idx2 t]
theorem blk4 (c : Dev nD) (t : Fin cfg2.N) (g : Fin 4) (sb : Fin 2) (R : Fin 512) (u : Fin 1) :
    iblk2 V c 4 t (ix4 g sb R u) = V c main_v38_1 (ix4 g ⟨t.val * 2 + sb.val, by have : t.val < 64 := t.isLt; omega⟩ R u) := by
  blk_simp [iblk2]
  blk_ext [idx2 t]
theorem blk5 (c : Dev nD) (t : Fin cfg2.N) (i : Fin 128) (d : Fin 256) :
    iblk2 V c 5 t (ix2 i d) = V c main_v37_1 (ix2 ⟨(2 * t.val - 1) * 128 + i.val, by have : t.val < 64 := t.isLt; omega⟩ d) := by
  blk_simp [iblk2]
  blk_ext [idx2 t]
theorem blk6 (c : Dev nD) (t : Fin cfg2.N) (i : Fin 256) (d : Fin 256) :
    iblk2 V c 6 t (ix2 i d) = V c main_v37_1 (ix2 ⟨t.val * 256 + i.val, by have : t.val < 64 := t.isLt; omega⟩ d) := by
  blk_simp [iblk2]
  blk_ext [idx2 t]
theorem blk7 (c : Dev nD) (t : Fin cfg2.N) (i : Fin 128) (d : Fin 256) :
    iblk2 V c 7 t (ix2 i d) = V c main_v37_1 (ix2 ⟨min (2 * t.val + 2) 127 * 128 + i.val, by have : t.val < 64 := t.isLt; omega⟩ d) := by
  blk_simp [iblk2]
  blk_ext [idx2 t]
theorem blk8 (c : Dev nD) (t : Fin cfg2.N) (i : Fin 128) (d : Fin 256) :
    iblk2 V c 8 t (ix2 i d) = V c main_v37_2 (ix2 ⟨(2 * t.val - 1) * 128 + i.val, by have : t.val < 64 := t.isLt; omega⟩ d) := by
  blk_simp [iblk2]
  blk_ext [idx2 t]
theorem blk9 (c : Dev nD) (t : Fin cfg2.N) (i : Fin 256) (d : Fin 256) :
    iblk2 V c 9 t (ix2 i d) = V c main_v37_2 (ix2 ⟨t.val * 256 + i.val, by have : t.val < 64 := t.isLt; omega⟩ d) := by
  blk_simp [iblk2]
  blk_ext [idx2 t]
theorem blk10 (c : Dev nD) (t : Fin cfg2.N) (i : Fin 128) (d : Fin 256) :
    iblk2 V c 10 t (ix2 i d) = V c main_v37_2 (ix2 ⟨min (2 * t.val + 2) 127 * 128 + i.val, by have : t.val < 64 := t.isLt; omega⟩ d) := by
  blk_simp [iblk2]
  blk_ext [idx2 t]

/-- A point's block of the queries, as loaded. -/
def qAt (c : Dev nD) (t : Fin cfg2.N) : FVec Ideal S256x1024 .bf16 :=
  k2_pay3 (View.ld ((ms2_1 t).view.read (Elt Ideal) ((hs2_1 t).unread (iblk2 V c 1 t))) (Rect.unit ![0, 0] ![256, 1024] inb_S256x1024_S256x1024_0_0))
/-- The outputs. -/
def oAt (c : Dev nD) (t : Fin cfg2.N) : FVec Ideal S256x1024 .bf16 :=
  k2_pay3 (View.ld ((ms2_2 t).view.read (Elt Ideal) ((hs2_2 t).unread (iblk2 V c 2 t))) (Rect.unit ![0, 0] ![256, 1024] inb_S256x1024_S256x1024_0_0))
/-- The outputs' cotangents. -/
def doAt (c : Dev nD) (t : Fin cfg2.N) : FVec Ideal S256x1024 .bf16 :=
  k2_pay3 (View.ld ((ms2_3 t).view.read (Elt Ideal) ((hs2_3 t).unread (iblk2 V c 3 t))) (Rect.unit ![0, 0] ![256, 1024] inb_S256x1024_S256x1024_0_0))
/-- The window's keys. -/
def kAt (c : Dev nD) (t : Fin cfg2.N) : FVec Ideal S512x256 .bf16 :=
  k1_pay4 (View.ld ((ms2_5 t).view.read (Elt Ideal) ((hs2_5 t).unread (iblk2 V c 5 t))) (Rect.unit ![0, 0] ![128, 256] inb_S128x256_S128x256_0_0))
    (View.ld ((ms2_6 t).view.read (Elt Ideal) ((hs2_6 t).unread (iblk2 V c 6 t))) (Rect.unit ![0, 0] ![256, 256] inb_S256x256_S256x256_0_0))
    (View.ld ((ms2_7 t).view.read (Elt Ideal) ((hs2_7 t).unread (iblk2 V c 7 t))) (Rect.unit ![0, 0] ![128, 256] inb_S128x256_S128x256_0_0))
/-- The window's values. -/
def vAt (c : Dev nD) (t : Fin cfg2.N) : FVec Ideal S512x256 .bf16 :=
  k1_pay4 (View.ld ((ms2_8 t).view.read (Elt Ideal) ((hs2_8 t).unread (iblk2 V c 8 t))) (Rect.unit ![0, 0] ![128, 256] inb_S128x256_S128x256_0_0))
    (View.ld ((ms2_9 t).view.read (Elt Ideal) ((hs2_9 t).unread (iblk2 V c 9 t))) (Rect.unit ![0, 0] ![256, 256] inb_S256x256_S256x256_0_0))
    (View.ld ((ms2_10 t).view.read (Elt Ideal) ((hs2_10 t).unread (iblk2 V c 10 t))) (Rect.unit ![0, 0] ![128, 256] inb_S128x256_S128x256_0_0))
/-- The masks of a point's two blocks. -/
def maskAt (t : Fin cfg2.N) : Fin 2 → IVec S512x384 1 :=
  ![k2_pay11 (k2_pay9 (grid2.coords t)) (k2_pay10 (grid2.coords t)) 128#32,
    k2_pay80 (k2_pay78 (BitVec.ofNat 32 (grid2.coords t 0).val)) (k2_pay79 (BitVec.ofNat 32 (grid2.coords t 0).val))]

theorem inb_lse : ∀ (sb : Fin 2) (g : Fin 4) (a : Fin S4x2x512x1.rank), ![g.val, sb.val, 0, 0] a + ![1, 1, 512, 1] a ≤ S4x2x512x1.size a := by decide
/-- The log-sums of a group and block. -/
def lseAt (X : S4x2x512x1.Idx → Elt Ideal .f32) (sb : Fin 2) (g : Fin 4) : Vec Ideal S1x1x512x1 .f32 :=
  View.ld (Val := Elt Ideal) (S := S4x2x512x1) (e' := .f32) X (Rect.unit ![g.val, sb.val, 0, 0] ![1, 1, 512, 1] (inb_lse sb g))
theorem lseAt_val (X : S4x2x512x1.Idx → Elt Ideal .f32) (sb : Fin 2) (g : Fin 4) (R : Fin 512) : lseAt X sb g (ix4 0 0 R 0) = X (ix4 g sb R 0) := by
  unfold lseAt
  exact View.ld_unit_apply_of (Val := Elt Ideal) (S := S4x2x512x1) (e := .f32) X ![g.val, sb.val, 0, 0] ![1, 1, 512, 1] (inb_lse sb g) (ix4 0 0 R 0) (ix4 g sb R 0) fun a => by
    fin_cases a
    · rfl
    · rfl
    · show R.val = 0 + R.val; omega
    · rfl

/-- The log-sums as loaded, through the staging buffer. -/
def stagedLse (c : Dev nD) (t : Fin cfg2.N) : S4x2x512x1.Idx → Elt Ideal .f32 := (ms2_4 t).view.read (Elt Ideal) ((hs2_4 t).unread (iblk2 V c 4 t))
theorem stagedLse_eq (c : Dev nD) (t : Fin cfg2.N) : stagedLse V c t = iblk2 V c 4 t := (hs2_4 t).read_unread _
/-- The sinks as loaded. -/
def stagedSink (c : Dev nD) (t : Fin cfg2.N) : S16.Idx → Elt Ideal .f32 := (ms2_0 t).view.read (Elt Ideal) ((hs2_0 t).unread (iblk2 V c 0 t))
theorem stagedSink_eq (c : Dev nD) (t : Fin cfg2.N) : stagedSink V c t = iblk2 V c 0 t := (hs2_0 t).read_unread _

/-- The queries' gradient of a point's block, in the kernel's operations. -/
def dqAt (c : Dev nD) (t : Fin cfg2.N) (sb : Fin 2) : FVec Ideal S128x1024 .bf16 :=
  bDq (qAt V c t) (oAt V c t) (doAt V c t) (kAt V c t) (vAt V c t) (maskAt t) (lseAt (iblk2 V c 4 t)) sb
def dkAt (c : Dev nD) (t : Fin cfg2.N) (sb : Fin 2) : FVec Ideal S1x384x256 .f32 :=
  bDk (qAt V c t) (oAt V c t) (doAt V c t) (kAt V c t) (vAt V c t) (maskAt t) (lseAt (iblk2 V c 4 t)) sb
def dvAt (c : Dev nD) (t : Fin cfg2.N) (sb : Fin 2) : FVec Ideal S1x384x256 .f32 :=
  bDv (qAt V c t) (doAt V c t) (kAt V c t) (maskAt t) (lseAt (iblk2 V c 4 t)) sb
def sinkGrad (c : Dev nD) (t : Fin cfg2.N) : FVec Ideal S1x16 .f32 :=
  sinkSum (oAt V c t) (doAt V c t) (lseAt (iblk2 V c 4 t)) (sinkAt (stagedSink V c t)) 32

/-- A block stored for one of a point's two blocks of queries, at its index. -/
theorem pick (f : Fin 2 → FVec Ideal S128x1024 .bf16) (sb : Fin 2) (r : Fin 256) (d : Fin 1024) (x : S128x1024.Idx)
    (h0 : r.val = 128 * sb.val + (x 0).val) (h1 : d.val = (x 1).val) : f sb x = f ⟨r.val / 128, by omega⟩ (ix2 ⟨r.val % 128, by omega⟩ d) := by
  have hx : (x 0).val < 128 := (x 0).isLt
  have e : (⟨r.val / 128, by omega⟩ : Fin 2) = sb := Fin.ext (by show r.val / 128 = sb.val; omega)
  rw [e]
  refine congrArg _ (funext fun a => Fin.ext ?_)
  fin_cases a
  · show (x 0).val = r.val % 128; omega
  · exact h1.symm

/-- The same for the window's rows of the keys' or the values' gradient. -/
theorem pick3 (f : Fin 2 → FVec Ideal S1x384x256 .f32) (sb s : Fin 2) (c : Fin 384) (d : Fin 256) (x : S1x384x256.Idx)
    (h0 : s.val = sb.val + (x 0).val) (h1 : c.val = (x 1).val) (h2 : d.val = (x 2).val) : f sb x = f s (ix3 0 c d) := by
  have hx : (x 0).val < 1 := (x 0).isLt
  have e : s = sb := Fin.ext (by omega)
  rw [e]
  refine congrArg _ (funext fun a => Fin.ext ?_)
  fin_cases a
  · show (x 0).val = 0; omega
  · exact h1.symm
  · exact h2.symm

set_option maxHeartbeats 2000000 in
theorem outsAt2_q (c : Dev nD) (t : Fin cfg2.N) (r : Fin 256) (d : Fin 1024) : (outsAt2 V c t.val t.isLt).1 (ix2 r d)
    = dqAt V c t ⟨r.val / 128, by omega⟩ (ix2 ⟨r.val % 128, by omega⟩ d) := by
  have staged : dqAt V c t 0 = bDq (qAt V c t) (oAt V c t) (doAt V c t) (kAt V c t) (vAt V c t) (maskAt t) (lseAt (stagedLse V c t)) 0 := by
    rw [stagedLse_eq]; rfl
  by_cases hA : t.val % 64 = 0
  · rw [outsAt2_A V c t hA]
    frame_out
    canon_tiles x h
    case piece0 => exact Eq.trans (b := dqAt V c t 1 x) (by sl_kernel_rfl) (pick (dqAt V c t) 1 r d x h0 h1)
    case piece1 =>
      refine Eq.trans (b := dqAt V c t 0 x) ?_ (pick (dqAt V c t) 0 r d x (by rw [show r.val = (x 0).val from h0]; simp) h1)
      rw [staged]
      sl_kernel_rfl
  · rw [outsAt2_B V c t hA]
    frame_out
    canon_tiles x h
    case piece0 => exact Eq.trans (b := dqAt V c t 1 x) (by sl_kernel_rfl) (pick (dqAt V c t) 1 r d x h0 h1)
    case piece1 =>
      refine Eq.trans (b := dqAt V c t 0 x) ?_ (pick (dqAt V c t) 0 r d x (by rw [show r.val = (x 0).val from h0]; simp) h1)
      rw [staged]
      sl_kernel_rfl

set_option maxHeartbeats 2000000 in
theorem outsAt2_k (c : Dev nD) (t : Fin cfg2.N) (s : Fin 2) (r : Fin 384) (d : Fin 256) : (outsAt2 V c t.val t.isLt).2.1 (ix3 s r d)
    = dkAt V c t s (ix3 0 r d) := by
  have staged : dkAt V c t 0 = bDk (qAt V c t) (oAt V c t) (doAt V c t) (kAt V c t) (vAt V c t) (maskAt t) (lseAt (stagedLse V c t)) 0 := by
    rw [stagedLse_eq]; rfl
  by_cases hA : t.val % 64 = 0
  · rw [outsAt2_A V c t hA]
    frame_out
    canon_tiles x h
    case piece0 => exact Eq.trans (b := dkAt V c t 1 x) (by sl_kernel_rfl) (pick3 (dkAt V c t) 1 s r d x h0 h1 h2)
    case piece1 =>
      refine Eq.trans (b := dkAt V c t 0 x) ?_ (pick3 (dkAt V c t) 0 s r d x (by rw [show s.val = (x 0).val from h0]; simp) h1 h2)
      rw [staged]
      sl_kernel_rfl
  · rw [outsAt2_B V c t hA]
    frame_out
    canon_tiles x h
    case piece0 => exact Eq.trans (b := dkAt V c t 1 x) (by sl_kernel_rfl) (pick3 (dkAt V c t) 1 s r d x h0 h1 h2)
    case piece1 =>
      refine Eq.trans (b := dkAt V c t 0 x) ?_ (pick3 (dkAt V c t) 0 s r d x (by rw [show s.val = (x 0).val from h0]; simp) h1 h2)
      rw [staged]
      sl_kernel_rfl

set_option maxHeartbeats 2000000 in
theorem outsAt2_v (c : Dev nD) (t : Fin cfg2.N) (s : Fin 2) (r : Fin 384) (d : Fin 256) : (outsAt2 V c t.val t.isLt).2.2.1 (ix3 s r d)
    = dvAt V c t s (ix3 0 r d) := by
  have staged : dvAt V c t 0 = bDv (qAt V c t) (doAt V c t) (kAt V c t) (maskAt t) (lseAt (stagedLse V c t)) 0 := by
    rw [stagedLse_eq]; rfl
  by_cases hA : t.val % 64 = 0
  · rw [outsAt2_A V c t hA]
    frame_out
    canon_tiles x h
    case piece0 => exact Eq.trans (b := dvAt V c t 1 x) (by sl_kernel_rfl) (pick3 (dvAt V c t) 1 s r d x h0 h1 h2)
    case piece1 =>
      refine Eq.trans (b := dvAt V c t 0 x) ?_ (pick3 (dvAt V c t) 0 s r d x (by rw [show s.val = (x 0).val from h0]; simp) h1 h2)
      rw [staged]
      sl_kernel_rfl
  · rw [outsAt2_B V c t hA]
    frame_out
    canon_tiles x h
    case piece0 => exact Eq.trans (b := dvAt V c t 1 x) (by sl_kernel_rfl) (pick3 (dvAt V c t) 1 s r d x h0 h1 h2)
    case piece1 =>
      refine Eq.trans (b := dvAt V c t 0 x) ?_ (pick3 (dvAt V c t) 0 s r d x (by rw [show s.val = (x 0).val from h0]; simp) h1 h2)
      rw [staged]
      sl_kernel_rfl

set_option maxHeartbeats 2000000 in
theorem outsAt2_sink_A (c : Dev nD) (t : Fin cfg2.N) (hA : t.val % 64 = 0) (y : S1x16.Idx) : (outsAt2 V c t.val t.isLt).2.2.2 y
    = k2_pay2 (F := Ideal) (sinkGrad V c t) (k2_pay1 (F := Ideal)) y := by
  rw [outsAt2_A V c t hA]
  frame_out
  sl_kernel_rfl
set_option maxHeartbeats 2000000 in
theorem outsAt2_sink_B (c : Dev nD) (t : Fin cfg2.N) (hA : ¬ t.val % 64 = 0) (y : S1x16.Idx) : (outsAt2 V c t.val t.isLt).2.2.2 y
    = k2_pay2 (F := Ideal) (sinkGrad V c t) (outsAt2 V c (t.val - 1) (lt_of_le_of_lt (Nat.sub_le _ _) t.isLt)).2.2.2 y := by
  rw [outsAt2_B V c t hA]
  frame_out
  sl_kernel_rfl

section values

variable (q k v dO : ℕ → ℕ → ℝ) (sk : ℕ → ℝ) (c : Dev nD)
  (hq : ∀ (u : Fin 16384) (d : Fin 1024), V c main_v37_0 (ix2 u d) = (q u d : EReal))
  (hk : ∀ (u : Fin 16384) (d : Fin 256), V c main_v37_1 (ix2 u d) = (k u d : EReal))
  (hv : ∀ (u : Fin 16384) (d : Fin 256), V c main_v37_2 (ix2 u d) = (v u d : EReal))
  (hs : ∀ h : Fin 16, V c main_arg2 (ix1 h) = (sk h : EReal))
  (hd_ : ∀ (u : Fin 16384) (d : Fin 1024), V c main_v39 (ix2 u d) = (dO u d : EReal))
  (ho : V c main_v38_0 = fun i : S16384x1024.Idx => (out q k v sk ((i 1).val / 64) (i 0) ((i 1).val % 64) : EReal))
  (hl : V c main_v38_1 = fun i : S4x128x512x1.Idx =>
    (Real.log (den q k sk ((i 0).val * 4 + (i 2).val / 128) ((i 1).val * 128 + (i 2).val % 128)) : EReal))
  (t : Fin cfg2.N)

include hq in
theorem qAt_val (r : Fin 256) (d : Fin 1024) : qAt V c t (ix2 r d) = (q (t * 256 + r) d : EReal) := by
  unfold qAt; rw [load_block _ _ _ _ (by decide)]
  pointwise [k2_pay3]
  exact (blk1 V c t r d).trans (hq _ _)
include hd_ in
theorem doAt_val (r : Fin 256) (d : Fin 1024) : doAt V c t (ix2 r d) = (dO (t * 256 + r) d : EReal) := by
  unfold doAt; rw [load_block _ _ _ _ (by decide)]
  pointwise [k2_pay3]
  exact (blk3 V c t r d).trans (hd_ _ _)
include ho in
theorem oAt_val (r : Fin 256) (h : Fin 16) (d : Fin 64) : oAt V c t (ix2 r (lane h d)) = (out q k v sk h (t * 256 + r) d : EReal) := by
  unfold oAt; rw [load_block _ _ _ _ (by decide)]
  pointwise [k2_pay3]
  refine (blk2 V c t r (lane h d)).trans ?_
  rw [ho]
  show (out q k v sk ((64 * h.val + d.val) / 64) (t.val * 256 + r.val) ((64 * h.val + d.val) % 64) : EReal) = _
  rw [show (64 * h.val + d.val) / 64 = h.val by omega, show (64 * h.val + d.val) % 64 = d.val by omega]
include hk in
theorem kAt_val (j : Fin 512) (d : Fin 256) : kAt V c t (ix2 j d) = (k (kRow t j) d : EReal) := by
  refine window_val _ _ _ k t (fun i d => ?_) (fun i d => ?_) (fun i d => ?_) j d
  · rw [load_block _ _ _ _ (by decide)]; exact (blk5 V c t i d).trans (hk _ _)
  · rw [load_block _ _ _ _ (by decide)]; exact (blk6 V c t i d).trans (hk _ _)
  · rw [load_block _ _ _ _ (by decide)]; exact (blk7 V c t i d).trans (hk _ _)
include hv in
theorem vAt_val (j : Fin 512) (d : Fin 256) : vAt V c t (ix2 j d) = (v (kRow t j) d : EReal) := by
  refine window_val _ _ _ v t (fun i d => ?_) (fun i d => ?_) (fun i d => ?_) j d
  · rw [load_block _ _ _ _ (by decide)]; exact (blk8 V c t i d).trans (hv _ _)
  · rw [load_block _ _ _ _ (by decide)]; exact (blk9 V c t i d).trans (hv _ _)
  · rw [load_block _ _ _ _ (by decide)]; exact (blk10 V c t i d).trans (hv _ _)

theorem coords2 : ∀ t : Fin cfg2.N, (grid2.coords t 0).val = t.val := (by decide +kernel : ∀ t : Fin grid2.N, _)

theorem maskAt_val (sb : Fin 2) (i : Fin 4) (r : Fin 128) (d : Fin 384) : maskAt t sb (ix2 (row i r) d) = BitVec.ofBool (decide (sees (2 * t + sb) r d)) := by
  have ht : t.val < 64 := t.isLt
  fin_cases sb
  · refine (mask0 (grid2.coords t) i r d).trans ?_
    rw [coords2 t]; rfl
  · show k2_pay80 (k2_pay78 (BitVec.ofNat 32 (grid2.coords t 0).val)) (k2_pay79 (BitVec.ofNat 32 (grid2.coords t 0).val)) (ix2 (row i r) d) = _
    rw [coords2 t]; exact mask1 t ht i r d

include hl in
theorem lse_val (sb : Fin 2) (g i : Fin 4) (r : Fin 128) :
    lseAt (iblk2 V c 4 t) sb g (ix4 0 0 (row i r) 0) = (Real.log (den q k sk (hd g i) ((2 * t + sb) * 128 + r)) : EReal) := by
  refine (lseAt_val _ sb g _).trans ((blk4 V c t g sb (row i r) 0).trans ?_)
  rw [hl]
  show (Real.log (den q k sk (g.val * 4 + (128 * i.val + r.val) / 128) ((t.val * 2 + sb.val) * 128 + (128 * i.val + r.val) % 128)) : EReal) = _
  rw [show (128 * i.val + r.val) / 128 = i.val by omega, show (128 * i.val + r.val) % 128 = r.val by omega, hd_val, Nat.mul_comm t.val]

include hs in
theorem sink_val (hh : Fin 16) : sinkAt (stagedSink V c t) hh = (sk hh : EReal) := by
  rw [stagedSink_eq]
  exact (sinkAt_val _ hh).trans ((blk0 V c t hh).trans (hs hh))

include hq hk hv hd_ ho hl in
/-- The scaled queries' gradient, as the backward call leaves it. -/
theorem final2_11 : (dat2 V c).arrAt 11 cfg2.N = fun i : S16384x1024.Idx => (dquery q k v dO sk ((i 1).val / 64) (i 0) ((i 1).val % 64) : EReal) := by
  refine (dat2 V c).arrAt_eq_of_covers 11 _ (by decide +kernel) fun t hf (y : S256x1024.Idx) => ?_
  have ht : t.val < 64 := t.isLt
  blk_simp
  rw [after2_11]
  obtain ⟨r, d, rfl⟩ : ∃ (r : Fin 256) (d : Fin 1024), y = ix2 r d := ⟨y 0, y 1, by idx_vars y⟩
  rw [outsAt2_q]
  have h := bDq_val _ _ _ _ _ _ _ t ht q k v dO sk (qAt_val V q c hq t) (kAt_val V k c hk t) (vAt_val V v c hv t) (doAt_val V dO c hd_ t)
    (oAt_val V q k v sk c ho t) (maskAt_val t) (lse_val V q k sk c hl t) ⟨r.val / 128, by omega⟩ ⟨r.val % 128, by omega⟩ ⟨d.val / 64, by omega⟩ ⟨d.val % 64, by omega⟩
  have e : win2_11.index t = ![t.val, 0] := (idx2 t).2.2.2.2.2.2.2.2.2.2.2.1
  rw [e]
  refine Eq.trans (congrArg _ (congrArg (ix2 _) (Fin.ext ?_))) (h.trans (congrArg Real.toEReal ?_))
  · show d.val = 64 * (d.val / 64) + d.val % 64; omega
  · show dquery q k v dO sk (d.val / 64) ((2 * t.val + r.val / 128) * 128 + r.val % 128) (d.val % 64)
      = dquery q k v dO sk ((0 * 1024 + d.val) / 64) (t.val * 256 + r.val) ((0 * 1024 + d.val) % 64)
    rw [show (2 * t.val + r.val / 128) * 128 + r.val % 128 = t.val * 256 + r.val by omega, show 0 * 1024 + d.val = d.val by omega]

include hq hk hv hd_ ho hl in
/-- The blocks' parts of the keys' gradient. -/
theorem final2_12 : (dat2 V c).arrAt 12 cfg2.N = fun i : S128x384x256.Idx => (dkPart q k v dO sk (i 0) (i 1) ((i 2).val / 64) ((i 2).val % 64) : EReal) := by
  refine (dat2 V c).arrAt_eq_of_covers 12 _ (by decide +kernel) fun t hf (y : S2x384x256.Idx) => ?_
  have ht : t.val < 64 := t.isLt
  blk_simp
  rw [after2_12]
  obtain ⟨s, r, d, rfl⟩ : ∃ (s : Fin 2) (r : Fin 384) (d : Fin 256), y = ix3 s r d := ⟨y 0, y 1, y 2, by idx_vars y⟩
  rw [outsAt2_k]
  have h := bDk_val _ _ _ _ _ _ _ t ht q k v dO sk (qAt_val V q c hq t) (kAt_val V k c hk t) (vAt_val V v c hv t) (doAt_val V dO c hd_ t)
    (oAt_val V q k v sk c ho t) (maskAt_val t) (lse_val V q k sk c hl t) s r ⟨d.val / 64, by omega⟩ ⟨d.val % 64, by omega⟩
  have e : win2_12.index t = ![t.val, 0, 0] := (idx2 t).2.2.2.2.2.2.2.2.2.2.2.2.1
  rw [e]
  refine Eq.trans (congrArg _ (congrArg (ix3 0 r) (Fin.ext ?_))) (h.trans (congrArg Real.toEReal ?_))
  · show d.val = 64 * (d.val / 64) + d.val % 64; omega
  · show dkPart q k v dO sk (2 * t.val + s.val) r.val (d.val / 64) (d.val % 64)
      = dkPart q k v dO sk (t.val * 2 + s.val) (0 * 384 + r.val) ((0 * 256 + d.val) / 64) ((0 * 256 + d.val) % 64)
    rw [show 0 * 384 + r.val = r.val by omega, show 0 * 256 + d.val = d.val by omega, Nat.mul_comm 2]

include hq hk hd_ hl in
/-- The blocks' parts of the values' gradient. -/
theorem final2_13 : (dat2 V c).arrAt 13 cfg2.N = fun i : S128x384x256.Idx => (dvPart q k dO sk (i 0) (i 1) ((i 2).val / 64) ((i 2).val % 64) : EReal) := by
  refine (dat2 V c).arrAt_eq_of_covers 13 _ (by decide +kernel) fun t hf (y : S2x384x256.Idx) => ?_
  have ht : t.val < 64 := t.isLt
  blk_simp
  rw [after2_13]
  obtain ⟨s, r, d, rfl⟩ : ∃ (s : Fin 2) (r : Fin 384) (d : Fin 256), y = ix3 s r d := ⟨y 0, y 1, y 2, by idx_vars y⟩
  rw [outsAt2_v]
  have h := bDv_val _ _ _ _ _ t ht q k dO sk (qAt_val V q c hq t) (kAt_val V k c hk t) (doAt_val V dO c hd_ t)
    (maskAt_val t) (lse_val V q k sk c hl t) s r ⟨d.val / 64, by omega⟩ ⟨d.val % 64, by omega⟩
  have e : win2_13.index t = ![t.val, 0, 0] := (idx2 t).2.2.2.2.2.2.2.2.2.2.2.2.2.1
  rw [e]
  refine Eq.trans (congrArg _ (congrArg (ix3 0 r) (Fin.ext ?_))) (h.trans (congrArg Real.toEReal ?_))
  · show d.val = 64 * (d.val / 64) + d.val % 64; omega
  · show dvPart q k dO sk (2 * t.val + s.val) r.val (d.val / 64) (d.val % 64)
      = dvPart q k dO sk (t.val * 2 + s.val) (0 * 384 + r.val) ((0 * 256 + d.val) / 64) ((0 * 256 + d.val) % 64)
    rw [show 0 * 384 + r.val = r.val by omega, show 0 * 256 + d.val = d.val by omega, Nat.mul_comm 2]

theorem k2_pay2_apply (a b : FVec Ideal S1x16 .f32) (y : S1x16.Idx) : k2_pay2 a b y = (b y + a y : EReal) := by
  pointwise [k2_pay2]
theorem k2_pay1_apply (y : S1x16.Idx) : k2_pay1 (F := Ideal) y = (0 : EReal) := by
  pointwise [k2_pay1]

include hs hd_ ho hl in
/-- The sinks' gradient. -/
theorem final2_14 : (dat2 V c).arrAt 14 cfg2.N = fun i : S1x16.Idx => (dsink q k v dO sk (i 1) : EReal) := by
  refine (dat2 V c).arrAt_eq_of_covers 14 _ (by decide +kernel) fun t hf (y : S1x16.Idx) => ?_
  have ht : t.val < 64 := t.isLt
  have h63 := (flush2_14 t).mp hf
  blk_simp
  rw [after2_14]
  obtain ⟨z, j, rfl⟩ : ∃ (z : Fin 1) (j : Fin 16), y = ix2 z j := ⟨y 0, y 1, by idx_vars y⟩
  obtain rfl : z = 0 := Subsingleton.elim _ _
  have term : ∀ t : Fin cfg2.N, sinkGrad V c t (ix2 0 j) = ((-∑ i : Fin 256, sinkRow q k v dO sk j (t.val * 256 + i) : ℝ) : EReal) := fun t =>
    sinkSum_all _ _ _ _ t q k v dO sk (doAt_val V dO c hd_ t) (oAt_val V q k v sk c ho t) (lse_val V q k sk c hl t) (sink_val V sk c hs t) j
  rw [Pipeline.eq_sum_fin_of_reset_step_apply_last (fun n h => (outsAt2 V c n h).2.2.2) 64 (fun _ => (0 : EReal)) (fun t => sinkGrad V c t)
    (fun t h y => by rw [outsAt2_sink_A V c t h, k2_pay2_apply, k2_pay1_apply])
    (fun t h y => by rw [outsAt2_sink_B V c t h, k2_pay2_apply]) (le_of_eq N_2) t (show t.val + 1 = 64 by omega) _, zero_add]
  rw [Finset.sum_congr rfl fun p _ => term p, ← Cert.Reals.coe_sum]
  have e : win2_14.index t = ![0, 0] := (idx2 t).2.2.2.2.2.2.2.2.2.2.2.2.2.2
  rw [e]
  refine congrArg Real.toEReal ?_
  show _ = dsink q k v dO sk (0 * 16 + j.val)
  rw [show 0 * 16 + j.val = j.val by omega]
  unfold dsink
  rw [Finset.sum_neg_distrib]
  refine congrArg _ (Fin.sum_divmod_congr (N := 16384) (A := cfg2.N) (S := 256) (f := fun a s => sinkRow q k v dO sk j (a.val * 256 + s)) (fun i ha hs => ?_) ?_).symm
  · show sinkRow q k v dO sk j i = sinkRow q k v dO sk j (i.val / 256 * 256 + i.val % 256)
    congr 1; omega
  · rw [show cfg2.N = 64 from N_2]

end values

end Cert.AttnBwd
-- ==== Proof.Attn.Post.lean ====
/-
  The last call of the attention's backward pass on one block of 128 positions: the blocks' parts of the keys' and values'
  gradients are summed, the queries' and the keys' gradients turned back.
-/
module

public import proofs.«01_k».proof.Proof.Attn.Rope
public import proofs.«01_k».proof.Proof.Attn.Backward

@[expose] public section

set_option maxRecDepth 16384
noncomputable section

namespace Cert.AttnPost
open Idealize.ShloMosaic Idealize.ShloMosaic.TcCoe Idealize.SL.Sem
open Cert.AttnKernelIdeal Cert.AttnKernelIdeal.Gen Cert.AttnSpec Cert.AttnRope Cert.AttnBwd
open Classical

/-! ## Sums over the blocks whose windows hold a key -/

theorem dscore_far (q k v dO : ℕ → ℕ → ℝ) (sk : ℕ → ℝ) (h t u : ℕ) (hn : ¬ near t u) : dscore q k v dO sk h t u = 0 := by
  unfold dscore prob num
  rw [if_neg hn, zero_div, zero_mul]
theorem prob_far (q k : ℕ → ℕ → ℝ) (sk : ℕ → ℝ) (h t u : ℕ) (hn : ¬ near t u) : prob q k sk h t u = 0 := by
  unfold prob num
  rw [if_neg hn, zero_div]

/-- A gradient summed over all queries, as the sum of the parts that three blocks leave. -/
theorem sum_parts (f : ℕ → ℕ → ℕ → ℝ) (hf : ∀ h t u, ¬ near t u → f h t u = 0) (part : ℕ → ℕ → ℝ)
    (hp : ∀ b c, part b c = ∑ i : Fin 4, ∑ r : Fin 128, if sees b r c then f i (b * 128 + r) (b * 128 + c - 128) else 0)
    (j r : ℕ) (hj : j < 128) (hr : r < 128) :
    part (min (j + 1) 127) r * (if j < 127 then 1 else 0) + part j (128 + r) + part (j - 1) (256 + r) * (if 0 < j then 1 else 0)
      = ∑ i : Fin 4, ∑ t : Fin 16384, f i t (j * 128 + r) := by
  have near_only : ∀ i : Fin 4, ∑ t : Fin 16384, f i t (j * 128 + r) = ∑ t : Fin 16384, if near t (j * 128 + r) then f i t (j * 128 + r) else 0 :=
    fun i => Finset.sum_congr rfl fun t _ => by
      split_ifs with h
      · rfl
      · exact hf _ _ _ h
  rw [Finset.sum_congr rfl fun i _ => (near_only i).trans (sum_queries j r hj hr fun t => f i t (j * 128 + r)), Finset.sum_add_distrib, Finset.sum_add_distrib]
  refine congrArg₂ (· + ·) (congrArg₂ (· + ·) ?_ ?_) ?_
  · split_ifs with h
    · rw [mul_one, hp, show min (j + 1) 127 = j + 1 by omega, show (j + 1) * 128 + r - 128 = j * 128 + r by omega]
    · rw [mul_zero, Finset.sum_const_zero]
  · rw [hp, show j * 128 + (128 + r) - 128 = j * 128 + r by omega]
  · split_ifs with h
    · rw [mul_one, hp, show (j - 1) * 128 + (256 + r) - 128 = j * 128 + r by omega]
    · rw [mul_zero, Finset.sum_const_zero]

theorem sum_dk (q k v dO : ℕ → ℕ → ℝ) (sk : ℕ → ℝ) (g d j r : ℕ) (hj : j < 128) (hr : r < 128) :
    dkPart q k v dO sk (min (j + 1) 127) r g d * (if j < 127 then 1 else 0) + dkPart q k v dO sk j (128 + r) g d
      + dkPart q k v dO sk (j - 1) (256 + r) g d * (if 0 < j then 1 else 0) = dkey q k v dO sk g (j * 128 + r) d :=
  sum_parts (fun i t u => dscore q k v dO sk (g * 4 + i) t u * q t ((g * 4 + i) * 64 + d))
    (fun i t u h => by rw [dscore_far _ _ _ _ _ _ _ _ h, zero_mul]) (fun b c => dkPart q k v dO sk b c g d) (fun b c => rfl) j r hj hr
theorem sum_dv (q k dO : ℕ → ℕ → ℝ) (sk : ℕ → ℝ) (g d j r : ℕ) (hj : j < 128) (hr : r < 128) :
    dvPart q k dO sk (min (j + 1) 127) r g d * (if j < 127 then 1 else 0) + dvPart q k dO sk j (128 + r) g d
      + dvPart q k dO sk (j - 1) (256 + r) g d * (if 0 < j then 1 else 0) = dvalue q k dO sk g (j * 128 + r) d :=
  sum_parts (fun i t u => prob q k sk (g * 4 + i) t u * dO t ((g * 4 + i) * 64 + d))
    (fun i t u h => by rw [prob_far _ _ _ _ _ _ h, zero_mul]) (fun b c => dvPart q k dO sk b c g d) (fun b c => rfl) j r hj hr

/-! ## In the kernel's operations -/

theorem hi_word : ∀ n : Fin 128, (Scalar.extui (Scalar.cmpi .slt (BitVec.ofNat 32 n.val) 127#32) : BitVec 32) = if n.val < 127 then 1#32 else 0#32 := by decide +kernel
theorem lo_word : ∀ n : Fin 128, (Scalar.extui (Scalar.cmpi .sgt (BitVec.ofNat 32 n.val) 0#32) : BitVec 32) = if 0 < n.val then 1#32 else 0#32 := by decide +kernel
theorem float_word (p : Prop) [Decidable p] : Scalar.sitofp (F := Ideal) .f32 (if p then 1#32 else 0#32) = ((if p then 1 else 0 : ℝ) : EReal) := by
  split_ifs
  · show (((BitVec.toInt 1#32 : ℤ) : ℝ) : EReal) = _
    simp
  · show (((BitVec.toInt 0#32 : ℤ) : ℝ) : EReal) = _
    simp
/-- Whether a later block exists, as a number; and an earlier one. -/
theorem hi_val (i : grid3.Coords) : k3_pay4 (F := Ideal) i = ((if (i 0).val < 127 then 1 else 0 : ℝ) : EReal) := by
  refine Eq.trans (congrArg (Scalar.sitofp (F := Ideal) .f32) (hi_word (i 0))) (float_word _)
theorem lo_val (i : grid3.Coords) : k3_pay3 (F := Ideal) i = ((if 0 < (i 0).val then 1 else 0 : ℝ) : EReal) := by
  refine Eq.trans (congrArg (Scalar.sitofp (F := Ideal) .f32) (lo_word (i 0))) (float_word _)

theorem k3_pay8_apply (i : grid3.Coords) (a b c : FVec Ideal S1x128x256 .f32) (r : Fin 128) (m : Fin 256) :
    k3_pay8 i a b c (ix2 r m) = (a (ix3 0 r m) * k3_pay4 (F := Ideal) i + b (ix3 0 r m) + c (ix3 0 r m) * k3_pay3 (F := Ideal) i : EReal) := by
  pointwise [k3_pay8]
/-- The values' gradient: the three blocks' parts. -/
def dvPost (i : grid3.Coords) (a b c : FVec Ideal S1x128x256 .f32) : FVec Ideal S128x256 .bf16 :=
  k3_pay2 (k3_pay11 (k3_pay3 (F := Ideal) i) (k3_pay9 i a b) (k3_pay10 c))
theorem dvPost_apply (i : grid3.Coords) (a b c : FVec Ideal S1x128x256 .f32) (r : Fin 128) (m : Fin 256) :
    dvPost i a b c (ix2 r m) = (a (ix3 0 r m) * k3_pay4 (F := Ideal) i + b (ix3 0 r m) + c (ix3 0 r m) * k3_pay3 (F := Ideal) i : EReal) := by
  pointwise [dvPost, k3_pay2, k3_pay11, k3_pay9, k3_pay10]

theorem slices_k : ∀ g : Fin 2, (⟨2, ![128, 128 * 2]⟩ : Shape).Slices ![0, 128 * g.val] ⟨2, ![128, 128]⟩ := by decide
theorem slices_q : ∀ g : Fin 8, (⟨2, ![128, 128 * 8]⟩ : Shape).Slices ![0, 128 * g.val] ⟨2, ![128, 128]⟩ := by decide

/-- The keys' gradient: the three blocks' parts, turned back. -/
def dkPost (C H L : FVec Ideal S128x128 .f32) (i : grid3.Coords) (a b c : FVec Ideal S1x128x256 .f32) : FVec Ideal S128x256 .bf16 :=
  truncf .bf16 (turns (Scalar.ofBits .f32 0xBF800000#32) C H L 2 (k3_pay8 i a b c) rotates_S128x128_d1 slices_k
    concatenates_S128x128_S128x128_S128x256_d1) bitsLt_bf16_f32
/-- The queries' gradient, turned back and scaled. -/
def dqPost (C H L : FVec Ideal S128x128 .f32) (X : FVec Ideal S128x1024 .bf16) : FVec Ideal S128x1024 .bf16 :=
  truncf .bf16 (mulf (turns (Scalar.ofBits .f32 0xBF800000#32) C H L 8 (k3_pay12 X) rotates_S128x128_d1 slices_q
    concatenates_S128x128_S128x128_S128x128_S128x128_S128x128_S128x128_S128x128_S128x128_S128x1024_d1) (broadcast S128x1024 (Scalar.ofBits .f32 0x3E000000#32))) bitsLt_bf16_f32

section values

variable (C H L : FVec Ideal S128x128 .f32) (i : grid3.Coords) (j : ℕ) (hi : (i 0).val = j) (q k v dO : ℕ → ℕ → ℝ) (sk : ℕ → ℝ)
  (hC : ∀ (r : Fin 128) (l : Fin 128), C (ix2 r l) = (tabC (j * 128 + r) l : EReal))
  (hH : ∀ (r : Fin 128) (l : Fin 128), H (ix2 r l) = (tabH (j * 128 + r) l : EReal))
  (hL : ∀ (r : Fin 128) (l : Fin 128), L (ix2 r l) = (tabL (j * 128 + r) l : EReal))

include hC hH hL in
theorem dqPost_val (X : FVec Ideal S128x1024 .bf16) (x : ℕ → ℕ → ℝ) (hX : ∀ (r : Fin 128) (m : Fin 1024), X (ix2 r m) = (x r m : EReal)) (r : Fin 128) (m : Fin 1024) :
    dqPost C H L X (ix2 r m) = (rot (-1) (fun d => x r (m.val / 64 * 64 + d)) (j * 128 + r) (m.val % 64) * (1 / 8) : ℝ) := by
  have h12 : ∀ (r : Fin 128) (m : Fin 1024), k3_pay12 (F := Ideal) X (ix2 r m) = (x r m : EReal) := fun r m => by
    pointwise [k3_pay12]
    exact hX r m
  have h := turns_val (Scalar.ofBits .f32 0xBF800000#32) C H L 8 (k3_pay12 X) rotates_S128x128_d1 slices_q
    concatenates_S128x128_S128x128_S128x128_S128x128_S128x128_S128x128_S128x128_S128x128_S128x1024_d1 (j * 128) (-1) x word_neg_one hC hH hL h12 r m
  show (turns _ C H L 8 (k3_pay12 X) _ _ _ (ix2 r m) * Ideal.ofBits .f32 0x3E000000#32 : EReal) = _
  rw [Cert.Reals.word_eighth, EReal.coe_mul]
  exact congrArg (· * ((1 / 8 : ℝ) : EReal)) h

include hC hH hL hi in
theorem dkPost_val (a b c : FVec Ideal S1x128x256 .f32)
    (ha : ∀ (r : Fin 128) (m : Fin 256), a (ix3 0 r m) = (dkPart q k v dO sk (min (j + 1) 127) r (m.val / 64) (m.val % 64) : EReal))
    (hb : ∀ (r : Fin 128) (m : Fin 256), b (ix3 0 r m) = (dkPart q k v dO sk j (128 + r) (m.val / 64) (m.val % 64) : EReal))
    (hc : ∀ (r : Fin 128) (m : Fin 256), c (ix3 0 r m) = (dkPart q k v dO sk (j - 1) (256 + r) (m.val / 64) (m.val % 64) : EReal))
    (hj : j < 128) (r : Fin 128) (m : Fin 256) :
    dkPost C H L i a b c (ix2 r m) = (rot (-1) (fun d => dkey q k v dO sk (m.val / 64) (j * 128 + r) d) (j * 128 + r) (m.val % 64) : ℝ) := by
  have hX : ∀ (r : Fin 128) (m : Fin 256), k3_pay8 (F := Ideal) i a b c (ix2 r m) = (dkey q k v dO sk (m.val / 64) (j * 128 + r) (m.val % 64) : EReal) := fun r m => by
    rw [k3_pay8_apply, ha, hb, hc, hi_val, lo_val, hi, ← sum_dk q k v dO sk (m.val / 64) (m.val % 64) j r hj r.isLt]
    simp only [EReal.coe_add, EReal.coe_mul]
  refine (turns_val (Scalar.ofBits .f32 0xBF800000#32) C H L 2 (k3_pay8 i a b c) rotates_S128x128_d1 slices_k
    concatenates_S128x128_S128x128_S128x256_d1 (j * 128) (-1) (fun r m => dkey q k v dO sk (m / 64) (j * 128 + r) (m % 64)) word_neg_one hC hH hL hX r m).trans ?_
  refine congrArg Real.toEReal (rot_congr _ _ _ _ _ (Nat.mod_lt _ (by decide)) fun d hd => ?_)
  show dkey q k v dO sk ((m.val / 64 * 64 + d) / 64) _ ((m.val / 64 * 64 + d) % 64) = _
  rw [show (m.val / 64 * 64 + d) / 64 = m.val / 64 by omega, show (m.val / 64 * 64 + d) % 64 = d by omega]

include hi in
theorem dvPost_val (a b c : FVec Ideal S1x128x256 .f32)
    (ha : ∀ (r : Fin 128) (m : Fin 256), a (ix3 0 r m) = (dvPart q k dO sk (min (j + 1) 127) r (m.val / 64) (m.val % 64) : EReal))
    (hb : ∀ (r : Fin 128) (m : Fin 256), b (ix3 0 r m) = (dvPart q k dO sk j (128 + r) (m.val / 64) (m.val % 64) : EReal))
    (hc : ∀ (r : Fin 128) (m : Fin 256), c (ix3 0 r m) = (dvPart q k dO sk (j - 1) (256 + r) (m.val / 64) (m.val % 64) : EReal))
    (hj : j < 128) (r : Fin 128) (m : Fin 256) :
    dvPost i a b c (ix2 r m) = (dvalue q k dO sk (m.val / 64) (j * 128 + r) (m.val % 64) : ℝ) := by
  rw [dvPost_apply, ha, hb, hc, hi_val, lo_val, hi, ← sum_dv q k dO sk (m.val / 64) (m.val % 64) j r hj r.isLt]
  simp only [EReal.coe_add, EReal.coe_mul]

end values

end Cert.AttnPost
-- ==== Proof.Attn.Region3.lean ====
/-
  The last call of the attention's backward pass: its result as an array.
-/
module

public import proofs.«01_k».proof.Proof.Attn.Post
public import proofs.«01_k».proof.Proof.Attn.Region1
public import Idealize.ShloMosaic.Lib.Pipeline.ValueKit

@[expose] public section

set_option maxRecDepth 16384
noncomputable section

namespace Cert.AttnPost
open Idealize.ShloMosaic Idealize.ShloMosaic.TcCoe Idealize.SL.Sem
open Cert.AttnKernelIdeal Cert.AttnKernelIdeal.Gen Cert.AttnSpec Cert.AttnFwd Cert.AttnBwd Cert.AttnRope
open Classical

variable (V : (c : Dev nD) → (b : Ref sig .tc) → Buf (Elt Ideal) ((c : Thread nD τ).loc b))

theorem idx3 : ∀ t : Fin cfg3.N, win3_0.index t = ![t.val, 0] ∧ win3_1.index t = ![min (t.val + 1) 127, 0, 0] ∧ win3_2.index t = ![t.val, 1, 0]
    ∧ win3_3.index t = ![t.val - 1, 2, 0] ∧ win3_4.index t = ![min (t.val + 1) 127, 0, 0] ∧ win3_5.index t = ![t.val, 1, 0]
    ∧ win3_6.index t = ![t.val - 1, 2, 0] ∧ win3_7.index t = ![t.val, 0] ∧ win3_8.index t = ![t.val, 0] ∧ win3_9.index t = ![t.val, 0]
    ∧ win3_10.index t = ![t.val, 0] :=
  (by decide +kernel : ∀ t : Fin grid3.N, _)
theorem coords3 : ∀ t : Fin cfg3.N, (grid3.coords t 0).val = t.val := (by decide +kernel : ∀ t : Fin grid3.N, _)

theorem blk0 (c : Dev nD) (t : Fin cfg3.N) (i : Fin 128) (d : Fin 1024) :
    iblk3 V c 0 t (ix2 i d) = V c main_v40_0 (ix2 ⟨t.val * 128 + i.val, by have : t.val < 128 := t.isLt; omega⟩ d) := by
  blk_simp [iblk3]
  blk_ext [idx3 t]
theorem blk1 (c : Dev nD) (t : Fin cfg3.N) (i : Fin 128) (d : Fin 256) :
    iblk3 V c 1 t (ix3 0 i d) = V c main_v40_1 (ix3 ⟨min (t.val + 1) 127, by omega⟩ ⟨i.val, by omega⟩ d) := by
  blk_simp [iblk3]
  blk_ext [idx3 t]
theorem blk2 (c : Dev nD) (t : Fin cfg3.N) (i : Fin 128) (d : Fin 256) :
    iblk3 V c 2 t (ix3 0 i d) = V c main_v40_1 (ix3 ⟨t.val, t.isLt⟩ ⟨128 + i.val, by omega⟩ d) := by
  blk_simp [iblk3]
  blk_ext [idx3 t]
theorem blk3 (c : Dev nD) (t : Fin cfg3.N) (i : Fin 128) (d : Fin 256) :
    iblk3 V c 3 t (ix3 0 i d) = V c main_v40_1 (ix3 ⟨t.val - 1, by have : t.val < 128 := t.isLt; omega⟩ ⟨256 + i.val, by omega⟩ d) := by
  blk_simp [iblk3]
  blk_ext [idx3 t]
theorem blk4 (c : Dev nD) (t : Fin cfg3.N) (i : Fin 128) (d : Fin 256) :
    iblk3 V c 4 t (ix3 0 i d) = V c main_v40_2 (ix3 ⟨min (t.val + 1) 127, by omega⟩ ⟨i.val, by omega⟩ d) := by
  blk_simp [iblk3]
  blk_ext [idx3 t]
theorem blk5 (c : Dev nD) (t : Fin cfg3.N) (i : Fin 128) (d : Fin 256) :
    iblk3 V c 5 t (ix3 0 i d) = V c main_v40_2 (ix3 ⟨t.val, t.isLt⟩ ⟨128 + i.val, by omega⟩ d) := by
  blk_simp [iblk3]
  blk_ext [idx3 t]
theorem blk6 (c : Dev nD) (t : Fin cfg3.N) (i : Fin 128) (d : Fin 256) :
    iblk3 V c 6 t (ix3 0 i d) = V c main_v40_2 (ix3 ⟨t.val - 1, by have : t.val < 128 := t.isLt; omega⟩ ⟨256 + i.val, by omega⟩ d) := by
  blk_simp [iblk3]
  blk_ext [idx3 t]
theorem blk7 (c : Dev nD) (t : Fin cfg3.N) (i d : Fin 128) :
    iblk3 V c 7 t (ix2 i d) = V c main_v28 (ix2 ⟨t.val * 128 + i.val, by have : t.val < 128 := t.isLt; omega⟩ d) := by
  blk_simp [iblk3]
  blk_ext [idx3 t]
theorem blk8 (c : Dev nD) (t : Fin cfg3.N) (i d : Fin 128) :
    iblk3 V c 8 t (ix2 i d) = V c main_v31 (ix2 ⟨t.val * 128 + i.val, by have : t.val < 128 := t.isLt; omega⟩ d) := by
  blk_simp [iblk3]
  blk_ext [idx3 t]
theorem blk9 (c : Dev nD) (t : Fin cfg3.N) (i d : Fin 128) :
    iblk3 V c 9 t (ix2 i d) = V c main_v34 (ix2 ⟨t.val * 128 + i.val, by have : t.val < 128 := t.isLt; omega⟩ d) := by
  blk_simp [iblk3]
  blk_ext [idx3 t]

/-- The tables of a block's positions. -/
def tc (c : Dev nD) (t : Fin cfg3.N) : FVec Ideal S128x128 .f32 := k3_pay5 (iblk3 V c 7 t)
def th (c : Dev nD) (t : Fin cfg3.N) : FVec Ideal S128x128 .f32 := k3_pay6 (iblk3 V c 8 t)
def tl (c : Dev nD) (t : Fin cfg3.N) : FVec Ideal S128x128 .f32 := k3_pay7 (iblk3 V c 9 t)

/-- What a grid point stores, by its three parts. -/
def stored (c : Dev nD) (t : Fin cfg3.N) (r : Fin 128) (m : Fin 1536) : EReal :=
  if h : m.val < 1024 then dqPost (tc V c t) (th V c t) (tl V c t) (iblk3 V c 0 t) (ix2 r ⟨m, h⟩)
  else if h2 : m.val < 1280 then dkPost (tc V c t) (th V c t) (tl V c t) (grid3.coords t) (iblk3 V c 1 t) (iblk3 V c 2 t) (iblk3 V c 3 t) (ix2 r ⟨m - 1024, by omega⟩)
  else dvPost (grid3.coords t) (iblk3 V c 4 t) (iblk3 V c 5 t) (iblk3 V c 6 t) (ix2 r ⟨m - 1280, by omega⟩)

theorem at2 {A B : ℕ} (f : (⟨2, ![A, B]⟩ : Shape).Idx → EReal) (x : (⟨2, ![A, B]⟩ : Shape).Idx) (r : Fin A) (m : Fin B) (h0 : (x 0).val = r.val) (h1 : (x 1).val = m.val) : f x = f (ix2 r m) := by
  refine congrArg f (funext fun a => Fin.ext ?_)
  fin_cases a
  · exact h0
  · exact h1

theorem in_cols (o n : ℕ) (inb : ∀ a, ![0, o] a + ![128, n] a ≤ S128x1536.size a) (r : Fin 128) (m : Fin 1536) (h : o ≤ m.val) (h' : m.val < o + n) :
    ix2 r m ∈ (Rect.unit (s := S128x1536) ![0, o] ![128, n] inb).set := by
  refine Rect.mem_set_unit.mpr fun a => ?_
  fin_cases a
  · exact ⟨Nat.zero_le _, by show r.val < 0 + 128; omega⟩
  · exact ⟨h, h'⟩

set_option maxHeartbeats 2000000 in
theorem outsAt3_val (c : Dev nD) (t : Fin cfg3.N) (r : Fin 128) (m : Fin 1536) : outsAt3 V c t (ix2 r m) = stored V c t r m := by
  unfold outsAt3 stored
  frame_out
  canon_tiles x h using (by
    by_cases h1 : 1280 ≤ m.val
    · exact ⟨_, List.mem_cons_self, in_cols 1280 256 inb_S128x1536_S128x256_0_1280 r m h1 (by omega)⟩
    · by_cases h2 : 1024 ≤ m.val
      · exact ⟨_, List.mem_cons_of_mem _ List.mem_cons_self, in_cols 1024 256 inb_S128x1536_S128x256_0_1024 r m h2 (by omega)⟩
      · exact ⟨_, List.mem_cons_of_mem _ (List.mem_cons_of_mem _ List.mem_cons_self), in_cols 0 1024 inb_S128x1536_S128x1024_0_0 r m (by omega) (by omega)⟩)
  case piece0 =>
    have e : m.val = 1280 + (x 1).val := h1
    rw [dif_neg (by omega), dif_neg (by omega)]
    exact Eq.trans (b := dvPost (grid3.coords t) (iblk3 V c 4 t) (iblk3 V c 5 t) (iblk3 V c 6 t) x) (by sl_kernel_rfl) (at2 _ x _ _ h0.symm (show (x 1).val = m.val - 1280 by omega))
  case piece1 =>
    have e : m.val = 1024 + (x 1).val := h1
    have : (x 1).val < 256 := (x 1).isLt
    rw [dif_neg (by omega), dif_pos (by omega)]
    exact Eq.trans (b := dkPost (tc V c t) (th V c t) (tl V c t) (grid3.coords t) (iblk3 V c 1 t) (iblk3 V c 2 t) (iblk3 V c 3 t) x) (by sl_kernel_rfl)
      (at2 _ x _ _ h0.symm (show (x 1).val = m.val - 1024 by omega))
  case piece2 =>
    have e : m.val = (x 1).val := h1
    have : (x 1).val < 1024 := (x 1).isLt
    rw [dif_pos (by omega)]
    exact Eq.trans (b := dqPost (tc V c t) (th V c t) (tl V c t) (iblk3 V c 0 t) x) (by sl_kernel_rfl) (at2 _ x _ _ h0.symm e.symm)

section values

variable (q k v dO : ℕ → ℕ → ℝ) (sk : ℕ → ℝ) (c : Dev nD)
  (hdq : V c main_v40_0 = fun i : S16384x1024.Idx => (dquery q k v dO sk ((i 1).val / 64) (i 0) ((i 1).val % 64) : EReal))
  (hdk : V c main_v40_1 = fun i : S128x384x256.Idx => (dkPart q k v dO sk (i 0) (i 1) ((i 2).val / 64) ((i 2).val % 64) : EReal))
  (hdv : V c main_v40_2 = fun i : S128x384x256.Idx => (dvPart q k dO sk (i 0) (i 1) ((i 2).val / 64) ((i 2).val % 64) : EReal))
  (hC : ∀ (u : Fin 16384) (l : Fin 128), V c main_v28 (ix2 u l) = (tabC u l : EReal))
  (hH : ∀ (u : Fin 16384) (l : Fin 128), V c main_v31 (ix2 u l) = (tabH u l : EReal))
  (hL : ∀ (u : Fin 16384) (l : Fin 128), V c main_v34 (ix2 u l) = (tabL u l : EReal))

include hC in
theorem tc_val (t : Fin cfg3.N) (r l : Fin 128) : tc V c t (ix2 r l) = (tabC (t * 128 + r) l : EReal) := by
  unfold tc; pointwise [k3_pay5]
  exact (blk7 V c t r l).trans (hC _ _)
include hH in
theorem th_val (t : Fin cfg3.N) (r l : Fin 128) : th V c t (ix2 r l) = (tabH (t * 128 + r) l : EReal) := by
  unfold th; pointwise [k3_pay6]
  exact (blk8 V c t r l).trans (hH _ _)
include hL in
theorem tl_val (t : Fin cfg3.N) (r l : Fin 128) : tl V c t (ix2 r l) = (tabL (t * 128 + r) l : EReal) := by
  unfold tl; pointwise [k3_pay7]
  exact (blk9 V c t r l).trans (hL _ _)

/-- The gradient of the product of the inputs with the attention's weights: the queries', the keys' and the values'. -/
def dproj (q k v dO : ℕ → ℕ → ℝ) (sk : ℕ → ℝ) (t m : ℕ) : ℝ :=
  if m < 1024 then rot (-1) (fun d => dquery q k v dO sk (m / 64) t d) t (m % 64) * (1 / 8)
  else if m < 1280 then rot (-1) (fun d => dkey q k v dO sk ((m - 1024) / 64) t d) t ((m - 1024) % 64)
  else dvalue q k dO sk ((m - 1280) / 64) t ((m - 1280) % 64)

include hdq hdk hdv hC hH hL in
theorem stored_val (t : Fin cfg3.N) (r : Fin 128) (m : Fin 1536) : stored V c t r m = (dproj q k v dO sk (t * 128 + r) m : EReal) := by
  have ht : t.val < 128 := t.isLt
  unfold stored dproj
  split_ifs with h h2
  · refine (dqPost_val _ _ _ t.val (tc_val V c hC t) (th_val V c hH t) (tl_val V c hL t) _
      (fun r m => dquery q k v dO sk (m / 64) (t * 128 + r) (m % 64)) (fun r m => (blk0 V c t r m).trans (congrFun hdq _)) r ⟨m, h⟩).trans ?_
    refine congrArg Real.toEReal (congrArg (· * (1 / 8 : ℝ)) (rot_congr _ _ _ _ _ (Nat.mod_lt _ (by decide)) fun d hd => ?_))
    show dquery q k v dO sk ((m.val / 64 * 64 + d) / 64) _ ((m.val / 64 * 64 + d) % 64) = _
    rw [show (m.val / 64 * 64 + d) / 64 = m.val / 64 by omega, show (m.val / 64 * 64 + d) % 64 = d by omega]
  · exact dkPost_val _ _ _ _ t.val (coords3 t) q k v dO sk (tc_val V c hC t) (th_val V c hH t) (tl_val V c hL t) _ _ _
      (fun r m => (blk1 V c t r m).trans (congrFun hdk _)) (fun r m => (blk2 V c t r m).trans (congrFun hdk _))
      (fun r m => (blk3 V c t r m).trans (congrFun hdk _)) ht r ⟨m - 1024, _⟩
  · exact dvPost_val _ t.val (coords3 t) q k dO sk _ _ _
      (fun r m => (blk4 V c t r m).trans (congrFun hdv _)) (fun r m => (blk5 V c t r m).trans (congrFun hdv _))
      (fun r m => (blk6 V c t r m).trans (congrFun hdv _)) ht r ⟨m - 1280, _⟩

include hdq hdk hdv hC hH hL in
/-- The result of the call. -/
theorem final3_10 : (dat3 V c).arrAt 10 cfg3.N = fun i : S16384x1536.Idx => (dproj q k v dO sk (i 0) (i 1) : EReal) := by
  refine (dat3 V c).arrAt_eq_of_covers 10 _ (by decide +kernel) fun t hf (y : S128x1536.Idx) => ?_
  have ht : t.val < 128 := t.isLt
  blk_simp
  rw [after3_10]
  obtain ⟨r, m, rfl⟩ : ∃ (r : Fin 128) (m : Fin 1536), y = ix2 r m := ⟨y 0, y 1, by idx_vars y⟩
  rw [outsAt3_val, stored_val V q k v dO sk c hdq hdk hdv hC hH hL t r m]
  have e : win3_10.index t = ![t.val, 0] := (idx3 t).2.2.2.2.2.2.2.2.2.2
  rw [e]
  refine congrArg Real.toEReal ?_
  show dproj q k v dO sk (t.val * 128 + r.val) m.val = dproj q k v dO sk (t.val * 128 + r.val) (0 * 1536 + m.val)
  rw [show 0 * 1536 + m.val = m.val by omega]

end values

end Cert.AttnPost
-- ==== Proof.Attn.Kernel.lean ====
/-
  The attention's kernel program: the arrays at the end of its four calls, and its run with the results read.
-/
module

public import proofs.«01_k».proof.Proof.Attn.Tables
public import proofs.«01_k».proof.Proof.Attn.Region0
public import proofs.«01_k».proof.Proof.Attn.Region1
public import proofs.«01_k».proof.Proof.Attn.Region2
public import proofs.«01_k».proof.Proof.Attn.Region3

@[expose] public section

set_option maxRecDepth 16384
noncomputable section

namespace Cert.AttnKernelRun
open Idealize.ShloMosaic Idealize.ShloMosaic.TcCoe Idealize.ShloMosaic.StableHlo Idealize.ShloMosaic.Rounds
open Idealize.SL Idealize.SL.RA Idealize.SL.BI
open scoped Idealize.SL.BI
open Idealize.SL.BI.BIBase Idealize.SL.BI.Laws Idealize.SL.ProofMode Idealize.SL.Sem
open Cert.AttnKernelIdeal Cert.AttnKernelIdeal.Gen Cert.AttnRope Cert.AttnQkv Cert.AttnSpec Cert.AttnPost Cert.AttnBwd Cert.AttnTables

section values

variable (m : (ℓ : Loc nD τ sig) → Buf (Elt Ideal) ℓ) (ρ : Dev nD → PrngReg) (c : Dev nD)

/-! ## What the calls and the host lines between them leave as it was -/

theorem keep2 (r : Ref sig .tc) (h : ∀ w : Fin cfg0.W, Pipeline.arrRef spec0 w = r → (cfg0.win w).isOut = false) (h' : r ∉ hostOps0_W) :
    W2 m ρ c (Proc.devRef .tc r) = W0 m ρ c (Proc.devRef .tc r) := (W2_of m ρ c r h).trans (W1_of m ρ c r h')

/-- From the first call's exit to the third's entry. -/
theorem keep4 (r : Ref sig .tc) (h : ∀ w : Fin cfg1.W, Pipeline.arrRef spec1 w = r → (cfg1.win w).isOut = false) (h' : r ∉ hostOps2_W) :
    W4 m ρ c (Proc.devRef .tc r) = W2 m ρ c (Proc.devRef .tc r) := (W4_of m ρ c r h').trans (W3_of m ρ c r h)

/-- From the first call's entry to the last one's. -/
theorem keep5 (r : Ref sig .tc) (h0 : ∀ w : Fin cfg0.W, Pipeline.arrRef spec0 w = r → (cfg0.win w).isOut = false)
    (h1 : ∀ w : Fin cfg1.W, Pipeline.arrRef spec1 w = r → (cfg1.win w).isOut = false) (h' : r ∉ hostOps2_W)
    (h2 : ∀ w : Fin cfg2.W, Pipeline.arrRef spec2 w = r → (cfg2.win w).isOut = false) :
    W5 m ρ c (Proc.devRef .tc r) = W1 m ρ c (Proc.devRef .tc r) :=
  (W5_of m ρ c r h2).trans ((keep4 m ρ c r h1 h').trans (W2_of m ρ c r h0))

variable (h w dO : ℕ → ℕ → ℝ) (sk : ℕ → ℝ)
  (hX : ∀ (t : Fin 16384) (e : Fin 1024), (m ((c.tc : Thread nD τ).loc main_arg0) : FVec Ideal S16384x1024 .f32) (ix2 t e) = (h t e : EReal))
  (hW : ∀ (e : Fin 1024) (n : Fin 1536), (m ((c.tc : Thread nD τ).loc main_arg1) : FVec Ideal S1024x1536 .f32) (ix2 e n) = (w e n : EReal))
  (hS : ∀ a : Fin 16, (m ((c.tc : Thread nD τ).loc main_arg2) : FVec Ideal S16 .f32) (ix1 a) = (sk a : EReal))
  (hO : ∀ (t : Fin 16384) (e : Fin 1024), (m ((c.tc : Thread nD τ).loc main_arg3) : FVec Ideal S16384x1024 .f32) (ix2 t e) = (dO t e : EReal))

include hX in
theorem at_h (t : Fin 16384) (e : Fin 1024) : V1 m ρ c main_v35 (ix2 t e) = (h t e : EReal) := (cast_h (W0 m ρ c) t e).trans (hX t e)
include hW in
theorem at_w (e : Fin 1024) (n : Fin 1536) : V1 m ρ c main_v36 (ix2 e n) = (w e n : EReal) := (cast_w (W0 m ρ c) e n).trans (hW e n)

include hX hW in
theorem query2 : W2 m ρ c (Proc.devRef .tc main_v37_0) = fun i : S16384x1024.Idx => (query h w (i 0) (i 1) : EReal) :=
  (W2_arr m ρ c 5).trans (final0_5 (V1 m ρ) c h w (at_h m ρ c h hX) (at_w m ρ c w hW) (tabC_val _) (tabH_val _) (tabL_val _))
include hX hW in
theorem key2 : W2 m ρ c (Proc.devRef .tc main_v37_1) = fun i : S16384x256.Idx => (key h w (i 0) (i 1) : EReal) :=
  (W2_arr m ρ c 6).trans (final0_6 (V1 m ρ) c h w (at_h m ρ c h hX) (at_w m ρ c w hW) (tabC_val _) (tabH_val _) (tabL_val _))
include hX hW in
theorem value2 : W2 m ρ c (Proc.devRef .tc main_v37_2) = fun i : S16384x256.Idx => (value h w (i 0) (i 1) : EReal) :=
  (W2_arr m ρ c 7).trans (final0_7 (V1 m ρ) c h w (at_h m ρ c h hX) (at_w m ρ c w hW))
include hS in
theorem sink2 (a : Fin 16) : V2 m ρ c main_arg2 (ix1 a) = (sk a : EReal) :=
  (congrFun (W2_args m ρ c main_arg2 (by decide)) (ix1 a)).trans (hS a)

include hX hW hS in
/-- The attention's output. -/
theorem out3 : W3 m ρ c (Proc.devRef .tc main_v38_0)
    = fun i : S16384x1024.Idx => (out (query h w) (key h w) (value h w) sk ((i 1).val / 64) (i 0) ((i 1).val % 64) : EReal) :=
  (W3_arr m ρ c 8).trans (Cert.AttnFwd.final1_8 (V2 m ρ) _ _ _ sk c (fun u d => congrFun (query2 m ρ c h w hX hW) (ix2 u d))
    (fun u d => congrFun (key2 m ρ c h w hX hW) (ix2 u d)) (fun u d => congrFun (value2 m ρ c h w hX hW) (ix2 u d)) (sink2 m ρ c sk hS))

include hX hW hS in
/-- The logarithms of the rows' sums. -/
theorem log3 : W3 m ρ c (Proc.devRef .tc main_v38_1) = fun i : S4x128x512x1.Idx =>
    (Real.log (den (query h w) (key h w) sk ((i 0).val * 4 + (i 2).val / 128) ((i 1).val * 128 + (i 2).val % 128)) : EReal) :=
  (W3_arr m ρ c 9).trans (Cert.AttnFwd.final1_9 (V2 m ρ) _ _ (value h w) sk c (fun u d => congrFun (query2 m ρ c h w hX hW) (ix2 u d))
    (fun u d => congrFun (key2 m ρ c h w hX hW) (ix2 u d)) (fun u d => congrFun (value2 m ρ c h w hX hW) (ix2 u d)) (sink2 m ρ c sk hS))

include hX hW in
theorem query4 (u : Fin 16384) (d : Fin 1024) : V4 m ρ c main_v37_0 (ix2 u d) = (query h w u d : EReal) :=
  congrFun ((keep4 m ρ c main_v37_0 (by decide) (by decide)).trans (query2 m ρ c h w hX hW)) (ix2 u d)
include hX hW in
theorem key4 (u : Fin 16384) (d : Fin 256) : V4 m ρ c main_v37_1 (ix2 u d) = (key h w u d : EReal) :=
  congrFun ((keep4 m ρ c main_v37_1 (by decide) (by decide)).trans (key2 m ρ c h w hX hW)) (ix2 u d)
include hX hW in
theorem value4 (u : Fin 16384) (d : Fin 256) : V4 m ρ c main_v37_2 (ix2 u d) = (value h w u d : EReal) :=
  congrFun ((keep4 m ρ c main_v37_2 (by decide) (by decide)).trans (value2 m ρ c h w hX hW)) (ix2 u d)
include hS in
theorem sink4 (a : Fin 16) : V4 m ρ c main_arg2 (ix1 a) = (sk a : EReal) :=
  (congrFun (W4_args m ρ c main_arg2 (by decide)) (ix1 a)).trans (hS a)
include hO in
theorem do4 (u : Fin 16384) (e : Fin 1024) : V4 m ρ c main_v39 (ix2 u e) = (dO u e : EReal) :=
  (cast_do (W3 m ρ c) u e).trans ((congrFun (W3_args m ρ c main_arg3 (by decide)) (ix2 u e)).trans (hO u e))
include hX hW hS in
theorem out4 : V4 m ρ c main_v38_0
    = fun i : S16384x1024.Idx => (out (query h w) (key h w) (value h w) sk ((i 1).val / 64) (i 0) ((i 1).val % 64) : EReal) :=
  (W4_of m ρ c main_v38_0 (by decide)).trans (out3 m ρ c h w sk hX hW hS)
include hX hW hS in
theorem log4 : V4 m ρ c main_v38_1 = fun i : S4x128x512x1.Idx =>
    (Real.log (den (query h w) (key h w) sk ((i 0).val * 4 + (i 2).val / 128) ((i 1).val * 128 + (i 2).val % 128)) : EReal) :=
  (W4_of m ρ c main_v38_1 (by decide)).trans (log3 m ρ c h w sk hX hW hS)

include hX hW hS hO in
theorem dq5 : V5 m ρ c main_v40_0 = fun i : S16384x1024.Idx =>
    (dquery (query h w) (key h w) (value h w) dO sk ((i 1).val / 64) (i 0) ((i 1).val % 64) : EReal) :=
  (W5_arr m ρ c 11).trans (Cert.AttnBwd.final2_11 (V4 m ρ) _ _ _ dO sk c (query4 m ρ c h w hX hW) (key4 m ρ c h w hX hW) (value4 m ρ c h w hX hW)
    (do4 m ρ c dO hO) (out4 m ρ c h w sk hX hW hS) (log4 m ρ c h w sk hX hW hS))
include hX hW hS hO in
theorem dk5 : V5 m ρ c main_v40_1 = fun i : S128x384x256.Idx =>
    (dkPart (query h w) (key h w) (value h w) dO sk (i 0) (i 1) ((i 2).val / 64) ((i 2).val % 64) : EReal) :=
  (W5_arr m ρ c 12).trans (Cert.AttnBwd.final2_12 (V4 m ρ) _ _ _ dO sk c (query4 m ρ c h w hX hW) (key4 m ρ c h w hX hW) (value4 m ρ c h w hX hW)
    (do4 m ρ c dO hO) (out4 m ρ c h w sk hX hW hS) (log4 m ρ c h w sk hX hW hS))
include hX hW hS hO in
theorem dv5 : V5 m ρ c main_v40_2 = fun i : S128x384x256.Idx =>
    (dvPart (query h w) (key h w) dO sk (i 0) (i 1) ((i 2).val / 64) ((i 2).val % 64) : EReal) :=
  (W5_arr m ρ c 13).trans (Cert.AttnBwd.final2_13 (V4 m ρ) _ _ dO sk c (query4 m ρ c h w hX hW) (key4 m ρ c h w hX hW)
    (do4 m ρ c dO hO) (log4 m ρ c h w sk hX hW hS))

/-! ## The results at the end -/

include hX hW hS in
theorem out6 : W6 m ρ c (Proc.devRef .tc main_v38_0)
    = fun i : S16384x1024.Idx => (out (query h w) (key h w) (value h w) sk ((i 1).val / 64) (i 0) ((i 1).val % 64) : EReal) :=
  (W6_of m ρ c main_v38_0 (by decide)).trans ((W5_of m ρ c main_v38_0 (by decide)).trans (out4 m ρ c h w sk hX hW hS))

include hX hW hS hO in
theorem dsink6 : W6 m ρ c (Proc.devRef .tc main_v40_3)
    = fun i : S1x16.Idx => (dsink (query h w) (key h w) (value h w) dO sk (i 1) : EReal) :=
  (W6_of m ρ c main_v40_3 (by decide)).trans ((W5_arr m ρ c 14).trans
    (Cert.AttnBwd.final2_14 (V4 m ρ) _ _ _ dO sk c (sink4 m ρ c sk hS) (do4 m ρ c dO hO) (out4 m ρ c h w sk hX hW hS) (log4 m ρ c h w sk hX hW hS)))

include hX hW hS hO in
theorem dqkv6 : W6 m ρ c (Proc.devRef .tc main_v41)
    = fun i : S16384x1536.Idx => (dproj (query h w) (key h w) (value h w) dO sk (i 0) (i 1) : EReal) :=
  (W6_arr m ρ c 10).trans (final3_10 (V5 m ρ) _ _ _ dO sk c (dq5 m ρ c h w dO sk hX hW hS hO) (dk5 m ρ c h w dO sk hX hW hS hO)
    (dv5 m ρ c h w dO sk hX hW hS hO)
    (fun u l => (congrFun (keep5 m ρ c main_v28 (by decide) (by decide) (by decide) (by decide)) (ix2 u l)).trans (tabC_val _ u l))
    (fun u l => (congrFun (keep5 m ρ c main_v31 (by decide) (by decide) (by decide) (by decide)) (ix2 u l)).trans (tabH_val _ u l))
    (fun u l => (congrFun (keep5 m ρ c main_v34 (by decide) (by decide) (by decide) (by decide)) (ix2 u l)).trans (tabL_val _ u l)))

end values

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends with each unscoped buffer at what the last boundary says, and all counters at zero. -/
theorem run_all : θ_run defs (onTc (τ := τ) (main (F := F))) ⟨m, fun _ => 0, ρ⟩ (fun r => (∀ c : Dev nD, ∀ b : Ref sig .tc,
      (b : DevRef τ sig) ∈ Pipeline.ucRefs τ sig → r.2.mem ((c.tc : Thread nD τ).loc b) = W6 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c b hb => h c b hb, funext fun g => hz g (.inr (no_unscoped g.2))⟩)

end Cert.AttnKernelRun

end
-- ==== Proof.Attn.RefScore.lean ====
/-
  The attention's reference, second part: the scores inside the window, their maximum and the weights.
-/
module

public import proofs.«01_k».proof.Proof.Attn.RefProj

@[expose] public section

set_option maxRecDepth 16384
noncomputable section

namespace Cert.AttnRef
open Idealize.ShloMosaic Idealize.ShloMosaic.TcCoe Idealize.SL.Sem
open Cert.AttnReferenceIdeal Cert.AttnReferenceIdeal.Gen Cert.AttnReferenceIdeal.Value Cert.AttnRope Cert.AttnQkv Cert.AttnSpec
open Classical

theorem absi_sub (t u : ℕ) (ht : t < 16384) (hu : u < 16384) :
    IntOp.absi (IntOp.subi (BitVec.ofNat 32 t) (BitVec.ofNat 32 u)) = BitVec.ofNat 32 (t - u + (u - t)) := by
  have e : (IntOp.subi (BitVec.ofNat 32 t) (BitVec.ofNat 32 u)).toNat = (2 ^ 32 - u + t) % 2 ^ 32 := by
    show (BitVec.ofNat 32 t - BitVec.ofNat 32 u).toNat = _
    rw [BitVec.toNat_sub, BitVec.toNat_ofNat, BitVec.toNat_ofNat]
    omega
  apply BitVec.eq_of_toNat_eq
  unfold IntOp.absi
  rw [BitVec.msb_eq_decide, e, BitVec.toNat_ofNat]
  by_cases hh : u ≤ t
  · rw [if_neg (by rw [decide_eq_true_eq]; omega), e]; omega
  · rw [if_pos (by rw [decide_eq_true_eq]; omega), BitVec.toNat_neg, e]; omega

/-- The reference's window. -/
theorem near_word (t u : ℕ) (ht : t < 16384) (hu : u < 16384) :
    IntOp.cmpi .sle (IntOp.absi (IntOp.subi (BitVec.ofNat 32 t) (BitVec.ofNat 32 u))) 128#32 = if near t u then 1#1 else 0#1 := by
  rw [absi_sub t u ht hu]
  show BitVec.ofBool ((BitVec.ofNat 32 (t - u + (u - t))).sle 128#32) = _
  have e : (BitVec.ofNat 32 (t - u + (u - t))).sle 128#32 = decide (near t u) := by
    rw [BitVec.sle_eq_decide, toInt_small _ (by omega)]
    refine decide_eq_decide.mpr ?_
    show ((t - u + (u - t) : ℕ) : ℤ) ≤ (128 : ℤ) ↔ _
    unfold near
    omega
  rw [e]
  by_cases hn : near t u <;> simp [hn]

/-- The maximum of finitely many values is one of them or the value it starts from. -/
theorem fold_max_mem {ι : Type*} (s : Finset ι) (f : ι → EReal) (b : EReal) : s.fold max b f = b ∨ ∃ i ∈ s, f i = s.fold max b f := by
  classical
  induction s using Finset.induction_on with
  | empty => exact .inl rfl
  | insert a s ha ih =>
    rw [Finset.fold_insert ha]
    rcases max_choice (f a) (s.fold max b f) with e | e <;> rw [e]
    · exact .inr ⟨a, Finset.mem_insert_self _ _, rfl⟩
    · rcases ih with e | ⟨i, hi, e⟩
      · exact .inl e
      · exact .inr ⟨i, Finset.mem_insert_of_mem hi, e⟩

/-- The maximum of scores of which some are masked out, but not all: it is one of them and below ⊤. -/
theorem row_max {ι : Type*} [Fintype ι] (f : ι → EReal) (M : EReal) (hM : M = Finset.univ.fold max ⊥ f) (s : ι → ℝ) (p : ι → Prop)
    (hf : ∀ i, f i = (s i : EReal) + (if p i then (0 : EReal) else ⊥)) (i : ι) (hi : p i) : M ≠ ⊤ ∧ ∃ u, f u = M := by
  subst hM
  refine ⟨Cert.Reals.fold_max_ne_top _ _ fun u => ?_, ?_⟩
  · rw [hf u]; exact Cert.Reals.masked_ne_top _ _
  · rcases fold_max_mem Finset.univ f ⊥ with e | ⟨u, _, e⟩
    · have h1 : f i ≤ Finset.univ.fold max ⊥ f := (Finset.le_fold_max _).mpr (.inr ⟨i, Finset.mem_univ _, le_rfl⟩)
      rw [e, hf i, if_pos hi, add_zero] at h1
      exact absurd (le_bot_iff.mp h1) (EReal.coe_ne_bot _)
    · exact ⟨u, e⟩

/-- A sum of real numbers and one more. -/
theorem row_den {n : ℕ} (f : Fin n → EReal) (y : EReal) (x : Fin n → ℝ) (b : ℝ) (hf : ∀ i, f i = (x i : EReal)) (hy : y = (b : EReal)) :
    (∑ i, f i) + y = (((∑ i, x i) + b : ℝ) : EReal) := by
  rw [EReal.coe_add, Cert.Reals.coe_sum, hy, Finset.sum_congr rfl fun i _ => hf i]

section arrays

variable (V0 : Valuation τ sig (Elt Ideal)) (h w : ℕ → ℕ → ℝ) (sk : ℕ → ℝ)
  (hX : ∀ (t : Fin 16384) (e : Fin 1024), (V0 (Proc.devRef .tc main_arg0) : FVec Ideal S16384x1024 .f32) (ix2 t e) = (h t e : EReal))
  (hW : ∀ (e : Fin 1024) (n : Fin 1536), (V0 (Proc.devRef .tc main_arg1) : FVec Ideal S1024x1536 .f32) (ix2 e n) = (w e n : EReal))
  (hS : ∀ a : Fin 16, (V0 (Proc.devRef .tc main_arg2) : FVec Ideal S16 .f32) (ix1 a) = (sk a : EReal))

theorem v71_1_val (g a : Fin 4) (t u : Fin 16384) : res_main_v71_1 V0 (ix4 g a t u) = if near t u then 1#1 else 0#1 := by
  pointwise [res_main_v71_1, res_main_v18]
  exact near_word t u t.isLt u.isLt

/-- A query's score against a key. -/
abbrev scoreOf (g a t u : ℕ) : ℝ := score (query h w) (key h w) (g * 4 + a) t u

theorem score_eq (g a t u : ℕ) (ha : a < 4) :
    (∑ d : Fin 64, key h w u (g * 64 + d) * rot 1 (fun d => proj h w t ((g * 4 + a) * 64 + d)) t d) * (1 / 8) = scoreOf h w g a t u := by
  unfold scoreOf score
  rw [Finset.sum_mul]
  refine Finset.sum_congr rfl fun d _ => ?_
  rw [query_eq h w t g a d d.isLt, show (g * 4 + a) / 4 = g by omega]
  ring

theorem select_bit (p : Prop) [Decidable p] (x : EReal) :
    (Scalar.select (α := Ideal .f32) (if p then 1#1 else 0#1) x ⊥ : EReal) = if p then x else ⊥ := by
  by_cases hp : p <;> simp [hp, Scalar.select]

include hX hW in
theorem v71_0_val (g a : Fin 4) (t u : Fin 16384) :
    res_main_v71_0 V0 (ix4 g a t u) = ((scoreOf h w g a t u : ℝ) : EReal) + (if near t u then (0 : EReal) else ⊥) := by
  pointwise [res_main_v71_0]
  rw [v71_1_val V0 g a t u, show id (constant (F := Ideal) S_ FTy.f32 0xFF800000#32) ix0 = (⊥ : EReal) from Cert.Reals.word_bot]
  refine (select_bit _ _).trans ?_
  by_cases hn : near t u
  · rw [if_pos hn, if_pos hn, add_zero, Cert.Reals.word_eighth, ← score_eq h w g a t u a.isLt, EReal.coe_mul]
    exact congrArg (· * _) (sum_mul_val _ _ _ _ (fun d => v66_val V0 h w hX hW u g d) (fun d => v50_val V0 h w hX hW t g a d))
  · rw [if_neg hn, if_neg hn, EReal.add_bot]

include hS in
theorem v73_val (g a : Fin 4) : res_main_v73 V0 (ix4 g a 0 0) = (sk (g * 4 + a) : EReal) := by
  pointwise [res_main_v73]
  exact hS ⟨g * 4 + a, by omega⟩

theorem v74_fold (g a : Fin 4) (t : Fin 16384) :
    res_main_v74 V0 (ix3 g a t) = Finset.univ.fold max (⊥ : EReal) fun u : Fin 16384 => (res_main_v71_0 V0 (ix4 g a t u) : EReal) := by
  pointwise [res_main_v74]
  rw [Cert.Reals.word_bot]
  exact reducesTo_S4x4x16384x16384_S4x4x16384_d3.fold_fiber_r4_a3 (ix3 g a t) (max : EReal → EReal → EReal) (⊥ : EReal) (res_main_v71_0 V0)

theorem v80_val (g a : Fin 4) (t : Fin 16384) : res_main_v80 V0 (ix4 g a t 0) = res_main_v74 V0 (ix3 g a t) := by
  pointwise [res_main_v80]

include hX hW in
/-- A row's maximum is below ⊤ and one of its scores. -/
theorem v74_max (g a : Fin 4) (t : Fin 16384) :
    (res_main_v74 V0 (ix3 g a t) : EReal) ≠ (⊤ : EReal) ∧ ∃ u : Fin 16384, (res_main_v71_0 V0 (ix4 g a t u) : EReal) = res_main_v74 V0 (ix3 g a t) :=
  row_max (fun u : Fin 16384 => (res_main_v71_0 V0 (ix4 g a t u) : EReal)) _ (v74_fold V0 g a t) (fun u => scoreOf h w g a t u)
    (fun u => near t u) (fun u => v71_0_val V0 h w hX hW g a t u) t (by unfold near; omega)

/-- What the reference subtracts from the scores before the exponential. -/
def shift (g a : Fin 4) (t : Fin 16384) : ℝ := EReal.toReal (res_main_v82 V0 (ix4 g a t 0))

theorem bc73 (g a : Fin 4) (t : Fin 16384) :
    broadcastInDim S4x4x16384x1 ![0, 1, 2, 3] bcast_S4x4x1x1_S4x4x16384x1_0_1_2_3 (res_main_v73 V0) (ix4 g a t 0) = res_main_v73 V0 (ix4 g a 0 0) := by
  pointwise

theorem v82_max (g a : Fin 4) (t : Fin 16384) :
    (res_main_v82 V0 (ix4 g a t 0) : EReal) = max (α := EReal) (res_main_v74 V0 (ix3 g a t) : EReal) (res_main_v73 V0 (ix4 g a 0 0) : EReal) := by
  have e : ∀ x y : FVec Ideal S4x4x16384x1 .f32, maximumf x y (ix4 g a t 0) = max (α := EReal) (x (ix4 g a t 0)) (y (ix4 g a t 0)) := fun _ _ => rfl
  unfold res_main_v82
  rw [e, v80_val V0 g a t, bc73 V0 g a t]

include hX hW hS in
theorem v82_val (g a : Fin 4) (t : Fin 16384) : res_main_v82 V0 (ix4 g a t 0) = (shift V0 g a t : EReal) := by
  obtain ⟨m, hm⟩ := Cert.Reals.exists_max_coe (res_main_v74 V0 (ix3 g a t)) (v74_max V0 h w hX hW g a t).1 (sk (g * 4 + a))
  have e : (res_main_v82 V0 (ix4 g a t 0) : EReal) = (m : EReal) := by rw [v82_max V0 g a t, v73_val V0 sk hS g a]; exact hm
  unfold shift
  rw [e]
  rfl

include hX hW hS in
theorem v103_val (g a : Fin 4) (t u : Fin 16384) :
    res_main_v103 V0 (ix4 g a t u) = ((num (query h w) (key h w) (g * 4 + a) t u * Real.exp (-shift V0 g a t) : ℝ) : EReal) := by
  pointwise [res_main_v103]
  rw [v71_0_val V0 h w hX hW g a t u, v82_val V0 h w sk hX hW hS g a t]
  exact Cert.Reals.exp_masked _ _ _

include hX hW hS in
theorem v108_val (g a : Fin 4) (t : Fin 16384) :
    res_main_v108 V0 (ix4 g a t 0) = ((Real.exp (sk (g * 4 + a)) * Real.exp (-shift V0 g a t) : ℝ) : EReal) := by
  pointwise [res_main_v108]
  rw [v73_val V0 sk hS g a, v82_val V0 h w sk hX hW hS g a t]
  refine (congrArg Ideal.exp (EReal.coe_sub _ _).symm).trans ?_
  rw [Ideal.exp_coe, sub_eq_add_neg, Real.exp_add]

/-- A row's denominator. -/
abbrev denOf (g a t : ℕ) : ℝ := den (query h w) (key h w) sk (g * 4 + a) t

include hX hW hS in
theorem v109_val (g a : Fin 4) (t : Fin 16384) :
    res_main_v109 V0 (ix4 g a t 0) = ((denOf h w sk g a t * Real.exp (-shift V0 g a t) : ℝ) : EReal) := by
  pointwise [res_main_v109]
  rw [v108_val V0 h w sk hX hW hS g a t]
  refine (row_den _ _ _ _ (fun u => v103_val V0 h w sk hX hW hS g a t u) rfl).trans ?_
  rw [← Finset.sum_mul, ← add_mul]
  rfl

include hX hW hS in
theorem v111_val (g a : Fin 4) (t u : Fin 16384) :
    res_main_v111 V0 (ix4 g a t u) = (prob (query h w) (key h w) sk (g * 4 + a) t u : EReal) := by
  have hD : denOf h w sk g a t ≠ 0 := (den_pos _ _ _ _ _).ne'
  have hE : Real.exp (-shift V0 g a t) ≠ 0 := (Real.exp_pos _).ne'
  pointwise [res_main_v111]
  rw [v103_val V0 h w sk hX hW hS g a t u, v109_val V0 h w sk hX hW hS g a t, Cert.Reals.div_coe_coe _ _ (mul_ne_zero hD hE)]
  exact congrArg Real.toEReal (mul_div_mul_right _ _ hE)

end arrays

end Cert.AttnRef

end
-- ==== Proof.Attn.RefOps.lean ====
/-
  The attention's reference, third part: the operations of its gradient, on arrays of real numbers.
-/
module

public import proofs.«01_k».proof.Proof.Attn.RefProj

@[expose] public section

set_option maxRecDepth 16384
noncomputable section

namespace Cert.AttnRef
open Idealize.ShloMosaic Idealize.ShloMosaic.TcCoe Idealize.SL.Sem
open Cert.AttnReferenceIdeal Cert.AttnReferenceIdeal.Gen Cert.AttnReferenceIdeal.Value Cert.AttnRope Cert.AttnQkv
open Classical

/-! ## On single rows -/

theorem sum_sum_mul_val {m n : ℕ} (f g : Fin m → Fin n → EReal) (x y : Fin m → Fin n → ℝ) (hf : ∀ i j, f i j = (x i j : EReal))
    (hg : ∀ i j, g i j = (y i j : EReal)) : (∑ i, ∑ j, f i j * g i j) = ((∑ i, ∑ j, x i j * y i j : ℝ) : EReal) := by
  rw [Cert.Reals.coe_sum]
  exact Finset.sum_congr rfl fun i _ => sum_mul_val _ _ _ _ (hf i) (hg i)

theorem row128 {n : ℕ} (a e : Fin n → EReal) (D : EReal) (A N : Fin n → ℝ) (dn E : ℝ) (hdn : dn ≠ 0) (hE : E ≠ 0)
    (ha : ∀ i, a i = (A i : EReal)) (he : ∀ i, e i = ((N i * E : ℝ) : EReal)) (hD : D = ((dn * E : ℝ) : EReal)) :
    -(∑ i, a i * Ideal.div 1 (D * D) * e i) = ((-((∑ i, A i * N i) / dn / (dn * E)) : ℝ) : EReal) := by
  subst hD
  have h0 : dn * E * (dn * E) ≠ 0 := mul_ne_zero (mul_ne_zero hdn hE) (mul_ne_zero hdn hE)
  have e1 : Ideal.div 1 (((dn * E : ℝ) : EReal) * ((dn * E : ℝ) : EReal)) = ((1 / (dn * E * (dn * E)) : ℝ) : EReal) := by
    rw [← EReal.coe_mul, ← EReal.coe_one, Cert.Reals.div_coe_coe _ _ h0]
  rw [e1, EReal.coe_neg]
  refine congrArg Neg.neg ?_
  rw [Finset.sum_congr rfl fun i _ => show a i * ((1 / (dn * E * (dn * E)) : ℝ) : EReal) * e i = ((A i * N i * (1 / (dn * (dn * E))) : ℝ) : EReal) by
    rw [ha, he, ← EReal.coe_mul, ← EReal.coe_mul]
    refine congrArg Real.toEReal ?_
    field_simp, ← Cert.Reals.coe_sum, ← Finset.sum_mul]
  refine congrArg Real.toEReal ?_
  rw [div_div, mul_one_div]

theorem div_zero_left (c : EReal) (hc : c ≠ 0) : Ideal.div 0 c = 0 := by
  simp [Ideal.div, hc]

theorem select_zero (p : Prop) [Decidable p] (s : ℝ) (hs : ¬ p → s = 0) :
    (Scalar.select (α := Ideal .f32) (if p then 1#1 else 0#1) (s : EReal) (0 : EReal) : EReal) = (s : EReal) := by
  by_cases hp : p
  · simp [hp, Scalar.select]
  · simp [hp, Scalar.select, hs hp]

theorem sink_row {n : ℕ} (f y m : Fin n → EReal) (z : Fin n → ℝ) (hf : ∀ i, f i = (z i : EReal)) (hy : ∀ i, y i = (0 : EReal)) :
    (∑ i, f i) + (∑ i, y i * m i) = ((∑ i, z i : ℝ) : EReal) := by
  rw [Finset.sum_eq_zero fun i _ => show y i * m i = 0 by rw [hy, zero_mul], add_zero, Cert.Reals.coe_sum]
  exact Finset.sum_congr rfl fun i _ => hf i

/-- A head's lanes turned back, as a sum of three padded pieces. -/
theorem rot_pads (y : Fin 64 → EReal) (lo hi c s : Fin 8 → EReal) (x : ℕ → ℝ) (t : ℕ) (d : Fin 64) (P : Prop) [Decidable P] (hP : P)
    (hy : ∀ e : Fin 64, y e = (x e : EReal)) (hlo : ∀ e : Fin 8, lo e = (x e : EReal)) (hhi : ∀ e : Fin 8, hi e = (x (8 + e) : EReal))
    (hc : ∀ j : Fin 8, c j = (Real.cos (angle t j) : EReal)) (hs : ∀ j : Fin 8, s j = (Real.sin (angle t j) : EReal)) :
    ((if h : P ∧ 16 ≤ (d : ℕ) ∧ (d : ℕ) - 16 < 48 then y ⟨16 + (d - 16), by omega⟩ else 0)
      + (if h : P ∧ 8 ≤ (d : ℕ) ∧ (d : ℕ) - 8 < 8 then hi ⟨d - 8, h.2.2⟩ * c ⟨d - 8, h.2.2⟩ + -lo ⟨d - 8, h.2.2⟩ * s ⟨d - 8, h.2.2⟩ else 0))
      + (if h : P ∧ (d : ℕ) < 8 then hi ⟨d, h.2⟩ * s ⟨d, h.2⟩ + lo ⟨d, h.2⟩ * c ⟨d, h.2⟩ else 0) = (rot (-1) x t d : EReal) := by
  have hd : d.val < 64 := d.isLt
  unfold rot
  by_cases h1 : (d : ℕ) < 8
  · rw [dif_neg (by omega), dif_neg (by omega), dif_pos ⟨hP, h1⟩, if_pos h1, zero_add, zero_add, hlo, hhi, hc, hs, ← EReal.coe_mul, ← EReal.coe_mul,
      ← EReal.coe_add]
    refine congrArg Real.toEReal ?_
    show x (8 + d) * _ + x d * _ = _
    rw [Nat.add_comm 8]; ring
  · by_cases h2 : (d : ℕ) < 16
    · rw [dif_neg (by omega), dif_pos ⟨hP, by omega, by omega⟩, dif_neg (by omega), if_neg h1, if_pos h2, zero_add, add_zero, hlo, hhi, hc, hs,
        ← EReal.coe_neg, ← EReal.coe_mul, ← EReal.coe_mul, ← EReal.coe_add]
      refine congrArg Real.toEReal ?_
      show x (8 + (d - 8)) * _ + -x (d - 8) * _ = _
      rw [show 8 + ((d : ℕ) - 8) = d by omega]; ring
    · rw [dif_pos ⟨hP, by omega, by omega⟩, dif_neg (by omega), dif_neg (by omega), if_neg h1, if_neg h2, add_zero, add_zero, hy]
      refine congrArg Real.toEReal ?_
      show x (16 + (d - 16)) = _
      rw [show 16 + ((d : ℕ) - 16) = d by omega]

/-! ## On the reference's arrays -/

/-- The cotangent against the values. -/
theorem op120 (x119 : FVec Ideal S4x64x4x16384 .f32) (x33 : FVec Ideal S16384x4x64 .f32)
    (g a : Fin 4) (t u : Fin 16384) (x y : Fin 64 → ℝ)
    (h119 : ∀ d : Fin 64, x119 (ix4 g d a t) = (x d : EReal)) (h33 : ∀ d : Fin 64, x33 (ix3 u g d) = (y d : EReal)) :
    (Host.dotGeneral dot_S4x64x4x16384_S16384x4x64_S4x4x16384x16384_1_2_23_0_0_1 none x119 x33 : FVec Ideal _ .f32) (ix4 g a t u)
      = ((∑ d : Fin 64, x d * y d : ℝ) : EReal) := by
  pointwise
  exact sum_mul_val _ _ _ _ h119 h33

/-- The gradient that a row's denominator receives. -/
theorem op128 (x120 : FVec Ideal S4x4x16384x16384 .f32) (x109 : FVec Ideal S4x4x16384x1 .f32) (x103 : FVec Ideal S4x4x16384x16384 .f32)
    (g a : Fin 4) (t : Fin 16384) (A N : Fin 16384 → ℝ) (dn E : ℝ) (hdn : dn ≠ 0) (hE : E ≠ 0)
    (h120 : ∀ u, x120 (ix4 g a t u) = (A u : EReal)) (h109 : x109 (ix4 g a t 0) = ((dn * E : ℝ) : EReal))
    (h103 : ∀ u, x103 (ix4 g a t u) = ((N u * E : ℝ) : EReal)) :
    (Host.negf (shapeCast _ (Host.reduceAdd (mulf (mulf x120 (broadcastInDim S4x4x16384x16384 ![0, 1, 2, 3] bcast_S4x4x16384x1_S4x4x16384x16384_0_1_2_3 (Host.divf (broadcastInDim S4x4x16384x1 ![] bcast_S_S4x4x16384x1 (constant S_ .f32 0x3F800000#32)) (mulf x109 x109)))) x103) (constant S_ .f32 0x00000000#32) reducesTo_S4x4x16384x16384_S4x4x16384_d3 h_S_) shapeCasts_S4x4x16384_S4x4x16384x1) : FVec Ideal _ .f32) (ix4 g a t 0)
      = ((-((∑ u, A u * N u) / dn / (dn * E)) : ℝ) : EReal) := by
  pointwise
  exact row128 _ _ _ A N dn E hdn hE h120 h103 h109

/-- The gradient through a sink's weight. -/
theorem op131 (x128 : FVec Ideal S4x4x16384x1 .f32) (x108 : FVec Ideal S4x4x16384x1 .f32)
    (g a : Fin 4) (t : Fin 16384) (x y : ℝ)
    (h128 : x128 (ix4 g a t 0) = (x : EReal)) (h108 : x108 (ix4 g a t 0) = (y : EReal)) :
    (mulf x128 x108 : FVec Ideal _ .f32) (ix4 g a t 0)
      = ((x * y : ℝ) : EReal) := by
  pointwise
  rw [h128, h108, EReal.coe_mul]

/-- The gradient of a score before the shift. -/
theorem op138 (x120 : FVec Ideal S4x4x16384x16384 .f32) (x109 : FVec Ideal S4x4x16384x1 .f32) (x128 : FVec Ideal S4x4x16384x1 .f32) (x103 : FVec Ideal S4x4x16384x16384 .f32)
    (g a : Fin 4) (t u : Fin 16384) (A D z e : ℝ) (hD : D ≠ 0)
    (h120 : x120 (ix4 g a t u) = (A : EReal)) (h109 : x109 (ix4 g a t 0) = (D : EReal)) (h128 : x128 (ix4 g a t 0) = (z : EReal))
    (h103 : x103 (ix4 g a t u) = (e : EReal)) :
    (mulf (addf (Host.divf x120 (broadcastInDim S4x4x16384x16384 ![0, 1, 2, 3] bcast_S4x4x16384x1_S4x4x16384x16384_0_1_2_3 x109)) (broadcastInDim S4x4x16384x16384 ![0, 1, 2] bcast_S4x4x16384_S4x4x16384x16384_0_1_2 (Host.reduceAdd x128 (constant S_ .f32 0x00000000#32) reducesTo_S4x4x16384x1_S4x4x16384_d3 h_S_))) x103 : FVec Ideal _ .f32) (ix4 g a t u)
      = (((A / D + z) * e : ℝ) : EReal) := by
  pointwise
  rw [Fin.sum_univ_one, h120, h109, h128, h103, Cert.Reals.div_coe_coe _ _ hD, ← EReal.coe_add, ← EReal.coe_mul]

/-- What the maximum receives. -/
theorem op142 (x131 : FVec Ideal S4x4x16384x1 .f32) (x138 : FVec Ideal S4x4x16384x16384 .f32)
    (g a : Fin 4) (t : Fin 16384) (z : ℝ) (s : Fin 16384 → ℝ)
    (h131 : x131 (ix4 g a t 0) = (z : EReal)) (h138 : ∀ u, x138 (ix4 g a t u) = (s u : EReal)) :
    (addf (Host.negf x131) (shapeCast _ (Host.reduceAdd (Host.negf x138) (constant S_ .f32 0x00000000#32) reducesTo_S4x4x16384x16384_S4x4x16384_d3 h_S_) shapeCasts_S4x4x16384_S4x4x16384x1) : FVec Ideal _ .f32) (ix4 g a t 0)
      = ((-z + ∑ u, -s u : ℝ) : EReal) := by
  pointwise
  rw [h131, EReal.coe_add, Cert.Reals.coe_sum, EReal.coe_neg]
  exact congrArg _ (Finset.sum_congr rfl fun u _ => by rw [h138, EReal.coe_neg])

/-- The gradient of a score, where the maximum receives nothing. -/
theorem op158 (m71 : IVec S4x4x16384x16384 1) (x138 : FVec Ideal S4x4x16384x16384 .f32) (x142 : FVec Ideal S4x4x16384x1 .f32) (x80 : FVec Ideal S4x4x16384x1 .f32) (x73 : FVec Ideal S4x4x1x1 .f32) (x78 : FVec Ideal S4x4x16384x16384 .f32)
    (g a : Fin 4) (t u : Fin 16384) (p : Prop) [Decidable p] (s : ℝ)
    (h71 : m71 (ix4 g a t u) = if p then 1#1 else 0#1) (h138 : x138 (ix4 g a t u) = (s : EReal)) (h142 : x142 (ix4 g a t 0) = (0 : EReal))
    (h78 : (∑ x : Fin 16384, (x78 (ix4 g a t x) : EReal)) ≠ 0) (hs : ¬ p → s = 0) :
    (transpose S4x16384x16384x4 [0, 3, 2, 1] (mulf (select m71 (addf x138 (mulf (broadcastInDim S4x4x16384x16384 ![0, 1, 2] bcast_S4x4x16384_S4x4x16384x16384_0_1_2 (Host.divf (Host.reduceAdd (mulf x142 (select (cmpf .ogt x80 (broadcastInDim S4x4x16384x1 ![0, 1, 2, 3] bcast_S4x4x1x1_S4x4x16384x1_0_1_2_3 x73)) (broadcastInDim S4x4x16384x1 ![] bcast_S_S4x4x16384x1 (constant S_ .f32 0x3F800000#32)) (select (cmpf .oeq x80 (broadcastInDim S4x4x16384x1 ![0, 1, 2, 3] bcast_S4x4x1x1_S4x4x16384x1_0_1_2_3 x73)) (broadcastInDim S4x4x16384x1 ![] bcast_S_S4x4x16384x1 (constant S_ .f32 0x3F000000#32)) (broadcastInDim S4x4x16384x1 ![] bcast_S_S4x4x16384x1 (constant S_ .f32 0x00000000#32))))) (constant S_ .f32 0x00000000#32) reducesTo_S4x4x16384x1_S4x4x16384_d3 h_S_) (Host.reduceAdd x78 (constant S_ .f32 0x00000000#32) reducesTo_S4x4x16384x16384_S4x4x16384_d3 h_S_))) x78)) (broadcastInDim S4x4x16384x16384 ![] bcast_S_S4x4x16384x16384 (constant S_ .f32 0x00000000#32))) (broadcastInDim S4x4x16384x16384 ![] bcast_S_S4x4x16384x16384 (constant S_ .f32 0x3E000000#32))) transposes_S4x4x16384x16384_S4x16384x16384x4_0_3_2_1 : FVec Ideal _ .f32) (ix4 g u t a)
      = ((s * (1 / 8) : ℝ) : EReal) := by
  pointwise
  rw [Fin.sum_univ_one, h71, h138, h142, zero_mul, div_zero_left _ h78, zero_mul, add_zero, Cert.Reals.word_eighth, ← EReal.coe_mul]
  exact select_zero p _ fun hp => by rw [hs hp, zero_mul]

/-- The gradient of the turned keys. -/
theorem op162 (x158 : FVec Ideal S4x16384x16384x4 .f32) (x50 : FVec Ideal S16384x4x4x64 .f32)
    (g : Fin 4) (u : Fin 16384) (d : Fin 64) (x y : Fin 16384 → Fin 4 → ℝ)
    (h158 : ∀ t a, x158 (ix4 g u t a) = (x t a : EReal)) (h50 : ∀ t a, x50 (ix4 t g a d) = (y t a : EReal)) :
    (transpose S16384x4x64 [1, 0, 2] (Host.dotGeneral dot_S4x16384x16384x4_S16384x4x4x64_S4x16384x64_23_02_1_3_0_1 none x158 x50) transposes_S4x16384x64_S16384x4x64_1_0_2 : FVec Ideal _ .f32) (ix3 u g d)
      = ((∑ t, ∑ a, x t a * y t a : ℝ) : EReal) := by
  pointwise
  exact sum_sum_mul_val _ _ _ _ h158 h50

/-- The gradient of the turned queries. -/
theorem op182 (x158 : FVec Ideal S4x16384x16384x4 .f32) (x66 : FVec Ideal S16384x4x64 .f32)
    (k : Fin 16) (t : Fin 16384) (d : Fin 64) (x y : Fin 16384 → ℝ)
    (h158 : ∀ u, x158 (ix4 ⟨k / 4, by omega⟩ u t ⟨k % 4, by omega⟩) = (x u : EReal)) (h66 : ∀ u, x66 (ix3 u ⟨k / 4, by omega⟩ d) = (y u : EReal)) :
    (shapeCast _ (transpose S16384x4x4x64 [1, 0, 2, 3] (Host.dotGeneral dot_S4x16384x16384x4_S16384x4x64_S4x16384x4x64_1_0_23_2_0_1 none x158 x66) transposes_S4x16384x4x64_S16384x4x4x64_1_0_2_3) shapeCasts_S16384x4x4x64_S16384x16x64 : FVec Ideal _ .f32) (ix3 t k d)
      = ((∑ u, x u * y u : ℝ) : EReal) := by
  pointwise
  exact sum_mul_val _ _ _ _ h158 h66

/-- The attention's output. -/
theorem op210 (x33 : FVec Ideal S16384x4x64 .f32) (x111 : FVec Ideal S4x4x16384x16384 .f32)
    (t : Fin 16384) (n : Fin 1024) (x y : Fin 16384 → ℝ)
    (h33 : ∀ u, x33 (ix3 u ⟨n / 256, by omega⟩ ⟨n % 64, by omega⟩) = (x u : EReal))
    (h111 : ∀ u, x111 (ix4 ⟨n / 256, by omega⟩ ⟨n / 64 % 4, by omega⟩ t u) = (y u : EReal)) :
    (truncf .bf16 (shapeCast _ (transpose S16384x4x4x64 [3, 0, 2, 1] (Host.dotGeneral dot_S16384x4x64_S4x4x16384x16384_S4x64x4x16384_0_3_2_12_1_0 none x33 x111) transposes_S4x64x4x16384_S16384x4x4x64_3_0_2_1) shapeCasts_S16384x4x4x64_S16384x1024) bitsLt_bf16_f32 : FVec Ideal S16384x1024 .bf16) (ix2 t n)
      = ((∑ u, x u * y u : ℝ) : EReal) := by
  pointwise
  exact sum_mul_val _ _ _ _ h33 h111

/-- The gradient of the projected queries, keys and values. -/
theorem op211 (x119 : FVec Ideal S4x64x4x16384 .f32) (x111 : FVec Ideal S4x4x16384x16384 .f32) (x162 : FVec Ideal S16384x4x64 .f32) (x163 : FVec Ideal S16384x4x8 .f32) (x164 : FVec Ideal S16384x4x8 .f32) (x51 : FVec Ideal S16384x1x8 .f32) (x52 : FVec Ideal S16384x1x8 .f32) (x182 : FVec Ideal S16384x16x64 .f32) (x183 : FVec Ideal S16384x16x8 .f32) (x184 : FVec Ideal S16384x16x8 .f32) (x34 : FVec Ideal S16384x1x8 .f32) (x35 : FVec Ideal S16384x1x8 .f32)
    (t : Fin 16384) (n : Fin 1536) (dq dk dv : ℕ → ℕ → ℝ)
    (hv : ∀ (g : Fin 4) (d : Fin 64), (∑ a : Fin 4, ∑ u : Fin 16384, (x119 (ix4 g d a u) * x111 (ix4 g a u t) : EReal)) = (dv g d : EReal))
    (h162 : ∀ (g : Fin 4) (d : Fin 64), x162 (ix3 t g d) = (dk g d : EReal)) (h163 : ∀ (g : Fin 4) (d : Fin 8), x163 (ix3 t g d) = (dk g d : EReal))
    (h164 : ∀ (g : Fin 4) (d : Fin 8), x164 (ix3 t g d) = (dk g (8 + d) : EReal))
    (h182 : ∀ (g : Fin 16) (d : Fin 64), x182 (ix3 t g d) = (dq g d : EReal)) (h183 : ∀ (g : Fin 16) (d : Fin 8), x183 (ix3 t g d) = (dq g d : EReal))
    (h184 : ∀ (g : Fin 16) (d : Fin 8), x184 (ix3 t g d) = (dq g (8 + d) : EReal))
    (h51 : ∀ d : Fin 8, x51 (ix3 t 0 d) = (Real.cos (angle t d) : EReal)) (h52 : ∀ d : Fin 8, x52 (ix3 t 0 d) = (Real.sin (angle t d) : EReal))
    (h34 : ∀ d : Fin 8, x34 (ix3 t 0 d) = (Real.cos (angle t d) : EReal)) (h35 : ∀ d : Fin 8, x35 (ix3 t 0 d) = (Real.sin (angle t d) : EReal)) :
    (truncf .bf16 (addf (addf (pad S16384x1536 ![0, 1280] ![0, 0] ![0, 0] (shapeCast _ (transpose S16384x4x64 [2, 0, 1] (Host.dotGeneral dot_S4x64x4x16384_S4x4x16384x16384_S4x64x16384_23_12_1_3_0_0 none x119 x111) transposes_S4x64x16384_S16384x4x64_2_0_1) shapeCasts_S16384x4x64_S16384x256) (constant S_ .f32 0x00000000#32) pads_S16384x256_S16384x1536_000_128000 h_S_) (pad S16384x1536 ![0, 1024] ![0, 256] ![0, 0] (shapeCast _ (addf (addf (pad S16384x4x64 ![0, 0, 16] ![0, 0, 0] ![0, 0, 0] (extractStridedSlice S16384x4x48 ![0, 0, 16] x162 slices_S16384x4x64_S16384x4x48_0_0_16) (constant S_ .f32 0x00000000#32) pads_S16384x4x48_S16384x4x64_000_000_1600 h_S_) (pad S16384x4x64 ![0, 0, 8] ![0, 0, 48] ![0, 0, 0] (addf (mulf x164 (broadcastInDim S16384x4x8 ![0, 1, 2] bcast_S16384x1x8_S16384x4x8_0_1_2 x51)) (mulf (Host.negf x163) (broadcastInDim S16384x4x8 ![0, 1, 2] bcast_S16384x1x8_S16384x4x8_0_1_2 x52))) (constant S_ .f32 0x00000000#32) pads_S16384x4x8_S16384x4x64_000_000_8480 h_S_)) (pad S16384x4x64 ![0, 0, 0] ![0, 0, 56] ![0, 0, 0] (addf (mulf x164 (broadcastInDim S16384x4x8 ![0, 1, 2] bcast_S16384x1x8_S16384x4x8_0_1_2 x52)) (mulf x163 (broadcastInDim S16384x4x8 ![0, 1, 2] bcast_S16384x1x8_S16384x4x8_0_1_2 x51))) (constant S_ .f32 0x00000000#32) pads_S16384x4x8_S16384x4x64_000_000_0560 h_S_)) shapeCasts_S16384x4x64_S16384x256) (constant S_ .f32 0x00000000#32) pads_S16384x256_S16384x1536_000_10242560 h_S_)) (pad S16384x1536 ![0, 0] ![0, 512] ![0, 0] (shapeCast _ (addf (addf (pad S16384x16x64 ![0, 0, 16] ![0, 0, 0] ![0, 0, 0] (extractStridedSlice S16384x16x48 ![0, 0, 16] x182 slices_S16384x16x64_S16384x16x48_0_0_16) (constant S_ .f32 0x00000000#32) pads_S16384x16x48_S16384x16x64_000_000_1600 h_S_) (pad S16384x16x64 ![0, 0, 8] ![0, 0, 48] ![0, 0, 0] (addf (mulf x184 (broadcastInDim S16384x16x8 ![0, 1, 2] bcast_S16384x1x8_S16384x16x8_0_1_2 x34)) (mulf (Host.negf x183) (broadcastInDim S16384x16x8 ![0, 1, 2] bcast_S16384x1x8_S16384x16x8_0_1_2 x35))) (constant S_ .f32 0x00000000#32) pads_S16384x16x8_S16384x16x64_000_000_8480 h_S_)) (pad S16384x16x64 ![0, 0, 0] ![0, 0, 56] ![0, 0, 0] (addf (mulf x184 (broadcastInDim S16384x16x8 ![0, 1, 2] bcast_S16384x1x8_S16384x16x8_0_1_2 x35)) (mulf x183 (broadcastInDim S16384x16x8 ![0, 1, 2] bcast_S16384x1x8_S16384x16x8_0_1_2 x34))) (constant S_ .f32 0x00000000#32) pads_S16384x16x8_S16384x16x64_000_000_0560 h_S_)) shapeCasts_S16384x16x64_S16384x1024) (constant S_ .f32 0x00000000#32) pads_S16384x1024_S16384x1536_000_05120 h_S_)) bitsLt_bf16_f32 : FVec Ideal S16384x1536 .bf16) (ix2 t n)
      = ((if n.val < 1024 then rot (-1) (dq (n / 64)) t (n % 64)
        else if n.val < 1280 then rot (-1) (dk ((n - 1024) / 64)) t ((n - 1024) % 64) else dv ((n - 1280) / 64) ((n - 1280) % 64) : ℝ) : EReal) := by
  pointwise
  have hn : n.val < 1536 := n.isLt
  by_cases h1 : n.val < 1024
  · have a1 : ¬ (1280 ≤ n.val ∧ n.val - 1280 < 256) := by omega
    have a2 : ¬ (1024 ≤ n.val ∧ n.val - 1024 < 256) := by omega
    simp only [dif_neg a1, dif_neg a2, dif_pos h1, if_pos h1, add_zero, zero_add]
    exact rot_pads (fun e => x182 (ix3 t ⟨n / 64, by omega⟩ e)) (fun e => x183 (ix3 t ⟨n / 64, by omega⟩ e)) (fun e => x184 (ix3 t ⟨n / 64, by omega⟩ e))
      (fun e => x34 (ix3 t 0 e)) (fun e => x35 (ix3 t 0 e)) (dq (n / 64)) t ⟨n % 64, by omega⟩ _ (by omega) (h182 ⟨n / 64, by omega⟩) (h183 ⟨n / 64, by omega⟩) (h184 ⟨n / 64, by omega⟩) h34 h35
  · by_cases h2 : n.val < 1280
    · have a1 : ¬ (1280 ≤ n.val ∧ n.val - 1280 < 256) := by omega
      have a2 : 1024 ≤ n.val ∧ n.val - 1024 < 256 := by omega
      simp only [dif_neg a1, dif_pos a2, dif_neg h1, if_neg h1, if_pos h2, add_zero, zero_add]
      exact rot_pads (fun e => x162 (ix3 t ⟨(n - 1024) / 64, by omega⟩ e)) (fun e => x163 (ix3 t ⟨(n - 1024) / 64, by omega⟩ e))
        (fun e => x164 (ix3 t ⟨(n - 1024) / 64, by omega⟩ e)) (fun e => x51 (ix3 t 0 e)) (fun e => x52 (ix3 t 0 e)) (dk ((n - 1024) / 64)) t ⟨(n - 1024) % 64, by omega⟩ _ (by omega) (h162 ⟨(n - 1024) / 64, by omega⟩)
        (h163 ⟨(n - 1024) / 64, by omega⟩) (h164 ⟨(n - 1024) / 64, by omega⟩) h51 h52
    · have a1 : 1280 ≤ n.val ∧ n.val - 1280 < 256 := by omega
      have a2 : ¬ (1024 ≤ n.val ∧ n.val - 1024 < 256) := by omega
      simp only [dif_pos a1, dif_neg a2, dif_neg h1, if_neg h1, if_neg h2, add_zero]
      exact hv ⟨(n - 1280) / 64, by omega⟩ ⟨(n - 1280) % 64, by omega⟩

/-- The gradient of the sinks' logits, where the maximum receives nothing. -/
theorem op212 (x131 : FVec Ideal S4x4x16384x1 .f32) (x142 : FVec Ideal S4x4x16384x1 .f32) (x73 : FVec Ideal S4x4x1x1 .f32) (x80 : FVec Ideal S4x4x16384x1 .f32)
    (n : Fin 16) (z : Fin 16384 → ℝ)
    (h131 : ∀ t, x131 (ix4 ⟨n / 4, by omega⟩ ⟨n % 4, by omega⟩ t 0) = (z t : EReal))
    (h142 : ∀ t, x142 (ix4 ⟨n / 4, by omega⟩ ⟨n % 4, by omega⟩ t 0) = (0 : EReal)) :
    (shapeCast _ (shapeCast _ (Host.reduceAdd (addf (shapeCast _ (Host.reduceAdd x131 (constant S_ .f32 0x00000000#32) reducesTo_S4x4x16384x1_S4x4x1_d2 h_S_) shapeCasts_S4x4x1_S4x4x1x1) (shapeCast _ (Host.reduceAdd (mulf x142 (select (cmpf .ogt (broadcastInDim S4x4x16384x1 ![0, 1, 2, 3] bcast_S4x4x1x1_S4x4x16384x1_0_1_2_3 x73) x80) (broadcastInDim S4x4x16384x1 ![] bcast_S_S4x4x16384x1 (constant S_ .f32 0x3F800000#32)) (select (cmpf .oeq (broadcastInDim S4x4x16384x1 ![0, 1, 2, 3] bcast_S4x4x1x1_S4x4x16384x1_0_1_2_3 x73) x80) (broadcastInDim S4x4x16384x1 ![] bcast_S_S4x4x16384x1 (constant S_ .f32 0x3F000000#32)) (broadcastInDim S4x4x16384x1 ![] bcast_S_S4x4x16384x1 (constant S_ .f32 0x00000000#32))))) (constant S_ .f32 0x00000000#32) reducesTo_S4x4x16384x1_S4x4x1_d2 h_S_) shapeCasts_S4x4x1_S4x4x1x1)) (constant S_ .f32 0x00000000#32) reducesTo_S4x4x1x1_S4x4_d2_3 h_S_) shapeCasts_S4x4_S16) shapeCasts_S16_S1x16 : FVec Ideal S1x16 .f32) (ix2 0 n)
      = ((∑ t, z t : ℝ) : EReal) := by
  pointwise
  rw [Fin.sum_univ_one, Fin.sum_univ_one]
  exact sink_row _ _ _ z h131 h142

end Cert.AttnRef

end
-- ==== Proof.Attn.RefGrad.lean ====
/-
  The attention's reference, last part: its results over the real numbers.
-/
module

public import proofs.«01_k».proof.Proof.Attn.RefScore
public import proofs.«01_k».proof.Proof.Attn.RefOps
public import proofs.«01_k».proof.Proof.Attn.Region3

@[expose] public section

set_option maxRecDepth 16384
noncomputable section

namespace Cert.AttnRef
open Idealize.ShloMosaic Idealize.ShloMosaic.TcCoe Idealize.SL.Sem
open Cert.AttnReferenceIdeal Cert.AttnReferenceIdeal.Gen Cert.AttnReferenceIdeal.Value Cert.AttnRope Cert.AttnQkv Cert.AttnSpec Cert.AttnPost
open Classical

/-! ## Over the real numbers -/

section reals

variable (q k v dO : ℕ → ℕ → ℝ) (sk : ℕ → ℝ)

/-- A row's cotangent against a position's values. -/
def against (a t u : ℕ) : ℝ := ∑ d : Fin 64, dO t (a * 64 + d) * v u (a / 4 * 64 + d)

/-- A row's cotangent times its output, summed over the positions first. -/
theorem delta_eq (a t : ℕ) : delta q k v dO sk a t = (∑ u : Fin 16384, against v dO a t u * num q k a t u) / den q k sk a t := by
  unfold delta out against
  rw [Finset.sum_congr rfl fun d _ => mul_div_assoc' _ _ _, ← Finset.sum_div]
  refine congrArg (· / _) ?_
  rw [Finset.sum_congr rfl fun d _ => Finset.mul_sum _ _ _, Finset.sum_comm]
  refine Finset.sum_congr rfl fun u _ => ?_
  rw [Finset.sum_mul]
  exact Finset.sum_congr rfl fun d _ => by ring

/-- The maximum receives nothing. -/
theorem max_zero (a t : ℕ) :
    -(-(Real.exp (sk a) / den q k sk a t * delta q k v dO sk a t)) + ∑ u : Fin 16384, -dscore q k v dO sk a t u = 0 := by
  have hD : den q k sk a t ≠ 0 := (den_pos _ _ _ _ _).ne'
  have e : ∑ u : Fin 16384, dscore q k v dO sk a t u
      = delta q k v dO sk a t - (∑ u : Fin 16384, num q k a t u) / den q k sk a t * delta q k v dO sk a t := by
    rw [show delta q k v dO sk a t - (∑ u : Fin 16384, num q k a t u) / den q k sk a t * delta q k v dO sk a t
        = (∑ u : Fin 16384, against v dO a t u * num q k a t u) / den q k sk a t - (∑ u : Fin 16384, num q k a t u) / den q k sk a t * delta q k v dO sk a t
      by rw [← delta_eq], Finset.sum_div, Finset.sum_div, Finset.sum_mul, ← Finset.sum_sub_distrib]
    refine Finset.sum_congr rfl fun u _ => ?_
    show num q k a t u / den q k sk a t * (against v dO a t u - _) = _
    ring
  have s : Real.exp (sk a) = den q k sk a t - ∑ u : Fin 16384, num q k a t u := by unfold den; ring
  rw [Finset.sum_neg_distrib, e, s]
  field_simp
  ring

theorem rot_scale (s c : ℝ) (x : ℕ → ℝ) (t d : ℕ) : rot s (fun e => x e * c) t d = rot s x t d * c := by
  unfold rot
  split_ifs <;> ring

end reals

section arrays

variable (V0 : Valuation τ sig (Elt Ideal)) (h w dO : ℕ → ℕ → ℝ) (sk : ℕ → ℝ)
  (hX : ∀ (t : Fin 16384) (e : Fin 1024), (V0 (Proc.devRef .tc main_arg0) : FVec Ideal S16384x1024 .f32) (ix2 t e) = (h t e : EReal))
  (hW : ∀ (e : Fin 1024) (n : Fin 1536), (V0 (Proc.devRef .tc main_arg1) : FVec Ideal S1024x1536 .f32) (ix2 e n) = (w e n : EReal))
  (hS : ∀ a : Fin 16, (V0 (Proc.devRef .tc main_arg2) : FVec Ideal S16 .f32) (ix1 a) = (sk a : EReal))
  (hO : ∀ (t : Fin 16384) (e : Fin 1024), (V0 (Proc.devRef .tc main_arg3) : FVec Ideal S16384x1024 .f32) (ix2 t e) = (dO t e : EReal))

include hO in
theorem v119_val (g a : Fin 4) (d : Fin 64) (t : Fin 16384) : res_main_v119 V0 (ix4 g d a t) = (dO t ((g * 4 + a) * 64 + d) : EReal) := by
  pointwise [res_main_v119]
  refine (hO t _).trans (congrArg (fun n => ((dO t n : ℝ) : EReal)) ?_)
  show g.val * 256 + a.val * 64 + d.val = _
  ring

include hX hW hO in
theorem v120_val (g a : Fin 4) (t u : Fin 16384) : res_main_v120 V0 (ix4 g a t u) = (against (value h w) dO (g * 4 + a) t u : EReal) := by
  unfold res_main_v120 against
  rw [show (g.val * 4 + a.val) / 4 = g by omega]
  exact op120 _ _ g a t u _ _ (fun d => v119_val V0 dO hO g a d t) (fun d => v33_val V0 h w hX hW u g d)

/-- A row's cotangent times its output. -/
abbrev deltaOf (g a t : ℕ) : ℝ := delta (query h w) (key h w) (value h w) dO sk (g * 4 + a) t

include hX hW hS hO in
theorem v128_val (g a : Fin 4) (t : Fin 16384) : res_main_v128 V0 (ix4 g a t 0)
    = ((-(deltaOf h w dO sk g a t / (denOf h w sk g a t * Real.exp (-shift V0 g a t))) : ℝ) : EReal) := by
  unfold res_main_v128 deltaOf
  rw [delta_eq]
  exact op128 _ _ _ g a t _ _ _ _ (den_pos _ _ _ _ _).ne' (Real.exp_pos _).ne' (fun u => v120_val V0 h w dO hX hW hO g a t u)
    (v109_val V0 h w sk hX hW hS g a t) (fun u => v103_val V0 h w sk hX hW hS g a t u)

include hX hW hS hO in
theorem v131_val (g a : Fin 4) (t : Fin 16384) : res_main_v131 V0 (ix4 g a t 0)
    = ((-(Real.exp (sk (g * 4 + a)) / denOf h w sk g a t * deltaOf h w dO sk g a t) : ℝ) : EReal) := by
  have hD : denOf h w sk g a t ≠ 0 := (den_pos _ _ _ _ _).ne'
  have hE : Real.exp (-shift V0 g a t) ≠ 0 := (Real.exp_pos _).ne'
  unfold res_main_v131
  refine (op131 _ _ g a t _ _ (v128_val V0 h w dO sk hX hW hS hO g a t) (v108_val V0 h w sk hX hW hS g a t)).trans (congrArg Real.toEReal ?_)
  field_simp

/-- The gradient of a score. -/
abbrev dscoreOf (g a t u : ℕ) : ℝ := dscore (query h w) (key h w) (value h w) dO sk (g * 4 + a) t u

include hX hW hS hO in
theorem v138_val (g a : Fin 4) (t u : Fin 16384) : res_main_v138 V0 (ix4 g a t u) = (dscoreOf h w dO sk g a t u : EReal) := by
  have hD : denOf h w sk g a t ≠ 0 := (den_pos _ _ _ _ _).ne'
  have hE : Real.exp (-shift V0 g a t) ≠ 0 := (Real.exp_pos _).ne'
  unfold res_main_v138
  refine (op138 _ _ _ _ g a t u _ _ _ _ (mul_ne_zero hD hE) (v120_val V0 h w dO hX hW hO g a t u) (v109_val V0 h w sk hX hW hS g a t)
    (v128_val V0 h w dO sk hX hW hS hO g a t) (v103_val V0 h w sk hX hW hS g a t u)).trans (congrArg Real.toEReal ?_)
  show _ = num _ _ _ _ _ / denOf h w sk g a t * (against (value h w) dO (g * 4 + a) t u - deltaOf h w dO sk g a t)
  field_simp
  ring

include hX hW hS hO in
theorem v142_val (g a : Fin 4) (t : Fin 16384) : res_main_v142 V0 (ix4 g a t 0) = (0 : EReal) := by
  unfold res_main_v142
  refine (op142 _ _ g a t _ _ (v131_val V0 h w dO sk hX hW hS hO g a t) (fun u => v138_val V0 h w dO sk hX hW hS hO g a t u)).trans ?_
  exact congrArg Real.toEReal (max_zero (query h w) (key h w) (value h w) dO sk (g * 4 + a) t)

theorem op78 (x71 : FVec Ideal S4x4x16384x16384 .f32) (x74 : FVec Ideal S4x4x16384 .f32) (g a : Fin 4) (t u : Fin 16384) :
    (uitofp .f32 (cmpf .oeq x71 (broadcastInDim S4x4x16384x16384 ![0, 1, 2, 3] bcast_S4x4x16384x1_S4x4x16384x16384_0_1_2_3 (shapeCast _ x74 shapeCasts_S4x4x16384_S4x4x16384x1))) : FVec Ideal _ .f32) (ix4 g a t u)
      = (((BitVec.ofBool (decide (x71 (ix4 g a t u) = x74 (ix3 g a t)))).toNat : ℝ) : EReal) := by
  pointwise
  rfl

/-- A sum of ones and zeros with a one in it is not zero. -/
theorem count_ne_zero {n : ℕ} (f : Fin n → EReal) (p : Fin n → Bool) (hf : ∀ i, f i = (((BitVec.ofBool (p i)).toNat : ℝ) : EReal))
    (i : Fin n) (hi : p i = true) : (∑ i, f i) ≠ 0 := by
  have h1 : f i ≤ ∑ i, f i := Finset.single_le_sum (f := f) (fun j _ => by
    rw [hf j]; exact EReal.coe_nonneg.mpr (Nat.cast_nonneg _)) (Finset.mem_univ i)
  rw [hf i, hi] at h1
  exact (lt_of_lt_of_le (by simp) h1).ne'

include hX hW in
theorem v78_sum (g a : Fin 4) (t : Fin 16384) : Finset.sum (M := EReal) Finset.univ (fun u : Fin 16384 => res_main_v78 V0 (ix4 g a t u)) ≠ 0 := by
  obtain ⟨u, hu⟩ := (v74_max V0 h w hX hW g a t).2
  exact count_ne_zero (fun u : Fin 16384 => res_main_v78 V0 (ix4 g a t u)) _ (fun u => op78 _ _ g a t u) u (decide_eq_true hu)

include hX hW hS hO in
theorem v158_val (g a : Fin 4) (t u : Fin 16384) : res_main_v158 V0 (ix4 g u t a) = ((dscoreOf h w dO sk g a t u * (1 / 8) : ℝ) : EReal) := by
  unfold res_main_v158
  refine op158 _ _ _ _ _ _ g a t u (near t u) _ (v71_1_val V0 g a t u) (v138_val V0 h w dO sk hX hW hS hO g a t u)
    (v142_val V0 h w dO sk hX hW hS hO g a t) (v78_sum V0 h w hX hW g a t) fun hn => ?_
  unfold dscoreOf dscore prob num
  rw [if_neg hn, zero_div, zero_mul]

include hX hW hS hO in
theorem v162_val (u : Fin 16384) (g : Fin 4) (d : Fin 64) :
    res_main_v162 V0 (ix3 u g d) = (dkey (query h w) (key h w) (value h w) dO sk g u d : EReal) := by
  unfold res_main_v162
  refine (op162 _ _ g u d _ _ (fun t a => v158_val V0 h w dO sk hX hW hS hO g a t u) (fun t a => v50_val V0 h w hX hW t g a d)).trans
    (congrArg Real.toEReal ?_)
  unfold dkey
  rw [Finset.sum_comm]
  refine Finset.sum_congr rfl fun a _ => Finset.sum_congr rfl fun t _ => ?_
  rw [query_eq h w t g a d d.isLt]
  ring

include hX hW hS hO in
theorem v182_val (t : Fin 16384) (a : Fin 16) (d : Fin 64) :
    res_main_v182 V0 (ix3 t a d) = ((dquery (query h w) (key h w) (value h w) dO sk a t d * (1 / 8) : ℝ) : EReal) := by
  unfold res_main_v182
  refine (op182 _ _ a t d _ _ (fun u => v158_val V0 h w dO sk hX hW hS hO _ _ t u) (fun u => v66_val V0 h w hX hW u _ d)).trans
    (congrArg Real.toEReal ?_)
  unfold dquery
  rw [Finset.sum_mul]
  refine Finset.sum_congr rfl fun u _ => ?_
  show dscore _ _ _ _ _ (a.val / 4 * 4 + a.val % 4) _ _ * (1 / 8) * key h w u (a.val / 4 * 64 + d) = _
  rw [show a.val / 4 * 4 + a.val % 4 = a by omega]
  ring

/-- A slice of the lanes of the keys' and of the queries' gradient. -/
theorem v163_apply (t : Fin 16384) (g : Fin 4) (d : Fin 8) : res_main_v163 V0 (ix3 t g d) = res_main_v162 V0 (ix3 t g ⟨d, by omega⟩) := by
  pointwise [res_main_v163]
theorem v164_apply (t : Fin 16384) (g : Fin 4) (d : Fin 8) : res_main_v164 V0 (ix3 t g d) = res_main_v162 V0 (ix3 t g ⟨8 + d, by omega⟩) := by
  pointwise [res_main_v164]
theorem v183_apply (t : Fin 16384) (g : Fin 16) (d : Fin 8) : res_main_v183 V0 (ix3 t g d) = res_main_v182 V0 (ix3 t g ⟨d, by omega⟩) := by
  pointwise [res_main_v183]
theorem v184_apply (t : Fin 16384) (g : Fin 16) (d : Fin 8) : res_main_v184 V0 (ix3 t g d) = res_main_v182 V0 (ix3 t g ⟨8 + d, by omega⟩) := by
  pointwise [res_main_v184]

theorem cos_val (t : Fin 16384) (d : Fin 8) : res_main_v16 V0 (ix2 t d) = (Real.cos (angle t d) : EReal) := by
  pointwise [res_main_v16]
  rw [v15_val V0 t d]
  rfl
theorem sin_val (t : Fin 16384) (d : Fin 8) : res_main_v17 V0 (ix2 t d) = (Real.sin (angle t d) : EReal) := by
  pointwise [res_main_v17]
  rw [v15_val V0 t d]
  rfl
theorem v34_val (t : Fin 16384) (d : Fin 8) : res_main_v34 V0 (ix3 t 0 d) = (Real.cos (angle t d) : EReal) := by
  pointwise [res_main_v34]
  exact cos_val V0 t d
theorem v35_val (t : Fin 16384) (d : Fin 8) : res_main_v35 V0 (ix3 t 0 d) = (Real.sin (angle t d) : EReal) := by
  pointwise [res_main_v35]
  exact sin_val V0 t d
theorem v51_val (t : Fin 16384) (d : Fin 8) : res_main_v51 V0 (ix3 t 0 d) = (Real.cos (angle t d) : EReal) := by
  pointwise [res_main_v51]
  exact cos_val V0 t d
theorem v52_val (t : Fin 16384) (d : Fin 8) : res_main_v52 V0 (ix3 t 0 d) = (Real.sin (angle t d) : EReal) := by
  pointwise [res_main_v52]
  exact sin_val V0 t d

include hX hW hS hO in
theorem dv_val (t : Fin 16384) (g : Fin 4) (d : Fin 64) :
    (∑ a : Fin 4, Finset.sum (M := EReal) Finset.univ fun u : Fin 16384 => (HMul.hMul : EReal → EReal → EReal) (res_main_v119 V0 (ix4 g d a u)) (res_main_v111 V0 (ix4 g a u t)))
      = (dvalue (query h w) (key h w) dO sk g t d : EReal) := by
  refine (sum_sum_mul_val _ _ _ _ (fun a u => v119_val V0 dO hO g a d u) (fun a u => v111_val V0 h w sk hX hW hS g a u t)).trans
    (congrArg Real.toEReal ?_)
  unfold dvalue
  exact Finset.sum_congr rfl fun a _ => Finset.sum_congr rfl fun u _ => mul_comm _ _

end arrays

end Cert.AttnRef

end
-- ==== Proof.Finite.lean ====
/-
  Arguments that a precondition says are finite, as arrays of real numbers.
-/
module

public import Idealize.ShloMosaic.PureOps.Ideal
public import Idealize.ShloMosaic.Lib.ReduceAll
public import Idealize.ShloMosaic.Lib.Pointwise

@[expose] public section

noncomputable section

namespace Cert.Finite
open Idealize.ShloMosaic

/-- The word of plus infinity. -/
theorem word_top : Ideal.ofBits .f32 0x7F800000#32 = ⊤ := by simp [Ideal.ofBits, Ideal.ieee, -EReal.coe_mul]

/-- `jnp.all(jnp.abs(x) < jnp.inf)` says that every element is a real number. -/
theorem real_of_all {s u : Shape} [Subsingleton u.Idx] {axes : List (Fin s.rank)} (x : FVec Ideal s .f32) (y : FVec Ideal s .f32) (init : IVec u 1)
    (hr : s.ReducesTo axes u) (hu : 0 < u.numel) (j : u.Idx) (hy : ∀ i, y i = Ideal.ofBits .f32 0x7F800000#32)
    (e : Host.reduce IntOp.andi (cmpf .olt (Host.absf x) y) init hr hu j = 1#1) (i : s.Idx) : ∃ r : ℝ, x i = (r : EReal) := by
  have h1 := Host.reduce_andi_all _ _ _ _ j e i
  have h2 : BitVec.ofBool (decide (max (x i : EReal) (-(x i : EReal)) < (y i : EReal))) = 1#1 := h1
  rw [hy i, word_top] at h2
  have h3 : max (x i : EReal) (-(x i : EReal)) < ⊤ := by
    by_contra hn
    rw [decide_eq_false hn] at h2
    exact absurd h2 (by decide)
  obtain ⟨ha, hb⟩ := max_lt_iff.mp h3
  refine ⟨(x i : EReal).toReal, (EReal.coe_toReal ha.ne fun hbot => ?_).symm⟩
  rw [hbot] at hb
  exact absurd hb (by simp)

/-- A matrix of real numbers at natural indices, from one of extended reals. -/
def mat {a b : ℕ} (x : Fin a → Fin b → EReal) (t e : ℕ) : ℝ := if h : t < a ∧ e < b then (x ⟨t, h.1⟩ ⟨e, h.2⟩).toReal else 0

theorem mat_val {a b : ℕ} (x : Fin a → Fin b → EReal) (h : ∀ t e, ∃ r : ℝ, x t e = (r : EReal)) (t : Fin a) (e : Fin b) :
    x t e = (mat x t e : EReal) := by
  obtain ⟨r, hr⟩ := h t e
  unfold mat
  rw [dif_pos ⟨t.isLt, e.isLt⟩]
  show x t e = ((x t e).toReal : EReal)
  rw [hr, EReal.toReal_coe]

/-- The same of a vector. -/
def vec {a : ℕ} (x : Fin a → EReal) (t : ℕ) : ℝ := if h : t < a then (x ⟨t, h⟩).toReal else 0

theorem vec_val {a : ℕ} (x : Fin a → EReal) (h : ∀ t, ∃ r : ℝ, x t = (r : EReal)) (t : Fin a) : x t = (vec x t : EReal) := by
  obtain ⟨r, hr⟩ := h t
  unfold vec
  rw [dif_pos t.isLt]
  show x t = ((x t).toReal : EReal)
  rw [hr, EReal.toReal_coe]

end Cert.Finite

end
-- ==== Proof.Attn.Claims.lean ====
/-
  The claims about the attention: its frames, and the equality of the results of kernel and reference over finite arguments.
-/
module

public import proofs.«01_k».proof.Proof.Attn.Kernel
public import proofs.«01_k».proof.Proof.Attn.RefGrad
public import proofs.«01_k».proof.Proof.Finite
public import proofs.«01_k».proof.Proof.Gen.Pre_finite_attn
public import proofs.«01_k».proof.Defs
public import Idealize.ShloMosaic.Lib.Claim

@[expose] public section

set_option maxRecDepth 16384

noncomputable section

namespace Cert.AttnClaims

open Idealize.ShloMosaic Idealize.ShloMosaic.TcCoe Idealize.ShloMosaic.StableHlo Idealize.SL.Sem
open Cert.AttnQkv Cert.AttnSpec Cert.AttnPost Cert.AttnRope Cert.AttnRef

instance : Subsingleton Cert.Pre_finite_attn.S_.Idx := ⟨fun a b => funext fun i => absurd i.isLt (by decide +revert)⟩

/-- The precondition over real numbers: every element of the four arguments is one. -/
theorem reals [Cert.Pre_finite_attn.Facts] (x : FVec Ideal Cert.AttnKernelIdeal.S16384x1024 .f32) (w : FVec Ideal Cert.AttnKernelIdeal.S1024x1536 .f32)
    (s : FVec Ideal Cert.AttnKernelIdeal.S16 .f32) (o : FVec Ideal Cert.AttnKernelIdeal.S16384x1024 .f32)
    (h : Cert.Pre_finite_attn.fn (F := Ideal) x w s o = fun _ => 1#1) :
    (∀ i, ∃ r : ℝ, x i = (r : EReal)) ∧ (∀ i, ∃ r : ℝ, w i = (r : EReal)) ∧ (∀ i, ∃ r : ℝ, s i = (r : EReal)) ∧ (∀ i, ∃ r : ℝ, o i = (r : EReal)) := by
  have h0 := congrFun h (fun i => absurd i.isLt (by decide +revert))
  obtain ⟨h1, ho⟩ := IntOp.andi_eq_one.1 h0
  obtain ⟨h2, hs⟩ := IntOp.andi_eq_one.1 h1
  obtain ⟨hx, hw⟩ := IntOp.andi_eq_one.1 h2
  exact ⟨Cert.Finite.real_of_all x _ _ _ _ _ (fun _ => rfl) hx, Cert.Finite.real_of_all w _ _ _ _ _ (fun _ => rfl) hw,
    Cert.Finite.real_of_all s _ _ _ _ _ (fun _ => rfl) hs, Cert.Finite.real_of_all o _ _ _ _ _ (fun _ => rfl) ho⟩

/-! ## The three results -/

/-- The output. -/
abbrev resO (h w : ℕ → ℕ → ℝ) (sk : ℕ → ℝ) : Cert.AttnKernelIdeal.S16384x1024.Idx → EReal :=
  fun i => (out (query h w) (key h w) (value h w) sk ((i 1).val / 64) (i 0) ((i 1).val % 64) : EReal)
/-- The gradient of the projections. -/
abbrev resD (h w dO : ℕ → ℕ → ℝ) (sk : ℕ → ℝ) : Cert.AttnKernelIdeal.S16384x1536.Idx → EReal :=
  fun i => (dproj (query h w) (key h w) (value h w) dO sk (i 0) (i 1) : EReal)
/-- The gradient of the sinks' logits. -/
abbrev resS (h w dO : ℕ → ℕ → ℝ) (sk : ℕ → ℝ) : Cert.AttnKernelIdeal.S1x16.Idx → EReal :=
  fun i => (dsink (query h w) (key h w) (value h w) dO sk (i 1) : EReal)

/-- The output at a lane of all heads. -/
theorem out_flat (q k v : ℕ → ℕ → ℝ) (sk : ℕ → ℝ) (n t : ℕ) :
    ∑ u : Fin 16384, v u (n / 256 * 64 + n % 64) * prob q k sk (n / 256 * 4 + n / 64 % 4) t u = out q k v sk (n / 64) t (n % 64) := by
  unfold out
  rw [show n / 256 * 4 + n / 64 % 4 = n / 64 by omega, show n / 256 = n / 64 / 4 by omega]
  rw [Finset.sum_div]
  refine Finset.sum_congr rfl fun u _ => ?_
  unfold prob
  ring

/-- The sinks' gradient, negated row by row. -/
theorem dsink_flat (q k v dO : ℕ → ℕ → ℝ) (sk : ℕ → ℝ) (n : ℕ) :
    ∑ t : Fin 16384, -(Real.exp (sk (n / 4 * 4 + n % 4)) / den q k sk (n / 4 * 4 + n % 4) t * delta q k v dO sk (n / 4 * 4 + n % 4) t)
      = dsink q k v dO sk n := by
  rw [show n / 4 * 4 + n % 4 = n by omega, Finset.sum_neg_distrib]
  rfl

section reference

open Cert.AttnReferenceIdeal Cert.AttnReferenceIdeal.Gen Cert.AttnReferenceIdeal.Value

variable (m : (ℓ : Loc nD τ sig) → Buf (Elt Ideal) ℓ) (ρ : Dev nD → PrngReg) (h w dO : Dev nD → ℕ → ℕ → ℝ) (sk : Dev nD → ℕ → ℝ)
  (hX : ∀ c (t : Fin 16384) (e : Fin 1024), (m ((c.tc : Thread nD τ).loc main_arg0) : FVec Ideal S16384x1024 .f32) (ix2 t e) = (h c t e : EReal))
  (hW : ∀ c (e : Fin 1024) (n : Fin 1536), (m ((c.tc : Thread nD τ).loc main_arg1) : FVec Ideal S1024x1536 .f32) (ix2 e n) = (w c e n : EReal))
  (hS : ∀ c (a : Fin 16), (m ((c.tc : Thread nD τ).loc main_arg2) : FVec Ideal S16 .f32) (ix1 a) = (sk c a : EReal))
  (hO : ∀ c (t : Fin 16384) (e : Fin 1024), (m ((c.tc : Thread nD τ).loc main_arg3) : FVec Ideal S16384x1024 .f32) (ix2 t e) = (dO c t e : EReal))

include hX hW hS hO in
/-- The reference's run, its results over the real numbers. -/
theorem run_reference : θ_run defs (onTc (τ := τ) (main (F := Ideal))) ⟨m, fun _ => 0, ρ⟩ (fun r => ∀ c : Dev nD,
      r.2.mem ((c.tc : Thread nD τ).loc main_v210) = resO (h c) (w c) (sk c)
      ∧ r.2.mem ((c.tc : Thread nD τ).loc main_v211) = resD (h c) (w c) (dO c) (sk c)
      ∧ r.2.mem ((c.tc : Thread nD τ).loc main_v212) = resS (h c) (w c) (dO c) (sk c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r hr c => ?_) (Value.run m ρ)
  obtain ⟨h1, h2, h3, ha⟩ := hr c
  have eX := hX c
  have eW := hW c
  have eS := hS c
  have eO := hO c
  refine ⟨h1.trans (funext fun i => ?_), h2.trans (funext fun i => ?_), h3.trans (funext fun i => ?_), ha⟩
  · obtain ⟨t, n, rfl⟩ : ∃ (t : Fin 16384) (n : Fin 1024), i = ix2 t n := ⟨i 0, i 1, by idx_vars i⟩
    refine (op210 _ _ t n _ _ (fun u => v33_val (launchContents m c) (h c) (w c) eX eW u _ _)
      (fun u => v111_val (launchContents m c) (h c) (w c) (sk c) eX eW eS _ _ t u)).trans (congrArg Real.toEReal ?_)
    exact out_flat _ _ _ _ n.val t.val
  · obtain ⟨t, n, rfl⟩ : ∃ (t : Fin 16384) (n : Fin 1536), i = ix2 t n := ⟨i 0, i 1, by idx_vars i⟩
    refine (op211 _ _ _ _ _ _ _ _ _ _ _ _ t n
      (fun a d => dquery (query (h c) (w c)) (key (h c) (w c)) (value (h c) (w c)) (dO c) (sk c) a t d * (1 / 8))
      (fun g d => dkey (query (h c) (w c)) (key (h c) (w c)) (value (h c) (w c)) (dO c) (sk c) g t d)
      (fun g d => dvalue (query (h c) (w c)) (key (h c) (w c)) (dO c) (sk c) g t d)
      (fun g d => dv_val (launchContents m c) (h c) (w c) (dO c) (sk c) eX eW eS eO t g d)
      (fun g d => v162_val (launchContents m c) (h c) (w c) (dO c) (sk c) eX eW eS eO t g d)
      (fun g d => (v163_apply (launchContents m c) t g d).trans (v162_val (launchContents m c) (h c) (w c) (dO c) (sk c) eX eW eS eO t g _))
      (fun g d => (v164_apply (launchContents m c) t g d).trans (v162_val (launchContents m c) (h c) (w c) (dO c) (sk c) eX eW eS eO t g _))
      (fun g d => v182_val (launchContents m c) (h c) (w c) (dO c) (sk c) eX eW eS eO t g d)
      (fun g d => (v183_apply (launchContents m c) t g d).trans (v182_val (launchContents m c) (h c) (w c) (dO c) (sk c) eX eW eS eO t g _))
      (fun g d => (v184_apply (launchContents m c) t g d).trans (v182_val (launchContents m c) (h c) (w c) (dO c) (sk c) eX eW eS eO t g _))
      (v51_val _ t) (v52_val _ t) (v34_val _ t) (v35_val _ t)).trans (congrArg Real.toEReal ?_)
    show _ = dproj _ _ _ _ _ t.val n.val
    unfold dproj
    rw [rot_scale]
  · obtain ⟨z, n, rfl⟩ : ∃ (z : Fin 1) (n : Fin 16), i = ix2 z n := ⟨i 0, i 1, by idx_vars i⟩
    obtain rfl : z = 0 := Subsingleton.elim _ _
    refine (op212 _ _ _ _ n _ (fun t => v131_val (launchContents m c) (h c) (w c) (dO c) (sk c) eX eW eS eO _ _ t)
      (fun t => v142_val (launchContents m c) (h c) (w c) (dO c) (sk c) eX eW eS eO _ _ t)).trans (congrArg Real.toEReal ?_)
    exact dsink_flat _ _ _ _ _ n.val

end reference

section kernel

open Cert.AttnKernelIdeal Cert.AttnKernelIdeal.Gen Cert.AttnKernelRun

variable (m : (ℓ : Loc nD τ sig) → Buf (Elt Ideal) ℓ) (ρ : Dev nD → PrngReg) (h w dO : Dev nD → ℕ → ℕ → ℝ) (sk : Dev nD → ℕ → ℝ)
  (hX : ∀ c (t : Fin 16384) (e : Fin 1024), (m ((c.tc : Thread nD τ).loc main_arg0) : FVec Ideal S16384x1024 .f32) (ix2 t e) = (h c t e : EReal))
  (hW : ∀ c (e : Fin 1024) (n : Fin 1536), (m ((c.tc : Thread nD τ).loc main_arg1) : FVec Ideal S1024x1536 .f32) (ix2 e n) = (w c e n : EReal))
  (hS : ∀ c (a : Fin 16), (m ((c.tc : Thread nD τ).loc main_arg2) : FVec Ideal S16 .f32) (ix1 a) = (sk c a : EReal))
  (hO : ∀ c (t : Fin 16384) (e : Fin 1024), (m ((c.tc : Thread nD τ).loc main_arg3) : FVec Ideal S16384x1024 .f32) (ix2 t e) = (dO c t e : EReal))

include hX hW hS hO in
/-- The kernel's run, its results over the real numbers. -/
theorem run_kernel : θ_run defs (onTc (τ := τ) (main (F := Ideal))) ⟨m, fun _ => 0, ρ⟩ (fun r => ∀ c : Dev nD,
      r.2.mem ((c.tc : Thread nD τ).loc main_v38_0) = resO (h c) (w c) (sk c)
      ∧ r.2.mem ((c.tc : Thread nD τ).loc main_v41) = resD (h c) (w c) (dO c) (sk c)
      ∧ r.2.mem ((c.tc : Thread nD τ).loc main_v40_3) = resS (h c) (w c) (dO c) (sk c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨(hr.1 c main_v38_0 (mem_uc _ (by decide))).trans (out6 m ρ c (h c) (w c) (sk c) (hX c) (hW c) (hS c)),
    (hr.1 c main_v41 (mem_uc _ (by decide))).trans (dqkv6 m ρ c (h c) (w c) (dO c) (sk c) (hX c) (hW c) (hS c) (hO c)),
    (hr.1 c main_v40_3 (mem_uc _ (by decide))).trans (dsink6 m ρ c (h c) (w c) (dO c) (sk c) (hX c) (hW c) (hS c) (hO c)),
    (hr.1 c main_arg0 (mem_uc _ (by decide))).trans (W6_main_arg0 m ρ c), (hr.1 c main_arg1 (mem_uc _ (by decide))).trans (W6_main_arg1 m ρ c),
    (hr.1 c main_arg2 (mem_uc _ (by decide))).trans (W6_main_arg2 m ρ c), (hr.1 c main_arg3 (mem_uc _ (by decide))).trans (W6_main_arg3 m ρ c)⟩)
    (run_all (F := Ideal) m ρ)

end kernel

theorem frame_ideal : Cert.quiescent_AttnKernelIdeal := fun m ρ _ => Cert.AttnKernelIdeal.Gen.frame m ρ

theorem frame_reference : Cert.quiescent_AttnReferenceIdeal := fun m ρ _ =>
  (θ_run Cert.AttnReferenceIdeal.defs _ _).mono (fun r h => ⟨fun c => (h c).2.2.2, sem_eq_zero_of_no_sems (by decide) r.2⟩)
    (Cert.AttnReferenceIdeal.Value.run m ρ)

theorem preserves : Cert.preserves_AttnKernel_AttnKernelIdeal := ⟨rfl, fun _ => rfl, rfl⟩

/-- Kernel and reference give the same output, the same gradient of the projections and the same gradient of the sinks' logits. -/
theorem algebraic : Cert.algebraic_AttnKernelIdeal_AttnReferenceIdeal_pre_finite_attn := by
  intro m ρ m' ρ' hpre hagree
  have hr := fun c => reals _ _ _ _ (hpre c)
  let h : Dev Cert.AttnKernelIdeal.nD → ℕ → ℕ → ℝ := fun c => Cert.Finite.mat fun (t : Fin 16384) (e : Fin 1024) =>
    (m ((c.tc : Thread Cert.AttnKernelIdeal.nD Cert.AttnKernelIdeal.τ).loc Cert.AttnKernelIdeal.main_arg0) : FVec Ideal Cert.AttnKernelIdeal.S16384x1024 .f32) (ix2 t e)
  let w : Dev Cert.AttnKernelIdeal.nD → ℕ → ℕ → ℝ := fun c => Cert.Finite.mat fun (t : Fin 1024) (e : Fin 1536) =>
    (m ((c.tc : Thread Cert.AttnKernelIdeal.nD Cert.AttnKernelIdeal.τ).loc Cert.AttnKernelIdeal.main_arg1) : FVec Ideal Cert.AttnKernelIdeal.S1024x1536 .f32) (ix2 t e)
  let sk : Dev Cert.AttnKernelIdeal.nD → ℕ → ℝ := fun c => Cert.Finite.vec fun (a : Fin 16) =>
    (m ((c.tc : Thread Cert.AttnKernelIdeal.nD Cert.AttnKernelIdeal.τ).loc Cert.AttnKernelIdeal.main_arg2) : FVec Ideal Cert.AttnKernelIdeal.S16 .f32) (ix1 a)
  let dO : Dev Cert.AttnKernelIdeal.nD → ℕ → ℕ → ℝ := fun c => Cert.Finite.mat fun (t : Fin 16384) (e : Fin 1024) =>
    (m ((c.tc : Thread Cert.AttnKernelIdeal.nD Cert.AttnKernelIdeal.τ).loc Cert.AttnKernelIdeal.main_arg3) : FVec Ideal Cert.AttnKernelIdeal.S16384x1024 .f32) (ix2 t e)
  have hX := fun c => Cert.Finite.mat_val _ fun (t : Fin 16384) (e : Fin 1024) => (hr c).1 (ix2 t e)
  have hW := fun c => Cert.Finite.mat_val _ fun (t : Fin 1024) (e : Fin 1536) => (hr c).2.1 (ix2 t e)
  have hS := fun c => Cert.Finite.vec_val _ fun (a : Fin 16) => (hr c).2.2.1 (ix1 a)
  have hO := fun c => Cert.Finite.mat_val _ fun (t : Fin 16384) (e : Fin 1024) => (hr c).2.2.2 (ix2 t e)
  exact ⟨fun c => resO (h c) (w c) (sk c), fun c => resD (h c) (w c) (dO c) (sk c), fun c => resS (h c) (w c) (dO c) (sk c),
    run_kernel m ρ h w dO sk hX hW hS hO,
    run_reference m' ρ' h w dO sk (fun c t e => (congrFun (hagree c).1 (ix2 t e)).trans (hX c t e))
      (fun c t e => (congrFun (hagree c).2.1 (ix2 t e)).trans (hW c t e))
      (fun c a => (congrFun (hagree c).2.2.1 (ix1 a)).trans (hS c a))
      (fun c t e => (congrFun (hagree c).2.2.2 (ix2 t e)).trans (hO c t e))⟩

end Cert.AttnClaims
-- ==== Proof.Post.Head.lean ====
/-
  The gated norm's gradient: the mathematics of one row of one head, and what the kernel computes of a head's tile.
-/
module

public import proofs.«01_k».proof.Proof.Gen.PostKernelIdeal.Skeleton
public import proofs.«01_k».proof.Proof.Words
public import proofs.«01_k».proof.Proof.Reals
public import Idealize.ShloMosaic.Lib.Pointwise

@[expose] public section

set_option maxRecDepth 16384
noncomputable section

namespace Cert.PostGate
open Idealize.ShloMosaic Idealize.ShloMosaic.TcCoe Idealize.SL.Sem Cert.Words Cert.Reals

/-- The norm's small constant: the real number of its float word. -/
def eps : ℝ := 10995116 / 1099511627776

theorem word_eps : Ideal.ofBits .f32 0x3727C5AC#32 = (eps : EReal) := by
  unfold eps
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; try norm_num
theorem word_neg_half : Ideal.ofBits .f32 0xBF000000#32 = ((-(1 / 2) : ℝ) : EReal) := by
  simp [Ideal.ofBits, Ideal.ieee, -EReal.coe_mul]; norm_num

theorem rsqrt_pos (x : ℝ) (h : 0 < x) : Ideal.rsqrt (x : EReal) = (((Real.sqrt x)⁻¹ : ℝ) : EReal) := by
  rw [Ideal.rsqrt_coe, if_neg (not_lt.mpr h.le), if_neg h.ne']

/-- The logistic function. -/
def sg (x : ℝ) : ℝ := 1 / (1 + Real.exp (-x))

theorem one_add_exp (x : ℝ) : Ideal.div ((1 : ℝ) : EReal) (((1 : ℝ) : EReal) + Ideal.exp (-(x : EReal))) = (sg x : EReal) := by
  rw [← EReal.coe_neg, Ideal.exp_coe, ← EReal.coe_add, div_coe_coe _ _ (by positivity)]; rfl

theorem logistic_coe (x : ℝ) : Ideal.logistic (x : EReal) = (sg x : EReal) := one_add_exp x

/-- The mean square of a row, and the small constant. -/
def ms (o : Fin 128 → ℝ) : ℝ := (∑ l, o l * o l) / 128 + eps
theorem ms_pos (o : Fin 128 → ℝ) : 0 < ms o := by
  unfold ms eps
  have : 0 ≤ ∑ l, o l * o l := Finset.sum_nonneg fun l _ => mul_self_nonneg _
  positivity
/-- The factor that normalises a row. -/
def rs (o : Fin 128 → ℝ) : ℝ := (Real.sqrt (ms o))⁻¹
theorem rs_sq (o : Fin 128 → ℝ) : rs o * rs o = 1 / ms o := by
  unfold rs
  rw [← mul_inv, Real.mul_self_sqrt (ms_pos o).le, one_div]

/-- The gradient of a row before the norm, from that after it. -/
def gradRow (o d : Fin 128 → ℝ) (l : Fin 128) : ℝ := rs o * (d l - o l * rs o * ((∑ j, d j * (o j * rs o)) / 128))
/-- The gradient of the gate. -/
def gradGate (o : Fin 128 → ℝ) (l : Fin 128) (y n g : ℝ) : ℝ := y * (o l * rs o) * n * sg g * (1 + g * (1 - sg g))
/-- A row's part of the gradient of the norm's weights. -/
def gradNorm (o : Fin 128 → ℝ) (l : Fin 128) (y g : ℝ) : ℝ := y * g * sg g * (o l * rs o)

section tile
open Cert.PostKernelIdeal Cert.PostKernelIdeal.Gen

variable (va vb vg : FVec Ideal S512x128 .f32) (vy : FVec Ideal S512x128 .bf16) (vn : FVec Ideal S1x128 .f32)
  (a b g y : Fin 512 → Fin 128 → ℝ) (n : Fin 128 → ℝ)
  (ha : ∀ r l, va (ix2 r l) = (a r l : EReal)) (hb : ∀ r l, vb (ix2 r l) = (b r l : EReal))
  (hg : ∀ r l, vg (ix2 r l) = (g r l : EReal)) (hy : ∀ r l, vy (ix2 r l) = (y r l : EReal))
  (hn : ∀ l, vn (ix2 0 l) = (n l : EReal))

/-- What the kernel stores of a head's gradient. -/
def kDo : FVec Ideal S512x128 .f32 := k0_pay15 (k0_pay6 vn) (k0_pay8 va vb) (k0_pay11 va vb) (k0_pay13 vg vy)
/-- What it stores of a head's gates. -/
def kGate : FVec Ideal S512x128 .bf16 := k0_pay12 vn va vb vg vy
/-- What it adds up of a head for the norm's weights. -/
def kNorm : FVec Ideal S1x128 .f32 :=
  shapeCast S1x128 (multiReduction .add [0] S128 (mulf (k0_pay13 vg vy) (k0_pay11 va vb)) 0x00000000#32 reduces_S512x128_S128 (.inl rfl) rfl) shapeCasts_S128_S1x128

include ha hb in
theorem pay8_val (r : Fin 512) (z : Fin 1) : k0_pay8 (F := Ideal) va vb (ix2 r z) = (rs (fun l => a r l + b r l) : EReal) := by
  pointwise [k0_pay8, k0_pay7]
  simp only [ha, hb, ← EReal.coe_add, ← EReal.coe_mul, ← coe_sum]
  rw [word_128, word_eps, div_coe_coe _ _ (by norm_num), ← EReal.coe_add]
  exact rsqrt_pos _ (ms_pos _)

include ha hb in
theorem pay11_val (r : Fin 512) (l : Fin 128) : k0_pay11 (F := Ideal) va vb (ix2 r l) = (((a r l + b r l) * rs (fun l => a r l + b r l) : ℝ) : EReal) := by
  pointwise [k0_pay11]
  rw [pay8_val va vb a b ha hb]
  pointwise [k0_pay7]
  rw [ha, hb, ← EReal.coe_add, ← EReal.coe_mul]

include hg hy in
theorem pay13_val (r : Fin 512) (l : Fin 128) : k0_pay13 (F := Ideal) vg vy (ix2 r l) = ((y r l * g r l * sg (g r l) : ℝ) : EReal) := by
  pointwise [k0_pay13, k0_pay9, k0_pay10]
  rw [hg, hy, logistic_coe, ← EReal.coe_mul, ← EReal.coe_mul]

include ha hb hg hy hn in
theorem kGate_val (r : Fin 512) (l : Fin 128) : kGate va vb vg vy vn (ix2 r l)
    = (gradGate (fun l => a r l + b r l) l (y r l) (n l) (g r l) : EReal) := by
  unfold kGate gradGate
  pointwise [k0_pay12, k0_pay9, k0_pay10, k0_pay6]
  rw [pay11_val va vb a b ha hb, hg, hy, hn, logistic_coe, ← EReal.coe_one]
  simp only [← EReal.coe_mul, ← EReal.coe_sub, ← EReal.coe_add]

include ha hb hg hy in
theorem kNorm_val (l : Fin 128) (z : Fin 1) : kNorm va vb vg vy (ix2 z l)
    = ((∑ r, gradNorm (fun l => a r l + b r l) l (y r l) (g r l) : ℝ) : EReal) := by
  unfold kNorm gradNorm
  pointwise
  simp only [pay11_val va vb a b ha hb, pay13_val vg vy g y hg hy, ← EReal.coe_mul, ← coe_sum]

include ha hb hg hy hn in
theorem kDo_val (r : Fin 512) (l : Fin 128) : kDo va vb vg vy vn (ix2 r l)
    = (gradRow (fun l => a r l + b r l) (fun j => y r j * g r j * sg (g r j) * n j) l : EReal) := by
  unfold kDo gradRow
  pointwise [k0_pay15, k0_pay6]
  simp only [pay11_val va vb a b ha hb, pay13_val vg vy g y hg hy, pay8_val va vb a b ha hb, hn, word_128]
  simp only [← EReal.coe_mul, ← coe_sum]
  rw [div_coe_coe _ _ (by norm_num), ← EReal.coe_mul, ← EReal.coe_sub, ← EReal.coe_mul]

end tile

end Cert.PostGate
-- ==== Proof.Post.Kernel.lean ====
/-
  The gated norm's gradient: what the kernel's three results hold, as functions of its five arguments.
-/
module

public import proofs.«01_k».proof.Proof.Gen.PostKernelIdeal.Value
public import proofs.«01_k».proof.Proof.Post.Head
public import Idealize.ShloMosaic.Lib.Pipeline.ValueKit

@[expose] public section

set_option maxRecDepth 16384

noncomputable section

namespace Cert.PostKernelIdeal.Value

open Cert.PostKernelIdeal Cert.PostKernelIdeal.Gen Cert.PostGate Idealize.ShloMosaic Idealize.ShloMosaic.TcCoe Idealize.SL.Sem
open Idealize.ShloMosaic.Pipeline (Dat)

variable (m : (ℓ : Loc nD τ sig) → Buf (Elt Ideal) ℓ)

/-- The blocks that each grid point stages. -/
theorem idx : ∀ t : Fin cfg0.N, win0_0.index t = ![t.val, 0] ∧ win0_1.index t = ![t.val, 0]
    ∧ win0_2.index t = ![t.val, 0] ∧ win0_3.index t = ![t.val, 4] ∧ win0_4.index t = ![0, 0] ∧ win0_5.index t = ![t.val, 0]
    ∧ win0_6.index t = ![t.val, 0] ∧ win0_7.index t = ![0, 0] :=
  (by decide +kernel : ∀ t : Fin grid0.N, _)

/-- The columns of head `h` of a block of rows. -/
def col {e : EltTy} (x : Vec Ideal S512x1024 e) (h : Fin 8) : Vec Ideal S512x128 e :=
  View.ld x (Rect.unit ![0, 128 * h.val] ![512, 128] (by revert h; decide))

theorem col_apply {e : EltTy} (x : Vec Ideal S512x1024 e) (h : Fin 8) (r : Fin 512) (l : Fin 128) :
    col x h (ix2 r l) = x (ix2 r ⟨128 * h.val + l.val, by omega⟩) := by
  refine congrArg x (funext fun a => Fin.ext ?_)
  fin_cases a
  · exact (Nat.zero_add _).trans (Nat.one_mul _)
  · exact congrArg (128 * h.val + ·) (Nat.one_mul _)

/-- Lane `l` of the head that column `k` lies in. -/
def lane (k : Fin 1024) (l : Fin 128) : Fin 1024 := ⟨128 * (k.val / 128) + l.val, by omega⟩
/-- A column's lane in its head. -/
def inHead (k : Fin 1024) : Fin 128 := ⟨k.val % 128, by omega⟩

section
variable {n : ℕ} (a b g y : Fin n → Fin 1024 → ℝ) (w : Fin 128 → ℝ)

/-- The gradient of the recurrence's output. -/
def rDo (r : Fin n) (k : Fin 1024) : ℝ :=
  gradRow (fun l => a r (lane k l) + b r (lane k l)) (fun l => y r (lane k l) * g r (lane k l) * sg (g r (lane k l)) * w l) (inHead k)
/-- The gradient of the gates. -/
def rGate (r : Fin n) (k : Fin 1024) : ℝ :=
  gradGate (fun l => a r (lane k l) + b r (lane k l)) (inHead k) (y r k) (w (inHead k)) (g r k)
/-- The part of row `r` and head `h` in the gradient of the norm's weights. -/
def rNorm (r : Fin n) (h : Fin 8) (l : Fin 128) : ℝ :=
  gradNorm (fun j => a r ⟨128 * h.val + j.val, by omega⟩ + b r ⟨128 * h.val + j.val, by omega⟩) l
    (y r ⟨128 * h.val + l.val, by omega⟩) (g r ⟨128 * h.val + l.val, by omega⟩)
end

theorem lane_eq (k : Fin 1024) (h : Fin 8) (u : Fin 128) (e : k.val = 128 * h.val + u.val) (l : Fin 128) :
    lane k l = ⟨128 * h.val + l.val, by omega⟩ := Fin.ext (by show 128 * (k.val / 128) + l.val = 128 * h.val + l.val; omega)
theorem inHead_eq (k : Fin 1024) (h : Fin 8) (u : Fin 128) (e : k.val = 128 * h.val + u.val) : inHead k = u :=
  Fin.ext (by show k.val % 128 = u.val; omega)

section block
variable (x0 : Vec Ideal S512x1024 .bf16) (x1 x2 x3 : Vec Ideal S512x1024 .f32) (x4 : Vec Ideal S1x128 .f32)
  (a b g y : Fin 512 → Fin 1024 → ℝ) (w : Fin 128 → ℝ)
  (hy : ∀ r k, x0 (ix2 r k) = (y r k : EReal)) (ha : ∀ r k, x1 (ix2 r k) = (a r k : EReal))
  (hb : ∀ r k, x2 (ix2 r k) = (b r k : EReal)) (hg : ∀ r k, x3 (ix2 r k) = (g r k : EReal))
  (hw : ∀ l, x4 (ix2 0 l) = (w l : EReal))

include hy ha hb hg hw in
/-- A head's piece of the gradient of the recurrence's output. -/
theorem do_piece (h : Fin 8) (x : S512x128.Idx) (r : Fin 512) (k : Fin 1024) (h0 : r.val = (x 0).val) (h1 : k.val = 128 * h.val + (x 1).val) :
    kDo (col x1 h) (col x2 h) (col x3 h) (col x0 h) x4 x = (rDo a b g y w r k : EReal) := by
  obtain ⟨u, l, rfl⟩ : ∃ (u : Fin 512) (l : Fin 128), x = ix2 u l := ⟨x 0, x 1, by idx_vars x⟩
  have e0 : r = u := Fin.ext h0
  have e1 := lane_eq k h l h1
  have e2 := inHead_eq k h l h1
  subst e0
  rw [kDo_val _ _ _ _ _ (fun r l => a r ⟨128 * h.val + l.val, by omega⟩) (fun r l => b r ⟨128 * h.val + l.val, by omega⟩)
    (fun r l => g r ⟨128 * h.val + l.val, by omega⟩) (fun r l => y r ⟨128 * h.val + l.val, by omega⟩) w
    (fun r l => (col_apply x1 h r l).trans (ha _ _)) (fun r l => (col_apply x2 h r l).trans (hb _ _))
    (fun r l => (col_apply x3 h r l).trans (hg _ _)) (fun r l => (col_apply x0 h r l).trans (hy _ _)) hw]
  unfold rDo
  simp only [e1, e2]

include hy ha hb hg hw in
/-- A head's piece of the gradient of the gates. -/
theorem gate_piece (h : Fin 8) (x : S512x128.Idx) (r : Fin 512) (k : Fin 1024) (h0 : r.val = (x 0).val) (h1 : k.val = 128 * h.val + (x 1).val) :
    kGate (col x1 h) (col x2 h) (col x3 h) (col x0 h) x4 x = (rGate a b g y w r k : EReal) := by
  obtain ⟨u, l, rfl⟩ : ∃ (u : Fin 512) (l : Fin 128), x = ix2 u l := ⟨x 0, x 1, by idx_vars x⟩
  have e0 : r = u := Fin.ext h0
  have e1 := lane_eq k h l h1
  have e2 := inHead_eq k h l h1
  have e3 : k = ⟨128 * h.val + l.val, by omega⟩ := Fin.ext h1
  subst e0
  rw [kGate_val _ _ _ _ _ (fun r l => a r ⟨128 * h.val + l.val, by omega⟩) (fun r l => b r ⟨128 * h.val + l.val, by omega⟩)
    (fun r l => g r ⟨128 * h.val + l.val, by omega⟩) (fun r l => y r ⟨128 * h.val + l.val, by omega⟩) w
    (fun r l => (col_apply x1 h r l).trans (ha _ _)) (fun r l => (col_apply x2 h r l).trans (hb _ _))
    (fun r l => (col_apply x3 h r l).trans (hg _ _)) (fun r l => (col_apply x0 h r l).trans (hy _ _)) hw]
  unfold rGate
  simp only [e1, e2]
  rw [← e3]

/-- What a point stores of the norm's weights: what was there and the eight heads' parts, one after the other. -/
def kAcc (acc : Vec Ideal S1x128 .f32) : Vec Ideal S1x128 .f32 :=
  addf (shapeCast S1x128 acc shapeCasts_S1x128_S1x128)
    ([0, 1, 2, 3, 4, 5, 6, 7].foldl (fun v h => addf v (kNorm (col x1 h) (col x2 h) (col x3 h) (col x0 h)))
      (broadcast S1x128 (Scalar.ofBits .f32 0x00000000#32)))

include hy ha hb hg in
theorem kAcc_val (acc : Vec Ideal S1x128 .f32) (z : Fin 1) (l : Fin 128) :
    kAcc x0 x1 x2 x3 acc (ix2 z l) = acc (ix2 z l) + ((∑ h : Fin 8, ∑ r : Fin 512, rNorm a b g y r h l : ℝ) : EReal) := by
  have hn : ∀ h : Fin 8, kNorm (col x1 h) (col x2 h) (col x3 h) (col x0 h) (ix2 z l) = ((∑ r : Fin 512, rNorm a b g y r h l : ℝ) : EReal) := fun h => by
    rw [kNorm_val _ _ _ _ (fun r l => a r ⟨128 * h.val + l.val, by omega⟩) (fun r l => b r ⟨128 * h.val + l.val, by omega⟩)
      (fun r l => g r ⟨128 * h.val + l.val, by omega⟩) (fun r l => y r ⟨128 * h.val + l.val, by omega⟩)
      (fun r l => (col_apply x1 h r l).trans (ha _ _)) (fun r l => (col_apply x2 h r l).trans (hb _ _))
      (fun r l => (col_apply x3 h r l).trans (hg _ _)) (fun r l => (col_apply x0 h r l).trans (hy _ _))]
    rfl
  unfold kAcc
  simp only [List.foldl]
  pointwise
  simp only [hn]
  rw [Fin.sum_univ_eight]
  simp only [EReal.coe_add, zero_add]
end block

set_option maxHeartbeats 2000000 in
/-- The gradient of the recurrence's output that a point stores. -/
theorem outs_do (c : Dev nD) (t : Fin cfg0.N) (a b g y : Fin 512 → Fin 1024 → ℝ) (w : Fin 128 → ℝ)
    (hy : ∀ r k, iblk m c 0 t (ix2 r k) = (y r k : EReal)) (ha : ∀ r k, iblk m c 1 t (ix2 r k) = (a r k : EReal))
    (hb : ∀ r k, iblk m c 2 t (ix2 r k) = (b r k : EReal)) (hg : ∀ r k, iblk m c 3 t (ix2 r k) = (g r k : EReal))
    (hw : ∀ l, iblk m c 4 t (ix2 0 l) = (w l : EReal)) (r : Fin 512) (k : Fin 1024) :
    (outsAt0 m c t.val t.isLt).1 (ix2 r k) = (rDo a b g y w r k : EReal) := by
  have piece := fun h x h0 h1 => do_piece (iblk m c 0 t) (iblk m c 1 t) (iblk m c 2 t) (iblk m c 3 t) (iblk m c 4 t) a b g y w hy ha hb hg hw h x r k h0 h1
  by_cases h0 : t.val % 32 = 0
  on_goal 1 => rw [outsAt0_A m c t h0]
  on_goal 2 => rw [outsAt0_B m c t h0]
  all_goals
    frame_out
    canon_tiles x h
    case piece0 => exact Eq.trans rfl (piece 7 x h0 h1)
    case piece1 => exact Eq.trans rfl (piece 6 x h0 h1)
    case piece2 => exact Eq.trans rfl (piece 5 x h0 h1)
    case piece3 => exact Eq.trans rfl (piece 4 x h0 h1)
    case piece4 => exact Eq.trans rfl (piece 3 x h0 h1)
    case piece5 => exact Eq.trans rfl (piece 2 x h0 h1)
    case piece6 => exact Eq.trans rfl (piece 1 x h0 h1)
    case piece7 => exact Eq.trans rfl (piece 0 x h0 (h1.trans (Nat.zero_add _).symm))

set_option maxHeartbeats 2000000 in
/-- The gradient of the gates that a point stores. -/
theorem outs_gate (c : Dev nD) (t : Fin cfg0.N) (a b g y : Fin 512 → Fin 1024 → ℝ) (w : Fin 128 → ℝ)
    (hy : ∀ r k, iblk m c 0 t (ix2 r k) = (y r k : EReal)) (ha : ∀ r k, iblk m c 1 t (ix2 r k) = (a r k : EReal))
    (hb : ∀ r k, iblk m c 2 t (ix2 r k) = (b r k : EReal)) (hg : ∀ r k, iblk m c 3 t (ix2 r k) = (g r k : EReal))
    (hw : ∀ l, iblk m c 4 t (ix2 0 l) = (w l : EReal)) (r : Fin 512) (k : Fin 1024) :
    (outsAt0 m c t.val t.isLt).2.1 (ix2 r k) = (rGate a b g y w r k : EReal) := by
  have piece := fun h x h0 h1 => gate_piece (iblk m c 0 t) (iblk m c 1 t) (iblk m c 2 t) (iblk m c 3 t) (iblk m c 4 t) a b g y w hy ha hb hg hw h x r k h0 h1
  by_cases h0 : t.val % 32 = 0
  on_goal 1 => rw [outsAt0_A m c t h0]
  on_goal 2 => rw [outsAt0_B m c t h0]
  all_goals
    frame_out
    canon_tiles x h
    case piece0 => exact Eq.trans rfl (piece 7 x h0 h1)
    case piece1 => exact Eq.trans rfl (piece 6 x h0 h1)
    case piece2 => exact Eq.trans rfl (piece 5 x h0 h1)
    case piece3 => exact Eq.trans rfl (piece 4 x h0 h1)
    case piece4 => exact Eq.trans rfl (piece 3 x h0 h1)
    case piece5 => exact Eq.trans rfl (piece 2 x h0 h1)
    case piece6 => exact Eq.trans rfl (piece 1 x h0 h1)
    case piece7 => exact Eq.trans rfl (piece 0 x h0 (h1.trans (Nat.zero_add _).symm))

section arrays
variable (c : Dev nD) (a b g y : Fin 16384 → Fin 1024 → ℝ) (w : Fin 128 → ℝ)
  (ha : ∀ r k, m ((c : Thread nD τ).loc main_arg0) (ix2 r k) = (a r k : EReal))
  (hb : ∀ r k, m ((c : Thread nD τ).loc main_arg1) (ix2 r k) = (b r k : EReal))
  (hg : ∀ (r : Fin 16384) (k : Fin 1024), m ((c : Thread nD τ).loc main_arg2) (ix2 r ⟨4096 + k.val, Nat.add_lt_add_left k.isLt 4096⟩) = (g r k : EReal))
  (hw : ∀ l, m ((c : Thread nD τ).loc main_arg3) (ix1 l) = (w l : EReal))
  (hy : ∀ r k, m ((c : Thread nD τ).loc main_arg4) (ix2 r k) = (y r k : EReal))

/-- The row of the arrays that a row of point `t`'s block is. -/
def row (t : Fin cfg0.N) (r : Fin 512) : Fin 16384 := ⟨t.val * 512 + r.val, by have : t.val < 32 := t.isLt; omega⟩

include hy in
theorem blk0 (t : Fin cfg0.N) (r : Fin 512) (k : Fin 1024) : iblk m c 0 t (ix2 r k) = (y (row t r) k : EReal) := by
  rw [← hy]
  blk_point [iblk, V, idx t, row]
include ha in
theorem blk1 (t : Fin cfg0.N) (r : Fin 512) (k : Fin 1024) : iblk m c 1 t (ix2 r k) = (a (row t r) k : EReal) := by
  rw [← ha]
  blk_point [iblk, V, idx t, row]
include hb in
theorem blk2 (t : Fin cfg0.N) (r : Fin 512) (k : Fin 1024) : iblk m c 2 t (ix2 r k) = (b (row t r) k : EReal) := by
  rw [← hb]
  blk_point [iblk, V, idx t, row]
include hg in
theorem blk3 (t : Fin cfg0.N) (r : Fin 512) (k : Fin 1024) : iblk m c 3 t (ix2 r k) = (g (row t r) k : EReal) := by
  rw [← hg]
  blk_point [iblk, V, idx t, row]
include hw in
theorem blk4 (t : Fin cfg0.N) (l : Fin 128) : iblk m c 4 t (ix2 0 l) = (w l : EReal) := by
  rw [← hw]
  blk_point [iblk, V, idx t, row]

include ha hb hg hw hy in
/-- The gradient of the recurrence's output after the run. -/
theorem final5 : (dats m 0 c).arrAt 5 cfg0.N = fun i : S16384x1024.Idx => (rDo a b g y w (i 0) (i 1) : EReal) := by
  refine (dats m 0 c).arrAt_eq_of_covers 5 _ (by decide +kernel) fun t hf (x : S512x1024.Idx) => ?_
  blk_simp
  rw [after0_5]
  obtain ⟨r, k, rfl⟩ : ∃ (r : Fin 512) (k : Fin 1024), x = ix2 r k := ⟨x 0, x 1, by idx_vars x⟩
  rw [outs_do m c t _ _ _ _ w (blk0 m c y hy t) (blk1 m c a ha t) (blk2 m c b hb t) (blk3 m c g hg t) (blk4 m c w hw t)]
  have e : ((cfg0.win 5).blk t).view.emb (ix2 r k) = (ix2 (row t r) k : S16384x1024.Idx) := by blk_ext [idx t, row]
  rw [e]
  rfl

include ha hb hg hw hy in
/-- The gradient of the gates after the run. -/
theorem final6 : (dats m 0 c).arrAt 6 cfg0.N = fun i : S16384x1024.Idx => (rGate a b g y w (i 0) (i 1) : EReal) := by
  refine (dats m 0 c).arrAt_eq_of_covers 6 _ (by decide +kernel) fun t hf (x : S512x1024.Idx) => ?_
  blk_simp
  rw [after0_6]
  obtain ⟨r, k, rfl⟩ : ∃ (r : Fin 512) (k : Fin 1024), x = ix2 r k := ⟨x 0, x 1, by idx_vars x⟩
  rw [outs_gate m c t _ _ _ _ w (blk0 m c y hy t) (blk1 m c a ha t) (blk2 m c b hb t) (blk3 m c g hg t) (blk4 m c w hw t)]
  have e : ((cfg0.win 6).blk t).view.emb (ix2 r k) = (ix2 (row t r) k : S16384x1024.Idx) := by blk_ext [idx t, row]
  rw [e]
  rfl

/-- What point `t` adds to the gradient of the norm's weights. -/
def part (n : ℕ) (j : S1x128.Idx) : EReal :=
  ((∑ h : Fin 8, ∑ r : Fin 512, rNorm a b g y (⟨(n * 512 + r.val) % 16384, Nat.mod_lt _ (by decide)⟩ : Fin 16384) h (j 1) : ℝ) : EReal)

/-- The parts of all points are the sum over all rows. -/
theorem sum_parts (l : Fin 128) : (∑ s : Fin 32, ∑ h : Fin 8, ∑ r : Fin 512, rNorm a b g y (⟨((32 * 0 + s.val) * 512 + r.val) % 16384, Nat.mod_lt _ (by decide)⟩ : Fin 16384) h l)
    = ∑ h : Fin 8, ∑ r : Fin 16384, rNorm a b g y r h l := by
  rw [Finset.sum_comm]
  refine Finset.sum_congr rfl fun h _ => Fin.sum_mul_add_congr fun s r hl => ?_
  refine congrArg (fun u => rNorm a b g y u h l) (Fin.ext ?_)
  show ((32 * 0 + s.val) * 512 + r.val) % 16384 = s.val * 512 + r.val
  omega

theorem coe_parts (x : S1x128.Idx) : (∑ s : Fin 32, part a b g y (32 * 0 + s.val) x)
    = ((∑ s : Fin 32, ∑ h : Fin 8, ∑ r : Fin 512, rNorm a b g y (⟨((32 * 0 + s.val) * 512 + r.val) % 16384, Nat.mod_lt _ (by decide)⟩ : Fin 16384) h (x 1) : ℝ) : EReal) := by
  rw [Cert.Reals.coe_sum]
  rfl

include ha hb hg hy in
theorem kAcc_part (t : Fin cfg0.N) (acc : Vec Ideal S1x128 .f32) (j : S1x128.Idx) :
    kAcc (iblk m c 0 t) (iblk m c 1 t) (iblk m c 2 t) (iblk m c 3 t) acc j = acc j + part a b g y t.val j := by
  obtain ⟨z, l, rfl⟩ : ∃ (z : Fin 1) (l : Fin 128), j = ix2 z l := ⟨j 0, j 1, by idx_vars j⟩
  rw [kAcc_val _ _ _ _ _ _ _ _ (blk0 m c y hy t) (blk1 m c a ha t) (blk2 m c b hb t) (blk3 m c g hg t)]
  unfold part
  have e : ∀ r : Fin 512, (⟨(t.val * 512 + r.val) % 16384, Nat.mod_lt _ (by decide)⟩ : Fin 16384) = row t r := fun r =>
    Fin.ext (by have : t.val < 32 := t.isLt; show (t.val * 512 + r.val) % 16384 = t.val * 512 + r.val; omega)
  simp only [e]
  rfl

set_option maxHeartbeats 2000000 in
include ha hb hg hy in
/-- The gradient of the norm's weights after the run. -/
theorem final7 : (dats m 0 c).arrAt 7 cfg0.N = fun i : S1x128.Idx => ((∑ h : Fin 8, ∑ r : Fin 16384, rNorm a b g y r h (i 1) : ℝ) : EReal) := by
  refine (dats m 0 c).arrAt_eq_of_covers 7 _ (by decide +kernel) fun t hf (x : S1x128.Idx) => ?_
  blk_simp
  rw [after0_7, Pipeline.eq_sum_fin_of_reset_step_apply_of_flush (fun n h => (outsAt0 m c n h).2.2) 32 (fun _ => 0) (fun n j => part a b g y n.val j)
    (fun t h j => by
      rw [outsAt0_A m c t h]; frame_out
      refine Eq.trans (b := kAcc (iblk m c 0 t) (iblk m c 1 t) (iblk m c 2 t) (iblk m c 3 t) (k0_pay4 (F := Ideal)) j) rfl ?_
      rw [kAcc_part m c a b g y ha hb hg hy]
      congr 1
      pointwise [k0_pay4])
    (fun t h j => by
      rw [outsAt0_B m c t h]; frame_out
      refine Eq.trans (b := kAcc (iblk m c 0 t) (iblk m c 1 t) (iblk m c 2 t) (iblk m c 3 t) _ j) rfl ?_
      rw [kAcc_part m c a b g y ha hb hg hy])
    t ((flush0_7 t).mp hf) _, zero_add]
  have ht : t.val / 32 = 0 := Nat.div_eq_of_lt (lt_of_lt_of_eq t.isLt N_0)
  have ex : (((cfg0.win 7).blk t).view.emb x : S1x128.Idx) = x := by blk_ext [idx t]
  rw [ex]
  have e : ∀ s : Fin 32, 32 * (t.val / 32) + s.val = 32 * 0 + s.val := fun s => by rw [ht]
  refine (Fin.sum_fin_congr fun s => congrArg (fun n => part a b g y n x) (e s)).trans ?_
  exact (coe_parts a b g y x).trans (congrArg Real.toEReal (sum_parts a b g y (x 1)))

end arrays

end Cert.PostKernelIdeal.Value
-- ==== Proof.Post.Reference.lean ====
/-
  The gated norm's gradient: what the reference's three results are over real arguments.
-/
module

public import proofs.«01_k».proof.Proof.Gen.PostReferenceIdeal.Run
public import proofs.«01_k».proof.Proof.Post.Kernel

@[expose] public section

set_option maxRecDepth 16384

noncomputable section

namespace Cert.PostReferenceIdeal.Value

open Cert.PostReferenceIdeal Cert.PostReferenceIdeal.Gen Cert.PostGate Cert.Reals Idealize.ShloMosaic Idealize.ShloMosaic.TcCoe Idealize.ShloMosaic.StableHlo Idealize.SL.Sem
open Cert.PostKernelIdeal.Value (rDo rGate rNorm lane inHead)

/-- The host's sum over the first two of three axes. -/
theorem sum_first_two {n0 n1 n2 : ℕ} (h : (⟨3, ![n0, n1, n2]⟩ : Shape).ReducesTo [0, 1] ⟨1, ![n2]⟩) (v : (⟨3, ![n0, n1, n2]⟩ : Shape).Idx → EReal)
    (init : EReal) (k : Fin n2) : Ideal.hostReduceAdd h v init (ix1 k) = init + ∑ x : Fin n0, ∑ y : Fin n1, v (ix3 x y k) := by
  refine congrArg (init + ·) ?_
  refine (Finset.sum_filter_eq_sum_of_fiber _ (fun p : Fin n0 × Fin n1 => ix3 p.1 p.2 k) (fun _ _ e => Prod.ext (congrFun e 0) (congrFun e 1))
    (fun i => ⟨fun e => ⟨(i 0, i 1), ?_⟩, ?_⟩) v).trans (Fintype.sum_prod_type _)
  · funext a
    match a with
    | ⟨0, _⟩ => rfl
    | ⟨1, _⟩ => rfl
    | ⟨2, _⟩ => exact (congrFun e 0).symm
  · rintro ⟨p, rfl⟩
    funext b
    match b with
    | ⟨0, _⟩ => rfl

section values

variable (m : (ℓ : Loc nD τ sig) → Buf (Elt Ideal) ℓ) (c : Dev nD) (a b g y : Fin 16384 → Fin 1024 → ℝ) (w : Fin 128 → ℝ)
  (ha : ∀ r k, m ((c.tc : Thread nD τ).loc main_arg0) (ix2 r k) = (a r k : EReal))
  (hb : ∀ r k, m ((c.tc : Thread nD τ).loc main_arg1) (ix2 r k) = (b r k : EReal))
  (hg : ∀ (r : Fin 16384) (k : Fin 1024), m ((c.tc : Thread nD τ).loc main_arg2) (ix2 r ⟨4096 + k.val, Nat.add_lt_add_left k.isLt 4096⟩) = (g r k : EReal))
  (hw : ∀ l, m ((c.tc : Thread nD τ).loc main_arg3) (ix1 l) = (w l : EReal))
  (hy : ∀ r k, m ((c.tc : Thread nD τ).loc main_arg4) (ix2 r k) = (y r k : EReal))

theorem lane_comm (k : Fin 1024) (l : Fin 128) (h : k.val / 128 * 128 + l.val < 1024) : (⟨k.val / 128 * 128 + l.val, h⟩ : Fin 1024) = lane k l :=
  Fin.ext (congrArg (· + l.val) (Nat.mul_comm _ _))

/-- Lane `l` of head `h`. -/
abbrev headLane (h : Fin 8) (l : Fin 128) : Fin 1024 := ⟨128 * h.val + l.val, by omega⟩
theorem headLane_comm (h : Fin 8) (l : Fin 128) (e : h.val * 128 + l.val < 1024) : (⟨h.val * 128 + l.val, e⟩ : Fin 1024) = headLane h l :=
  Fin.ext (congrArg (· + l.val) (Nat.mul_comm _ _))

include hg in
theorem gate_headLane (r : Fin 16384) (h : Fin 8) (l : Fin 128) (e : 4096 + (h.val * 128 + l.val) < 5120) :
    m ((c.tc : Thread nD τ).loc main_arg2) (ix2 r ⟨4096 + (h.val * 128 + l.val), e⟩) = (g r (headLane h l) : EReal) := by
  rw [← headLane_comm h l (by omega)]
  exact hg r ⟨h.val * 128 + l.val, by omega⟩

include hg in
theorem gate_lane (r : Fin 16384) (k : Fin 1024) (l : Fin 128) (h : 4096 + (k.val / 128 * 128 + l.val) < 5120) :
    m ((c.tc : Thread nD τ).loc main_arg2) (ix2 r ⟨4096 + (k.val / 128 * 128 + l.val), h⟩) = (g r (lane k l) : EReal) := by
  rw [← lane_comm k l (by omega)]
  exact hg r ⟨k.val / 128 * 128 + l.val, by omega⟩

theorem one_add_exp_one (x : ℝ) : Ideal.div 1 (1 + Ideal.exp (-(x : EReal))) = (sg x : EReal) := one_add_exp x

/-- The mean square of a row, and the small constant, as the reference computes them. -/
theorem mean_val (o : Fin 128 → ℝ) : Ideal.div ((∑ l, o l * o l : ℝ) : EReal) ((128 : ℝ) : EReal) + (eps : EReal) = (ms o : EReal) := by
  rw [div_coe_coe _ _ (by norm_num), ← EReal.coe_add]; rfl

theorem rsqrt_mean (o : Fin 128 → ℝ) : Ideal.rsqrt (ms o : EReal) = (rs o : EReal) := rsqrt_pos _ (ms_pos _)

/-- The factor that the derivative of the reciprocal root brings. -/
theorem root_div (o : Fin 128 → ℝ) : Ideal.div (rs o : EReal) (ms o : EReal) = ((rs o * (rs o * rs o) : ℝ) : EReal) := by
  rw [div_coe_coe _ _ (ms_pos o).ne', rs_sq]
  congr 1
  ring

/-- The reference's sum of three parts is the kernel's difference. -/
theorem row_alg (o d : Fin 128 → ℝ) (l : Fin 128) (S : ℝ) (hS : S = ∑ j, o j * d j) :
    d l * rs o + o l * (S * (-(1 / 2) * (rs o * (rs o * rs o))) / 128) + S * (-(1 / 2) * (rs o * (rs o * rs o))) / 128 * o l = gradRow o d l := by
  unfold gradRow
  have : ∑ j, d j * (o j * rs o) = S * rs o := by
    rw [hS, Finset.sum_mul]
    exact Finset.sum_congr rfl fun j _ => by ring
  rw [this]
  ring

theorem div_128 (x : ℝ) : Ideal.div (x : EReal) ((128 : ℝ) : EReal) = ((x / 128 : ℝ) : EReal) := div_coe_coe _ _ (by norm_num)
theorem lane_inHead (k : Fin 1024) : lane k (inHead k) = k := Fin.ext (by show 128 * (k.val / 128) + k.val % 128 = k.val; omega)

include ha hb hg hw hy in
/-- The gradient of the recurrence's output. -/
theorem do_val (r : Fin 16384) (k : Fin 1024) : res_main_v47 m c (ix2 r k) = (rDo a b g y w r k : EReal) := by
  unfold res_main_v47
  pointwise
  simp only [lane_comm, gate_lane m c g hg, ha, hb, hg, hw, hy, one_add_exp_one, word_128, word_eps, word_neg_half, ← EReal.coe_add, ← EReal.coe_mul, ← coe_sum]
  have e := mean_val fun l => a r (lane k l) + b r (lane k l)
  simp only [e, rsqrt_mean, root_div, Finset.univ_unique, Finset.sum_singleton]
  simp only [← EReal.coe_mul, div_128, ← EReal.coe_add]
  refine congrArg Real.toEReal ?_
  have ek := lane_inHead k
  unfold rDo
  rw [← row_alg _ _ _ _ rfl]
  simp only [ek, mul_assoc]
  rfl

/-- The gradient of the gates, over real numbers. -/
theorem gate_alg (o : Fin 128 → ℝ) (l : Fin 128) (y n g : ℝ) :
    o l * rs o * n * y * sg g + g * (o l * rs o * n * y) * (sg g * (1 - sg g)) = gradGate o l y n g := by
  unfold gradGate
  ring

end values

section run

variable (m : (ℓ : Loc nD τ sig) → Buf (Elt Ideal) ℓ) (ρ : Dev nD → PrngReg) (a b g y : Dev nD → Fin 16384 → Fin 1024 → ℝ) (w : Dev nD → Fin 128 → ℝ)
  (hA : ∀ (c : Dev nD) r k, m ((c.tc : Thread nD τ).loc main_arg0) (ix2 r k) = (a c r k : EReal))
  (hB : ∀ (c : Dev nD) r k, m ((c.tc : Thread nD τ).loc main_arg1) (ix2 r k) = (b c r k : EReal))
  (hG : ∀ (c : Dev nD) (r : Fin 16384) (k : Fin 1024), m ((c.tc : Thread nD τ).loc main_arg2) (ix2 r ⟨4096 + k.val, Nat.add_lt_add_left k.isLt 4096⟩) = (g c r k : EReal))
  (hW : ∀ (c : Dev nD) l, m ((c.tc : Thread nD τ).loc main_arg3) (ix1 l) = (w c l : EReal))
  (hY : ∀ (c : Dev nD) r k, m ((c.tc : Thread nD τ).loc main_arg4) (ix2 r k) = (y c r k : EReal))

include hA hB hG hW hY in
/-- The reference's run, its results over the real numbers. -/
theorem run_reference : θ_run defs (onTc (τ := τ) (main (F := Ideal))) ⟨m, fun _ => 0, ρ⟩ (fun r => ∀ c : Dev nD,
      r.2.mem ((c.tc : Thread nD τ).loc main_v47) = (fun i : S16384x1024.Idx => (rDo (a c) (b c) (g c) (y c) (w c) (i 0) (i 1) : EReal))
      ∧ r.2.mem ((c.tc : Thread nD τ).loc main_v49) = (fun i : S16384x1024.Idx => (rGate (a c) (b c) (g c) (y c) (w c) (i 0) (i 1) : EReal))
      ∧ r.2.mem ((c.tc : Thread nD τ).loc main_v50) = (fun i : S1x128.Idx => ((∑ h : Fin 8, ∑ r : Fin 16384, rNorm (a c) (b c) (g c) (y c) r h (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r hr c => ?_) (Value.run m ρ)
  obtain ⟨h1, h2, h3, h4⟩ := hr c
  have ha := hA c
  have hb := hB c
  have hg := hG c
  have hw := hW c
  have hy := hY c
  refine ⟨h1.trans (funext fun i => ?_), h2.trans (funext fun i => ?_), h3.trans (funext fun i => ?_), h4⟩
  · obtain ⟨t, k, rfl⟩ : ∃ (t : Fin 16384) (k : Fin 1024), i = ix2 t k := ⟨i 0, i 1, by idx_vars i⟩
    exact do_val m c _ _ _ _ _ ha hb hg hw hy t k
  · obtain ⟨t, k, rfl⟩ : ∃ (t : Fin 16384) (k : Fin 1024), i = ix2 t k := ⟨i 0, i 1, by idx_vars i⟩
    clear h1 h2 h3 h4 hr hA hB hG hW hY
    pointwise
    simp only [lane_comm, gate_lane m c (g c) hg, ha, hb, hg, hw, hy, one_add_exp_one, word_128, word_eps, word_neg_half, ← EReal.coe_one, ← EReal.coe_add, ← EReal.coe_mul, ← EReal.coe_sub, ← coe_sum]
    have e := mean_val fun l => a c t (lane k l) + b c t (lane k l)
    simp only [e, rsqrt_mean, one_add_exp, ← EReal.coe_mul, ← EReal.coe_sub, ← EReal.coe_add]
    refine congrArg Real.toEReal ?_
    refine Eq.trans ?_ (gate_alg (fun l => a c t (lane k l) + b c t (lane k l)) (inHead k) (y c t k) (w c (inHead k)) (g c t k))
    simp only [lane_inHead]
    rfl
  · obtain ⟨z, k, rfl⟩ : ∃ (z : Fin 1) (k : Fin 128), i = ix2 z k := ⟨i 0, i 1, by idx_vars i⟩
    clear h1 h2 h3 h4 hr hA hB hG hW hY
    pointwise
    rw [sum_first_two]
    pointwise
    simp only [sum_first_two]
    pointwise
    simp only [headLane_comm, gate_headLane m c (g c) hg, ha, hb, hy, one_add_exp_one, word_128, word_eps, Finset.univ_unique, Finset.sum_singleton,
      ← EReal.coe_add, ← EReal.coe_mul, ← coe_sum, mean_val, rsqrt_mean]
    refine congrArg Real.toEReal ?_
    rw [Finset.sum_comm]
    refine Finset.sum_congr rfl fun h _ => Finset.sum_congr rfl fun u _ => ?_
    unfold rNorm gradNorm
    ring

end run

end Cert.PostReferenceIdeal.Value
-- ==== Proof.Post.Claims.lean ====
/-
  The claims about the gated norm's gradient: its frames, and the equality of the results of kernel and reference over finite arguments.
-/
module

public import proofs.«01_k».proof.Proof.Post.Kernel
public import proofs.«01_k».proof.Proof.Post.Reference
public import proofs.«01_k».proof.Proof.Finite
public import proofs.«01_k».proof.Proof.Gen.Pre_finite_post
public import proofs.«01_k».proof.Defs
public import Idealize.ShloMosaic.Lib.Claim

@[expose] public section

set_option maxRecDepth 16384

noncomputable section

namespace Cert.PostClaims

open Idealize.ShloMosaic Idealize.ShloMosaic.TcCoe Idealize.ShloMosaic.StableHlo Idealize.SL.Sem
open Cert.PostKernelIdeal Cert.PostKernelIdeal.Value

instance : Subsingleton Cert.Pre_finite_post.S_.Idx := ⟨fun a b => funext fun i => absurd i.isLt (by decide +revert)⟩

/-- The precondition over real numbers: every element of the five arguments is one. -/
theorem reals [Cert.Pre_finite_post.Facts] (a b : FVec Ideal S16384x1024 .f32) (g : FVec Ideal S16384x5120 .f32) (w : FVec Ideal S128 .f32)
    (y : FVec Ideal S16384x1024 .f32) (h : Cert.Pre_finite_post.fn (F := Ideal) a b g w y = fun _ => 1#1) :
    (∀ i, ∃ r : ℝ, a i = (r : EReal)) ∧ (∀ i, ∃ r : ℝ, b i = (r : EReal)) ∧ (∀ i, ∃ r : ℝ, g i = (r : EReal))
      ∧ (∀ i, ∃ r : ℝ, w i = (r : EReal)) ∧ (∀ i, ∃ r : ℝ, y i = (r : EReal)) := by
  have h0 := congrFun h (fun i => absurd i.isLt (by decide +revert))
  obtain ⟨h1, hy⟩ := IntOp.andi_eq_one.1 h0
  obtain ⟨h2, hw⟩ := IntOp.andi_eq_one.1 h1
  obtain ⟨h3, hg⟩ := IntOp.andi_eq_one.1 h2
  obtain ⟨ha, hb⟩ := IntOp.andi_eq_one.1 h3
  exact ⟨Cert.Finite.real_of_all a _ _ _ _ _ (fun _ => rfl) ha, Cert.Finite.real_of_all b _ _ _ _ _ (fun _ => rfl) hb,
    Cert.Finite.real_of_all g _ _ _ _ _ (fun _ => rfl) hg, Cert.Finite.real_of_all w _ _ _ _ _ (fun _ => rfl) hw,
    Cert.Finite.real_of_all y _ _ _ _ _ (fun _ => rfl) hy⟩

theorem frame_ideal : Cert.quiescent_PostKernelIdeal := fun m ρ _ => Cert.PostKernelIdeal.Gen.frame m ρ

theorem frame_reference : Cert.quiescent_PostReferenceIdeal := fun m ρ _ =>
  (θ_run Cert.PostReferenceIdeal.defs _ _).mono (fun r h => ⟨fun c => (h c).2.2.2, sem_eq_zero_of_no_sems (by decide) r.2⟩)
    (Cert.PostReferenceIdeal.Value.run m ρ)

/-- Kernel and reference give the same gradients of the recurrence's output, of the gates and of the norm's weights. -/
theorem algebraic : Cert.algebraic_PostKernelIdeal_PostReferenceIdeal_pre_finite_post := by
  intro m ρ m' ρ' hpre hagree
  have hr := fun c => reals _ _ _ _ _ (hpre c)
  choose a ha using fun c r k => (hr c).1 (ix2 r k)
  choose b hb using fun c r k => (hr c).2.1 (ix2 r k)
  choose g hg using fun c (r : Fin 16384) (k : Fin 1024) => (hr c).2.2.1 (ix2 r ⟨4096 + k.val, by omega⟩)
  choose w hw using fun c l => (hr c).2.2.2.1 (ix1 l)
  choose y hy using fun c r k => (hr c).2.2.2.2 (ix2 r k)
  refine ⟨fun c => (fun i : S16384x1024.Idx => (rDo (a c) (b c) (g c) (y c) (w c) (i 0) (i 1) : EReal)),
    fun c => (fun i : S16384x1024.Idx => (rGate (a c) (b c) (g c) (y c) (w c) (i 0) (i 1) : EReal)),
    fun c => (fun i : S1x128.Idx => ((∑ h : Fin 8, ∑ r : Fin 16384, rNorm (a c) (b c) (g c) (y c) r h (i 1) : ℝ) : EReal)), ?_,
    Cert.PostReferenceIdeal.Value.run_reference m' ρ' a b g y w (fun c r k => (congrFun (hagree c).1 (ix2 r k)).trans (ha c r k))
      (fun c r k => (congrFun (hagree c).2.1 (ix2 r k)).trans (hb c r k))
      (fun c r k => (congrFun (hagree c).2.2.1 (ix2 r ⟨4096 + k.val, by omega⟩)).trans (hg c r k))
      (fun c l => (congrFun (hagree c).2.2.2.1 (ix1 l)).trans (hw c l))
      (fun c r k => (congrFun (hagree c).2.2.2.2 (ix2 r k)).trans (hy c r k))⟩
  exact (θ_run defs _ _).mono (fun r h c => ⟨(h c).1.trans (final5 m c (a c) (b c) (g c) (y c) (w c) (ha c) (hb c) (hg c) (hw c) (hy c)),
    (h c).2.1.trans (final6 m c (a c) (b c) (g c) (y c) (w c) (ha c) (hb c) (hg c) (hw c) (hy c)),
    (h c).2.2.1.trans (final7 m c (a c) (b c) (g c) (y c) (ha c) (hb c) (hg c) (hy c)), (h c).2.2.2⟩) (run_blocks m ρ)

end Cert.PostClaims

end
-- ==== Proof.Bounds.Column.lean ====
/-
  The lower bounds' gradient of one column over the real numbers: the softmax over the four layers, its running sum, and the
  gradient of both; and the rewritings that lead the kernel's and the reference's operations to it.
-/
module

public import proofs.«01_k».proof.Proof.Reals
public import Idealize.ShloMosaic.PureOps.Ideal
public import Idealize.ShloMosaic.Lib.Pointwise

@[expose] public section

noncomputable section

namespace Cert.BoundsColumn

open Idealize.ShloMosaic Cert.Reals

/-- What the softmax receives: layer `i` reaches the running sums of the layers from `i` on, layer 0 none. -/
def above (d : Fin 4 → ℝ) : Fin 4 → ℝ := ![0, d 1 + d 2 + d 3, d 2 + d 3, d 3]

/-- The gradient of a column of logits. -/
def grad (l d : Fin 4 → ℝ) (i : Fin 4) : ℝ :=
  Real.exp (l i) / (∑ j, Real.exp (l j)) * (above d i - ∑ j, Real.exp (l j) / (∑ n, Real.exp (l n)) * above d j)

theorem sum_exp_pos (l : Fin 4 → ℝ) : 0 < ∑ j, Real.exp (l j) := Finset.sum_pos (fun _ _ => Real.exp_pos _) ⟨0, Finset.mem_univ _⟩

/-- The softmax does not change with the value taken off its logits. -/
theorem soft_shift (l : Fin 4 → ℝ) (m : ℝ) (i : Fin 4) :
    Real.exp (l i - m) / (∑ j, Real.exp (l j - m)) = Real.exp (l i) / ∑ j, Real.exp (l j) := by
  simp only [Real.exp_sub, ← Finset.sum_div]
  exact div_div_div_cancel_right₀ (Real.exp_ne_zero m) _ _

/-- The maximum of four real numbers is one. -/
theorem fold_max (f : Fin 4 → EReal) (l : Fin 4 → ℝ) (h : ∀ i, f i = (l i : EReal)) :
    ∃ m : ℝ, (Finset.univ : Finset (Fin 4)).fold max (⊥ : EReal) f = (m : EReal) := by
  rw [show (Finset.univ : Finset (Fin 4)) = insert 0 {1, 2, 3} from rfl, Finset.fold_insert (by decide), h 0, max_comm]
  exact exists_max_coe _ (fold_max_ne_top _ _ fun i => by rw [h i]; exact EReal.coe_ne_top _) _

/-- The reference's gradient: through the quotient, its numerator and its denominator apart. -/
theorem grad_quotient (l d : Fin 4 → ℝ) (m : ℝ) (i : Fin 4) :
    (above d i / (∑ j, Real.exp (l j - m)) - ∑ j, above d j * (1 / ((∑ n, Real.exp (l n - m)) * ∑ n, Real.exp (l n - m))) * Real.exp (l j - m))
      * Real.exp (l i - m) = grad l d i := by
  unfold grad
  simp only [← soft_shift l m]
  have hz := (sum_exp_pos fun j => l j - m).ne'
  generalize ∑ j, Real.exp (l j - m) = z at hz ⊢
  have e : ∑ j, above d j * (1 / (z * z)) * Real.exp (l j - m) = (∑ j, Real.exp (l j - m) / z * above d j) / z := by
    rw [Finset.sum_div]
    refine Finset.sum_congr rfl fun j _ => ?_
    field_simp
  rw [e]
  field_simp

end Cert.BoundsColumn

end
-- ==== Proof.Bounds.Kernel.lean ====
/-
  The lower bounds' gradient: what the kernel's result holds, as a function of its two arguments.
-/
module

public import proofs.«01_k».proof.Proof.Gen.BoundsKernelIdeal.Value
public import proofs.«01_k».proof.Proof.Bounds.Column
public import Idealize.ShloMosaic.Lib.Pipeline.ValueKit

@[expose] public section

set_option maxRecDepth 16384

noncomputable section

namespace Cert.BoundsKernelIdeal.Value

open Cert.BoundsKernelIdeal Cert.BoundsKernelIdeal.Gen Cert.BoundsColumn Cert.Reals Idealize.ShloMosaic Idealize.ShloMosaic.TcCoe Idealize.SL.Sem

/-- The logits without their maximum, exponentiated. -/
def kExp (x : FVec Ideal S4x2048 .f32) : FVec Ideal S4x2048 .f32 :=
  exp (subf (shapeCast S4x2048 x shapeCasts_S4x2048_S4x2048) (broadcastTo S4x2048 (shapeCast S1x2048
    (multiReduction .maximumf [0] S2048 (shapeCast S4x2048 x shapeCasts_S4x2048_S4x2048) 0xFF800000#32 reduces_S4x2048_S2048 (.inl rfl) rfl)
    shapeCasts_S2048_S1x2048) broadcasts_S1x2048_S4x2048))
/-- A row of column sums, in every row. -/
def kSum (x : FVec Ideal S4x2048 .f32) : FVec Ideal S4x2048 .f32 :=
  broadcastTo S4x2048 (shapeCast S1x2048 (multiReduction .add [0] S2048 x 0x00000000#32 reduces_S4x2048_S2048 (.inl rfl) rfl)
    shapeCasts_S2048_S1x2048) broadcasts_S1x2048_S4x2048
/-- Row `i` of the second argument. -/
def kRow1 (y : FVec Ideal S4x2048 .f32) : FVec Ideal S1x2048 .f32 :=
  extractStridedSlice S1x2048 ![1, 0] (shapeCast S4x2048 y shapeCasts_S4x2048_S4x2048) slices_S4x2048_o1_0_S1x2048
@[inherit_doc kRow1] def kRow2 (y : FVec Ideal S4x2048 .f32) : FVec Ideal S1x2048 .f32 :=
  extractStridedSlice S1x2048 ![2, 0] (shapeCast S4x2048 y shapeCasts_S4x2048_S4x2048) slices_S4x2048_o2_0_S1x2048
@[inherit_doc kRow1] def kRow3 (y : FVec Ideal S4x2048 .f32) : FVec Ideal S1x2048 .f32 :=
  extractStridedSlice S1x2048 ![3, 0] (shapeCast S4x2048 y shapeCasts_S4x2048_S4x2048) slices_S4x2048_o3_0_S1x2048
/-- What the softmax receives. -/
def kAbove (y : FVec Ideal S4x2048 .f32) : FVec Ideal S4x2048 .f32 :=
  concatenate S4x2048 0 [⟨S1x2048, broadcast S1x2048 (Scalar.ofBits .f32 0x00000000#32)⟩,
    ⟨S1x2048, addf (addf (kRow1 y) (kRow2 y)) (kRow3 y)⟩, ⟨S1x2048, addf (kRow2 y) (kRow3 y)⟩, ⟨S1x2048, kRow3 y⟩]
    concatenates_S1x2048_S1x2048_S1x2048_S1x2048_S4x2048_d0
/-- The softmax. -/
def kSoft (x : FVec Ideal S4x2048 .f32) : FVec Ideal S4x2048 .f32 := divf (kExp x) (kSum (kExp x))

/-- The kernel's computation in these terms. -/
theorem pay_eq (x y : FVec Ideal S4x2048 .f32) :
    k0_pay1 (F := Ideal) x y = mulf (kSoft x) (subf (kAbove y) (kSum (mulf (kSoft x) (kAbove y)))) := rfl

section column

variable (x y : FVec Ideal S4x2048 .f32) (l d : Fin 4 → ℝ) (k : Fin 2048)
  (hl : ∀ i, x (ix2 i k) = (l i : EReal)) (hd : ∀ i, y (ix2 i k) = (d i : EReal))

include hl in
theorem exp_val : ∃ m : ℝ, ∀ i, kExp x (ix2 i k) = (Real.exp (l i - m) : EReal) := by
  obtain ⟨m, hm⟩ := fold_max (fun i => (l i : EReal)) l fun _ => rfl
  refine ⟨m, fun i => ?_⟩
  pointwise [kExp]
  simp only [word_bot, hm, hl, ← EReal.coe_sub]
  rfl

include hl in
theorem sum_val (i : Fin 4) : kSum x (ix2 i k) = ((∑ j, l j : ℝ) : EReal) := by
  pointwise [kSum]
  simp only [hl, coe_sum]

include hd in
theorem above_val (i : Fin 4) : kAbove y (ix2 i k) = (above d i : EReal) := by
  fin_cases i <;> pointwise [kAbove, kRow1, kRow2, kRow3, hd, above] <;> simp only [EReal.coe_add, EReal.coe_zero]

include hl in
theorem soft_val (i : Fin 4) : kSoft x (ix2 i k) = ((Real.exp (l i) / ∑ j, Real.exp (l j) : ℝ) : EReal) := by
  obtain ⟨m, hm⟩ := exp_val x l k hl
  rw [← soft_shift l m i]
  have e : kSoft x (ix2 i k) = Ideal.div (kExp x (ix2 i k)) (kSum (kExp x) (ix2 i k)) := rfl
  rw [e, sum_val (kExp x) (fun i => Real.exp (l i - m)) k hm i, hm, div_coe_coe _ _ (sum_exp_pos _).ne']

include hl hd in
/-- A column of the kernel's result. -/
theorem pay_val (i : Fin 4) : k0_pay1 (F := Ideal) x y (ix2 i k) = (grad l d i : EReal) := by
  have e := pay_eq x y
  have hs := soft_val x l k hl
  have ha := above_val y d k hd
  have h1 : kSum (mulf (kSoft x) (kAbove y)) (ix2 i k) = _ :=
    sum_val _ (fun i => Real.exp (l i) / (∑ j, Real.exp (l j)) * above d i) k
      (fun j => show (kSoft x (ix2 j k) : EReal) * kAbove y (ix2 j k) = _ by rw [hs, ha, ← EReal.coe_mul]) i
  rw [e]
  show (kSoft x (ix2 i k) : EReal) * (kAbove y (ix2 i k) - kSum (mulf (kSoft x) (kAbove y)) (ix2 i k)) = _
  rw [h1, hs, ha, ← EReal.coe_sub, ← EReal.coe_mul]
  rfl

end column

section run

variable (m : (ℓ : Loc nD τ sig) → Buf (Elt Ideal) ℓ) (c : Dev nD) (l d : Fin 4 → Fin 2 → Fin 1024 → ℝ)
  (hl : ∀ i p q, m ((c : Thread nD τ).loc main_arg0) (ix3 i p q) = (l i p q : EReal))
  (hd : ∀ i p q, m ((c : Thread nD τ).loc main_arg1) (ix3 i p q) = (d i p q : EReal))

/-- The direction and the lane of a column. -/
abbrev half (k : Fin 2048) : Fin 2 := ⟨k.val / 1024, by omega⟩
@[inherit_doc half] abbrev rest (k : Fin 2048) : Fin 1024 := ⟨k.val % 1024, by omega⟩

theorem idx : ∀ t : Fin cfg0.N, win0_0.index t = ![0, 0] ∧ win0_1.index t = ![0, 0] ∧ win0_2.index t = ![0, 0] :=
  (by decide +kernel : ∀ t : Fin grid0.N, _)

include hl in
theorem blk0 (t : Fin cfg0.N) (i : Fin 4) (k : Fin 2048) : iblk m c 0 t (ix2 i k) = (l i (half k) (rest k) : EReal) := by
  refine Eq.trans ?_ (hl i (half k) (rest k))
  blk_point [iblk, V, idx t]

include hd in
theorem blk1 (t : Fin cfg0.N) (i : Fin 4) (k : Fin 2048) : iblk m c 1 t (ix2 i k) = (d i (half k) (rest k) : EReal) := by
  refine Eq.trans ?_ (hd i (half k) (rest k))
  blk_point [iblk, V, idx t]

/-- The rectangle of a whole array reads the array. -/
theorem whole (v : Vec Ideal S4x2048 .f32) : View.ld v r0_0 = v := by
  refine funext fun x => congrArg v (funext fun a => Fin.ext ?_)
  fin_cases a <;> exact (Nat.zero_add _).trans (Nat.one_mul _)

include hl hd in
/-- The result after the run. -/
theorem final2 : (dats m 0 c).arrAt 2 cfg0.N =
    fun i : S4x2048.Idx => (grad (fun j => l j (half (i 1)) (rest (i 1))) (fun j => d j (half (i 1)) (rest (i 1))) (i 0) : EReal) := by
  refine (dats m 0 c).arrAt_eq_of_covers 2 _ (by decide +kernel) fun t hf (x : S4x2048.Idx) => ?_
  blk_simp
  rw [after0_2]
  obtain ⟨i, k, rfl⟩ : ∃ (i : Fin 4) (k : Fin 2048), x = ix2 i k := ⟨x 0, x 1, by idx_vars x⟩
  have e : ((cfg0.win 2).blk t).view.emb (ix2 i k) = (ix2 i k : S4x2048.Idx) := by blk_ext [idx t]
  rw [e]
  refine Eq.trans ?_ (pay_val (iblk m c 0 t) (iblk m c 1 t) (fun j => l j (half k) (rest k)) (fun j => d j (half k) (rest k)) k
    (fun j => blk0 m c l hl t j k) (fun j => blk1 m c d hd t j k) i)
  unfold out0_2
  canon_tiles
  have ex : x = ix2 i k := funext fun a => Fin.ext (by fin_cases a; exacts [h0.symm, h1.symm])
  rw [ex, whole, whole]

end run

end Cert.BoundsKernelIdeal.Value

end
-- ==== Proof.Bounds.Reference.lean ====
/-
  The lower bounds' gradient: what the reference's result is over real arguments.
-/
module

public import proofs.«01_k».proof.Proof.Gen.BoundsReferenceIdeal.Run
public import proofs.«01_k».proof.Proof.Bounds.Kernel

@[expose] public section

set_option maxRecDepth 16384

noncomputable section

namespace Cert.BoundsReferenceIdeal.Value

open Cert.BoundsReferenceIdeal Cert.BoundsReferenceIdeal.Gen Cert.BoundsColumn Cert.Reals Idealize.ShloMosaic Idealize.ShloMosaic.TcCoe
open Idealize.ShloMosaic.StableHlo Idealize.SL.Sem
open Cert.BoundsKernelIdeal.Value (half rest)

/-- The four positions of a window over the layers. -/
theorem window_pos : (List.finRange (⟨3, ![4, 1, 1]⟩ : Shape).numel).map (fun n => ((⟨3, ![4, 1, 1]⟩ : Shape).rowMajor.symm n : (⟨3, ![4, 1, 1]⟩ : Shape).Idx))
    = [ix3 0 0 0, ix3 1 0 0, ix3 2 0 0, ix3 3 0 0] := by
  decide +kernel

/-- The sum over the window of the layers from `i` on. -/
theorem window_sum (x : FVec Ideal S4x2x1024 .f32) (v : FVec Ideal S_ .f32) (d : Fin 4 → ℝ) (p : Fin 2) (q : Fin 1024)
    (hx : ∀ i, x (ix3 i p q) = (d i : EReal)) (hv : ∀ j, v j = (0 : EReal)) (i : Fin 4) :
    Host.reduceWindowAdd ![4, 1, 1] ![1, 1, 1] ![0, 0, 0] ![3, 0, 0] x v reduceWindows_S4x2x1024_S4x2x1024_w4s1p0_3_w1s1p0_0_w1s1p0_0 h_S_ (ix3 i p q)
      = ((above d i + if i = 0 then ∑ j, d j else 0 : ℝ) : EReal) := by
  let g : EReal → (⟨3, ![4, 1, 1]⟩ : Shape).Idx → EReal := fun r w =>
    r + if h : i.val + (w 0).val < 4 then x (ix3 ⟨i.val + (w 0).val, h⟩ p q) else 0
  have e : Host.reduceWindowAdd ![4, 1, 1] ![1, 1, 1] ![0, 0, 0] ![3, 0, 0] x v reduceWindows_S4x2x1024_S4x2x1024_w4s1p0_3_w1s1p0_0_w1s1p0_0 h_S_ (ix3 i p q)
      = ((List.finRange (⟨3, ![4, 1, 1]⟩ : Shape).numel).map (fun n => ((⟨3, ![4, 1, 1]⟩ : Shape).rowMajor.symm n : (⟨3, ![4, 1, 1]⟩ : Shape).Idx))).foldl g 0 := by
    rw [List.foldl_map]
    show List.foldl _ (v _) _ = _
    rw [hv]
    refine congrArg (fun f => List.foldl f (0 : EReal) _) (funext fun r => funext fun n => ?_)
    refine congrArg (r + ·) ?_
    have w1 : ((⟨3, ![4, 1, 1]⟩ : Shape).rowMajor.symm n 1).val = 0 := Nat.lt_one_iff.mp ((⟨3, ![4, 1, 1]⟩ : Shape).rowMajor.symm n 1).isLt
    have w2 : ((⟨3, ![4, 1, 1]⟩ : Shape).rowMajor.symm n 2).val = 0 := Nat.lt_one_iff.mp ((⟨3, ![4, 1, 1]⟩ : Shape).rowMajor.symm n 2).isLt
    by_cases h : i.val + ((⟨3, ![4, 1, 1]⟩ : Shape).rowMajor.symm n 0).val < 4
    · rw [dif_pos h]
      refine (dif_pos (fun a => ?_)).trans (congrArg x (funext fun a => Fin.ext ?_))
      · fin_cases a
        · exact ⟨Nat.zero_le _, show i.val * 1 + ((⟨3, ![4, 1, 1]⟩ : Shape).rowMajor.symm n 0).val - 0 < 4 by omega⟩
        · exact ⟨Nat.zero_le _, show p.val * 1 + ((⟨3, ![4, 1, 1]⟩ : Shape).rowMajor.symm n 1).val - 0 < 2 by omega⟩
        · exact ⟨Nat.zero_le _, show q.val * 1 + ((⟨3, ![4, 1, 1]⟩ : Shape).rowMajor.symm n 2).val - 0 < 1024 by omega⟩
      · fin_cases a
        · show i.val * 1 + ((⟨3, ![4, 1, 1]⟩ : Shape).rowMajor.symm n 0).val - 0 = i.val + ((⟨3, ![4, 1, 1]⟩ : Shape).rowMajor.symm n 0).val; omega
        · show p.val * 1 + ((⟨3, ![4, 1, 1]⟩ : Shape).rowMajor.symm n 1).val - 0 = p.val; omega
        · show q.val * 1 + ((⟨3, ![4, 1, 1]⟩ : Shape).rowMajor.symm n 2).val - 0 = q.val; omega
    · rw [dif_neg h]
      exact dif_neg fun hin => h (by have h0 : i.val * 1 + ((⟨3, ![4, 1, 1]⟩ : Shape).rowMajor.symm n 0).val - 0 < 4 := (hin 0).2; omega)
  rw [e, window_pos]
  fin_cases i <;> simp [g, above, hx, Fin.sum_univ_four, Fin.ext_iff]

/-- The logits without their maximum, exponentiated. -/
def rExp (x : FVec Ideal S4x2x1024 .f32) : FVec Ideal S4x2x1024 .f32 :=
  Host.exp (subf x (broadcastInDim S4x2x1024 ![0, 1, 2] bcast_S1x2x1024_S4x2x1024_0_1_2 (broadcastInDim S1x2x1024 ![1, 2] bcast_S2x1024_S1x2x1024_1_2
    (maximumf (broadcastInDim S2x1024 ![] bcast_S_S2x1024 (constant S_ .f32 0xFF800000#32))
      (Host.reduce FloatOps.maximumf x (constant S_ .f32 0xFF800000#32) reducesTo_S4x2x1024_S2x1024_d0 h_S_)))))
/-- Column sums. -/
def rSum (e : FVec Ideal S4x2x1024 .f32) : FVec Ideal S2x1024 .f32 :=
  Host.reduceAdd e (constant S_ .f32 0x00000000#32) reducesTo_S4x2x1024_S2x1024_d0 h_S_
/-- What the softmax receives. -/
def rAbove (y : FVec Ideal S4x2x1024 .f32) : FVec Ideal S4x2x1024 .f32 :=
  addf (pad S4x2x1024 ![0, 0, 0] ![3, 0, 0] ![0, 0, 0] (shapeCast S1x2x1024 (rSum (Host.negf y)) shapeCasts_S2x1024_S1x2x1024)
      (constant S_ .f32 0x00000000#32) pads_S1x2x1024_S4x2x1024_030_000_000 h_S_)
    (Host.reduceWindowAdd ![4, 1, 1] ![1, 1, 1] ![0, 0, 0] ![3, 0, 0] (shapeCast S4x2x1024 y shapeCasts_S4x2x1024_S4x2x1024)
      (broadcastInDim S_ ![] bcast_S_S_ (constant S_ .f32 0x00000000#32)) reduceWindows_S4x2x1024_S4x2x1024_w4s1p0_3_w1s1p0_0_w1s1p0_0 h_S_)
/-- The sum of the exponentials, as a row. -/
def rRow (e : FVec Ideal S4x2x1024 .f32) : FVec Ideal S1x2x1024 .f32 :=
  broadcastInDim S1x2x1024 ![1, 2] bcast_S2x1024_S1x2x1024_1_2 (rSum e)
/-- What each numerator receives through the denominator, before the sum. -/
def rDen (e a : FVec Ideal S4x2x1024 .f32) : FVec Ideal S4x2x1024 .f32 :=
  mulf (mulf a (broadcastInDim S4x2x1024 ![0, 1, 2] bcast_S1x2x1024_S4x2x1024_0_1_2
    (Host.divf (broadcastInDim S1x2x1024 ![] bcast_S_S1x2x1024 (constant S_ .f32 0x3F800000#32)) (mulf (rRow e) (rRow e))))) e
/-- The gradient, from the exponentials and what the softmax receives. -/
def rGrad (e a : FVec Ideal S4x2x1024 .f32) : FVec Ideal S4x2x1024 .f32 :=
  mulf (addf (Host.divf a (broadcastInDim S4x2x1024 ![0, 1, 2] bcast_S1x2x1024_S4x2x1024_0_1_2 (rRow e)))
    (broadcastInDim S4x2x1024 ![1, 2] bcast_S2x1024_S4x2x1024_1_2 (Host.reduceAdd (Host.negf (shapeCast S1x2x1024 (rSum (rDen e a)) shapeCasts_S2x1024_S1x2x1024))
      (constant S_ .f32 0x00000000#32) reducesTo_S1x2x1024_S2x1024_d0 h_S_))) e

section column

variable (x y e a : FVec Ideal S4x2x1024 .f32) (l d : Fin 4 → ℝ) (p : Fin 2) (q : Fin 1024)

theorem rExp_val (hx : ∀ i, x (ix3 i p q) = (l i : EReal)) : ∃ m : ℝ, ∀ i, rExp x (ix3 i p q) = (Real.exp (l i - m) : EReal) := by
  obtain ⟨m, hm⟩ := fold_max (fun i => (l i : EReal)) l fun _ => rfl
  refine ⟨m, fun i => ?_⟩
  pointwise [rExp]
  simp only [word_bot, bot_sup_eq, hx]
  rw [hm, ← EReal.coe_sub]
  rfl

theorem rSum_val (hx : ∀ i, x (ix3 i p q) = (l i : EReal)) : rSum x (ix2 p q) = ((∑ j, l j : ℝ) : EReal) := by
  pointwise [rSum]
  simp only [hx, coe_sum]

theorem rAbove_val (hy : ∀ i, y (ix3 i p q) = (d i : EReal)) (i : Fin 4) : rAbove y (ix3 i p q) = (above d i : EReal) := by
  have h1 := window_sum y (broadcastInDim S_ ![] bcast_S_S_ (constant S_ .f32 0x00000000#32)) d p q
    hy (fun j => by pointwise) i
  have h2 := rSum_val (Host.negf y) (fun j => -d j) p q fun j => by pointwise [hy]; rfl
  pointwise [rAbove, h2]
  rw [h1]
  by_cases h : i.val < 1
  · rw [dif_pos h, if_pos (Fin.ext (by show i.val = 0; omega)), ← EReal.coe_add, Finset.sum_neg_distrib]
    exact congrArg Real.toEReal (by ring)
  · rw [dif_neg h, if_neg fun h0 => h (by rw [h0]; decide), add_zero, zero_add]

theorem rGrad_val (m : ℝ) (he : ∀ i, e (ix3 i p q) = (Real.exp (l i - m) : EReal)) (ha : ∀ i, a (ix3 i p q) = (above d i : EReal)) (i : Fin 4) :
    rGrad e a (ix3 i p q) = (grad l d i : EReal) := by
  have hz := (sum_exp_pos fun j => l j - m)
  have hs := rSum_val e (fun j => Real.exp (l j - m)) p q he
  have hd : ∀ j, rDen e a (ix3 j p q) = ((above d j * (1 / ((∑ n, Real.exp (l n - m)) * ∑ n, Real.exp (l n - m))) * Real.exp (l j - m) : ℝ) : EReal) := fun j => by
    pointwise [rDen, rRow, hs, ha, he]
    rw [← EReal.coe_mul, ← EReal.coe_one, div_coe_coe _ _ (mul_pos hz hz).ne', ← EReal.coe_mul, ← EReal.coe_mul]
  have hr := rSum_val (rDen e a) _ p q hd
  pointwise [rGrad, rRow, hs, ha, he, hr]
  simp only [Finset.univ_unique, Finset.sum_singleton]
  rw [div_coe_coe _ _ hz.ne', ← EReal.coe_neg, ← EReal.coe_add, ← EReal.coe_mul, ← grad_quotient l d m i]
  exact congrArg Real.toEReal (by ring)

end column

section run

variable (m : (ℓ : Loc nD τ sig) → Buf (Elt Ideal) ℓ) (c : Dev nD) (l d : Fin 4 → Fin 2 → Fin 1024 → ℝ)
  (hl : ∀ i p q, m ((c.tc : Thread nD τ).loc main_arg0) (ix3 i p q) = (l i p q : EReal))
  (hd : ∀ i p q, m ((c.tc : Thread nD τ).loc main_arg1) (ix3 i p q) = (d i p q : EReal))

include hl hd in
theorem out_val (i : Fin 4) (k : Fin 2048) :
    res_main_v51 m c (ix2 i k) = (grad (fun j => l j (half k) (rest k)) (fun j => d j (half k) (rest k)) i : EReal) := by
  have e : res_main_v51 m c = shapeCast S4x2048 (rGrad (rExp (m ((c.tc : Thread nD τ).loc main_arg0))) (rAbove (m ((c.tc : Thread nD τ).loc main_arg1))))
      shapeCasts_S4x2x1024_S4x2048 := rfl
  obtain ⟨z, hz⟩ := rExp_val (m ((c.tc : Thread nD τ).loc main_arg0)) (fun j => l j (half k) (rest k)) (half k) (rest k) fun j => hl j _ _
  have h1 := rGrad_val (rExp (m ((c.tc : Thread nD τ).loc main_arg0))) (rAbove (m ((c.tc : Thread nD τ).loc main_arg1)))
    (fun j => l j (half k) (rest k)) (fun j => d j (half k) (rest k)) (half k) (rest k) z hz
    (rAbove_val (m ((c.tc : Thread nD τ).loc main_arg1)) _ (half k) (rest k) fun j => hd j _ _) i
  rw [e, ← h1]
  pointwise

end run

end Cert.BoundsReferenceIdeal.Value

end
-- ==== Proof.Bounds.Claims.lean ====
/-
  The claims about the lower bounds' gradient: its frames, and the equality of the results of kernel and reference over finite arguments.
-/
module

public import proofs.«01_k».proof.Proof.Bounds.Kernel
public import proofs.«01_k».proof.Proof.Bounds.Reference
public import proofs.«01_k».proof.Proof.Finite
public import proofs.«01_k».proof.Proof.Gen.Pre_finite_bounds
public import proofs.«01_k».proof.Defs
public import Idealize.ShloMosaic.Lib.Claim

@[expose] public section

set_option maxRecDepth 16384

noncomputable section

namespace Cert.BoundsClaims

open Idealize.ShloMosaic Idealize.ShloMosaic.TcCoe Idealize.ShloMosaic.StableHlo Idealize.SL.Sem
open Cert.BoundsKernelIdeal Cert.BoundsKernelIdeal.Value Cert.BoundsColumn

instance : Subsingleton Cert.Pre_finite_bounds.S_.Idx := ⟨fun a b => funext fun i => absurd i.isLt (by decide +revert)⟩

/-- The precondition over real numbers: every element of both arguments is one. -/
theorem reals [Cert.Pre_finite_bounds.Facts] (x y : FVec Ideal S4x2x1024 .f32) (h : Cert.Pre_finite_bounds.fn (F := Ideal) x y = fun _ => 1#1) :
    (∀ i, ∃ r : ℝ, x i = (r : EReal)) ∧ (∀ i, ∃ r : ℝ, y i = (r : EReal)) := by
  have h0 := congrFun h (fun i => absurd i.isLt (by decide +revert))
  obtain ⟨hx, hy⟩ := IntOp.andi_eq_one.1 h0
  exact ⟨Cert.Finite.real_of_all x _ _ _ _ _ (fun _ => rfl) hx, Cert.Finite.real_of_all y _ _ _ _ _ (fun _ => rfl) hy⟩

theorem frame_ideal : Cert.quiescent_BoundsKernelIdeal := fun m ρ _ => Cert.BoundsKernelIdeal.Gen.frame m ρ

theorem frame_reference : Cert.quiescent_BoundsReferenceIdeal := fun m ρ _ =>
  (θ_run Cert.BoundsReferenceIdeal.defs _ _).mono (fun r h => ⟨fun c => (h c).2, sem_eq_zero_of_no_sems (by decide) r.2⟩)
    (Cert.BoundsReferenceIdeal.Value.run m ρ)

/-- Kernel and reference give the same gradient of the lower bounds' logits. -/
theorem algebraic : Cert.algebraic_BoundsKernelIdeal_BoundsReferenceIdeal_pre_finite_bounds := by
  intro m ρ m' ρ' hpre hagree
  have hr := fun c => reals _ _ (hpre c)
  choose l hl using fun c i p q => (hr c).1 (ix3 i p q)
  choose d hd using fun c i p q => (hr c).2 (ix3 i p q)
  refine ⟨fun c => (fun i : S4x2048.Idx => (grad (fun j => l c j (half (i 1)) (rest (i 1))) (fun j => d c j (half (i 1)) (rest (i 1))) (i 0) : EReal)),
    (θ_run Cert.BoundsKernelIdeal.defs _ _).mono (fun r h c => ⟨(h c).1.trans (final2 m c (l c) (d c) (hl c) (hd c)), (h c).2⟩) (run_blocks m ρ),
    (θ_run Cert.BoundsReferenceIdeal.defs _ _).mono (fun r h c => ⟨(h c).1.trans (funext fun i => ?_), (h c).2⟩)
      (Cert.BoundsReferenceIdeal.Value.run m' ρ')⟩
  obtain ⟨a, k, rfl⟩ : ∃ (a : Fin 4) (k : Fin 2048), i = ix2 a k := ⟨i 0, i 1, by idx_vars i⟩
  exact Cert.BoundsReferenceIdeal.Value.out_val m' c (l c) (d c) (fun j p q => (congrFun (hagree c).1 (ix3 j p q)).trans (hl c j p q))
    (fun j p q => (congrFun (hagree c).2 (ix3 j p q)).trans (hd c j p q)) a k

end Cert.BoundsClaims

end
-- ==== Proof.Logistic.lean ====
/-
  The logistic function, the reciprocal root and the float words of the gates and the norms, over real numbers.
-/
module

public import proofs.«01_k».proof.Proof.Words
public import proofs.«01_k».proof.Proof.Reals
public import Idealize.ShloMosaic.Lib.Pointwise

@[expose] public section

noncomputable section

namespace Cert.Logistic

open Idealize.ShloMosaic Cert.Words Cert.Reals

/-- The norm's small constant: the real number of its float word. -/
def eps : ℝ := 10995116 / 1099511627776

theorem word_eps : Ideal.ofBits .f32 0x3727C5AC#32 = (eps : EReal) := by
  unfold eps
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; try norm_num
theorem word_neg_half : Ideal.ofBits .f32 0xBF000000#32 = ((-(1 / 2) : ℝ) : EReal) := by
  simp [Ideal.ofBits, Ideal.ieee, -EReal.coe_mul]; norm_num

theorem rsqrt_pos (x : ℝ) (h : 0 < x) : Ideal.rsqrt (x : EReal) = (((Real.sqrt x)⁻¹ : ℝ) : EReal) := by
  rw [Ideal.rsqrt_coe, if_neg (not_lt.mpr h.le), if_neg h.ne']

/-- The logistic function. -/
def sg (x : ℝ) : ℝ := 1 / (1 + Real.exp (-x))

theorem one_add_exp (x : ℝ) : Ideal.div ((1 : ℝ) : EReal) (((1 : ℝ) : EReal) + Ideal.exp (-(x : EReal))) = (sg x : EReal) := by
  rw [← EReal.coe_neg, Ideal.exp_coe, ← EReal.coe_add, div_coe_coe _ _ (by positivity)]; rfl

theorem one_add_exp_one (x : ℝ) : Ideal.div 1 (1 + Ideal.exp (-(x : EReal))) = (sg x : EReal) := one_add_exp x

theorem logistic_coe (x : ℝ) : Ideal.logistic (x : EReal) = (sg x : EReal) := one_add_exp x

/-- The derivative of `x · sg x`. -/
def dsilu (x : ℝ) : ℝ := sg x * (1 + x * (1 - sg x))

end Cert.Logistic

end
-- ==== Proof.Ffn.Kernel.lean ====
/-
  The gradient of the feed-forward's gate: what the kernel's two results hold, as functions of its arguments.
-/
module

public import proofs.«01_k».proof.Proof.Gen.FfnKernelIdeal.Value
public import proofs.«01_k».proof.Proof.Logistic
public import Idealize.ShloMosaic.Lib.Pipeline.ValueKit

@[expose] public section

set_option maxRecDepth 16384

noncomputable section

namespace Cert.FfnKernelIdeal.Value

open Cert.FfnKernelIdeal Cert.FfnKernelIdeal.Gen Cert.Logistic Cert.Reals Idealize.ShloMosaic Idealize.ShloMosaic.TcCoe Idealize.SL.Sem
open Idealize.ShloMosaic.StableHlo
open Idealize.ShloMosaic.Pipeline (Dat)

/-- What the hidden layer receives. -/
def dh {n k : ℕ} (y : Fin n → Fin 1024 → ℝ) (w : Fin k → Fin 1024 → ℝ) (r : Fin n) (j : Fin k) : ℝ := ∑ e, y r e * w j e

section block
variable (x0 : Vec Ideal S512x1024 .bf16) (x1 : Vec Ideal S1408x1024 .bf16) (x2 : Vec Ideal S512x1408 .bf16)
  (y : Fin 512 → Fin 1024 → ℝ) (w : Fin 1408 → Fin 1024 → ℝ) (s : Fin 512 → Fin 1408 → ℝ)
  (h0 : ∀ r e, x0 (ix2 r e) = (y r e : EReal)) (h1 : ∀ j e, x1 (ix2 j e) = (w j e : EReal)) (h2 : ∀ r j, x2 (ix2 r j) = (s r j : EReal))

include h0 h1 in
theorem pay1_val (r : Fin 512) (j : Fin 1408) : k0_pay1 (F := Ideal) x0 x1 (ix2 r j) = (dh y w r j : EReal) := by
  pointwise [k0_pay1]
  simp only [h0, h1, ← EReal.coe_mul, ← coe_sum]
  rfl

include h0 h1 h2 in
theorem pay2_val (r : Fin 512) (j : Fin 1408) : k0_pay2 (F := Ideal) x0 x1 x2 (ix2 r j) = ((dh y w r j * s r j : ℝ) : EReal) := by
  pointwise [k0_pay2]
  rw [pay1_val x0 x1 y w h0 h1, h2, EReal.coe_mul]

/-- A whole block, read as one. -/
theorem whole0 : View.ld x0 r0_0 = x0 := by
  funext i
  exact congrArg x0 (funext fun a => Fin.ext (by fin_cases a <;> exact (Nat.zero_add _).trans (Nat.one_mul _)))
theorem whole1 : View.ld x1 r0_1 = x1 := by
  funext i
  exact congrArg x1 (funext fun a => Fin.ext (by fin_cases a <;> exact (Nat.zero_add _).trans (Nat.one_mul _)))
theorem whole2 : View.ld x2 r0_2 = x2 := by
  funext i
  exact congrArg x2 (funext fun a => Fin.ext (by fin_cases a <;> exact (Nat.zero_add _).trans (Nat.one_mul _)))

include h0 h1 h2 in
/-- What a point stores. -/
theorem out_val (r : Fin 512) (j : Fin 1408) : out0_4 (F := Ideal) x0 x1 x2 x2 (ix2 r j) = ((dh y w r j * s r j : ℝ) : EReal) := by
  refine Eq.trans ?_ (pay2_val x0 x1 x2 y w s h0 h1 h2 r j)
  unfold out0_4
  canon_tiles x e
  have ex : x = ix2 r j := funext fun a => Fin.ext (by fin_cases a; exacts [e0.symm, e1.symm])
  rw [ex, whole0, whole1, whole2]
end block

section host
variable (A : Valuation τ sig (Elt Ideal)) (g u : Fin 16384 → Fin 2816 → ℝ)

theorem host13 (r : Fin 16384) (e : Fin 1024) : (after hostOps0 A (Proc.devRef .tc main_v13) : FVec Ideal S16384x1024 .bf16) (ix2 r e)
    = (A (Proc.devRef .tc main_arg3) : FVec Ideal S16384x1024 .f32) (ix2 r e) := by
  after_results_simp
  rfl
theorem host14 (k : Fin 2816) (e : Fin 1024) : (after hostOps0 A (Proc.devRef .tc main_v14) : FVec Ideal S2816x1024 .bf16) (ix2 k e)
    = (A (Proc.devRef .tc main_arg2) : FVec Ideal S2816x1024 .f32) (ix2 k e) := by
  after_results_simp
  rfl
/-- The derivatives that the forward lines save. -/
theorem host15 (r : Fin 16384) (k : Fin 2816) (hg : (A (Proc.devRef .tc main_arg0) : FVec Ideal S16384x2816 .f32) (ix2 r k) = (g r k : EReal))
    (hu : (A (Proc.devRef .tc main_arg1) : FVec Ideal S16384x2816 .f32) (ix2 r k) = (u r k : EReal)) :
    (after hostOps0 A (Proc.devRef .tc main_v15) : FVec Ideal S16384x2816 .bf16) (ix2 r k) = ((u r k * dsilu (g r k) : ℝ) : EReal) := by
  after_results_simp
  pointwise
  rw [hg, hu, one_add_exp_one, ← EReal.coe_one]
  unfold dsilu
  simp only [← EReal.coe_mul, ← EReal.coe_sub, ← EReal.coe_add]
  exact congrArg Real.toEReal (by ring)
theorem host17 (r : Fin 16384) (k : Fin 2816) (hg : (A (Proc.devRef .tc main_arg0) : FVec Ideal S16384x2816 .f32) (ix2 r k) = (g r k : EReal)) :
    (after hostOps0 A (Proc.devRef .tc main_v17) : FVec Ideal S16384x2816 .bf16) (ix2 r k) = ((g r k * sg (g r k) : ℝ) : EReal) := by
  after_results_simp
  pointwise
  rw [hg, one_add_exp_one, ← EReal.coe_mul]
end host

section arrays
variable (m : (ℓ : Loc nD τ sig) → Buf (Elt Ideal) ℓ) (c : Dev nD)
  (g u : Fin 16384 → Fin 2816 → ℝ) (w : Fin 2816 → Fin 1024 → ℝ) (y : Fin 16384 → Fin 1024 → ℝ)
  (hg : ∀ r k, m ((c : Thread nD τ).loc main_arg0) (ix2 r k) = (g r k : EReal))
  (hu : ∀ r k, m ((c : Thread nD τ).loc main_arg1) (ix2 r k) = (u r k : EReal))
  (hw : ∀ k e, m ((c : Thread nD τ).loc main_arg2) (ix2 k e) = (w k e : EReal))
  (hy : ∀ r e, m ((c : Thread nD τ).loc main_arg3) (ix2 r e) = (y r e : EReal))

/-- The blocks that each grid point stages. -/
theorem idx : ∀ t : Fin cfg0.N, win0_0.index t = ![t.val % 32, 0] ∧ win0_1.index t = ![t.val / 32, 0]
    ∧ win0_2.index t = ![t.val % 32, t.val / 32] ∧ win0_3.index t = ![t.val % 32, t.val / 32]
    ∧ win0_4.index t = ![t.val % 32, t.val / 32] ∧ win0_5.index t = ![t.val % 32, t.val / 32] :=
  (by decide +kernel : ∀ t : Fin grid0.N, _)

/-- The row of the arrays that a row of point `t`'s block is. -/
def row (t : Fin cfg0.N) (r : Fin 512) : Fin 16384 := ⟨t.val % 32 * 512 + r.val, by omega⟩
/-- The hidden unit that a column of point `t`'s block is. -/
def unit (t : Fin cfg0.N) (j : Fin 1408) : Fin 2816 := ⟨t.val / 32 * 1408 + j.val, by have : t.val < 64 := t.isLt; omega⟩

include hy in
theorem blk0 (t : Fin cfg0.N) (r : Fin 512) (e : Fin 1024) : iblk m c 0 t (ix2 r e) = (y (row t r) e : EReal) := by
  rw [← hy, ← host13 (fun b => m (c, b))]
  blk_point [iblk, idx t, row]
include hw in
theorem blk1 (t : Fin cfg0.N) (j : Fin 1408) (e : Fin 1024) : iblk m c 1 t (ix2 j e) = (w (unit t j) e : EReal) := by
  rw [← hw, ← host14 (fun b => m (c, b))]
  blk_point [iblk, idx t, unit]
include hg hu in
theorem blk2 (t : Fin cfg0.N) (r : Fin 512) (j : Fin 1408) : iblk m c 2 t (ix2 r j) = ((u (row t r) (unit t j) * dsilu (g (row t r) (unit t j)) : ℝ) : EReal) := by
  rw [← host15 (fun b => m (c, b)) g u _ _ (hg _ _) (hu _ _)]
  blk_point [iblk, idx t, row, unit]
include hg in
theorem blk3 (t : Fin cfg0.N) (r : Fin 512) (j : Fin 1408) : iblk m c 3 t (ix2 r j) = ((g (row t r) (unit t j) * sg (g (row t r) (unit t j)) : ℝ) : EReal) := by
  rw [← host17 (fun b => m (c, b)) g _ _ (hg _ _)]
  blk_point [iblk, idx t, row, unit]

include hg hu hw hy in
/-- The gradient of the gate's half after the run. -/
theorem final4 : (dats m 0 c).arrAt 4 cfg0.N = fun i : S16384x2816.Idx => ((dh y w (i 0) (i 1) * (u (i 0) (i 1) * dsilu (g (i 0) (i 1))) : ℝ) : EReal) := by
  refine (dats m 0 c).arrAt_eq_of_covers 4 _ (by decide +kernel) fun t hf (x : S512x1408.Idx) => ?_
  blk_simp
  rw [after0_4]
  obtain ⟨r, j, rfl⟩ : ∃ (r : Fin 512) (j : Fin 1408), x = ix2 r j := ⟨x 0, x 1, by idx_vars x⟩
  have e : ((cfg0.win 4).blk t).view.emb (ix2 r j) = (ix2 (row t r) (unit t j) : S16384x2816.Idx) := by blk_ext [idx t, row, unit]
  rw [e]
  exact out_val (iblk m c 0 t) (iblk m c 1 t) (iblk m c 2 t) _ _ _ (blk0 m c y hy t) (blk1 m c w hw t) (blk2 m c g u hg hu t) r j

include hg hw hy in
/-- The gradient of the other half after the run. -/
theorem final5 : (dats m 0 c).arrAt 5 cfg0.N = fun i : S16384x2816.Idx => ((dh y w (i 0) (i 1) * (g (i 0) (i 1) * sg (g (i 0) (i 1))) : ℝ) : EReal) := by
  refine (dats m 0 c).arrAt_eq_of_covers 5 _ (by decide +kernel) fun t hf (x : S512x1408.Idx) => ?_
  blk_simp
  rw [after0_5]
  obtain ⟨r, j, rfl⟩ : ∃ (r : Fin 512) (j : Fin 1408), x = ix2 r j := ⟨x 0, x 1, by idx_vars x⟩
  have e : ((cfg0.win 5).blk t).view.emb (ix2 r j) = (ix2 (row t r) (unit t j) : S16384x2816.Idx) := by blk_ext [idx t, row, unit]
  rw [e]
  exact out_val (iblk m c 0 t) (iblk m c 1 t) (iblk m c 3 t) _ _ _ (blk0 m c y hy t) (blk1 m c w hw t) (blk3 m c g hg t) r j

end arrays

end Cert.FfnKernelIdeal.Value

end
-- ==== Proof.Ffn.Reference.lean ====
/-
  The gradient of the feed-forward's gate: what the reference's two results are over real arguments.
-/
module

public import proofs.«01_k».proof.Proof.Gen.FfnReferenceIdeal.Run
public import proofs.«01_k».proof.Proof.Ffn.Kernel

@[expose] public section

set_option maxRecDepth 16384

noncomputable section

namespace Cert.FfnReferenceIdeal.Value

open Cert.FfnReferenceIdeal Cert.FfnReferenceIdeal.Gen Cert.Logistic Cert.Reals Idealize.ShloMosaic Idealize.ShloMosaic.TcCoe
open Idealize.ShloMosaic.StableHlo Idealize.SL.Sem
open Cert.FfnKernelIdeal.Value (dh)

/-- The gate, as the reference computes it. -/
def rSg (vg : FVec Ideal S16384x2816 .f32) : FVec Ideal S16384x2816 .f32 :=
  Host.divf (broadcastInDim S16384x2816 ![] bcast_S_S16384x2816 (constant S_ .f32 0x3F800000#32))
    (addf (broadcastInDim S16384x2816 ![] bcast_S_S16384x2816 (constant S_ .f32 0x3F800000#32)) (Host.exp (Host.negf vg)))
/-- What the hidden layer receives. -/
def rDh (vy : FVec Ideal S16384x1024 .f32) (vw : FVec Ideal S2816x1024 .f32) : FVec Ideal S16384x2816 .f32 :=
  Host.dotGeneral dot_S16384x1024_S2816x1024_S16384x2816_1_1_0_0_n_n none vy vw

section block

variable (vg vu : FVec Ideal S16384x2816 .f32) (vw : FVec Ideal S2816x1024 .f32) (vy : FVec Ideal S16384x1024 .f32)
  (g u : Fin 16384 → Fin 2816 → ℝ) (w : Fin 2816 → Fin 1024 → ℝ) (y : Fin 16384 → Fin 1024 → ℝ)
  (hg : ∀ r k, vg (ix2 r k) = (g r k : EReal)) (hu : ∀ r k, vu (ix2 r k) = (u r k : EReal))
  (hw : ∀ k e, vw (ix2 k e) = (w k e : EReal)) (hy : ∀ r e, vy (ix2 r e) = (y r e : EReal))

include hg in
theorem rSg_val (r : Fin 16384) (k : Fin 2816) : rSg vg (ix2 r k) = (sg (g r k) : EReal) := by
  pointwise [rSg]
  rw [hg, one_add_exp_one]

include hw hy in
theorem rDh_val (r : Fin 16384) (k : Fin 2816) : rDh vy vw (ix2 r k) = (dh y w r k : EReal) := by
  pointwise [rDh]
  simp only [hw, hy, ← EReal.coe_mul, ← coe_sum]
  rfl

include hg hu hw hy in
theorem gate_val (r : Fin 16384) (k : Fin 2816) :
    (truncf .bf16 (addf (mulf (mulf (rDh vy vw) vu) (rSg vg)) (mulf (mulf vg (mulf (rDh vy vw) vu)) (mulf (rSg vg)
      (subf (broadcastInDim S16384x2816 ![] bcast_S_S16384x2816 (constant S_ .f32 0x3F800000#32)) (rSg vg))))) bitsLt_bf16_f32 : FVec Ideal S16384x2816 .bf16) (ix2 r k)
      = ((dh y w r k * (u r k * dsilu (g r k)) : ℝ) : EReal) := by
  have hs := rSg_val vg g hg
  have hd := rDh_val vw vy w y hw hy
  pointwise
  rw [hs, hd, hg, hu, ← EReal.coe_one]
  unfold dsilu
  simp only [← EReal.coe_mul, ← EReal.coe_sub, ← EReal.coe_add]
  exact congrArg Real.toEReal (by ring)

include hg hw hy in
theorem half_val (r : Fin 16384) (k : Fin 2816) :
    (truncf .bf16 (mulf (mulf vg (rSg vg)) (rDh vy vw)) bitsLt_bf16_f32 : FVec Ideal S16384x2816 .bf16) (ix2 r k)
      = ((dh y w r k * (g r k * sg (g r k)) : ℝ) : EReal) := by
  have hs := rSg_val vg g hg
  have hd := rDh_val vw vy w y hw hy
  pointwise
  rw [hs, hd, hg]
  simp only [← EReal.coe_mul]
  exact congrArg Real.toEReal (by ring)

end block

section run

variable (m : (ℓ : Loc nD τ sig) → Buf (Elt Ideal) ℓ) (ρ : Dev nD → PrngReg)
  (g u : Dev nD → Fin 16384 → Fin 2816 → ℝ) (w : Dev nD → Fin 2816 → Fin 1024 → ℝ) (y : Dev nD → Fin 16384 → Fin 1024 → ℝ)
  (hg : ∀ (c : Dev nD) r k, m ((c.tc : Thread nD τ).loc main_arg0) (ix2 r k) = (g c r k : EReal))
  (hu : ∀ (c : Dev nD) r k, m ((c.tc : Thread nD τ).loc main_arg1) (ix2 r k) = (u c r k : EReal))
  (hw : ∀ (c : Dev nD) k e, m ((c.tc : Thread nD τ).loc main_arg2) (ix2 k e) = (w c k e : EReal))
  (hy : ∀ (c : Dev nD) r e, m ((c.tc : Thread nD τ).loc main_arg3) (ix2 r e) = (y c r e : EReal))

include hg hu hw hy in
theorem run_reference : θ_run defs (onTc (τ := τ) (main (F := Ideal))) ⟨m, fun _ => 0, ρ⟩ fun r => ∀ c : Dev nD,
      r.2.mem ((c.tc : Thread nD τ).loc main_v7) = (fun i : S16384x2816.Idx => ((dh (y c) (w c) (i 0) (i 1) * (u c (i 0) (i 1) * dsilu (g c (i 0) (i 1))) : ℝ) : EReal))
      ∧ r.2.mem ((c.tc : Thread nD τ).loc main_v8) = (fun i : S16384x2816.Idx => ((dh (y c) (w c) (i 0) (i 1) * (g c (i 0) (i 1) * sg (g c (i 0) (i 1))) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext fun i => ?_), (h c).2.1.trans (funext fun i => ?_), (h c).2.2⟩) (run m ρ)
  all_goals obtain ⟨a, k, rfl⟩ : ∃ (a : Fin 16384) (k : Fin 2816), i = ix2 a k := ⟨i 0, i 1, by idx_vars i⟩
  · exact gate_val _ _ _ _ (g c) (u c) (w c) (y c) (hg c) (hu c) (hw c) (hy c) a k
  · exact half_val _ _ _ (g c) (w c) (y c) (hg c) (hw c) (hy c) a k

end run

end Cert.FfnReferenceIdeal.Value

end
-- ==== Proof.Ffn.Claims.lean ====
/-
  The claims about the gradient of the feed-forward's gate: its frames, and the equality of the results of kernel and reference over
  finite arguments.
-/
module

public import proofs.«01_k».proof.Proof.Ffn.Kernel
public import proofs.«01_k».proof.Proof.Ffn.Reference
public import proofs.«01_k».proof.Proof.Finite
public import proofs.«01_k».proof.Proof.Gen.Pre_finite_ffn
public import proofs.«01_k».proof.Defs
public import Idealize.ShloMosaic.Lib.Claim

@[expose] public section

set_option maxRecDepth 16384

noncomputable section

namespace Cert.FfnClaims

open Idealize.ShloMosaic Idealize.ShloMosaic.TcCoe Idealize.ShloMosaic.StableHlo Idealize.SL.Sem
open Cert.FfnKernelIdeal Cert.FfnKernelIdeal.Value Cert.Logistic

instance : Subsingleton Cert.Pre_finite_ffn.S_.Idx := ⟨fun a b => funext fun i => absurd i.isLt (by decide +revert)⟩

/-- The precondition over real numbers: every element of the four arguments is one. -/
theorem reals [Cert.Pre_finite_ffn.Facts] (g u : FVec Ideal S16384x2816 .f32) (w : FVec Ideal S2816x1024 .f32) (y : FVec Ideal S16384x1024 .f32)
    (h : Cert.Pre_finite_ffn.fn (F := Ideal) g u w y = fun _ => 1#1) :
    (∀ i, ∃ r : ℝ, g i = (r : EReal)) ∧ (∀ i, ∃ r : ℝ, u i = (r : EReal)) ∧ (∀ i, ∃ r : ℝ, w i = (r : EReal))
      ∧ (∀ i, ∃ r : ℝ, y i = (r : EReal)) := by
  have h0 := congrFun h (fun i => absurd i.isLt (by decide +revert))
  obtain ⟨h1, hy⟩ := IntOp.andi_eq_one.1 h0
  obtain ⟨h2, hw⟩ := IntOp.andi_eq_one.1 h1
  obtain ⟨hg, hu⟩ := IntOp.andi_eq_one.1 h2
  exact ⟨Cert.Finite.real_of_all g _ _ _ _ _ (fun _ => rfl) hg, Cert.Finite.real_of_all u _ _ _ _ _ (fun _ => rfl) hu,
    Cert.Finite.real_of_all w _ _ _ _ _ (fun _ => rfl) hw, Cert.Finite.real_of_all y _ _ _ _ _ (fun _ => rfl) hy⟩

theorem frame_ideal : Cert.quiescent_FfnKernelIdeal := fun m ρ _ => Cert.FfnKernelIdeal.Gen.frame m ρ

theorem frame_reference : Cert.quiescent_FfnReferenceIdeal := fun m ρ _ =>
  (θ_run Cert.FfnReferenceIdeal.defs _ _).mono (fun r h => ⟨fun c => (h c).2.2, sem_eq_zero_of_no_sems (by decide) r.2⟩)
    (Cert.FfnReferenceIdeal.Value.run m ρ)

/-- Kernel and reference give the same gradients of the gate's two halves. -/
theorem algebraic : Cert.algebraic_FfnKernelIdeal_FfnReferenceIdeal_pre_finite_ffn := by
  intro m ρ m' ρ' hpre hagree
  have hr := fun c => reals _ _ _ _ (hpre c)
  choose g hg using fun c r k => (hr c).1 (ix2 r k)
  choose u hu using fun c r k => (hr c).2.1 (ix2 r k)
  choose w hw using fun c k e => (hr c).2.2.1 (ix2 k e)
  choose y hy using fun c r e => (hr c).2.2.2 (ix2 r e)
  refine ⟨fun c => (fun i : S16384x2816.Idx => ((dh (y c) (w c) (i 0) (i 1) * (u c (i 0) (i 1) * dsilu (g c (i 0) (i 1))) : ℝ) : EReal)),
    fun c => (fun i : S16384x2816.Idx => ((dh (y c) (w c) (i 0) (i 1) * (g c (i 0) (i 1) * sg (g c (i 0) (i 1))) : ℝ) : EReal)), ?_,
    Cert.FfnReferenceIdeal.Value.run_reference m' ρ' g u w y (fun c r k => (congrFun (hagree c).1 (ix2 r k)).trans (hg c r k))
      (fun c r k => (congrFun (hagree c).2.1 (ix2 r k)).trans (hu c r k))
      (fun c k e => (congrFun (hagree c).2.2.1 (ix2 k e)).trans (hw c k e))
      (fun c r e => (congrFun (hagree c).2.2.2 (ix2 r e)).trans (hy c r e))⟩
  exact (θ_run defs _ _).mono (fun r h c => ⟨(h c).1.trans (final4 m c (g c) (u c) (w c) (y c) (hg c) (hu c) (hw c) (hy c)),
    (h c).2.1.trans (final5 m c (g c) (w c) (y c) (hg c) (hw c) (hy c)), (h c).2.2⟩) (run_blocks m ρ)

end Cert.FfnClaims

end
-- ==== Proof.Ple.Norm.lean ====
/-
  The gated embedding's gradient over real numbers: the layer norm of a row, the gate, and what flows back through both.
-/
module

public import proofs.«01_k».proof.Proof.Logistic

@[expose] public section

noncomputable section

namespace Cert.PleNorm

open Idealize.ShloMosaic Cert.Reals Cert.Logistic

theorem word_1024 : Ideal.ofBits .f32 0x44800000#32 = ((1024 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; try norm_num
theorem div_1024 (x : ℝ) : Ideal.div (x : EReal) ((1024 : ℝ) : EReal) = ((x / 1024 : ℝ) : EReal) := div_coe_coe _ _ (by norm_num)

/-- The mean of a row. -/
def mu (v : Fin 1024 → ℝ) : ℝ := (∑ k, v k) / 1024
/-- Its variance, and the small constant. -/
def ms (v : Fin 1024 → ℝ) : ℝ := (∑ k, (v k - mu v) * (v k - mu v)) / 1024 + eps
theorem ms_pos (v : Fin 1024 → ℝ) : 0 < ms v := by
  unfold ms eps
  have : 0 ≤ ∑ k, (v k - mu v) * (v k - mu v) := Finset.sum_nonneg fun k _ => mul_self_nonneg _
  positivity
/-- The factor that normalises a row. -/
def rs (v : Fin 1024 → ℝ) : ℝ := (Real.sqrt (ms v))⁻¹
theorem rs_sq (v : Fin 1024 → ℝ) : rs v * rs v = 1 / ms v := by
  unfold rs
  rw [← mul_inv, Real.mul_self_sqrt (ms_pos v).le, one_div]
theorem rsqrt_ms (v : Fin 1024 → ℝ) : Ideal.rsqrt (ms v : EReal) = (rs v : EReal) := rsqrt_pos _ (ms_pos v)
/-- The factor that the derivative of the reciprocal root brings. -/
theorem root_div (v : Fin 1024 → ℝ) : Ideal.div (rs v : EReal) (ms v : EReal) = ((rs v * (rs v * rs v) : ℝ) : EReal) := by
  rw [div_coe_coe _ _ (ms_pos v).ne', rs_sq]
  congr 1
  ring
/-- The normalised row. -/
def xh (v : Fin 1024 → ℝ) (k : Fin 1024) : ℝ := (v k - mu v) * rs v

/-- The deviations from the mean add up to nothing. -/
theorem sum_dev (v : Fin 1024 → ℝ) : ∑ k, (v k - mu v) = 0 := by
  rw [Finset.sum_sub_distrib, Finset.sum_const, Finset.card_univ, Fintype.card_fin, nsmul_eq_mul]
  unfold mu
  push_cast
  ring

/-- The gradient of a row before the norm, from that of the normalised row. -/
def back (s : ℝ) (x t : Fin 1024 → ℝ) (k : Fin 1024) : ℝ := s * (t k - (∑ i, t i) / 1024 - x k * ((∑ i, t i * x i) / 1024))

/-- The reference's way to it: through the deviations and the variance apart. -/
theorem back_parts (v t : Fin 1024 → ℝ) (S q : ℝ) (hS : S = ∑ i, (v i - mu v) * t i) (hq : q = S * (-(1 / 2) * (rs v * (rs v * rs v))) / 1024) (k : Fin 1024) :
    t k * rs v + q * (2 * (v k - mu v)) + (∑ i, -(t i * rs v) + ∑ i, -(q * (2 * (v i - mu v)))) / 1024 = back (rs v) (xh v) t k := by
  have e1 : ∑ i, -(q * (2 * (v i - mu v))) = 0 := by
    rw [Finset.sum_neg_distrib, ← Finset.mul_sum, ← Finset.mul_sum, sum_dev]
    ring
  have e2 : ∑ i, -(t i * rs v) = -((∑ i, t i) * rs v) := by
    rw [Finset.sum_neg_distrib, Finset.sum_mul]
  have e3 : ∑ i, t i * xh v i = S * rs v := by
    rw [hS, Finset.sum_mul]
    exact Finset.sum_congr rfl fun i _ => by unfold xh; ring
  rw [e1, e2, hq]
  unfold back
  rw [e3]
  unfold xh
  ring

section rows
variable {n : ℕ} (y G P X : Fin n → Fin 1024 → ℝ) (W : Fin 1024 → Fin 1024 → ℝ) (s : Fin n → ℝ) (g : Fin 1024 → ℝ)

/-- The gradient before the gate's logistic. -/
def dpre (r : Fin n) (j : Fin 1024) : ℝ := y r j * P r j * G r j * (1 - G r j)
/-- The gradient of the norm's output. -/
def dx (r : Fin n) (k : Fin 1024) : ℝ := y r k + ∑ j, dpre y G P r j * W k j
/-- The gradient of the rows. -/
def dv (r : Fin n) (k : Fin 1024) : ℝ := back (s r) (X r) (fun i => dx y G P W r i * g i) k
end rows

section forward
variable {n : ℕ} (v : Fin n → Fin 1024 → ℝ) (g b : Fin 1024 → ℝ) (W : Fin 1024 → Fin 1024 → ℝ) (p : Fin n → Fin 256 → ℝ) (q : Fin 256 → Fin 1024 → ℝ)
/-- The gate. -/
def gate (r : Fin n) (j : Fin 1024) : ℝ := sg (∑ k, (xh (v r) k * g k + b k) * W k j)
/-- The projected embedding. -/
def proj (r : Fin n) (j : Fin 1024) : ℝ := ∑ e, p r e * q e j
end forward

end Cert.PleNorm

end
-- ==== Proof.Ple.Block.lean ====
/-
  The gated embedding's gradient: what the kernel computes on a block of rows.
-/
module

public import proofs.«01_k».proof.Proof.Gen.PleKernelIdeal.Skeleton
public import proofs.«01_k».proof.Proof.Ple.Norm

@[expose] public section

set_option maxRecDepth 16384

noncomputable section

namespace Cert.PleKernelIdeal.Value

open Cert.PleKernelIdeal Cert.PleKernelIdeal.Gen Cert.PleNorm Cert.Logistic Cert.Reals Idealize.ShloMosaic

variable (x0 : Vec Ideal S512x1024 .f32) (x1 x2 : Vec Ideal S512x1024 .bf16) (x3 : Vec Ideal S1024x1024 .bf16) (x4 : Vec Ideal S512x1024 .bf16)
  (x5 : Vec Ideal S512x1 .f32) (x6 : Vec Ideal S1x1024 .f32)
  (y G P X : Fin 512 → Fin 1024 → ℝ) (W : Fin 1024 → Fin 1024 → ℝ) (s : Fin 512 → ℝ) (g : Fin 1024 → ℝ)
  (h0 : ∀ r k, x0 (ix2 r k) = (y r k : EReal)) (h1 : ∀ r k, x1 (ix2 r k) = (G r k : EReal)) (h2 : ∀ r k, x2 (ix2 r k) = (P r k : EReal))
  (h3 : ∀ k j, x3 (ix2 k j) = (W k j : EReal)) (h4 : ∀ r k, x4 (ix2 r k) = (X r k : EReal)) (h5 : ∀ r, x5 (ix2 r 0) = (s r : EReal))
  (h6 : ∀ k, x6 (ix2 0 k) = (g k : EReal))

include h0 h1 h2 in
theorem pay8_val (r : Fin 512) (j : Fin 1024) : k0_pay8 (F := Ideal) x0 x1 x2 (ix2 r j) = (dpre y G P r j : EReal) := by
  pointwise [k0_pay8, k0_pay7]
  rw [h0, h1, h2, ← EReal.coe_one]
  simp only [← EReal.coe_mul, ← EReal.coe_sub]
  rfl

include h0 h1 in
theorem pay9_val (r : Fin 512) (j : Fin 1024) : k0_pay9 (F := Ideal) x0 x1 (ix2 r j) = ((y r j * G r j : ℝ) : EReal) := by
  pointwise [k0_pay9, k0_pay7]
  rw [h0, h1, ← EReal.coe_mul]

include h0 h1 h2 h3 in
theorem pay10_val (r : Fin 512) (k : Fin 1024) : k0_pay10 (F := Ideal) x0 x1 x2 x3 (ix2 r k) = (dx y G P W r k : EReal) := by
  pointwise [k0_pay10]
  simp only [pay8_val x0 x1 x2 y G P h0 h1 h2, h0, h3, ← EReal.coe_mul, ← coe_sum, ← EReal.coe_add]
  rfl

include h0 h1 h2 h3 h6 in
theorem pay13_val (r : Fin 512) (k : Fin 1024) : k0_pay13 (F := Ideal) x0 x1 x2 x3 x6 (ix2 r k) = ((dx y G P W r k * g k : ℝ) : EReal) := by
  pointwise [k0_pay13]
  rw [pay10_val x0 x1 x2 x3 y G P W h0 h1 h2 h3, h6, ← EReal.coe_mul]

/-- What a point stores of the rows' gradient. -/
def kDv : FVec Ideal S512x1024 .f32 :=
  k0_pay1 (k0_pay11 x4) (k0_pay12 x5) (k0_pay13 x0 x1 x2 x3 x6) (k0_pay14 x0 x1 x2 x3 x6) (k0_pay15 x0 x1 x2 x3 x4 x6)

include h0 h1 h2 h3 h4 h5 h6 in
theorem kDv_val (r : Fin 512) (k : Fin 1024) : kDv x0 x1 x2 x3 x4 x5 x6 (ix2 r k) = (dv y G P X W s g r k : EReal) := by
  have h13 := pay13_val x0 x1 x2 x3 x6 y G P W g h0 h1 h2 h3 h6
  pointwise [kDv, k0_pay1, k0_pay11, k0_pay12, k0_pay14, k0_pay15]
  simp only [h13, h4, h5, word_1024, ← EReal.coe_mul, ← coe_sum, div_1024, ← EReal.coe_sub]
  rfl

/-- What a point stores of the gradient of the norm's weights, over what was there. -/
def kDg (acc : Vec Ideal S1x1024 .f32) : FVec Ideal S1x1024 .f32 := k0_pay5 (k0_pay10 x0 x1 x2 x3) (k0_pay11 x4) acc
/-- The same of its offsets. -/
def kDb (acc : Vec Ideal S1x1024 .f32) : FVec Ideal S1x1024 .f32 := k0_pay6 (k0_pay10 x0 x1 x2 x3) acc

include h0 h1 h2 h3 h4 in
theorem kDg_val (acc : Vec Ideal S1x1024 .f32) (z : Fin 1) (k : Fin 1024) : kDg x0 x1 x2 x3 x4 acc (ix2 z k)
    = acc (ix2 z k) + ((∑ r, dx y G P W r k * X r k : ℝ) : EReal) := by
  have h10 := pay10_val x0 x1 x2 x3 y G P W h0 h1 h2 h3
  pointwise [kDg, k0_pay5, k0_pay11]
  simp only [h10, h4, ← EReal.coe_mul, ← coe_sum]

include h0 h1 h2 h3 in
theorem kDb_val (acc : Vec Ideal S1x1024 .f32) (z : Fin 1) (k : Fin 1024) : kDb x0 x1 x2 x3 acc (ix2 z k)
    = acc (ix2 z k) + ((∑ r, dx y G P W r k : ℝ) : EReal) := by
  have h10 := pay10_val x0 x1 x2 x3 y G P W h0 h1 h2 h3
  pointwise [kDb, k0_pay6]
  simp only [h10, ← coe_sum]

end Cert.PleKernelIdeal.Value

end
-- ==== Proof.Ple.Kernel.lean ====
/-
  The gated embedding's gradient: what the kernel's five results hold, as functions of its arguments.
-/
module

public import proofs.«01_k».proof.Proof.Gen.PleKernelIdeal.Value
public import proofs.«01_k».proof.Proof.Ple.Block
public import Idealize.ShloMosaic.Lib.Pipeline.ValueKit

@[expose] public section

set_option maxRecDepth 16384

noncomputable section

namespace Cert.PleKernelIdeal.Value

open Cert.PleKernelIdeal Cert.PleKernelIdeal.Gen Cert.PleNorm Cert.Logistic Cert.Reals Idealize.ShloMosaic Idealize.ShloMosaic.TcCoe Idealize.SL.Sem
open Idealize.ShloMosaic.StableHlo
open Idealize.ShloMosaic.Pipeline (Dat)

section host
variable (A : Valuation τ sig (Elt Ideal)) (v : Fin 16384 → Fin 1024 → ℝ) (g b : Fin 1024 → ℝ) (W : Fin 1024 → Fin 1024 → ℝ)
  (p : Fin 16384 → Fin 256 → ℝ) (q : Fin 256 → Fin 1024 → ℝ)
  (hv : ∀ r k, (A (Proc.devRef .tc main_arg0) : FVec Ideal S16384x1024 .f32) (ix2 r k) = (v r k : EReal))
  (hg : ∀ k, (A (Proc.devRef .tc main_arg1) : FVec Ideal S1024 .f32) (ix1 k) = (g k : EReal))
  (hb : ∀ k, (A (Proc.devRef .tc main_arg2) : FVec Ideal S1024 .f32) (ix1 k) = (b k : EReal))
  (hp : ∀ r e, (A (Proc.devRef .tc main_arg3) : FVec Ideal S16384x256 .f32) (ix2 r e) = (p r e : EReal))
  (hW : ∀ k j, (A (Proc.devRef .tc main_arg4) : FVec Ideal S1024x1024 .f32) (ix2 k j) = (W k j : EReal))
  (hq : ∀ e j, (A (Proc.devRef .tc main_arg5) : FVec Ideal S256x1024 .f32) (ix2 e j) = (q e j : EReal))

include hv in
/-- The factors that normalise the rows. -/
theorem host13 (r : Fin 16384) : (after hostOps0 A (Proc.devRef .tc main_v13) : FVec Ideal S16384x1 .f32) (ix2 r 0) = (rs (v r) : EReal) := by
  after_results_simp
  pointwise
  have e1 : (∑ k, v r k) / 1024 = mu (v r) := rfl
  have e2 : (∑ k, (v r k - mu (v r)) * (v r k - mu (v r))) / 1024 + eps = ms (v r) := rfl
  simp only [hv, word_1024, word_eps, ← coe_sum, div_1024, e1, ← EReal.coe_sub, ← EReal.coe_mul, ← EReal.coe_add, e2, rsqrt_ms]

include hv in
/-- The normalised rows. -/
theorem host17 (r : Fin 16384) (k : Fin 1024) : (after hostOps0 A (Proc.devRef .tc main_v17) : FVec Ideal S16384x1024 .f32) (ix2 r k) = (xh (v r) k : EReal) := by
  after_results_simp
  pointwise
  have e1 : (∑ k, v r k) / 1024 = mu (v r) := rfl
  have e2 : (∑ k, (v r k - mu (v r)) * (v r k - mu (v r))) / 1024 + eps = ms (v r) := rfl
  simp only [hv, word_1024, word_eps, ← coe_sum, div_1024, e1, ← EReal.coe_sub, ← EReal.coe_mul, ← EReal.coe_add, e2, rsqrt_ms]
  rfl

include hv in
theorem host35 (r : Fin 16384) (k : Fin 1024) : (after hostOps0 A (Proc.devRef .tc main_v35) : FVec Ideal S16384x1024 .bf16) (ix2 r k) = (xh (v r) k : EReal) := by
  rw [← host17 A v hv]
  after_results_simp
  rfl

include hv hg hb hW in
/-- The gate. -/
theorem host31 (r : Fin 16384) (j : Fin 1024) : (after hostOps0 A (Proc.devRef .tc main_v31) : FVec Ideal S16384x1024 .bf16) (ix2 r j) = (gate v g b W r j : EReal) := by
  after_results_simp
  pointwise
  have e1 : (∑ k, v r k) / 1024 = mu (v r) := rfl
  have e2 : (∑ k, (v r k - mu (v r)) * (v r k - mu (v r))) / 1024 + eps = ms (v r) := rfl
  simp only [hv, hg, hb, hW, word_1024, word_eps, ← coe_sum, div_1024, e1, ← EReal.coe_sub, ← EReal.coe_mul, ← EReal.coe_add, e2, rsqrt_ms, one_add_exp_one]
  rfl

include hp hq in
/-- The projected embedding. -/
theorem host33 (r : Fin 16384) (j : Fin 1024) : (after hostOps0 A (Proc.devRef .tc main_v33) : FVec Ideal S16384x1024 .bf16) (ix2 r j) = (proj p q r j : EReal) := by
  after_results_simp
  pointwise
  simp only [hp, hq, ← EReal.coe_mul, ← coe_sum]
  rfl

include hW in
theorem host34 (k j : Fin 1024) : (after hostOps0 A (Proc.devRef .tc main_v34) : FVec Ideal S1024x1024 .bf16) (ix2 k j) = (W k j : EReal) := by
  rw [← hW]
  after_results_simp
  rfl

include hg in
theorem host36 (k : Fin 1024) : (after hostOps0 A (Proc.devRef .tc main_v36) : FVec Ideal S1x1024 .f32) (ix2 0 k) = (g k : EReal) := by
  rw [← hg]
  after_results_simp
  pointwise
end host

/-! ## What a point stores -/

section outs
variable (m : (ℓ : Loc nD τ sig) → Buf (Elt Ideal) ℓ) (c : Dev nD) (t : Fin cfg0.N)

set_option maxHeartbeats 2000000 in
theorem outs_dv : (outsAt0 m c t.val t.isLt).1 = kDv (iblk m c 0 t) (iblk m c 1 t) (iblk m c 2 t) (iblk m c 3 t) (iblk m c 4 t) (iblk m c 5 t) (iblk m c 6 t) := by
  by_cases h0 : t.val % 32 = 0
  on_goal 1 => rw [outsAt0_A m c t h0]
  on_goal 2 => rw [outsAt0_B m c t h0]
  all_goals
    frame_out
    rfl

set_option maxHeartbeats 2000000 in
theorem outs_dpre : (outsAt0 m c t.val t.isLt).2.2.1 = k0_pay8 (iblk m c 0 t) (iblk m c 1 t) (iblk m c 2 t) := by
  by_cases h0 : t.val % 32 = 0
  on_goal 1 => rw [outsAt0_A m c t h0]
  on_goal 2 => rw [outsAt0_B m c t h0]
  all_goals
    frame_out

set_option maxHeartbeats 2000000 in
theorem outs_dproj : (outsAt0 m c t.val t.isLt).2.2.2.1 = k0_pay9 (iblk m c 0 t) (iblk m c 1 t) := by
  by_cases h0 : t.val % 32 = 0
  on_goal 1 => rw [outsAt0_A m c t h0]
  on_goal 2 => rw [outsAt0_B m c t h0]
  all_goals
    frame_out
end outs

/-! ## The arrays after the run -/

section arrays
variable (m : (ℓ : Loc nD τ sig) → Buf (Elt Ideal) ℓ) (c : Dev nD) (v y : Fin 16384 → Fin 1024 → ℝ) (g b : Fin 1024 → ℝ) (W : Fin 1024 → Fin 1024 → ℝ)
  (p : Fin 16384 → Fin 256 → ℝ) (q : Fin 256 → Fin 1024 → ℝ)
  (hv : ∀ r k, m ((c : Thread nD τ).loc main_arg0) (ix2 r k) = (v r k : EReal))
  (hg : ∀ k, m ((c : Thread nD τ).loc main_arg1) (ix1 k) = (g k : EReal))
  (hb : ∀ k, m ((c : Thread nD τ).loc main_arg2) (ix1 k) = (b k : EReal))
  (hp : ∀ r e, m ((c : Thread nD τ).loc main_arg3) (ix2 r e) = (p r e : EReal))
  (hW : ∀ k j, m ((c : Thread nD τ).loc main_arg4) (ix2 k j) = (W k j : EReal))
  (hq : ∀ e j, m ((c : Thread nD τ).loc main_arg5) (ix2 e j) = (q e j : EReal))
  (hy : ∀ r k, m ((c : Thread nD τ).loc main_arg6) (ix2 r k) = (y r k : EReal))

/-- The blocks that each grid point stages. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] :=
  (by decide +kernel : ∀ t : Fin grid0.N, _)

/-- The row of the arrays that a row of point `t`'s block is. -/
def row (t : Fin cfg0.N) (r : Fin 512) : Fin 16384 := ⟨t.val * 512 + r.val, by have : t.val < 32 := t.isLt; omega⟩

include hy in
theorem blk0 (t : Fin cfg0.N) (r : Fin 512) (k : Fin 1024) : iblk m c 0 t (ix2 r k) = (y (row t r) k : EReal) := by
  rw [← hy]
  blk_point [iblk, V, idx t, row]
include hv hg hb hW in
theorem blk1 (t : Fin cfg0.N) (r : Fin 512) (j : Fin 1024) : iblk m c 1 t (ix2 r j) = (gate v g b W (row t r) j : EReal) := by
  rw [← host31 (fun b => m (c, b)) v g b W hv hg hb hW]
  blk_point [iblk, idx t, row]
include hp hq in
theorem blk2 (t : Fin cfg0.N) (r : Fin 512) (j : Fin 1024) : iblk m c 2 t (ix2 r j) = (proj p q (row t r) j : EReal) := by
  rw [← host33 (fun b => m (c, b)) p q hp hq]
  blk_point [iblk, idx t, row]
include hW in
theorem blk3 (t : Fin cfg0.N) (k j : Fin 1024) : iblk m c 3 t (ix2 k j) = (W k j : EReal) := by
  rw [← host34 (fun b => m (c, b)) W hW]
  blk_point [iblk, idx t, row]
include hv in
theorem blk4 (t : Fin cfg0.N) (r : Fin 512) (k : Fin 1024) : iblk m c 4 t (ix2 r k) = (xh (v (row t r)) k : EReal) := by
  rw [← host35 (fun b => m (c, b)) v hv]
  blk_point [iblk, idx t, row]
include hv in
theorem blk5 (t : Fin cfg0.N) (r : Fin 512) : iblk m c 5 t (ix2 r 0) = (rs (v (row t r)) : EReal) := by
  rw [← host13 (fun b => m (c, b)) v hv]
  blk_point [iblk, idx t, row]
include hg in
theorem blk6 (t : Fin cfg0.N) (k : Fin 1024) : iblk m c 6 t (ix2 0 k) = (g k : EReal) := by
  rw [← host36 (fun b => m (c, b)) g hg]
  blk_point [iblk, idx t, row]

include hv hg hb hp hW hq hy in
/-- The gradient of the rows after the run. -/
theorem final7 : (dats m 0 c).arrAt 7 cfg0.N = fun i : S16384x1024.Idx =>
    (dv y (gate v g b W) (proj p q) (fun r => xh (v r)) W (fun r => rs (v r)) g (i 0) (i 1) : EReal) := by
  refine (dats m 0 c).arrAt_eq_of_covers 7 _ (by decide +kernel) fun t hf (x : S512x1024.Idx) => ?_
  blk_simp
  rw [after0_7]
  obtain ⟨r, k, rfl⟩ : ∃ (r : Fin 512) (k : Fin 1024), x = ix2 r k := ⟨x 0, x 1, by idx_vars x⟩
  rw [outs_dv, kDv_val _ _ _ _ _ _ _ _ _ _ _ _ _ _ (blk0 m c y hy t) (blk1 m c v g b W hv hg hb hW t) (blk2 m c p q hp hq t) (blk3 m c W hW t)
    (blk4 m c v hv t) (blk5 m c v hv t) (blk6 m c g hg t)]
  have e : ((cfg0.win 7).blk t).view.emb (ix2 r k) = (ix2 (row t r) k : S16384x1024.Idx) := by blk_ext [idx t, row]
  rw [e]
  rfl

include hv hg hb hp hW hq hy in
/-- The gradient before the gate's logistic after the run. -/
theorem final9 : (dats m 0 c).arrAt 9 cfg0.N = fun i : S16384x1024.Idx => (dpre y (gate v g b W) (proj p q) (i 0) (i 1) : EReal) := by
  refine (dats m 0 c).arrAt_eq_of_covers 9 _ (by decide +kernel) fun t hf (x : S512x1024.Idx) => ?_
  blk_simp
  rw [after0_9]
  obtain ⟨r, k, rfl⟩ : ∃ (r : Fin 512) (k : Fin 1024), x = ix2 r k := ⟨x 0, x 1, by idx_vars x⟩
  rw [outs_dpre, pay8_val _ _ _ _ _ _ (blk0 m c y hy t) (blk1 m c v g b W hv hg hb hW t) (blk2 m c p q hp hq t)]
  have e : ((cfg0.win 9).blk t).view.emb (ix2 r k) = (ix2 (row t r) k : S16384x1024.Idx) := by blk_ext [idx t, row]
  rw [e]
  rfl

include hv hg hb hW hy in
/-- The gradient of the projected embedding after the run. -/
theorem final10 : (dats m 0 c).arrAt 10 cfg0.N = fun i : S16384x1024.Idx => ((y (i 0) (i 1) * gate v g b W (i 0) (i 1) : ℝ) : EReal) := by
  refine (dats m 0 c).arrAt_eq_of_covers 10 _ (by decide +kernel) fun t hf (x : S512x1024.Idx) => ?_
  blk_simp
  rw [after0_10]
  obtain ⟨r, k, rfl⟩ : ∃ (r : Fin 512) (k : Fin 1024), x = ix2 r k := ⟨x 0, x 1, by idx_vars x⟩
  rw [outs_dproj, pay9_val _ _ _ _ (blk0 m c y hy t) (blk1 m c v g b W hv hg hb hW t)]
  have e : ((cfg0.win 10).blk t).view.emb (ix2 r k) = (ix2 (row t r) k : S16384x1024.Idx) := by blk_ext [idx t, row]
  rw [e]
  rfl

/-- What point `n` adds up of a row's function, column by column. -/
def part (f : Fin 16384 → Fin 1024 → ℝ) (n : ℕ) (j : S1x1024.Idx) : EReal :=
  ((∑ r : Fin 512, f (⟨(n * 512 + r.val) % 16384, Nat.mod_lt _ (by decide)⟩ : Fin 16384) (j 1) : ℝ) : EReal)

theorem part_row (f : Fin 16384 → Fin 1024 → ℝ) (t : Fin cfg0.N) (z : Fin 1) (k : Fin 1024) :
    part f t.val (ix2 z k) = ((∑ r : Fin 512, f (row t r) k : ℝ) : EReal) := by
  unfold part
  have e : ∀ r : Fin 512, (⟨(t.val * 512 + r.val) % 16384, Nat.mod_lt _ (by decide)⟩ : Fin 16384) = row t r := fun r =>
    Fin.ext (by have : t.val < 32 := t.isLt; show (t.val * 512 + r.val) % 16384 = t.val * 512 + r.val; omega)
  simp only [e]
  rfl

/-- The parts of all points are the sum over all rows. -/
theorem sum_parts (f : Fin 16384 → Fin 1024 → ℝ) (x : S1x1024.Idx) : (∑ s : Fin 32, part f (32 * 0 + s.val) x) = ((∑ r : Fin 16384, f r (x 1) : ℝ) : EReal) := by
  unfold part
  rw [← coe_sum]
  refine congrArg Real.toEReal (Fin.sum_mul_add_congr fun s r hl => ?_)
  refine congrArg (fun u => f u (x 1)) (Fin.ext ?_)
  show ((32 * 0 + s.val) * 512 + r.val) % 16384 = s.val * 512 + r.val
  omega

include hv hg hb hp hW hq hy in
theorem kDg_part (t : Fin cfg0.N) (acc : Vec Ideal S1x1024 .f32) (j : S1x1024.Idx) :
    kDg (iblk m c 0 t) (iblk m c 1 t) (iblk m c 2 t) (iblk m c 3 t) (iblk m c 4 t) acc j
      = acc j + part (fun r k => dx y (gate v g b W) (proj p q) W r k * xh (v r) k) t.val j := by
  obtain ⟨z, k, rfl⟩ : ∃ (z : Fin 1) (k : Fin 1024), j = ix2 z k := ⟨j 0, j 1, by idx_vars j⟩
  rw [kDg_val _ _ _ _ _ _ _ _ _ _ (blk0 m c y hy t) (blk1 m c v g b W hv hg hb hW t) (blk2 m c p q hp hq t) (blk3 m c W hW t) (blk4 m c v hv t), part_row]
  rfl

include hv hg hb hp hW hq hy in
theorem kDb_part (t : Fin cfg0.N) (acc : Vec Ideal S1x1024 .f32) (j : S1x1024.Idx) :
    kDb (iblk m c 0 t) (iblk m c 1 t) (iblk m c 2 t) (iblk m c 3 t) acc j = acc j + part (dx y (gate v g b W) (proj p q) W) t.val j := by
  obtain ⟨z, k, rfl⟩ : ∃ (z : Fin 1) (k : Fin 1024), j = ix2 z k := ⟨j 0, j 1, by idx_vars j⟩
  rw [kDb_val _ _ _ _ _ _ _ _ (blk0 m c y hy t) (blk1 m c v g b W hv hg hb hW t) (blk2 m c p q hp hq t) (blk3 m c W hW t), part_row]
  rfl

set_option maxHeartbeats 2000000 in
include hv hg hb hp hW hq hy in
/-- The gradient of the norm's weights after the run. -/
theorem final11 : (dats m 0 c).arrAt 11 cfg0.N = fun i : S1x1024.Idx =>
    ((∑ r : Fin 16384, dx y (gate v g b W) (proj p q) W r (i 1) * xh (v r) (i 1) : ℝ) : EReal) := by
  refine (dats m 0 c).arrAt_eq_of_covers 11 _ (by decide +kernel) fun t hf (x : S1x1024.Idx) => ?_
  blk_simp
  rw [after0_11, Pipeline.eq_sum_fin_of_reset_step_apply_of_flush (fun n h => (outsAt0 m c n h).2.2.2.2.1) 32 (fun _ => 0)
    (fun n j => part (fun r k => dx y (gate v g b W) (proj p q) W r k * xh (v r) k) n.val j)
    (fun t h j => by
      rw [outsAt0_A m c t h]; frame_out
      refine Eq.trans (b := kDg (iblk m c 0 t) (iblk m c 1 t) (iblk m c 2 t) (iblk m c 3 t) (iblk m c 4 t) (k0_pay3 (F := Ideal)) j) rfl ?_
      rw [kDg_part m c v y g b W p q hv hg hb hp hW hq hy]
      congr 1
      pointwise [k0_pay3])
    (fun t h j => by
      rw [outsAt0_B m c t h]; frame_out
      refine Eq.trans (b := kDg (iblk m c 0 t) (iblk m c 1 t) (iblk m c 2 t) (iblk m c 3 t) (iblk m c 4 t) _ j) rfl ?_
      rw [kDg_part m c v y g b W p q hv hg hb hp hW hq hy])
    t ((flush0_11 t).mp hf) _, zero_add]
  have ht : t.val / 32 = 0 := Nat.div_eq_of_lt (lt_of_lt_of_eq t.isLt N_0)
  have ex : (((cfg0.win 11).blk t).view.emb x : S1x1024.Idx) = x := by blk_ext [idx t]
  rw [ex]
  have e : ∀ s : Fin 32, 32 * (t.val / 32) + s.val = 32 * 0 + s.val := fun s => by rw [ht]
  refine (Fin.sum_fin_congr fun s => congrArg (fun n => part (fun r k => dx y (gate v g b W) (proj p q) W r k * xh (v r) k) n x) (e s)).trans ?_
  exact sum_parts (fun r k => dx y (gate v g b W) (proj p q) W r k * xh (v r) k) x

set_option maxHeartbeats 2000000 in
include hv hg hb hp hW hq hy in
/-- The gradient of the norm's offsets after the run. -/
theorem final12 : (dats m 0 c).arrAt 12 cfg0.N = fun i : S1x1024.Idx =>
    ((∑ r : Fin 16384, dx y (gate v g b W) (proj p q) W r (i 1) : ℝ) : EReal) := by
  refine (dats m 0 c).arrAt_eq_of_covers 12 _ (by decide +kernel) fun t hf (x : S1x1024.Idx) => ?_
  blk_simp
  rw [after0_12, Pipeline.eq_sum_fin_of_reset_step_apply_of_flush (fun n h => (outsAt0 m c n h).2.2.2.2.2) 32 (fun _ => 0)
    (fun n j => part (dx y (gate v g b W) (proj p q) W) n.val j)
    (fun t h j => by
      rw [outsAt0_A m c t h]; frame_out
      refine Eq.trans (b := kDb (iblk m c 0 t) (iblk m c 1 t) (iblk m c 2 t) (iblk m c 3 t) (k0_pay4 (F := Ideal)) j) rfl ?_
      rw [kDb_part m c v y g b W p q hv hg hb hp hW hq hy]
      congr 1
      pointwise [k0_pay4])
    (fun t h j => by
      rw [outsAt0_B m c t h]; frame_out
      refine Eq.trans (b := kDb (iblk m c 0 t) (iblk m c 1 t) (iblk m c 2 t) (iblk m c 3 t) _ j) rfl ?_
      rw [kDb_part m c v y g b W p q hv hg hb hp hW hq hy])
    t ((flush0_12 t).mp hf) _, zero_add]
  have ht : t.val / 32 = 0 := Nat.div_eq_of_lt (lt_of_lt_of_eq t.isLt N_0)
  have ex : (((cfg0.win 12).blk t).view.emb x : S1x1024.Idx) = x := by blk_ext [idx t]
  rw [ex]
  have e : ∀ s : Fin 32, 32 * (t.val / 32) + s.val = 32 * 0 + s.val := fun s => by rw [ht]
  refine (Fin.sum_fin_congr fun s => congrArg (fun n => part (dx y (gate v g b W) (proj p q) W) n x) (e s)).trans ?_
  exact sum_parts (dx y (gate v g b W) (proj p q) W) x

end arrays

end Cert.PleKernelIdeal.Value

end
-- ==== Proof.Ple.Reference.lean ====
/-
  The gated embedding's gradient: what the reference's five results are over real arguments.
-/
module

public import proofs.«01_k».proof.Proof.Gen.PleReferenceIdeal.Run
public import proofs.«01_k».proof.Proof.Ple.Norm

@[expose] public section

set_option maxRecDepth 16384

noncomputable section

namespace Cert.PleReferenceIdeal.Value

open Cert.PleReferenceIdeal Cert.PleReferenceIdeal.Gen Cert.PleNorm Cert.Logistic Cert.Reals Idealize.ShloMosaic Idealize.ShloMosaic.TcCoe
open Idealize.ShloMosaic.StableHlo Idealize.SL.Sem

/-! ## The reference's operations, in groups -/

/-- A column of numbers over a block of rows. -/
abbrev over (x : FVec Ideal S16384x1 .f32) : FVec Ideal S16384x1024 .f32 := broadcastInDim S16384x1024 ![0, 1] bcast_S16384x1_S16384x1024_0_1 x
/-- One number in every row. -/
abbrev const1 (w : BitVec 32) : FVec Ideal S16384x1 .f32 := broadcastInDim S16384x1 ![] bcast_S_S16384x1 (constant S_ .f32 w)
/-- One number everywhere. -/
abbrev const2 (w : BitVec 32) : FVec Ideal S16384x1024 .f32 := broadcastInDim S16384x1024 ![] bcast_S_S16384x1024 (constant S_ .f32 w)
/-- Row sums. -/
abbrev sums (x : FVec Ideal S16384x1024 .f32) : FVec Ideal S16384 .f32 :=
  Host.reduceAdd x (constant S_ .f32 0x00000000#32) reducesTo_S16384x1024_S16384_d1 h_S_
/-- One row, over all rows. -/
abbrev rowOf (x : FVec Ideal S1024 .f32) : FVec Ideal S16384x1024 .f32 :=
  broadcastInDim S16384x1024 ![0, 1] bcast_S1x1024_S16384x1024_0_1 (broadcastInDim S1x1024 ![1] bcast_S1024_S1x1024_1 x)

/-- The deviations of the rows from their means. -/
def rDev (x : FVec Ideal S16384x1024 .f32) : FVec Ideal S16384x1024 .f32 :=
  subf x (over (Host.divf (broadcastInDim S16384x1 ![0] bcast_S16384_S16384x1_0 (sums x)) (const1 0x44800000#32)))
/-- The rows' variances, and the small constant. -/
def rMs (d : FVec Ideal S16384x1024 .f32) : FVec Ideal S16384x1 .f32 :=
  addf (Host.divf (broadcastInDim S16384x1 ![0] bcast_S16384_S16384x1_0 (sums (mulf d d))) (const1 0x44800000#32)) (const1 0x3727C5AC#32)
/-- The normalised rows. -/
def rXh (d : FVec Ideal S16384x1024 .f32) (z : FVec Ideal S16384x1 .f32) : FVec Ideal S16384x1024 .f32 := mulf d (over (Host.rsqrt z))
/-- The gate. -/
def rGate (x : FVec Ideal S16384x1024 .f32) (vg vb : FVec Ideal S1024 .f32) (vW : FVec Ideal S1024x1024 .f32) : FVec Ideal S16384x1024 .f32 :=
  Host.divf (const2 0x3F800000#32) (addf (const2 0x3F800000#32) (Host.exp (Host.negf
    (Host.dotGeneral dot_S16384x1024_S1024x1024_S16384x1024_1_0_0_1_n_n none (addf (mulf x (rowOf vg)) (rowOf vb)) vW))))
/-- The projected embedding. -/
def rProj (vp : FVec Ideal S16384x256 .f32) (vq : FVec Ideal S256x1024 .f32) : FVec Ideal S16384x1024 .f32 :=
  Host.dotGeneral dot_S16384x256_S256x1024_S16384x1024_1_0_0_1_n_n none vp vq
/-- The gradient before the gate's logistic. -/
def rPre (vy G P : FVec Ideal S16384x1024 .f32) : FVec Ideal S16384x1024 .f32 :=
  mulf (mulf (shapeCast S16384x1024 vy shapeCasts_S16384x1024_S16384x1024) P) (mulf G (subf (const2 0x3F800000#32) G))
/-- The gradient of the norm's output. -/
def rDx (vy e : FVec Ideal S16384x1024 .f32) (vW : FVec Ideal S1024x1024 .f32) : FVec Ideal S16384x1024 .f32 :=
  addf (shapeCast S16384x1024 vy shapeCasts_S16384x1024_S16384x1024) (Host.dotGeneral dot_S16384x1024_S1024x1024_S16384x1024_1_1_0_0_n_n none e vW)
/-- The part that flows back through the variance. -/
def rVar (d t : FVec Ideal S16384x1024 .f32) (z : FVec Ideal S16384x1 .f32) : FVec Ideal S16384x1024 .f32 :=
  mulf (broadcastInDim S16384x1024 ![0] bcast_S16384_S16384x1024_0 (Host.reduceAdd (Host.divf (mulf (shapeCast S16384x1 (sums (mulf d t)) shapeCasts_S16384_S16384x1)
      (mulf (const1 0xBF000000#32) (Host.divf (Host.rsqrt z) z))) (const1 0x44800000#32)) (constant S_ .f32 0x00000000#32) reducesTo_S16384x1_S16384_d1 h_S_))
    (mulf (const2 0x40000000#32) d)
/-- The part that flows back through the deviations. -/
def rDir (t : FVec Ideal S16384x1024 .f32) (z : FVec Ideal S16384x1 .f32) : FVec Ideal S16384x1024 .f32 := mulf t (over (Host.rsqrt z))
/-- The rows' gradient, from both parts. -/
def rDv (a e : FVec Ideal S16384x1024 .f32) : FVec Ideal S16384x1024 .f32 :=
  addf (addf a e) (broadcastInDim S16384x1024 ![0] bcast_S16384_S16384x1024_0 (Host.reduceAdd (Host.divf (addf (shapeCast S16384x1 (sums (Host.negf a)) shapeCasts_S16384_S16384x1)
    (shapeCast S16384x1 (sums (Host.negf e)) shapeCasts_S16384_S16384x1)) (const1 0x44800000#32)) (constant S_ .f32 0x00000000#32) reducesTo_S16384x1_S16384_d1 h_S_))
/-- Column sums. -/
def rCols (x : FVec Ideal S16384x1024 .f32) : FVec Ideal S1x1024 .f32 :=
  shapeCast S1x1024 (Host.reduceAdd (shapeCast S1x1024 (Host.reduceAdd x (constant S_ .f32 0x00000000#32) reducesTo_S16384x1024_S1024_d0 h_S_) shapeCasts_S1024_S1x1024)
    (constant S_ .f32 0x00000000#32) reducesTo_S1x1024_S1024_d0 h_S_) shapeCasts_S1024_S1x1024

section values

variable (vv vy : FVec Ideal S16384x1024 .f32) (vg vb : FVec Ideal S1024 .f32) (vp : FVec Ideal S16384x256 .f32) (vW : FVec Ideal S1024x1024 .f32)
  (vq : FVec Ideal S256x1024 .f32)
  (v y : Fin 16384 → Fin 1024 → ℝ) (g b : Fin 1024 → ℝ) (W : Fin 1024 → Fin 1024 → ℝ) (p : Fin 16384 → Fin 256 → ℝ) (q : Fin 256 → Fin 1024 → ℝ)
  (hv : ∀ r k, vv (ix2 r k) = (v r k : EReal)) (hy : ∀ r k, vy (ix2 r k) = (y r k : EReal)) (hg : ∀ k, vg (ix1 k) = (g k : EReal))
  (hb : ∀ k, vb (ix1 k) = (b k : EReal)) (hp : ∀ r e, vp (ix2 r e) = (p r e : EReal)) (hW : ∀ k j, vW (ix2 k j) = (W k j : EReal))
  (hq : ∀ e j, vq (ix2 e j) = (q e j : EReal))

include hv in
theorem rDev_val (r : Fin 16384) (k : Fin 1024) : rDev vv (ix2 r k) = ((v r k - mu (v r) : ℝ) : EReal) := by
  pointwise [rDev]
  simp only [hv, word_1024, ← coe_sum, div_1024, ← EReal.coe_sub]
  rfl

include hv in
theorem rMs_val (r : Fin 16384) (z : Fin 1) : rMs (rDev vv) (ix2 r z) = (ms (v r) : EReal) := by
  have h := rDev_val vv v hv
  pointwise [rMs]
  simp only [h, word_1024, word_eps, ← EReal.coe_mul, ← coe_sum, div_1024, ← EReal.coe_add]
  rfl

include hv in
theorem rXh_val (r : Fin 16384) (k : Fin 1024) : rXh (rDev vv) (rMs (rDev vv)) (ix2 r k) = (xh (v r) k : EReal) := by
  have h := rDev_val vv v hv
  have h' := rMs_val vv v hv
  pointwise [rXh]
  simp only [h, h', rsqrt_ms, ← EReal.coe_mul]
  rfl

include hv hg hb hW in
theorem rGate_val (r : Fin 16384) (j : Fin 1024) : rGate (rXh (rDev vv) (rMs (rDev vv))) vg vb vW (ix2 r j) = (gate v g b W r j : EReal) := by
  have h := rXh_val vv v hv
  pointwise [rGate]
  simp only [h, hg, hb, hW, ← EReal.coe_mul, ← EReal.coe_add, ← coe_sum, one_add_exp_one]
  rfl

include hp hq in
theorem rProj_val (r : Fin 16384) (j : Fin 1024) : rProj vp vq (ix2 r j) = (proj p q r j : EReal) := by
  pointwise [rProj]
  simp only [hp, hq, ← EReal.coe_mul, ← coe_sum]
  rfl

section rows
variable (vG vP : FVec Ideal S16384x1024 .f32) (G P : Fin 16384 → Fin 1024 → ℝ)
  (hG : ∀ r k, vG (ix2 r k) = (G r k : EReal)) (hP : ∀ r k, vP (ix2 r k) = (P r k : EReal))

include hy hG hP in
theorem rPre_val (r : Fin 16384) (j : Fin 1024) : rPre vy vG vP (ix2 r j) = (dpre y G P r j : EReal) := by
  pointwise [rPre]
  rw [hy, hG, hP, ← EReal.coe_one]
  simp only [← EReal.coe_mul, ← EReal.coe_sub]
  exact congrArg Real.toEReal (by unfold dpre; ring)

include hy hG hP hW in
theorem rDx_val (r : Fin 16384) (k : Fin 1024) : rDx vy (rPre vy vG vP) vW (ix2 r k) = (dx y G P W r k : EReal) := by
  have h := rPre_val vy y hy vG vP G P hG hP
  pointwise [rDx]
  simp only [h, hy, hW, ← EReal.coe_mul, ← coe_sum, ← EReal.coe_add]
  rfl
end rows

section back
variable (vt : FVec Ideal S16384x1024 .f32) (t : Fin 16384 → Fin 1024 → ℝ) (ht : ∀ r k, vt (ix2 r k) = (t r k : EReal))

include hv ht in
theorem rDir_val (r : Fin 16384) (k : Fin 1024) : rDir vt (rMs (rDev vv)) (ix2 r k) = ((t r k * rs (v r) : ℝ) : EReal) := by
  have h' := rMs_val vv v hv
  pointwise [rDir]
  simp only [ht, h', rsqrt_ms, ← EReal.coe_mul]

include hv ht in
theorem rVar_val (r : Fin 16384) (k : Fin 1024) : rVar (rDev vv) vt (rMs (rDev vv)) (ix2 r k)
    = (((∑ i, (v r i - mu (v r)) * t r i) * (-(1 / 2) * (rs (v r) * (rs (v r) * rs (v r)))) / 1024 * (2 * (v r k - mu (v r))) : ℝ) : EReal) := by
  have h := rDev_val vv v hv
  have h' := rMs_val vv v hv
  pointwise [rVar]
  simp only [ht, h, h', word_1024, word_two, word_neg_half, rsqrt_ms, root_div, ← EReal.coe_mul, ← coe_sum, div_1024, Finset.univ_unique, Finset.sum_singleton]

include hv ht in
theorem rDv_val (r : Fin 16384) (k : Fin 1024) : rDv (rDir vt (rMs (rDev vv))) (rVar (rDev vv) vt (rMs (rDev vv))) (ix2 r k)
    = (back (rs (v r)) (xh (v r)) (t r) k : EReal) := by
  have h := rDir_val vv v hv vt t ht
  have h' := rVar_val vv v hv vt t ht
  pointwise [rDv]
  simp only [h, h', word_1024, ← EReal.coe_neg, ← coe_sum, ← EReal.coe_add, div_1024, Finset.univ_unique, Finset.sum_singleton]
  exact congrArg Real.toEReal (back_parts (v r) (t r) _ _ rfl rfl k)
end back

theorem rCols_val (x : FVec Ideal S16384x1024 .f32) (f : Fin 16384 → Fin 1024 → ℝ) (hx : ∀ r k, x (ix2 r k) = (f r k : EReal)) (z : Fin 1) (k : Fin 1024) :
    rCols x (ix2 z k) = ((∑ r, f r k : ℝ) : EReal) := by
  pointwise [rCols]
  simp only [hx, ← coe_sum, Finset.univ_unique, Finset.sum_singleton]

end values

section run

variable (m : (ℓ : Loc nD τ sig) → Buf (Elt Ideal) ℓ) (ρ : Dev nD → PrngReg)
  (v y : Dev nD → Fin 16384 → Fin 1024 → ℝ) (g b : Dev nD → Fin 1024 → ℝ) (W : Dev nD → Fin 1024 → Fin 1024 → ℝ)
  (p : Dev nD → Fin 16384 → Fin 256 → ℝ) (q : Dev nD → Fin 256 → Fin 1024 → ℝ)
  (hv : ∀ (c : Dev nD) r k, m ((c.tc : Thread nD τ).loc main_arg0) (ix2 r k) = (v c r k : EReal))
  (hg : ∀ (c : Dev nD) k, m ((c.tc : Thread nD τ).loc main_arg1) (ix1 k) = (g c k : EReal))
  (hb : ∀ (c : Dev nD) k, m ((c.tc : Thread nD τ).loc main_arg2) (ix1 k) = (b c k : EReal))
  (hp : ∀ (c : Dev nD) r e, m ((c.tc : Thread nD τ).loc main_arg3) (ix2 r e) = (p c r e : EReal))
  (hW : ∀ (c : Dev nD) k j, m ((c.tc : Thread nD τ).loc main_arg4) (ix2 k j) = (W c k j : EReal))
  (hq : ∀ (c : Dev nD) e j, m ((c.tc : Thread nD τ).loc main_arg5) (ix2 e j) = (q c e j : EReal))
  (hy : ∀ (c : Dev nD) r k, m ((c.tc : Thread nD τ).loc main_arg6) (ix2 r k) = (y c r k : EReal))

/-- The normalised rows of a run. -/
def runXh (c : Dev nD) : FVec Ideal S16384x1024 .f32 :=
  rXh (rDev (m ((c.tc : Thread nD τ).loc main_arg0))) (rMs (rDev (m ((c.tc : Thread nD τ).loc main_arg0))))
/-- Its gate. -/
def runGate (c : Dev nD) : FVec Ideal S16384x1024 .f32 :=
  rGate (runXh m c) (m ((c.tc : Thread nD τ).loc main_arg1)) (m ((c.tc : Thread nD τ).loc main_arg2)) (m ((c.tc : Thread nD τ).loc main_arg4))
/-- Its projected embedding. -/
def runProj (c : Dev nD) : FVec Ideal S16384x1024 .f32 := rProj (m ((c.tc : Thread nD τ).loc main_arg3)) (m ((c.tc : Thread nD τ).loc main_arg5))
/-- The gradient before the gate's logistic. -/
def runPre (c : Dev nD) : FVec Ideal S16384x1024 .f32 := rPre (m ((c.tc : Thread nD τ).loc main_arg6)) (runGate m c) (runProj m c)
/-- The gradient of the norm's output. -/
def runDx (c : Dev nD) : FVec Ideal S16384x1024 .f32 := rDx (m ((c.tc : Thread nD τ).loc main_arg6)) (runPre m c) (m ((c.tc : Thread nD τ).loc main_arg4))
/-- The gradient of the normalised rows. -/
def runT (c : Dev nD) : FVec Ideal S16384x1024 .f32 := mulf (runDx m c) (rowOf (m ((c.tc : Thread nD τ).loc main_arg1)))

theorem out0_eq (c : Dev nD) : res_main_v81 m c = rDv (rDir (runT m c) (rMs (rDev (m ((c.tc : Thread nD τ).loc main_arg0)))))
    (rVar (rDev (m ((c.tc : Thread nD τ).loc main_arg0))) (runT m c) (rMs (rDev (m ((c.tc : Thread nD τ).loc main_arg0))))) := rfl
theorem out1_eq (c : Dev nD) : res_main_v82 m c = truncf .bf16 (runPre m c) bitsLt_bf16_f32 := rfl
theorem out3_eq (c : Dev nD) : res_main_v84 m c = rCols (mulf (runXh m c) (runDx m c)) := rfl
theorem out4_eq (c : Dev nD) : res_main_v85 m c = rCols (runDx m c) := rfl

include hv hg hb hp hW hq hy in
theorem run_reference : θ_run defs (onTc (τ := τ) (main (F := Ideal))) ⟨m, fun _ => 0, ρ⟩ fun r => ∀ c : Dev nD,
      r.2.mem ((c.tc : Thread nD τ).loc main_v81) = (fun i : S16384x1024.Idx => (dv (y c) (gate (v c) (g c) (b c) (W c)) (proj (p c) (q c)) (fun r => xh (v c r)) (W c) (fun r => rs (v c r)) (g c) (i 0) (i 1) : EReal))
      ∧ r.2.mem ((c.tc : Thread nD τ).loc main_v82) = (fun i : S16384x1024.Idx => (dpre (y c) (gate (v c) (g c) (b c) (W c)) (proj (p c) (q c)) (i 0) (i 1) : EReal))
      ∧ r.2.mem ((c.tc : Thread nD τ).loc main_v83) = (fun i : S16384x1024.Idx => ((y c (i 0) (i 1) * gate (v c) (g c) (b c) (W c) (i 0) (i 1) : ℝ) : EReal))
      ∧ r.2.mem ((c.tc : Thread nD τ).loc main_v84) = (fun i : S1x1024.Idx => ((∑ r : Fin 16384, dx (y c) (gate (v c) (g c) (b c) (W c)) (proj (p c) (q c)) (W c) r (i 1) * xh (v c r) (i 1) : ℝ) : EReal))
      ∧ r.2.mem ((c.tc : Thread nD τ).loc main_v85) = (fun i : S1x1024.Idx => ((∑ r : Fin 16384, dx (y c) (gate (v c) (g c) (b c) (W c)) (proj (p c) (q c)) (W c) r (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hX : ∀ (c : Dev nD) r k, runXh m c (ix2 r k) = (xh (v c r) k : EReal) := fun c => rXh_val _ (v c) (hv c)
  have hG : ∀ (c : Dev nD) r k, runGate m c (ix2 r k) = (gate (v c) (g c) (b c) (W c) r k : EReal) := fun c =>
    rGate_val _ _ _ _ (v c) (g c) (b c) (W c) (hv c) (hg c) (hb c) (hW c)
  have hP : ∀ (c : Dev nD) r k, runProj m c (ix2 r k) = (proj (p c) (q c) r k : EReal) := fun c => rProj_val _ _ (p c) (q c) (hp c) (hq c)
  have hE : ∀ (c : Dev nD) r k, runPre m c (ix2 r k) = (dpre (y c) (gate (v c) (g c) (b c) (W c)) (proj (p c) (q c)) r k : EReal) := fun c =>
    rPre_val _ (y c) (hy c) _ _ _ _ (hG c) (hP c)
  have hD : ∀ (c : Dev nD) r k, runDx m c (ix2 r k) = (dx (y c) (gate (v c) (g c) (b c) (W c)) (proj (p c) (q c)) (W c) r k : EReal) := fun c =>
    rDx_val _ _ (y c) (W c) (hy c) (hW c) _ _ _ _ (hG c) (hP c)
  have hT : ∀ (c : Dev nD) r k, runT m c (ix2 r k) = ((dx (y c) (gate (v c) (g c) (b c) (W c)) (proj (p c) (q c)) (W c) r k * g c k : ℝ) : EReal) := fun c r k => by
    have h := hD c
    have h' := hg c
    pointwise [runT]
    rw [h, h', ← EReal.coe_mul]
  refine (θ_run defs _ _).mono (fun r h c => ⟨(h c).1.trans ?_, (h c).2.1.trans ?_, (h c).2.2.1.trans (b := truncf .bf16 (mulf (runGate m c)
    (shapeCast S16384x1024 (m ((c.tc : Thread nD τ).loc main_arg6)) shapeCasts_S16384x1024_S16384x1024)) bitsLt_bf16_f32) ?_, (h c).2.2.2.1.trans ?_, (h c).2.2.2.2.1.trans ?_,
    (h c).2.2.2.2.2⟩) (run m ρ)
  · rw [out0_eq]
    funext i
    obtain ⟨a, k, rfl⟩ : ∃ (a : Fin 16384) (k : Fin 1024), i = ix2 a k := ⟨i 0, i 1, by idx_vars i⟩
    exact rDv_val _ (v c) (hv c) _ _ (hT c) a k
  · rw [out1_eq]
    funext i
    obtain ⟨a, k, rfl⟩ : ∃ (a : Fin 16384) (k : Fin 1024), i = ix2 a k := ⟨i 0, i 1, by idx_vars i⟩
    exact hE c a k
  · funext i
    obtain ⟨a, k, rfl⟩ : ∃ (a : Fin 16384) (k : Fin 1024), i = ix2 a k := ⟨i 0, i 1, by idx_vars i⟩
    have h1 := hG c
    have h2 := hy c
    pointwise
    rw [h1, h2, mul_comm, ← EReal.coe_mul]
  · rw [out3_eq]
    funext i
    obtain ⟨z, k, rfl⟩ : ∃ (z : Fin 1) (k : Fin 1024), i = ix2 z k := ⟨i 0, i 1, by idx_vars i⟩
    refine rCols_val _ (fun r k => dx (y c) (gate (v c) (g c) (b c) (W c)) (proj (p c) (q c)) (W c) r k * xh (v c r) k) (fun r k => ?_) z k
    have h1 := hX c
    have h2 := hD c
    pointwise
    rw [h1, h2, mul_comm, ← EReal.coe_mul]
  · rw [out4_eq]
    funext i
    obtain ⟨z, k, rfl⟩ : ∃ (z : Fin 1) (k : Fin 1024), i = ix2 z k := ⟨i 0, i 1, by idx_vars i⟩
    exact rCols_val _ _ (hD c) z k

end run

end Cert.PleReferenceIdeal.Value

end
-- ==== Proof.Ple.Claims.lean ====
/-
  The claims about the gated embedding's gradient: its frames, and the equality of the results of kernel and reference over finite
  arguments.
-/
module

public import proofs.«01_k».proof.Proof.Ple.Kernel
public import proofs.«01_k».proof.Proof.Ple.Reference
public import proofs.«01_k».proof.Proof.Finite
public import proofs.«01_k».proof.Proof.Gen.Pre_finite_ple
public import proofs.«01_k».proof.Defs
public import Idealize.ShloMosaic.Lib.Claim

@[expose] public section

set_option maxRecDepth 16384

noncomputable section

namespace Cert.PleClaims

open Idealize.ShloMosaic Idealize.ShloMosaic.TcCoe Idealize.ShloMosaic.StableHlo Idealize.SL.Sem
open Cert.PleKernelIdeal Cert.PleKernelIdeal.Value Cert.PleNorm

instance : Subsingleton Cert.Pre_finite_ple.S_.Idx := ⟨fun a b => funext fun i => absurd i.isLt (by decide +revert)⟩

/-- The precondition over real numbers: every element of the seven arguments is one. -/
theorem reals [Cert.Pre_finite_ple.Facts] (v : FVec Ideal S16384x1024 .f32) (g b : FVec Ideal S1024 .f32) (p : FVec Ideal S16384x256 .f32)
    (W : FVec Ideal S1024x1024 .f32) (q : FVec Ideal S256x1024 .f32) (y : FVec Ideal S16384x1024 .f32)
    (h : Cert.Pre_finite_ple.fn (F := Ideal) v g b p W q y = fun _ => 1#1) :
    (∀ i, ∃ r : ℝ, v i = (r : EReal)) ∧ (∀ i, ∃ r : ℝ, g i = (r : EReal)) ∧ (∀ i, ∃ r : ℝ, b i = (r : EReal)) ∧ (∀ i, ∃ r : ℝ, p i = (r : EReal))
      ∧ (∀ i, ∃ r : ℝ, W i = (r : EReal)) ∧ (∀ i, ∃ r : ℝ, q i = (r : EReal)) ∧ (∀ i, ∃ r : ℝ, y i = (r : EReal)) := by
  have h0 := congrFun h (fun i => absurd i.isLt (by decide +revert))
  obtain ⟨h1, hy⟩ := IntOp.andi_eq_one.1 h0
  obtain ⟨h2, hq⟩ := IntOp.andi_eq_one.1 h1
  obtain ⟨h3, hW⟩ := IntOp.andi_eq_one.1 h2
  obtain ⟨h4, hp⟩ := IntOp.andi_eq_one.1 h3
  obtain ⟨h5, hb⟩ := IntOp.andi_eq_one.1 h4
  obtain ⟨hv, hg⟩ := IntOp.andi_eq_one.1 h5
  exact ⟨Cert.Finite.real_of_all v _ _ _ _ _ (fun _ => rfl) hv, Cert.Finite.real_of_all g _ _ _ _ _ (fun _ => rfl) hg,
    Cert.Finite.real_of_all b _ _ _ _ _ (fun _ => rfl) hb, Cert.Finite.real_of_all p _ _ _ _ _ (fun _ => rfl) hp,
    Cert.Finite.real_of_all W _ _ _ _ _ (fun _ => rfl) hW, Cert.Finite.real_of_all q _ _ _ _ _ (fun _ => rfl) hq,
    Cert.Finite.real_of_all y _ _ _ _ _ (fun _ => rfl) hy⟩

theorem frame_ideal : Cert.quiescent_PleKernelIdeal := fun m ρ _ => Cert.PleKernelIdeal.Gen.frame m ρ

theorem frame_reference : Cert.quiescent_PleReferenceIdeal := fun m ρ _ =>
  (θ_run Cert.PleReferenceIdeal.defs _ _).mono (fun r h => ⟨fun c => (h c).2.2.2.2.2, sem_eq_zero_of_no_sems (by decide) r.2⟩)
    (Cert.PleReferenceIdeal.Value.run m ρ)

/-- Kernel and reference give the same five gradients. -/
theorem algebraic : Cert.algebraic_PleKernelIdeal_PleReferenceIdeal_pre_finite_ple := by
  intro m ρ m' ρ' hpre hagree
  have hr := fun c => reals _ _ _ _ _ _ _ (hpre c)
  choose v hv using fun c r k => (hr c).1 (ix2 r k)
  choose g hg using fun c k => (hr c).2.1 (ix1 k)
  choose b hb using fun c k => (hr c).2.2.1 (ix1 k)
  choose p hp using fun c r e => (hr c).2.2.2.1 (ix2 r e)
  choose W hW using fun c k j => (hr c).2.2.2.2.1 (ix2 k j)
  choose q hq using fun c e j => (hr c).2.2.2.2.2.1 (ix2 e j)
  choose y hy using fun c r k => (hr c).2.2.2.2.2.2 (ix2 r k)
  refine ⟨fun c => (fun i : S16384x1024.Idx => (dv (y c) (gate (v c) (g c) (b c) (W c)) (proj (p c) (q c)) (fun r => xh (v c r)) (W c) (fun r => rs (v c r)) (g c) (i 0) (i 1) : EReal)),
    fun c => (fun i : S16384x1024.Idx => (dpre (y c) (gate (v c) (g c) (b c) (W c)) (proj (p c) (q c)) (i 0) (i 1) : EReal)),
    fun c => (fun i : S16384x1024.Idx => ((y c (i 0) (i 1) * gate (v c) (g c) (b c) (W c) (i 0) (i 1) : ℝ) : EReal)),
    fun c => (fun i : S1x1024.Idx => ((∑ r : Fin 16384, dx (y c) (gate (v c) (g c) (b c) (W c)) (proj (p c) (q c)) (W c) r (i 1) * xh (v c r) (i 1) : ℝ) : EReal)),
    fun c => (fun i : S1x1024.Idx => ((∑ r : Fin 16384, dx (y c) (gate (v c) (g c) (b c) (W c)) (proj (p c) (q c)) (W c) r (i 1) : ℝ) : EReal)), ?_,
    Cert.PleReferenceIdeal.Value.run_reference m' ρ' v y g b W p q (fun c r k => (congrFun (hagree c).1 (ix2 r k)).trans (hv c r k))
      (fun c k => (congrFun (hagree c).2.1 (ix1 k)).trans (hg c k)) (fun c k => (congrFun (hagree c).2.2.1 (ix1 k)).trans (hb c k))
      (fun c r e => (congrFun (hagree c).2.2.2.1 (ix2 r e)).trans (hp c r e)) (fun c k j => (congrFun (hagree c).2.2.2.2.1 (ix2 k j)).trans (hW c k j))
      (fun c e j => (congrFun (hagree c).2.2.2.2.2.1 (ix2 e j)).trans (hq c e j)) (fun c r k => (congrFun (hagree c).2.2.2.2.2.2 (ix2 r k)).trans (hy c r k))⟩
  refine (θ_run defs _ _).mono (fun r h c => ?_) (run_blocks m ρ)
  obtain ⟨h7, h8, h9, h10, h11, h12, hk⟩ := h c
  exact ⟨h7.trans (final7 m c (v c) (y c) (g c) (b c) (W c) (p c) (q c) (hv c) (hg c) (hb c) (hp c) (hW c) (hq c) (hy c)),
    h9.trans (final9 m c (v c) (y c) (g c) (b c) (W c) (p c) (q c) (hv c) (hg c) (hb c) (hp c) (hW c) (hq c) (hy c)),
    h10.trans (final10 m c (v c) (y c) (g c) (b c) (W c) (hv c) (hg c) (hb c) (hW c) (hy c)),
    h11.trans (final11 m c (v c) (y c) (g c) (b c) (W c) (p c) (q c) (hv c) (hg c) (hb c) (hp c) (hW c) (hq c) (hy c)),
    h12.trans (final12 m c (v c) (y c) (g c) (b c) (W c) (p c) (q c) (hv c) (hg c) (hb c) (hp c) (hW c) (hq c) (hy c)), hk⟩

end Cert.PleClaims

end
-- ==== Proof.Norm.Real.lean ====
/-
  The feed-forward's input product and the layer norm before it: the gradient over real numbers.
-/
module

public import proofs.«01_k».proof.Proof.Ple.Norm
public import Idealize.ShloMosaic.Lib.Pipeline.ValueKit.Acc

@[expose] public section

noncomputable section

namespace Cert.NormReal

open Idealize.ShloMosaic Cert.Reals Cert.Logistic Cert.PleNorm

/-- The factor of the residual. -/
def alpha : ℝ := 14107901 / 8388608

theorem word_alpha : Ideal.ofBits .f32 0x3FD744FD#32 = (alpha : EReal) := by
  unfold alpha
  simp [Ideal.ofBits, Ideal.ieee, -EReal.coe_mul]; norm_num

/-- Column `l` of quarter `s` of the product's weights. -/
def col (s : Fin 4) (l : Fin 1408) : Fin 5632 := ⟨s.val * 1408 + l.val, by have := s.isLt; have := l.isLt; omega⟩
/-- Column `l` of half `h` of a cotangent. -/
def half (h : Fin 2) (l : Fin 1408) : Fin 2816 := ⟨h.val * 1408 + l.val, by have := h.isLt; have := l.isLt; omega⟩

section rows
variable {n : ℕ} (y : Fin n → Fin 1024 → ℝ) (a u : Fin n → Fin 2816 → ℝ) (W : Fin 1024 → Fin 5632 → ℝ) (X : Fin n → Fin 1024 → ℝ) (s : Fin n → ℝ) (g : Fin 1024 → ℝ)

/-- The cotangents of the gate's columns and of the linear ones, side by side. -/
def both (r : Fin n) (j : Fin 5632) : ℝ := if h : j.val < 2816 then a r ⟨j.val, h⟩ else u r ⟨j.val - 2816, by have := j.isLt; omega⟩
/-- The gradient of the norm's output. -/
def dz (r : Fin n) (k : Fin 1024) : ℝ := ∑ j, both a u r j * W k j + alpha * y r k
/-- The gradient of the norm's input. -/
def dIn (r : Fin n) (k : Fin 1024) : ℝ := back (s r) (X r) (fun i => dz y a u W r i * g i) k

/-- The product quarter by quarter. -/
theorem dz_quarters (r : Fin n) (k : Fin 1024) : dz y a u W r k
    = ∑ l, a r (half 0 l) * W k (col 0 l) + ∑ l, a r (half 1 l) * W k (col 1 l) + ∑ l, u r (half 0 l) * W k (col 2 l) + ∑ l, u r (half 1 l) * W k (col 3 l)
      + alpha * y r k := by
  have h : ∑ s : Fin 4, ∑ l : Fin 1408, both a u r (col s l) * W k (col s l) = ∑ j : Fin 5632, both a u r j * W k j :=
    Fin.sum_mul_add_congr fun s l hl => rfl
  have e0 : ∀ l, both a u r (col 0 l) = a r (half 0 l) := fun l => dif_pos (show 0 * 1408 + l.val < 2816 by have := l.isLt; omega)
  have e1 : ∀ l, both a u r (col 1 l) = a r (half 1 l) := fun l => dif_pos (show 1 * 1408 + l.val < 2816 by have := l.isLt; omega)
  have e2 : ∀ l, both a u r (col 2 l) = u r (half 0 l) := fun l => (dif_neg (show ¬2 * 1408 + l.val < 2816 by omega)).trans
    (congrArg (u r) (Fin.ext (show 2 * 1408 + l.val - 2816 = 0 * 1408 + l.val by omega)))
  have e3 : ∀ l, both a u r (col 3 l) = u r (half 1 l) := fun l => (dif_neg (show ¬3 * 1408 + l.val < 2816 by omega)).trans
    (congrArg (u r) (Fin.ext (show 3 * 1408 + l.val - 2816 = 1 * 1408 + l.val by omega)))
  unfold dz
  rw [← h, Fin.sum_univ_four]
  simp only [e0, e1, e2, e3]
end rows

end Cert.NormReal

end
-- ==== Proof.Norm.Block.lean ====
/-
  The feed-forward's input product and the layer norm before it: what the kernel computes on a block of rows.
-/
module

public import proofs.«01_k».proof.Proof.Gen.NormKernelIdeal.Skeleton
public import proofs.«01_k».proof.Proof.Norm.Real

@[expose] public section

set_option maxRecDepth 16384

noncomputable section

namespace Cert.NormKernelIdeal.Value

open Cert.NormKernelIdeal Cert.NormKernelIdeal.Gen Cert.PleNorm Cert.NormReal Cert.Logistic Cert.Reals Idealize.ShloMosaic

variable (x0 x1 : Vec Ideal S512x2816 .bf16) (x2 : Vec Ideal S4x1024x1408 .bf16) (x3 : Vec Ideal S512x1024 .f32) (x4 : Vec Ideal S512x1024 .bf16)
  (x5 : Vec Ideal S512x1 .f32) (x6 : Vec Ideal S1x1024 .f32)
  (y : Fin 512 → Fin 1024 → ℝ) (a u : Fin 512 → Fin 2816 → ℝ) (W : Fin 1024 → Fin 5632 → ℝ) (X : Fin 512 → Fin 1024 → ℝ) (s : Fin 512 → ℝ) (g : Fin 1024 → ℝ)
  (h0 : ∀ r j, x0 (ix2 r j) = (a r j : EReal)) (h1 : ∀ r j, x1 (ix2 r j) = (u r j : EReal)) (h2 : ∀ q k l, x2 (ix3 q k l) = (W k (col q l) : EReal))
  (h3 : ∀ r k, x3 (ix2 r k) = (y r k : EReal)) (h4 : ∀ r k, x4 (ix2 r k) = (X r k : EReal)) (h5 : ∀ r, x5 (ix2 r 0) = (s r : EReal))
  (h6 : ∀ k, x6 (ix2 0 k) = (g k : EReal))

/-- The gradient of the norm's output, as a point computes it. -/
def kDz : FVec Ideal S512x1024 .f32 :=
  k0_pay2 (View.ld x0 (Rect.unit (s := S512x2816) ![0, 0] S512x1408.size inb_S512x2816_S512x1408_0_0))
    (View.ld x2 (Rect.unit (s := S4x1024x1408) ![0, 0, 0] S1x1024x1408.size inb_S4x1024x1408_S1x1024x1408_0_0_0))
    (View.ld x0 (Rect.unit (s := S512x2816) ![0, 1408] S512x1408.size inb_S512x2816_S512x1408_0_1408))
    (View.ld x2 (Rect.unit (s := S4x1024x1408) ![1, 0, 0] S1x1024x1408.size inb_S4x1024x1408_S1x1024x1408_1_0_0))
    (View.ld x1 (Rect.unit (s := S512x2816) ![0, 0] S512x1408.size inb_S512x2816_S512x1408_0_0))
    (View.ld x2 (Rect.unit (s := S4x1024x1408) ![2, 0, 0] S1x1024x1408.size inb_S4x1024x1408_S1x1024x1408_2_0_0))
    (View.ld x1 (Rect.unit (s := S512x2816) ![0, 1408] S512x1408.size inb_S512x2816_S512x1408_0_1408))
    (View.ld x2 (Rect.unit (s := S4x1024x1408) ![3, 0, 0] S1x1024x1408.size inb_S4x1024x1408_S1x1024x1408_3_0_0)) x3

include h0 h1 h2 h3 in
theorem kDz_val (r : Fin 512) (k : Fin 1024) : kDz x0 x1 x2 x3 (ix2 r k) = (dz y a u W r k : EReal) := by
  rw [dz_quarters]
  pointwise [kDz, k0_pay2]
  have e0 : ∀ l : Fin 1408, (⟨l.val, Nat.lt_trans l.isLt (by decide)⟩ : Fin 2816) = half 0 l := fun l => Fin.ext (by show l.val = 0 * 1408 + l.val; omega)
  have e1 : ∀ l : Fin 1408, (⟨1408 + l.val, Nat.add_lt_add_left l.isLt 1408⟩ : Fin 2816) = half 1 l := fun l => Fin.ext (by show 1408 + l.val = 1 * 1408 + l.val; omega)
  simp only [h0, h1, h2, h3, e0, e1, word_alpha, ← EReal.coe_mul, ← coe_sum, ← EReal.coe_add]

/-- What a point stores of the rows' gradient. -/
def kDv : FVec Ideal S512x1024 .f32 := k0_pay4 (kDz x0 x1 x2 x3) (k0_pay3 x4) x5 x6

include h0 h1 h2 h3 h4 h5 h6 in
theorem kDv_val (r : Fin 512) (k : Fin 1024) : kDv x0 x1 x2 x3 x4 x5 x6 (ix2 r k) = (dIn y a u W X s g r k : EReal) := by
  have h := kDz_val x0 x1 x2 x3 y a u W h0 h1 h2 h3
  pointwise [kDv, k0_pay4, k0_pay3]
  simp only [h, h4, h5, h6, word_1024, ← EReal.coe_mul, ← coe_sum, div_1024, ← EReal.coe_sub]
  rfl

/-- What a point stores of the gradient of the norm's weights, over what was there. -/
def kDg (acc : Vec Ideal S1x1024 .f32) : FVec Ideal S1x1024 .f32 := k0_pay9 (kDz x0 x1 x2 x3) (k0_pay3 x4) acc
/-- The same of its offsets. -/
def kDb (acc : Vec Ideal S1x1024 .f32) : FVec Ideal S1x1024 .f32 := k0_pay1 (k0_pay5 (kDz x0 x1 x2 x3)) acc

include h0 h1 h2 h3 h4 in
theorem kDg_val (acc : Vec Ideal S1x1024 .f32) (z : Fin 1) (k : Fin 1024) : kDg x0 x1 x2 x3 x4 acc (ix2 z k)
    = acc (ix2 z k) + ((∑ r, dz y a u W r k * X r k : ℝ) : EReal) := by
  have h := kDz_val x0 x1 x2 x3 y a u W h0 h1 h2 h3
  pointwise [kDg, k0_pay9, k0_pay3]
  simp only [h, h4, ← EReal.coe_mul, ← coe_sum]

include h0 h1 h2 h3 in
theorem kDb_val (acc : Vec Ideal S1x1024 .f32) (z : Fin 1) (k : Fin 1024) : kDb x0 x1 x2 x3 acc (ix2 z k)
    = acc (ix2 z k) + ((∑ r, dz y a u W r k : ℝ) : EReal) := by
  have h := kDz_val x0 x1 x2 x3 y a u W h0 h1 h2 h3
  pointwise [kDb, k0_pay1, k0_pay5]
  simp only [h, ← coe_sum]

end Cert.NormKernelIdeal.Value

end
-- ==== Proof.Norm.Kernel.lean ====
/-
  The feed-forward's input product and the layer norm before it: what the kernel's results hold, as functions of its arguments.
-/
module

public import proofs.«01_k».proof.Proof.Gen.NormKernelIdeal.Value
public import proofs.«01_k».proof.Proof.Norm.Block
public import Idealize.ShloMosaic.Lib.Pipeline.ValueKit

@[expose] public section

set_option maxRecDepth 16384

noncomputable section

namespace Cert.NormKernelIdeal.Value

open Cert.NormKernelIdeal Cert.NormKernelIdeal.Gen Cert.PleNorm Cert.NormReal Cert.Logistic Cert.Reals Idealize.ShloMosaic Idealize.ShloMosaic.TcCoe Idealize.SL.Sem
open Idealize.ShloMosaic.StableHlo
open Idealize.ShloMosaic.Pipeline (Dat)

section host
variable (A : Valuation τ sig (Elt Ideal)) (v : Fin 16384 → Fin 1024 → ℝ) (g : Fin 1024 → ℝ) (W : Fin 1024 → Fin 5632 → ℝ) (a u : Fin 16384 → Fin 2816 → ℝ)
  (hv : ∀ r k, (A (Proc.devRef .tc main_arg0) : FVec Ideal S16384x1024 .f32) (ix2 r k) = (v r k : EReal))
  (hg : ∀ k, (A (Proc.devRef .tc main_arg1) : FVec Ideal S1024 .f32) (ix1 k) = (g k : EReal))
  (hW : ∀ k j, (A (Proc.devRef .tc main_arg3) : FVec Ideal S1024x5632 .f32) (ix2 k j) = (W k j : EReal))
  (ha : ∀ r j, (A (Proc.devRef .tc main_arg4) : FVec Ideal S16384x2816 .f32) (ix2 r j) = (a r j : EReal))
  (hu : ∀ r j, (A (Proc.devRef .tc main_arg5) : FVec Ideal S16384x2816 .f32) (ix2 r j) = (u r j : EReal))

include hv in
/-- The factors that normalise the rows. -/
theorem host13 (r : Fin 16384) : (after hostOps0 A (Proc.devRef .tc main_v13) : FVec Ideal S16384x1 .f32) (ix2 r 0) = (rs (v r) : EReal) := by
  after_results_simp
  pointwise
  have e1 : (∑ k, v r k) / 1024 = mu (v r) := rfl
  have e2 : (∑ k, (v r k - mu (v r)) * (v r k - mu (v r))) / 1024 + eps = ms (v r) := rfl
  simp only [hv, word_1024, word_eps, ← coe_sum, div_1024, e1, ← EReal.coe_sub, ← EReal.coe_mul, ← EReal.coe_add, e2, rsqrt_ms]

include hv in
/-- The normalised rows. -/
theorem host23 (r : Fin 16384) (k : Fin 1024) : (after hostOps0 A (Proc.devRef .tc main_v23) : FVec Ideal S16384x1024 .bf16) (ix2 r k) = (xh (v r) k : EReal) := by
  after_results_simp
  pointwise
  have e1 : (∑ k, v r k) / 1024 = mu (v r) := rfl
  have e2 : (∑ k, (v r k - mu (v r)) * (v r k - mu (v r))) / 1024 + eps = ms (v r) := rfl
  simp only [hv, word_1024, word_eps, ← coe_sum, div_1024, e1, ← EReal.coe_sub, ← EReal.coe_mul, ← EReal.coe_add, e2, rsqrt_ms]
  rfl

include hW in
/-- The weights, quarter by quarter. -/
theorem host20 (q : Fin 4) (k : Fin 1024) (l : Fin 1408) :
    (after hostOps0 A (Proc.devRef .tc main_v20) : FVec Ideal S4x1024x1408 .bf16) (ix3 q k l) = (W k (col q l) : EReal) := by
  rw [← hW]
  after_results_simp
  pointwise
  rfl

include ha in
theorem host21 (r : Fin 16384) (j : Fin 2816) : (after hostOps0 A (Proc.devRef .tc main_v21) : FVec Ideal S16384x2816 .bf16) (ix2 r j) = (a r j : EReal) := by
  rw [← ha]
  after_results_simp
  rfl
include hu in
theorem host22 (r : Fin 16384) (j : Fin 2816) : (after hostOps0 A (Proc.devRef .tc main_v22) : FVec Ideal S16384x2816 .bf16) (ix2 r j) = (u r j : EReal) := by
  rw [← hu]
  after_results_simp
  rfl

include hg in
theorem host24 (k : Fin 1024) : (after hostOps0 A (Proc.devRef .tc main_v24) : FVec Ideal S1x1024 .f32) (ix2 0 k) = (g k : EReal) := by
  rw [← hg]
  after_results_simp
  pointwise
end host

/-! ## What a point stores -/

section outs
variable (m : (ℓ : Loc nD τ sig) → Buf (Elt Ideal) ℓ) (c : Dev nD) (t : Fin cfg0.N)

set_option maxHeartbeats 2000000 in
theorem outs_dv : (outsAt0 m c t.val t.isLt).1 = kDv (iblk m c 0 t) (iblk m c 1 t) (iblk m c 2 t) (iblk m c 3 t) (iblk m c 4 t) (iblk m c 5 t) (iblk m c 6 t) := by
  by_cases h0 : t.val % 32 = 0
  on_goal 1 => rw [outsAt0_A m c t h0]
  on_goal 2 => rw [outsAt0_B m c t h0]
  all_goals
    frame_out
    rfl
end outs

/-! ## The arrays after the run -/

section arrays
variable (m : (ℓ : Loc nD τ sig) → Buf (Elt Ideal) ℓ) (c : Dev nD) (v y : Fin 16384 → Fin 1024 → ℝ) (g : Fin 1024 → ℝ) (W : Fin 1024 → Fin 5632 → ℝ)
  (a u : Fin 16384 → Fin 2816 → ℝ)
  (hv : ∀ r k, m ((c : Thread nD τ).loc main_arg0) (ix2 r k) = (v r k : EReal))
  (hg : ∀ k, m ((c : Thread nD τ).loc main_arg1) (ix1 k) = (g k : EReal))
  (hW : ∀ k j, m ((c : Thread nD τ).loc main_arg3) (ix2 k j) = (W k j : EReal))
  (ha : ∀ r j, m ((c : Thread nD τ).loc main_arg4) (ix2 r j) = (a r j : EReal))
  (hu : ∀ r j, m ((c : Thread nD τ).loc main_arg5) (ix2 r j) = (u r j : EReal))
  (hy : ∀ r k, m ((c : Thread nD τ).loc main_arg6) (ix2 r k) = (y r k : EReal))

/-- The blocks that each grid point stages. -/
theorem idx : ∀ t : Fin cfg0.N, win0_0.index t = ![t.val, 0] ∧ win0_1.index t = ![t.val, 0] ∧ win0_2.index t = ![0, 0, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

/-- The row of the arrays that a row of point `t`'s block is. -/
def row (t : Fin cfg0.N) (r : Fin 512) : Fin 16384 := ⟨t.val * 512 + r.val, by have : t.val < 32 := t.isLt; omega⟩

include ha in
theorem blk0 (t : Fin cfg0.N) (r : Fin 512) (j : Fin 2816) : iblk m c 0 t (ix2 r j) = (a (row t r) j : EReal) := by
  rw [← host21 (fun b => m (c, b)) a ha]
  blk_point [iblk, idx t, row]
include hu in
theorem blk1 (t : Fin cfg0.N) (r : Fin 512) (j : Fin 2816) : iblk m c 1 t (ix2 r j) = (u (row t r) j : EReal) := by
  rw [← host22 (fun b => m (c, b)) u hu]
  blk_point [iblk, idx t, row]
include hW in
theorem blk2 (t : Fin cfg0.N) (q : Fin 4) (k : Fin 1024) (l : Fin 1408) : iblk m c 2 t (ix3 q k l) = (W k (col q l) : EReal) := by
  rw [← host20 (fun b => m (c, b)) W hW]
  blk_point [iblk, idx t, row]
include hy in
theorem blk3 (t : Fin cfg0.N) (r : Fin 512) (k : Fin 1024) : iblk m c 3 t (ix2 r k) = (y (row t r) k : EReal) := by
  rw [← hy]
  blk_point [iblk, V, idx t, row]
include hv in
theorem blk4 (t : Fin cfg0.N) (r : Fin 512) (k : Fin 1024) : iblk m c 4 t (ix2 r k) = (xh (v (row t r)) k : EReal) := by
  rw [← host23 (fun b => m (c, b)) v hv]
  blk_point [iblk, idx t, row]
include hv in
theorem blk5 (t : Fin cfg0.N) (r : Fin 512) : iblk m c 5 t (ix2 r 0) = (rs (v (row t r)) : EReal) := by
  rw [← host13 (fun b => m (c, b)) v hv]
  blk_point [iblk, idx t, row]
include hg in
theorem blk6 (t : Fin cfg0.N) (k : Fin 1024) : iblk m c 6 t (ix2 0 k) = (g k : EReal) := by
  rw [← host24 (fun b => m (c, b)) g hg]
  blk_point [iblk, idx t, row]

include hv hg hW ha hu hy in
/-- The gradient of the rows after the run. -/
theorem final7 : (dats m 0 c).arrAt 7 cfg0.N = fun i : S16384x1024.Idx =>
    (dIn y a u W (fun r => xh (v r)) (fun r => rs (v r)) g (i 0) (i 1) : EReal) := by
  refine (dats m 0 c).arrAt_eq_of_covers 7 _ (by decide +kernel) fun t hf (x : S512x1024.Idx) => ?_
  blk_simp
  rw [after0_7]
  obtain ⟨r, k, rfl⟩ : ∃ (r : Fin 512) (k : Fin 1024), x = ix2 r k := ⟨x 0, x 1, by idx_vars x⟩
  rw [outs_dv, kDv_val _ _ _ _ _ _ _ _ _ _ _ _ _ _ (blk0 m c a ha t) (blk1 m c u hu t) (blk2 m c W hW t) (blk3 m c y hy t)
    (blk4 m c v hv t) (blk5 m c v hv t) (blk6 m c g hg t)]
  have e : ((cfg0.win 7).blk t).view.emb (ix2 r k) = (ix2 (row t r) k : S16384x1024.Idx) := by blk_ext [idx t, row]
  rw [e]
  rfl

/-- What point `n` adds up of a row's function, column by column. -/
def part (f : Fin 16384 → Fin 1024 → ℝ) (n : ℕ) (j : S1x1024.Idx) : EReal :=
  ((∑ r : Fin 512, f (⟨(n * 512 + r.val) % 16384, Nat.mod_lt _ (by decide)⟩ : Fin 16384) (j 1) : ℝ) : EReal)

theorem part_row (f : Fin 16384 → Fin 1024 → ℝ) (t : Fin cfg0.N) (z : Fin 1) (k : Fin 1024) :
    part f t.val (ix2 z k) = ((∑ r : Fin 512, f (row t r) k : ℝ) : EReal) := by
  unfold part
  have e : ∀ r : Fin 512, (⟨(t.val * 512 + r.val) % 16384, Nat.mod_lt _ (by decide)⟩ : Fin 16384) = row t r := fun r =>
    Fin.ext (by have : t.val < 32 := t.isLt; show (t.val * 512 + r.val) % 16384 = t.val * 512 + r.val; omega)
  simp only [e]
  rfl

/-- The parts of all points are the sum over all rows. -/
theorem sum_parts (f : Fin 16384 → Fin 1024 → ℝ) (x : S1x1024.Idx) : (∑ s : Fin 32, part f (32 * 0 + s.val) x) = ((∑ r : Fin 16384, f r (x 1) : ℝ) : EReal) := by
  unfold part
  rw [← coe_sum]
  refine congrArg Real.toEReal (Fin.sum_mul_add_congr fun s r hl => ?_)
  refine congrArg (fun u => f u (x 1)) (Fin.ext ?_)
  show ((32 * 0 + s.val) * 512 + r.val) % 16384 = s.val * 512 + r.val
  omega

include hv hW ha hu hy in
theorem kDg_part (t : Fin cfg0.N) (acc : Vec Ideal S1x1024 .f32) (j : S1x1024.Idx) :
    kDg (iblk m c 0 t) (iblk m c 1 t) (iblk m c 2 t) (iblk m c 3 t) (iblk m c 4 t) acc j
      = acc j + part (fun r k => dz y a u W r k * xh (v r) k) t.val j := by
  obtain ⟨z, k, rfl⟩ : ∃ (z : Fin 1) (k : Fin 1024), j = ix2 z k := ⟨j 0, j 1, by idx_vars j⟩
  rw [kDg_val _ _ _ _ _ _ _ _ _ _ (blk0 m c a ha t) (blk1 m c u hu t) (blk2 m c W hW t) (blk3 m c y hy t) (blk4 m c v hv t), part_row]
  rfl

include hW ha hu hy in
theorem kDb_part (t : Fin cfg0.N) (acc : Vec Ideal S1x1024 .f32) (j : S1x1024.Idx) :
    kDb (iblk m c 0 t) (iblk m c 1 t) (iblk m c 2 t) (iblk m c 3 t) acc j = acc j + part (dz y a u W) t.val j := by
  obtain ⟨z, k, rfl⟩ : ∃ (z : Fin 1) (k : Fin 1024), j = ix2 z k := ⟨j 0, j 1, by idx_vars j⟩
  rw [kDb_val _ _ _ _ _ _ _ _ (blk0 m c a ha t) (blk1 m c u hu t) (blk2 m c W hW t) (blk3 m c y hy t), part_row]
  rfl

set_option maxHeartbeats 2000000 in
include hv hW ha hu hy in
/-- The gradient of the norm's weights after the run. -/
theorem final9 : (dats m 0 c).arrAt 9 cfg0.N = fun i : S1x1024.Idx => ((∑ r : Fin 16384, dz y a u W r (i 1) * xh (v r) (i 1) : ℝ) : EReal) := by
  refine (dats m 0 c).arrAt_eq_of_covers 9 _ (by decide +kernel) fun t hf (x : S1x1024.Idx) => ?_
  blk_simp
  rw [after0_9, Pipeline.eq_sum_fin_of_reset_step_apply_of_flush (fun n h => (outsAt0 m c n h).2.2.1) 32 (fun _ => 0)
    (fun n j => part (fun r k => dz y a u W r k * xh (v r) k) n.val j)
    (fun t h j => by
      rw [outsAt0_A m c t h]; frame_out
      refine Eq.trans (b := kDg (iblk m c 0 t) (iblk m c 1 t) (iblk m c 2 t) (iblk m c 3 t) (iblk m c 4 t) (k0_pay7 (F := Ideal)) j) rfl ?_
      rw [kDg_part m c v y W a u hv hW ha hu hy]
      congr 1
      pointwise [k0_pay7])
    (fun t h j => by
      rw [outsAt0_B m c t h]; frame_out
      refine Eq.trans (b := kDg (iblk m c 0 t) (iblk m c 1 t) (iblk m c 2 t) (iblk m c 3 t) (iblk m c 4 t) _ j) rfl ?_
      rw [kDg_part m c v y W a u hv hW ha hu hy])
    t ((flush0_9 t).mp hf) _, zero_add]
  have ht : t.val / 32 = 0 := Nat.div_eq_of_lt (lt_of_lt_of_eq t.isLt N_0)
  have ex : (((cfg0.win 9).blk t).view.emb x : S1x1024.Idx) = x := by blk_ext [idx t]
  rw [ex]
  have e : ∀ s : Fin 32, 32 * (t.val / 32) + s.val = 32 * 0 + s.val := fun s => by rw [ht]
  refine (Fin.sum_fin_congr fun s => congrArg (fun n => part (fun r k => dz y a u W r k * xh (v r) k) n x) (e s)).trans ?_
  exact sum_parts (fun r k => dz y a u W r k * xh (v r) k) x

set_option maxHeartbeats 2000000 in
include hW ha hu hy in
/-- The gradient of the norm's offsets after the run. -/
theorem final10 : (dats m 0 c).arrAt 10 cfg0.N = fun i : S1x1024.Idx => ((∑ r : Fin 16384, dz y a u W r (i 1) : ℝ) : EReal) := by
  refine (dats m 0 c).arrAt_eq_of_covers 10 _ (by decide +kernel) fun t hf (x : S1x1024.Idx) => ?_
  blk_simp
  rw [after0_10, Pipeline.eq_sum_fin_of_reset_step_apply_of_flush (fun n h => (outsAt0 m c n h).2.2.2) 32 (fun _ => 0)
    (fun n j => part (dz y a u W) n.val j)
    (fun t h j => by
      rw [outsAt0_A m c t h]; frame_out
      refine Eq.trans (b := kDb (iblk m c 0 t) (iblk m c 1 t) (iblk m c 2 t) (iblk m c 3 t) (k0_pay8 (F := Ideal)) j) rfl ?_
      rw [kDb_part m c y W a u hW ha hu hy]
      congr 1
      pointwise [k0_pay8])
    (fun t h j => by
      rw [outsAt0_B m c t h]; frame_out
      refine Eq.trans (b := kDb (iblk m c 0 t) (iblk m c 1 t) (iblk m c 2 t) (iblk m c 3 t) _ j) rfl ?_
      rw [kDb_part m c y W a u hW ha hu hy])
    t ((flush0_10 t).mp hf) _, zero_add]
  have ht : t.val / 32 = 0 := Nat.div_eq_of_lt (lt_of_lt_of_eq t.isLt N_0)
  have ex : (((cfg0.win 10).blk t).view.emb x : S1x1024.Idx) = x := by blk_ext [idx t]
  rw [ex]
  have e : ∀ s : Fin 32, 32 * (t.val / 32) + s.val = 32 * 0 + s.val := fun s => by rw [ht]
  refine (Fin.sum_fin_congr fun s => congrArg (fun n => part (dz y a u W) n x) (e s)).trans ?_
  exact sum_parts (dz y a u W) x

end arrays

end Cert.NormKernelIdeal.Value

end
-- ==== Proof.Norm.Reference.lean ====
/-
  The feed-forward's input product and the layer norm before it: what the reference's three results are over real arguments.
-/
module

public import proofs.«01_k».proof.Proof.Gen.NormReferenceIdeal.Run
public import proofs.«01_k».proof.Proof.Ple.Reference
public import proofs.«01_k».proof.Proof.Norm.Real

@[expose] public section

set_option maxRecDepth 16384

noncomputable section

namespace Cert.NormReferenceIdeal.Value

open Cert.NormReferenceIdeal Cert.NormReferenceIdeal.Gen Cert.PleNorm Cert.NormReal Cert.Logistic Cert.Reals Idealize.ShloMosaic Idealize.ShloMosaic.TcCoe
open Idealize.ShloMosaic.StableHlo Idealize.SL.Sem
open Cert.PleReferenceIdeal.Value (rDev rMs rXh rVar rDir rDv rCols rowOf rXh_val rDv_val rCols_val)

/-- The two cotangents side by side. -/
def rBoth (va vu : FVec Ideal S16384x2816 .f32) : FVec Ideal S16384x5632 .f32 :=
  concatenate S16384x5632 1 [⟨S16384x2816, va⟩, ⟨S16384x2816, vu⟩] concatenates_S16384x2816_S16384x2816_S16384x5632_d1
/-- The gradient of the norm's output. -/
def rDz (vy : FVec Ideal S16384x1024 .f32) (va vu : FVec Ideal S16384x2816 .f32) (vW : FVec Ideal S1024x5632 .f32) : FVec Ideal S16384x1024 .f32 :=
  addf (mulf (broadcastInDim S16384x1024 ![] bcast_S_S16384x1024 (constant S_ .f32 0x3FD744FD#32)) vy)
    (Host.dotGeneral dot_S16384x5632_S1024x5632_S16384x1024_1_1_0_0_n_n none (rBoth va vu) vW)

section values
variable (vy : FVec Ideal S16384x1024 .f32) (va vu : FVec Ideal S16384x2816 .f32) (vW : FVec Ideal S1024x5632 .f32)
  (y : Fin 16384 → Fin 1024 → ℝ) (a u : Fin 16384 → Fin 2816 → ℝ) (W : Fin 1024 → Fin 5632 → ℝ)
  (hy : ∀ r k, vy (ix2 r k) = (y r k : EReal)) (ha : ∀ r j, va (ix2 r j) = (a r j : EReal)) (hu : ∀ r j, vu (ix2 r j) = (u r j : EReal))
  (hW : ∀ k j, vW (ix2 k j) = (W k j : EReal))

include ha hu in
theorem both_val (r : Fin 16384) (j : Fin 5632) : rBoth va vu (ix2 r j) = (both a u r j : EReal) := by
  unfold both
  pointwise [rBoth]
  split
  · exact ha _ _
  · exact hu _ _

include hy ha hu hW in
theorem rDz_val (r : Fin 16384) (k : Fin 1024) : rDz vy va vu vW (ix2 r k) = (dz y a u W r k : EReal) := by
  have h := both_val va vu a u ha hu
  pointwise [rDz]
  simp only [h, hy, hW, word_alpha, ← EReal.coe_mul, ← coe_sum, ← EReal.coe_add]
  exact congrArg Real.toEReal (add_comm _ _)
end values

section run

variable (m : (ℓ : Loc nD τ sig) → Buf (Elt Ideal) ℓ) (ρ : Dev nD → PrngReg)
  (v y : Dev nD → Fin 16384 → Fin 1024 → ℝ) (g : Dev nD → Fin 1024 → ℝ) (W : Dev nD → Fin 1024 → Fin 5632 → ℝ)
  (a u : Dev nD → Fin 16384 → Fin 2816 → ℝ)
  (hv : ∀ (c : Dev nD) r k, m ((c.tc : Thread nD τ).loc main_arg0) (ix2 r k) = (v c r k : EReal))
  (hg : ∀ (c : Dev nD) k, m ((c.tc : Thread nD τ).loc main_arg1) (ix1 k) = (g c k : EReal))
  (hW : ∀ (c : Dev nD) k j, m ((c.tc : Thread nD τ).loc main_arg3) (ix2 k j) = (W c k j : EReal))
  (ha : ∀ (c : Dev nD) r j, m ((c.tc : Thread nD τ).loc main_arg4) (ix2 r j) = (a c r j : EReal))
  (hu : ∀ (c : Dev nD) r j, m ((c.tc : Thread nD τ).loc main_arg5) (ix2 r j) = (u c r j : EReal))
  (hy : ∀ (c : Dev nD) r k, m ((c.tc : Thread nD τ).loc main_arg6) (ix2 r k) = (y c r k : EReal))

/-- The normalised rows of a run. -/
def runXh (c : Dev nD) : FVec Ideal S16384x1024 .f32 :=
  rXh (rDev (m ((c.tc : Thread nD τ).loc main_arg0))) (rMs (rDev (m ((c.tc : Thread nD τ).loc main_arg0))))
/-- The gradient of the norm's output. -/
def runDz (c : Dev nD) : FVec Ideal S16384x1024 .f32 :=
  rDz (m ((c.tc : Thread nD τ).loc main_arg6)) (m ((c.tc : Thread nD τ).loc main_arg4)) (m ((c.tc : Thread nD τ).loc main_arg5)) (m ((c.tc : Thread nD τ).loc main_arg3))
/-- The gradient of the normalised rows. -/
def runT (c : Dev nD) : FVec Ideal S16384x1024 .f32 := mulf (runDz m c) (rowOf (m ((c.tc : Thread nD τ).loc main_arg1)))

theorem out0_eq (c : Dev nD) : res_main_v71 m c = rDv (rDir (runT m c) (rMs (rDev (m ((c.tc : Thread nD τ).loc main_arg0)))))
    (rVar (rDev (m ((c.tc : Thread nD τ).loc main_arg0))) (runT m c) (rMs (rDev (m ((c.tc : Thread nD τ).loc main_arg0))))) := rfl

include hv hg hW ha hu hy in
theorem run_reference : θ_run defs (onTc (τ := τ) (main (F := Ideal))) ⟨m, fun _ => 0, ρ⟩ fun r => ∀ c : Dev nD,
      r.2.mem ((c.tc : Thread nD τ).loc main_v71) = (fun i : S16384x1024.Idx => (dIn (y c) (a c) (u c) (W c) (fun r => xh (v c r)) (fun r => rs (v c r)) (g c) (i 0) (i 1) : EReal))
      ∧ r.2.mem ((c.tc : Thread nD τ).loc main_v72) = (fun i : S1x1024.Idx => ((∑ r : Fin 16384, dz (y c) (a c) (u c) (W c) r (i 1) * xh (v c r) (i 1) : ℝ) : EReal))
      ∧ r.2.mem ((c.tc : Thread nD τ).loc main_v73) = (fun i : S1x1024.Idx => ((∑ r : Fin 16384, dz (y c) (a c) (u c) (W c) r (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hX : ∀ (c : Dev nD) r k, runXh m c (ix2 r k) = (xh (v c r) k : EReal) := fun c => rXh_val _ (v c) (hv c)
  have hD : ∀ (c : Dev nD) r k, runDz m c (ix2 r k) = (dz (y c) (a c) (u c) (W c) r k : EReal) := fun c =>
    rDz_val _ _ _ _ (y c) (a c) (u c) (W c) (hy c) (ha c) (hu c) (hW c)
  have hT : ∀ (c : Dev nD) r k, runT m c (ix2 r k) = ((dz (y c) (a c) (u c) (W c) r k * g c k : ℝ) : EReal) := fun c r k => by
    have h := hD c
    have h' := hg c
    pointwise [runT]
    rw [h, h', ← EReal.coe_mul]
  refine (θ_run defs _ _).mono (fun r h c => ⟨(h c).1.trans ?_, (h c).2.1.trans (b := rCols (mulf (runXh m c) (runDz m c))) ?_,
    (h c).2.2.1.trans (b := rCols (runDz m c)) ?_, (h c).2.2.2⟩) (run m ρ)
  · rw [out0_eq]
    funext i
    obtain ⟨r, k, rfl⟩ : ∃ (r : Fin 16384) (k : Fin 1024), i = ix2 r k := ⟨i 0, i 1, by idx_vars i⟩
    exact rDv_val _ (v c) (hv c) _ _ (hT c) r k
  · funext i
    obtain ⟨z, k, rfl⟩ : ∃ (z : Fin 1) (k : Fin 1024), i = ix2 z k := ⟨i 0, i 1, by idx_vars i⟩
    refine rCols_val _ (fun r k => dz (y c) (a c) (u c) (W c) r k * xh (v c r) k) (fun r k => ?_) z k
    have h1 := hX c
    have h2 := hD c
    pointwise
    rw [h1, h2, mul_comm, ← EReal.coe_mul]
  · funext i
    obtain ⟨z, k, rfl⟩ : ∃ (z : Fin 1) (k : Fin 1024), i = ix2 z k := ⟨i 0, i 1, by idx_vars i⟩
    exact rCols_val _ _ (hD c) z k

end run

end Cert.NormReferenceIdeal.Value

end
-- ==== Proof.Norm.Claims.lean ====
/-
  The claims about the feed-forward's input product and the layer norm before it: its frames, and the equality of the results of
  kernel and reference over finite arguments.
-/
module

public import proofs.«01_k».proof.Proof.Norm.Kernel
public import proofs.«01_k».proof.Proof.Norm.Reference
public import proofs.«01_k».proof.Proof.Finite
public import proofs.«01_k».proof.Proof.Gen.Pre_finite_norm
public import proofs.«01_k».proof.Defs
public import Idealize.ShloMosaic.Lib.Claim

@[expose] public section

set_option maxRecDepth 16384

noncomputable section

namespace Cert.NormClaims

open Idealize.ShloMosaic Idealize.ShloMosaic.TcCoe Idealize.ShloMosaic.StableHlo Idealize.SL.Sem
open Cert.NormKernelIdeal Cert.NormKernelIdeal.Value Cert.PleNorm Cert.NormReal

instance : Subsingleton Cert.Pre_finite_norm.S_.Idx := ⟨fun a b => funext fun i => absurd i.isLt (by decide +revert)⟩

/-- The precondition over real numbers: every element of all arguments but the norm's offsets is one. -/
theorem reals [Cert.Pre_finite_norm.Facts] (v : FVec Ideal S16384x1024 .f32) (g b : FVec Ideal S1024 .f32) (W : FVec Ideal S1024x5632 .f32)
    (a u : FVec Ideal S16384x2816 .f32) (y : FVec Ideal S16384x1024 .f32)
    (h : Cert.Pre_finite_norm.fn (F := Ideal) v g b W a u y = fun _ => 1#1) :
    (∀ i, ∃ r : ℝ, v i = (r : EReal)) ∧ (∀ i, ∃ r : ℝ, g i = (r : EReal)) ∧ (∀ i, ∃ r : ℝ, W i = (r : EReal))
      ∧ (∀ i, ∃ r : ℝ, a i = (r : EReal)) ∧ (∀ i, ∃ r : ℝ, u i = (r : EReal)) ∧ (∀ i, ∃ r : ℝ, y i = (r : EReal)) := by
  have h0 := congrFun h (fun i => absurd i.isLt (by decide +revert))
  obtain ⟨h1, hy⟩ := IntOp.andi_eq_one.1 h0
  obtain ⟨h2, hu⟩ := IntOp.andi_eq_one.1 h1
  obtain ⟨h3, ha⟩ := IntOp.andi_eq_one.1 h2
  obtain ⟨h4, hW⟩ := IntOp.andi_eq_one.1 h3
  obtain ⟨hv, hg⟩ := IntOp.andi_eq_one.1 h4
  exact ⟨Cert.Finite.real_of_all v _ _ _ _ _ (fun _ => rfl) hv, Cert.Finite.real_of_all g _ _ _ _ _ (fun _ => rfl) hg,
    Cert.Finite.real_of_all W _ _ _ _ _ (fun _ => rfl) hW, Cert.Finite.real_of_all a _ _ _ _ _ (fun _ => rfl) ha,
    Cert.Finite.real_of_all u _ _ _ _ _ (fun _ => rfl) hu, Cert.Finite.real_of_all y _ _ _ _ _ (fun _ => rfl) hy⟩

theorem frame_ideal : Cert.quiescent_NormKernelIdeal := fun m ρ _ => Cert.NormKernelIdeal.Gen.frame m ρ

theorem frame_reference : Cert.quiescent_NormReferenceIdeal := fun m ρ _ =>
  (θ_run Cert.NormReferenceIdeal.defs _ _).mono (fun r h => ⟨fun c => (h c).2.2.2, sem_eq_zero_of_no_sems (by decide) r.2⟩)
    (Cert.NormReferenceIdeal.Value.run m ρ)

/-- Kernel and reference give the same three gradients. -/
theorem algebraic : Cert.algebraic_NormKernelIdeal_NormReferenceIdeal_pre_finite_norm := by
  intro m ρ m' ρ' hpre hagree
  have hr := fun c => reals _ _ _ _ _ _ _ (hpre c)
  choose v hv using fun c r k => (hr c).1 (ix2 r k)
  choose g hg using fun c k => (hr c).2.1 (ix1 k)
  choose W hW using fun c k j => (hr c).2.2.1 (ix2 k j)
  choose a ha using fun c r j => (hr c).2.2.2.1 (ix2 r j)
  choose u hu using fun c r j => (hr c).2.2.2.2.1 (ix2 r j)
  choose y hy using fun c r k => (hr c).2.2.2.2.2 (ix2 r k)
  refine ⟨fun c => (fun i : S16384x1024.Idx => (dIn (y c) (a c) (u c) (W c) (fun r => xh (v c r)) (fun r => rs (v c r)) (g c) (i 0) (i 1) : EReal)),
    fun c => (fun i : S1x1024.Idx => ((∑ r : Fin 16384, dz (y c) (a c) (u c) (W c) r (i 1) * xh (v c r) (i 1) : ℝ) : EReal)),
    fun c => (fun i : S1x1024.Idx => ((∑ r : Fin 16384, dz (y c) (a c) (u c) (W c) r (i 1) : ℝ) : EReal)), ?_,
    Cert.NormReferenceIdeal.Value.run_reference m' ρ' v y g W a u (fun c r k => (congrFun (hagree c).1 (ix2 r k)).trans (hv c r k))
      (fun c k => (congrFun (hagree c).2.1 (ix1 k)).trans (hg c k)) (fun c k j => (congrFun (hagree c).2.2.2.1 (ix2 k j)).trans (hW c k j))
      (fun c r j => (congrFun (hagree c).2.2.2.2.1 (ix2 r j)).trans (ha c r j)) (fun c r j => (congrFun (hagree c).2.2.2.2.2.1 (ix2 r j)).trans (hu c r j))
      (fun c r k => (congrFun (hagree c).2.2.2.2.2.2 (ix2 r k)).trans (hy c r k))⟩
  refine (θ_run defs _ _).mono (fun r h c => ?_) (run_blocks m ρ)
  obtain ⟨h7, h8, h9, h10, hk⟩ := h c
  exact ⟨h7.trans (final7 m c (v c) (y c) (g c) (W c) (a c) (u c) (hv c) (hg c) (hW c) (ha c) (hu c) (hy c)),
    h9.trans (final9 m c (v c) (y c) (W c) (a c) (u c) (hv c) (hW c) (ha c) (hu c) (hy c)),
    h10.trans (final10 m c (y c) (W c) (a c) (u c) (hW c) (ha c) (hu c) (hy c)), hk⟩

end Cert.NormClaims

end
-- ==== Proof.Swiglu.Kernel.lean ====
/-
  The feed-forward's hidden layer: what the kernel's three results hold, as functions of its two arguments.
-/
module

public import proofs.«01_k».proof.Proof.Gen.SwigluKernelIdeal.Value
public import Idealize.ShloMosaic.Lib.Pipeline.ValueKit

@[expose] public section

set_option maxRecDepth 16384

noncomputable section

namespace Cert.SwigluKernelIdeal.Value

open Cert.SwigluKernelIdeal Cert.SwigluKernelIdeal.Gen Idealize.ShloMosaic Idealize.ShloMosaic.TcCoe Idealize.SL.Sem
open Idealize.ShloMosaic.StableHlo
open Idealize.ShloMosaic.Pipeline (Dat)

/-- One half of the hidden layer before the gate. -/
def half {n k : ℕ} (x : Fin n → Fin 1024 → EReal) (w : Fin 1024 → Fin k → EReal) (r : Fin n) (j : Fin k) : EReal := ∑ e, x r e * w e j
/-- The hidden layer: one half times its logistic, times the other half. -/
def hidden {n k : ℕ} (x : Fin n → Fin 1024 → EReal) (g u : Fin 1024 → Fin k → EReal) (r : Fin n) (j : Fin k) : EReal :=
  half x g r j * Ideal.logistic (half x g r j) * half x u r j
/-- The derivative of the hidden layer by the half under the gate. -/
def gateSlope {n k : ℕ} (x : Fin n → Fin 1024 → EReal) (g u : Fin 1024 → Fin k → EReal) (r : Fin n) (j : Fin k) : EReal :=
  half x u r j * Ideal.logistic (half x g r j) * (1 + half x g r j * (1 - Ideal.logistic (half x g r j)))
/-- Its derivative by the other half. -/
def silu {n k : ℕ} (x : Fin n → Fin 1024 → EReal) (g : Fin 1024 → Fin k → EReal) (r : Fin n) (j : Fin k) : EReal :=
  half x g r j * Ideal.logistic (half x g r j)

section block
variable (x0 : Vec Ideal S512x1024 .bf16) (x1 x2 : Vec Ideal S1x1024x1408 .bf16)

theorem pay2_val (r : Fin 512) (j : Fin 1408) : k0_pay2 (F := Ideal) x0 x1 (ix2 r j) = half (fun r e => x0 (ix2 r e)) (fun e j => x1 (ix3 0 e j)) r j := by
  pointwise [k0_pay2, k0_pay1]
  rfl
theorem pay3_val (r : Fin 512) (j : Fin 1408) : k0_pay3 (F := Ideal) x0 x2 (ix2 r j) = half (fun r e => x0 (ix2 r e)) (fun e j => x2 (ix3 0 e j)) r j := by
  pointwise [k0_pay3, k0_pay1]
  rfl
theorem pay8_val (r : Fin 512) (j : Fin 1408) : k0_pay8 (F := Ideal) x0 x1 x2 (ix2 r j)
    = hidden (fun r e => x0 (ix2 r e)) (fun e j => x1 (ix3 0 e j)) (fun e j => x2 (ix3 0 e j)) r j := by
  pointwise [k0_pay8, k0_pay5, k0_pay4]
  rw [pay2_val, pay3_val]
  rfl

theorem pay7_val (r : Fin 512) (j : Fin 1408) : k0_pay7 (F := Ideal) x0 x1 (ix2 r j) = silu (fun r e => x0 (ix2 r e)) (fun e j => x1 (ix3 0 e j)) r j := by
  pointwise [k0_pay7, k0_pay5, k0_pay4]
  rw [pay2_val]
  rfl
theorem pay6_val (r : Fin 512) (j : Fin 1408) : k0_pay6 (F := Ideal) x0 x1 x2 (ix2 r j)
    = gateSlope (fun r e => x0 (ix2 r e)) (fun e j => x1 (ix3 0 e j)) (fun e j => x2 (ix3 0 e j)) r j := by
  pointwise [k0_pay6, k0_pay4]
  rw [pay2_val, pay3_val]
  rfl

/-- A whole block, read as one. -/
theorem whole0 : View.ld x0 r0_0 = x0 := by
  funext i
  exact congrArg x0 (funext fun a => Fin.ext (by fin_cases a <;> exact (Nat.zero_add _).trans (Nat.one_mul _)))
theorem whole1 : View.ld x1 r0_1 = x1 := by
  funext i
  exact congrArg x1 (funext fun a => Fin.ext (by fin_cases a <;> exact (Nat.zero_add _).trans (Nat.one_mul _)))

/-- What a point stores. -/
theorem out_val (r : Fin 512) (j : Fin 1408) : out0_5 (F := Ideal) x0 x1 x2 (ix2 r j)
    = hidden (fun r e => x0 (ix2 r e)) (fun e j => x1 (ix3 0 e j)) (fun e j => x2 (ix3 0 e j)) r j := by
  refine Eq.trans ?_ (pay8_val x0 x1 x2 r j)
  unfold out0_5
  canon_tiles x e
  have ex : x = ix2 r j := funext fun a => Fin.ext (by fin_cases a; exacts [e0.symm, e1.symm])
  rw [ex, whole0, whole1, whole1]
theorem out4_val (r : Fin 512) (j : Fin 1408) : out0_4 (F := Ideal) x0 x1 x2 (ix2 r j) = silu (fun r e => x0 (ix2 r e)) (fun e j => x1 (ix3 0 e j)) r j := by
  refine Eq.trans ?_ (pay7_val x0 x1 r j)
  unfold out0_4
  canon_tiles x e
  have ex : x = ix2 r j := funext fun a => Fin.ext (by fin_cases a; exacts [e0.symm, e1.symm])
  rw [ex, whole0, whole1]
theorem out3_val (r : Fin 512) (j : Fin 1408) : out0_3 (F := Ideal) x0 x1 x2 (ix2 r j)
    = gateSlope (fun r e => x0 (ix2 r e)) (fun e j => x1 (ix3 0 e j)) (fun e j => x2 (ix3 0 e j)) r j := by
  refine Eq.trans ?_ (pay6_val x0 x1 x2 r j)
  unfold out0_3
  canon_tiles x e
  have ex : x = ix2 r j := funext fun a => Fin.ext (by fin_cases a; exacts [e0.symm, e1.symm])
  rw [ex, whole0, whole1, whole1]
end block

section host
variable (A : Valuation τ sig (Elt Ideal))

theorem host3 (r : Fin 16384) (e : Fin 1024) : (after hostOps0 A (Proc.devRef .tc main_v3) : FVec Ideal S16384x1024 .bf16) (ix2 r e)
    = (A (Proc.devRef .tc main_arg0) : FVec Ideal S16384x1024 .f32) (ix2 r e) := by
  after_results_simp
  rfl
/-- The weights in the four slabs in which the kernel reads them. -/
theorem host2 (s : Fin 4) (e : Fin 1024) (j : Fin 1408) : (after hostOps0 A (Proc.devRef .tc main_v2) : FVec Ideal S4x1024x1408 .bf16) (ix3 s e j)
    = (A (Proc.devRef .tc main_arg1) : FVec Ideal S1024x5632 .f32) (ix2 e ⟨s.val * 1408 + j.val, by omega⟩) := by
  after_results_simp
  pointwise
end host

/-- The two halves of the input weights. -/
def left (w : FVec Ideal S1024x5632 .f32) (e : Fin 1024) (j : Fin 2816) : EReal := w (ix2 e ⟨j.val, by omega⟩)
def right (w : FVec Ideal S1024x5632 .f32) (e : Fin 1024) (j : Fin 2816) : EReal := w (ix2 e ⟨2816 + j.val, by omega⟩)
/-- The hidden layer, the third result of both programs. -/
def result (x : FVec Ideal S16384x1024 .f32) (w : FVec Ideal S1024x5632 .f32) : S16384x2816.Idx → EReal := fun i =>
  hidden (fun r e => x (ix2 r e)) (left w) (right w) (i 0) (i 1)
/-- Its derivative by the half under the gate, their first. -/
def slopes (x : FVec Ideal S16384x1024 .f32) (w : FVec Ideal S1024x5632 .f32) : S16384x2816.Idx → EReal := fun i =>
  gateSlope (fun r e => x (ix2 r e)) (left w) (right w) (i 0) (i 1)
/-- Its derivative by the other half, their second. -/
def silus (x : FVec Ideal S16384x1024 .f32) (w : FVec Ideal S1024x5632 .f32) : S16384x2816.Idx → EReal := fun i =>
  silu (fun r e => x (ix2 r e)) (left w) (i 0) (i 1)

section arrays
variable (m : (ℓ : Loc nD τ sig) → Buf (Elt Ideal) ℓ) (c : Dev nD)

/-- The blocks that each grid point stages. -/
theorem idx : ∀ t : Fin cfg0.N, win0_0.index t = ![t.val % 32, 0] ∧ win0_1.index t = ![t.val / 32, 0, 0]
    ∧ win0_2.index t = ![t.val / 32 + 2, 0, 0] ∧ win0_3.index t = ![t.val % 32, t.val / 32]
    ∧ win0_4.index t = ![t.val % 32, t.val / 32] ∧ win0_5.index t = ![t.val % 32, t.val / 32] :=
  (by decide +kernel : ∀ t : Fin grid0.N, _)

/-- The row of the arrays that a row of point `t`'s block is. -/
def row (t : Fin cfg0.N) (r : Fin 512) : Fin 16384 := ⟨t.val % 32 * 512 + r.val, by omega⟩
/-- The hidden unit that a column of point `t`'s block is. -/
def unit (t : Fin cfg0.N) (j : Fin 1408) : Fin 2816 := ⟨t.val / 32 * 1408 + j.val, by have : t.val < 64 := t.isLt; omega⟩
/-- The slab of the gate's half that point `t` reads. -/
def slab (t : Fin cfg0.N) : Fin 4 := ⟨t.val / 32, by have : t.val < 64 := t.isLt; omega⟩
/-- The slab of the linear half. -/
def slab' (t : Fin cfg0.N) : Fin 4 := ⟨t.val / 32 + 2, by have : t.val < 64 := t.isLt; omega⟩

theorem blk0 (t : Fin cfg0.N) (r : Fin 512) (e : Fin 1024) : iblk m c 0 t (ix2 r e) = m ((c : Thread nD τ).loc main_arg0) (ix2 (row t r) e) := by
  refine Eq.trans ?_ (host3 (fun b => m (c, b)) (row t r) e)
  blk_point [iblk, idx t, row]
theorem blk1 (t : Fin cfg0.N) (e : Fin 1024) (j : Fin 1408) : iblk m c 1 t (ix3 0 e j) = left (m ((c : Thread nD τ).loc main_arg1)) e (unit t j) := by
  refine Eq.trans ?_ (host2 (fun b => m (c, b)) (slab t) e j)
  blk_point [iblk, idx t, slab]
theorem blk2 (t : Fin cfg0.N) (e : Fin 1024) (j : Fin 1408) : iblk m c 2 t (ix3 0 e j) = right (m ((c : Thread nD τ).loc main_arg1)) e (unit t j) := by
  have h : (⟨(slab' t).val * 1408 + j.val, by have := (slab' t).isLt; omega⟩ : Fin 5632) = ⟨2816 + (unit t j).val, by omega⟩ :=
    Fin.ext (by show (t.val / 32 + 2) * 1408 + j.val = 2816 + (t.val / 32 * 1408 + j.val); omega)
  unfold right
  rw [← h]
  refine Eq.trans ?_ (host2 (fun b => m (c, b)) (slab' t) e j)
  blk_point [iblk, idx t, slab']

/-- The hidden layer after the run. -/
theorem final5 : (dats m 0 c).arrAt 5 cfg0.N = result (m ((c : Thread nD τ).loc main_arg0)) (m ((c : Thread nD τ).loc main_arg1)) := by
  refine (dats m 0 c).arrAt_eq_of_covers 5 _ (by decide +kernel) fun t hf (x : S512x1408.Idx) => ?_
  blk_simp
  rw [after0_5]
  obtain ⟨r, j, rfl⟩ : ∃ (r : Fin 512) (j : Fin 1408), x = ix2 r j := ⟨x 0, x 1, by idx_vars x⟩
  have e : ((cfg0.win 5).blk t).view.emb (ix2 r j) = (ix2 (row t r) (unit t j) : S16384x2816.Idx) := by blk_ext [idx t, row, unit]
  rw [e]
  refine (out_val (iblk m c 0 t) (iblk m c 1 t) (iblk m c 2 t) r j).trans ?_
  simp only [blk0, blk1, blk2]
  rfl
/-- Its derivatives after the run. -/
theorem final4 : (dats m 0 c).arrAt 4 cfg0.N = silus (m ((c : Thread nD τ).loc main_arg0)) (m ((c : Thread nD τ).loc main_arg1)) := by
  refine (dats m 0 c).arrAt_eq_of_covers 4 _ (by decide +kernel) fun t hf (x : S512x1408.Idx) => ?_
  blk_simp
  rw [after0_4]
  obtain ⟨r, j, rfl⟩ : ∃ (r : Fin 512) (j : Fin 1408), x = ix2 r j := ⟨x 0, x 1, by idx_vars x⟩
  have e : ((cfg0.win 4).blk t).view.emb (ix2 r j) = (ix2 (row t r) (unit t j) : S16384x2816.Idx) := by blk_ext [idx t, row, unit]
  rw [e]
  refine (out4_val (iblk m c 0 t) (iblk m c 1 t) (iblk m c 2 t) r j).trans ?_
  simp only [blk0, blk1]
  rfl
theorem final3 : (dats m 0 c).arrAt 3 cfg0.N = slopes (m ((c : Thread nD τ).loc main_arg0)) (m ((c : Thread nD τ).loc main_arg1)) := by
  refine (dats m 0 c).arrAt_eq_of_covers 3 _ (by decide +kernel) fun t hf (x : S512x1408.Idx) => ?_
  blk_simp
  rw [after0_3]
  obtain ⟨r, j, rfl⟩ : ∃ (r : Fin 512) (j : Fin 1408), x = ix2 r j := ⟨x 0, x 1, by idx_vars x⟩
  have e : ((cfg0.win 3).blk t).view.emb (ix2 r j) = (ix2 (row t r) (unit t j) : S16384x2816.Idx) := by blk_ext [idx t, row, unit]
  rw [e]
  refine (out3_val (iblk m c 0 t) (iblk m c 1 t) (iblk m c 2 t) r j).trans ?_
  simp only [blk0, blk1, blk2]
  rfl

end arrays

end Cert.SwigluKernelIdeal.Value

end
-- ==== Proof.Swiglu.Reference.lean ====
/-
  The feed-forward's hidden layer: the reference's three results are the same functions of two finite arguments.
-/
module

public import proofs.«01_k».proof.Proof.Gen.SwigluReferenceIdeal.Run
public import proofs.«01_k».proof.Proof.Swiglu.Kernel
public import proofs.«01_k».proof.Proof.Logistic

@[expose] public section

set_option maxRecDepth 16384

noncomputable section

namespace Cert.SwigluReferenceIdeal.Value

open Cert.SwigluReferenceIdeal Cert.SwigluReferenceIdeal.Gen Idealize.ShloMosaic Idealize.ShloMosaic.TcCoe
open Idealize.ShloMosaic.StableHlo Idealize.SL.Sem Cert.Logistic
open Cert.SwigluKernelIdeal.Value (half hidden gateSlope silu left right result slopes silus)

section block
variable (x : FVec Ideal S16384x1024 .f32) (w : FVec Ideal S1024x5632 .f32)

/-- The product with the input weights. -/
def rProd : FVec Ideal S16384x5632 .f32 := Host.dotGeneral dot_S16384x1024_S1024x5632_S16384x5632_1_0_0_1_n_n none x w
theorem rProd_val (r : Fin 16384) (j : Fin 5632) : rProd x w (ix2 r j) = ∑ e : Fin 1024, x (ix2 r e) * w (ix2 e j) := by
  pointwise [rProd]

/-- The reference's hidden layer. -/
def rHidden : FVec Ideal S16384x2816 .bf16 :=
  truncf .bf16 (mulf (mulf (extractStridedSlice S16384x2816 ![0, 0] (rProd x w) slices_S16384x5632_S16384x2816_0_0)
    (Host.divf (broadcastInDim S16384x2816 ![] bcast_S_S16384x2816 (constant S_ .f32 0x3F800000#32))
      (addf (broadcastInDim S16384x2816 ![] bcast_S_S16384x2816 (constant S_ .f32 0x3F800000#32))
        (Host.exp (Host.negf (extractStridedSlice S16384x2816 ![0, 0] (rProd x w) slices_S16384x5632_S16384x2816_0_0))))))
    (extractStridedSlice S16384x2816 ![0, 2816] (rProd x w) slices_S16384x5632_S16384x2816_0_2816)) bitsLt_bf16_f32

theorem rHidden_val (r : Fin 16384) (j : Fin 2816) : rHidden x w (ix2 r j) = hidden (fun r e => x (ix2 r e)) (left w) (right w) r j := by
  pointwise [rHidden]
  simp only [rProd_val]
  rfl

/-- The half under the gate, the other half and the gate. -/
def rLeft : FVec Ideal S16384x2816 .f32 := extractStridedSlice S16384x2816 ![0, 0] (rProd x w) slices_S16384x5632_S16384x2816_0_0
def rRight : FVec Ideal S16384x2816 .f32 := extractStridedSlice S16384x2816 ![0, 2816] (rProd x w) slices_S16384x5632_S16384x2816_0_2816
def rOnes : FVec Ideal S16384x2816 .f32 := broadcastInDim S16384x2816 ![] bcast_S_S16384x2816 (constant S_ .f32 0x3F800000#32)
def rSg : FVec Ideal S16384x2816 .f32 := Host.divf rOnes (addf rOnes (Host.exp (Host.negf (rLeft x w))))
theorem rLeft_val (r : Fin 16384) (j : Fin 2816) : rLeft x w (ix2 r j) = half (fun r e => x (ix2 r e)) (left w) r j := by
  pointwise [rLeft]
  simp only [rProd_val]
  rfl
theorem rRight_val (r : Fin 16384) (j : Fin 2816) : rRight x w (ix2 r j) = half (fun r e => x (ix2 r e)) (right w) r j := by
  pointwise [rRight]
  simp only [rProd_val]
  rfl
theorem rOnes_val (i : S16384x2816.Idx) : rOnes i = 1 := by
  obtain ⟨a, k, rfl⟩ : ∃ (a : Fin 16384) (k : Fin 2816), i = ix2 a k := ⟨i 0, i 1, by idx_vars i⟩
  pointwise [rOnes]
theorem rSg_val (r : Fin 16384) (j : Fin 2816) : rSg x w (ix2 r j) = Ideal.logistic (half (fun r e => x (ix2 r e)) (left w) r j) := by
  pointwise [rSg]
  rw [rOnes_val, rLeft_val]
  rfl

/-- The derivative by the linear half. -/
theorem rSilu_val (r : Fin 16384) (j : Fin 2816) : (truncf .bf16 (mulf (mulf (rLeft x w) (rSg x w)) rOnes) bitsLt_bf16_f32 : FVec Ideal S16384x2816 .bf16) (ix2 r j)
    = silu (fun r e => x (ix2 r e)) (left w) r j := by
  pointwise
  rw [rLeft_val, rSg_val, rOnes_val, mul_one]
  rfl

/-- A half of real arguments is real. -/
theorem half_real (hx : ∀ i, ∃ r : ℝ, x i = (r : EReal)) (v : Fin 1024 → Fin 2816 → EReal) (hv : ∀ e j, ∃ r : ℝ, v e j = (r : EReal))
    (r : Fin 16384) (j : Fin 2816) : ∃ a : ℝ, half (fun r e => x (ix2 r e)) v r j = (a : EReal) := by
  choose p hp using fun e => hx (ix2 r e)
  choose q hq using fun e => hv e j
  refine ⟨∑ e, p e * q e, ?_⟩
  unfold half
  simp only [hp, hq, ← EReal.coe_mul, ← Cert.Reals.coe_sum]

/-- The derivative by the half under the gate. -/
theorem rSlope_val (hx : ∀ i, ∃ r : ℝ, x i = (r : EReal)) (hw : ∀ i, ∃ r : ℝ, w i = (r : EReal)) (r : Fin 16384) (j : Fin 2816) :
    (truncf .bf16 (addf (mulf (mulf rOnes (rRight x w)) (rSg x w)) (mulf (mulf (rLeft x w) (mulf rOnes (rRight x w)))
      (mulf (rSg x w) (subf rOnes (rSg x w))))) bitsLt_bf16_f32 : FVec Ideal S16384x2816 .bf16) (ix2 r j)
      = gateSlope (fun r e => x (ix2 r e)) (left w) (right w) r j := by
  obtain ⟨a, ha⟩ := half_real x hx (left w) (fun e j => hw _) r j
  obtain ⟨b, hb⟩ := half_real x hx (right w) (fun e j => hw _) r j
  pointwise
  unfold gateSlope
  rw [rLeft_val, rRight_val, rSg_val, rOnes_val, ha, hb, logistic_coe, ← EReal.coe_one]
  simp only [← EReal.coe_mul, ← EReal.coe_sub, ← EReal.coe_add]
  exact congrArg Real.toEReal (by ring)
end block

section run
variable (m : (ℓ : Loc nD τ sig) → Buf (Elt Ideal) ℓ) (ρ : Dev nD → PrngReg)
  (hx : ∀ (c : Dev nD) i, ∃ r : ℝ, m ((c.tc : Thread nD τ).loc main_arg0) i = (r : EReal))
  (hw : ∀ (c : Dev nD) i, ∃ r : ℝ, m ((c.tc : Thread nD τ).loc main_arg1) i = (r : EReal))

include hx hw in
theorem run_reference : θ_run defs (onTc (τ := τ) (main (F := Ideal))) ⟨m, fun _ => 0, ρ⟩ fun r => ∀ c : Dev nD,
      r.2.mem ((c.tc : Thread nD τ).loc main_v9) = slopes (m ((c.tc : Thread nD τ).loc main_arg0)) (m ((c.tc : Thread nD τ).loc main_arg1))
      ∧ r.2.mem ((c.tc : Thread nD τ).loc main_v10) = silus (m ((c.tc : Thread nD τ).loc main_arg0)) (m ((c.tc : Thread nD τ).loc main_arg1))
      ∧ r.2.mem ((c.tc : Thread nD τ).loc main_v11) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun i => ?_), (h c).2.1.trans (funext fun i => ?_),
    (h c).2.2.1.trans (funext fun i => ?_), (h c).2.2.2⟩) (run m ρ)
  all_goals obtain ⟨a, k, rfl⟩ : ∃ (a : Fin 16384) (k : Fin 2816), i = ix2 a k := ⟨i 0, i 1, by idx_vars i⟩
  · exact rSlope_val _ _ (hx c) (hw c) a k
  · exact rSilu_val _ _ a k
  · exact rHidden_val _ _ a k
end run

end Cert.SwigluReferenceIdeal.Value

end
-- ==== Proof.Swiglu.Claims.lean ====
/-
  The claims about the feed-forward's hidden layer: its frames, and the equality of the three results of kernel and reference over finite arguments.
-/
module

public import proofs.«01_k».proof.Proof.Swiglu.Kernel
public import proofs.«01_k».proof.Proof.Swiglu.Reference
public import proofs.«01_k».proof.Proof.Finite
public import proofs.«01_k».proof.Proof.Gen.Pre_finite_swiglu
public import proofs.«01_k».proof.Defs
public import Idealize.ShloMosaic.Lib.Claim

@[expose] public section

set_option maxRecDepth 16384

noncomputable section

namespace Cert.SwigluClaims

open Idealize.ShloMosaic Idealize.ShloMosaic.TcCoe Idealize.ShloMosaic.StableHlo Idealize.SL.Sem
open Cert.SwigluKernelIdeal Cert.SwigluKernelIdeal.Value

instance : Subsingleton Cert.Pre_finite_swiglu.S_.Idx := ⟨fun a b => funext fun i => absurd i.isLt (by decide +revert)⟩

/-- The precondition over real numbers: every element of the two arguments is one. -/
theorem reals [Cert.Pre_finite_swiglu.Facts] (x : FVec Ideal S16384x1024 .f32) (w : FVec Ideal S1024x5632 .f32)
    (h : Cert.Pre_finite_swiglu.fn (F := Ideal) x w = fun _ => 1#1) :
    (∀ i, ∃ r : ℝ, x i = (r : EReal)) ∧ ∀ i, ∃ r : ℝ, w i = (r : EReal) := by
  have h0 := congrFun h (fun i => absurd i.isLt (by decide +revert))
  obtain ⟨hx, hw⟩ := IntOp.andi_eq_one.1 h0
  exact ⟨Cert.Finite.real_of_all x _ _ _ _ _ (fun _ => rfl) hx, Cert.Finite.real_of_all w _ _ _ _ _ (fun _ => rfl) hw⟩

theorem frame_ideal : Cert.quiescent_SwigluKernelIdeal := fun m ρ _ => Cert.SwigluKernelIdeal.Gen.frame m ρ

theorem frame_reference : Cert.quiescent_SwigluReferenceIdeal := fun m ρ _ =>
  (θ_run Cert.SwigluReferenceIdeal.defs _ _).mono (fun r h => ⟨fun c => (h c).2.2.2, sem_eq_zero_of_no_sems (by decide) r.2⟩)
    (Cert.SwigluReferenceIdeal.Value.run m ρ)

/-- Kernel and reference give the same hidden layer and the same derivatives of it. -/
theorem algebraic : Cert.algebraic_SwigluKernelIdeal_SwigluReferenceIdeal_pre_finite_swiglu := by
  intro m ρ m' ρ' hpre hagree
  have hr := fun c => reals _ _ (hpre c)
  refine ⟨fun c => slopes (m ((c.tc : Thread nD τ).loc main_arg0)) (m ((c.tc : Thread nD τ).loc main_arg1)),
    fun c => silus (m ((c.tc : Thread nD τ).loc main_arg0)) (m ((c.tc : Thread nD τ).loc main_arg1)),
    fun c => result (m ((c.tc : Thread nD τ).loc main_arg0)) (m ((c.tc : Thread nD τ).loc main_arg1)),
    (θ_run defs _ _).mono (fun r h c => ?_) (run_blocks m ρ),
    (θ_run Cert.SwigluReferenceIdeal.defs _ _).mono (fun r h c => ?_) (Cert.SwigluReferenceIdeal.Value.run_reference m' ρ'
      (fun c i => (hr c).1 i |>.imp fun _ e => (congrFun (hagree c).1 i).trans e)
      (fun c i => (hr c).2 i |>.imp fun _ e => (congrFun (hagree c).2 i).trans e))⟩
  · obtain ⟨h3, h4, h5, hx⟩ := h c
    exact ⟨h3.trans (final3 m c), h4.trans (final4 m c), h5.trans (final5 m c), hx⟩
  · obtain ⟨h3, h4, h5, hx⟩ := h c
    refine ⟨h3.trans ?_, h4.trans ?_, h5.trans ?_, hx⟩
    all_goals simp only [(hagree c).1, (hagree c).2]

end Cert.SwigluClaims

end
-- ==== Proof.Resnorm.Kernel.lean ====
/-
  A product, the residual and the layer norm after them: what the kernel's four results hold, as functions of its five arguments.
-/
module

public import proofs.«01_k».proof.Proof.Gen.ResnormKernelIdeal.Value
public import Idealize.ShloMosaic.Lib.Pipeline.ValueKit

@[expose] public section

set_option maxRecDepth 16384

noncomputable section

namespace Cert.ResnormKernelIdeal.Value

open Cert.ResnormKernelIdeal Cert.ResnormKernelIdeal.Gen Idealize.ShloMosaic Idealize.ShloMosaic.TcCoe Idealize.SL.Sem
open Idealize.ShloMosaic.StableHlo
open Idealize.ShloMosaic.Pipeline (Dat)

/-- The mean of a row. -/
def mean (v : Fin 1024 → EReal) : EReal := Ideal.div (∑ k, v k) (Ideal.ofBits .f32 0x44800000#32)
/-- A row without its mean. -/
def dev (v : Fin 1024 → EReal) (k : Fin 1024) : EReal := v k - mean v
/-- The factor that normalises a row. -/
def scale (v : Fin 1024 → EReal) : EReal := Ideal.rsqrt (mean (fun k => dev v k * dev v k) + Ideal.ofBits .f32 0x3727C5AC#32)
/-- The layer norm of a row. -/
def normed (v g b : Fin 1024 → EReal) (k : Fin 1024) : EReal := dev v k * scale v * g k + b k
/-- The residual, scaled, and the product. -/
def res {n : ℕ} (h : Fin n → Fin 2816 → EReal) (w : Fin 2816 → Fin 1024 → EReal) (x : Fin n → Fin 1024 → EReal) (r : Fin n) (k : Fin 1024) : EReal :=
  Ideal.ofBits .f32 0x3FD744FD#32 * x r k + ∑ e, h r e * w e k

section block
variable (x0 : Vec Ideal S512x2816 .bf16) (x1 : Vec Ideal S2816x1024 .bf16) (x2 : Vec Ideal S512x1024 .f32) (x3 x4 : Vec Ideal S1x1024 .f32)

/-- The rows of the block before the norm. -/
abbrev rows : Fin 512 → Fin 1024 → EReal := res (fun r e => x0 (ix2 r e)) (fun e k => x1 (ix2 e k)) (fun r k => x2 (ix2 r k))

theorem pay2_val (r : Fin 512) (k : Fin 1024) : k0_pay2 (F := Ideal) x0 x1 x2 (ix2 r k) = dev (rows x0 x1 x2 r) k := by
  pointwise [k0_pay2]
  rfl
theorem pay3_val (r : Fin 512) : k0_pay3 (F := Ideal) x0 x1 x2 (ix2 r 0) = scale (rows x0 x1 x2 r) := by
  pointwise [k0_pay3]
  simp only [pay2_val]
  rfl
theorem pay5_val (r : Fin 512) (k : Fin 1024) : k0_pay5 (F := Ideal) x0 x1 x2 x3 x4 (ix2 r k)
    = normed (rows x0 x1 x2 r) (fun k => x3 (ix2 0 k)) (fun k => x4 (ix2 0 k)) k := by
  pointwise [k0_pay5, k0_pay4]
  rw [pay2_val, pay3_val]
  rfl

theorem pay4_val (r : Fin 512) (k : Fin 1024) : k0_pay4 (F := Ideal) x0 x1 x2 (ix2 r k) = dev (rows x0 x1 x2 r) k * scale (rows x0 x1 x2 r) := by
  pointwise [k0_pay4]
  rw [pay2_val, pay3_val]

/-- A whole block, read as one. -/
theorem whole0 : View.ld x0 r0_0 = x0 := by
  funext i
  exact congrArg x0 (funext fun a => Fin.ext (by fin_cases a <;> exact (Nat.zero_add _).trans (Nat.one_mul _)))
theorem whole1 : View.ld x1 r0_1 = x1 := by
  funext i
  exact congrArg x1 (funext fun a => Fin.ext (by fin_cases a <;> exact (Nat.zero_add _).trans (Nat.one_mul _)))
theorem whole2 : View.ld x2 r0_2 = x2 := by
  funext i
  exact congrArg x2 (funext fun a => Fin.ext (by fin_cases a <;> exact (Nat.zero_add _).trans (Nat.one_mul _)))
theorem whole3 : View.ld x3 r0_3 = x3 := by
  funext i
  exact congrArg x3 (funext fun a => Fin.ext (by fin_cases a <;> exact (Nat.zero_add _).trans (Nat.one_mul _)))

/-- What a point stores. -/
theorem out_val (r : Fin 512) (k : Fin 1024) : out0_5 (F := Ideal) x0 x1 x2 x3 x4 (ix2 r k)
    = normed (rows x0 x1 x2 r) (fun k => x3 (ix2 0 k)) (fun k => x4 (ix2 0 k)) k := by
  refine Eq.trans ?_ (pay5_val x0 x1 x2 x3 x4 r k)
  unfold out0_5
  canon_tiles x e
  have ex : x = ix2 r k := funext fun a => Fin.ext (by fin_cases a; exacts [e0.symm, e1.symm])
  rw [ex, whole0, whole1, whole2, whole3, whole3]
theorem out6_val (r : Fin 512) (k : Fin 1024) : out0_6 (F := Ideal) x0 x1 x2 x3 x4 (ix2 r k)
    = normed (rows x0 x1 x2 r) (fun k => x3 (ix2 0 k)) (fun k => x4 (ix2 0 k)) k := by
  refine Eq.trans ?_ (pay5_val x0 x1 x2 x3 x4 r k)
  unfold out0_6
  canon_tiles x e
  have ex : x = ix2 r k := funext fun a => Fin.ext (by fin_cases a; exacts [e0.symm, e1.symm])
  rw [ex, whole0, whole1, whole2, whole3, whole3]
  rfl
theorem out7_val (r : Fin 512) (k : Fin 1024) : out0_7 (F := Ideal) x0 x1 x2 x3 x4 (ix2 r k) = dev (rows x0 x1 x2 r) k * scale (rows x0 x1 x2 r) := by
  refine Eq.trans ?_ (pay4_val x0 x1 x2 r k)
  unfold out0_7
  canon_tiles x e
  have ex : x = ix2 r k := funext fun a => Fin.ext (by fin_cases a; exacts [e0.symm, e1.symm])
  rw [ex, whole0, whole1, whole2]
  rfl
theorem out8_val (r : Fin 512) : out0_8 (F := Ideal) x0 x1 x2 x3 x4 (ix2 r 0) = scale (rows x0 x1 x2 r) := by
  refine Eq.trans ?_ (pay3_val x0 x1 x2 r)
  unfold out0_8
  canon_tiles x e
  have ex : x = ix2 r 0 := funext fun a => Fin.ext (by fin_cases a; exacts [e0.symm, e1.symm])
  rw [ex, whole0, whole1, whole2]
end block

section host
variable (A : Valuation τ sig (Elt Ideal))

theorem host0 (r : Fin 16384) (e : Fin 2816) : (after hostOps0 A (Proc.devRef .tc main_v0) : FVec Ideal S16384x2816 .bf16) (ix2 r e)
    = (A (Proc.devRef .tc main_arg0) : FVec Ideal S16384x2816 .f32) (ix2 r e) := by
  after_results_simp
  rfl
theorem host1 (e : Fin 2816) (k : Fin 1024) : (after hostOps0 A (Proc.devRef .tc main_v1) : FVec Ideal S2816x1024 .bf16) (ix2 e k)
    = (A (Proc.devRef .tc main_arg1) : FVec Ideal S2816x1024 .f32) (ix2 e k) := by
  after_results_simp
  rfl
theorem host2 (k : Fin 1024) : (after hostOps0 A (Proc.devRef .tc main_v2) : FVec Ideal S1x1024 .f32) (ix2 0 k)
    = (A (Proc.devRef .tc main_arg3) : FVec Ideal S1024 .f32) (ix1 k) := by
  after_results_simp
  pointwise
theorem host3 (k : Fin 1024) : (after hostOps0 A (Proc.devRef .tc main_v3) : FVec Ideal S1x1024 .f32) (ix2 0 k)
    = (A (Proc.devRef .tc main_arg4) : FVec Ideal S1024 .f32) (ix1 k) := by
  after_results_simp
  pointwise
end host

/-- The layer norm, the first and, cast, the second result of both programs. -/
def result (h : FVec Ideal S16384x2816 .f32) (w : FVec Ideal S2816x1024 .f32) (x : FVec Ideal S16384x1024 .f32) (g b : FVec Ideal S1024 .f32) :
    S16384x1024.Idx → EReal := fun i =>
  normed (res (fun r e => h (ix2 r e)) (fun e k => w (ix2 e k)) (fun r k => x (ix2 r k)) (i 0)) (fun k => g (ix1 k)) (fun k => b (ix1 k)) (i 1)
/-- The normalised rows, their third result. -/
def hats (h : FVec Ideal S16384x2816 .f32) (w : FVec Ideal S2816x1024 .f32) (x : FVec Ideal S16384x1024 .f32) : S16384x1024.Idx → EReal := fun i =>
  dev (res (fun r e => h (ix2 r e)) (fun e k => w (ix2 e k)) (fun r k => x (ix2 r k)) (i 0)) (i 1)
    * scale (res (fun r e => h (ix2 r e)) (fun e k => w (ix2 e k)) (fun r k => x (ix2 r k)) (i 0))
/-- The rows' factors, their fourth. -/
def scales (h : FVec Ideal S16384x2816 .f32) (w : FVec Ideal S2816x1024 .f32) (x : FVec Ideal S16384x1024 .f32) : S16384x1.Idx → EReal := fun i =>
  scale (res (fun r e => h (ix2 r e)) (fun e k => w (ix2 e k)) (fun r k => x (ix2 r k)) (i 0))

section arrays
variable (m : (ℓ : Loc nD τ sig) → Buf (Elt Ideal) ℓ) (c : Dev nD)

/-- The blocks that each grid point stages. -/
theorem idx : ∀ t : Fin cfg0.N, win0_0.index t = ![t.val, 0] ∧ win0_1.index t = ![0, 0]
    ∧ win0_2.index t = ![t.val, 0] ∧ win0_3.index t = ![0, 0] ∧ win0_4.index t = ![0, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The row of the arrays that a row of point `t`'s block is. -/
def row (t : Fin cfg0.N) (r : Fin 512) : Fin 16384 := ⟨t.val * 512 + r.val, by have : t.val < 32 := t.isLt; omega⟩

theorem blk0 (t : Fin cfg0.N) (r : Fin 512) (e : Fin 2816) : iblk m c 0 t (ix2 r e) = m ((c : Thread nD τ).loc main_arg0) (ix2 (row t r) e) := by
  refine Eq.trans ?_ (host0 (fun b => m (c, b)) (row t r) e)
  blk_point [iblk, idx t, row]
theorem blk1 (t : Fin cfg0.N) (e : Fin 2816) (k : Fin 1024) : iblk m c 1 t (ix2 e k) = m ((c : Thread nD τ).loc main_arg1) (ix2 e k) := by
  refine Eq.trans ?_ (host1 (fun b => m (c, b)) e k)
  blk_point [iblk, idx t]
theorem blk2 (t : Fin cfg0.N) (r : Fin 512) (k : Fin 1024) : iblk m c 2 t (ix2 r k) = m ((c : Thread nD τ).loc main_arg2) (ix2 (row t r) k) := by
  blk_point [iblk, V, idx t, row]
theorem blk3 (t : Fin cfg0.N) (k : Fin 1024) : iblk m c 3 t (ix2 0 k) = m ((c : Thread nD τ).loc main_arg3) (ix1 k) := by
  refine Eq.trans ?_ (host2 (fun b => m (c, b)) k)
  blk_point [iblk, idx t]
theorem blk4 (t : Fin cfg0.N) (k : Fin 1024) : iblk m c 4 t (ix2 0 k) = m ((c : Thread nD τ).loc main_arg4) (ix1 k) := by
  refine Eq.trans ?_ (host3 (fun b => m (c, b)) k)
  blk_point [iblk, idx t]

/-- The results after the run. -/
theorem final5 : (dats m 0 c).arrAt 5 cfg0.N = result (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf (x : S512x1024.Idx) => ?_
  blk_simp
  rw [after0_5]
  obtain ⟨r, k, rfl⟩ : ∃ (r : Fin 512) (k : Fin 1024), x = ix2 r k := ⟨x 0, x 1, by idx_vars x⟩
  have e : ((cfg0.win 5).blk t).view.emb (ix2 r k) = (ix2 (row t r) k : S16384x1024.Idx) := by blk_ext [idx t, row]
  rw [e]
  refine (out_val (iblk m c 0 t) (iblk m c 1 t) (iblk m c 2 t) (iblk m c 3 t) (iblk m c 4 t) r k).trans ?_
  simp only [rows, blk0, blk1, blk2, blk3, blk4]
  rfl
theorem final6 : (dats m 0 c).arrAt 6 cfg0.N = result (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf (x : S512x1024.Idx) => ?_
  blk_simp
  rw [after0_6]
  obtain ⟨r, k, rfl⟩ : ∃ (r : Fin 512) (k : Fin 1024), x = ix2 r k := ⟨x 0, x 1, by idx_vars x⟩
  have e : ((cfg0.win 6).blk t).view.emb (ix2 r k) = (ix2 (row t r) k : S16384x1024.Idx) := by blk_ext [idx t, row]
  rw [e]
  refine (out6_val (iblk m c 0 t) (iblk m c 1 t) (iblk m c 2 t) (iblk m c 3 t) (iblk m c 4 t) r k).trans ?_
  simp only [rows, blk0, blk1, blk2, blk3, blk4]
  rfl
theorem final7 : (dats m 0 c).arrAt 7 cfg0.N = hats (m ((c : Thread nD τ).loc main_arg0)) (m ((c : Thread nD τ).loc main_arg1))
    (m ((c : Thread nD τ).loc main_arg2)) := by
  refine (dats m 0 c).arrAt_eq_of_covers 7 _ (by decide +kernel) fun t hf (x : S512x1024.Idx) => ?_
  blk_simp
  rw [after0_7]
  obtain ⟨r, k, rfl⟩ : ∃ (r : Fin 512) (k : Fin 1024), x = ix2 r k := ⟨x 0, x 1, by idx_vars x⟩
  have e : ((cfg0.win 7).blk t).view.emb (ix2 r k) = (ix2 (row t r) k : S16384x1024.Idx) := by blk_ext [idx t, row]
  rw [e]
  refine (out7_val (iblk m c 0 t) (iblk m c 1 t) (iblk m c 2 t) (iblk m c 3 t) (iblk m c 4 t) r k).trans ?_
  simp only [rows, blk0, blk1, blk2]
  rfl
theorem final8 : (dats m 0 c).arrAt 8 cfg0.N = scales (m ((c : Thread nD τ).loc main_arg0)) (m ((c : Thread nD τ).loc main_arg1))
    (m ((c : Thread nD τ).loc main_arg2)) := by
  refine (dats m 0 c).arrAt_eq_of_covers 8 _ (by decide +kernel) fun t hf (x : S512x1.Idx) => ?_
  blk_simp
  rw [after0_8]
  obtain ⟨r, k, rfl⟩ : ∃ (r : Fin 512) (k : Fin 1), x = ix2 r k := ⟨x 0, x 1, by idx_vars x⟩
  obtain rfl : k = 0 := Subsingleton.elim _ _
  have e : ((cfg0.win 8).blk t).view.emb (ix2 r 0) = (ix2 (row t r) 0 : S16384x1.Idx) := by blk_ext [idx t, row]
  rw [e]
  refine (out8_val (iblk m c 0 t) (iblk m c 1 t) (iblk m c 2 t) (iblk m c 3 t) (iblk m c 4 t) r).trans ?_
  simp only [rows, blk0, blk1, blk2]
  rfl

end arrays

end Cert.ResnormKernelIdeal.Value

end
-- ==== Proof.Resnorm.Reference.lean ====
/-
  A product, the residual and the layer norm after them: the reference's four results are the same functions of the five arguments.
-/
module

public import proofs.«01_k».proof.Proof.Gen.ResnormReferenceIdeal.Run
public import proofs.«01_k».proof.Proof.Resnorm.Kernel

@[expose] public section

set_option maxRecDepth 16384

noncomputable section

namespace Cert.ResnormReferenceIdeal.Value

open Cert.ResnormReferenceIdeal Cert.ResnormReferenceIdeal.Gen Idealize.ShloMosaic Idealize.ShloMosaic.TcCoe
open Idealize.ShloMosaic.StableHlo Idealize.SL.Sem
open Cert.ResnormKernelIdeal.Value (mean dev scale normed res result hats scales)

section block
variable (v : FVec Ideal S16384x1024 .f32)

/-- The mean of every row. -/
def rMean : FVec Ideal S16384x1 .f32 :=
  Host.divf (broadcastInDim S16384x1 ![0] bcast_S16384_S16384x1_0 (Host.reduceAdd v (constant S_ .f32 0x00000000#32) reducesTo_S16384x1024_S16384_d1 h_S_))
    (broadcastInDim S16384x1 ![] bcast_S_S16384x1 (constant S_ .f32 0x44800000#32))
theorem rMean_val (r : Fin 16384) : rMean v (ix2 r 0) = mean fun k => v (ix2 r k) := by
  pointwise [rMean]
  rfl
/-- The rows without their means. -/
def rDev : FVec Ideal S16384x1024 .f32 := subf v (broadcastInDim S16384x1024 ![0, 1] bcast_S16384x1_S16384x1024_0_1 (rMean v))
theorem rDev_val (r : Fin 16384) (k : Fin 1024) : rDev v (ix2 r k) = dev (fun k => v (ix2 r k)) k := by
  pointwise [rDev]
  rw [rMean_val]
  rfl
/-- The rows' factors. -/
def rScale : FVec Ideal S16384x1 .f32 :=
  Host.rsqrt (addf (rMean (mulf (rDev v) (rDev v))) (broadcastInDim S16384x1 ![] bcast_S_S16384x1 (constant S_ .f32 0x3727C5AC#32)))
theorem rScale_val (r : Fin 16384) : rScale v (ix2 r 0) = scale fun k => v (ix2 r k) := by
  have h : (fun k : Fin 1024 => (mulf (rDev v) (rDev v) : FVec Ideal S16384x1024 .f32) (ix2 r k))
      = fun k => dev (fun k => v (ix2 r k)) k * dev (fun k => v (ix2 r k)) k := funext fun k => by
    pointwise
    rw [rDev_val]
  pointwise [rScale]
  rw [rMean_val, h]
  rfl
end block

section result
variable (h : FVec Ideal S16384x2816 .f32) (w : FVec Ideal S2816x1024 .f32) (x : FVec Ideal S16384x1024 .f32) (g b : FVec Ideal S1024 .f32)

/-- The rows before the norm. -/
def rRes : FVec Ideal S16384x1024 .f32 :=
  addf (mulf (broadcastInDim S16384x1024 ![] bcast_S_S16384x1024 (constant S_ .f32 0x3FD744FD#32)) x)
    (Host.dotGeneral dot_S16384x2816_S2816x1024_S16384x1024_1_0_0_1_n_n none h w)
theorem rRes_val (r : Fin 16384) (k : Fin 1024) : rRes h w x (ix2 r k)
    = res (fun r e => h (ix2 r e)) (fun e k => w (ix2 e k)) (fun r k => x (ix2 r k)) r k := by
  pointwise [rRes]
  rfl

/-- The reference's result. -/
def rNormed : FVec Ideal S16384x1024 .f32 :=
  addf (mulf (mulf (rDev (rRes h w x)) (broadcastInDim S16384x1024 ![0, 1] bcast_S16384x1_S16384x1024_0_1 (rScale (rRes h w x))))
    (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))
theorem rNormed_val (r : Fin 16384) (k : Fin 1024) : rNormed h w x g b (ix2 r k)
    = normed (res (fun r e => h (ix2 r e)) (fun e k => w (ix2 e k)) (fun r k => x (ix2 r k)) r) (fun k => g (ix1 k)) (fun k => b (ix1 k)) k := by
  have e : (fun k => rRes h w x (ix2 r k)) = res (fun r e => h (ix2 r e)) (fun e k => w (ix2 e k)) (fun r k => x (ix2 r k)) r :=
    funext fun k => rRes_val h w x r k
  pointwise [rNormed]
  rw [rDev_val, rScale_val, e]
  rfl

/-- Its normalised rows. -/
def rHat : FVec Ideal S16384x1024 .f32 :=
  mulf (rDev (rRes h w x)) (broadcastInDim S16384x1024 ![0, 1] bcast_S16384x1_S16384x1024_0_1 (rScale (rRes h w x)))
theorem rHat_val (r : Fin 16384) (k : Fin 1024) : rHat h w x (ix2 r k)
    = dev (res (fun r e => h (ix2 r e)) (fun e k => w (ix2 e k)) (fun r k => x (ix2 r k)) r) k
      * scale (res (fun r e => h (ix2 r e)) (fun e k => w (ix2 e k)) (fun r k => x (ix2 r k)) r) := by
  have e : (fun k => rRes h w x (ix2 r k)) = res (fun r e => h (ix2 r e)) (fun e k => w (ix2 e k)) (fun r k => x (ix2 r k)) r :=
    funext fun k => rRes_val h w x r k
  pointwise [rHat]
  rw [rDev_val, rScale_val, e]
theorem rScale_res (r : Fin 16384) : rScale (rRes h w x) (ix2 r 0)
    = scale (res (fun r e => h (ix2 r e)) (fun e k => w (ix2 e k)) (fun r k => x (ix2 r k)) r) := by
  rw [rScale_val]
  exact congrArg scale (funext fun k => rRes_val h w x r k)
end result

section run
variable (m : (ℓ : Loc nD τ sig) → Buf (Elt Ideal) ℓ) (ρ : Dev nD → PrngReg)

theorem run_reference : θ_run defs (onTc (τ := τ) (main (F := Ideal))) ⟨m, fun _ => 0, ρ⟩ fun r => ∀ c : Dev nD,
      r.2.mem ((c.tc : Thread nD τ).loc main_v27) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v28) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v29) = hats (m ((c.tc : Thread nD τ).loc main_arg0)) (m ((c.tc : Thread nD τ).loc main_arg1))
        (m ((c.tc : Thread nD τ).loc main_arg2))
      ∧ r.2.mem ((c.tc : Thread nD τ).loc main_v17) = scales (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun i => ?_), (h c).2.1.trans (funext fun i => ?_),
    (h c).2.2.1.trans (funext fun i => ?_), (h c).2.2.2.1.trans (funext fun i => ?_), (h c).2.2.2.2⟩) (run m ρ)
  · obtain ⟨a, k, rfl⟩ : ∃ (a : Fin 16384) (k : Fin 1024), i = ix2 a k := ⟨i 0, i 1, by idx_vars i⟩
    exact rNormed_val _ _ _ _ _ a k
  · obtain ⟨a, k, rfl⟩ : ∃ (a : Fin 16384) (k : Fin 1024), i = ix2 a k := ⟨i 0, i 1, by idx_vars i⟩
    exact rNormed_val _ _ _ _ _ a k
  · obtain ⟨a, k, rfl⟩ : ∃ (a : Fin 16384) (k : Fin 1024), i = ix2 a k := ⟨i 0, i 1, by idx_vars i⟩
    exact rHat_val _ _ _ a k
  · obtain ⟨a, k, rfl⟩ : ∃ (a : Fin 16384) (k : Fin 1), i = ix2 a k := ⟨i 0, i 1, by idx_vars i⟩
    obtain rfl : k = 0 := Subsingleton.elim _ _
    exact rScale_res _ _ _ a
end run

end Cert.ResnormReferenceIdeal.Value

end
-- ==== Proof.Resnorm.Claims.lean ====
/-
  The claims about a product, the residual and the layer norm after them: the frames, and the equality of the four results of kernel and reference.
-/
module

public import proofs.«01_k».proof.Proof.Resnorm.Kernel
public import proofs.«01_k».proof.Proof.Resnorm.Reference
public import proofs.«01_k».proof.Defs
public import Idealize.ShloMosaic.Lib.Claim

@[expose] public section

set_option maxRecDepth 16384

noncomputable section

namespace Cert.ResnormClaims

open Idealize.ShloMosaic Idealize.ShloMosaic.TcCoe Idealize.SL.Sem

theorem frame_ideal : Cert.quiescent_ResnormKernelIdeal := fun m ρ _ => Cert.ResnormKernelIdeal.Gen.frame m ρ

theorem frame_reference : Cert.quiescent_ResnormReferenceIdeal := fun m ρ _ =>
  (θ_run Cert.ResnormReferenceIdeal.defs _ _).mono (fun r h => ⟨fun c => (h c).2.2.2.2, sem_eq_zero_of_no_sems (by decide) r.2⟩)
    (Cert.ResnormReferenceIdeal.Value.run m ρ)

/-- Kernel and reference give the same results. -/
theorem algebraic : Cert.algebraic_ResnormKernelIdeal_ResnormReferenceIdeal := by
  intro m ρ m' ρ' _ hagree
  refine ⟨fun c => Cert.ResnormKernelIdeal.Value.result
      (m ((c.tc : Thread Cert.ResnormKernelIdeal.nD Cert.ResnormKernelIdeal.τ).loc Cert.ResnormKernelIdeal.main_arg0))
      (m ((c.tc : Thread Cert.ResnormKernelIdeal.nD Cert.ResnormKernelIdeal.τ).loc Cert.ResnormKernelIdeal.main_arg1))
      (m ((c.tc : Thread Cert.ResnormKernelIdeal.nD Cert.ResnormKernelIdeal.τ).loc Cert.ResnormKernelIdeal.main_arg2))
      (m ((c.tc : Thread Cert.ResnormKernelIdeal.nD Cert.ResnormKernelIdeal.τ).loc Cert.ResnormKernelIdeal.main_arg3))
      (m ((c.tc : Thread Cert.ResnormKernelIdeal.nD Cert.ResnormKernelIdeal.τ).loc Cert.ResnormKernelIdeal.main_arg4)),
    fun c => Cert.ResnormKernelIdeal.Value.result
      (m ((c.tc : Thread Cert.ResnormKernelIdeal.nD Cert.ResnormKernelIdeal.τ).loc Cert.ResnormKernelIdeal.main_arg0))
      (m ((c.tc : Thread Cert.ResnormKernelIdeal.nD Cert.ResnormKernelIdeal.τ).loc Cert.ResnormKernelIdeal.main_arg1))
      (m ((c.tc : Thread Cert.ResnormKernelIdeal.nD Cert.ResnormKernelIdeal.τ).loc Cert.ResnormKernelIdeal.main_arg2))
      (m ((c.tc : Thread Cert.ResnormKernelIdeal.nD Cert.ResnormKernelIdeal.τ).loc Cert.ResnormKernelIdeal.main_arg3))
      (m ((c.tc : Thread Cert.ResnormKernelIdeal.nD Cert.ResnormKernelIdeal.τ).loc Cert.ResnormKernelIdeal.main_arg4)),
    fun c => Cert.ResnormKernelIdeal.Value.hats
      (m ((c.tc : Thread Cert.ResnormKernelIdeal.nD Cert.ResnormKernelIdeal.τ).loc Cert.ResnormKernelIdeal.main_arg0))
      (m ((c.tc : Thread Cert.ResnormKernelIdeal.nD Cert.ResnormKernelIdeal.τ).loc Cert.ResnormKernelIdeal.main_arg1))
      (m ((c.tc : Thread Cert.ResnormKernelIdeal.nD Cert.ResnormKernelIdeal.τ).loc Cert.ResnormKernelIdeal.main_arg2)),
    fun c => Cert.ResnormKernelIdeal.Value.scales
      (m ((c.tc : Thread Cert.ResnormKernelIdeal.nD Cert.ResnormKernelIdeal.τ).loc Cert.ResnormKernelIdeal.main_arg0))
      (m ((c.tc : Thread Cert.ResnormKernelIdeal.nD Cert.ResnormKernelIdeal.τ).loc Cert.ResnormKernelIdeal.main_arg1))
      (m ((c.tc : Thread Cert.ResnormKernelIdeal.nD Cert.ResnormKernelIdeal.τ).loc Cert.ResnormKernelIdeal.main_arg2)),
    (θ_run Cert.ResnormKernelIdeal.defs _ _).mono (fun r h c => ?_) (Cert.ResnormKernelIdeal.Value.run_blocks m ρ),
    (θ_run Cert.ResnormReferenceIdeal.defs _ _).mono (fun r h c => ?_) (Cert.ResnormReferenceIdeal.Value.run_reference m' ρ')⟩
  · obtain ⟨h5, h6, h7, h8, hx⟩ := h c
    exact ⟨h5.trans (Cert.ResnormKernelIdeal.Value.final5 m c), h6.trans (Cert.ResnormKernelIdeal.Value.final6 m c),
      h7.trans (Cert.ResnormKernelIdeal.Value.final7 m c), h8.trans (Cert.ResnormKernelIdeal.Value.final8 m c), hx⟩
  · obtain ⟨h5, h6, h7, h8, hx⟩ := h c
    refine ⟨h5.trans ?_, h6.trans ?_, h7.trans ?_, h8.trans ?_, hx⟩
    all_goals simp only [(hagree c).1, (hagree c).2.1, (hagree c).2.2.1, (hagree c).2.2.2.1, (hagree c).2.2.2.2]

end Cert.ResnormClaims

end
-- ==== Proof.Embed.Kernel.lean ====
/-
  The gated embedding: what the kernel's four results hold, as functions of its four arguments.
-/
module

public import proofs.«01_k».proof.Proof.Gen.EmbedKernelIdeal.Value
public import Idealize.ShloMosaic.Lib.Pipeline.ValueKit

@[expose] public section

set_option maxRecDepth 16384

noncomputable section

namespace Cert.EmbedKernelIdeal.Value

open Cert.EmbedKernelIdeal Cert.EmbedKernelIdeal.Gen Idealize.ShloMosaic Idealize.ShloMosaic.TcCoe Idealize.SL.Sem
open Idealize.ShloMosaic.StableHlo
open Idealize.ShloMosaic.Pipeline (Dat)

/-- The activation and, under its gate, the projected embedding. -/
def gated {n : ℕ} (x : Fin n → Fin 1024 → EReal) (p : Fin n → Fin 256 → EReal) (w : Fin 1024 → Fin 1024 → EReal) (q : Fin 256 → Fin 1024 → EReal)
    (r : Fin n) (j : Fin 1024) : EReal := x r j + Ideal.logistic (∑ e, x r e * w e j) * ∑ e, p r e * q e j
/-- The gate. -/
def gate {n : ℕ} (x : Fin n → Fin 1024 → EReal) (w : Fin 1024 → Fin 1024 → EReal) (r : Fin n) (j : Fin 1024) : EReal :=
  Ideal.logistic (∑ e, x r e * w e j)
/-- The projected embedding. -/
def proj {n : ℕ} (p : Fin n → Fin 256 → EReal) (q : Fin 256 → Fin 1024 → EReal) (r : Fin n) (j : Fin 1024) : EReal := ∑ e, p r e * q e j

section block
variable (x0 : Vec Ideal S512x1024 .f32) (x1 : Vec Ideal S512x1024 .bf16) (x2 : Vec Ideal S1x1x512x256 .f32)
  (x3 : Vec Ideal S1024x1024 .bf16) (x4 : Vec Ideal S256x1024 .bf16)

theorem pay3_val (r : Fin 512) (j : Fin 1024) : k0_pay3 (F := Ideal) x1 x3 x2 x4 x0 (ix2 r j)
    = x0 (ix2 r j) + Ideal.logistic (∑ e, x1 (ix2 r e) * x3 (ix2 e j)) * ∑ e, x2 (ix4 0 0 r e) * x4 (ix2 e j) := by
  pointwise [k0_pay3, k0_pay2, k0_pay1]

theorem pay5_val (r : Fin 512) (j : Fin 1024) : k0_pay5 (F := Ideal) x1 x3 (ix2 r j) = gate (fun r e => x1 (ix2 r e)) (fun e j => x3 (ix2 e j)) r j := by
  pointwise [k0_pay5, k0_pay1]
  rfl
theorem pay6_val (r : Fin 512) (j : Fin 1024) : k0_pay6 (F := Ideal) x2 x4 (ix2 r j) = proj (fun r e => x2 (ix4 0 0 r e)) (fun e j => x4 (ix2 e j)) r j := by
  pointwise [k0_pay6, k0_pay2]
  rfl

/-- A whole block, read as one. -/
theorem whole0 {e : EltTy} (x : Vec Ideal S512x1024 e) : View.ld x r0_0 = x := by
  funext i
  exact congrArg x (funext fun a => Fin.ext (by fin_cases a <;> exact (Nat.zero_add _).trans (Nat.one_mul _)))
theorem whole1 : View.ld x3 r0_1 = x3 := by
  funext i
  exact congrArg x3 (funext fun a => Fin.ext (by fin_cases a <;> exact (Nat.zero_add _).trans (Nat.one_mul _)))
theorem whole2 : View.ld x2 r0_2 = x2 := by
  funext i
  exact congrArg x2 (funext fun a => Fin.ext (by fin_cases a <;> exact (Nat.zero_add _).trans (Nat.one_mul _)))
theorem whole3 : View.ld x4 r0_3 = x4 := by
  funext i
  exact congrArg x4 (funext fun a => Fin.ext (by fin_cases a <;> exact (Nat.zero_add _).trans (Nat.one_mul _)))

/-- What a point stores. -/
theorem out_val (r : Fin 512) (j : Fin 1024) : out0_5 (F := Ideal) x0 x1 x2 x3 x4 (ix2 r j)
    = x0 (ix2 r j) + Ideal.logistic (∑ e, x1 (ix2 r e) * x3 (ix2 e j)) * ∑ e, x2 (ix4 0 0 r e) * x4 (ix2 e j) := by
  refine Eq.trans ?_ (pay3_val x0 x1 x2 x3 x4 r j)
  unfold out0_5
  canon_tiles x e
  have ex : x = ix2 r j := funext fun a => Fin.ext (by fin_cases a; exacts [e0.symm, e1.symm])
  rw [ex, whole0, whole0, whole1, whole2, whole3]
theorem out6_val (r : Fin 512) (j : Fin 1024) : out0_6 (F := Ideal) x0 x1 x2 x3 x4 (ix2 r j)
    = x0 (ix2 r j) + Ideal.logistic (∑ e, x1 (ix2 r e) * x3 (ix2 e j)) * ∑ e, x2 (ix4 0 0 r e) * x4 (ix2 e j) := by
  refine Eq.trans ?_ (pay3_val x0 x1 x2 x3 x4 r j)
  unfold out0_6
  canon_tiles x e
  have ex : x = ix2 r j := funext fun a => Fin.ext (by fin_cases a; exacts [e0.symm, e1.symm])
  rw [ex, whole0, whole0, whole1, whole2, whole3]
  rfl
theorem out7_val (r : Fin 512) (j : Fin 1024) : out0_7 (F := Ideal) x0 x1 x2 x3 x4 (ix2 r j)
    = gate (fun r e => x1 (ix2 r e)) (fun e j => x3 (ix2 e j)) r j := by
  refine Eq.trans ?_ (pay5_val x1 x3 r j)
  unfold out0_7
  canon_tiles x e
  have ex : x = ix2 r j := funext fun a => Fin.ext (by fin_cases a; exacts [e0.symm, e1.symm])
  rw [ex, whole0, whole1]
theorem out8_val (r : Fin 512) (j : Fin 1024) : out0_8 (F := Ideal) x0 x1 x2 x3 x4 (ix2 r j)
    = proj (fun r e => x2 (ix4 0 0 r e)) (fun e j => x4 (ix2 e j)) r j := by
  refine Eq.trans ?_ (pay6_val x2 x4 r j)
  unfold out0_8
  canon_tiles x e
  have ex : x = ix2 r j := funext fun a => Fin.ext (by fin_cases a; exacts [e0.symm, e1.symm])
  rw [ex, whole2, whole3]
end block

section host
variable (A : Valuation τ sig (Elt Ideal))

theorem host0 (r : Fin 16384) (e : Fin 1024) : (after hostOps0 A (Proc.devRef .tc main_v0) : FVec Ideal S16384x1024 .bf16) (ix2 r e)
    = (A (Proc.devRef .tc main_arg0) : FVec Ideal S16384x1024 .f32) (ix2 r e) := by
  after_results_simp
  rfl
theorem host1 (r : Fin 16384) (e : Fin 256) : (after hostOps0 A (Proc.devRef .tc main_v1) : FVec Ideal S1x1x16384x256 .f32) (ix4 0 0 r e)
    = (A (Proc.devRef .tc main_arg1) : FVec Ideal S16384x256 .f32) (ix2 r e) := by
  after_results_simp
  pointwise
theorem host2 (e j : Fin 1024) : (after hostOps0 A (Proc.devRef .tc main_v2) : FVec Ideal S1024x1024 .bf16) (ix2 e j)
    = (A (Proc.devRef .tc main_arg2) : FVec Ideal S1024x1024 .f32) (ix2 e j) := by
  after_results_simp
  rfl
theorem host3 (e : Fin 256) (j : Fin 1024) : (after hostOps0 A (Proc.devRef .tc main_v3) : FVec Ideal S256x1024 .bf16) (ix2 e j)
    = (A (Proc.devRef .tc main_arg3) : FVec Ideal S256x1024 .f32) (ix2 e j) := by
  after_results_simp
  rfl
end host

/-- The gated embedding, the first and, cast, the second result of both programs. -/
def result (x : FVec Ideal S16384x1024 .f32) (p : FVec Ideal S16384x256 .f32) (w : FVec Ideal S1024x1024 .f32) (q : FVec Ideal S256x1024 .f32) :
    S16384x1024.Idx → EReal := fun i =>
  gated (fun r e => x (ix2 r e)) (fun r e => p (ix2 r e)) (fun e j => w (ix2 e j)) (fun e j => q (ix2 e j)) (i 0) (i 1)
/-- The gate, their third result. -/
def gates (x : FVec Ideal S16384x1024 .f32) (w : FVec Ideal S1024x1024 .f32) : S16384x1024.Idx → EReal := fun i =>
  gate (fun r e => x (ix2 r e)) (fun e j => w (ix2 e j)) (i 0) (i 1)
/-- The projected embedding, their fourth. -/
def projs (p : FVec Ideal S16384x256 .f32) (q : FVec Ideal S256x1024 .f32) : S16384x1024.Idx → EReal := fun i =>
  proj (fun r e => p (ix2 r e)) (fun e j => q (ix2 e j)) (i 0) (i 1)

section arrays
variable (m : (ℓ : Loc nD τ sig) → Buf (Elt Ideal) ℓ) (c : Dev nD)

/-- The blocks that each grid point stages. -/
theorem idx : ∀ t : Fin cfg0.N, win0_0.index t = ![t.val, 0] ∧ win0_1.index t = ![t.val, 0]
    ∧ win0_2.index t = ![0, 0, t.val, 0] ∧ win0_3.index t = ![0, 0] ∧ win0_4.index t = ![0, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The row of the arrays that a row of point `t`'s block is. -/
def row (t : Fin cfg0.N) (r : Fin 512) : Fin 16384 := ⟨t.val * 512 + r.val, by have : t.val < 32 := t.isLt; omega⟩

theorem blk0 (t : Fin cfg0.N) (r : Fin 512) (e : Fin 1024) : iblk m c 0 t (ix2 r e) = m ((c : Thread nD τ).loc main_arg0) (ix2 (row t r) e) := by
  blk_point [iblk, V, idx t, row]
theorem blk1 (t : Fin cfg0.N) (r : Fin 512) (e : Fin 1024) : iblk m c 1 t (ix2 r e) = m ((c : Thread nD τ).loc main_arg0) (ix2 (row t r) e) := by
  refine Eq.trans ?_ (host0 (fun b => m (c, b)) (row t r) e)
  blk_point [iblk, idx t, row]
theorem blk2 (t : Fin cfg0.N) (r : Fin 512) (e : Fin 256) : iblk m c 2 t (ix4 0 0 r e) = m ((c : Thread nD τ).loc main_arg1) (ix2 (row t r) e) := by
  refine Eq.trans ?_ (host1 (fun b => m (c, b)) (row t r) e)
  blk_point [iblk, idx t, row]
theorem blk3 (t : Fin cfg0.N) (e j : Fin 1024) : iblk m c 3 t (ix2 e j) = m ((c : Thread nD τ).loc main_arg2) (ix2 e j) := by
  refine Eq.trans ?_ (host2 (fun b => m (c, b)) e j)
  blk_point [iblk, idx t]
theorem blk4 (t : Fin cfg0.N) (e : Fin 256) (j : Fin 1024) : iblk m c 4 t (ix2 e j) = m ((c : Thread nD τ).loc main_arg3) (ix2 e j) := by
  refine Eq.trans ?_ (host3 (fun b => m (c, b)) e j)
  blk_point [iblk, idx t]

/-- The results after the run. -/
theorem final5 : (dats m 0 c).arrAt 5 cfg0.N = result (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf (x : S512x1024.Idx) => ?_
  blk_simp
  rw [after0_5]
  obtain ⟨r, j, rfl⟩ : ∃ (r : Fin 512) (j : Fin 1024), x = ix2 r j := ⟨x 0, x 1, by idx_vars x⟩
  have e : ((cfg0.win 5).blk t).view.emb (ix2 r j) = (ix2 (row t r) j : S16384x1024.Idx) := by blk_ext [idx t, row]
  rw [e]
  refine (out_val (iblk m c 0 t) (iblk m c 1 t) (iblk m c 2 t) (iblk m c 3 t) (iblk m c 4 t) r j).trans ?_
  simp only [blk0, blk1, blk2, blk3, blk4]
  rfl
theorem final6 : (dats m 0 c).arrAt 6 cfg0.N = result (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf (x : S512x1024.Idx) => ?_
  blk_simp
  rw [after0_6]
  obtain ⟨r, j, rfl⟩ : ∃ (r : Fin 512) (j : Fin 1024), x = ix2 r j := ⟨x 0, x 1, by idx_vars x⟩
  have e : ((cfg0.win 6).blk t).view.emb (ix2 r j) = (ix2 (row t r) j : S16384x1024.Idx) := by blk_ext [idx t, row]
  rw [e]
  refine (out6_val (iblk m c 0 t) (iblk m c 1 t) (iblk m c 2 t) (iblk m c 3 t) (iblk m c 4 t) r j).trans ?_
  simp only [blk0, blk1, blk2, blk3, blk4]
  rfl
theorem final7 : (dats m 0 c).arrAt 7 cfg0.N = gates (m ((c : Thread nD τ).loc main_arg0)) (m ((c : Thread nD τ).loc main_arg2)) := by
  refine (dats m 0 c).arrAt_eq_of_covers 7 _ (by decide +kernel) fun t hf (x : S512x1024.Idx) => ?_
  blk_simp
  rw [after0_7]
  obtain ⟨r, j, rfl⟩ : ∃ (r : Fin 512) (j : Fin 1024), x = ix2 r j := ⟨x 0, x 1, by idx_vars x⟩
  have e : ((cfg0.win 7).blk t).view.emb (ix2 r j) = (ix2 (row t r) j : S16384x1024.Idx) := by blk_ext [idx t, row]
  rw [e]
  refine (out7_val (iblk m c 0 t) (iblk m c 1 t) (iblk m c 2 t) (iblk m c 3 t) (iblk m c 4 t) r j).trans ?_
  simp only [blk1, blk3]
  rfl
theorem final8 : (dats m 0 c).arrAt 8 cfg0.N = projs (m ((c : Thread nD τ).loc main_arg1)) (m ((c : Thread nD τ).loc main_arg3)) := by
  refine (dats m 0 c).arrAt_eq_of_covers 8 _ (by decide +kernel) fun t hf (x : S512x1024.Idx) => ?_
  blk_simp
  rw [after0_8]
  obtain ⟨r, j, rfl⟩ : ∃ (r : Fin 512) (j : Fin 1024), x = ix2 r j := ⟨x 0, x 1, by idx_vars x⟩
  have e : ((cfg0.win 8).blk t).view.emb (ix2 r j) = (ix2 (row t r) j : S16384x1024.Idx) := by blk_ext [idx t, row]
  rw [e]
  refine (out8_val (iblk m c 0 t) (iblk m c 1 t) (iblk m c 2 t) (iblk m c 3 t) (iblk m c 4 t) r j).trans ?_
  simp only [blk2, blk4]
  rfl

end arrays

end Cert.EmbedKernelIdeal.Value

end
-- ==== Proof.Embed.Reference.lean ====
/-
  The gated embedding: the reference's four results are the same functions of the four arguments.
-/
module

public import proofs.«01_k».proof.Proof.Gen.EmbedReferenceIdeal.Run
public import proofs.«01_k».proof.Proof.Embed.Kernel

@[expose] public section

set_option maxRecDepth 16384

noncomputable section

namespace Cert.EmbedReferenceIdeal.Value

open Cert.EmbedReferenceIdeal Cert.EmbedReferenceIdeal.Gen Idealize.ShloMosaic Idealize.ShloMosaic.TcCoe
open Idealize.ShloMosaic.StableHlo Idealize.SL.Sem
open Cert.EmbedKernelIdeal.Value (gated gate proj result gates projs)

section block
variable (x : FVec Ideal S16384x1024 .f32) (p : FVec Ideal S16384x256 .f32) (w : FVec Ideal S1024x1024 .f32) (q : FVec Ideal S256x1024 .f32)

/-- The gate's product. -/
def rPre : FVec Ideal S16384x1024 .f32 := Host.dotGeneral dot_S16384x1024_S1024x1024_S16384x1024_1_0_0_1_n_n none x w
theorem rPre_val (r : Fin 16384) (j : Fin 1024) : rPre x w (ix2 r j) = ∑ e : Fin 1024, x (ix2 r e) * w (ix2 e j) := by
  pointwise [rPre]
/-- The projected embedding. -/
def rProj : FVec Ideal S16384x1024 .f32 := Host.dotGeneral dot_S16384x256_S256x1024_S16384x1024_1_0_0_1_n_n none p q
theorem rProj_val (r : Fin 16384) (j : Fin 1024) : rProj p q (ix2 r j) = ∑ e : Fin 256, p (ix2 r e) * q (ix2 e j) := by
  pointwise [rProj]

/-- The reference's result. -/
def rGated : FVec Ideal S16384x1024 .f32 :=
  addf x (mulf (Host.divf (broadcastInDim S16384x1024 ![] bcast_S_S16384x1024 (constant S_ .f32 0x3F800000#32))
    (addf (broadcastInDim S16384x1024 ![] bcast_S_S16384x1024 (constant S_ .f32 0x3F800000#32)) (Host.exp (Host.negf (rPre x w))))) (rProj p q))

theorem rGated_val (r : Fin 16384) (j : Fin 1024) : rGated x p w q (ix2 r j)
    = gated (fun r e => x (ix2 r e)) (fun r e => p (ix2 r e)) (fun e j => w (ix2 e j)) (fun e j => q (ix2 e j)) r j := by
  pointwise [rGated]
  rw [rPre_val, rProj_val]
  rfl

/-- Its gate. -/
def rGate : FVec Ideal S16384x1024 .f32 :=
  Host.divf (broadcastInDim S16384x1024 ![] bcast_S_S16384x1024 (constant S_ .f32 0x3F800000#32))
    (addf (broadcastInDim S16384x1024 ![] bcast_S_S16384x1024 (constant S_ .f32 0x3F800000#32)) (Host.exp (Host.negf (rPre x w))))
theorem rGate_val (r : Fin 16384) (j : Fin 1024) : rGate x w (ix2 r j) = gate (fun r e => x (ix2 r e)) (fun e j => w (ix2 e j)) r j := by
  pointwise [rGate]
  rw [rPre_val]
  rfl
end block

section run
variable (m : (ℓ : Loc nD τ sig) → Buf (Elt Ideal) ℓ) (ρ : Dev nD → PrngReg)

theorem run_reference : θ_run defs (onTc (τ := τ) (main (F := Ideal))) ⟨m, fun _ => 0, ρ⟩ fun r => ∀ c : Dev nD,
      r.2.mem ((c.tc : Thread nD τ).loc main_v9) = result (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v10) = result (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v11) = gates (m ((c.tc : Thread nD τ).loc main_arg0)) (m ((c.tc : Thread nD τ).loc main_arg2))
      ∧ r.2.mem ((c.tc : Thread nD τ).loc main_v12) = projs (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext fun i => ?_), (h c).2.1.trans (funext fun i => ?_),
    (h c).2.2.1.trans (funext fun i => ?_), (h c).2.2.2.1.trans (funext fun i => ?_), (h c).2.2.2.2⟩) (run m ρ)
  all_goals obtain ⟨a, k, rfl⟩ : ∃ (a : Fin 16384) (k : Fin 1024), i = ix2 a k := ⟨i 0, i 1, by idx_vars i⟩
  · exact rGated_val _ _ _ _ a k
  · exact rGated_val _ _ _ _ a k
  · exact rGate_val _ _ a k
  · exact rProj_val _ _ a k
end run

end Cert.EmbedReferenceIdeal.Value

end
-- ==== Proof.Embed.Claims.lean ====
/-
  The claims about the gated embedding: its frames, and the equality of the four results of kernel and reference.
-/
module

public import proofs.«01_k».proof.Proof.Embed.Kernel
public import proofs.«01_k».proof.Proof.Embed.Reference
public import proofs.«01_k».proof.Defs
public import Idealize.ShloMosaic.Lib.Claim

@[expose] public section

set_option maxRecDepth 16384

noncomputable section

namespace Cert.EmbedClaims

open Idealize.ShloMosaic Idealize.ShloMosaic.TcCoe Idealize.SL.Sem

theorem frame_ideal : Cert.quiescent_EmbedKernelIdeal := fun m ρ _ => Cert.EmbedKernelIdeal.Gen.frame m ρ

theorem frame_reference : Cert.quiescent_EmbedReferenceIdeal := fun m ρ _ =>
  (θ_run Cert.EmbedReferenceIdeal.defs _ _).mono (fun r h => ⟨fun c => (h c).2.2.2.2, sem_eq_zero_of_no_sems (by decide) r.2⟩)
    (Cert.EmbedReferenceIdeal.Value.run m ρ)

/-- Kernel and reference give the same results. -/
theorem algebraic : Cert.algebraic_EmbedKernelIdeal_EmbedReferenceIdeal := by
  intro m ρ m' ρ' _ hagree
  refine ⟨fun c => Cert.EmbedKernelIdeal.Value.result
      (m ((c.tc : Thread Cert.EmbedKernelIdeal.nD Cert.EmbedKernelIdeal.τ).loc Cert.EmbedKernelIdeal.main_arg0))
      (m ((c.tc : Thread Cert.EmbedKernelIdeal.nD Cert.EmbedKernelIdeal.τ).loc Cert.EmbedKernelIdeal.main_arg1))
      (m ((c.tc : Thread Cert.EmbedKernelIdeal.nD Cert.EmbedKernelIdeal.τ).loc Cert.EmbedKernelIdeal.main_arg2))
      (m ((c.tc : Thread Cert.EmbedKernelIdeal.nD Cert.EmbedKernelIdeal.τ).loc Cert.EmbedKernelIdeal.main_arg3)),
    fun c => Cert.EmbedKernelIdeal.Value.result
      (m ((c.tc : Thread Cert.EmbedKernelIdeal.nD Cert.EmbedKernelIdeal.τ).loc Cert.EmbedKernelIdeal.main_arg0))
      (m ((c.tc : Thread Cert.EmbedKernelIdeal.nD Cert.EmbedKernelIdeal.τ).loc Cert.EmbedKernelIdeal.main_arg1))
      (m ((c.tc : Thread Cert.EmbedKernelIdeal.nD Cert.EmbedKernelIdeal.τ).loc Cert.EmbedKernelIdeal.main_arg2))
      (m ((c.tc : Thread Cert.EmbedKernelIdeal.nD Cert.EmbedKernelIdeal.τ).loc Cert.EmbedKernelIdeal.main_arg3)),
    fun c => Cert.EmbedKernelIdeal.Value.gates
      (m ((c.tc : Thread Cert.EmbedKernelIdeal.nD Cert.EmbedKernelIdeal.τ).loc Cert.EmbedKernelIdeal.main_arg0))
      (m ((c.tc : Thread Cert.EmbedKernelIdeal.nD Cert.EmbedKernelIdeal.τ).loc Cert.EmbedKernelIdeal.main_arg2)),
    fun c => Cert.EmbedKernelIdeal.Value.projs
      (m ((c.tc : Thread Cert.EmbedKernelIdeal.nD Cert.EmbedKernelIdeal.τ).loc Cert.EmbedKernelIdeal.main_arg1))
      (m ((c.tc : Thread Cert.EmbedKernelIdeal.nD Cert.EmbedKernelIdeal.τ).loc Cert.EmbedKernelIdeal.main_arg3)),
    (θ_run Cert.EmbedKernelIdeal.defs _ _).mono (fun r h c => ?_) (Cert.EmbedKernelIdeal.Value.run_blocks m ρ),
    (θ_run Cert.EmbedReferenceIdeal.defs _ _).mono (fun r h c => ?_) (Cert.EmbedReferenceIdeal.Value.run_reference m' ρ')⟩
  · obtain ⟨h5, h6, h7, h8, hx⟩ := h c
    exact ⟨h5.trans (Cert.EmbedKernelIdeal.Value.final5 m c), h6.trans (Cert.EmbedKernelIdeal.Value.final6 m c),
      h7.trans (Cert.EmbedKernelIdeal.Value.final7 m c), h8.trans (Cert.EmbedKernelIdeal.Value.final8 m c), hx⟩
  · obtain ⟨h5, h6, h7, h8, hx⟩ := h c
    refine ⟨h5.trans ?_, h6.trans ?_, h7.trans ?_, h8.trans ?_, hx⟩
    all_goals simp only [(hagree c).1, (hagree c).2.1, (hagree c).2.2.1, (hagree c).2.2.2]

end Cert.EmbedClaims

end
-- ==== Proof.Gated.Kernel.lean ====
/-
  The recurrence's norm and gate: what the kernel's result holds, as a function of its four arguments.
-/
module

public import proofs.«01_k».proof.Proof.Gen.GatedKernelIdeal.Value
public import Idealize.ShloMosaic.Lib.Pipeline.ValueKit

@[expose] public section

set_option maxRecDepth 16384

noncomputable section

namespace Cert.GatedKernelIdeal.Value

open Cert.GatedKernelIdeal Cert.GatedKernelIdeal.Gen Idealize.ShloMosaic Idealize.ShloMosaic.TcCoe Idealize.SL.Sem
open Idealize.ShloMosaic.Pipeline (Dat)

/-- A lane of a head's row, normalised by the row's mean square, times its weight and its gate. -/
def normGate (o : Fin 128 → EReal) (l : Fin 128) (n g : EReal) : EReal :=
  o l * Ideal.rsqrt (Ideal.div (∑ j, o j * o j) (Ideal.ofBits .f32 0x43000000#32) + Ideal.ofBits .f32 0x3727C5AC#32) * n * (g * Ideal.logistic g)

/-- Lane `l` of the head that column `k` lies in. -/
def lane (k : Fin 1024) (l : Fin 128) : Fin 1024 := ⟨128 * (k.val / 128) + l.val, by omega⟩
/-- A column's lane in its head. -/
def inHead (k : Fin 1024) : Fin 128 := ⟨k.val % 128, by omega⟩

theorem lane_eq (k : Fin 1024) (h : Fin 8) (u : Fin 128) (e : k.val = 128 * h.val + u.val) (l : Fin 128) :
    lane k l = ⟨128 * h.val + l.val, by omega⟩ := Fin.ext (by show 128 * (k.val / 128) + l.val = 128 * h.val + l.val; omega)
theorem inHead_eq (k : Fin 1024) (h : Fin 8) (u : Fin 128) (e : k.val = 128 * h.val + u.val) : inHead k = u :=
  Fin.ext (by show k.val % 128 = u.val; omega)

/-- The norm and gate of the rows of two directions' outputs. -/
def gatedNorm {n : ℕ} (a b g : Fin n → Fin 1024 → EReal) (w : Fin 128 → EReal) (r : Fin n) (k : Fin 1024) : EReal :=
  normGate (fun l => a r (lane k l) + b r (lane k l)) (inHead k) (w (inHead k)) (g r k)

/-- The columns of head `h` of a block of rows. -/
def col {e : EltTy} (x : Vec Ideal S512x1024 e) (h : Fin 8) : Vec Ideal S512x128 e :=
  View.ld x (Rect.unit ![0, 128 * h.val] ![512, 128] (by revert h; decide))

theorem col_apply {e : EltTy} (x : Vec Ideal S512x1024 e) (h : Fin 8) (r : Fin 512) (l : Fin 128) :
    col x h (ix2 r l) = x (ix2 r ⟨128 * h.val + l.val, by omega⟩) := by
  refine congrArg x (funext fun a => Fin.ext ?_)
  fin_cases a
  · exact (Nat.zero_add _).trans (Nat.one_mul _)
  · exact congrArg (128 * h.val + ·) (Nat.one_mul _)

section block
variable (x0 x1 x2 : Vec Ideal S512x1024 .f32) (x3 : Vec Ideal S1x128 .f32)

theorem pay1_val (n : FVec Ideal S1x128 .f32) (a b g : Vec Ideal S512x128 .f32) (r : Fin 512) (l : Fin 128) : k0_pay1 (F := Ideal) n a b g (ix2 r l)
    = normGate (fun j => a (ix2 r j) + b (ix2 r j)) l (n (ix2 0 l)) (g (ix2 r l)) := by
  pointwise [k0_pay1]
  rfl

/-- The weights, read as one. -/
theorem whole0 : View.ld x3 r0_0 = x3 := by
  funext i
  exact congrArg x3 (funext fun a => Fin.ext (by fin_cases a <;> exact (Nat.zero_add _).trans (Nat.one_mul _)))
theorem weights (l : Fin 128) : k0_pay17 (F := Ideal) x0 x1 x2 x3 (ix2 0 l) = x3 (ix2 0 l) := by
  refine Eq.trans (b := k0_pay2 (F := Ideal) (View.ld x3 r0_0) (ix2 0 l)) rfl ?_
  rw [whole0]
  pointwise [k0_pay2]

/-- A head's piece. -/
theorem piece (h : Fin 8) (x : S512x128.Idx) (r : Fin 512) (k : Fin 1024) (h0 : r.val = (x 0).val) (h1 : k.val = 128 * h.val + (x 1).val) :
    k0_pay1 (F := Ideal) (k0_pay17 x0 x1 x2 x3) (col x0 h) (col x1 h) (col x2 h) x
      = gatedNorm (fun r k => x0 (ix2 r k)) (fun r k => x1 (ix2 r k)) (fun r k => x2 (ix2 r k)) (fun l => x3 (ix2 0 l)) r k := by
  obtain ⟨u, l, rfl⟩ : ∃ (u : Fin 512) (l : Fin 128), x = ix2 u l := ⟨x 0, x 1, by idx_vars x⟩
  have e0 : r = u := Fin.ext h0
  have e1 := lane_eq k h l h1
  have e2 := inHead_eq k h l h1
  have e3 : k = ⟨128 * h.val + l.val, by omega⟩ := Fin.ext h1
  subst e0
  rw [pay1_val]
  unfold gatedNorm
  simp only [e1, e2, col_apply, weights]
  rw [← e3]

set_option maxHeartbeats 2000000 in
/-- What a point stores. -/
theorem out_val (r : Fin 512) (k : Fin 1024) : out0_4 (F := Ideal) x0 x1 x2 x3 (ix2 r k)
    = gatedNorm (fun r k => x0 (ix2 r k)) (fun r k => x1 (ix2 r k)) (fun r k => x2 (ix2 r k)) (fun l => x3 (ix2 0 l)) r k := by
  have p := fun h x h0 h1 => piece x0 x1 x2 x3 h x r k h0 h1
  unfold out0_4
  canon_tiles x h
  case piece0 => exact Eq.trans rfl (p 7 x h0 h1)
  case piece1 => exact Eq.trans rfl (p 6 x h0 h1)
  case piece2 => exact Eq.trans rfl (p 5 x h0 h1)
  case piece3 => exact Eq.trans rfl (p 4 x h0 h1)
  case piece4 => exact Eq.trans rfl (p 3 x h0 h1)
  case piece5 => exact Eq.trans rfl (p 2 x h0 h1)
  case piece6 => exact Eq.trans rfl (p 1 x h0 h1)
  case piece7 => exact Eq.trans rfl (p 0 x h0 (h1.trans (Nat.zero_add _).symm))
end block

/-- The gates' columns of the projections. -/
def gates (z : FVec Ideal S16384x5120 .f32) (r : Fin 16384) (k : Fin 1024) : EReal := z (ix2 r ⟨4096 + k.val, Nat.add_lt_add_left k.isLt 4096⟩)
/-- The result of both programs. -/
def result (a b : FVec Ideal S16384x1024 .f32) (z : FVec Ideal S16384x5120 .f32) (w : FVec Ideal S128 .f32) : S16384x1024.Idx → EReal := fun i =>
  gatedNorm (fun r k => a (ix2 r k)) (fun r k => b (ix2 r k)) (gates z) (fun l => w (ix1 l)) (i 0) (i 1)

section arrays
variable (m : (ℓ : Loc nD τ sig) → Buf (Elt Ideal) ℓ) (c : Dev nD)

/-- The blocks that each grid point stages. -/
theorem idx : ∀ t : Fin cfg0.N, win0_0.index t = ![t.val, 0] ∧ win0_1.index t = ![t.val, 0]
    ∧ win0_2.index t = ![t.val, 4] ∧ win0_3.index t = ![0, 0] ∧ win0_4.index t = ![t.val, 0] :=
  (by decide +kernel : ∀ t : Fin grid0.N, _)

/-- The row of the arrays that a row of point `t`'s block is. -/
def row (t : Fin cfg0.N) (r : Fin 512) : Fin 16384 := ⟨t.val * 512 + r.val, by have : t.val < 32 := t.isLt; omega⟩

theorem blk0 (t : Fin cfg0.N) (r : Fin 512) (k : Fin 1024) : iblk m c 0 t (ix2 r k) = m ((c : Thread nD τ).loc main_arg0) (ix2 (row t r) k) := by
  blk_point [iblk, V, idx t, row]
theorem blk1 (t : Fin cfg0.N) (r : Fin 512) (k : Fin 1024) : iblk m c 1 t (ix2 r k) = m ((c : Thread nD τ).loc main_arg1) (ix2 (row t r) k) := by
  blk_point [iblk, V, idx t, row]
theorem blk2 (t : Fin cfg0.N) (r : Fin 512) (k : Fin 1024) : iblk m c 2 t (ix2 r k) = gates (m ((c : Thread nD τ).loc main_arg2)) (row t r) k := by
  unfold gates
  blk_point [iblk, V, idx t, row]
theorem blk3 (t : Fin cfg0.N) (l : Fin 128) : iblk m c 3 t (ix2 0 l) = m ((c : Thread nD τ).loc main_arg3) (ix1 l) := by
  blk_point [iblk, V, idx t, row]

/-- The result after the run. -/
theorem final4 : (dats m 0 c).arrAt 4 cfg0.N = result (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf (x : S512x1024.Idx) => ?_
  blk_simp
  rw [after0_4]
  obtain ⟨r, k, rfl⟩ : ∃ (r : Fin 512) (k : Fin 1024), x = ix2 r k := ⟨x 0, x 1, by idx_vars x⟩
  have e : ((cfg0.win 4).blk t).view.emb (ix2 r k) = (ix2 (row t r) k : S16384x1024.Idx) := by blk_ext [idx t, row]
  rw [e]
  refine (out_val (iblk m c 0 t) (iblk m c 1 t) (iblk m c 2 t) (iblk m c 3 t) r k).trans ?_
  simp only [blk0, blk1, blk2, blk3]
  rfl

end arrays

end Cert.GatedKernelIdeal.Value

end
-- ==== Proof.Gated.Reference.lean ====
/-
  The recurrence's norm and gate: the reference's result is the same function of the four arguments.
-/
module

public import proofs.«01_k».proof.Proof.Gen.GatedReferenceIdeal.Run
public import proofs.«01_k».proof.Proof.Gated.Kernel

@[expose] public section

set_option maxRecDepth 16384

noncomputable section

namespace Cert.GatedReferenceIdeal.Value

open Cert.GatedReferenceIdeal Cert.GatedReferenceIdeal.Gen Idealize.ShloMosaic Idealize.ShloMosaic.TcCoe
open Idealize.ShloMosaic.StableHlo Idealize.SL.Sem
open Cert.GatedKernelIdeal.Value (lane inHead normGate gatedNorm gates result)

section block
variable (a b : FVec Ideal S16384x1024 .f32) (z : FVec Ideal S16384x5120 .f32) (w : FVec Ideal S128 .f32)

/-- Lane `l` of head `h`. -/
abbrev headLane (h : Fin 8) (l : Fin 128) : Fin 1024 := ⟨h.val * 128 + l.val, by omega⟩

/-- The sum of the two directions, by heads. -/
def rOut : FVec Ideal S16384x8x128 .f32 := shapeCast _ (addf a b) shapeCasts_S16384x1024_S16384x8x128
theorem rOut_val (r : Fin 16384) (h : Fin 8) (l : Fin 128) : rOut a b (ix3 r h l) = a (ix2 r (headLane h l)) + b (ix2 r (headLane h l)) := by
  pointwise [rOut]
/-- The gates, by heads. -/
def rGates : FVec Ideal S16384x8x128 .f32 := shapeCast _ (extractStridedSlice S16384x1024 ![0, 4096] z slices_S16384x5120_S16384x1024_0_4096) shapeCasts_S16384x1024_S16384x8x128
theorem rGates_val (r : Fin 16384) (h : Fin 8) (l : Fin 128) : rGates z (ix3 r h l) = gates z r (headLane h l) := by
  pointwise [rGates]
  rfl
/-- The factors that normalise the heads' rows. -/
def rScale : FVec Ideal S16384x8x1 .f32 :=
  Host.rsqrt (addf (Host.divf (broadcastInDim S16384x8x1 ![0, 1] bcast_S16384x8_S16384x8x1_0_1
    (Host.reduceAdd (mulf (rOut a b) (rOut a b)) (constant S_ .f32 0x00000000#32) reducesTo_S16384x8x128_S16384x8_d2 h_S_))
    (broadcastInDim S16384x8x1 ![] bcast_S_S16384x8x1 (constant S_ .f32 0x43000000#32)))
    (broadcastInDim S16384x8x1 ![] bcast_S_S16384x8x1 (constant S_ .f32 0x3727C5AC#32)))
theorem rScale_val (r : Fin 16384) (h : Fin 8) : rScale a b (ix3 r h 0)
    = Ideal.rsqrt (Ideal.div (∑ l, rOut a b (ix3 r h l) * rOut a b (ix3 r h l)) (Ideal.ofBits .f32 0x43000000#32) + Ideal.ofBits .f32 0x3727C5AC#32) := by
  pointwise [rScale]
/-- The result by heads. -/
def rHeads : FVec Ideal S16384x8x128 .f32 :=
  mulf (mulf (mulf (rOut a b) (broadcastInDim S16384x8x128 ![0, 1, 2] bcast_S16384x8x1_S16384x8x128_0_1_2 (rScale a b)))
    (broadcastInDim S16384x8x128 ![0, 1, 2] bcast_S1x1x128_S16384x8x128_0_1_2 (broadcastInDim S1x1x128 ![2] bcast_S128_S1x1x128_2 w)))
    (mulf (rGates z) (Host.divf (broadcastInDim S16384x8x128 ![] bcast_S_S16384x8x128 (constant S_ .f32 0x3F800000#32))
      (addf (broadcastInDim S16384x8x128 ![] bcast_S_S16384x8x128 (constant S_ .f32 0x3F800000#32)) (Host.exp (Host.negf (rGates z))))))
theorem rHeads_val (r : Fin 16384) (h : Fin 8) (l : Fin 128) : rHeads a b z w (ix3 r h l)
    = normGate (fun j => a (ix2 r (headLane h j)) + b (ix2 r (headLane h j))) l (w (ix1 l)) (gates z r (headLane h l)) := by
  pointwise [rHeads]
  rw [rScale_val]
  simp only [rOut_val, rGates_val]
  rfl

/-- The reference's result. -/
def rResult : FVec Ideal S16384x1024 .bf16 := truncf .bf16 (shapeCast _ (rHeads a b z w) shapeCasts_S16384x8x128_S16384x1024) bitsLt_bf16_f32
theorem rResult_val (r : Fin 16384) (k : Fin 1024) : rResult a b z w (ix2 r k)
    = gatedNorm (fun r k => a (ix2 r k)) (fun r k => b (ix2 r k)) (gates z) (fun l => w (ix1 l)) r k := by
  have e1 : ∀ l, headLane ⟨k.val / 128, by omega⟩ l = lane k l := fun l => Fin.ext (congrArg (· + l.val) (Nat.mul_comm _ _))
  have e2 : headLane ⟨k.val / 128, by omega⟩ (inHead k) = k := Fin.ext (by show k.val / 128 * 128 + k.val % 128 = k.val; omega)
  refine Eq.trans (b := rHeads a b z w (ix3 r ⟨k.val / 128, by omega⟩ (inHead k))) ?_ ?_
  · pointwise [rResult]
    rfl
  · rw [rHeads_val, e2]
    simp only [e1]
    rfl
end block

section run
variable (m : (ℓ : Loc nD τ sig) → Buf (Elt Ideal) ℓ) (ρ : Dev nD → PrngReg)

theorem run_reference : θ_run defs (onTc (τ := τ) (main (F := Ideal))) ⟨m, fun _ => 0, ρ⟩ fun r => ∀ c : Dev nD,
      r.2.mem ((c.tc : Thread nD τ).loc main_v20) = result (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext fun i => ?_), (h c).2⟩) (run m ρ)
  obtain ⟨a, k, rfl⟩ : ∃ (a : Fin 16384) (k : Fin 1024), i = ix2 a k := ⟨i 0, i 1, by idx_vars i⟩
  exact rResult_val _ _ _ _ a k
end run

end Cert.GatedReferenceIdeal.Value

end
-- ==== Proof.Gated.Claims.lean ====
/-
  The claims about the recurrence's norm and gate: the frames, and the equality of the results of kernel and reference.
-/
module

public import proofs.«01_k».proof.Proof.Gated.Kernel
public import proofs.«01_k».proof.Proof.Gated.Reference
public import proofs.«01_k».proof.Defs
public import Idealize.ShloMosaic.Lib.Claim

@[expose] public section

set_option maxRecDepth 16384

noncomputable section

namespace Cert.GatedClaims

open Idealize.ShloMosaic Idealize.ShloMosaic.TcCoe Idealize.SL.Sem
open Cert.GatedKernelIdeal Cert.GatedKernelIdeal.Value

theorem frame_ideal : Cert.quiescent_GatedKernelIdeal := fun m ρ _ => Cert.GatedKernelIdeal.Gen.frame m ρ

theorem frame_reference : Cert.quiescent_GatedReferenceIdeal := fun m ρ _ =>
  (θ_run Cert.GatedReferenceIdeal.defs _ _).mono (fun r h => ⟨fun c => (h c).2, sem_eq_zero_of_no_sems (by decide) r.2⟩)
    (Cert.GatedReferenceIdeal.Value.run m ρ)

/-- Kernel and reference give the same result. -/
theorem algebraic : Cert.algebraic_GatedKernelIdeal_GatedReferenceIdeal := by
  intro m ρ m' ρ' _ hagree
  refine ⟨fun c => result (m ((c.tc : Thread nD τ).loc main_arg0)) (m ((c.tc : Thread nD τ).loc main_arg1))
      (m ((c.tc : Thread nD τ).loc main_arg2)) (m ((c.tc : Thread nD τ).loc main_arg3)),
    (θ_run defs _ _).mono (fun r h c => ⟨(h c).1.trans (final4 m c), (h c).2⟩) (run_blocks m ρ),
    (θ_run Cert.GatedReferenceIdeal.defs _ _).mono (fun r h c => ?_) (Cert.GatedReferenceIdeal.Value.run_reference m' ρ')⟩
  obtain ⟨h4, hx⟩ := h c
  refine ⟨h4.trans ?_, hx⟩
  simp only [(hagree c).1, (hagree c).2.1, (hagree c).2.2.1, (hagree c).2.2.2]

end Cert.GatedClaims

end
-- ==== Proof.Lower.Kernel.lean ====
/-
  The lower bounds: what the kernel's result holds, as a function of its argument.
-/
module

public import proofs.«01_k».proof.Proof.Gen.LowerKernelIdeal.Value
public import proofs.«01_k».proof.Proof.Bounds.Column
public import Idealize.ShloMosaic.Lib.Pipeline.ValueKit

@[expose] public section

set_option maxRecDepth 16384

noncomputable section

namespace Cert.LowerKernelIdeal.Value

open Cert.LowerKernelIdeal Cert.LowerKernelIdeal.Gen Cert.BoundsColumn Cert.Reals Idealize.ShloMosaic Idealize.ShloMosaic.TcCoe Idealize.SL.Sem

/-- The softmax over the four layers of a column. -/
def soft (l : Fin 4 → ℝ) (i : Fin 4) : ℝ := Real.exp (l i) / ∑ j, Real.exp (l j)

/-- The lower bounds of a column: the softmax summed up from layer 1 on. -/
def bound (l : Fin 4 → ℝ) : Fin 4 → ℝ := ![0, soft l 1, soft l 1 + soft l 2, soft l 1 + soft l 2 + soft l 3]

/-- The logits without their maximum, exponentiated. -/
def kExp (x : FVec Ideal S4x2048 .f32) : FVec Ideal S4x2048 .f32 :=
  exp (subf (shapeCast S4x2048 x shapeCasts_S4x2048_S4x2048) (broadcastTo S4x2048 (shapeCast S1x2048
    (multiReduction .maximumf [0] S2048 (shapeCast S4x2048 x shapeCasts_S4x2048_S4x2048) 0xFF800000#32 reduces_S4x2048_S2048 (.inl rfl) rfl)
    shapeCasts_S2048_S1x2048) broadcasts_S1x2048_S4x2048))
/-- A row of column sums, in every row. -/
def kSum (x : FVec Ideal S4x2048 .f32) : FVec Ideal S4x2048 .f32 :=
  broadcastTo S4x2048 (shapeCast S1x2048 (multiReduction .add [0] S2048 x 0x00000000#32 reduces_S4x2048_S2048 (.inl rfl) rfl)
    shapeCasts_S2048_S1x2048) broadcasts_S1x2048_S4x2048
/-- The softmax. -/
def kSoft (x : FVec Ideal S4x2048 .f32) : FVec Ideal S4x2048 .f32 := divf (kExp x) (kSum (kExp x))
/-- A row of the softmax. -/
def kRow1 (y : FVec Ideal S4x2048 .f32) : FVec Ideal S1x2048 .f32 := extractStridedSlice S1x2048 ![1, 0] y slices_S4x2048_o1_0_S1x2048
@[inherit_doc kRow1] def kRow2 (y : FVec Ideal S4x2048 .f32) : FVec Ideal S1x2048 .f32 := extractStridedSlice S1x2048 ![2, 0] y slices_S4x2048_o2_0_S1x2048
@[inherit_doc kRow1] def kRow3 (y : FVec Ideal S4x2048 .f32) : FVec Ideal S1x2048 .f32 := extractStridedSlice S1x2048 ![3, 0] y slices_S4x2048_o3_0_S1x2048
/-- The rows of the softmax, summed up. -/
def kUp (y : FVec Ideal S4x2048 .f32) : FVec Ideal S4x2048 .f32 :=
  concatenate S4x2048 0 [⟨S1x2048, broadcast S1x2048 (Scalar.ofBits .f32 0x00000000#32)⟩, ⟨S1x2048, kRow1 y⟩,
    ⟨S1x2048, addf (kRow1 y) (kRow2 y)⟩, ⟨S1x2048, addf (addf (kRow1 y) (kRow2 y)) (kRow3 y)⟩]
    concatenates_S1x2048_S1x2048_S1x2048_S1x2048_S4x2048_d0

/-- The kernel's computation in these terms. -/
theorem pay_eq (x : FVec Ideal S4x2048 .f32) : k0_pay1 (F := Ideal) x = kUp (kSoft x) := rfl

section column

variable (x y : FVec Ideal S4x2048 .f32) (l : Fin 4 → ℝ) (k : Fin 2048) (hl : ∀ i, x (ix2 i k) = (l i : EReal))

include hl in
theorem exp_val : ∃ m : ℝ, ∀ i, kExp x (ix2 i k) = (Real.exp (l i - m) : EReal) := by
  obtain ⟨m, hm⟩ := fold_max (fun i => (l i : EReal)) l fun _ => rfl
  refine ⟨m, fun i => ?_⟩
  pointwise [kExp]
  simp only [word_bot, hm, hl, ← EReal.coe_sub]
  rfl

include hl in
theorem sum_val (i : Fin 4) : kSum x (ix2 i k) = ((∑ j, l j : ℝ) : EReal) := by
  pointwise [kSum]
  simp only [hl, coe_sum]

include hl in
theorem soft_val (i : Fin 4) : kSoft x (ix2 i k) = (soft l i : EReal) := by
  obtain ⟨m, hm⟩ := exp_val x l k hl
  have e : kSoft x (ix2 i k) = Ideal.div (kExp x (ix2 i k)) (kSum (kExp x) (ix2 i k)) := rfl
  rw [soft, ← soft_shift l m i, e, sum_val (kExp x) (fun i => Real.exp (l i - m)) k hm i, hm, div_coe_coe _ _ (sum_exp_pos _).ne']

include hl in
/-- A column of the kernel's result. -/
theorem pay_val (i : Fin 4) : k0_pay1 (F := Ideal) x (ix2 i k) = (bound l i : EReal) := by
  rw [pay_eq]
  have hs := soft_val x l k hl
  generalize kSoft x = y at hs ⊢
  fin_cases i <;> pointwise [kUp, kRow1, kRow2, kRow3, hs, bound] <;> simp only [EReal.coe_add, EReal.coe_zero]

end column

section run

variable (m : (ℓ : Loc nD τ sig) → Buf (Elt Ideal) ℓ) (c : Dev nD) (l : Fin 4 → Fin 2 → Fin 1024 → ℝ)
  (hl : ∀ i p q, m ((c : Thread nD τ).loc main_arg0) (ix3 i p q) = (l i p q : EReal))

/-- The direction and the lane of a column. -/
abbrev half (k : Fin 2048) : Fin 2 := ⟨k.val / 1024, by omega⟩
@[inherit_doc half] abbrev rest (k : Fin 2048) : Fin 1024 := ⟨k.val % 1024, by omega⟩

theorem idx : ∀ t : Fin cfg0.N, win0_0.index t = ![0, 0] ∧ win0_1.index t = ![0, 0] :=
  (by decide +kernel : ∀ t : Fin grid0.N, _)

include hl in
theorem blk0 (t : Fin cfg0.N) (i : Fin 4) (k : Fin 2048) : iblk m c 0 t (ix2 i k) = (l i (half k) (rest k) : EReal) := by
  refine Eq.trans ?_ (hl i (half k) (rest k))
  blk_point [iblk, V, idx t]

/-- The rectangle of a whole array reads the array. -/
theorem whole (v : Vec Ideal S4x2048 .f32) : View.ld v r0_0 = v := by
  refine funext fun x => congrArg v (funext fun a => Fin.ext ?_)
  fin_cases a <;> exact (Nat.zero_add _).trans (Nat.one_mul _)

include hl in
/-- The result after the run. -/
theorem final1 : (dats m 0 c).arrAt 1 cfg0.N = fun i : S4x2048.Idx => (bound (fun j => l j (half (i 1)) (rest (i 1))) (i 0) : EReal) := by
  refine (dats m 0 c).arrAt_eq_of_covers 1 _ (by decide +kernel) fun t hf (x : S4x2048.Idx) => ?_
  blk_simp
  rw [after0_1]
  obtain ⟨i, k, rfl⟩ : ∃ (i : Fin 4) (k : Fin 2048), x = ix2 i k := ⟨x 0, x 1, by idx_vars x⟩
  have e : ((cfg0.win 1).blk t).view.emb (ix2 i k) = (ix2 i k : S4x2048.Idx) := by blk_ext [idx t]
  rw [e]
  refine Eq.trans ?_ (pay_val (iblk m c 0 t) (fun j => l j (half k) (rest k)) k (fun j => blk0 m c l hl t j k) i)
  unfold out0_1
  canon_tiles
  have ex : x = ix2 i k := funext fun a => Fin.ext (by fin_cases a; exacts [h0.symm, h1.symm])
  rw [ex, whole]

end run

end Cert.LowerKernelIdeal.Value

end
-- ==== Proof.Lower.Reference.lean ====
/-
  The lower bounds: what the reference's result is over real logits.
-/
module

public import proofs.«01_k».proof.Proof.Gen.LowerReferenceIdeal.Run
public import proofs.«01_k».proof.Proof.Lower.Kernel

@[expose] public section

set_option maxRecDepth 16384

noncomputable section

namespace Cert.LowerReferenceIdeal.Value

open Cert.LowerReferenceIdeal Cert.LowerReferenceIdeal.Gen Cert.BoundsColumn Cert.Reals Idealize.ShloMosaic Idealize.ShloMosaic.TcCoe
open Idealize.ShloMosaic.StableHlo Idealize.SL.Sem
open Cert.LowerKernelIdeal.Value (half rest soft bound)

/-- The four positions of a window over the layers. -/
theorem window_pos : (List.finRange (⟨3, ![4, 1, 1]⟩ : Shape).numel).map (fun n => ((⟨3, ![4, 1, 1]⟩ : Shape).rowMajor.symm n : (⟨3, ![4, 1, 1]⟩ : Shape).Idx))
    = [ix3 0 0 0, ix3 1 0 0, ix3 2 0 0, ix3 3 0 0] := by
  decide +kernel

/-- The sum over the window of the layers up to `i`. -/
theorem window_sum (x : FVec Ideal S4x2x1024 .f32) (v : FVec Ideal S_ .f32) (d : Fin 4 → ℝ) (p : Fin 2) (q : Fin 1024)
    (hx : ∀ i, x (ix3 i p q) = (d i : EReal)) (hv : ∀ j, v j = (0 : EReal)) (i : Fin 4) :
    Host.reduceWindowAdd ![4, 1, 1] ![1, 1, 1] ![3, 0, 0] ![0, 0, 0] x v reduceWindows_S4x2x1024_S4x2x1024_w4s1p3_0_w1s1p0_0_w1s1p0_0 h_S_ (ix3 i p q)
      = ((![d 0, d 0 + d 1, d 0 + d 1 + d 2, d 0 + d 1 + d 2 + d 3] i : ℝ) : EReal) := by
  let g : EReal → (⟨3, ![4, 1, 1]⟩ : Shape).Idx → EReal := fun r w =>
    r + if h : 3 ≤ i.val + (w 0).val ∧ i.val + (w 0).val - 3 < 4 then x (ix3 ⟨i.val + (w 0).val - 3, h.2⟩ p q) else 0
  have e : Host.reduceWindowAdd ![4, 1, 1] ![1, 1, 1] ![3, 0, 0] ![0, 0, 0] x v reduceWindows_S4x2x1024_S4x2x1024_w4s1p3_0_w1s1p0_0_w1s1p0_0 h_S_ (ix3 i p q)
      = ((List.finRange (⟨3, ![4, 1, 1]⟩ : Shape).numel).map (fun n => ((⟨3, ![4, 1, 1]⟩ : Shape).rowMajor.symm n : (⟨3, ![4, 1, 1]⟩ : Shape).Idx))).foldl g 0 := by
    rw [List.foldl_map]
    show List.foldl _ (v _) _ = _
    rw [hv]
    refine congrArg (fun f => List.foldl f (0 : EReal) _) (funext fun r => funext fun n => ?_)
    refine congrArg (r + ·) ?_
    have w1 : ((⟨3, ![4, 1, 1]⟩ : Shape).rowMajor.symm n 1).val = 0 := Nat.lt_one_iff.mp ((⟨3, ![4, 1, 1]⟩ : Shape).rowMajor.symm n 1).isLt
    have w2 : ((⟨3, ![4, 1, 1]⟩ : Shape).rowMajor.symm n 2).val = 0 := Nat.lt_one_iff.mp ((⟨3, ![4, 1, 1]⟩ : Shape).rowMajor.symm n 2).isLt
    by_cases h : 3 ≤ i.val + ((⟨3, ![4, 1, 1]⟩ : Shape).rowMajor.symm n 0).val ∧ i.val + ((⟨3, ![4, 1, 1]⟩ : Shape).rowMajor.symm n 0).val - 3 < 4
    · rw [dif_pos h]
      refine (dif_pos (fun a => ?_)).trans (congrArg x (funext fun a => Fin.ext ?_))
      · fin_cases a
        · exact ⟨show 3 ≤ i.val * 1 + ((⟨3, ![4, 1, 1]⟩ : Shape).rowMajor.symm n 0).val by omega,
            show i.val * 1 + ((⟨3, ![4, 1, 1]⟩ : Shape).rowMajor.symm n 0).val - 3 < 4 by omega⟩
        · exact ⟨Nat.zero_le _, show p.val * 1 + ((⟨3, ![4, 1, 1]⟩ : Shape).rowMajor.symm n 1).val - 0 < 2 by omega⟩
        · exact ⟨Nat.zero_le _, show q.val * 1 + ((⟨3, ![4, 1, 1]⟩ : Shape).rowMajor.symm n 2).val - 0 < 1024 by omega⟩
      · fin_cases a
        · show i.val * 1 + ((⟨3, ![4, 1, 1]⟩ : Shape).rowMajor.symm n 0).val - 3 = i.val + ((⟨3, ![4, 1, 1]⟩ : Shape).rowMajor.symm n 0).val - 3; omega
        · show p.val * 1 + ((⟨3, ![4, 1, 1]⟩ : Shape).rowMajor.symm n 1).val - 0 = p.val; omega
        · show q.val * 1 + ((⟨3, ![4, 1, 1]⟩ : Shape).rowMajor.symm n 2).val - 0 = q.val; omega
    · rw [dif_neg h]
      exact dif_neg fun hin => h (by
        have ha : 3 ≤ i.val * 1 + ((⟨3, ![4, 1, 1]⟩ : Shape).rowMajor.symm n 0).val := (hin 0).1
        have hb : i.val * 1 + ((⟨3, ![4, 1, 1]⟩ : Shape).rowMajor.symm n 0).val - 3 < 4 := (hin 0).2
        omega)
  rw [e, window_pos]
  fin_cases i <;> simp [g, hx]

/-- The logits without their maximum, exponentiated. -/
def rExp (x : FVec Ideal S4x2x1024 .f32) : FVec Ideal S4x2x1024 .f32 :=
  Host.exp (subf x (broadcastInDim S4x2x1024 ![0, 1, 2] bcast_S1x2x1024_S4x2x1024_0_1_2 (broadcastInDim S1x2x1024 ![1, 2] bcast_S2x1024_S1x2x1024_1_2
    (maximumf (broadcastInDim S2x1024 ![] bcast_S_S2x1024 (constant S_ .f32 0xFF800000#32))
      (Host.reduce FloatOps.maximumf x (constant S_ .f32 0xFF800000#32) reducesTo_S4x2x1024_S2x1024_d0 h_S_)))))
/-- Column sums. -/
def rSum (e : FVec Ideal S4x2x1024 .f32) : FVec Ideal S2x1024 .f32 :=
  Host.reduceAdd e (constant S_ .f32 0x00000000#32) reducesTo_S4x2x1024_S2x1024_d0 h_S_
/-- The softmax, from the exponentials. -/
def rSoft (e : FVec Ideal S4x2x1024 .f32) : FVec Ideal S4x2x1024 .f32 :=
  Host.divf e (broadcastInDim S4x2x1024 ![0, 1, 2] bcast_S1x2x1024_S4x2x1024_0_1_2 (broadcastInDim S1x2x1024 ![1, 2] bcast_S2x1024_S1x2x1024_1_2 (rSum e)))
/-- The running sums without the first layer, from the softmax. -/
def rBound (y : FVec Ideal S4x2x1024 .f32) : FVec Ideal S4x2x1024 .f32 :=
  subf (Host.reduceWindowAdd ![4, 1, 1] ![1, 1, 1] ![3, 0, 0] ![0, 0, 0] y (broadcastInDim S_ ![] bcast_S_S_ (constant S_ .f32 0x00000000#32))
      reduceWindows_S4x2x1024_S4x2x1024_w4s1p3_0_w1s1p0_0_w1s1p0_0 h_S_)
    (broadcastInDim S4x2x1024 ![0, 1, 2] bcast_S1x2x1024_S4x2x1024_0_1_2 (extractStridedSlice S1x2x1024 ![0, 0, 0] y slices_S4x2x1024_S1x2x1024_0_0_0))

section column

variable (x y e : FVec Ideal S4x2x1024 .f32) (l : Fin 4 → ℝ) (p : Fin 2) (q : Fin 1024)

theorem rExp_val (hx : ∀ i, x (ix3 i p q) = (l i : EReal)) : ∃ m : ℝ, ∀ i, rExp x (ix3 i p q) = (Real.exp (l i - m) : EReal) := by
  obtain ⟨m, hm⟩ := fold_max (fun i => (l i : EReal)) l fun _ => rfl
  refine ⟨m, fun i => ?_⟩
  pointwise [rExp]
  simp only [word_bot, bot_sup_eq, hx]
  rw [hm, ← EReal.coe_sub]
  rfl

theorem rSum_val (hx : ∀ i, x (ix3 i p q) = (l i : EReal)) : rSum x (ix2 p q) = ((∑ j, l j : ℝ) : EReal) := by
  pointwise [rSum]
  simp only [hx, coe_sum]

theorem rSoft_val (m : ℝ) (he : ∀ i, e (ix3 i p q) = (Real.exp (l i - m) : EReal)) (i : Fin 4) : rSoft e (ix3 i p q) = (soft l i : EReal) := by
  have hs := rSum_val e (fun j => Real.exp (l j - m)) p q he
  pointwise [rSoft, hs, he]
  rw [div_coe_coe _ _ (sum_exp_pos fun j => l j - m).ne', soft_shift]
  rfl

theorem rBound_val (hy : ∀ i, y (ix3 i p q) = (soft l i : EReal)) (i : Fin 4) : rBound y (ix3 i p q) = (bound l i : EReal) := by
  have h1 := window_sum y (broadcastInDim S_ ![] bcast_S_S_ (constant S_ .f32 0x00000000#32)) (soft l) p q hy (fun j => by pointwise) i
  pointwise [rBound, hy]
  rw [h1, ← EReal.coe_sub]
  refine congrArg Real.toEReal ?_
  fin_cases i <;> simp [bound] <;> ring

end column

/-- The result over real logits. -/
theorem out_val (x : FVec Ideal S4x2x1024 .f32) (l : Fin 4 → Fin 2 → Fin 1024 → ℝ) (hx : ∀ i p q, x (ix3 i p q) = (l i p q : EReal))
    (i : Fin 4) (k : Fin 2048) :
    shapeCast S4x2048 (rBound (rSoft (rExp x))) shapeCasts_S4x2x1024_S4x2048 (ix2 i k) = (bound (fun j => l j (half k) (rest k)) i : EReal) := by
  obtain ⟨z, hz⟩ := rExp_val x (fun j => l j (half k) (rest k)) (half k) (rest k) fun j => hx j _ _
  have h1 := rBound_val (rSoft (rExp x)) (fun j => l j (half k) (rest k)) (half k) (rest k)
    (rSoft_val (rExp x) (fun j => l j (half k) (rest k)) (half k) (rest k) z hz) i
  rw [← h1]
  pointwise

end Cert.LowerReferenceIdeal.Value

end
-- ==== Proof.Lower.Claims.lean ====
/-
  The claims about the lower bounds: the frames, and the equality of the results of kernel and reference over finite logits.
-/
module

public import proofs.«01_k».proof.Proof.Lower.Kernel
public import proofs.«01_k».proof.Proof.Lower.Reference
public import proofs.«01_k».proof.Proof.Finite
public import proofs.«01_k».proof.Proof.Gen.Pre_finite_lower
public import proofs.«01_k».proof.Defs
public import Idealize.ShloMosaic.Lib.Claim

@[expose] public section

set_option maxRecDepth 16384

noncomputable section

namespace Cert.LowerClaims

open Idealize.ShloMosaic Idealize.ShloMosaic.TcCoe Idealize.ShloMosaic.StableHlo Idealize.SL.Sem
open Cert.LowerKernelIdeal Cert.LowerKernelIdeal.Value Cert.BoundsColumn

instance : Subsingleton Cert.Pre_finite_lower.S_.Idx := ⟨fun a b => funext fun i => absurd i.isLt (by decide +revert)⟩

/-- The precondition over real numbers: every logit is one. -/
theorem reals [Cert.Pre_finite_lower.Facts] (x : FVec Ideal S4x2x1024 .f32) (h : Cert.Pre_finite_lower.fn (F := Ideal) x = fun _ => 1#1) :
    ∀ i, ∃ r : ℝ, x i = (r : EReal) :=
  Cert.Finite.real_of_all x _ _ _ _ _ (fun _ => rfl) (congrFun h (fun i => absurd i.isLt (by decide +revert)))

theorem frame_ideal : Cert.quiescent_LowerKernelIdeal := fun m ρ _ => Cert.LowerKernelIdeal.Gen.frame m ρ

theorem frame_reference : Cert.quiescent_LowerReferenceIdeal := fun m ρ _ =>
  (θ_run Cert.LowerReferenceIdeal.defs _ _).mono (fun r h => ⟨fun c => (h c).2, sem_eq_zero_of_no_sems (by decide) r.2⟩)
    (Cert.LowerReferenceIdeal.Value.run m ρ)

/-- Kernel and reference give the same lower bounds. -/
theorem algebraic : Cert.algebraic_LowerKernelIdeal_LowerReferenceIdeal_pre_finite_lower := by
  intro m ρ m' ρ' hpre hagree
  choose l hl using fun c i p q => reals _ (hpre c) (ix3 i p q)
  refine ⟨fun c => (fun i : S4x2048.Idx => (bound (fun j => l c j (half (i 1)) (rest (i 1))) (i 0) : EReal)),
    (θ_run Cert.LowerKernelIdeal.defs _ _).mono (fun r h c => ⟨(h c).1.trans (final1 m c (l c) (hl c)), (h c).2⟩) (run_blocks m ρ),
    (θ_run Cert.LowerReferenceIdeal.defs _ _).mono (fun r h c => ⟨(h c).1.trans (funext fun i => ?_), (h c).2⟩)
      (Cert.LowerReferenceIdeal.Value.run m' ρ')⟩
  obtain ⟨a, k, rfl⟩ : ∃ (a : Fin 4) (k : Fin 2048), i = ix2 a k := ⟨i 0, i 1, by idx_vars i⟩
  exact Cert.LowerReferenceIdeal.Value.out_val _ (l c) (fun j p q => (congrFun (hagree c) (ix3 j p q)).trans (hl c j p q)) a k

end Cert.LowerClaims

end
-- ==== Proof.Prod.Kernel.lean ====
/-
  A plain product: what the kernel's result holds, as a function of its two arguments.
-/
module

public import proofs.«01_k».proof.Proof.Gen.ProdKernelIdeal.Value
public import Idealize.ShloMosaic.Lib.Pipeline.ValueKit

@[expose] public section

set_option maxRecDepth 16384

noncomputable section

namespace Cert.ProdKernelIdeal.Value

open Cert.ProdKernelIdeal Cert.ProdKernelIdeal.Gen Idealize.ShloMosaic Idealize.ShloMosaic.TcCoe Idealize.SL.Sem
open Idealize.ShloMosaic.StableHlo

section block
variable (x0 : Vec Ideal S512x1024 .bf16) (x1 : Vec Ideal S1024x1280 .bf16)

theorem pay_val (r : Fin 512) (j : Fin 1280) : k0_pay1 (F := Ideal) x0 x1 (ix2 r j) = ∑ e : Fin 1024, x0 (ix2 r e) * x1 (ix2 e j) := by
  pointwise [k0_pay1]

/-- A whole block, read as one. -/
theorem whole0 : View.ld x0 r0_0 = x0 := by
  funext i
  exact congrArg x0 (funext fun a => Fin.ext (by fin_cases a <;> exact (Nat.zero_add _).trans (Nat.one_mul _)))
theorem whole1 : View.ld x1 r0_1 = x1 := by
  funext i
  exact congrArg x1 (funext fun a => Fin.ext (by fin_cases a <;> exact (Nat.zero_add _).trans (Nat.one_mul _)))

/-- What a point stores. -/
theorem out_val (r : Fin 512) (j : Fin 1280) : out0_2 (F := Ideal) x0 x1 (ix2 r j) = ∑ e : Fin 1024, x0 (ix2 r e) * x1 (ix2 e j) := by
  refine Eq.trans ?_ (pay_val x0 x1 r j)
  unfold out0_2
  canon_tiles x e
  have ex : x = ix2 r j := funext fun a => Fin.ext (by fin_cases a; exacts [e0.symm, e1.symm])
  rw [ex, whole0, whole1]
end block

section host
variable (A : Valuation τ sig (Elt Ideal))

theorem host0 (r : Fin 16384) (e : Fin 1024) : (after hostOps0 A (Proc.devRef .tc main_v0) : FVec Ideal S16384x1024 .bf16) (ix2 r e)
    = (A (Proc.devRef .tc main_arg0) : FVec Ideal S16384x1024 .f32) (ix2 r e) := by
  after_results_simp
  rfl
theorem host1 (e : Fin 1024) (j : Fin 5120) : (after hostOps0 A (Proc.devRef .tc main_v1) : FVec Ideal S1024x5120 .bf16) (ix2 e j)
    = (A (Proc.devRef .tc main_arg1) : FVec Ideal S1024x5120 .f32) (ix2 e j) := by
  after_results_simp
  rfl
end host

/-- The product, the result of both programs. -/
def result (x : FVec Ideal S16384x1024 .f32) (w : FVec Ideal S1024x5120 .f32) : S16384x5120.Idx → EReal := fun i =>
  ∑ e : Fin 1024, (x (ix2 (i 0) e) : EReal) * w (ix2 e (i 1))

section arrays
variable (m : (ℓ : Loc nD τ sig) → Buf (Elt Ideal) ℓ) (c : Dev nD)

/-- The blocks that each grid point stages. -/
theorem idx : ∀ t : Fin cfg0.N, win0_0.index t = ![t.val % 32, 0] ∧ win0_1.index t = ![0, t.val / 32] ∧ win0_2.index t = ![t.val % 32, t.val / 32] :=
  (by decide +kernel : ∀ t : Fin grid0.N, _)

/-- The row and the column of the arrays that a row and a column of point `t`'s block are. -/
def row (t : Fin cfg0.N) (r : Fin 512) : Fin 16384 := ⟨(t.val % 32) * 512 + r.val, by omega⟩
@[inherit_doc row] def col (t : Fin cfg0.N) (j : Fin 1280) : Fin 5120 := ⟨(t.val / 32) * 1280 + j.val, by have : t.val < 128 := t.isLt; omega⟩

theorem blk0 (t : Fin cfg0.N) (r : Fin 512) (e : Fin 1024) : iblk m c 0 t (ix2 r e) = m ((c : Thread nD τ).loc main_arg0) (ix2 (row t r) e) := by
  refine Eq.trans ?_ (host0 (fun b => m (c, b)) (row t r) e)
  blk_point [iblk, idx t, row]
theorem blk1 (t : Fin cfg0.N) (e : Fin 1024) (j : Fin 1280) : iblk m c 1 t (ix2 e j) = m ((c : Thread nD τ).loc main_arg1) (ix2 e (col t j)) := by
  refine Eq.trans ?_ (host1 (fun b => m (c, b)) e (col t j))
  blk_point [iblk, idx t, col]

/-- The result after the run. -/
theorem final2 : (dats m 0 c).arrAt 2 cfg0.N = result (m ((c : Thread nD τ).loc main_arg0)) (m ((c : Thread nD τ).loc main_arg1)) := by
  refine (dats m 0 c).arrAt_eq_of_covers 2 _ (by decide +kernel) fun t hf (x : S512x1280.Idx) => ?_
  blk_simp
  rw [after0_2]
  obtain ⟨r, j, rfl⟩ : ∃ (r : Fin 512) (j : Fin 1280), x = ix2 r j := ⟨x 0, x 1, by idx_vars x⟩
  have e : ((cfg0.win 2).blk t).view.emb (ix2 r j) = (ix2 (row t r) (col t j) : S16384x5120.Idx) := by blk_ext [idx t, row, col]
  rw [e]
  refine (out_val (iblk m c 0 t) (iblk m c 1 t) r j).trans ?_
  simp only [blk0, blk1]
  rfl

end arrays

end Cert.ProdKernelIdeal.Value

end
-- ==== Proof.Prod.Claims.lean ====
/-
  The claims about a plain product: its frames, and the equality of the results of kernel and reference.
-/
module

public import proofs.«01_k».proof.Proof.Prod.Kernel
public import proofs.«01_k».proof.Proof.Gen.ProdReferenceIdeal.Run
public import proofs.«01_k».proof.Defs
public import Idealize.ShloMosaic.Lib.Claim

@[expose] public section

set_option maxRecDepth 16384

noncomputable section

namespace Cert.ProdClaims

open Idealize.ShloMosaic Idealize.ShloMosaic.TcCoe Idealize.SL.Sem
open Cert.ProdKernelIdeal Cert.ProdKernelIdeal.Value

theorem frame_ideal : Cert.quiescent_ProdKernelIdeal := fun m ρ _ => Cert.ProdKernelIdeal.Gen.frame m ρ

theorem frame_reference : Cert.quiescent_ProdReferenceIdeal := fun m ρ _ =>
  (θ_run Cert.ProdReferenceIdeal.defs _ _).mono (fun r h => ⟨fun c => (h c).2, sem_eq_zero_of_no_sems (by decide) r.2⟩)
    (Cert.ProdReferenceIdeal.Value.run m ρ)

/-- The reference's product. -/
theorem dot_val (x : FVec Ideal S16384x1024 .f32) (w : FVec Ideal S1024x5120 .f32) (r : Fin 16384) (j : Fin 5120) :
    Host.dotGeneral Cert.ProdReferenceIdeal.dot_S16384x1024_S1024x5120_S16384x5120_1_0_0_1_n_n none x w (ix2 r j) = result x w (ix2 r j) := by
  have e : result x w (ix2 r j) = ∑ e : Fin 1024, (x (ix2 r e) : EReal) * w (ix2 e j) := rfl
  rw [e]
  pointwise

/-- Kernel and reference give the same product. -/
theorem algebraic : Cert.algebraic_ProdKernelIdeal_ProdReferenceIdeal := by
  intro m ρ m' ρ' _ hagree
  refine ⟨fun c => result (m ((c.tc : Thread nD τ).loc main_arg0)) (m ((c.tc : Thread nD τ).loc main_arg1)),
    (θ_run Cert.ProdKernelIdeal.defs _ _).mono (fun r h c => ⟨(h c).1.trans (final2 m c), (h c).2⟩) (run_blocks m ρ),
    (θ_run Cert.ProdReferenceIdeal.defs _ _).mono (fun r h c => ⟨(h c).1.trans (funext fun i => ?_), (h c).2⟩)
      (Cert.ProdReferenceIdeal.Value.run m' ρ')⟩
  obtain ⟨a, k, rfl⟩ : ∃ (a : Fin 16384) (k : Fin 5120), i = ix2 a k := ⟨i 0, i 1, by idx_vars i⟩
  rw [(hagree c).1, (hagree c).2]
  exact dot_val _ _ a k

end Cert.ProdClaims

end
-- ==== Proof.Wgrad.Kernel.lean ====
/-
  A weight's gradient, a product over all rows: what the kernel's result holds, as a function of its arguments.
-/
module

public import proofs.«01_k».proof.Proof.Gen.WgradKernelIdeal.Value
public import Idealize.ShloMosaic.Lib.Pipeline.ValueKit

@[expose] public section

set_option maxRecDepth 16384

noncomputable section

namespace Cert.WgradKernelIdeal.Value

open Cert.WgradKernelIdeal Cert.WgradKernelIdeal.Gen Idealize.ShloMosaic Idealize.ShloMosaic.TcCoe Idealize.SL.Sem
open Idealize.ShloMosaic.StableHlo
open Idealize.ShloMosaic.Pipeline (Dat)

/-- What a point adds to the running sums. -/
theorem pay_val (x0 : Vec Ideal S512x1408 .bf16) (x1 : Vec Ideal S512x1024 .bf16) (acc : Vec Ideal S1408x1024 .f32) (a : Fin 1408) (k : Fin 1024) :
    k0_pay2 (F := Ideal) x0 x1 acc (ix2 a k) = acc (ix2 a k) + ∑ r : Fin 512, x0 (ix2 r a) * x1 (ix2 r k) := by
  pointwise [k0_pay2]

/-- The zero that the first point of a run stores. -/
theorem pay_zero (j) : k0_pay1 (F := Ideal) j = 0 := by
  pointwise [k0_pay1]

section host
variable (A : Valuation τ sig (Elt Ideal))

theorem host0 (r : Fin 16384) (a : Fin 2816) : (after hostOps0 A (Proc.devRef .tc main_v0) : FVec Ideal S16384x2816 .bf16) (ix2 r a)
    = (A (Proc.devRef .tc main_arg0) : FVec Ideal S16384x2816 .f32) (ix2 r a) := by
  after_results_simp
  rfl
theorem host1 (r : Fin 16384) (k : Fin 1024) : (after hostOps0 A (Proc.devRef .tc main_v1) : FVec Ideal S16384x1024 .bf16) (ix2 r k)
    = (A (Proc.devRef .tc main_arg2) : FVec Ideal S16384x1024 .f32) (ix2 r k) := by
  after_results_simp
  rfl
end host

/-- The gradient, the result of both programs. -/
def result (h : FVec Ideal S16384x2816 .f32) (d : FVec Ideal S16384x1024 .f32) : S2816x1024.Idx → EReal := fun i =>
  ∑ r : Fin 16384, (h (ix2 r (i 0)) : EReal) * d (ix2 r (i 1))

section arrays
variable (m : (ℓ : Loc nD τ sig) → Buf (Elt Ideal) ℓ) (c : Dev nD)

/-- The blocks that each grid point stages. -/
theorem idx : ∀ t : Fin cfg0.N, win0_0.index t = ![t.val % 32, t.val / 32] ∧ win0_1.index t = ![t.val % 32, 0] ∧ win0_2.index t = ![t.val / 32, 0] :=
  (by decide +kernel : ∀ t : Fin grid0.N, _)

/-- The row and the column of the arrays that a row and a column of point `t`'s block are. -/
def row (t : Fin cfg0.N) (r : Fin 512) : Fin 16384 := ⟨(t.val % 32) * 512 + r.val, by omega⟩
@[inherit_doc row] def col (t : Fin cfg0.N) (a : Fin 1408) : Fin 2816 := ⟨(t.val / 32) * 1408 + a.val, by have : t.val < 64 := t.isLt; omega⟩

theorem blk0 (t : Fin cfg0.N) (r : Fin 512) (a : Fin 1408) : iblk m c 0 t (ix2 r a) = m ((c : Thread nD τ).loc main_arg0) (ix2 (row t r) (col t a)) := by
  refine Eq.trans ?_ (host0 (fun b => m (c, b)) (row t r) (col t a))
  blk_point [iblk, idx t, row, col]
theorem blk1 (t : Fin cfg0.N) (r : Fin 512) (k : Fin 1024) : iblk m c 1 t (ix2 r k) = m ((c : Thread nD τ).loc main_arg2) (ix2 (row t r) k) := by
  refine Eq.trans ?_ (host1 (fun b => m (c, b)) (row t r) k)
  blk_point [iblk, idx t, row]

/-- What point `t` adds. -/
def part (h : FVec Ideal S16384x2816 .f32) (d : FVec Ideal S16384x1024 .f32) (t : Fin cfg0.N) (j : S1408x1024.Idx) : EReal :=
  ∑ r : Fin 512, (h (ix2 (row t r) (col t (j 0))) : EReal) * d (ix2 (row t r) (j 1))

/-- The parts of a run of points are the sum over all rows. -/
theorem sum_parts (h : FVec Ideal S16384x2816 .f32) (d : FVec Ideal S16384x1024 .f32) (t : Fin cfg0.N) (ht : ∀ s : Fin 32, 32 * (t.val / 32) + s.val < cfg0.N)
    (a : Fin 1408) (k : Fin 1024) : (∑ s : Fin 32, part h d ⟨32 * (t.val / 32) + s.val, ht s⟩ (ix2 a k)) = result h d (ix2 (col t a) k) := by
  unfold part
  refine Fin.sum_mul_add_congr fun s r hl => ?_
  have hlt : t.val < 64 := t.isLt
  have er : row ⟨32 * (t.val / 32) + s.val, ht s⟩ r = ⟨s.val * 512 + r.val, hl⟩ := Fin.ext (by
    show ((32 * (t.val / 32) + s.val) % 32) * 512 + r.val = s.val * 512 + r.val
    omega)
  have ec : col ⟨32 * (t.val / 32) + s.val, ht s⟩ a = col t a := Fin.ext (by
    show ((32 * (t.val / 32) + s.val) / 32) * 1408 + a.val = (t.val / 32) * 1408 + a.val
    omega)
  show (h (ix2 (row _ r) (col _ a)) : EReal) * d (ix2 (row _ r) k) = _
  rw [er, ec]
  rfl

theorem pay_part (t : Fin cfg0.N) (acc : Vec Ideal S1408x1024 .f32) (j : S1408x1024.Idx) :
    k0_pay2 (F := Ideal) (iblk m c 0 t) (iblk m c 1 t) acc j = acc j + part (m ((c : Thread nD τ).loc main_arg0)) (m ((c : Thread nD τ).loc main_arg2)) t j := by
  obtain ⟨a, k, rfl⟩ : ∃ (a : Fin 1408) (k : Fin 1024), j = ix2 a k := ⟨j 0, j 1, by idx_vars j⟩
  refine (pay_val (iblk m c 0 t) (iblk m c 1 t) acc a k).trans ?_
  simp only [blk0, blk1]
  rfl

/-- The result after the run. -/
theorem stored : (dats m 0 c).arrAt 2 cfg0.N = result (m ((c : Thread nD τ).loc main_arg0)) (m ((c : Thread nD τ).loc main_arg2)) := by
  refine (dats m 0 c).arrAt_eq_of_covers 2 _ (by decide +kernel) fun t hf (x : S1408x1024.Idx) => ?_
  blk_simp
  rw [after0_2, Pipeline.eq_sum_fin_of_reset_step_apply_of_flush (fun n h => outsAt0 m c n h) 32 (fun _ => 0)
    (part (m ((c : Thread nD τ).loc main_arg0)) (m ((c : Thread nD τ).loc main_arg2)))
    (fun t h j => by
      rw [outsAt0_A m c t h]; frame_out
      refine Eq.trans (b := k0_pay2 (F := Ideal) (iblk m c 0 t) (iblk m c 1 t) (k0_pay1 (F := Ideal)) j) rfl ?_
      rw [pay_part, pay_zero])
    (fun t h j => by
      rw [outsAt0_B m c t h]; frame_out
      refine Eq.trans (b := k0_pay2 (F := Ideal) (iblk m c 0 t) (iblk m c 1 t) _ j) rfl ?_
      rw [pay_part])
    t ((flush0_2 t).mp hf) _, zero_add]
  obtain ⟨a, k, rfl⟩ : ∃ (a : Fin 1408) (k : Fin 1024), x = ix2 a k := ⟨x 0, x 1, by idx_vars x⟩
  have e : ((cfg0.win 2).blk t).view.emb (ix2 a k) = (ix2 (col t a) k : S2816x1024.Idx) := by blk_ext [idx t, col]
  rw [e]
  exact sum_parts _ _ t (Pipeline.run_point_lt_of_flush t ((flush0_2 t).mp hf)) a k

end arrays

end Cert.WgradKernelIdeal.Value

end
-- ==== Proof.Wgrad.Claims.lean ====
/-
  The claims about a weight's gradient: its frames, and the equality of the results of kernel and reference.
-/
module

public import proofs.«01_k».proof.Proof.Wgrad.Kernel
public import proofs.«01_k».proof.Proof.Gen.WgradReferenceIdeal.Run
public import proofs.«01_k».proof.Defs
public import Idealize.ShloMosaic.Lib.Claim

@[expose] public section

set_option maxRecDepth 16384

noncomputable section

namespace Cert.WgradClaims

open Idealize.ShloMosaic Idealize.ShloMosaic.TcCoe Idealize.SL.Sem
open Cert.WgradKernelIdeal Cert.WgradKernelIdeal.Value

theorem frame_ideal : Cert.quiescent_WgradKernelIdeal := fun m ρ _ => Cert.WgradKernelIdeal.Gen.frame m ρ

theorem frame_reference : Cert.quiescent_WgradReferenceIdeal := fun m ρ _ =>
  (θ_run Cert.WgradReferenceIdeal.defs _ _).mono (fun r h => ⟨fun c => (h c).2, sem_eq_zero_of_no_sems (by decide) r.2⟩)
    (Cert.WgradReferenceIdeal.Value.run m ρ)

/-- The derivative of `h @ w` by `w`, as the reference has it: the transpose of the product of cotangent and h over the rows. -/
theorem dot_val (h : FVec Ideal S16384x2816 .f32) (d : FVec Ideal S16384x1024 .f32) (a : Fin 2816) (k : Fin 1024) :
    transpose S2816x1024 [1, 0] (Host.dotGeneral Cert.WgradReferenceIdeal.dot_S16384x1024_S16384x2816_S1024x2816_0_0_1_1_n_n none d h)
      Cert.WgradReferenceIdeal.Gen.transposes_S1024x2816_S2816x1024_1_0 (ix2 a k) = result h d (ix2 a k) := by
  have e : result h d (ix2 a k) = ∑ r : Fin 16384, (h (ix2 r a) : EReal) * d (ix2 r k) := rfl
  rw [e]
  refine Eq.trans (b := ∑ r : Fin 16384, (d (ix2 r k) : EReal) * h (ix2 r a)) ?_ (Finset.sum_congr rfl fun r _ => mul_comm _ _)
  pointwise

/-- Kernel and reference give the same gradient. -/
theorem algebraic : Cert.algebraic_WgradKernelIdeal_WgradReferenceIdeal := by
  intro m ρ m' ρ' _ hagree
  refine ⟨fun c => result (m ((c.tc : Thread nD τ).loc main_arg0)) (m ((c.tc : Thread nD τ).loc main_arg2)),
    (θ_run Cert.WgradKernelIdeal.defs _ _).mono (fun r h c => ⟨(h c).1.trans (stored m c), (h c).2⟩) (run_blocks m ρ),
    (θ_run Cert.WgradReferenceIdeal.defs _ _).mono (fun r h c => ⟨(h c).1.trans (funext fun i => ?_), (h c).2⟩)
      (Cert.WgradReferenceIdeal.Value.run m' ρ')⟩
  obtain ⟨a, k, rfl⟩ : ∃ (a : Fin 2816) (k : Fin 1024), i = ix2 a k := ⟨i 0, i 1, by idx_vars i⟩
  rw [(hagree c).1, (hagree c).2.2]
  exact dot_val _ _ a k

end Cert.WgradClaims

end
-- ==== Proof.Back.Kernel.lean ====
/-
  The gradient of the recurrence's input, of its input projection and the residual beside it: what the kernel's result
  holds, as a function of its arguments. The product over the projection's 5120 columns comes in five parts.
-/
module

public import proofs.«01_k».proof.Proof.Gen.BackKernelIdeal.Value
public import Idealize.ShloMosaic.Lib.Pipeline.ValueKit

@[expose] public section

set_option maxRecDepth 16384

noncomputable section

namespace Cert.BackKernelIdeal.Value

open Cert.BackKernelIdeal Cert.BackKernelIdeal.Gen Idealize.ShloMosaic Idealize.ShloMosaic.TcCoe Idealize.SL.Sem
open Idealize.ShloMosaic.StableHlo

/-- The residual's factor. -/
abbrev alpha : EReal := Ideal.ofBits .f32 0x3FD744FD#32

/-- Column `l` of part `n`. -/
def col (n : Fin 5) (l : Fin 1024) : Fin 5120 := ⟨n.val * 1024 + l.val, by omega⟩

/-- The gradient, the result of both programs. -/
def result (w : FVec Ideal S1024x5120 .f32) (dz : FVec Ideal S16384x5120 .f32) (du : FVec Ideal S16384x1024 .f32) : S16384x1024.Idx → EReal := fun i =>
  alpha * du i + ∑ e : Fin 5120, (dz (ix2 (i 0) e) : EReal) * w (ix2 (i 1) e)

/-- The product, part by part. -/
theorem five (f : Fin 5120 → EReal) : (∑ e, f e) = (∑ l, f (col 0 l)) + (∑ l, f (col 1 l)) + (∑ l, f (col 2 l)) + (∑ l, f (col 3 l)) + ∑ l, f (col 4 l) := by
  rw [← Fin.sum_univ_five (fun n => ∑ l, f (col n l))]
  exact (Fin.sum_mul_add_congr fun n l hl => rfl).symm

section block
variable (x0 x1 x2 x3 x4 : Vec Ideal S512x1024 .bf16) (x5 : Vec Ideal S1024x5120 .bf16) (x6 : Vec Ideal S512x1024 .f32)

theorem pay2_val (y0 y1 y2 y3 y4 : Vec Ideal S1024x1024 .bf16) (r : Fin 512) (k : Fin 1024) :
    k0_pay2 (F := Ideal) x0 y0 x1 y1 x2 y2 x3 y3 x4 y4 (ix2 r k)
      = (∑ l, x0 (ix2 r l) * y0 (ix2 k l)) + (∑ l, x1 (ix2 r l) * y1 (ix2 k l)) + (∑ l, x2 (ix2 r l) * y2 (ix2 k l)) + (∑ l, x3 (ix2 r l) * y3 (ix2 k l))
        + ∑ l, x4 (ix2 r l) * y4 (ix2 k l) := by
  pointwise [k0_pay2]

theorem pay1_val (p : FVec Ideal S512x1024 .f32) (r : Fin 512) (k : Fin 1024) : k0_pay1 (F := Ideal) p x6 (k0_pay3 (F := Ideal)) (ix2 r k)
    = p (ix2 r k) + alpha * x6 (ix2 r k) := by
  pointwise [k0_pay1, k0_pay3]

/-- A whole block, read as one. -/
theorem whole {e : EltTy} (x : Vec Ideal S512x1024 e) : View.ld x r0_0 = x := by
  funext i
  exact congrArg x (funext fun a => Fin.ext (by fin_cases a <;> exact (Nat.zero_add _).trans (Nat.one_mul _)))

/-- The five parts of the weights, read from their block. -/
theorem slice0 (k l : Fin 1024) : View.ld x5 r0_1 (ix2 k l) = x5 (ix2 k (col 0 l)) := by
  refine congrArg x5 (funext fun a => Fin.ext ?_)
  fin_cases a
  exacts [(Nat.zero_add _).trans (Nat.one_mul _), congrArg (0 + ·) (Nat.one_mul _)]
@[inherit_doc slice0] theorem slice1 (k l : Fin 1024) : View.ld x5 r0_2 (ix2 k l) = x5 (ix2 k (col 1 l)) := by
  refine congrArg x5 (funext fun a => Fin.ext ?_)
  fin_cases a
  exacts [(Nat.zero_add _).trans (Nat.one_mul _), congrArg (1024 + ·) (Nat.one_mul _)]
@[inherit_doc slice0] theorem slice2 (k l : Fin 1024) : View.ld x5 r0_3 (ix2 k l) = x5 (ix2 k (col 2 l)) := by
  refine congrArg x5 (funext fun a => Fin.ext ?_)
  fin_cases a
  exacts [(Nat.zero_add _).trans (Nat.one_mul _), congrArg (2048 + ·) (Nat.one_mul _)]
@[inherit_doc slice0] theorem slice3 (k l : Fin 1024) : View.ld x5 r0_4 (ix2 k l) = x5 (ix2 k (col 3 l)) := by
  refine congrArg x5 (funext fun a => Fin.ext ?_)
  fin_cases a
  exacts [(Nat.zero_add _).trans (Nat.one_mul _), congrArg (3072 + ·) (Nat.one_mul _)]
@[inherit_doc slice0] theorem slice4 (k l : Fin 1024) : View.ld x5 r0_5 (ix2 k l) = x5 (ix2 k (col 4 l)) := by
  refine congrArg x5 (funext fun a => Fin.ext ?_)
  fin_cases a
  exacts [(Nat.zero_add _).trans (Nat.one_mul _), congrArg (4096 + ·) (Nat.one_mul _)]

/-- What a point stores. -/
theorem out_val (r : Fin 512) (k : Fin 1024) : out0_7 (F := Ideal) x0 x1 x2 x3 x4 x5 x6 (ix2 r k)
    = (∑ l, x0 (ix2 r l) * x5 (ix2 k (col 0 l))) + (∑ l, x1 (ix2 r l) * x5 (ix2 k (col 1 l))) + (∑ l, x2 (ix2 r l) * x5 (ix2 k (col 2 l)))
      + (∑ l, x3 (ix2 r l) * x5 (ix2 k (col 3 l))) + (∑ l, x4 (ix2 r l) * x5 (ix2 k (col 4 l))) + alpha * x6 (ix2 r k) := by
  have h := (pay1_val x6 (k0_pay2 (F := Ideal) x0 (View.ld x5 r0_1) x1 (View.ld x5 r0_2) x2 (View.ld x5 r0_3) x3 (View.ld x5 r0_4) x4 (View.ld x5 r0_5)) r k).trans
    (congrArg (· + alpha * x6 (ix2 r k)) (pay2_val x0 x1 x2 x3 x4 (View.ld x5 r0_1) (View.ld x5 r0_2) (View.ld x5 r0_3) (View.ld x5 r0_4) (View.ld x5 r0_5) r k))
  have h0 : ∀ l, (View.ld x5 r0_1 : Vec Ideal S1024x1024 .bf16) (ix2 k l) = x5 (ix2 k (col 0 l)) := slice0 x5 k
  have h1 : ∀ l, (View.ld x5 r0_2 : Vec Ideal S1024x1024 .bf16) (ix2 k l) = x5 (ix2 k (col 1 l)) := slice1 x5 k
  have h2 : ∀ l, (View.ld x5 r0_3 : Vec Ideal S1024x1024 .bf16) (ix2 k l) = x5 (ix2 k (col 2 l)) := slice2 x5 k
  have h3 : ∀ l, (View.ld x5 r0_4 : Vec Ideal S1024x1024 .bf16) (ix2 k l) = x5 (ix2 k (col 3 l)) := slice3 x5 k
  have h4 : ∀ l, (View.ld x5 r0_5 : Vec Ideal S1024x1024 .bf16) (ix2 k l) = x5 (ix2 k (col 4 l)) := slice4 x5 k
  simp only [h0, h1, h2, h3, h4] at h
  refine Eq.trans ?_ h
  unfold out0_7
  canon_tiles x e
  have ex : x = ix2 r k := funext fun a => Fin.ext (by fin_cases a; exacts [e0.symm, e1.symm])
  rw [ex, whole, whole, whole, whole, whole, whole]
end block

section host
variable (A : Valuation τ sig (Elt Ideal))

/-- The parts of the cotangent, cut out and cast. -/
theorem host1 (r : Fin 16384) (l : Fin 1024) : (after hostOps0 A (Proc.devRef .tc main_v1) : FVec Ideal S16384x1024 .bf16) (ix2 r l)
    = (A (Proc.devRef .tc main_arg2) : FVec Ideal S16384x5120 .f32) (ix2 r (col 0 l)) := by
  after_results_simp
  pointwise [col]
@[inherit_doc host1] theorem host3 (r : Fin 16384) (l : Fin 1024) : (after hostOps0 A (Proc.devRef .tc main_v3) : FVec Ideal S16384x1024 .bf16) (ix2 r l)
    = (A (Proc.devRef .tc main_arg2) : FVec Ideal S16384x5120 .f32) (ix2 r (col 1 l)) := by
  after_results_simp
  pointwise [col]
@[inherit_doc host1] theorem host5 (r : Fin 16384) (l : Fin 1024) : (after hostOps0 A (Proc.devRef .tc main_v5) : FVec Ideal S16384x1024 .bf16) (ix2 r l)
    = (A (Proc.devRef .tc main_arg2) : FVec Ideal S16384x5120 .f32) (ix2 r (col 2 l)) := by
  after_results_simp
  pointwise [col]
@[inherit_doc host1] theorem host7 (r : Fin 16384) (l : Fin 1024) : (after hostOps0 A (Proc.devRef .tc main_v7) : FVec Ideal S16384x1024 .bf16) (ix2 r l)
    = (A (Proc.devRef .tc main_arg2) : FVec Ideal S16384x5120 .f32) (ix2 r (col 3 l)) := by
  after_results_simp
  pointwise [col]
@[inherit_doc host1] theorem host9 (r : Fin 16384) (l : Fin 1024) : (after hostOps0 A (Proc.devRef .tc main_v9) : FVec Ideal S16384x1024 .bf16) (ix2 r l)
    = (A (Proc.devRef .tc main_arg2) : FVec Ideal S16384x5120 .f32) (ix2 r (col 4 l)) := by
  after_results_simp
  pointwise [col]
theorem host10 (k : Fin 1024) (e : Fin 5120) : (after hostOps0 A (Proc.devRef .tc main_v10) : FVec Ideal S1024x5120 .bf16) (ix2 k e)
    = (A (Proc.devRef .tc main_arg1) : FVec Ideal S1024x5120 .f32) (ix2 k e) := by
  after_results_simp
  rfl
end host

section arrays
variable (m : (ℓ : Loc nD τ sig) → Buf (Elt Ideal) ℓ) (c : Dev nD)

/-- The blocks that each grid point stages. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![t.val, 0] ∧ win0_7.index t = ![t.val, 0] :=
  (by decide +kernel : ∀ t : Fin grid0.N, _)

/-- The row of the arrays that a row of point `t`'s block is. -/
def row (t : Fin cfg0.N) (r : Fin 512) : Fin 16384 := ⟨t.val * 512 + r.val, by have : t.val < 32 := t.isLt; omega⟩

theorem blk0 (t : Fin cfg0.N) (r : Fin 512) (l : Fin 1024) : iblk m c 0 t (ix2 r l) = m ((c : Thread nD τ).loc main_arg2) (ix2 (row t r) (col 0 l)) := by
  refine Eq.trans ?_ (host1 (fun b => m (c, b)) (row t r) l)
  blk_point [iblk, idx t, row]
theorem blk1 (t : Fin cfg0.N) (r : Fin 512) (l : Fin 1024) : iblk m c 1 t (ix2 r l) = m ((c : Thread nD τ).loc main_arg2) (ix2 (row t r) (col 1 l)) := by
  refine Eq.trans ?_ (host3 (fun b => m (c, b)) (row t r) l)
  blk_point [iblk, idx t, row]
theorem blk2 (t : Fin cfg0.N) (r : Fin 512) (l : Fin 1024) : iblk m c 2 t (ix2 r l) = m ((c : Thread nD τ).loc main_arg2) (ix2 (row t r) (col 2 l)) := by
  refine Eq.trans ?_ (host5 (fun b => m (c, b)) (row t r) l)
  blk_point [iblk, idx t, row]
theorem blk3 (t : Fin cfg0.N) (r : Fin 512) (l : Fin 1024) : iblk m c 3 t (ix2 r l) = m ((c : Thread nD τ).loc main_arg2) (ix2 (row t r) (col 3 l)) := by
  refine Eq.trans ?_ (host7 (fun b => m (c, b)) (row t r) l)
  blk_point [iblk, idx t, row]
theorem blk4 (t : Fin cfg0.N) (r : Fin 512) (l : Fin 1024) : iblk m c 4 t (ix2 r l) = m ((c : Thread nD τ).loc main_arg2) (ix2 (row t r) (col 4 l)) := by
  refine Eq.trans ?_ (host9 (fun b => m (c, b)) (row t r) l)
  blk_point [iblk, idx t, row]
theorem blk5 (t : Fin cfg0.N) (k : Fin 1024) (e : Fin 5120) : iblk m c 5 t (ix2 k e) = m ((c : Thread nD τ).loc main_arg1) (ix2 k e) := by
  refine Eq.trans ?_ (host10 (fun b => m (c, b)) k e)
  blk_point [iblk, idx t]
theorem blk6 (t : Fin cfg0.N) (r : Fin 512) (k : Fin 1024) : iblk m c 6 t (ix2 r k) = m ((c : Thread nD τ).loc main_arg3) (ix2 (row t r) k) := by
  blk_point [iblk, V, idx t, row]

/-- The result after the run. -/
theorem stored : (dats m 0 c).arrAt 7 cfg0.N
    = result (m ((c : Thread nD τ).loc main_arg1)) (m ((c : Thread nD τ).loc main_arg2)) (m ((c : Thread nD τ).loc main_arg3)) := by
  refine (dats m 0 c).arrAt_eq_of_covers 7 _ (by decide +kernel) fun t hf (x : S512x1024.Idx) => ?_
  blk_simp
  rw [after0_7]
  obtain ⟨r, k, rfl⟩ : ∃ (r : Fin 512) (k : Fin 1024), x = ix2 r k := ⟨x 0, x 1, by idx_vars x⟩
  have e : ((cfg0.win 7).blk t).view.emb (ix2 r k) = (ix2 (row t r) k : S16384x1024.Idx) := by blk_ext [idx t, row]
  rw [e]
  refine (out_val (iblk m c 0 t) (iblk m c 1 t) (iblk m c 2 t) (iblk m c 3 t) (iblk m c 4 t) (iblk m c 5 t) (iblk m c 6 t) r k).trans ?_
  simp only [blk0, blk1, blk2, blk3, blk4, blk5, blk6]
  unfold result
  rw [add_comm (alpha * _), five]
  rfl

end arrays

end Cert.BackKernelIdeal.Value

end
-- ==== Proof.Back.Claims.lean ====
/-
  The claims about the gradient of the recurrence's input: its frames, and the equality of the results of kernel and
  reference.
-/
module

public import proofs.«01_k».proof.Proof.Back.Kernel
public import proofs.«01_k».proof.Proof.Gen.BackReferenceIdeal.Run
public import proofs.«01_k».proof.Defs
public import Idealize.ShloMosaic.Lib.Claim

@[expose] public section

set_option maxRecDepth 16384

noncomputable section

namespace Cert.BackClaims

open Idealize.ShloMosaic Idealize.ShloMosaic.TcCoe Idealize.SL.Sem
open Cert.BackKernelIdeal Cert.BackKernelIdeal.Value

theorem frame_ideal : Cert.quiescent_BackKernelIdeal := fun m ρ _ => Cert.BackKernelIdeal.Gen.frame m ρ

theorem frame_reference : Cert.quiescent_BackReferenceIdeal := fun m ρ _ =>
  (θ_run Cert.BackReferenceIdeal.defs _ _).mono (fun r h => ⟨fun c => (h c).2, sem_eq_zero_of_no_sems (by decide) r.2⟩)
    (Cert.BackReferenceIdeal.Value.run m ρ)

/-- The reference's sum of the residual's part and the product. -/
theorem ref_val (w : FVec Ideal S1024x5120 .f32) (dz : FVec Ideal S16384x5120 .f32) (du : FVec Ideal S16384x1024 .f32) (r : Fin 16384) (k : Fin 1024) :
    addf (mulf (broadcastInDim S16384x1024 ![] Cert.BackReferenceIdeal.Gen.bcast_S_S16384x1024 (constant Cert.BackReferenceIdeal.S_ .f32 0x3FD744FD#32)) du)
      (Host.dotGeneral Cert.BackReferenceIdeal.dot_S16384x5120_S1024x5120_S16384x1024_1_1_0_0_n_n none dz w) (ix2 r k) = result w dz du (ix2 r k) := by
  have e : result w dz du (ix2 r k) = alpha * du (ix2 r k) + ∑ e : Fin 5120, (dz (ix2 r e) : EReal) * w (ix2 k e) := rfl
  rw [e]
  pointwise

/-- Kernel and reference give the same gradient. -/
theorem algebraic : Cert.algebraic_BackKernelIdeal_BackReferenceIdeal := by
  intro m ρ m' ρ' _ hagree
  refine ⟨fun c => result (m ((c.tc : Thread nD τ).loc main_arg1)) (m ((c.tc : Thread nD τ).loc main_arg2)) (m ((c.tc : Thread nD τ).loc main_arg3)),
    (θ_run Cert.BackKernelIdeal.defs _ _).mono (fun r h c => ⟨(h c).1.trans (stored m c), (h c).2⟩) (run_blocks m ρ),
    (θ_run Cert.BackReferenceIdeal.defs _ _).mono (fun r h c => ⟨(h c).1.trans (funext fun i => ?_), (h c).2⟩)
      (Cert.BackReferenceIdeal.Value.run m' ρ')⟩
  obtain ⟨a, k, rfl⟩ : ∃ (a : Fin 16384) (k : Fin 1024), i = ix2 a k := ⟨i 0, i 1, by idx_vars i⟩
  rw [(hagree c).2.1, (hagree c).2.2.1, (hagree c).2.2.2]
  exact ref_val _ _ _ a k

end Cert.BackClaims

end
-- ==== Proof.Adamw.Kernel.lean ====
/-
  The optimiser's step: what the kernel's three results hold, as functions of its four arguments.
-/
module

public import proofs.«01_k».proof.Proof.Gen.AdamwKernelIdeal.Value
public import Idealize.ShloMosaic.Lib.Pipeline.ValueKit

@[expose] public section

set_option maxRecDepth 16384

noncomputable section

namespace Cert.AdamwKernelIdeal.Value

open Cert.AdamwKernelIdeal Cert.AdamwKernelIdeal.Gen Idealize.ShloMosaic Idealize.ShloMosaic.TcCoe Idealize.SL.Sem

/-- The new mean of the gradients. -/
def mean (g m : EReal) : EReal := (Scalar.ofBits (F := Ideal) .f32 0x3F666666#32 : EReal) * m + (Scalar.ofBits (F := Ideal) .f32 0x3DCCCCCD#32 : EReal) * g
/-- The new mean of their squares. -/
def square (g v : EReal) : EReal :=
  (Scalar.ofBits (F := Ideal) .f32 0x3F7FBE77#32 : EReal) * v + (Scalar.ofBits (F := Ideal) .f32 0x3A83126F#32 : EReal) * (g * g)
/-- The weight's change. -/
def delta (w g m v : EReal) : EReal :=
  (Scalar.ofBits (F := Ideal) .f32 0xBA83126F#32 : EReal) * (Ideal.div (Ideal.div (mean g m) (Scalar.ofBits (F := Ideal) .f32 0x3F26BD02#32))
    (Ideal.sqrt (Ideal.div (square g v) (Scalar.ofBits (F := Ideal) .f32 0x3C231ACC#32)) + (Scalar.ofBits (F := Ideal) .f32 0x322BCC77#32 : EReal))
    + (Scalar.ofBits (F := Ideal) .f32 0x3C23D70A#32 : EReal) * w)

section block
variable (x0 x1 x2 x3 : Vec Ideal S512x1408 .f32)

/-- A whole block, read as one. -/
theorem whole (x : Vec Ideal S512x1408 .f32) : View.ld x r0_0 = x := by
  funext i
  exact congrArg x (funext fun a => Fin.ext (by fin_cases a <;> exact (Nat.zero_add _).trans (Nat.one_mul _)))

/-- What a point stores. -/
theorem out4_val (r : Fin 512) (j : Fin 1408) : out0_4 (F := Ideal) x0 x1 x2 x3 (ix2 r j) = delta (x0 (ix2 r j)) (x1 (ix2 r j)) (x2 (ix2 r j)) (x3 (ix2 r j)) := by
  unfold out0_4
  canon_tiles x e
  have ex : x = ix2 r j := funext fun a => Fin.ext (by fin_cases a; exacts [e0.symm, e1.symm])
  rw [ex, whole, whole, whole, whole]
  rfl
@[inherit_doc out4_val] theorem out5_val (r : Fin 512) (j : Fin 1408) : out0_5 (F := Ideal) x0 x1 x2 x3 (ix2 r j) = mean (x1 (ix2 r j)) (x2 (ix2 r j)) := by
  unfold out0_5
  canon_tiles x e
  have ex : x = ix2 r j := funext fun a => Fin.ext (by fin_cases a; exacts [e0.symm, e1.symm])
  rw [ex, whole, whole]
  rfl
@[inherit_doc out4_val] theorem out6_val (r : Fin 512) (j : Fin 1408) : out0_6 (F := Ideal) x0 x1 x2 x3 (ix2 r j) = square (x1 (ix2 r j)) (x3 (ix2 r j)) := by
  unfold out0_6
  canon_tiles x e
  have ex : x = ix2 r j := funext fun a => Fin.ext (by fin_cases a; exacts [e0.symm, e1.symm])
  rw [ex, whole, whole]
  rfl
end block

/-- The first result of both programs. -/
def deltas (w g m v : FVec Ideal S4096x1408 .f32) : S4096x1408.Idx → EReal := fun i => delta (w i) (g i) (m i) (v i)
/-- The second. -/
def means (g m : FVec Ideal S4096x1408 .f32) : S4096x1408.Idx → EReal := fun i => mean (g i) (m i)
/-- The third. -/
def squares (g v : FVec Ideal S4096x1408 .f32) : S4096x1408.Idx → EReal := fun i => square (g i) (v i)

section arrays
variable (m : (ℓ : Loc nD τ sig) → Buf (Elt Ideal) ℓ) (c : Dev nD)

/-- The blocks that each grid point stages. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The row of the arrays that a row of point `t`'s block is. -/
def row (t : Fin cfg0.N) (r : Fin 512) : Fin 4096 := ⟨t.val * 512 + r.val, by have : t.val < 8 := t.isLt; omega⟩

theorem blk0 (t : Fin cfg0.N) (r : Fin 512) (j : Fin 1408) : iblk m c 0 t (ix2 r j) = m ((c : Thread nD τ).loc main_arg0) (ix2 (row t r) j) := by
  blk_point [iblk, V, idx t, row]
theorem blk1 (t : Fin cfg0.N) (r : Fin 512) (j : Fin 1408) : iblk m c 1 t (ix2 r j) = m ((c : Thread nD τ).loc main_arg1) (ix2 (row t r) j) := by
  blk_point [iblk, V, idx t, row]
theorem blk2 (t : Fin cfg0.N) (r : Fin 512) (j : Fin 1408) : iblk m c 2 t (ix2 r j) = m ((c : Thread nD τ).loc main_arg2) (ix2 (row t r) j) := by
  blk_point [iblk, V, idx t, row]
theorem blk3 (t : Fin cfg0.N) (r : Fin 512) (j : Fin 1408) : iblk m c 3 t (ix2 r j) = m ((c : Thread nD τ).loc main_arg3) (ix2 (row t r) j) := by
  blk_point [iblk, V, idx t, row]

/-- The results after the run. -/
theorem stored4 : (dats m 0 c).arrAt 4 cfg0.N = deltas (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf (x : S512x1408.Idx) => ?_
  blk_simp
  rw [after0_4]
  obtain ⟨r, j, rfl⟩ : ∃ (r : Fin 512) (j : Fin 1408), x = ix2 r j := ⟨x 0, x 1, by idx_vars x⟩
  have e : ((cfg0.win 4).blk t).view.emb (ix2 r j) = (ix2 (row t r) j : S4096x1408.Idx) := by blk_ext [idx t, row]
  rw [e]
  refine (out4_val (iblk m c 0 t) (iblk m c 1 t) (iblk m c 2 t) (iblk m c 3 t) r j).trans ?_
  rw [blk0, blk1, blk2, blk3]
  rfl
theorem stored5 : (dats m 0 c).arrAt 5 cfg0.N = means (m ((c : Thread nD τ).loc main_arg1)) (m ((c : Thread nD τ).loc main_arg2)) := by
  refine (dats m 0 c).arrAt_eq_of_covers 5 _ (by decide +kernel) fun t hf (x : S512x1408.Idx) => ?_
  blk_simp
  rw [after0_5]
  obtain ⟨r, j, rfl⟩ : ∃ (r : Fin 512) (j : Fin 1408), x = ix2 r j := ⟨x 0, x 1, by idx_vars x⟩
  have e : ((cfg0.win 5).blk t).view.emb (ix2 r j) = (ix2 (row t r) j : S4096x1408.Idx) := by blk_ext [idx t, row]
  rw [e]
  refine (out5_val (iblk m c 0 t) (iblk m c 1 t) (iblk m c 2 t) (iblk m c 3 t) r j).trans ?_
  rw [blk1, blk2]
  rfl
theorem stored6 : (dats m 0 c).arrAt 6 cfg0.N = squares (m ((c : Thread nD τ).loc main_arg1)) (m ((c : Thread nD τ).loc main_arg3)) := by
  refine (dats m 0 c).arrAt_eq_of_covers 6 _ (by decide +kernel) fun t hf (x : S512x1408.Idx) => ?_
  blk_simp
  rw [after0_6]
  obtain ⟨r, j, rfl⟩ : ∃ (r : Fin 512) (j : Fin 1408), x = ix2 r j := ⟨x 0, x 1, by idx_vars x⟩
  have e : ((cfg0.win 6).blk t).view.emb (ix2 r j) = (ix2 (row t r) j : S4096x1408.Idx) := by blk_ext [idx t, row]
  rw [e]
  refine (out6_val (iblk m c 0 t) (iblk m c 1 t) (iblk m c 2 t) (iblk m c 3 t) r j).trans ?_
  rw [blk1, blk3]
  rfl

end arrays

end Cert.AdamwKernelIdeal.Value

end
-- ==== Proof.Adamw.Claims.lean ====
/-
  The claims about the optimiser's step: its frames, and the equality of the three results of kernel and reference.
-/
module

public import proofs.«01_k».proof.Proof.Adamw.Kernel
public import proofs.«01_k».proof.Proof.Gen.AdamwReferenceIdeal.Run
public import proofs.«01_k».proof.Defs
public import Idealize.ShloMosaic.Lib.Claim

@[expose] public section

set_option maxRecDepth 16384

noncomputable section

namespace Cert.AdamwClaims

open Idealize.ShloMosaic Idealize.ShloMosaic.TcCoe Idealize.SL.Sem
open Cert.AdamwKernelIdeal Cert.AdamwKernelIdeal.Value

theorem frame_ideal : Cert.quiescent_AdamwKernelIdeal := fun m ρ _ => Cert.AdamwKernelIdeal.Gen.frame m ρ

theorem frame_reference : Cert.quiescent_AdamwReferenceIdeal := fun m ρ _ =>
  (θ_run Cert.AdamwReferenceIdeal.defs _ _).mono (fun r h => ⟨fun c => (h c).2.2.2, sem_eq_zero_of_no_sems (by decide) r.2⟩)
    (Cert.AdamwReferenceIdeal.Value.run m ρ)

/-- Kernel and reference give the same results. -/
theorem algebraic : Cert.algebraic_AdamwKernelIdeal_AdamwReferenceIdeal := by
  intro m ρ m' ρ' _ hagree
  refine ⟨fun c => deltas (m ((c.tc : Thread nD τ).loc main_arg0)) (m ((c.tc : Thread nD τ).loc main_arg1)) (m ((c.tc : Thread nD τ).loc main_arg2))
      (m ((c.tc : Thread nD τ).loc main_arg3)),
    fun c => means (m ((c.tc : Thread nD τ).loc main_arg1)) (m ((c.tc : Thread nD τ).loc main_arg2)),
    fun c => squares (m ((c.tc : Thread nD τ).loc main_arg1)) (m ((c.tc : Thread nD τ).loc main_arg3)),
    (θ_run Cert.AdamwKernelIdeal.defs _ _).mono (fun r h c => ?_) (run_blocks m ρ),
    (θ_run Cert.AdamwReferenceIdeal.defs _ _).mono (fun r h c => ?_) (Cert.AdamwReferenceIdeal.Value.run m' ρ')⟩
  · obtain ⟨h4, h5, h6, hx⟩ := h c
    exact ⟨h4.trans (stored4 m c), h5.trans (stored5 m c), h6.trans (stored6 m c), hx⟩
  · obtain ⟨h4, h5, h6, hx⟩ := h c
    refine ⟨h4.trans ?_, h5.trans ?_, h6.trans ?_, hx⟩
    all_goals
      simp only [(hagree c).1, (hagree c).2.1, (hagree c).2.2.1, (hagree c).2.2.2]
      rfl

end Cert.AdamwClaims

end
-- ==== Proof.lean ====
module

public import proofs.«01_k».proof.Proof.Gen.AttnReferenceIdeal.Run
public import proofs.«01_k».proof.Proof.Loss.Claims
public import proofs.«01_k».proof.Proof.Attn.Claims
public import proofs.«01_k».proof.Proof.Gen.LossKernelIdeal.Value
public import proofs.«01_k».proof.Proof.Gen.LossReferenceIdeal.Run
public import proofs.«01_k».proof.Defs
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.Pre_finite_attn
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Post.Claims
public import proofs.«01_k».proof.Proof.Gen.PostKernelIdeal.Value
public import proofs.«01_k».proof.Proof.Gen.PostReferenceIdeal.Run
public import proofs.«01_k».proof.Proof.Gen.PostKernel
public import proofs.«01_k».proof.Proof.Gen.PostKernel.Skeleton
public import proofs.«01_k».proof.Proof.Gen.PostKernel.Launch
public import proofs.«01_k».proof.Proof.Gen.PostKernel.Points
public import proofs.«01_k».proof.Proof.Gen.PostKernel.Frame
public import proofs.«01_k».proof.Proof.Gen.PostKernelIdeal
public import proofs.«01_k».proof.Proof.Gen.PostKernelIdeal.Skeleton
public import proofs.«01_k».proof.Proof.Gen.PostKernelIdeal.Launch
public import proofs.«01_k».proof.Proof.Gen.PostKernelIdeal.Points
public import proofs.«01_k».proof.Proof.Gen.PostKernelIdeal.Frame
public import proofs.«01_k».proof.Proof.Gen.PostReferenceIdeal
public import proofs.«01_k».proof.Proof.Gen.Pre_finite_post
public import proofs.«01_k».proof.Proof.Bounds.Claims
public import proofs.«01_k».proof.Proof.Gen.BoundsKernelIdeal.Value
public import proofs.«01_k».proof.Proof.Gen.BoundsReferenceIdeal.Run
public import proofs.«01_k».proof.Proof.Gen.BoundsKernel
public import proofs.«01_k».proof.Proof.Gen.BoundsKernel.Skeleton
public import proofs.«01_k».proof.Proof.Gen.BoundsKernel.Launch
public import proofs.«01_k».proof.Proof.Gen.BoundsKernel.Points
public import proofs.«01_k».proof.Proof.Gen.BoundsKernel.Frame
public import proofs.«01_k».proof.Proof.Gen.BoundsKernelIdeal
public import proofs.«01_k».proof.Proof.Gen.BoundsKernelIdeal.Skeleton
public import proofs.«01_k».proof.Proof.Gen.BoundsKernelIdeal.Launch
public import proofs.«01_k».proof.Proof.Gen.BoundsKernelIdeal.Points
public import proofs.«01_k».proof.Proof.Gen.BoundsKernelIdeal.Frame
public import proofs.«01_k».proof.Proof.Gen.BoundsReferenceIdeal
public import proofs.«01_k».proof.Proof.Gen.Pre_finite_bounds
public import proofs.«01_k».proof.Proof.Ffn.Claims
public import proofs.«01_k».proof.Proof.Gen.FfnKernelIdeal.Value
public import proofs.«01_k».proof.Proof.Gen.FfnReferenceIdeal.Run
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.Pre_finite_ffn
public import proofs.«01_k».proof.Proof.Ple.Claims
public import proofs.«01_k».proof.Proof.Gen.PleKernelIdeal.Value
public import proofs.«01_k».proof.Proof.Gen.PleReferenceIdeal.Run
public import proofs.«01_k».proof.Proof.Gen.PleKernel
public import proofs.«01_k».proof.Proof.Gen.PleKernel.Skeleton
public import proofs.«01_k».proof.Proof.Gen.PleKernel.Launch
public import proofs.«01_k».proof.Proof.Gen.PleKernel.Points
public import proofs.«01_k».proof.Proof.Gen.PleKernel.Frame
public import proofs.«01_k».proof.Proof.Gen.PleKernelIdeal
public import proofs.«01_k».proof.Proof.Gen.PleKernelIdeal.Skeleton
public import proofs.«01_k».proof.Proof.Gen.PleKernelIdeal.Launch
public import proofs.«01_k».proof.Proof.Gen.PleKernelIdeal.Points
public import proofs.«01_k».proof.Proof.Gen.PleKernelIdeal.Frame
public import proofs.«01_k».proof.Proof.Gen.PleReferenceIdeal
public import proofs.«01_k».proof.Proof.Gen.Pre_finite_ple
public import proofs.«01_k».proof.Proof.Norm.Claims
public import proofs.«01_k».proof.Proof.Gen.NormKernelIdeal.Value
public import proofs.«01_k».proof.Proof.Gen.NormReferenceIdeal.Run
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.Pre_finite_norm
public import proofs.«01_k».proof.Proof.Swiglu.Claims
public import proofs.«01_k».proof.Proof.Gen.SwigluKernelIdeal.Value
public import proofs.«01_k».proof.Proof.Gen.SwigluReferenceIdeal.Run
public import proofs.«01_k».proof.Proof.Gen.SwigluKernel
public import proofs.«01_k».proof.Proof.Gen.SwigluKernel.Skeleton
public import proofs.«01_k».proof.Proof.Gen.SwigluKernel.Launch
public import proofs.«01_k».proof.Proof.Gen.SwigluKernel.Points
public import proofs.«01_k».proof.Proof.Gen.SwigluKernel.Frame
public import proofs.«01_k».proof.Proof.Gen.SwigluKernelIdeal
public import proofs.«01_k».proof.Proof.Gen.SwigluKernelIdeal.Skeleton
public import proofs.«01_k».proof.Proof.Gen.SwigluKernelIdeal.Launch
public import proofs.«01_k».proof.Proof.Gen.SwigluKernelIdeal.Points
public import proofs.«01_k».proof.Proof.Gen.SwigluKernelIdeal.Frame
public import proofs.«01_k».proof.Proof.Gen.SwigluReferenceIdeal
public import proofs.«01_k».proof.Proof.Gen.Pre_finite_swiglu
public import proofs.«01_k».proof.Proof.Resnorm.Claims
public import proofs.«01_k».proof.Proof.Gen.ResnormKernelIdeal.Value
public import proofs.«01_k».proof.Proof.Gen.ResnormReferenceIdeal.Run
public import proofs.«01_k».proof.Proof.Gen.ResnormKernel
public import proofs.«01_k».proof.Proof.Gen.ResnormKernel.Skeleton
public import proofs.«01_k».proof.Proof.Gen.ResnormKernel.Launch
public import proofs.«01_k».proof.Proof.Gen.ResnormKernel.Points
public import proofs.«01_k».proof.Proof.Gen.ResnormKernel.Frame
public import proofs.«01_k».proof.Proof.Gen.ResnormKernelIdeal
public import proofs.«01_k».proof.Proof.Gen.ResnormKernelIdeal.Skeleton
public import proofs.«01_k».proof.Proof.Gen.ResnormKernelIdeal.Launch
public import proofs.«01_k».proof.Proof.Gen.ResnormKernelIdeal.Points
public import proofs.«01_k».proof.Proof.Gen.ResnormKernelIdeal.Frame
public import proofs.«01_k».proof.Proof.Gen.ResnormReferenceIdeal
public import proofs.«01_k».proof.Proof.Embed.Claims
public import proofs.«01_k».proof.Proof.Gen.EmbedKernelIdeal.Value
public import proofs.«01_k».proof.Proof.Gen.EmbedReferenceIdeal.Run
public import proofs.«01_k».proof.Proof.Gen.EmbedKernel
public import proofs.«01_k».proof.Proof.Gen.EmbedKernel.Skeleton
public import proofs.«01_k».proof.Proof.Gen.EmbedKernel.Launch
public import proofs.«01_k».proof.Proof.Gen.EmbedKernel.Points
public import proofs.«01_k».proof.Proof.Gen.EmbedKernel.Frame
public import proofs.«01_k».proof.Proof.Gen.EmbedKernelIdeal
public import proofs.«01_k».proof.Proof.Gen.EmbedKernelIdeal.Skeleton
public import proofs.«01_k».proof.Proof.Gen.EmbedKernelIdeal.Launch
public import proofs.«01_k».proof.Proof.Gen.EmbedKernelIdeal.Points
public import proofs.«01_k».proof.Proof.Gen.EmbedKernelIdeal.Frame
public import proofs.«01_k».proof.Proof.Gen.EmbedReferenceIdeal
public import proofs.«01_k».proof.Proof.Gated.Claims
public import proofs.«01_k».proof.Proof.Gen.GatedKernelIdeal.Value
public import proofs.«01_k».proof.Proof.Gen.GatedReferenceIdeal.Run
public import proofs.«01_k».proof.Proof.Gen.GatedKernel
public import proofs.«01_k».proof.Proof.Gen.GatedKernel.Skeleton
public import proofs.«01_k».proof.Proof.Gen.GatedKernel.Launch
public import proofs.«01_k».proof.Proof.Gen.GatedKernel.Points
public import proofs.«01_k».proof.Proof.Gen.GatedKernel.Frame
public import proofs.«01_k».proof.Proof.Gen.GatedKernelIdeal
public import proofs.«01_k».proof.Proof.Gen.GatedKernelIdeal.Skeleton
public import proofs.«01_k».proof.Proof.Gen.GatedKernelIdeal.Launch
public import proofs.«01_k».proof.Proof.Gen.GatedKernelIdeal.Points
public import proofs.«01_k».proof.Proof.Gen.GatedKernelIdeal.Frame
public import proofs.«01_k».proof.Proof.Gen.GatedReferenceIdeal
public import proofs.«01_k».proof.Proof.Lower.Claims
public import proofs.«01_k».proof.Proof.Gen.LowerKernelIdeal.Value
public import proofs.«01_k».proof.Proof.Gen.LowerReferenceIdeal.Run
public import proofs.«01_k».proof.Proof.Gen.LowerKernel
public import proofs.«01_k».proof.Proof.Gen.LowerKernel.Skeleton
public import proofs.«01_k».proof.Proof.Gen.LowerKernel.Launch
public import proofs.«01_k».proof.Proof.Gen.LowerKernel.Points
public import proofs.«01_k».proof.Proof.Gen.LowerKernel.Frame
public import proofs.«01_k».proof.Proof.Gen.LowerKernelIdeal
public import proofs.«01_k».proof.Proof.Gen.LowerKernelIdeal.Skeleton
public import proofs.«01_k».proof.Proof.Gen.LowerKernelIdeal.Launch
public import proofs.«01_k».proof.Proof.Gen.LowerKernelIdeal.Points
public import proofs.«01_k».proof.Proof.Gen.LowerKernelIdeal.Frame
public import proofs.«01_k».proof.Proof.Gen.LowerReferenceIdeal
public import proofs.«01_k».proof.Proof.Gen.Pre_finite_lower
public import proofs.«01_k».proof.Proof.Prod.Claims
public import proofs.«01_k».proof.Proof.Gen.ProdKernelIdeal.Value
public import proofs.«01_k».proof.Proof.Gen.ProdReferenceIdeal.Run
public import proofs.«01_k».proof.Proof.Gen.ProdKernel
public import proofs.«01_k».proof.Proof.Gen.ProdKernel.Skeleton
public import proofs.«01_k».proof.Proof.Gen.ProdKernel.Launch
public import proofs.«01_k».proof.Proof.Gen.ProdKernel.Points
public import proofs.«01_k».proof.Proof.Gen.ProdKernel.Frame
public import proofs.«01_k».proof.Proof.Gen.ProdKernelIdeal
public import proofs.«01_k».proof.Proof.Gen.ProdKernelIdeal.Skeleton
public import proofs.«01_k».proof.Proof.Gen.ProdKernelIdeal.Launch
public import proofs.«01_k».proof.Proof.Gen.ProdKernelIdeal.Points
public import proofs.«01_k».proof.Proof.Gen.ProdKernelIdeal.Frame
public import proofs.«01_k».proof.Proof.Gen.ProdReferenceIdeal
public import proofs.«01_k».proof.Proof.Wgrad.Claims
public import proofs.«01_k».proof.Proof.Gen.WgradKernelIdeal.Value
public import proofs.«01_k».proof.Proof.Gen.WgradReferenceIdeal.Run
public import proofs.«01_k».proof.Proof.Gen.WgradKernel
public import proofs.«01_k».proof.Proof.Gen.WgradKernel.Skeleton
public import proofs.«01_k».proof.Proof.Gen.WgradKernel.Launch
public import proofs.«01_k».proof.Proof.Gen.WgradKernel.Points
public import proofs.«01_k».proof.Proof.Gen.WgradKernel.Frame
public import proofs.«01_k».proof.Proof.Gen.WgradKernelIdeal
public import proofs.«01_k».proof.Proof.Gen.WgradKernelIdeal.Skeleton
public import proofs.«01_k».proof.Proof.Gen.WgradKernelIdeal.Launch
public import proofs.«01_k».proof.Proof.Gen.WgradKernelIdeal.Points
public import proofs.«01_k».proof.Proof.Gen.WgradKernelIdeal.Frame
public import proofs.«01_k».proof.Proof.Gen.WgradReferenceIdeal
public import proofs.«01_k».proof.Proof.Back.Claims
public import proofs.«01_k».proof.Proof.Gen.BackKernelIdeal.Value
public import proofs.«01_k».proof.Proof.Gen.BackReferenceIdeal.Run
public import proofs.«01_k».proof.Proof.Gen.BackKernel
public import proofs.«01_k».proof.Proof.Gen.BackKernel.Skeleton
public import proofs.«01_k».proof.Proof.Gen.BackKernel.Launch
public import proofs.«01_k».proof.Proof.Gen.BackKernel.Points
public import proofs.«01_k».proof.Proof.Gen.BackKernel.Frame
public import proofs.«01_k».proof.Proof.Gen.BackKernelIdeal
public import proofs.«01_k».proof.Proof.Gen.BackKernelIdeal.Skeleton
public import proofs.«01_k».proof.Proof.Gen.BackKernelIdeal.Launch
public import proofs.«01_k».proof.Proof.Gen.BackKernelIdeal.Points
public import proofs.«01_k».proof.Proof.Gen.BackKernelIdeal.Frame
public import proofs.«01_k».proof.Proof.Gen.BackReferenceIdeal
public import proofs.«01_k».proof.Proof.Adamw.Claims
public import proofs.«01_k».proof.Proof.Gen.AdamwKernelIdeal.Value
public import proofs.«01_k».proof.Proof.Gen.AdamwReferenceIdeal.Run
public import proofs.«01_k».proof.Proof.Gen.AdamwKernel
public import proofs.«01_k».proof.Proof.Gen.AdamwKernel.Skeleton
public import proofs.«01_k».proof.Proof.Gen.AdamwKernel.Launch
public import proofs.«01_k».proof.Proof.Gen.AdamwKernel.Points
public import proofs.«01_k».proof.Proof.Gen.AdamwKernel.Frame
public import proofs.«01_k».proof.Proof.Gen.AdamwKernelIdeal
public import proofs.«01_k».proof.Proof.Gen.AdamwKernelIdeal.Skeleton
public import proofs.«01_k».proof.Proof.Gen.AdamwKernelIdeal.Launch
public import proofs.«01_k».proof.Proof.Gen.AdamwKernelIdeal.Points
public import proofs.«01_k».proof.Proof.Gen.AdamwKernelIdeal.Frame
public import proofs.«01_k».proof.Proof.Gen.AdamwReferenceIdeal
public import Idealize.ShloMosaic.Adequacy
public import Idealize.ShloMosaic.Init

@[expose] public section

noncomputable section

namespace Cert.Proof

open Idealize.ShloMosaic Idealize.SL.Sem Cert.LossKernel

theorem frame_attn : Cert.quiescent_AttnKernel := fun m ρ _ => Cert.AttnKernel.Gen.frame m ρ

theorem frame_post : Cert.quiescent_PostKernel := fun m ρ _ => Cert.PostKernel.Gen.frame m ρ

theorem frame_bounds : Cert.quiescent_BoundsKernel := fun m ρ _ => Cert.BoundsKernel.Gen.frame m ρ

theorem frame_ffn : Cert.quiescent_FfnKernel := fun m ρ _ => Cert.FfnKernel.Gen.frame m ρ

theorem frame_ple : Cert.quiescent_PleKernel := fun m ρ _ => Cert.PleKernel.Gen.frame m ρ

theorem frame_norm : Cert.quiescent_NormKernel := fun m ρ _ => Cert.NormKernel.Gen.frame m ρ

theorem frame_swiglu : Cert.quiescent_SwigluKernel := fun m ρ _ => Cert.SwigluKernel.Gen.frame m ρ

theorem frame_resnorm : Cert.quiescent_ResnormKernel := fun m ρ _ => Cert.ResnormKernel.Gen.frame m ρ

theorem frame_embed : Cert.quiescent_EmbedKernel := fun m ρ _ => Cert.EmbedKernel.Gen.frame m ρ

theorem frame_gated : Cert.quiescent_GatedKernel := fun m ρ _ => Cert.GatedKernel.Gen.frame m ρ

theorem frame_lower : Cert.quiescent_LowerKernel := fun m ρ _ => Cert.LowerKernel.Gen.frame m ρ

theorem frame_prod : Cert.quiescent_ProdKernel := fun m ρ _ => Cert.ProdKernel.Gen.frame m ρ

theorem frame_wgrad : Cert.quiescent_WgradKernel := fun m ρ _ => Cert.WgradKernel.Gen.frame m ρ

theorem frame_back : Cert.quiescent_BackKernel := fun m ρ _ => Cert.BackKernel.Gen.frame m ρ

theorem frame_adamw : Cert.quiescent_AdamwKernel := fun m ρ _ => Cert.AdamwKernel.Gen.frame m ρ

theorem claim : Cert.Claim := ⟨Cert.LossKernel.Gen.facts, Cert.LossKernelIdeal.Gen.facts, Cert.LossReferenceIdeal.Gen.facts,
  Cert.AttnKernel.Gen.facts, Cert.AttnKernelIdeal.Gen.facts, Cert.AttnReferenceIdeal.Gen.facts,
  Cert.PostKernel.Gen.facts, Cert.PostKernelIdeal.Gen.facts, Cert.PostReferenceIdeal.Gen.facts,
  Cert.BoundsKernel.Gen.facts, Cert.BoundsKernelIdeal.Gen.facts, Cert.BoundsReferenceIdeal.Gen.facts,
  Cert.FfnKernel.Gen.facts, Cert.FfnKernelIdeal.Gen.facts, Cert.FfnReferenceIdeal.Gen.facts,
  Cert.PleKernel.Gen.facts, Cert.PleKernelIdeal.Gen.facts, Cert.PleReferenceIdeal.Gen.facts,
  Cert.NormKernel.Gen.facts, Cert.NormKernelIdeal.Gen.facts, Cert.NormReferenceIdeal.Gen.facts,
  Cert.SwigluKernel.Gen.facts, Cert.SwigluKernelIdeal.Gen.facts, Cert.SwigluReferenceIdeal.Gen.facts,
  Cert.ResnormKernel.Gen.facts, Cert.ResnormKernelIdeal.Gen.facts, Cert.ResnormReferenceIdeal.Gen.facts,
  Cert.EmbedKernel.Gen.facts, Cert.EmbedKernelIdeal.Gen.facts, Cert.EmbedReferenceIdeal.Gen.facts,
  Cert.GatedKernel.Gen.facts, Cert.GatedKernelIdeal.Gen.facts, Cert.GatedReferenceIdeal.Gen.facts,
  Cert.LowerKernel.Gen.facts, Cert.LowerKernelIdeal.Gen.facts, Cert.LowerReferenceIdeal.Gen.facts,
  Cert.ProdKernel.Gen.facts, Cert.ProdKernelIdeal.Gen.facts, Cert.ProdReferenceIdeal.Gen.facts,
  Cert.WgradKernel.Gen.facts, Cert.WgradKernelIdeal.Gen.facts, Cert.WgradReferenceIdeal.Gen.facts,
  Cert.BackKernel.Gen.facts, Cert.BackKernelIdeal.Gen.facts, Cert.BackReferenceIdeal.Gen.facts,
  Cert.AdamwKernel.Gen.facts, Cert.AdamwKernelIdeal.Gen.facts, Cert.AdamwReferenceIdeal.Gen.facts,
  Cert.Pre_finite_attn.Gen.facts, Cert.Pre_finite_post.Gen.facts, Cert.Pre_finite_bounds.Gen.facts,
  Cert.Pre_finite_ffn.Gen.facts, Cert.Pre_finite_ple.Gen.facts, Cert.Pre_finite_norm.Gen.facts, Cert.Pre_finite_swiglu.Gen.facts, Cert.Pre_finite_lower.Gen.facts,
  Cert.LossClaims.frame_kernel, Cert.LossClaims.frame_ideal, Cert.LossClaims.frame_reference,
  frame_attn, Cert.AttnClaims.frame_ideal, fun m ρ _ => Cert.AttnClaims.frame_ideal m ρ trivial,
  Cert.AttnClaims.frame_reference, fun m ρ _ => Cert.AttnClaims.frame_reference m ρ trivial,
  frame_post, Cert.PostClaims.frame_ideal, fun m ρ _ => Cert.PostClaims.frame_ideal m ρ trivial,
  Cert.PostClaims.frame_reference, fun m ρ _ => Cert.PostClaims.frame_reference m ρ trivial,
  frame_bounds, Cert.BoundsClaims.frame_ideal, fun m ρ _ => Cert.BoundsClaims.frame_ideal m ρ trivial,
  Cert.BoundsClaims.frame_reference, fun m ρ _ => Cert.BoundsClaims.frame_reference m ρ trivial,
  frame_ffn, Cert.FfnClaims.frame_ideal, fun m ρ _ => Cert.FfnClaims.frame_ideal m ρ trivial,
  Cert.FfnClaims.frame_reference, fun m ρ _ => Cert.FfnClaims.frame_reference m ρ trivial,
  frame_ple, Cert.PleClaims.frame_ideal, fun m ρ _ => Cert.PleClaims.frame_ideal m ρ trivial,
  Cert.PleClaims.frame_reference, fun m ρ _ => Cert.PleClaims.frame_reference m ρ trivial,
  frame_norm, Cert.NormClaims.frame_ideal, fun m ρ _ => Cert.NormClaims.frame_ideal m ρ trivial,
  Cert.NormClaims.frame_reference, fun m ρ _ => Cert.NormClaims.frame_reference m ρ trivial,
  frame_swiglu, Cert.SwigluClaims.frame_ideal, fun m ρ _ => Cert.SwigluClaims.frame_ideal m ρ trivial,
  Cert.SwigluClaims.frame_reference, fun m ρ _ => Cert.SwigluClaims.frame_reference m ρ trivial,
  frame_resnorm, Cert.ResnormClaims.frame_ideal, Cert.ResnormClaims.frame_reference,
  frame_embed, Cert.EmbedClaims.frame_ideal, Cert.EmbedClaims.frame_reference,
  frame_gated, Cert.GatedClaims.frame_ideal, Cert.GatedClaims.frame_reference,
  frame_lower, Cert.LowerClaims.frame_ideal, fun m ρ _ => Cert.LowerClaims.frame_ideal m ρ trivial,
  Cert.LowerClaims.frame_reference, fun m ρ _ => Cert.LowerClaims.frame_reference m ρ trivial,
  frame_prod, Cert.ProdClaims.frame_ideal, Cert.ProdClaims.frame_reference,
  frame_wgrad, Cert.WgradClaims.frame_ideal, Cert.WgradClaims.frame_reference,
  frame_back, Cert.BackClaims.frame_ideal, Cert.BackClaims.frame_reference,
  frame_adamw, Cert.AdamwClaims.frame_ideal, Cert.AdamwClaims.frame_reference,
  trivial, Cert.LossClaims.algebraic, Cert.AttnClaims.preserves, Cert.AttnClaims.algebraic,
  trivial, Cert.PostClaims.algebraic, trivial, Cert.BoundsClaims.algebraic,
  trivial, Cert.FfnClaims.algebraic, trivial, Cert.PleClaims.algebraic, trivial, Cert.NormClaims.algebraic,
  trivial, Cert.SwigluClaims.algebraic,
  trivial, Cert.ResnormClaims.algebraic,
  trivial, Cert.EmbedClaims.algebraic,
  trivial, Cert.GatedClaims.algebraic,
  trivial, Cert.LowerClaims.algebraic,
  trivial, Cert.ProdClaims.algebraic,
  trivial, Cert.WgradClaims.algebraic,
  trivial, Cert.BackClaims.algebraic,
  trivial, Cert.AdamwClaims.algebraic⟩

end Cert.Proof

end
